-- ==== Defs.lean ====
def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_SmallRef (m : (ℓ : Loc Cert.SmallRef.nD Cert.SmallRef.τ Cert.SmallRef.sig) → Buf (Elt Bits) ℓ) : Prop :=
  True

def Pre_ScatterRef (m : (ℓ : Loc Cert.ScatterRef.nD Cert.ScatterRef.τ Cert.ScatterRef.sig) → Buf (Elt Bits) ℓ) : Prop :=
  True

def Pre_GatherRef (m : (ℓ : Loc Cert.GatherRef.nD Cert.GatherRef.τ Cert.GatherRef.sig) → Buf (Elt Bits) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamUq (m : (ℓ : Loc Cert.AdamUq.nD Cert.AdamUq.τ Cert.AdamUq.sig) → Buf (Elt Bits) ℓ) : Prop :=
  True

def Pre_AdamUqIdeal (m : (ℓ : Loc Cert.AdamUqIdeal.nD Cert.AdamUqIdeal.τ Cert.AdamUqIdeal.sig) → Buf (Elt Ideal) ℓ) : Prop :=
  True

def Pre_AdamUqRefIdeal (m : (ℓ : Loc Cert.AdamUqRefIdeal.nD Cert.AdamUqRefIdeal.τ Cert.AdamUqRefIdeal.sig) → Buf (Elt Ideal) ℓ) : Prop :=
  True

def Pre_AdamUkv (m : (ℓ : Loc Cert.AdamUkv.nD Cert.AdamUkv.τ Cert.AdamUkv.sig) → Buf (Elt Bits) ℓ) : Prop :=
  True

def Pre_AdamUkvIdeal (m : (ℓ : Loc Cert.AdamUkvIdeal.nD Cert.AdamUkvIdeal.τ Cert.AdamUkvIdeal.sig) → Buf (Elt Ideal) ℓ) : Prop :=
  True

def Pre_AdamUkvRefIdeal (m : (ℓ : Loc Cert.AdamUkvRefIdeal.nD Cert.AdamUkvRefIdeal.τ Cert.AdamUkvRefIdeal.sig) → Buf (Elt Ideal) ℓ) : Prop :=
  True

def Pre_AdamSsdOut (m : (ℓ : Loc Cert.AdamSsdOut.nD Cert.AdamSsdOut.τ Cert.AdamSsdOut.sig) → Buf (Elt Bits) ℓ) : Prop :=
  True

def Pre_AdamSsdOutIdeal (m : (ℓ : Loc Cert.AdamSsdOutIdeal.nD Cert.AdamSsdOutIdeal.τ Cert.AdamSsdOutIdeal.sig) → Buf (Elt Ideal) ℓ) : Prop :=
  True

def Pre_AdamSsdOutRefIdeal (m : (ℓ : Loc Cert.AdamSsdOutRefIdeal.nD Cert.AdamSsdOutRefIdeal.τ Cert.AdamSsdOutRefIdeal.sig) → Buf (Elt Ideal) ℓ) : Prop :=
  True

def Pre_AdamMlaOut (m : (ℓ : Loc Cert.AdamMlaOut.nD Cert.AdamMlaOut.τ Cert.AdamMlaOut.sig) → Buf (Elt Bits) ℓ) : Prop :=
  True

def Pre_AdamMlaOutIdeal (m : (ℓ : Loc Cert.AdamMlaOutIdeal.nD Cert.AdamMlaOutIdeal.τ Cert.AdamMlaOutIdeal.sig) → Buf (Elt Ideal) ℓ) : Prop :=
  True

def Pre_AdamMlaOutRefIdeal (m : (ℓ : Loc Cert.AdamMlaOutRefIdeal.nD Cert.AdamMlaOutRefIdeal.τ Cert.AdamMlaOutRefIdeal.sig) → Buf (Elt Ideal) ℓ) : Prop :=
  True

def Pre_AdamGdnOut (m : (ℓ : Loc Cert.AdamGdnOut.nD Cert.AdamGdnOut.τ Cert.AdamGdnOut.sig) → Buf (Elt Bits) ℓ) : Prop :=
  True

def Pre_AdamGdnOutIdeal (m : (ℓ : Loc Cert.AdamGdnOutIdeal.nD Cert.AdamGdnOutIdeal.τ Cert.AdamGdnOutIdeal.sig) → Buf (Elt Ideal) ℓ) : Prop :=
  True

def Pre_AdamGdnOutRefIdeal (m : (ℓ : Loc Cert.AdamGdnOutRefIdeal.nD Cert.AdamGdnOutRefIdeal.τ Cert.AdamGdnOutRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Relu (m : (ℓ : Loc Cert.Relu.nD Cert.Relu.τ Cert.Relu.sig) → Buf (Elt Bits) ℓ) : Prop :=
  True

def Pre_ReluIdeal (m : (ℓ : Loc Cert.ReluIdeal.nD Cert.ReluIdeal.τ Cert.ReluIdeal.sig) → Buf (Elt Ideal) ℓ) : Prop :=
  True

def Pre_ReluRefIdeal (m : (ℓ : Loc Cert.ReluRefIdeal.nD Cert.ReluRefIdeal.τ Cert.ReluRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MmIn (m : (ℓ : Loc Cert.MmIn.nD Cert.MmIn.τ Cert.MmIn.sig) → Buf (Elt Bits) ℓ) : Prop :=
  True

def Pre_MmInIdeal (m : (ℓ : Loc Cert.MmInIdeal.nD Cert.MmInIdeal.τ Cert.MmInIdeal.sig) → Buf (Elt Ideal) ℓ) : Prop :=
  True

def Pre_MmInRefIdeal (m : (ℓ : Loc Cert.MmInRefIdeal.nD Cert.MmInRefIdeal.τ Cert.MmInRefIdeal.sig) → Buf (Elt Ideal) ℓ) : Prop :=
  True

def Pre_MmUq (m : (ℓ : Loc Cert.MmUq.nD Cert.MmUq.τ Cert.MmUq.sig) → Buf (Elt Bits) ℓ) : Prop :=
  True

def Pre_MmUqIdeal (m : (ℓ : Loc Cert.MmUqIdeal.nD Cert.MmUqIdeal.τ Cert.MmUqIdeal.sig) → Buf (Elt Ideal) ℓ) : Prop :=
  True

def Pre_MmUqRefIdeal (m : (ℓ : Loc Cert.MmUqRefIdeal.nD Cert.MmUqRefIdeal.τ Cert.MmUqRefIdeal.sig) → Buf (Elt Ideal) ℓ) : Prop :=
  True

def Pre_MmUkv (m : (ℓ : Loc Cert.MmUkv.nD Cert.MmUkv.τ Cert.MmUkv.sig) → Buf (Elt Bits) ℓ) : Prop :=
  True

def Pre_MmUkvIdeal (m : (ℓ : Loc Cert.MmUkvIdeal.nD Cert.MmUkvIdeal.τ Cert.MmUkvIdeal.sig) → Buf (Elt Ideal) ℓ) : Prop :=
  True

def Pre_MmUkvRefIdeal (m : (ℓ : Loc Cert.MmUkvRefIdeal.nD Cert.MmUkvRefIdeal.τ Cert.MmUkvRefIdeal.sig) → Buf (Elt Ideal) ℓ) : Prop :=
  True

def Pre_MmOut (m : (ℓ : Loc Cert.MmOut.nD Cert.MmOut.τ Cert.MmOut.sig) → Buf (Elt Bits) ℓ) : Prop :=
  True

def Pre_MmOutIdeal (m : (ℓ : Loc Cert.MmOutIdeal.nD Cert.MmOutIdeal.τ Cert.MmOutIdeal.sig) → Buf (Elt Ideal) ℓ) : Prop :=
  True

def Pre_MmOutRefIdeal (m : (ℓ : Loc Cert.MmOutRefIdeal.nD Cert.MmOutRefIdeal.τ Cert.MmOutRefIdeal.sig) → Buf (Elt Ideal) ℓ) : Prop :=
  True

def Pre_MmUp (m : (ℓ : Loc Cert.MmUp.nD Cert.MmUp.τ Cert.MmUp.sig) → Buf (Elt Bits) ℓ) : Prop :=
  True

def Pre_MmUpIdeal (m : (ℓ : Loc Cert.MmUpIdeal.nD Cert.MmUpIdeal.τ Cert.MmUpIdeal.sig) → Buf (Elt Ideal) ℓ) : Prop :=
  True

def Pre_MmUpRefIdeal (m : (ℓ : Loc Cert.MmUpRefIdeal.nD Cert.MmUpRefIdeal.τ Cert.MmUpRefIdeal.sig) → Buf (Elt Ideal) ℓ) : Prop :=
  True

def Pre_MmDown (m : (ℓ : Loc Cert.MmDown.nD Cert.MmDown.τ Cert.MmDown.sig) → Buf (Elt Bits) ℓ) : Prop :=
  True

def Pre_MmDownIdeal (m : (ℓ : Loc Cert.MmDownIdeal.nD Cert.MmDownIdeal.τ Cert.MmDownIdeal.sig) → Buf (Elt Ideal) ℓ) : Prop :=
  True

def Pre_MmDownRefIdeal (m : (ℓ : Loc Cert.MmDownRefIdeal.nD Cert.MmDownRefIdeal.τ Cert.MmDownRefIdeal.sig) → Buf (Elt Ideal) ℓ) : Prop :=
  True

def Pre_SsdPost (m : (ℓ : Loc Cert.SsdPost.nD Cert.SsdPost.τ Cert.SsdPost.sig) → Buf (Elt Bits) ℓ) : Prop :=
  True

def Pre_SsdPostIdeal (m : (ℓ : Loc Cert.SsdPostIdeal.nD Cert.SsdPostIdeal.τ Cert.SsdPostIdeal.sig) → Buf (Elt Ideal) ℓ) : Prop :=
  True

def Pre_SsdPostRefIdeal (m : (ℓ : Loc Cert.SsdPostRefIdeal.nD Cert.SsdPostRefIdeal.τ Cert.SsdPostRefIdeal.sig) → Buf (Elt Ideal) ℓ) : Prop :=
  True

def Pre_GdnPost (m : (ℓ : Loc Cert.GdnPost.nD Cert.GdnPost.τ Cert.GdnPost.sig) → Buf (Elt Bits) ℓ) : Prop :=
  True

def Pre_GdnPostIdeal (m : (ℓ : Loc Cert.GdnPostIdeal.nD Cert.GdnPostIdeal.τ Cert.GdnPostIdeal.sig) → Buf (Elt Ideal) ℓ) : Prop :=
  True

def Pre_GdnPostRefIdeal (m : (ℓ : Loc Cert.GdnPostRefIdeal.nD Cert.GdnPostRefIdeal.τ Cert.GdnPostRefIdeal.sig) → Buf (Elt Ideal) ℓ) : Prop :=
  True

def Pre_MlaNorm (m : (ℓ : Loc Cert.MlaNorm.nD Cert.MlaNorm.τ Cert.MlaNorm.sig) → Buf (Elt Bits) ℓ) : Prop :=
  True

def Pre_MlaNormIdeal (m : (ℓ : Loc Cert.MlaNormIdeal.nD Cert.MlaNormIdeal.τ Cert.MlaNormIdeal.sig) → Buf (Elt Ideal) ℓ) : Prop :=
  True

def Pre_MlaNormRefIdeal (m : (ℓ : Loc Cert.MlaNormRefIdeal.nD Cert.MlaNormRefIdeal.τ Cert.MlaNormRefIdeal.sig) → Buf (Elt Ideal) ℓ) : Prop :=
  True

def Pre_LossBack (m : (ℓ : Loc Cert.LossBack.nD Cert.LossBack.τ Cert.LossBack.sig) → Buf (Elt Bits) ℓ) : Prop :=
  True

def Pre_LossBackIdeal (m : (ℓ : Loc Cert.LossBackIdeal.nD Cert.LossBackIdeal.τ Cert.LossBackIdeal.sig) → Buf (Elt Ideal) ℓ) : Prop :=
  True

def Pre_LossBackRefIdeal (m : (ℓ : Loc Cert.LossBackRefIdeal.nD Cert.LossBackRefIdeal.τ Cert.LossBackRefIdeal.sig) → Buf (Elt Ideal) ℓ) : Prop :=
  True

def Pre_RmsBack (m : (ℓ : Loc Cert.RmsBack.nD Cert.RmsBack.τ Cert.RmsBack.sig) → Buf (Elt Bits) ℓ) : Prop :=
  True

def Pre_RmsBackIdeal (m : (ℓ : Loc Cert.RmsBackIdeal.nD Cert.RmsBackIdeal.τ Cert.RmsBackIdeal.sig) → Buf (Elt Ideal) ℓ) : Prop :=
  True

def Pre_RmsBackRefIdeal (m : (ℓ : Loc Cert.RmsBackRefIdeal.nD Cert.RmsBackRefIdeal.τ Cert.RmsBackRefIdeal.sig) → Buf (Elt Ideal) ℓ) : Prop :=
  True

def Pre_ReluBack (m : (ℓ : Loc Cert.ReluBack.nD Cert.ReluBack.τ Cert.ReluBack.sig) → Buf (Elt Bits) ℓ) : Prop :=
  True

def Pre_ReluBackIdeal (m : (ℓ : Loc Cert.ReluBackIdeal.nD Cert.ReluBackIdeal.τ Cert.ReluBackIdeal.sig) → Buf (Elt Ideal) ℓ) : Prop :=
  True

def Pre_ReluBackRefIdeal (m : (ℓ : Loc Cert.ReluBackRefIdeal.nD Cert.ReluBackRefIdeal.τ Cert.ReluBackRefIdeal.sig) → Buf (Elt Ideal) ℓ) : Prop :=
  True

def Pre_MergeBack (m : (ℓ : Loc Cert.MergeBack.nD Cert.MergeBack.τ Cert.MergeBack.sig) → Buf (Elt Bits) ℓ) : Prop :=
  True

def Pre_MergeBackIdeal (m : (ℓ : Loc Cert.MergeBackIdeal.nD Cert.MergeBackIdeal.τ Cert.MergeBackIdeal.sig) → Buf (Elt Ideal) ℓ) : Prop :=
  True

def Pre_MergeBackRefIdeal (m : (ℓ : Loc Cert.MergeBackRefIdeal.nD Cert.MergeBackRefIdeal.τ Cert.MergeBackRefIdeal.sig) → Buf (Elt Ideal) ℓ) : Prop :=
  True

def Pre_DxIn (m : (ℓ : Loc Cert.DxIn.nD Cert.DxIn.τ Cert.DxIn.sig) → Buf (Elt Bits) ℓ) : Prop :=
  True

def Pre_DxInIdeal (m : (ℓ : Loc Cert.DxInIdeal.nD Cert.DxInIdeal.τ Cert.DxInIdeal.sig) → Buf (Elt Ideal) ℓ) : Prop :=
  True

def Pre_DxInRefIdeal (m : (ℓ : Loc Cert.DxInRefIdeal.nD Cert.DxInRefIdeal.τ Cert.DxInRefIdeal.sig) → Buf (Elt Ideal) ℓ) : Prop :=
  True

def Pre_DxUq (m : (ℓ : Loc Cert.DxUq.nD Cert.DxUq.τ Cert.DxUq.sig) → Buf (Elt Bits) ℓ) : Prop :=
  True

def Pre_DxUqIdeal (m : (ℓ : Loc Cert.DxUqIdeal.nD Cert.DxUqIdeal.τ Cert.DxUqIdeal.sig) → Buf (Elt Ideal) ℓ) : Prop :=
  True

def Pre_DxUqRefIdeal (m : (ℓ : Loc Cert.DxUqRefIdeal.nD Cert.DxUqRefIdeal.τ Cert.DxUqRefIdeal.sig) → Buf (Elt Ideal) ℓ) : Prop :=
  True

def Pre_DxUkv (m : (ℓ : Loc Cert.DxUkv.nD Cert.DxUkv.τ Cert.DxUkv.sig) → Buf (Elt Bits) ℓ) : Prop :=
  True

def Pre_DxUkvIdeal (m : (ℓ : Loc Cert.DxUkvIdeal.nD Cert.DxUkvIdeal.τ Cert.DxUkvIdeal.sig) → Buf (Elt Ideal) ℓ) : Prop :=
  True

def Pre_DxUkvRefIdeal (m : (ℓ : Loc Cert.DxUkvRefIdeal.nD Cert.DxUkvRefIdeal.τ Cert.DxUkvRefIdeal.sig) → Buf (Elt Ideal) ℓ) : Prop :=
  True

def Pre_DxOut (m : (ℓ : Loc Cert.DxOut.nD Cert.DxOut.τ Cert.DxOut.sig) → Buf (Elt Bits) ℓ) : Prop :=
  True

def Pre_DxOutIdeal (m : (ℓ : Loc Cert.DxOutIdeal.nD Cert.DxOutIdeal.τ Cert.DxOutIdeal.sig) → Buf (Elt Ideal) ℓ) : Prop :=
  True

def Pre_DxOutRefIdeal (m : (ℓ : Loc Cert.DxOutRefIdeal.nD Cert.DxOutRefIdeal.τ Cert.DxOutRefIdeal.sig) → Buf (Elt Ideal) ℓ) : Prop :=
  True

def Pre_DxUp (m : (ℓ : Loc Cert.DxUp.nD Cert.DxUp.τ Cert.DxUp.sig) → Buf (Elt Bits) ℓ) : Prop :=
  True

def Pre_DxUpIdeal (m : (ℓ : Loc Cert.DxUpIdeal.nD Cert.DxUpIdeal.τ Cert.DxUpIdeal.sig) → Buf (Elt Ideal) ℓ) : Prop :=
  True

def Pre_DxUpRefIdeal (m : (ℓ : Loc Cert.DxUpRefIdeal.nD Cert.DxUpRefIdeal.τ Cert.DxUpRefIdeal.sig) → Buf (Elt Ideal) ℓ) : Prop :=
  True

def Pre_DxDown (m : (ℓ : Loc Cert.DxDown.nD Cert.DxDown.τ Cert.DxDown.sig) → Buf (Elt Bits) ℓ) : Prop :=
  True

def Pre_DxDownIdeal (m : (ℓ : Loc Cert.DxDownIdeal.nD Cert.DxDownIdeal.τ Cert.DxDownIdeal.sig) → Buf (Elt Ideal) ℓ) : Prop :=
  True

def Pre_DxDownRefIdeal (m : (ℓ : Loc Cert.DxDownRefIdeal.nD Cert.DxDownRefIdeal.τ Cert.DxDownRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwUq (m : (ℓ : Loc Cert.DwUq.nD Cert.DwUq.τ Cert.DwUq.sig) → Buf (Elt Bits) ℓ) : Prop :=
  True

def Pre_DwUqIdeal (m : (ℓ : Loc Cert.DwUqIdeal.nD Cert.DwUqIdeal.τ Cert.DwUqIdeal.sig) → Buf (Elt Ideal) ℓ) : Prop :=
  True

def Pre_DwUqRefIdeal (m : (ℓ : Loc Cert.DwUqRefIdeal.nD Cert.DwUqRefIdeal.τ Cert.DwUqRefIdeal.sig) → Buf (Elt Ideal) ℓ) : Prop :=
  True

def Pre_DwUkv (m : (ℓ : Loc Cert.DwUkv.nD Cert.DwUkv.τ Cert.DwUkv.sig) → Buf (Elt Bits) ℓ) : Prop :=
  True

def Pre_DwUkvIdeal (m : (ℓ : Loc Cert.DwUkvIdeal.nD Cert.DwUkvIdeal.τ Cert.DwUkvIdeal.sig) → Buf (Elt Ideal) ℓ) : Prop :=
  True

def Pre_DwUkvRefIdeal (m : (ℓ : Loc Cert.DwUkvRefIdeal.nD Cert.DwUkvRefIdeal.τ Cert.DwUkvRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1)
      ∧ r.2.mem ((c.tc : Thread Cert.Scatter.nD Cert.Scatter.τ).loc Cert.Scatter.main_arg2) = m ((c.tc : Thread Cert.Scatter.nD Cert.Scatter.τ).loc Cert.Scatter.main_arg2)
      ∧ r.2.mem ((c.tc : Thread Cert.Scatter.nD Cert.Scatter.τ).loc Cert.Scatter.main_arg3) = m ((c.tc : Thread Cert.Scatter.nD Cert.Scatter.τ).loc Cert.Scatter.main_arg3)
      ∧ r.2.mem ((c.tc : Thread Cert.Scatter.nD Cert.Scatter.τ).loc Cert.Scatter.main_arg4) = m ((c.tc : Thread Cert.Scatter.nD Cert.Scatter.τ).loc Cert.Scatter.main_arg4)
      ∧ r.2.mem ((c.tc : Thread Cert.Scatter.nD Cert.Scatter.τ).loc Cert.Scatter.main_arg5) = m ((c.tc : Thread Cert.Scatter.nD Cert.Scatter.τ).loc Cert.Scatter.main_arg5))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
      ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
      ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3)
      ∧ r.2.mem ((c.tc : Thread Cert.ScatterIdeal.nD Cert.ScatterIdeal.τ).loc Cert.ScatterIdeal.main_arg4) = m ((c.tc : Thread Cert.ScatterIdeal.nD Cert.ScatterIdeal.τ).loc Cert.ScatterIdeal.main_arg4)
      ∧ r.2.mem ((c.tc : Thread Cert.ScatterIdeal.nD Cert.ScatterIdeal.τ).loc Cert.ScatterIdeal.main_arg5) = m ((c.tc : Thread Cert.ScatterIdeal.nD Cert.ScatterIdeal.τ).loc Cert.ScatterIdeal.main_arg5))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0)
      ∧ r.2.mem ((c.tc : Thread Cert.ScatterRefIdeal.nD Cert.ScatterRefIdeal.τ).loc Cert.ScatterRefIdeal.main_arg1) = m ((c.tc : Thread Cert.ScatterRefIdeal.nD Cert.ScatterRefIdeal.τ).loc Cert.ScatterRefIdeal.main_arg1)
      ∧ r.2.mem ((c.tc : Thread Cert.ScatterRefIdeal.nD Cert.ScatterRefIdeal.τ).loc Cert.ScatterRefIdeal.main_arg2) = m ((c.tc : Thread Cert.ScatterRefIdeal.nD Cert.ScatterRefIdeal.τ).loc Cert.ScatterRefIdeal.main_arg2)
      ∧ r.2.mem ((c.tc : Thread Cert.ScatterRefIdeal.nD Cert.ScatterRefIdeal.τ).loc Cert.ScatterRefIdeal.main_arg3) = m ((c.tc : Thread Cert.ScatterRefIdeal.nD Cert.ScatterRefIdeal.τ).loc Cert.ScatterRefIdeal.main_arg3)
      ∧ r.2.mem ((c.tc : Thread Cert.ScatterRefIdeal.nD Cert.ScatterRefIdeal.τ).loc Cert.ScatterRefIdeal.main_arg4) = m ((c.tc : Thread Cert.ScatterRefIdeal.nD Cert.ScatterRefIdeal.τ).loc Cert.ScatterRefIdeal.main_arg4)
      ∧ r.2.mem ((c.tc : Thread Cert.ScatterRefIdeal.nD Cert.ScatterRefIdeal.τ).loc Cert.ScatterRefIdeal.main_arg5) = m ((c.tc : Thread Cert.ScatterRefIdeal.nD Cert.ScatterRefIdeal.τ).loc Cert.ScatterRefIdeal.main_arg5))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4)
      ∧ r.2.mem ((c.tc : Thread Cert.Gather.nD Cert.Gather.τ).loc Cert.Gather.main_arg5) = m ((c.tc : Thread Cert.Gather.nD Cert.Gather.τ).loc Cert.Gather.main_arg5))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
      ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2)
      ∧ r.2.mem ((c.tc : Thread Cert.GatherRefIdeal.nD Cert.GatherRefIdeal.τ).loc Cert.GatherRefIdeal.main_arg3) = m ((c.tc : Thread Cert.GatherRefIdeal.nD Cert.GatherRefIdeal.τ).loc Cert.GatherRefIdeal.main_arg3)
      ∧ r.2.mem ((c.tc : Thread Cert.GatherRefIdeal.nD Cert.GatherRefIdeal.τ).loc Cert.GatherRefIdeal.main_arg4) = m ((c.tc : Thread Cert.GatherRefIdeal.nD Cert.GatherRefIdeal.τ).loc Cert.GatherRefIdeal.main_arg4)
      ∧ r.2.mem ((c.tc : Thread Cert.GatherRefIdeal.nD Cert.GatherRefIdeal.τ).loc Cert.GatherRefIdeal.main_arg5) = m ((c.tc : Thread Cert.GatherRefIdeal.nD Cert.GatherRefIdeal.τ).loc Cert.GatherRefIdeal.main_arg5))
      ∧ r.2.sem = fun _ => 0)

def quiescent_SmallRef [hSmallRef : Cert.SmallRef.Facts] : Prop :=
  ∀ (m : (ℓ : Loc Cert.SmallRef.nD Cert.SmallRef.τ Cert.SmallRef.sig) → Buf (Elt Bits) ℓ) (g : Dev Cert.SmallRef.nD → PrngReg), Pre_SmallRef m →
    θ_run (Cert.SmallRef.defs (F := Bits)) (onTc (τ := Cert.SmallRef.τ) (Cert.SmallRef.main (F := Bits))) ⟨m, fun _ => 0, g⟩ (fun r => (∀ c : Dev Cert.SmallRef.nD,
      r.2.mem ((c.tc : Thread Cert.SmallRef.nD Cert.SmallRef.τ).loc Cert.SmallRef.main_arg0) = m ((c.tc : Thread Cert.SmallRef.nD Cert.SmallRef.τ).loc Cert.SmallRef.main_arg0))
      ∧ r.2.sem = fun _ => 0)

def quiescent_ScatterRef [hScatterRef : Cert.ScatterRef.Facts] : Prop :=
  ∀ (m : (ℓ : Loc Cert.ScatterRef.nD Cert.ScatterRef.τ Cert.ScatterRef.sig) → Buf (Elt Bits) ℓ) (g : Dev Cert.ScatterRef.nD → PrngReg), Pre_ScatterRef m →
    θ_run (Cert.ScatterRef.defs (F := Bits)) (onTc (τ := Cert.ScatterRef.τ) (Cert.ScatterRef.main (F := Bits))) ⟨m, fun _ => 0, g⟩ (fun r => (∀ c : Dev Cert.ScatterRef.nD,
      r.2.mem ((c.tc : Thread Cert.ScatterRef.nD Cert.ScatterRef.τ).loc Cert.ScatterRef.main_arg0) = m ((c.tc : Thread Cert.ScatterRef.nD Cert.ScatterRef.τ).loc Cert.ScatterRef.main_arg0)
      ∧ r.2.mem ((c.tc : Thread Cert.ScatterRef.nD Cert.ScatterRef.τ).loc Cert.ScatterRef.main_arg1) = m ((c.tc : Thread Cert.ScatterRef.nD Cert.ScatterRef.τ).loc Cert.ScatterRef.main_arg1)
      ∧ r.2.mem ((c.tc : Thread Cert.ScatterRef.nD Cert.ScatterRef.τ).loc Cert.ScatterRef.main_arg2) = m ((c.tc : Thread Cert.ScatterRef.nD Cert.ScatterRef.τ).loc Cert.ScatterRef.main_arg2)
      ∧ r.2.mem ((c.tc : Thread Cert.ScatterRef.nD Cert.ScatterRef.τ).loc Cert.ScatterRef.main_arg3) = m ((c.tc : Thread Cert.ScatterRef.nD Cert.ScatterRef.τ).loc Cert.ScatterRef.main_arg3)
      ∧ r.2.mem ((c.tc : Thread Cert.ScatterRef.nD Cert.ScatterRef.τ).loc Cert.ScatterRef.main_arg4) = m ((c.tc : Thread Cert.ScatterRef.nD Cert.ScatterRef.τ).loc Cert.ScatterRef.main_arg4)
      ∧ r.2.mem ((c.tc : Thread Cert.ScatterRef.nD Cert.ScatterRef.τ).loc Cert.ScatterRef.main_arg5) = m ((c.tc : Thread Cert.ScatterRef.nD Cert.ScatterRef.τ).loc Cert.ScatterRef.main_arg5))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1)
      ∧ r.2.mem ((c.tc : Thread Cert.GatherRef.nD Cert.GatherRef.τ).loc Cert.GatherRef.main_arg2) = m ((c.tc : Thread Cert.GatherRef.nD Cert.GatherRef.τ).loc Cert.GatherRef.main_arg2)
      ∧ r.2.mem ((c.tc : Thread Cert.GatherRef.nD Cert.GatherRef.τ).loc Cert.GatherRef.main_arg3) = m ((c.tc : Thread Cert.GatherRef.nD Cert.GatherRef.τ).loc Cert.GatherRef.main_arg3)
      ∧ r.2.mem ((c.tc : Thread Cert.GatherRef.nD Cert.GatherRef.τ).loc Cert.GatherRef.main_arg4) = m ((c.tc : Thread Cert.GatherRef.nD Cert.GatherRef.τ).loc Cert.GatherRef.main_arg4)
      ∧ r.2.mem ((c.tc : Thread Cert.GatherRef.nD Cert.GatherRef.τ).loc Cert.GatherRef.main_arg5) = m ((c.tc : Thread Cert.GatherRef.nD Cert.GatherRef.τ).loc Cert.GatherRef.main_arg5))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamUq [hAdamUq : Cert.AdamUq.Facts] : Prop :=
  ∀ (m : (ℓ : Loc Cert.AdamUq.nD Cert.AdamUq.τ Cert.AdamUq.sig) → Buf (Elt Bits) ℓ) (g : Dev Cert.AdamUq.nD → PrngReg), Pre_AdamUq m →
    θ_run (Cert.AdamUq.defs (F := Bits)) (onTc (τ := Cert.AdamUq.τ) (Cert.AdamUq.main (F := Bits))) ⟨m, fun _ => 0, g⟩ (fun r => (∀ c : Dev Cert.AdamUq.nD,
      r.2.mem ((c.tc : Thread Cert.AdamUq.nD Cert.AdamUq.τ).loc Cert.AdamUq.main_arg0) = m ((c.tc : Thread Cert.AdamUq.nD Cert.AdamUq.τ).loc Cert.AdamUq.main_arg0)
      ∧ r.2.mem ((c.tc : Thread Cert.AdamUq.nD Cert.AdamUq.τ).loc Cert.AdamUq.main_arg1) = m ((c.tc : Thread Cert.AdamUq.nD Cert.AdamUq.τ).loc Cert.AdamUq.main_arg1)
      ∧ r.2.mem ((c.tc : Thread Cert.AdamUq.nD Cert.AdamUq.τ).loc Cert.AdamUq.main_arg2) = m ((c.tc : Thread Cert.AdamUq.nD Cert.AdamUq.τ).loc Cert.AdamUq.main_arg2)
      ∧ r.2.mem ((c.tc : Thread Cert.AdamUq.nD Cert.AdamUq.τ).loc Cert.AdamUq.main_arg3) = m ((c.tc : Thread Cert.AdamUq.nD Cert.AdamUq.τ).loc Cert.AdamUq.main_arg3))
      ∧ r.2.sem = fun _ => 0)

def quiescent_AdamUqIdeal [hAdamUqIdeal : Cert.AdamUqIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg), Pre_AdamUqIdeal m →
    θ_run (Cert.AdamUqIdeal.defs (F := Ideal)) (onTc (τ := Cert.AdamUqIdeal.τ) (Cert.AdamUqIdeal.main (F := Ideal))) ⟨m, fun _ => 0, g⟩ (fun r => (∀ c : Dev Cert.AdamUqIdeal.nD,
      r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
      ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
      ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
      ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3))
      ∧ r.2.sem = fun _ => 0)

def quiescent_AdamUqRefIdeal [hAdamUqRefIdeal : Cert.AdamUqRefIdeal.Facts] : Prop :=
  ∀ (m : (ℓ : Loc Cert.AdamUqRefIdeal.nD Cert.AdamUqRefIdeal.τ Cert.AdamUqRefIdeal.sig) → Buf (Elt Ideal) ℓ) (g : Dev Cert.AdamUqRefIdeal.nD → PrngReg), Pre_AdamUqRefIdeal m →
    θ_run (Cert.AdamUqRefIdeal.defs (F := Ideal)) (onTc (τ := Cert.AdamUqRefIdeal.τ) (Cert.AdamUqRefIdeal.main (F := Ideal))) ⟨m, fun _ => 0, g⟩ (fun r => (∀ c : Dev Cert.AdamUqRefIdeal.nD,
      r.2.mem ((c.tc : Thread Cert.AdamUqRefIdeal.nD Cert.AdamUqRefIdeal.τ).loc Cert.AdamUqRefIdeal.main_arg0) = m ((c.tc : Thread Cert.AdamUqRefIdeal.nD Cert.AdamUqRefIdeal.τ).loc Cert.AdamUqRefIdeal.main_arg0)
      ∧ r.2.mem ((c.tc : Thread Cert.AdamUqRefIdeal.nD Cert.AdamUqRefIdeal.τ).loc Cert.AdamUqRefIdeal.main_arg1) = m ((c.tc : Thread Cert.AdamUqRefIdeal.nD Cert.AdamUqRefIdeal.τ).loc Cert.AdamUqRefIdeal.main_arg1)
      ∧ r.2.mem ((c.tc : Thread Cert.AdamUqRefIdeal.nD Cert.AdamUqRefIdeal.τ).loc Cert.AdamUqRefIdeal.main_arg2) = m ((c.tc : Thread Cert.AdamUqRefIdeal.nD Cert.AdamUqRefIdeal.τ).loc Cert.AdamUqRefIdeal.main_arg2)
      ∧ r.2.mem ((c.tc : Thread Cert.AdamUqRefIdeal.nD Cert.AdamUqRefIdeal.τ).loc Cert.AdamUqRefIdeal.main_arg3) = m ((c.tc : Thread Cert.AdamUqRefIdeal.nD Cert.AdamUqRefIdeal.τ).loc Cert.AdamUqRefIdeal.main_arg3))
      ∧ r.2.sem = fun _ => 0)

def quiescent_AdamUkv [hAdamUkv : Cert.AdamUkv.Facts] : Prop :=
  ∀ (m : (ℓ : Loc Cert.AdamUkv.nD Cert.AdamUkv.τ Cert.AdamUkv.sig) → Buf (Elt Bits) ℓ) (g : Dev Cert.AdamUkv.nD → PrngReg), Pre_AdamUkv m →
    θ_run (Cert.AdamUkv.defs (F := Bits)) (onTc (τ := Cert.AdamUkv.τ) (Cert.AdamUkv.main (F := Bits))) ⟨m, fun _ => 0, g⟩ (fun r => (∀ c : Dev Cert.AdamUkv.nD,
      r.2.mem ((c.tc : Thread Cert.AdamUkv.nD Cert.AdamUkv.τ).loc Cert.AdamUkv.main_arg0) = m ((c.tc : Thread Cert.AdamUkv.nD Cert.AdamUkv.τ).loc Cert.AdamUkv.main_arg0)
      ∧ r.2.mem ((c.tc : Thread Cert.AdamUkv.nD Cert.AdamUkv.τ).loc Cert.AdamUkv.main_arg1) = m ((c.tc : Thread Cert.AdamUkv.nD Cert.AdamUkv.τ).loc Cert.AdamUkv.main_arg1)
      ∧ r.2.mem ((c.tc : Thread Cert.AdamUkv.nD Cert.AdamUkv.τ).loc Cert.AdamUkv.main_arg2) = m ((c.tc : Thread Cert.AdamUkv.nD Cert.AdamUkv.τ).loc Cert.AdamUkv.main_arg2)
      ∧ r.2.mem ((c.tc : Thread Cert.AdamUkv.nD Cert.AdamUkv.τ).loc Cert.AdamUkv.main_arg3) = m ((c.tc : Thread Cert.AdamUkv.nD Cert.AdamUkv.τ).loc Cert.AdamUkv.main_arg3))
      ∧ r.2.sem = fun _ => 0)

def quiescent_AdamUkvIdeal [hAdamUkvIdeal : Cert.AdamUkvIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg), Pre_AdamUkvIdeal m →
    θ_run (Cert.AdamUkvIdeal.defs (F := Ideal)) (onTc (τ := Cert.AdamUkvIdeal.τ) (Cert.AdamUkvIdeal.main (F := Ideal))) ⟨m, fun _ => 0, g⟩ (fun r => (∀ c : Dev Cert.AdamUkvIdeal.nD,
      r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
      ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
      ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
      ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3))
      ∧ r.2.sem = fun _ => 0)

def quiescent_AdamUkvRefIdeal [hAdamUkvRefIdeal : Cert.AdamUkvRefIdeal.Facts] : Prop :=
  ∀ (m : (ℓ : Loc Cert.AdamUkvRefIdeal.nD Cert.AdamUkvRefIdeal.τ Cert.AdamUkvRefIdeal.sig) → Buf (Elt Ideal) ℓ) (g : Dev Cert.AdamUkvRefIdeal.nD → PrngReg), Pre_AdamUkvRefIdeal m →
    θ_run (Cert.AdamUkvRefIdeal.defs (F := Ideal)) (onTc (τ := Cert.AdamUkvRefIdeal.τ) (Cert.AdamUkvRefIdeal.main (F := Ideal))) ⟨m, fun _ => 0, g⟩ (fun r => (∀ c : Dev Cert.AdamUkvRefIdeal.nD,
      r.2.mem ((c.tc : Thread Cert.AdamUkvRefIdeal.nD Cert.AdamUkvRefIdeal.τ).loc Cert.AdamUkvRefIdeal.main_arg0) = m ((c.tc : Thread Cert.AdamUkvRefIdeal.nD Cert.AdamUkvRefIdeal.τ).loc Cert.AdamUkvRefIdeal.main_arg0)
      ∧ r.2.mem ((c.tc : Thread Cert.AdamUkvRefIdeal.nD Cert.AdamUkvRefIdeal.τ).loc Cert.AdamUkvRefIdeal.main_arg1) = m ((c.tc : Thread Cert.AdamUkvRefIdeal.nD Cert.AdamUkvRefIdeal.τ).loc Cert.AdamUkvRefIdeal.main_arg1)
      ∧ r.2.mem ((c.tc : Thread Cert.AdamUkvRefIdeal.nD Cert.AdamUkvRefIdeal.τ).loc Cert.AdamUkvRefIdeal.main_arg2) = m ((c.tc : Thread Cert.AdamUkvRefIdeal.nD Cert.AdamUkvRefIdeal.τ).loc Cert.AdamUkvRefIdeal.main_arg2)
      ∧ r.2.mem ((c.tc : Thread Cert.AdamUkvRefIdeal.nD Cert.AdamUkvRefIdeal.τ).loc Cert.AdamUkvRefIdeal.main_arg3) = m ((c.tc : Thread Cert.AdamUkvRefIdeal.nD Cert.AdamUkvRefIdeal.τ).loc Cert.AdamUkvRefIdeal.main_arg3))
      ∧ r.2.sem = fun _ => 0)

def quiescent_AdamSsdOut [hAdamSsdOut : Cert.AdamSsdOut.Facts] : Prop :=
  ∀ (m : (ℓ : Loc Cert.AdamSsdOut.nD Cert.AdamSsdOut.τ Cert.AdamSsdOut.sig) → Buf (Elt Bits) ℓ) (g : Dev Cert.AdamSsdOut.nD → PrngReg), Pre_AdamSsdOut m →
    θ_run (Cert.AdamSsdOut.defs (F := Bits)) (onTc (τ := Cert.AdamSsdOut.τ) (Cert.AdamSsdOut.main (F := Bits))) ⟨m, fun _ => 0, g⟩ (fun r => (∀ c : Dev Cert.AdamSsdOut.nD,
      r.2.mem ((c.tc : Thread Cert.AdamSsdOut.nD Cert.AdamSsdOut.τ).loc Cert.AdamSsdOut.main_arg0) = m ((c.tc : Thread Cert.AdamSsdOut.nD Cert.AdamSsdOut.τ).loc Cert.AdamSsdOut.main_arg0)
      ∧ r.2.mem ((c.tc : Thread Cert.AdamSsdOut.nD Cert.AdamSsdOut.τ).loc Cert.AdamSsdOut.main_arg1) = m ((c.tc : Thread Cert.AdamSsdOut.nD Cert.AdamSsdOut.τ).loc Cert.AdamSsdOut.main_arg1)
      ∧ r.2.mem ((c.tc : Thread Cert.AdamSsdOut.nD Cert.AdamSsdOut.τ).loc Cert.AdamSsdOut.main_arg2) = m ((c.tc : Thread Cert.AdamSsdOut.nD Cert.AdamSsdOut.τ).loc Cert.AdamSsdOut.main_arg2)
      ∧ r.2.mem ((c.tc : Thread Cert.AdamSsdOut.nD Cert.AdamSsdOut.τ).loc Cert.AdamSsdOut.main_arg3) = m ((c.tc : Thread Cert.AdamSsdOut.nD Cert.AdamSsdOut.τ).loc Cert.AdamSsdOut.main_arg3))
      ∧ r.2.sem = fun _ => 0)

def quiescent_AdamSsdOutIdeal [hAdamSsdOutIdeal : Cert.AdamSsdOutIdeal.Facts] : Prop :=
  ∀ (m : (ℓ : Loc Cert.AdamSsdOutIdeal.nD Cert.AdamSsdOutIdeal.τ Cert.AdamSsdOutIdeal.sig) → Buf (Elt Ideal) ℓ) (g : Dev Cert.AdamSsdOutIdeal.nD → PrngReg), Pre_AdamSsdOutIdeal m →
    θ_run (Cert.AdamSsdOutIdeal.defs (F := Ideal)) (onTc (τ := Cert.AdamSsdOutIdeal.τ) (Cert.AdamSsdOutIdeal.main (F := Ideal))) ⟨m, fun _ => 0, g⟩ (fun r => (∀ c : Dev Cert.AdamSsdOutIdeal.nD,
      r.2.mem ((c.tc : Thread Cert.AdamSsdOutIdeal.nD Cert.AdamSsdOutIdeal.τ).loc Cert.AdamSsdOutIdeal.main_arg0) = m ((c.tc : Thread Cert.AdamSsdOutIdeal.nD Cert.AdamSsdOutIdeal.τ).loc Cert.AdamSsdOutIdeal.main_arg0)
      ∧ r.2.mem ((c.tc : Thread Cert.AdamSsdOutIdeal.nD Cert.AdamSsdOutIdeal.τ).loc Cert.AdamSsdOutIdeal.main_arg1) = m ((c.tc : Thread Cert.AdamSsdOutIdeal.nD Cert.AdamSsdOutIdeal.τ).loc Cert.AdamSsdOutIdeal.main_arg1)
      ∧ r.2.mem ((c.tc : Thread Cert.AdamSsdOutIdeal.nD Cert.AdamSsdOutIdeal.τ).loc Cert.AdamSsdOutIdeal.main_arg2) = m ((c.tc : Thread Cert.AdamSsdOutIdeal.nD Cert.AdamSsdOutIdeal.τ).loc Cert.AdamSsdOutIdeal.main_arg2)
      ∧ r.2.mem ((c.tc : Thread Cert.AdamSsdOutIdeal.nD Cert.AdamSsdOutIdeal.τ).loc Cert.AdamSsdOutIdeal.main_arg3) = m ((c.tc : Thread Cert.AdamSsdOutIdeal.nD Cert.AdamSsdOutIdeal.τ).loc Cert.AdamSsdOutIdeal.main_arg3))
      ∧ r.2.sem = fun _ => 0)

def quiescent_AdamSsdOutRefIdeal [hAdamSsdOutRefIdeal : Cert.AdamSsdOutRefIdeal.Facts] : Prop :=
  ∀ (m : (ℓ : Loc Cert.AdamSsdOutRefIdeal.nD Cert.AdamSsdOutRefIdeal.τ Cert.AdamSsdOutRefIdeal.sig) → Buf (Elt Ideal) ℓ) (g : Dev Cert.AdamSsdOutRefIdeal.nD → PrngReg), Pre_AdamSsdOutRefIdeal m →
    θ_run (Cert.AdamSsdOutRefIdeal.defs (F := Ideal)) (onTc (τ := Cert.AdamSsdOutRefIdeal.τ) (Cert.AdamSsdOutRefIdeal.main (F := Ideal))) ⟨m, fun _ => 0, g⟩ (fun r => (∀ c : Dev Cert.AdamSsdOutRefIdeal.nD,
      r.2.mem ((c.tc : Thread Cert.AdamSsdOutRefIdeal.nD Cert.AdamSsdOutRefIdeal.τ).loc Cert.AdamSsdOutRefIdeal.main_arg0) = m ((c.tc : Thread Cert.AdamSsdOutRefIdeal.nD Cert.AdamSsdOutRefIdeal.τ).loc Cert.AdamSsdOutRefIdeal.main_arg0)
      ∧ r.2.mem ((c.tc : Thread Cert.AdamSsdOutRefIdeal.nD Cert.AdamSsdOutRefIdeal.τ).loc Cert.AdamSsdOutRefIdeal.main_arg1) = m ((c.tc : Thread Cert.AdamSsdOutRefIdeal.nD Cert.AdamSsdOutRefIdeal.τ).loc Cert.AdamSsdOutRefIdeal.main_arg1)
      ∧ r.2.mem ((c.tc : Thread Cert.AdamSsdOutRefIdeal.nD Cert.AdamSsdOutRefIdeal.τ).loc Cert.AdamSsdOutRefIdeal.main_arg2) = m ((c.tc : Thread Cert.AdamSsdOutRefIdeal.nD Cert.AdamSsdOutRefIdeal.τ).loc Cert.AdamSsdOutRefIdeal.main_arg2)
      ∧ r.2.mem ((c.tc : Thread Cert.AdamSsdOutRefIdeal.nD Cert.AdamSsdOutRefIdeal.τ).loc Cert.AdamSsdOutRefIdeal.main_arg3) = m ((c.tc : Thread Cert.AdamSsdOutRefIdeal.nD Cert.AdamSsdOutRefIdeal.τ).loc Cert.AdamSsdOutRefIdeal.main_arg3))
      ∧ r.2.sem = fun _ => 0)

def quiescent_AdamMlaOut [hAdamMlaOut : Cert.AdamMlaOut.Facts] : Prop :=
  ∀ (m : (ℓ : Loc Cert.AdamMlaOut.nD Cert.AdamMlaOut.τ Cert.AdamMlaOut.sig) → Buf (Elt Bits) ℓ) (g : Dev Cert.AdamMlaOut.nD → PrngReg), Pre_AdamMlaOut m →
    θ_run (Cert.AdamMlaOut.defs (F := Bits)) (onTc (τ := Cert.AdamMlaOut.τ) (Cert.AdamMlaOut.main (F := Bits))) ⟨m, fun _ => 0, g⟩ (fun r => (∀ c : Dev Cert.AdamMlaOut.nD,
      r.2.mem ((c.tc : Thread Cert.AdamMlaOut.nD Cert.AdamMlaOut.τ).loc Cert.AdamMlaOut.main_arg0) = m ((c.tc : Thread Cert.AdamMlaOut.nD Cert.AdamMlaOut.τ).loc Cert.AdamMlaOut.main_arg0)
      ∧ r.2.mem ((c.tc : Thread Cert.AdamMlaOut.nD Cert.AdamMlaOut.τ).loc Cert.AdamMlaOut.main_arg1) = m ((c.tc : Thread Cert.AdamMlaOut.nD Cert.AdamMlaOut.τ).loc Cert.AdamMlaOut.main_arg1)
      ∧ r.2.mem ((c.tc : Thread Cert.AdamMlaOut.nD Cert.AdamMlaOut.τ).loc Cert.AdamMlaOut.main_arg2) = m ((c.tc : Thread Cert.AdamMlaOut.nD Cert.AdamMlaOut.τ).loc Cert.AdamMlaOut.main_arg2)
      ∧ r.2.mem ((c.tc : Thread Cert.AdamMlaOut.nD Cert.AdamMlaOut.τ).loc Cert.AdamMlaOut.main_arg3) = m ((c.tc : Thread Cert.AdamMlaOut.nD Cert.AdamMlaOut.τ).loc Cert.AdamMlaOut.main_arg3))
      ∧ r.2.sem = fun _ => 0)

def quiescent_AdamMlaOutIdeal [hAdamMlaOutIdeal : Cert.AdamMlaOutIdeal.Facts] : Prop :=
  ∀ (m : (ℓ : Loc Cert.AdamMlaOutIdeal.nD Cert.AdamMlaOutIdeal.τ Cert.AdamMlaOutIdeal.sig) → Buf (Elt Ideal) ℓ) (g : Dev Cert.AdamMlaOutIdeal.nD → PrngReg), Pre_AdamMlaOutIdeal m →
    θ_run (Cert.AdamMlaOutIdeal.defs (F := Ideal)) (onTc (τ := Cert.AdamMlaOutIdeal.τ) (Cert.AdamMlaOutIdeal.main (F := Ideal))) ⟨m, fun _ => 0, g⟩ (fun r => (∀ c : Dev Cert.AdamMlaOutIdeal.nD,
      r.2.mem ((c.tc : Thread Cert.AdamMlaOutIdeal.nD Cert.AdamMlaOutIdeal.τ).loc Cert.AdamMlaOutIdeal.main_arg0) = m ((c.tc : Thread Cert.AdamMlaOutIdeal.nD Cert.AdamMlaOutIdeal.τ).loc Cert.AdamMlaOutIdeal.main_arg0)
      ∧ r.2.mem ((c.tc : Thread Cert.AdamMlaOutIdeal.nD Cert.AdamMlaOutIdeal.τ).loc Cert.AdamMlaOutIdeal.main_arg1) = m ((c.tc : Thread Cert.AdamMlaOutIdeal.nD Cert.AdamMlaOutIdeal.τ).loc Cert.AdamMlaOutIdeal.main_arg1)
      ∧ r.2.mem ((c.tc : Thread Cert.AdamMlaOutIdeal.nD Cert.AdamMlaOutIdeal.τ).loc Cert.AdamMlaOutIdeal.main_arg2) = m ((c.tc : Thread Cert.AdamMlaOutIdeal.nD Cert.AdamMlaOutIdeal.τ).loc Cert.AdamMlaOutIdeal.main_arg2)
      ∧ r.2.mem ((c.tc : Thread Cert.AdamMlaOutIdeal.nD Cert.AdamMlaOutIdeal.τ).loc Cert.AdamMlaOutIdeal.main_arg3) = m ((c.tc : Thread Cert.AdamMlaOutIdeal.nD Cert.AdamMlaOutIdeal.τ).loc Cert.AdamMlaOutIdeal.main_arg3))
      ∧ r.2.sem = fun _ => 0)

def quiescent_AdamMlaOutRefIdeal [hAdamMlaOutRefIdeal : Cert.AdamMlaOutRefIdeal.Facts] : Prop :=
  ∀ (m : (ℓ : Loc Cert.AdamMlaOutRefIdeal.nD Cert.AdamMlaOutRefIdeal.τ Cert.AdamMlaOutRefIdeal.sig) → Buf (Elt Ideal) ℓ) (g : Dev Cert.AdamMlaOutRefIdeal.nD → PrngReg), Pre_AdamMlaOutRefIdeal m →
    θ_run (Cert.AdamMlaOutRefIdeal.defs (F := Ideal)) (onTc (τ := Cert.AdamMlaOutRefIdeal.τ) (Cert.AdamMlaOutRefIdeal.main (F := Ideal))) ⟨m, fun _ => 0, g⟩ (fun r => (∀ c : Dev Cert.AdamMlaOutRefIdeal.nD,
      r.2.mem ((c.tc : Thread Cert.AdamMlaOutRefIdeal.nD Cert.AdamMlaOutRefIdeal.τ).loc Cert.AdamMlaOutRefIdeal.main_arg0) = m ((c.tc : Thread Cert.AdamMlaOutRefIdeal.nD Cert.AdamMlaOutRefIdeal.τ).loc Cert.AdamMlaOutRefIdeal.main_arg0)
      ∧ r.2.mem ((c.tc : Thread Cert.AdamMlaOutRefIdeal.nD Cert.AdamMlaOutRefIdeal.τ).loc Cert.AdamMlaOutRefIdeal.main_arg1) = m ((c.tc : Thread Cert.AdamMlaOutRefIdeal.nD Cert.AdamMlaOutRefIdeal.τ).loc Cert.AdamMlaOutRefIdeal.main_arg1)
      ∧ r.2.mem ((c.tc : Thread Cert.AdamMlaOutRefIdeal.nD Cert.AdamMlaOutRefIdeal.τ).loc Cert.AdamMlaOutRefIdeal.main_arg2) = m ((c.tc : Thread Cert.AdamMlaOutRefIdeal.nD Cert.AdamMlaOutRefIdeal.τ).loc Cert.AdamMlaOutRefIdeal.main_arg2)
      ∧ r.2.mem ((c.tc : Thread Cert.AdamMlaOutRefIdeal.nD Cert.AdamMlaOutRefIdeal.τ).loc Cert.AdamMlaOutRefIdeal.main_arg3) = m ((c.tc : Thread Cert.AdamMlaOutRefIdeal.nD Cert.AdamMlaOutRefIdeal.τ).loc Cert.AdamMlaOutRefIdeal.main_arg3))
      ∧ r.2.sem = fun _ => 0)

def quiescent_AdamGdnOut [hAdamGdnOut : Cert.AdamGdnOut.Facts] : Prop :=
  ∀ (m : (ℓ : Loc Cert.AdamGdnOut.nD Cert.AdamGdnOut.τ Cert.AdamGdnOut.sig) → Buf (Elt Bits) ℓ) (g : Dev Cert.AdamGdnOut.nD → PrngReg), Pre_AdamGdnOut m →
    θ_run (Cert.AdamGdnOut.defs (F := Bits)) (onTc (τ := Cert.AdamGdnOut.τ) (Cert.AdamGdnOut.main (F := Bits))) ⟨m, fun _ => 0, g⟩ (fun r => (∀ c : Dev Cert.AdamGdnOut.nD,
      r.2.mem ((c.tc : Thread Cert.AdamGdnOut.nD Cert.AdamGdnOut.τ).loc Cert.AdamGdnOut.main_arg0) = m ((c.tc : Thread Cert.AdamGdnOut.nD Cert.AdamGdnOut.τ).loc Cert.AdamGdnOut.main_arg0)
      ∧ r.2.mem ((c.tc : Thread Cert.AdamGdnOut.nD Cert.AdamGdnOut.τ).loc Cert.AdamGdnOut.main_arg1) = m ((c.tc : Thread Cert.AdamGdnOut.nD Cert.AdamGdnOut.τ).loc Cert.AdamGdnOut.main_arg1)
      ∧ r.2.mem ((c.tc : Thread Cert.AdamGdnOut.nD Cert.AdamGdnOut.τ).loc Cert.AdamGdnOut.main_arg2) = m ((c.tc : Thread Cert.AdamGdnOut.nD Cert.AdamGdnOut.τ).loc Cert.AdamGdnOut.main_arg2)
      ∧ r.2.mem ((c.tc : Thread Cert.AdamGdnOut.nD Cert.AdamGdnOut.τ).loc Cert.AdamGdnOut.main_arg3) = m ((c.tc : Thread Cert.AdamGdnOut.nD Cert.AdamGdnOut.τ).loc Cert.AdamGdnOut.main_arg3))
      ∧ r.2.sem = fun _ => 0)

def quiescent_AdamGdnOutIdeal [hAdamGdnOutIdeal : Cert.AdamGdnOutIdeal.Facts] : Prop :=
  ∀ (m : (ℓ : Loc Cert.AdamGdnOutIdeal.nD Cert.AdamGdnOutIdeal.τ Cert.AdamGdnOutIdeal.sig) → Buf (Elt Ideal) ℓ) (g : Dev Cert.AdamGdnOutIdeal.nD → PrngReg), Pre_AdamGdnOutIdeal m →
    θ_run (Cert.AdamGdnOutIdeal.defs (F := Ideal)) (onTc (τ := Cert.AdamGdnOutIdeal.τ) (Cert.AdamGdnOutIdeal.main (F := Ideal))) ⟨m, fun _ => 0, g⟩ (fun r => (∀ c : Dev Cert.AdamGdnOutIdeal.nD,
      r.2.mem ((c.tc : Thread Cert.AdamGdnOutIdeal.nD Cert.AdamGdnOutIdeal.τ).loc Cert.AdamGdnOutIdeal.main_arg0) = m ((c.tc : Thread Cert.AdamGdnOutIdeal.nD Cert.AdamGdnOutIdeal.τ).loc Cert.AdamGdnOutIdeal.main_arg0)
      ∧ r.2.mem ((c.tc : Thread Cert.AdamGdnOutIdeal.nD Cert.AdamGdnOutIdeal.τ).loc Cert.AdamGdnOutIdeal.main_arg1) = m ((c.tc : Thread Cert.AdamGdnOutIdeal.nD Cert.AdamGdnOutIdeal.τ).loc Cert.AdamGdnOutIdeal.main_arg1)
      ∧ r.2.mem ((c.tc : Thread Cert.AdamGdnOutIdeal.nD Cert.AdamGdnOutIdeal.τ).loc Cert.AdamGdnOutIdeal.main_arg2) = m ((c.tc : Thread Cert.AdamGdnOutIdeal.nD Cert.AdamGdnOutIdeal.τ).loc Cert.AdamGdnOutIdeal.main_arg2)
      ∧ r.2.mem ((c.tc : Thread Cert.AdamGdnOutIdeal.nD Cert.AdamGdnOutIdeal.τ).loc Cert.AdamGdnOutIdeal.main_arg3) = m ((c.tc : Thread Cert.AdamGdnOutIdeal.nD Cert.AdamGdnOutIdeal.τ).loc Cert.AdamGdnOutIdeal.main_arg3))
      ∧ r.2.sem = fun _ => 0)

def quiescent_AdamGdnOutRefIdeal [hAdamGdnOutRefIdeal : Cert.AdamGdnOutRefIdeal.Facts] : Prop :=
  ∀ (m : (ℓ : Loc Cert.AdamGdnOutRefIdeal.nD Cert.AdamGdnOutRefIdeal.τ Cert.AdamGdnOutRefIdeal.sig) → Buf (Elt Ideal) ℓ) (g : Dev Cert.AdamGdnOutRefIdeal.nD → PrngReg), Pre_AdamGdnOutRefIdeal m →
    θ_run (Cert.AdamGdnOutRefIdeal.defs (F := Ideal)) (onTc (τ := Cert.AdamGdnOutRefIdeal.τ) (Cert.AdamGdnOutRefIdeal.main (F := Ideal))) ⟨m, fun _ => 0, g⟩ (fun r => (∀ c : Dev Cert.AdamGdnOutRefIdeal.nD,
      r.2.mem ((c.tc : Thread Cert.AdamGdnOutRefIdeal.nD Cert.AdamGdnOutRefIdeal.τ).loc Cert.AdamGdnOutRefIdeal.main_arg0) = m ((c.tc : Thread Cert.AdamGdnOutRefIdeal.nD Cert.AdamGdnOutRefIdeal.τ).loc Cert.AdamGdnOutRefIdeal.main_arg0)
      ∧ r.2.mem ((c.tc : Thread Cert.AdamGdnOutRefIdeal.nD Cert.AdamGdnOutRefIdeal.τ).loc Cert.AdamGdnOutRefIdeal.main_arg1) = m ((c.tc : Thread Cert.AdamGdnOutRefIdeal.nD Cert.AdamGdnOutRefIdeal.τ).loc Cert.AdamGdnOutRefIdeal.main_arg1)
      ∧ r.2.mem ((c.tc : Thread Cert.AdamGdnOutRefIdeal.nD Cert.AdamGdnOutRefIdeal.τ).loc Cert.AdamGdnOutRefIdeal.main_arg2) = m ((c.tc : Thread Cert.AdamGdnOutRefIdeal.nD Cert.AdamGdnOutRefIdeal.τ).loc Cert.AdamGdnOutRefIdeal.main_arg2)
      ∧ r.2.mem ((c.tc : Thread Cert.AdamGdnOutRefIdeal.nD Cert.AdamGdnOutRefIdeal.τ).loc Cert.AdamGdnOutRefIdeal.main_arg3) = m ((c.tc : Thread Cert.AdamGdnOutRefIdeal.nD Cert.AdamGdnOutRefIdeal.τ).loc Cert.AdamGdnOutRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_Relu [hRelu : Cert.Relu.Facts] : Prop :=
  ∀ (m : (ℓ : Loc Cert.Relu.nD Cert.Relu.τ Cert.Relu.sig) → Buf (Elt Bits) ℓ) (g : Dev Cert.Relu.nD → PrngReg), Pre_Relu m →
    θ_run (Cert.Relu.defs (F := Bits)) (onTc (τ := Cert.Relu.τ) (Cert.Relu.main (F := Bits))) ⟨m, fun _ => 0, g⟩ (fun r => (∀ c : Dev Cert.Relu.nD,
      r.2.mem ((c.tc : Thread Cert.Relu.nD Cert.Relu.τ).loc Cert.Relu.main_arg0) = m ((c.tc : Thread Cert.Relu.nD Cert.Relu.τ).loc Cert.Relu.main_arg0))
      ∧ r.2.sem = fun _ => 0)

def quiescent_ReluIdeal [hReluIdeal : Cert.ReluIdeal.Facts] : Prop :=
  ∀ (m : (ℓ : Loc Cert.ReluIdeal.nD Cert.ReluIdeal.τ Cert.ReluIdeal.sig) → Buf (Elt Ideal) ℓ) (g : Dev Cert.ReluIdeal.nD → PrngReg), Pre_ReluIdeal m →
    θ_run (Cert.ReluIdeal.defs (F := Ideal)) (onTc (τ := Cert.ReluIdeal.τ) (Cert.ReluIdeal.main (F := Ideal))) ⟨m, fun _ => 0, g⟩ (fun r => (∀ c : Dev Cert.ReluIdeal.nD,
      r.2.mem ((c.tc : Thread Cert.ReluIdeal.nD Cert.ReluIdeal.τ).loc Cert.ReluIdeal.main_arg0) = m ((c.tc : Thread Cert.ReluIdeal.nD Cert.ReluIdeal.τ).loc Cert.ReluIdeal.main_arg0))
      ∧ r.2.sem = fun _ => 0)

def quiescent_ReluRefIdeal [hReluRefIdeal : Cert.ReluRefIdeal.Facts] : Prop :=
  ∀ (m : (ℓ : Loc Cert.ReluRefIdeal.nD Cert.ReluRefIdeal.τ Cert.ReluRefIdeal.sig) → Buf (Elt Ideal) ℓ) (g : Dev Cert.ReluRefIdeal.nD → PrngReg), Pre_ReluRefIdeal m →
    θ_run (Cert.ReluRefIdeal.defs (F := Ideal)) (onTc (τ := Cert.ReluRefIdeal.τ) (Cert.ReluRefIdeal.main (F := Ideal))) ⟨m, fun _ => 0, g⟩ (fun r => (∀ c : Dev Cert.ReluRefIdeal.nD,
      r.2.mem ((c.tc : Thread Cert.ReluRefIdeal.nD Cert.ReluRefIdeal.τ).loc Cert.ReluRefIdeal.main_arg0) = m ((c.tc : Thread Cert.ReluRefIdeal.nD Cert.ReluRefIdeal.τ).loc Cert.ReluRefIdeal.main_arg0))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_MmIn [hMmIn : Cert.MmIn.Facts] : Prop :=
  ∀ (m : (ℓ : Loc Cert.MmIn.nD Cert.MmIn.τ Cert.MmIn.sig) → Buf (Elt Bits) ℓ) (g : Dev Cert.MmIn.nD → PrngReg), Pre_MmIn m →
    θ_run (Cert.MmIn.defs (F := Bits)) (onTc (τ := Cert.MmIn.τ) (Cert.MmIn.main (F := Bits))) ⟨m, fun _ => 0, g⟩ (fun r => (∀ c : Dev Cert.MmIn.nD,
      r.2.mem ((c.tc : Thread Cert.MmIn.nD Cert.MmIn.τ).loc Cert.MmIn.main_arg0) = m ((c.tc : Thread Cert.MmIn.nD Cert.MmIn.τ).loc Cert.MmIn.main_arg0)
      ∧ r.2.mem ((c.tc : Thread Cert.MmIn.nD Cert.MmIn.τ).loc Cert.MmIn.main_arg1) = m ((c.tc : Thread Cert.MmIn.nD Cert.MmIn.τ).loc Cert.MmIn.main_arg1))
      ∧ r.2.sem = fun _ => 0)

def quiescent_MmInIdeal [hMmInIdeal : Cert.MmInIdeal.Facts] : Prop :=
  ∀ (m : (ℓ : Loc Cert.MmInIdeal.nD Cert.MmInIdeal.τ Cert.MmInIdeal.sig) → Buf (Elt Ideal) ℓ) (g : Dev Cert.MmInIdeal.nD → PrngReg), Pre_MmInIdeal m →
    θ_run (Cert.MmInIdeal.defs (F := Ideal)) (onTc (τ := Cert.MmInIdeal.τ) (Cert.MmInIdeal.main (F := Ideal))) ⟨m, fun _ => 0, g⟩ (fun r => (∀ c : Dev Cert.MmInIdeal.nD,
      r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
      ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ r.2.sem = fun _ => 0)

def quiescent_MmInRefIdeal [hMmInRefIdeal : Cert.MmInRefIdeal.Facts] : Prop :=
  ∀ (m : (ℓ : Loc Cert.MmInRefIdeal.nD Cert.MmInRefIdeal.τ Cert.MmInRefIdeal.sig) → Buf (Elt Ideal) ℓ) (g : Dev Cert.MmInRefIdeal.nD → PrngReg), Pre_MmInRefIdeal m →
    θ_run (Cert.MmInRefIdeal.defs (F := Ideal)) (onTc (τ := Cert.MmInRefIdeal.τ) (Cert.MmInRefIdeal.main (F := Ideal))) ⟨m, fun _ => 0, g⟩ (fun r => (∀ c : Dev Cert.MmInRefIdeal.nD,
      r.2.mem ((c.tc : Thread Cert.MmInRefIdeal.nD Cert.MmInRefIdeal.τ).loc Cert.MmInRefIdeal.main_arg0) = m ((c.tc : Thread Cert.MmInRefIdeal.nD Cert.MmInRefIdeal.τ).loc Cert.MmInRefIdeal.main_arg0)
      ∧ r.2.mem ((c.tc : Thread Cert.MmInRefIdeal.nD Cert.MmInRefIdeal.τ).loc Cert.MmInRefIdeal.main_arg1) = m ((c.tc : Thread Cert.MmInRefIdeal.nD Cert.MmInRefIdeal.τ).loc Cert.MmInRefIdeal.main_arg1))
      ∧ r.2.sem = fun _ => 0)

def quiescent_MmUq [hMmUq : Cert.MmUq.Facts] : Prop :=
  ∀ (m : (ℓ : Loc Cert.MmUq.nD Cert.MmUq.τ Cert.MmUq.sig) → Buf (Elt Bits) ℓ) (g : Dev Cert.MmUq.nD → PrngReg), Pre_MmUq m →
    θ_run (Cert.MmUq.defs (F := Bits)) (onTc (τ := Cert.MmUq.τ) (Cert.MmUq.main (F := Bits))) ⟨m, fun _ => 0, g⟩ (fun r => (∀ c : Dev Cert.MmUq.nD,
      r.2.mem ((c.tc : Thread Cert.MmUq.nD Cert.MmUq.τ).loc Cert.MmUq.main_arg0) = m ((c.tc : Thread Cert.MmUq.nD Cert.MmUq.τ).loc Cert.MmUq.main_arg0)
      ∧ r.2.mem ((c.tc : Thread Cert.MmUq.nD Cert.MmUq.τ).loc Cert.MmUq.main_arg1) = m ((c.tc : Thread Cert.MmUq.nD Cert.MmUq.τ).loc Cert.MmUq.main_arg1))
      ∧ r.2.sem = fun _ => 0)

def quiescent_MmUqIdeal [hMmUqIdeal : Cert.MmUqIdeal.Facts] : Prop :=
  ∀ (m : (ℓ : Loc Cert.MmUqIdeal.nD Cert.MmUqIdeal.τ Cert.MmUqIdeal.sig) → Buf (Elt Ideal) ℓ) (g : Dev Cert.MmUqIdeal.nD → PrngReg), Pre_MmUqIdeal m →
    θ_run (Cert.MmUqIdeal.defs (F := Ideal)) (onTc (τ := Cert.MmUqIdeal.τ) (Cert.MmUqIdeal.main (F := Ideal))) ⟨m, fun _ => 0, g⟩ (fun r => (∀ c : Dev Cert.MmUqIdeal.nD,
      r.2.mem ((c.tc : Thread Cert.MmUqIdeal.nD Cert.MmUqIdeal.τ).loc Cert.MmUqIdeal.main_arg0) = m ((c.tc : Thread Cert.MmUqIdeal.nD Cert.MmUqIdeal.τ).loc Cert.MmUqIdeal.main_arg0)
      ∧ r.2.mem ((c.tc : Thread Cert.MmUqIdeal.nD Cert.MmUqIdeal.τ).loc Cert.MmUqIdeal.main_arg1) = m ((c.tc : Thread Cert.MmUqIdeal.nD Cert.MmUqIdeal.τ).loc Cert.MmUqIdeal.main_arg1))
      ∧ r.2.sem = fun _ => 0)

def quiescent_MmUqRefIdeal [hMmUqRefIdeal : Cert.MmUqRefIdeal.Facts] : Prop :=
  ∀ (m : (ℓ : Loc Cert.MmUqRefIdeal.nD Cert.MmUqRefIdeal.τ Cert.MmUqRefIdeal.sig) → Buf (Elt Ideal) ℓ) (g : Dev Cert.MmUqRefIdeal.nD → PrngReg), Pre_MmUqRefIdeal m →
    θ_run (Cert.MmUqRefIdeal.defs (F := Ideal)) (onTc (τ := Cert.MmUqRefIdeal.τ) (Cert.MmUqRefIdeal.main (F := Ideal))) ⟨m, fun _ => 0, g⟩ (fun r => (∀ c : Dev Cert.MmUqRefIdeal.nD,
      r.2.mem ((c.tc : Thread Cert.MmUqRefIdeal.nD Cert.MmUqRefIdeal.τ).loc Cert.MmUqRefIdeal.main_arg0) = m ((c.tc : Thread Cert.MmUqRefIdeal.nD Cert.MmUqRefIdeal.τ).loc Cert.MmUqRefIdeal.main_arg0)
      ∧ r.2.mem ((c.tc : Thread Cert.MmUqRefIdeal.nD Cert.MmUqRefIdeal.τ).loc Cert.MmUqRefIdeal.main_arg1) = m ((c.tc : Thread Cert.MmUqRefIdeal.nD Cert.MmUqRefIdeal.τ).loc Cert.MmUqRefIdeal.main_arg1))
      ∧ r.2.sem = fun _ => 0)

def quiescent_MmUkv [hMmUkv : Cert.MmUkv.Facts] : Prop :=
  ∀ (m : (ℓ : Loc Cert.MmUkv.nD Cert.MmUkv.τ Cert.MmUkv.sig) → Buf (Elt Bits) ℓ) (g : Dev Cert.MmUkv.nD → PrngReg), Pre_MmUkv m →
    θ_run (Cert.MmUkv.defs (F := Bits)) (onTc (τ := Cert.MmUkv.τ) (Cert.MmUkv.main (F := Bits))) ⟨m, fun _ => 0, g⟩ (fun r => (∀ c : Dev Cert.MmUkv.nD,
      r.2.mem ((c.tc : Thread Cert.MmUkv.nD Cert.MmUkv.τ).loc Cert.MmUkv.main_arg0) = m ((c.tc : Thread Cert.MmUkv.nD Cert.MmUkv.τ).loc Cert.MmUkv.main_arg0)
      ∧ r.2.mem ((c.tc : Thread Cert.MmUkv.nD Cert.MmUkv.τ).loc Cert.MmUkv.main_arg1) = m ((c.tc : Thread Cert.MmUkv.nD Cert.MmUkv.τ).loc Cert.MmUkv.main_arg1))
      ∧ r.2.sem = fun _ => 0)

def quiescent_MmUkvIdeal [hMmUkvIdeal : Cert.MmUkvIdeal.Facts] : Prop :=
  ∀ (m : (ℓ : Loc Cert.MmUkvIdeal.nD Cert.MmUkvIdeal.τ Cert.MmUkvIdeal.sig) → Buf (Elt Ideal) ℓ) (g : Dev Cert.MmUkvIdeal.nD → PrngReg), Pre_MmUkvIdeal m →
    θ_run (Cert.MmUkvIdeal.defs (F := Ideal)) (onTc (τ := Cert.MmUkvIdeal.τ) (Cert.MmUkvIdeal.main (F := Ideal))) ⟨m, fun _ => 0, g⟩ (fun r => (∀ c : Dev Cert.MmUkvIdeal.nD,
      r.2.mem ((c.tc : Thread Cert.MmUkvIdeal.nD Cert.MmUkvIdeal.τ).loc Cert.MmUkvIdeal.main_arg0) = m ((c.tc : Thread Cert.MmUkvIdeal.nD Cert.MmUkvIdeal.τ).loc Cert.MmUkvIdeal.main_arg0)
      ∧ r.2.mem ((c.tc : Thread Cert.MmUkvIdeal.nD Cert.MmUkvIdeal.τ).loc Cert.MmUkvIdeal.main_arg1) = m ((c.tc : Thread Cert.MmUkvIdeal.nD Cert.MmUkvIdeal.τ).loc Cert.MmUkvIdeal.main_arg1))
      ∧ r.2.sem = fun _ => 0)

def quiescent_MmUkvRefIdeal [hMmUkvRefIdeal : Cert.MmUkvRefIdeal.Facts] : Prop :=
  ∀ (m : (ℓ : Loc Cert.MmUkvRefIdeal.nD Cert.MmUkvRefIdeal.τ Cert.MmUkvRefIdeal.sig) → Buf (Elt Ideal) ℓ) (g : Dev Cert.MmUkvRefIdeal.nD → PrngReg), Pre_MmUkvRefIdeal m →
    θ_run (Cert.MmUkvRefIdeal.defs (F := Ideal)) (onTc (τ := Cert.MmUkvRefIdeal.τ) (Cert.MmUkvRefIdeal.main (F := Ideal))) ⟨m, fun _ => 0, g⟩ (fun r => (∀ c : Dev Cert.MmUkvRefIdeal.nD,
      r.2.mem ((c.tc : Thread Cert.MmUkvRefIdeal.nD Cert.MmUkvRefIdeal.τ).loc Cert.MmUkvRefIdeal.main_arg0) = m ((c.tc : Thread Cert.MmUkvRefIdeal.nD Cert.MmUkvRefIdeal.τ).loc Cert.MmUkvRefIdeal.main_arg0)
      ∧ r.2.mem ((c.tc : Thread Cert.MmUkvRefIdeal.nD Cert.MmUkvRefIdeal.τ).loc Cert.MmUkvRefIdeal.main_arg1) = m ((c.tc : Thread Cert.MmUkvRefIdeal.nD Cert.MmUkvRefIdeal.τ).loc Cert.MmUkvRefIdeal.main_arg1))
      ∧ r.2.sem = fun _ => 0)

def quiescent_MmOut [hMmOut : Cert.MmOut.Facts] : Prop :=
  ∀ (m : (ℓ : Loc Cert.MmOut.nD Cert.MmOut.τ Cert.MmOut.sig) → Buf (Elt Bits) ℓ) (g : Dev Cert.MmOut.nD → PrngReg), Pre_MmOut m →
    θ_run (Cert.MmOut.defs (F := Bits)) (onTc (τ := Cert.MmOut.τ) (Cert.MmOut.main (F := Bits))) ⟨m, fun _ => 0, g⟩ (fun r => (∀ c : Dev Cert.MmOut.nD,
      r.2.mem ((c.tc : Thread Cert.MmOut.nD Cert.MmOut.τ).loc Cert.MmOut.main_arg0) = m ((c.tc : Thread Cert.MmOut.nD Cert.MmOut.τ).loc Cert.MmOut.main_arg0)
      ∧ r.2.mem ((c.tc : Thread Cert.MmOut.nD Cert.MmOut.τ).loc Cert.MmOut.main_arg1) = m ((c.tc : Thread Cert.MmOut.nD Cert.MmOut.τ).loc Cert.MmOut.main_arg1))
      ∧ r.2.sem = fun _ => 0)

def quiescent_MmOutIdeal [hMmOutIdeal : Cert.MmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg), Pre_MmOutIdeal m →
    θ_run (Cert.MmOutIdeal.defs (F := Ideal)) (onTc (τ := Cert.MmOutIdeal.τ) (Cert.MmOutIdeal.main (F := Ideal))) ⟨m, fun _ => 0, g⟩ (fun r => (∀ c : Dev Cert.MmOutIdeal.nD,
      r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
      ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1))
      ∧ r.2.sem = fun _ => 0)

def quiescent_MmOutRefIdeal [hMmOutRefIdeal : Cert.MmOutRefIdeal.Facts] : Prop :=
  ∀ (m : (ℓ : Loc Cert.MmOutRefIdeal.nD Cert.MmOutRefIdeal.τ Cert.MmOutRefIdeal.sig) → Buf (Elt Ideal) ℓ) (g : Dev Cert.MmOutRefIdeal.nD → PrngReg), Pre_MmOutRefIdeal m →
    θ_run (Cert.MmOutRefIdeal.defs (F := Ideal)) (onTc (τ := Cert.MmOutRefIdeal.τ) (Cert.MmOutRefIdeal.main (F := Ideal))) ⟨m, fun _ => 0, g⟩ (fun r => (∀ c : Dev Cert.MmOutRefIdeal.nD,
      r.2.mem ((c.tc : Thread Cert.MmOutRefIdeal.nD Cert.MmOutRefIdeal.τ).loc Cert.MmOutRefIdeal.main_arg0) = m ((c.tc : Thread Cert.MmOutRefIdeal.nD Cert.MmOutRefIdeal.τ).loc Cert.MmOutRefIdeal.main_arg0)
      ∧ r.2.mem ((c.tc : Thread Cert.MmOutRefIdeal.nD Cert.MmOutRefIdeal.τ).loc Cert.MmOutRefIdeal.main_arg1) = m ((c.tc : Thread Cert.MmOutRefIdeal.nD Cert.MmOutRefIdeal.τ).loc Cert.MmOutRefIdeal.main_arg1))
      ∧ r.2.sem = fun _ => 0)

def quiescent_MmUp [hMmUp : Cert.MmUp.Facts] : Prop :=
  ∀ (m : (ℓ : Loc Cert.MmUp.nD Cert.MmUp.τ Cert.MmUp.sig) → Buf (Elt Bits) ℓ) (g : Dev Cert.MmUp.nD → PrngReg), Pre_MmUp m →
    θ_run (Cert.MmUp.defs (F := Bits)) (onTc (τ := Cert.MmUp.τ) (Cert.MmUp.main (F := Bits))) ⟨m, fun _ => 0, g⟩ (fun r => (∀ c : Dev Cert.MmUp.nD,
      r.2.mem ((c.tc : Thread Cert.MmUp.nD Cert.MmUp.τ).loc Cert.MmUp.main_arg0) = m ((c.tc : Thread Cert.MmUp.nD Cert.MmUp.τ).loc Cert.MmUp.main_arg0)
      ∧ r.2.mem ((c.tc : Thread Cert.MmUp.nD Cert.MmUp.τ).loc Cert.MmUp.main_arg1) = m ((c.tc : Thread Cert.MmUp.nD Cert.MmUp.τ).loc Cert.MmUp.main_arg1))
      ∧ r.2.sem = fun _ => 0)

def quiescent_MmUpIdeal [hMmUpIdeal : Cert.MmUpIdeal.Facts] : Prop :=
  ∀ (m : (ℓ : Loc Cert.MmUpIdeal.nD Cert.MmUpIdeal.τ Cert.MmUpIdeal.sig) → Buf (Elt Ideal) ℓ) (g : Dev Cert.MmUpIdeal.nD → PrngReg), Pre_MmUpIdeal m →
    θ_run (Cert.MmUpIdeal.defs (F := Ideal)) (onTc (τ := Cert.MmUpIdeal.τ) (Cert.MmUpIdeal.main (F := Ideal))) ⟨m, fun _ => 0, g⟩ (fun r => (∀ c : Dev Cert.MmUpIdeal.nD,
      r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
      ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ r.2.sem = fun _ => 0)

def quiescent_MmUpRefIdeal [hMmUpRefIdeal : Cert.MmUpRefIdeal.Facts] : Prop :=
  ∀ (m : (ℓ : Loc Cert.MmUpRefIdeal.nD Cert.MmUpRefIdeal.τ Cert.MmUpRefIdeal.sig) → Buf (Elt Ideal) ℓ) (g : Dev Cert.MmUpRefIdeal.nD → PrngReg), Pre_MmUpRefIdeal m →
    θ_run (Cert.MmUpRefIdeal.defs (F := Ideal)) (onTc (τ := Cert.MmUpRefIdeal.τ) (Cert.MmUpRefIdeal.main (F := Ideal))) ⟨m, fun _ => 0, g⟩ (fun r => (∀ c : Dev Cert.MmUpRefIdeal.nD,
      r.2.mem ((c.tc : Thread Cert.MmUpRefIdeal.nD Cert.MmUpRefIdeal.τ).loc Cert.MmUpRefIdeal.main_arg0) = m ((c.tc : Thread Cert.MmUpRefIdeal.nD Cert.MmUpRefIdeal.τ).loc Cert.MmUpRefIdeal.main_arg0)
      ∧ r.2.mem ((c.tc : Thread Cert.MmUpRefIdeal.nD Cert.MmUpRefIdeal.τ).loc Cert.MmUpRefIdeal.main_arg1) = m ((c.tc : Thread Cert.MmUpRefIdeal.nD Cert.MmUpRefIdeal.τ).loc Cert.MmUpRefIdeal.main_arg1))
      ∧ r.2.sem = fun _ => 0)

def quiescent_MmDown [hMmDown : Cert.MmDown.Facts] : Prop :=
  ∀ (m : (ℓ : Loc Cert.MmDown.nD Cert.MmDown.τ Cert.MmDown.sig) → Buf (Elt Bits) ℓ) (g : Dev Cert.MmDown.nD → PrngReg), Pre_MmDown m →
    θ_run (Cert.MmDown.defs (F := Bits)) (onTc (τ := Cert.MmDown.τ) (Cert.MmDown.main (F := Bits))) ⟨m, fun _ => 0, g⟩ (fun r => (∀ c : Dev Cert.MmDown.nD,
      r.2.mem ((c.tc : Thread Cert.MmDown.nD Cert.MmDown.τ).loc Cert.MmDown.main_arg0) = m ((c.tc : Thread Cert.MmDown.nD Cert.MmDown.τ).loc Cert.MmDown.main_arg0)
      ∧ r.2.mem ((c.tc : Thread Cert.MmDown.nD Cert.MmDown.τ).loc Cert.MmDown.main_arg1) = m ((c.tc : Thread Cert.MmDown.nD Cert.MmDown.τ).loc Cert.MmDown.main_arg1))
      ∧ r.2.sem = fun _ => 0)

def quiescent_MmDownIdeal [hMmDownIdeal : Cert.MmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg), Pre_MmDownIdeal m →
    θ_run (Cert.MmDownIdeal.defs (F := Ideal)) (onTc (τ := Cert.MmDownIdeal.τ) (Cert.MmDownIdeal.main (F := Ideal))) ⟨m, fun _ => 0, g⟩ (fun r => (∀ c : Dev Cert.MmDownIdeal.nD,
      r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
      ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1))
      ∧ r.2.sem = fun _ => 0)

def quiescent_MmDownRefIdeal [hMmDownRefIdeal : Cert.MmDownRefIdeal.Facts] : Prop :=
  ∀ (m : (ℓ : Loc Cert.MmDownRefIdeal.nD Cert.MmDownRefIdeal.τ Cert.MmDownRefIdeal.sig) → Buf (Elt Ideal) ℓ) (g : Dev Cert.MmDownRefIdeal.nD → PrngReg), Pre_MmDownRefIdeal m →
    θ_run (Cert.MmDownRefIdeal.defs (F := Ideal)) (onTc (τ := Cert.MmDownRefIdeal.τ) (Cert.MmDownRefIdeal.main (F := Ideal))) ⟨m, fun _ => 0, g⟩ (fun r => (∀ c : Dev Cert.MmDownRefIdeal.nD,
      r.2.mem ((c.tc : Thread Cert.MmDownRefIdeal.nD Cert.MmDownRefIdeal.τ).loc Cert.MmDownRefIdeal.main_arg0) = m ((c.tc : Thread Cert.MmDownRefIdeal.nD Cert.MmDownRefIdeal.τ).loc Cert.MmDownRefIdeal.main_arg0)
      ∧ r.2.mem ((c.tc : Thread Cert.MmDownRefIdeal.nD Cert.MmDownRefIdeal.τ).loc Cert.MmDownRefIdeal.main_arg1) = m ((c.tc : Thread Cert.MmDownRefIdeal.nD Cert.MmDownRefIdeal.τ).loc Cert.MmDownRefIdeal.main_arg1))
      ∧ r.2.sem = fun _ => 0)

def quiescent_SsdPost [hSsdPost : Cert.SsdPost.Facts] : Prop :=
  ∀ (m : (ℓ : Loc Cert.SsdPost.nD Cert.SsdPost.τ Cert.SsdPost.sig) → Buf (Elt Bits) ℓ) (g : Dev Cert.SsdPost.nD → PrngReg), Pre_SsdPost m →
    θ_run (Cert.SsdPost.defs (F := Bits)) (onTc (τ := Cert.SsdPost.τ) (Cert.SsdPost.main (F := Bits))) ⟨m, fun _ => 0, g⟩ (fun r => (∀ c : Dev Cert.SsdPost.nD,
      r.2.mem ((c.tc : Thread Cert.SsdPost.nD Cert.SsdPost.τ).loc Cert.SsdPost.main_arg0) = m ((c.tc : Thread Cert.SsdPost.nD Cert.SsdPost.τ).loc Cert.SsdPost.main_arg0)
      ∧ r.2.mem ((c.tc : Thread Cert.SsdPost.nD Cert.SsdPost.τ).loc Cert.SsdPost.main_arg1) = m ((c.tc : Thread Cert.SsdPost.nD Cert.SsdPost.τ).loc Cert.SsdPost.main_arg1)
      ∧ r.2.mem ((c.tc : Thread Cert.SsdPost.nD Cert.SsdPost.τ).loc Cert.SsdPost.main_arg2) = m ((c.tc : Thread Cert.SsdPost.nD Cert.SsdPost.τ).loc Cert.SsdPost.main_arg2))
      ∧ r.2.sem = fun _ => 0)

def quiescent_SsdPostIdeal [hSsdPostIdeal : Cert.SsdPostIdeal.Facts] : Prop :=
  ∀ (m : (ℓ : Loc Cert.SsdPostIdeal.nD Cert.SsdPostIdeal.τ Cert.SsdPostIdeal.sig) → Buf (Elt Ideal) ℓ) (g : Dev Cert.SsdPostIdeal.nD → PrngReg), Pre_SsdPostIdeal m →
    θ_run (Cert.SsdPostIdeal.defs (F := Ideal)) (onTc (τ := Cert.SsdPostIdeal.τ) (Cert.SsdPostIdeal.main (F := Ideal))) ⟨m, fun _ => 0, g⟩ (fun r => (∀ c : Dev Cert.SsdPostIdeal.nD,
      r.2.mem ((c.tc : Thread Cert.SsdPostIdeal.nD Cert.SsdPostIdeal.τ).loc Cert.SsdPostIdeal.main_arg0) = m ((c.tc : Thread Cert.SsdPostIdeal.nD Cert.SsdPostIdeal.τ).loc Cert.SsdPostIdeal.main_arg0)
      ∧ r.2.mem ((c.tc : Thread Cert.SsdPostIdeal.nD Cert.SsdPostIdeal.τ).loc Cert.SsdPostIdeal.main_arg1) = m ((c.tc : Thread Cert.SsdPostIdeal.nD Cert.SsdPostIdeal.τ).loc Cert.SsdPostIdeal.main_arg1)
      ∧ r.2.mem ((c.tc : Thread Cert.SsdPostIdeal.nD Cert.SsdPostIdeal.τ).loc Cert.SsdPostIdeal.main_arg2) = m ((c.tc : Thread Cert.SsdPostIdeal.nD Cert.SsdPostIdeal.τ).loc Cert.SsdPostIdeal.main_arg2))
      ∧ r.2.sem = fun _ => 0)

def quiescent_SsdPostRefIdeal [hSsdPostRefIdeal : Cert.SsdPostRefIdeal.Facts] : Prop :=
  ∀ (m : (ℓ : Loc Cert.SsdPostRefIdeal.nD Cert.SsdPostRefIdeal.τ Cert.SsdPostRefIdeal.sig) → Buf (Elt Ideal) ℓ) (g : Dev Cert.SsdPostRefIdeal.nD → PrngReg), Pre_SsdPostRefIdeal m →
    θ_run (Cert.SsdPostRefIdeal.defs (F := Ideal)) (onTc (τ := Cert.SsdPostRefIdeal.τ) (Cert.SsdPostRefIdeal.main (F := Ideal))) ⟨m, fun _ => 0, g⟩ (fun r => (∀ c : Dev Cert.SsdPostRefIdeal.nD,
      r.2.mem ((c.tc : Thread Cert.SsdPostRefIdeal.nD Cert.SsdPostRefIdeal.τ).loc Cert.SsdPostRefIdeal.main_arg0) = m ((c.tc : Thread Cert.SsdPostRefIdeal.nD Cert.SsdPostRefIdeal.τ).loc Cert.SsdPostRefIdeal.main_arg0)
      ∧ r.2.mem ((c.tc : Thread Cert.SsdPostRefIdeal.nD Cert.SsdPostRefIdeal.τ).loc Cert.SsdPostRefIdeal.main_arg1) = m ((c.tc : Thread Cert.SsdPostRefIdeal.nD Cert.SsdPostRefIdeal.τ).loc Cert.SsdPostRefIdeal.main_arg1)
      ∧ r.2.mem ((c.tc : Thread Cert.SsdPostRefIdeal.nD Cert.SsdPostRefIdeal.τ).loc Cert.SsdPostRefIdeal.main_arg2) = m ((c.tc : Thread Cert.SsdPostRefIdeal.nD Cert.SsdPostRefIdeal.τ).loc Cert.SsdPostRefIdeal.main_arg2))
      ∧ r.2.sem = fun _ => 0)

def quiescent_GdnPost [hGdnPost : Cert.GdnPost.Facts] : Prop :=
  ∀ (m : (ℓ : Loc Cert.GdnPost.nD Cert.GdnPost.τ Cert.GdnPost.sig) → Buf (Elt Bits) ℓ) (g : Dev Cert.GdnPost.nD → PrngReg), Pre_GdnPost m →
    θ_run (Cert.GdnPost.defs (F := Bits)) (onTc (τ := Cert.GdnPost.τ) (Cert.GdnPost.main (F := Bits))) ⟨m, fun _ => 0, g⟩ (fun r => (∀ c : Dev Cert.GdnPost.nD,
      r.2.mem ((c.tc : Thread Cert.GdnPost.nD Cert.GdnPost.τ).loc Cert.GdnPost.main_arg0) = m ((c.tc : Thread Cert.GdnPost.nD Cert.GdnPost.τ).loc Cert.GdnPost.main_arg0)
      ∧ r.2.mem ((c.tc : Thread Cert.GdnPost.nD Cert.GdnPost.τ).loc Cert.GdnPost.main_arg1) = m ((c.tc : Thread Cert.GdnPost.nD Cert.GdnPost.τ).loc Cert.GdnPost.main_arg1)
      ∧ r.2.mem ((c.tc : Thread Cert.GdnPost.nD Cert.GdnPost.τ).loc Cert.GdnPost.main_arg2) = m ((c.tc : Thread Cert.GdnPost.nD Cert.GdnPost.τ).loc Cert.GdnPost.main_arg2))
      ∧ r.2.sem = fun _ => 0)

def quiescent_GdnPostIdeal [hGdnPostIdeal : Cert.GdnPostIdeal.Facts] : Prop :=
  ∀ (m : (ℓ : Loc Cert.GdnPostIdeal.nD Cert.GdnPostIdeal.τ Cert.GdnPostIdeal.sig) → Buf (Elt Ideal) ℓ) (g : Dev Cert.GdnPostIdeal.nD → PrngReg), Pre_GdnPostIdeal m →
    θ_run (Cert.GdnPostIdeal.defs (F := Ideal)) (onTc (τ := Cert.GdnPostIdeal.τ) (Cert.GdnPostIdeal.main (F := Ideal))) ⟨m, fun _ => 0, g⟩ (fun r => (∀ c : Dev Cert.GdnPostIdeal.nD,
      r.2.mem ((c.tc : Thread Cert.GdnPostIdeal.nD Cert.GdnPostIdeal.τ).loc Cert.GdnPostIdeal.main_arg0) = m ((c.tc : Thread Cert.GdnPostIdeal.nD Cert.GdnPostIdeal.τ).loc Cert.GdnPostIdeal.main_arg0)
      ∧ r.2.mem ((c.tc : Thread Cert.GdnPostIdeal.nD Cert.GdnPostIdeal.τ).loc Cert.GdnPostIdeal.main_arg1) = m ((c.tc : Thread Cert.GdnPostIdeal.nD Cert.GdnPostIdeal.τ).loc Cert.GdnPostIdeal.main_arg1)
      ∧ r.2.mem ((c.tc : Thread Cert.GdnPostIdeal.nD Cert.GdnPostIdeal.τ).loc Cert.GdnPostIdeal.main_arg2) = m ((c.tc : Thread Cert.GdnPostIdeal.nD Cert.GdnPostIdeal.τ).loc Cert.GdnPostIdeal.main_arg2))
      ∧ r.2.sem = fun _ => 0)

def quiescent_GdnPostRefIdeal [hGdnPostRefIdeal : Cert.GdnPostRefIdeal.Facts] : Prop :=
  ∀ (m : (ℓ : Loc Cert.GdnPostRefIdeal.nD Cert.GdnPostRefIdeal.τ Cert.GdnPostRefIdeal.sig) → Buf (Elt Ideal) ℓ) (g : Dev Cert.GdnPostRefIdeal.nD → PrngReg), Pre_GdnPostRefIdeal m →
    θ_run (Cert.GdnPostRefIdeal.defs (F := Ideal)) (onTc (τ := Cert.GdnPostRefIdeal.τ) (Cert.GdnPostRefIdeal.main (F := Ideal))) ⟨m, fun _ => 0, g⟩ (fun r => (∀ c : Dev Cert.GdnPostRefIdeal.nD,
      r.2.mem ((c.tc : Thread Cert.GdnPostRefIdeal.nD Cert.GdnPostRefIdeal.τ).loc Cert.GdnPostRefIdeal.main_arg0) = m ((c.tc : Thread Cert.GdnPostRefIdeal.nD Cert.GdnPostRefIdeal.τ).loc Cert.GdnPostRefIdeal.main_arg0)
      ∧ r.2.mem ((c.tc : Thread Cert.GdnPostRefIdeal.nD Cert.GdnPostRefIdeal.τ).loc Cert.GdnPostRefIdeal.main_arg1) = m ((c.tc : Thread Cert.GdnPostRefIdeal.nD Cert.GdnPostRefIdeal.τ).loc Cert.GdnPostRefIdeal.main_arg1)
      ∧ r.2.mem ((c.tc : Thread Cert.GdnPostRefIdeal.nD Cert.GdnPostRefIdeal.τ).loc Cert.GdnPostRefIdeal.main_arg2) = m ((c.tc : Thread Cert.GdnPostRefIdeal.nD Cert.GdnPostRefIdeal.τ).loc Cert.GdnPostRefIdeal.main_arg2))
      ∧ r.2.sem = fun _ => 0)

def quiescent_MlaNorm [hMlaNorm : Cert.MlaNorm.Facts] : Prop :=
  ∀ (m : (ℓ : Loc Cert.MlaNorm.nD Cert.MlaNorm.τ Cert.MlaNorm.sig) → Buf (Elt Bits) ℓ) (g : Dev Cert.MlaNorm.nD → PrngReg), Pre_MlaNorm m →
    θ_run (Cert.MlaNorm.defs (F := Bits)) (onTc (τ := Cert.MlaNorm.τ) (Cert.MlaNorm.main (F := Bits))) ⟨m, fun _ => 0, g⟩ (fun r => (∀ c : Dev Cert.MlaNorm.nD,
      r.2.mem ((c.tc : Thread Cert.MlaNorm.nD Cert.MlaNorm.τ).loc Cert.MlaNorm.main_arg0) = m ((c.tc : Thread Cert.MlaNorm.nD Cert.MlaNorm.τ).loc Cert.MlaNorm.main_arg0)
      ∧ r.2.mem ((c.tc : Thread Cert.MlaNorm.nD Cert.MlaNorm.τ).loc Cert.MlaNorm.main_arg1) = m ((c.tc : Thread Cert.MlaNorm.nD Cert.MlaNorm.τ).loc Cert.MlaNorm.main_arg1)
      ∧ r.2.mem ((c.tc : Thread Cert.MlaNorm.nD Cert.MlaNorm.τ).loc Cert.MlaNorm.main_arg2) = m ((c.tc : Thread Cert.MlaNorm.nD Cert.MlaNorm.τ).loc Cert.MlaNorm.main_arg2)
      ∧ r.2.mem ((c.tc : Thread Cert.MlaNorm.nD Cert.MlaNorm.τ).loc Cert.MlaNorm.main_arg3) = m ((c.tc : Thread Cert.MlaNorm.nD Cert.MlaNorm.τ).loc Cert.MlaNorm.main_arg3))
      ∧ r.2.sem = fun _ => 0)

def quiescent_MlaNormIdeal [hMlaNormIdeal : Cert.MlaNormIdeal.Facts] : Prop :=
  ∀ (m : (ℓ : Loc Cert.MlaNormIdeal.nD Cert.MlaNormIdeal.τ Cert.MlaNormIdeal.sig) → Buf (Elt Ideal) ℓ) (g : Dev Cert.MlaNormIdeal.nD → PrngReg), Pre_MlaNormIdeal m →
    θ_run (Cert.MlaNormIdeal.defs (F := Ideal)) (onTc (τ := Cert.MlaNormIdeal.τ) (Cert.MlaNormIdeal.main (F := Ideal))) ⟨m, fun _ => 0, g⟩ (fun r => (∀ c : Dev Cert.MlaNormIdeal.nD,
      r.2.mem ((c.tc : Thread Cert.MlaNormIdeal.nD Cert.MlaNormIdeal.τ).loc Cert.MlaNormIdeal.main_arg0) = m ((c.tc : Thread Cert.MlaNormIdeal.nD Cert.MlaNormIdeal.τ).loc Cert.MlaNormIdeal.main_arg0)
      ∧ r.2.mem ((c.tc : Thread Cert.MlaNormIdeal.nD Cert.MlaNormIdeal.τ).loc Cert.MlaNormIdeal.main_arg1) = m ((c.tc : Thread Cert.MlaNormIdeal.nD Cert.MlaNormIdeal.τ).loc Cert.MlaNormIdeal.main_arg1)
      ∧ r.2.mem ((c.tc : Thread Cert.MlaNormIdeal.nD Cert.MlaNormIdeal.τ).loc Cert.MlaNormIdeal.main_arg2) = m ((c.tc : Thread Cert.MlaNormIdeal.nD Cert.MlaNormIdeal.τ).loc Cert.MlaNormIdeal.main_arg2)
      ∧ r.2.mem ((c.tc : Thread Cert.MlaNormIdeal.nD Cert.MlaNormIdeal.τ).loc Cert.MlaNormIdeal.main_arg3) = m ((c.tc : Thread Cert.MlaNormIdeal.nD Cert.MlaNormIdeal.τ).loc Cert.MlaNormIdeal.main_arg3))
      ∧ r.2.sem = fun _ => 0)

def quiescent_MlaNormRefIdeal [hMlaNormRefIdeal : Cert.MlaNormRefIdeal.Facts] : Prop :=
  ∀ (m : (ℓ : Loc Cert.MlaNormRefIdeal.nD Cert.MlaNormRefIdeal.τ Cert.MlaNormRefIdeal.sig) → Buf (Elt Ideal) ℓ) (g : Dev Cert.MlaNormRefIdeal.nD → PrngReg), Pre_MlaNormRefIdeal m →
    θ_run (Cert.MlaNormRefIdeal.defs (F := Ideal)) (onTc (τ := Cert.MlaNormRefIdeal.τ) (Cert.MlaNormRefIdeal.main (F := Ideal))) ⟨m, fun _ => 0, g⟩ (fun r => (∀ c : Dev Cert.MlaNormRefIdeal.nD,
      r.2.mem ((c.tc : Thread Cert.MlaNormRefIdeal.nD Cert.MlaNormRefIdeal.τ).loc Cert.MlaNormRefIdeal.main_arg0) = m ((c.tc : Thread Cert.MlaNormRefIdeal.nD Cert.MlaNormRefIdeal.τ).loc Cert.MlaNormRefIdeal.main_arg0)
      ∧ r.2.mem ((c.tc : Thread Cert.MlaNormRefIdeal.nD Cert.MlaNormRefIdeal.τ).loc Cert.MlaNormRefIdeal.main_arg1) = m ((c.tc : Thread Cert.MlaNormRefIdeal.nD Cert.MlaNormRefIdeal.τ).loc Cert.MlaNormRefIdeal.main_arg1)
      ∧ r.2.mem ((c.tc : Thread Cert.MlaNormRefIdeal.nD Cert.MlaNormRefIdeal.τ).loc Cert.MlaNormRefIdeal.main_arg2) = m ((c.tc : Thread Cert.MlaNormRefIdeal.nD Cert.MlaNormRefIdeal.τ).loc Cert.MlaNormRefIdeal.main_arg2)
      ∧ r.2.mem ((c.tc : Thread Cert.MlaNormRefIdeal.nD Cert.MlaNormRefIdeal.τ).loc Cert.MlaNormRefIdeal.main_arg3) = m ((c.tc : Thread Cert.MlaNormRefIdeal.nD Cert.MlaNormRefIdeal.τ).loc Cert.MlaNormRefIdeal.main_arg3))
      ∧ r.2.sem = fun _ => 0)

def quiescent_LossBack [hLossBack : Cert.LossBack.Facts] : Prop :=
  ∀ (m : (ℓ : Loc Cert.LossBack.nD Cert.LossBack.τ Cert.LossBack.sig) → Buf (Elt Bits) ℓ) (g : Dev Cert.LossBack.nD → PrngReg), Pre_LossBack m →
    θ_run (Cert.LossBack.defs (F := Bits)) (onTc (τ := Cert.LossBack.τ) (Cert.LossBack.main (F := Bits))) ⟨m, fun _ => 0, g⟩ (fun r => (∀ c : Dev Cert.LossBack.nD,
      r.2.mem ((c.tc : Thread Cert.LossBack.nD Cert.LossBack.τ).loc Cert.LossBack.main_arg0) = m ((c.tc : Thread Cert.LossBack.nD Cert.LossBack.τ).loc Cert.LossBack.main_arg0)
      ∧ r.2.mem ((c.tc : Thread Cert.LossBack.nD Cert.LossBack.τ).loc Cert.LossBack.main_arg1) = m ((c.tc : Thread Cert.LossBack.nD Cert.LossBack.τ).loc Cert.LossBack.main_arg1)
      ∧ r.2.mem ((c.tc : Thread Cert.LossBack.nD Cert.LossBack.τ).loc Cert.LossBack.main_arg2) = m ((c.tc : Thread Cert.LossBack.nD Cert.LossBack.τ).loc Cert.LossBack.main_arg2)
      ∧ r.2.mem ((c.tc : Thread Cert.LossBack.nD Cert.LossBack.τ).loc Cert.LossBack.main_arg3) = m ((c.tc : Thread Cert.LossBack.nD Cert.LossBack.τ).loc Cert.LossBack.main_arg3))
      ∧ r.2.sem = fun _ => 0)

def quiescent_LossBackIdeal [hLossBackIdeal : Cert.LossBackIdeal.Facts] : Prop :=
  ∀ (m : (ℓ : Loc Cert.LossBackIdeal.nD Cert.LossBackIdeal.τ Cert.LossBackIdeal.sig) → Buf (Elt Ideal) ℓ) (g : Dev Cert.LossBackIdeal.nD → PrngReg), Pre_LossBackIdeal m →
    θ_run (Cert.LossBackIdeal.defs (F := Ideal)) (onTc (τ := Cert.LossBackIdeal.τ) (Cert.LossBackIdeal.main (F := Ideal))) ⟨m, fun _ => 0, g⟩ (fun r => (∀ c : Dev Cert.LossBackIdeal.nD,
      r.2.mem ((c.tc : Thread Cert.LossBackIdeal.nD Cert.LossBackIdeal.τ).loc Cert.LossBackIdeal.main_arg0) = m ((c.tc : Thread Cert.LossBackIdeal.nD Cert.LossBackIdeal.τ).loc Cert.LossBackIdeal.main_arg0)
      ∧ r.2.mem ((c.tc : Thread Cert.LossBackIdeal.nD Cert.LossBackIdeal.τ).loc Cert.LossBackIdeal.main_arg1) = m ((c.tc : Thread Cert.LossBackIdeal.nD Cert.LossBackIdeal.τ).loc Cert.LossBackIdeal.main_arg1)
      ∧ r.2.mem ((c.tc : Thread Cert.LossBackIdeal.nD Cert.LossBackIdeal.τ).loc Cert.LossBackIdeal.main_arg2) = m ((c.tc : Thread Cert.LossBackIdeal.nD Cert.LossBackIdeal.τ).loc Cert.LossBackIdeal.main_arg2)
      ∧ r.2.mem ((c.tc : Thread Cert.LossBackIdeal.nD Cert.LossBackIdeal.τ).loc Cert.LossBackIdeal.main_arg3) = m ((c.tc : Thread Cert.LossBackIdeal.nD Cert.LossBackIdeal.τ).loc Cert.LossBackIdeal.main_arg3))
      ∧ r.2.sem = fun _ => 0)

def quiescent_LossBackRefIdeal [hLossBackRefIdeal : Cert.LossBackRefIdeal.Facts] : Prop :=
  ∀ (m : (ℓ : Loc Cert.LossBackRefIdeal.nD Cert.LossBackRefIdeal.τ Cert.LossBackRefIdeal.sig) → Buf (Elt Ideal) ℓ) (g : Dev Cert.LossBackRefIdeal.nD → PrngReg), Pre_LossBackRefIdeal m →
    θ_run (Cert.LossBackRefIdeal.defs (F := Ideal)) (onTc (τ := Cert.LossBackRefIdeal.τ) (Cert.LossBackRefIdeal.main (F := Ideal))) ⟨m, fun _ => 0, g⟩ (fun r => (∀ c : Dev Cert.LossBackRefIdeal.nD,
      r.2.mem ((c.tc : Thread Cert.LossBackRefIdeal.nD Cert.LossBackRefIdeal.τ).loc Cert.LossBackRefIdeal.main_arg0) = m ((c.tc : Thread Cert.LossBackRefIdeal.nD Cert.LossBackRefIdeal.τ).loc Cert.LossBackRefIdeal.main_arg0)
      ∧ r.2.mem ((c.tc : Thread Cert.LossBackRefIdeal.nD Cert.LossBackRefIdeal.τ).loc Cert.LossBackRefIdeal.main_arg1) = m ((c.tc : Thread Cert.LossBackRefIdeal.nD Cert.LossBackRefIdeal.τ).loc Cert.LossBackRefIdeal.main_arg1)
      ∧ r.2.mem ((c.tc : Thread Cert.LossBackRefIdeal.nD Cert.LossBackRefIdeal.τ).loc Cert.LossBackRefIdeal.main_arg2) = m ((c.tc : Thread Cert.LossBackRefIdeal.nD Cert.LossBackRefIdeal.τ).loc Cert.LossBackRefIdeal.main_arg2)
      ∧ r.2.mem ((c.tc : Thread Cert.LossBackRefIdeal.nD Cert.LossBackRefIdeal.τ).loc Cert.LossBackRefIdeal.main_arg3) = m ((c.tc : Thread Cert.LossBackRefIdeal.nD Cert.LossBackRefIdeal.τ).loc Cert.LossBackRefIdeal.main_arg3))
      ∧ r.2.sem = fun _ => 0)

def quiescent_RmsBack [hRmsBack : Cert.RmsBack.Facts] : Prop :=
  ∀ (m : (ℓ : Loc Cert.RmsBack.nD Cert.RmsBack.τ Cert.RmsBack.sig) → Buf (Elt Bits) ℓ) (g : Dev Cert.RmsBack.nD → PrngReg), Pre_RmsBack m →
    θ_run (Cert.RmsBack.defs (F := Bits)) (onTc (τ := Cert.RmsBack.τ) (Cert.RmsBack.main (F := Bits))) ⟨m, fun _ => 0, g⟩ (fun r => (∀ c : Dev Cert.RmsBack.nD,
      r.2.mem ((c.tc : Thread Cert.RmsBack.nD Cert.RmsBack.τ).loc Cert.RmsBack.main_arg0) = m ((c.tc : Thread Cert.RmsBack.nD Cert.RmsBack.τ).loc Cert.RmsBack.main_arg0)
      ∧ r.2.mem ((c.tc : Thread Cert.RmsBack.nD Cert.RmsBack.τ).loc Cert.RmsBack.main_arg1) = m ((c.tc : Thread Cert.RmsBack.nD Cert.RmsBack.τ).loc Cert.RmsBack.main_arg1)
      ∧ r.2.mem ((c.tc : Thread Cert.RmsBack.nD Cert.RmsBack.τ).loc Cert.RmsBack.main_arg2) = m ((c.tc : Thread Cert.RmsBack.nD Cert.RmsBack.τ).loc Cert.RmsBack.main_arg2))
      ∧ r.2.sem = fun _ => 0)

def quiescent_RmsBackIdeal [hRmsBackIdeal : Cert.RmsBackIdeal.Facts] : Prop :=
  ∀ (m : (ℓ : Loc Cert.RmsBackIdeal.nD Cert.RmsBackIdeal.τ Cert.RmsBackIdeal.sig) → Buf (Elt Ideal) ℓ) (g : Dev Cert.RmsBackIdeal.nD → PrngReg), Pre_RmsBackIdeal m →
    θ_run (Cert.RmsBackIdeal.defs (F := Ideal)) (onTc (τ := Cert.RmsBackIdeal.τ) (Cert.RmsBackIdeal.main (F := Ideal))) ⟨m, fun _ => 0, g⟩ (fun r => (∀ c : Dev Cert.RmsBackIdeal.nD,
      r.2.mem ((c.tc : Thread Cert.RmsBackIdeal.nD Cert.RmsBackIdeal.τ).loc Cert.RmsBackIdeal.main_arg0) = m ((c.tc : Thread Cert.RmsBackIdeal.nD Cert.RmsBackIdeal.τ).loc Cert.RmsBackIdeal.main_arg0)
      ∧ r.2.mem ((c.tc : Thread Cert.RmsBackIdeal.nD Cert.RmsBackIdeal.τ).loc Cert.RmsBackIdeal.main_arg1) = m ((c.tc : Thread Cert.RmsBackIdeal.nD Cert.RmsBackIdeal.τ).loc Cert.RmsBackIdeal.main_arg1)
      ∧ r.2.mem ((c.tc : Thread Cert.RmsBackIdeal.nD Cert.RmsBackIdeal.τ).loc Cert.RmsBackIdeal.main_arg2) = m ((c.tc : Thread Cert.RmsBackIdeal.nD Cert.RmsBackIdeal.τ).loc Cert.RmsBackIdeal.main_arg2))
      ∧ r.2.sem = fun _ => 0)

def quiescent_RmsBackRefIdeal [hRmsBackRefIdeal : Cert.RmsBackRefIdeal.Facts] : Prop :=
  ∀ (m : (ℓ : Loc Cert.RmsBackRefIdeal.nD Cert.RmsBackRefIdeal.τ Cert.RmsBackRefIdeal.sig) → Buf (Elt Ideal) ℓ) (g : Dev Cert.RmsBackRefIdeal.nD → PrngReg), Pre_RmsBackRefIdeal m →
    θ_run (Cert.RmsBackRefIdeal.defs (F := Ideal)) (onTc (τ := Cert.RmsBackRefIdeal.τ) (Cert.RmsBackRefIdeal.main (F := Ideal))) ⟨m, fun _ => 0, g⟩ (fun r => (∀ c : Dev Cert.RmsBackRefIdeal.nD,
      r.2.mem ((c.tc : Thread Cert.RmsBackRefIdeal.nD Cert.RmsBackRefIdeal.τ).loc Cert.RmsBackRefIdeal.main_arg0) = m ((c.tc : Thread Cert.RmsBackRefIdeal.nD Cert.RmsBackRefIdeal.τ).loc Cert.RmsBackRefIdeal.main_arg0)
      ∧ r.2.mem ((c.tc : Thread Cert.RmsBackRefIdeal.nD Cert.RmsBackRefIdeal.τ).loc Cert.RmsBackRefIdeal.main_arg1) = m ((c.tc : Thread Cert.RmsBackRefIdeal.nD Cert.RmsBackRefIdeal.τ).loc Cert.RmsBackRefIdeal.main_arg1)
      ∧ r.2.mem ((c.tc : Thread Cert.RmsBackRefIdeal.nD Cert.RmsBackRefIdeal.τ).loc Cert.RmsBackRefIdeal.main_arg2) = m ((c.tc : Thread Cert.RmsBackRefIdeal.nD Cert.RmsBackRefIdeal.τ).loc Cert.RmsBackRefIdeal.main_arg2))
      ∧ r.2.sem = fun _ => 0)

def quiescent_ReluBack [hReluBack : Cert.ReluBack.Facts] : Prop :=
  ∀ (m : (ℓ : Loc Cert.ReluBack.nD Cert.ReluBack.τ Cert.ReluBack.sig) → Buf (Elt Bits) ℓ) (g : Dev Cert.ReluBack.nD → PrngReg), Pre_ReluBack m →
    θ_run (Cert.ReluBack.defs (F := Bits)) (onTc (τ := Cert.ReluBack.τ) (Cert.ReluBack.main (F := Bits))) ⟨m, fun _ => 0, g⟩ (fun r => (∀ c : Dev Cert.ReluBack.nD,
      r.2.mem ((c.tc : Thread Cert.ReluBack.nD Cert.ReluBack.τ).loc Cert.ReluBack.main_arg0) = m ((c.tc : Thread Cert.ReluBack.nD Cert.ReluBack.τ).loc Cert.ReluBack.main_arg0)
      ∧ r.2.mem ((c.tc : Thread Cert.ReluBack.nD Cert.ReluBack.τ).loc Cert.ReluBack.main_arg1) = m ((c.tc : Thread Cert.ReluBack.nD Cert.ReluBack.τ).loc Cert.ReluBack.main_arg1))
      ∧ r.2.sem = fun _ => 0)

def quiescent_ReluBackIdeal [hReluBackIdeal : Cert.ReluBackIdeal.Facts] : Prop :=
  ∀ (m : (ℓ : Loc Cert.ReluBackIdeal.nD Cert.ReluBackIdeal.τ Cert.ReluBackIdeal.sig) → Buf (Elt Ideal) ℓ) (g : Dev Cert.ReluBackIdeal.nD → PrngReg), Pre_ReluBackIdeal m →
    θ_run (Cert.ReluBackIdeal.defs (F := Ideal)) (onTc (τ := Cert.ReluBackIdeal.τ) (Cert.ReluBackIdeal.main (F := Ideal))) ⟨m, fun _ => 0, g⟩ (fun r => (∀ c : Dev Cert.ReluBackIdeal.nD,
      r.2.mem ((c.tc : Thread Cert.ReluBackIdeal.nD Cert.ReluBackIdeal.τ).loc Cert.ReluBackIdeal.main_arg0) = m ((c.tc : Thread Cert.ReluBackIdeal.nD Cert.ReluBackIdeal.τ).loc Cert.ReluBackIdeal.main_arg0)
      ∧ r.2.mem ((c.tc : Thread Cert.ReluBackIdeal.nD Cert.ReluBackIdeal.τ).loc Cert.ReluBackIdeal.main_arg1) = m ((c.tc : Thread Cert.ReluBackIdeal.nD Cert.ReluBackIdeal.τ).loc Cert.ReluBackIdeal.main_arg1))
      ∧ r.2.sem = fun _ => 0)

def quiescent_ReluBackRefIdeal [hReluBackRefIdeal : Cert.ReluBackRefIdeal.Facts] : Prop :=
  ∀ (m : (ℓ : Loc Cert.ReluBackRefIdeal.nD Cert.ReluBackRefIdeal.τ Cert.ReluBackRefIdeal.sig) → Buf (Elt Ideal) ℓ) (g : Dev Cert.ReluBackRefIdeal.nD → PrngReg), Pre_ReluBackRefIdeal m →
    θ_run (Cert.ReluBackRefIdeal.defs (F := Ideal)) (onTc (τ := Cert.ReluBackRefIdeal.τ) (Cert.ReluBackRefIdeal.main (F := Ideal))) ⟨m, fun _ => 0, g⟩ (fun r => (∀ c : Dev Cert.ReluBackRefIdeal.nD,
      r.2.mem ((c.tc : Thread Cert.ReluBackRefIdeal.nD Cert.ReluBackRefIdeal.τ).loc Cert.ReluBackRefIdeal.main_arg0) = m ((c.tc : Thread Cert.ReluBackRefIdeal.nD Cert.ReluBackRefIdeal.τ).loc Cert.ReluBackRefIdeal.main_arg0)
      ∧ r.2.mem ((c.tc : Thread Cert.ReluBackRefIdeal.nD Cert.ReluBackRefIdeal.τ).loc Cert.ReluBackRefIdeal.main_arg1) = m ((c.tc : Thread Cert.ReluBackRefIdeal.nD Cert.ReluBackRefIdeal.τ).loc Cert.ReluBackRefIdeal.main_arg1))
      ∧ r.2.sem = fun _ => 0)

def quiescent_MergeBack [hMergeBack : Cert.MergeBack.Facts] : Prop :=
  ∀ (m : (ℓ : Loc Cert.MergeBack.nD Cert.MergeBack.τ Cert.MergeBack.sig) → Buf (Elt Bits) ℓ) (g : Dev Cert.MergeBack.nD → PrngReg), Pre_MergeBack m →
    θ_run (Cert.MergeBack.defs (F := Bits)) (onTc (τ := Cert.MergeBack.τ) (Cert.MergeBack.main (F := Bits))) ⟨m, fun _ => 0, g⟩ (fun r => (∀ c : Dev Cert.MergeBack.nD,
      r.2.mem ((c.tc : Thread Cert.MergeBack.nD Cert.MergeBack.τ).loc Cert.MergeBack.main_arg0) = m ((c.tc : Thread Cert.MergeBack.nD Cert.MergeBack.τ).loc Cert.MergeBack.main_arg0)
      ∧ r.2.mem ((c.tc : Thread Cert.MergeBack.nD Cert.MergeBack.τ).loc Cert.MergeBack.main_arg1) = m ((c.tc : Thread Cert.MergeBack.nD Cert.MergeBack.τ).loc Cert.MergeBack.main_arg1)
      ∧ r.2.mem ((c.tc : Thread Cert.MergeBack.nD Cert.MergeBack.τ).loc Cert.MergeBack.main_arg2) = m ((c.tc : Thread Cert.MergeBack.nD Cert.MergeBack.τ).loc Cert.MergeBack.main_arg2)
      ∧ r.2.mem ((c.tc : Thread Cert.MergeBack.nD Cert.MergeBack.τ).loc Cert.MergeBack.main_arg3) = m ((c.tc : Thread Cert.MergeBack.nD Cert.MergeBack.τ).loc Cert.MergeBack.main_arg3)
      ∧ r.2.mem ((c.tc : Thread Cert.MergeBack.nD Cert.MergeBack.τ).loc Cert.MergeBack.main_arg4) = m ((c.tc : Thread Cert.MergeBack.nD Cert.MergeBack.τ).loc Cert.MergeBack.main_arg4))
      ∧ r.2.sem = fun _ => 0)

def quiescent_MergeBackIdeal [hMergeBackIdeal : Cert.MergeBackIdeal.Facts] : Prop :=
  ∀ (m : (ℓ : Loc Cert.MergeBackIdeal.nD Cert.MergeBackIdeal.τ Cert.MergeBackIdeal.sig) → Buf (Elt Ideal) ℓ) (g : Dev Cert.MergeBackIdeal.nD → PrngReg), Pre_MergeBackIdeal m →
    θ_run (Cert.MergeBackIdeal.defs (F := Ideal)) (onTc (τ := Cert.MergeBackIdeal.τ) (Cert.MergeBackIdeal.main (F := Ideal))) ⟨m, fun _ => 0, g⟩ (fun r => (∀ c : Dev Cert.MergeBackIdeal.nD,
      r.2.mem ((c.tc : Thread Cert.MergeBackIdeal.nD Cert.MergeBackIdeal.τ).loc Cert.MergeBackIdeal.main_arg0) = m ((c.tc : Thread Cert.MergeBackIdeal.nD Cert.MergeBackIdeal.τ).loc Cert.MergeBackIdeal.main_arg0)
      ∧ r.2.mem ((c.tc : Thread Cert.MergeBackIdeal.nD Cert.MergeBackIdeal.τ).loc Cert.MergeBackIdeal.main_arg1) = m ((c.tc : Thread Cert.MergeBackIdeal.nD Cert.MergeBackIdeal.τ).loc Cert.MergeBackIdeal.main_arg1)
      ∧ r.2.mem ((c.tc : Thread Cert.MergeBackIdeal.nD Cert.MergeBackIdeal.τ).loc Cert.MergeBackIdeal.main_arg2) = m ((c.tc : Thread Cert.MergeBackIdeal.nD Cert.MergeBackIdeal.τ).loc Cert.MergeBackIdeal.main_arg2)
      ∧ r.2.mem ((c.tc : Thread Cert.MergeBackIdeal.nD Cert.MergeBackIdeal.τ).loc Cert.MergeBackIdeal.main_arg3) = m ((c.tc : Thread Cert.MergeBackIdeal.nD Cert.MergeBackIdeal.τ).loc Cert.MergeBackIdeal.main_arg3)
      ∧ r.2.mem ((c.tc : Thread Cert.MergeBackIdeal.nD Cert.MergeBackIdeal.τ).loc Cert.MergeBackIdeal.main_arg4) = m ((c.tc : Thread Cert.MergeBackIdeal.nD Cert.MergeBackIdeal.τ).loc Cert.MergeBackIdeal.main_arg4))
      ∧ r.2.sem = fun _ => 0)

def quiescent_MergeBackRefIdeal [hMergeBackRefIdeal : Cert.MergeBackRefIdeal.Facts] : Prop :=
  ∀ (m : (ℓ : Loc Cert.MergeBackRefIdeal.nD Cert.MergeBackRefIdeal.τ Cert.MergeBackRefIdeal.sig) → Buf (Elt Ideal) ℓ) (g : Dev Cert.MergeBackRefIdeal.nD → PrngReg), Pre_MergeBackRefIdeal m →
    θ_run (Cert.MergeBackRefIdeal.defs (F := Ideal)) (onTc (τ := Cert.MergeBackRefIdeal.τ) (Cert.MergeBackRefIdeal.main (F := Ideal))) ⟨m, fun _ => 0, g⟩ (fun r => (∀ c : Dev Cert.MergeBackRefIdeal.nD,
      r.2.mem ((c.tc : Thread Cert.MergeBackRefIdeal.nD Cert.MergeBackRefIdeal.τ).loc Cert.MergeBackRefIdeal.main_arg0) = m ((c.tc : Thread Cert.MergeBackRefIdeal.nD Cert.MergeBackRefIdeal.τ).loc Cert.MergeBackRefIdeal.main_arg0)
      ∧ r.2.mem ((c.tc : Thread Cert.MergeBackRefIdeal.nD Cert.MergeBackRefIdeal.τ).loc Cert.MergeBackRefIdeal.main_arg1) = m ((c.tc : Thread Cert.MergeBackRefIdeal.nD Cert.MergeBackRefIdeal.τ).loc Cert.MergeBackRefIdeal.main_arg1)
      ∧ r.2.mem ((c.tc : Thread Cert.MergeBackRefIdeal.nD Cert.MergeBackRefIdeal.τ).loc Cert.MergeBackRefIdeal.main_arg2) = m ((c.tc : Thread Cert.MergeBackRefIdeal.nD Cert.MergeBackRefIdeal.τ).loc Cert.MergeBackRefIdeal.main_arg2)
      ∧ r.2.mem ((c.tc : Thread Cert.MergeBackRefIdeal.nD Cert.MergeBackRefIdeal.τ).loc Cert.MergeBackRefIdeal.main_arg3) = m ((c.tc : Thread Cert.MergeBackRefIdeal.nD Cert.MergeBackRefIdeal.τ).loc Cert.MergeBackRefIdeal.main_arg3)
      ∧ r.2.mem ((c.tc : Thread Cert.MergeBackRefIdeal.nD Cert.MergeBackRefIdeal.τ).loc Cert.MergeBackRefIdeal.main_arg4) = m ((c.tc : Thread Cert.MergeBackRefIdeal.nD Cert.MergeBackRefIdeal.τ).loc Cert.MergeBackRefIdeal.main_arg4))
      ∧ r.2.sem = fun _ => 0)

def quiescent_DxIn [hDxIn : Cert.DxIn.Facts] : Prop :=
  ∀ (m : (ℓ : Loc Cert.DxIn.nD Cert.DxIn.τ Cert.DxIn.sig) → Buf (Elt Bits) ℓ) (g : Dev Cert.DxIn.nD → PrngReg), Pre_DxIn m →
    θ_run (Cert.DxIn.defs (F := Bits)) (onTc (τ := Cert.DxIn.τ) (Cert.DxIn.main (F := Bits))) ⟨m, fun _ => 0, g⟩ (fun r => (∀ c : Dev Cert.DxIn.nD,
      r.2.mem ((c.tc : Thread Cert.DxIn.nD Cert.DxIn.τ).loc Cert.DxIn.main_arg0) = m ((c.tc : Thread Cert.DxIn.nD Cert.DxIn.τ).loc Cert.DxIn.main_arg0)
      ∧ r.2.mem ((c.tc : Thread Cert.DxIn.nD Cert.DxIn.τ).loc Cert.DxIn.main_arg1) = m ((c.tc : Thread Cert.DxIn.nD Cert.DxIn.τ).loc Cert.DxIn.main_arg1))
      ∧ r.2.sem = fun _ => 0)

def quiescent_DxInIdeal [hDxInIdeal : Cert.DxInIdeal.Facts] : Prop :=
  ∀ (m : (ℓ : Loc Cert.DxInIdeal.nD Cert.DxInIdeal.τ Cert.DxInIdeal.sig) → Buf (Elt Ideal) ℓ) (g : Dev Cert.DxInIdeal.nD → PrngReg), Pre_DxInIdeal m →
    θ_run (Cert.DxInIdeal.defs (F := Ideal)) (onTc (τ := Cert.DxInIdeal.τ) (Cert.DxInIdeal.main (F := Ideal))) ⟨m, fun _ => 0, g⟩ (fun r => (∀ c : Dev Cert.DxInIdeal.nD,
      r.2.mem ((c.tc : Thread Cert.DxInIdeal.nD Cert.DxInIdeal.τ).loc Cert.DxInIdeal.main_arg0) = m ((c.tc : Thread Cert.DxInIdeal.nD Cert.DxInIdeal.τ).loc Cert.DxInIdeal.main_arg0)
      ∧ r.2.mem ((c.tc : Thread Cert.DxInIdeal.nD Cert.DxInIdeal.τ).loc Cert.DxInIdeal.main_arg1) = m ((c.tc : Thread Cert.DxInIdeal.nD Cert.DxInIdeal.τ).loc Cert.DxInIdeal.main_arg1))
      ∧ r.2.sem = fun _ => 0)

def quiescent_DxInRefIdeal [hDxInRefIdeal : Cert.DxInRefIdeal.Facts] : Prop :=
  ∀ (m : (ℓ : Loc Cert.DxInRefIdeal.nD Cert.DxInRefIdeal.τ Cert.DxInRefIdeal.sig) → Buf (Elt Ideal) ℓ) (g : Dev Cert.DxInRefIdeal.nD → PrngReg), Pre_DxInRefIdeal m →
    θ_run (Cert.DxInRefIdeal.defs (F := Ideal)) (onTc (τ := Cert.DxInRefIdeal.τ) (Cert.DxInRefIdeal.main (F := Ideal))) ⟨m, fun _ => 0, g⟩ (fun r => (∀ c : Dev Cert.DxInRefIdeal.nD,
      r.2.mem ((c.tc : Thread Cert.DxInRefIdeal.nD Cert.DxInRefIdeal.τ).loc Cert.DxInRefIdeal.main_arg0) = m ((c.tc : Thread Cert.DxInRefIdeal.nD Cert.DxInRefIdeal.τ).loc Cert.DxInRefIdeal.main_arg0)
      ∧ r.2.mem ((c.tc : Thread Cert.DxInRefIdeal.nD Cert.DxInRefIdeal.τ).loc Cert.DxInRefIdeal.main_arg1) = m ((c.tc : Thread Cert.DxInRefIdeal.nD Cert.DxInRefIdeal.τ).loc Cert.DxInRefIdeal.main_arg1))
      ∧ r.2.sem = fun _ => 0)

def quiescent_DxUq [hDxUq : Cert.DxUq.Facts] : Prop :=
  ∀ (m : (ℓ : Loc Cert.DxUq.nD Cert.DxUq.τ Cert.DxUq.sig) → Buf (Elt Bits) ℓ) (g : Dev Cert.DxUq.nD → PrngReg), Pre_DxUq m →
    θ_run (Cert.DxUq.defs (F := Bits)) (onTc (τ := Cert.DxUq.τ) (Cert.DxUq.main (F := Bits))) ⟨m, fun _ => 0, g⟩ (fun r => (∀ c : Dev Cert.DxUq.nD,
      r.2.mem ((c.tc : Thread Cert.DxUq.nD Cert.DxUq.τ).loc Cert.DxUq.main_arg0) = m ((c.tc : Thread Cert.DxUq.nD Cert.DxUq.τ).loc Cert.DxUq.main_arg0)
      ∧ r.2.mem ((c.tc : Thread Cert.DxUq.nD Cert.DxUq.τ).loc Cert.DxUq.main_arg1) = m ((c.tc : Thread Cert.DxUq.nD Cert.DxUq.τ).loc Cert.DxUq.main_arg1))
      ∧ r.2.sem = fun _ => 0)

def quiescent_DxUqIdeal [hDxUqIdeal : Cert.DxUqIdeal.Facts] : Prop :=
  ∀ (m : (ℓ : Loc Cert.DxUqIdeal.nD Cert.DxUqIdeal.τ Cert.DxUqIdeal.sig) → Buf (Elt Ideal) ℓ) (g : Dev Cert.DxUqIdeal.nD → PrngReg), Pre_DxUqIdeal m →
    θ_run (Cert.DxUqIdeal.defs (F := Ideal)) (onTc (τ := Cert.DxUqIdeal.τ) (Cert.DxUqIdeal.main (F := Ideal))) ⟨m, fun _ => 0, g⟩ (fun r => (∀ c : Dev Cert.DxUqIdeal.nD,
      r.2.mem ((c.tc : Thread Cert.DxUqIdeal.nD Cert.DxUqIdeal.τ).loc Cert.DxUqIdeal.main_arg0) = m ((c.tc : Thread Cert.DxUqIdeal.nD Cert.DxUqIdeal.τ).loc Cert.DxUqIdeal.main_arg0)
      ∧ r.2.mem ((c.tc : Thread Cert.DxUqIdeal.nD Cert.DxUqIdeal.τ).loc Cert.DxUqIdeal.main_arg1) = m ((c.tc : Thread Cert.DxUqIdeal.nD Cert.DxUqIdeal.τ).loc Cert.DxUqIdeal.main_arg1))
      ∧ r.2.sem = fun _ => 0)

def quiescent_DxUqRefIdeal [hDxUqRefIdeal : Cert.DxUqRefIdeal.Facts] : Prop :=
  ∀ (m : (ℓ : Loc Cert.DxUqRefIdeal.nD Cert.DxUqRefIdeal.τ Cert.DxUqRefIdeal.sig) → Buf (Elt Ideal) ℓ) (g : Dev Cert.DxUqRefIdeal.nD → PrngReg), Pre_DxUqRefIdeal m →
    θ_run (Cert.DxUqRefIdeal.defs (F := Ideal)) (onTc (τ := Cert.DxUqRefIdeal.τ) (Cert.DxUqRefIdeal.main (F := Ideal))) ⟨m, fun _ => 0, g⟩ (fun r => (∀ c : Dev Cert.DxUqRefIdeal.nD,
      r.2.mem ((c.tc : Thread Cert.DxUqRefIdeal.nD Cert.DxUqRefIdeal.τ).loc Cert.DxUqRefIdeal.main_arg0) = m ((c.tc : Thread Cert.DxUqRefIdeal.nD Cert.DxUqRefIdeal.τ).loc Cert.DxUqRefIdeal.main_arg0)
      ∧ r.2.mem ((c.tc : Thread Cert.DxUqRefIdeal.nD Cert.DxUqRefIdeal.τ).loc Cert.DxUqRefIdeal.main_arg1) = m ((c.tc : Thread Cert.DxUqRefIdeal.nD Cert.DxUqRefIdeal.τ).loc Cert.DxUqRefIdeal.main_arg1))
      ∧ r.2.sem = fun _ => 0)

def quiescent_DxUkv [hDxUkv : Cert.DxUkv.Facts] : Prop :=
  ∀ (m : (ℓ : Loc Cert.DxUkv.nD Cert.DxUkv.τ Cert.DxUkv.sig) → Buf (Elt Bits) ℓ) (g : Dev Cert.DxUkv.nD → PrngReg), Pre_DxUkv m →
    θ_run (Cert.DxUkv.defs (F := Bits)) (onTc (τ := Cert.DxUkv.τ) (Cert.DxUkv.main (F := Bits))) ⟨m, fun _ => 0, g⟩ (fun r => (∀ c : Dev Cert.DxUkv.nD,
      r.2.mem ((c.tc : Thread Cert.DxUkv.nD Cert.DxUkv.τ).loc Cert.DxUkv.main_arg0) = m ((c.tc : Thread Cert.DxUkv.nD Cert.DxUkv.τ).loc Cert.DxUkv.main_arg0)
      ∧ r.2.mem ((c.tc : Thread Cert.DxUkv.nD Cert.DxUkv.τ).loc Cert.DxUkv.main_arg1) = m ((c.tc : Thread Cert.DxUkv.nD Cert.DxUkv.τ).loc Cert.DxUkv.main_arg1))
      ∧ r.2.sem = fun _ => 0)

def quiescent_DxUkvIdeal [hDxUkvIdeal : Cert.DxUkvIdeal.Facts] : Prop :=
  ∀ (m : (ℓ : Loc Cert.DxUkvIdeal.nD Cert.DxUkvIdeal.τ Cert.DxUkvIdeal.sig) → Buf (Elt Ideal) ℓ) (g : Dev Cert.DxUkvIdeal.nD → PrngReg), Pre_DxUkvIdeal m →
    θ_run (Cert.DxUkvIdeal.defs (F := Ideal)) (onTc (τ := Cert.DxUkvIdeal.τ) (Cert.DxUkvIdeal.main (F := Ideal))) ⟨m, fun _ => 0, g⟩ (fun r => (∀ c : Dev Cert.DxUkvIdeal.nD,
      r.2.mem ((c.tc : Thread Cert.DxUkvIdeal.nD Cert.DxUkvIdeal.τ).loc Cert.DxUkvIdeal.main_arg0) = m ((c.tc : Thread Cert.DxUkvIdeal.nD Cert.DxUkvIdeal.τ).loc Cert.DxUkvIdeal.main_arg0)
      ∧ r.2.mem ((c.tc : Thread Cert.DxUkvIdeal.nD Cert.DxUkvIdeal.τ).loc Cert.DxUkvIdeal.main_arg1) = m ((c.tc : Thread Cert.DxUkvIdeal.nD Cert.DxUkvIdeal.τ).loc Cert.DxUkvIdeal.main_arg1))
      ∧ r.2.sem = fun _ => 0)

def quiescent_DxUkvRefIdeal [hDxUkvRefIdeal : Cert.DxUkvRefIdeal.Facts] : Prop :=
  ∀ (m : (ℓ : Loc Cert.DxUkvRefIdeal.nD Cert.DxUkvRefIdeal.τ Cert.DxUkvRefIdeal.sig) → Buf (Elt Ideal) ℓ) (g : Dev Cert.DxUkvRefIdeal.nD → PrngReg), Pre_DxUkvRefIdeal m →
    θ_run (Cert.DxUkvRefIdeal.defs (F := Ideal)) (onTc (τ := Cert.DxUkvRefIdeal.τ) (Cert.DxUkvRefIdeal.main (F := Ideal))) ⟨m, fun _ => 0, g⟩ (fun r => (∀ c : Dev Cert.DxUkvRefIdeal.nD,
      r.2.mem ((c.tc : Thread Cert.DxUkvRefIdeal.nD Cert.DxUkvRefIdeal.τ).loc Cert.DxUkvRefIdeal.main_arg0) = m ((c.tc : Thread Cert.DxUkvRefIdeal.nD Cert.DxUkvRefIdeal.τ).loc Cert.DxUkvRefIdeal.main_arg0)
      ∧ r.2.mem ((c.tc : Thread Cert.DxUkvRefIdeal.nD Cert.DxUkvRefIdeal.τ).loc Cert.DxUkvRefIdeal.main_arg1) = m ((c.tc : Thread Cert.DxUkvRefIdeal.nD Cert.DxUkvRefIdeal.τ).loc Cert.DxUkvRefIdeal.main_arg1))
      ∧ r.2.sem = fun _ => 0)

def quiescent_DxOut [hDxOut : Cert.DxOut.Facts] : Prop :=
  ∀ (m : (ℓ : Loc Cert.DxOut.nD Cert.DxOut.τ Cert.DxOut.sig) → Buf (Elt Bits) ℓ) (g : Dev Cert.DxOut.nD → PrngReg), Pre_DxOut m →
    θ_run (Cert.DxOut.defs (F := Bits)) (onTc (τ := Cert.DxOut.τ) (Cert.DxOut.main (F := Bits))) ⟨m, fun _ => 0, g⟩ (fun r => (∀ c : Dev Cert.DxOut.nD,
      r.2.mem ((c.tc : Thread Cert.DxOut.nD Cert.DxOut.τ).loc Cert.DxOut.main_arg0) = m ((c.tc : Thread Cert.DxOut.nD Cert.DxOut.τ).loc Cert.DxOut.main_arg0)
      ∧ r.2.mem ((c.tc : Thread Cert.DxOut.nD Cert.DxOut.τ).loc Cert.DxOut.main_arg1) = m ((c.tc : Thread Cert.DxOut.nD Cert.DxOut.τ).loc Cert.DxOut.main_arg1))
      ∧ r.2.sem = fun _ => 0)

def quiescent_DxOutIdeal [hDxOutIdeal : Cert.DxOutIdeal.Facts] : Prop :=
  ∀ (m : (ℓ : Loc Cert.DxOutIdeal.nD Cert.DxOutIdeal.τ Cert.DxOutIdeal.sig) → Buf (Elt Ideal) ℓ) (g : Dev Cert.DxOutIdeal.nD → PrngReg), Pre_DxOutIdeal m →
    θ_run (Cert.DxOutIdeal.defs (F := Ideal)) (onTc (τ := Cert.DxOutIdeal.τ) (Cert.DxOutIdeal.main (F := Ideal))) ⟨m, fun _ => 0, g⟩ (fun r => (∀ c : Dev Cert.DxOutIdeal.nD,
      r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
      ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1))
      ∧ r.2.sem = fun _ => 0)

def quiescent_DxOutRefIdeal [hDxOutRefIdeal : Cert.DxOutRefIdeal.Facts] : Prop :=
  ∀ (m : (ℓ : Loc Cert.DxOutRefIdeal.nD Cert.DxOutRefIdeal.τ Cert.DxOutRefIdeal.sig) → Buf (Elt Ideal) ℓ) (g : Dev Cert.DxOutRefIdeal.nD → PrngReg), Pre_DxOutRefIdeal m →
    θ_run (Cert.DxOutRefIdeal.defs (F := Ideal)) (onTc (τ := Cert.DxOutRefIdeal.τ) (Cert.DxOutRefIdeal.main (F := Ideal))) ⟨m, fun _ => 0, g⟩ (fun r => (∀ c : Dev Cert.DxOutRefIdeal.nD,
      r.2.mem ((c.tc : Thread Cert.DxOutRefIdeal.nD Cert.DxOutRefIdeal.τ).loc Cert.DxOutRefIdeal.main_arg0) = m ((c.tc : Thread Cert.DxOutRefIdeal.nD Cert.DxOutRefIdeal.τ).loc Cert.DxOutRefIdeal.main_arg0)
      ∧ r.2.mem ((c.tc : Thread Cert.DxOutRefIdeal.nD Cert.DxOutRefIdeal.τ).loc Cert.DxOutRefIdeal.main_arg1) = m ((c.tc : Thread Cert.DxOutRefIdeal.nD Cert.DxOutRefIdeal.τ).loc Cert.DxOutRefIdeal.main_arg1))
      ∧ r.2.sem = fun _ => 0)

def quiescent_DxUp [hDxUp : Cert.DxUp.Facts] : Prop :=
  ∀ (m : (ℓ : Loc Cert.DxUp.nD Cert.DxUp.τ Cert.DxUp.sig) → Buf (Elt Bits) ℓ) (g : Dev Cert.DxUp.nD → PrngReg), Pre_DxUp m →
    θ_run (Cert.DxUp.defs (F := Bits)) (onTc (τ := Cert.DxUp.τ) (Cert.DxUp.main (F := Bits))) ⟨m, fun _ => 0, g⟩ (fun r => (∀ c : Dev Cert.DxUp.nD,
      r.2.mem ((c.tc : Thread Cert.DxUp.nD Cert.DxUp.τ).loc Cert.DxUp.main_arg0) = m ((c.tc : Thread Cert.DxUp.nD Cert.DxUp.τ).loc Cert.DxUp.main_arg0)
      ∧ r.2.mem ((c.tc : Thread Cert.DxUp.nD Cert.DxUp.τ).loc Cert.DxUp.main_arg1) = m ((c.tc : Thread Cert.DxUp.nD Cert.DxUp.τ).loc Cert.DxUp.main_arg1))
      ∧ r.2.sem = fun _ => 0)

def quiescent_DxUpIdeal [hDxUpIdeal : Cert.DxUpIdeal.Facts] : Prop :=
  ∀ (m : (ℓ : Loc Cert.DxUpIdeal.nD Cert.DxUpIdeal.τ Cert.DxUpIdeal.sig) → Buf (Elt Ideal) ℓ) (g : Dev Cert.DxUpIdeal.nD → PrngReg), Pre_DxUpIdeal m →
    θ_run (Cert.DxUpIdeal.defs (F := Ideal)) (onTc (τ := Cert.DxUpIdeal.τ) (Cert.DxUpIdeal.main (F := Ideal))) ⟨m, fun _ => 0, g⟩ (fun r => (∀ c : Dev Cert.DxUpIdeal.nD,
      r.2.mem ((c.tc : Thread Cert.DxUpIdeal.nD Cert.DxUpIdeal.τ).loc Cert.DxUpIdeal.main_arg0) = m ((c.tc : Thread Cert.DxUpIdeal.nD Cert.DxUpIdeal.τ).loc Cert.DxUpIdeal.main_arg0)
      ∧ r.2.mem ((c.tc : Thread Cert.DxUpIdeal.nD Cert.DxUpIdeal.τ).loc Cert.DxUpIdeal.main_arg1) = m ((c.tc : Thread Cert.DxUpIdeal.nD Cert.DxUpIdeal.τ).loc Cert.DxUpIdeal.main_arg1))
      ∧ r.2.sem = fun _ => 0)

def quiescent_DxUpRefIdeal [hDxUpRefIdeal : Cert.DxUpRefIdeal.Facts] : Prop :=
  ∀ (m : (ℓ : Loc Cert.DxUpRefIdeal.nD Cert.DxUpRefIdeal.τ Cert.DxUpRefIdeal.sig) → Buf (Elt Ideal) ℓ) (g : Dev Cert.DxUpRefIdeal.nD → PrngReg), Pre_DxUpRefIdeal m →
    θ_run (Cert.DxUpRefIdeal.defs (F := Ideal)) (onTc (τ := Cert.DxUpRefIdeal.τ) (Cert.DxUpRefIdeal.main (F := Ideal))) ⟨m, fun _ => 0, g⟩ (fun r => (∀ c : Dev Cert.DxUpRefIdeal.nD,
      r.2.mem ((c.tc : Thread Cert.DxUpRefIdeal.nD Cert.DxUpRefIdeal.τ).loc Cert.DxUpRefIdeal.main_arg0) = m ((c.tc : Thread Cert.DxUpRefIdeal.nD Cert.DxUpRefIdeal.τ).loc Cert.DxUpRefIdeal.main_arg0)
      ∧ r.2.mem ((c.tc : Thread Cert.DxUpRefIdeal.nD Cert.DxUpRefIdeal.τ).loc Cert.DxUpRefIdeal.main_arg1) = m ((c.tc : Thread Cert.DxUpRefIdeal.nD Cert.DxUpRefIdeal.τ).loc Cert.DxUpRefIdeal.main_arg1))
      ∧ r.2.sem = fun _ => 0)

def quiescent_DxDown [hDxDown : Cert.DxDown.Facts] : Prop :=
  ∀ (m : (ℓ : Loc Cert.DxDown.nD Cert.DxDown.τ Cert.DxDown.sig) → Buf (Elt Bits) ℓ) (g : Dev Cert.DxDown.nD → PrngReg), Pre_DxDown m →
    θ_run (Cert.DxDown.defs (F := Bits)) (onTc (τ := Cert.DxDown.τ) (Cert.DxDown.main (F := Bits))) ⟨m, fun _ => 0, g⟩ (fun r => (∀ c : Dev Cert.DxDown.nD,
      r.2.mem ((c.tc : Thread Cert.DxDown.nD Cert.DxDown.τ).loc Cert.DxDown.main_arg0) = m ((c.tc : Thread Cert.DxDown.nD Cert.DxDown.τ).loc Cert.DxDown.main_arg0)
      ∧ r.2.mem ((c.tc : Thread Cert.DxDown.nD Cert.DxDown.τ).loc Cert.DxDown.main_arg1) = m ((c.tc : Thread Cert.DxDown.nD Cert.DxDown.τ).loc Cert.DxDown.main_arg1))
      ∧ r.2.sem = fun _ => 0)

def quiescent_DxDownIdeal [hDxDownIdeal : Cert.DxDownIdeal.Facts] : Prop :=
  ∀ (m : (ℓ : Loc Cert.DxDownIdeal.nD Cert.DxDownIdeal.τ Cert.DxDownIdeal.sig) → Buf (Elt Ideal) ℓ) (g : Dev Cert.DxDownIdeal.nD → PrngReg), Pre_DxDownIdeal m →
    θ_run (Cert.DxDownIdeal.defs (F := Ideal)) (onTc (τ := Cert.DxDownIdeal.τ) (Cert.DxDownIdeal.main (F := Ideal))) ⟨m, fun _ => 0, g⟩ (fun r => (∀ c : Dev Cert.DxDownIdeal.nD,
      r.2.mem ((c.tc : Thread Cert.DxDownIdeal.nD Cert.DxDownIdeal.τ).loc Cert.DxDownIdeal.main_arg0) = m ((c.tc : Thread Cert.DxDownIdeal.nD Cert.DxDownIdeal.τ).loc Cert.DxDownIdeal.main_arg0)
      ∧ r.2.mem ((c.tc : Thread Cert.DxDownIdeal.nD Cert.DxDownIdeal.τ).loc Cert.DxDownIdeal.main_arg1) = m ((c.tc : Thread Cert.DxDownIdeal.nD Cert.DxDownIdeal.τ).loc Cert.DxDownIdeal.main_arg1))
      ∧ r.2.sem = fun _ => 0)

def quiescent_DxDownRefIdeal [hDxDownRefIdeal : Cert.DxDownRefIdeal.Facts] : Prop :=
  ∀ (m : (ℓ : Loc Cert.DxDownRefIdeal.nD Cert.DxDownRefIdeal.τ Cert.DxDownRefIdeal.sig) → Buf (Elt Ideal) ℓ) (g : Dev Cert.DxDownRefIdeal.nD → PrngReg), Pre_DxDownRefIdeal m →
    θ_run (Cert.DxDownRefIdeal.defs (F := Ideal)) (onTc (τ := Cert.DxDownRefIdeal.τ) (Cert.DxDownRefIdeal.main (F := Ideal))) ⟨m, fun _ => 0, g⟩ (fun r => (∀ c : Dev Cert.DxDownRefIdeal.nD,
      r.2.mem ((c.tc : Thread Cert.DxDownRefIdeal.nD Cert.DxDownRefIdeal.τ).loc Cert.DxDownRefIdeal.main_arg0) = m ((c.tc : Thread Cert.DxDownRefIdeal.nD Cert.DxDownRefIdeal.τ).loc Cert.DxDownRefIdeal.main_arg0)
      ∧ r.2.mem ((c.tc : Thread Cert.DxDownRefIdeal.nD Cert.DxDownRefIdeal.τ).loc Cert.DxDownRefIdeal.main_arg1) = m ((c.tc : Thread Cert.DxDownRefIdeal.nD Cert.DxDownRefIdeal.τ).loc Cert.DxDownRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwUq [hDwUq : Cert.DwUq.Facts] : Prop :=
  ∀ (m : (ℓ : Loc Cert.DwUq.nD Cert.DwUq.τ Cert.DwUq.sig) → Buf (Elt Bits) ℓ) (g : Dev Cert.DwUq.nD → PrngReg), Pre_DwUq m →
    θ_run (Cert.DwUq.defs (F := Bits)) (onTc (τ := Cert.DwUq.τ) (Cert.DwUq.main (F := Bits))) ⟨m, fun _ => 0, g⟩ (fun r => (∀ c : Dev Cert.DwUq.nD,
      r.2.mem ((c.tc : Thread Cert.DwUq.nD Cert.DwUq.τ).loc Cert.DwUq.main_arg0) = m ((c.tc : Thread Cert.DwUq.nD Cert.DwUq.τ).loc Cert.DwUq.main_arg0)
      ∧ r.2.mem ((c.tc : Thread Cert.DwUq.nD Cert.DwUq.τ).loc Cert.DwUq.main_arg1) = m ((c.tc : Thread Cert.DwUq.nD Cert.DwUq.τ).loc Cert.DwUq.main_arg1))
      ∧ r.2.sem = fun _ => 0)

def quiescent_DwUqIdeal [hDwUqIdeal : Cert.DwUqIdeal.Facts] : Prop :=
  ∀ (m : (ℓ : Loc Cert.DwUqIdeal.nD Cert.DwUqIdeal.τ Cert.DwUqIdeal.sig) → Buf (Elt Ideal) ℓ) (g : Dev Cert.DwUqIdeal.nD → PrngReg), Pre_DwUqIdeal m →
    θ_run (Cert.DwUqIdeal.defs (F := Ideal)) (onTc (τ := Cert.DwUqIdeal.τ) (Cert.DwUqIdeal.main (F := Ideal))) ⟨m, fun _ => 0, g⟩ (fun r => (∀ c : Dev Cert.DwUqIdeal.nD,
      r.2.mem ((c.tc : Thread Cert.DwUqIdeal.nD Cert.DwUqIdeal.τ).loc Cert.DwUqIdeal.main_arg0) = m ((c.tc : Thread Cert.DwUqIdeal.nD Cert.DwUqIdeal.τ).loc Cert.DwUqIdeal.main_arg0)
      ∧ r.2.mem ((c.tc : Thread Cert.DwUqIdeal.nD Cert.DwUqIdeal.τ).loc Cert.DwUqIdeal.main_arg1) = m ((c.tc : Thread Cert.DwUqIdeal.nD Cert.DwUqIdeal.τ).loc Cert.DwUqIdeal.main_arg1))
      ∧ r.2.sem = fun _ => 0)

def quiescent_DwUqRefIdeal [hDwUqRefIdeal : Cert.DwUqRefIdeal.Facts] : Prop :=
  ∀ (m : (ℓ : Loc Cert.DwUqRefIdeal.nD Cert.DwUqRefIdeal.τ Cert.DwUqRefIdeal.sig) → Buf (Elt Ideal) ℓ) (g : Dev Cert.DwUqRefIdeal.nD → PrngReg), Pre_DwUqRefIdeal m →
    θ_run (Cert.DwUqRefIdeal.defs (F := Ideal)) (onTc (τ := Cert.DwUqRefIdeal.τ) (Cert.DwUqRefIdeal.main (F := Ideal))) ⟨m, fun _ => 0, g⟩ (fun r => (∀ c : Dev Cert.DwUqRefIdeal.nD,
      r.2.mem ((c.tc : Thread Cert.DwUqRefIdeal.nD Cert.DwUqRefIdeal.τ).loc Cert.DwUqRefIdeal.main_arg0) = m ((c.tc : Thread Cert.DwUqRefIdeal.nD Cert.DwUqRefIdeal.τ).loc Cert.DwUqRefIdeal.main_arg0)
      ∧ r.2.mem ((c.tc : Thread Cert.DwUqRefIdeal.nD Cert.DwUqRefIdeal.τ).loc Cert.DwUqRefIdeal.main_arg1) = m ((c.tc : Thread Cert.DwUqRefIdeal.nD Cert.DwUqRefIdeal.τ).loc Cert.DwUqRefIdeal.main_arg1))
      ∧ r.2.sem = fun _ => 0)

def quiescent_DwUkv [hDwUkv : Cert.DwUkv.Facts] : Prop :=
  ∀ (m : (ℓ : Loc Cert.DwUkv.nD Cert.DwUkv.τ Cert.DwUkv.sig) → Buf (Elt Bits) ℓ) (g : Dev Cert.DwUkv.nD → PrngReg), Pre_DwUkv m →
    θ_run (Cert.DwUkv.defs (F := Bits)) (onTc (τ := Cert.DwUkv.τ) (Cert.DwUkv.main (F := Bits))) ⟨m, fun _ => 0, g⟩ (fun r => (∀ c : Dev Cert.DwUkv.nD,
      r.2.mem ((c.tc : Thread Cert.DwUkv.nD Cert.DwUkv.τ).loc Cert.DwUkv.main_arg0) = m ((c.tc : Thread Cert.DwUkv.nD Cert.DwUkv.τ).loc Cert.DwUkv.main_arg0)
      ∧ r.2.mem ((c.tc : Thread Cert.DwUkv.nD Cert.DwUkv.τ).loc Cert.DwUkv.main_arg1) = m ((c.tc : Thread Cert.DwUkv.nD Cert.DwUkv.τ).loc Cert.DwUkv.main_arg1))
      ∧ r.2.sem = fun _ => 0)

def quiescent_DwUkvIdeal [hDwUkvIdeal : Cert.DwUkvIdeal.Facts] : Prop :=
  ∀ (m : (ℓ : Loc Cert.DwUkvIdeal.nD Cert.DwUkvIdeal.τ Cert.DwUkvIdeal.sig) → Buf (Elt Ideal) ℓ) (g : Dev Cert.DwUkvIdeal.nD → PrngReg), Pre_DwUkvIdeal m →
    θ_run (Cert.DwUkvIdeal.defs (F := Ideal)) (onTc (τ := Cert.DwUkvIdeal.τ) (Cert.DwUkvIdeal.main (F := Ideal))) ⟨m, fun _ => 0, g⟩ (fun r => (∀ c : Dev Cert.DwUkvIdeal.nD,
      r.2.mem ((c.tc : Thread Cert.DwUkvIdeal.nD Cert.DwUkvIdeal.τ).loc Cert.DwUkvIdeal.main_arg0) = m ((c.tc : Thread Cert.DwUkvIdeal.nD Cert.DwUkvIdeal.τ).loc Cert.DwUkvIdeal.main_arg0)
      ∧ r.2.mem ((c.tc : Thread Cert.DwUkvIdeal.nD Cert.DwUkvIdeal.τ).loc Cert.DwUkvIdeal.main_arg1) = m ((c.tc : Thread Cert.DwUkvIdeal.nD Cert.DwUkvIdeal.τ).loc Cert.DwUkvIdeal.main_arg1))
      ∧ r.2.sem = fun _ => 0)

def quiescent_DwUkvRefIdeal [hDwUkvRefIdeal : Cert.DwUkvRefIdeal.Facts] : Prop :=
  ∀ (m : (ℓ : Loc Cert.DwUkvRefIdeal.nD Cert.DwUkvRefIdeal.τ Cert.DwUkvRefIdeal.sig) → Buf (Elt Ideal) ℓ) (g : Dev Cert.DwUkvRefIdeal.nD → PrngReg), Pre_DwUkvRefIdeal m →
    θ_run (Cert.DwUkvRefIdeal.defs (F := Ideal)) (onTc (τ := Cert.DwUkvRefIdeal.τ) (Cert.DwUkvRefIdeal.main (F := Ideal))) ⟨m, fun _ => 0, g⟩ (fun r => (∀ c : Dev Cert.DwUkvRefIdeal.nD,
      r.2.mem ((c.tc : Thread Cert.DwUkvRefIdeal.nD Cert.DwUkvRefIdeal.τ).loc Cert.DwUkvRefIdeal.main_arg0) = m ((c.tc : Thread Cert.DwUkvRefIdeal.nD Cert.DwUkvRefIdeal.τ).loc Cert.DwUkvRefIdeal.main_arg0)
      ∧ r.2.mem ((c.tc : Thread Cert.DwUkvRefIdeal.nD Cert.DwUkvRefIdeal.τ).loc Cert.DwUkvRefIdeal.main_arg1) = m ((c.tc : Thread Cert.DwUkvRefIdeal.nD Cert.DwUkvRefIdeal.τ).loc Cert.DwUkvRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m ((c.tc : Thread Cert.SmallIdeal.nD Cert.SmallIdeal.τ).loc Cert.SmallIdeal.main_arg0) = Layout.block ⟨2, ![96, 128]⟩ ⟨2, ![768, 128]⟩ 0 8 c (m' (((0 : Dev Cert.SmallRefIdeal.nD).tc : Thread Cert.SmallRefIdeal.nD Cert.SmallRefIdeal.τ).loc Cert.SmallRefIdeal.main_arg0))) →
    ∃ (v0 : Buf (Elt Ideal) (((0 : Dev Cert.SmallRefIdeal.nD).tc : Thread Cert.SmallRefIdeal.nD Cert.SmallRefIdeal.τ).loc Cert.SmallRefIdeal.main_v0)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v1) = v0
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ θ_run (Cert.SmallRefIdeal.defs (F := Ideal)) (onTc (τ := Cert.SmallRefIdeal.τ) (Cert.SmallRefIdeal.main (F := Ideal))) ⟨m', fun _ => 0, g'⟩ (fun r =>
          r.2.mem (((0 : Dev Cert.SmallRefIdeal.nD).tc : Thread Cert.SmallRefIdeal.nD Cert.SmallRefIdeal.τ).loc Cert.SmallRefIdeal.main_v0) = v0
          ∧ r.2.mem (((0 : Dev Cert.SmallRefIdeal.nD).tc : Thread Cert.SmallRefIdeal.nD Cert.SmallRefIdeal.τ).loc Cert.SmallRefIdeal.main_arg0) = m' (((0 : Dev Cert.SmallRefIdeal.nD).tc : Thread Cert.SmallRefIdeal.nD Cert.SmallRefIdeal.τ).loc Cert.SmallRefIdeal.main_arg0))

def preserves_Scatter_ScatterIdeal : Prop :=
  True

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.block ⟨3, ![8, 2048, 1196]⟩ ⟨3, ![64, 2048, 1196]⟩ 0 8 c (m' (((0 : Dev Cert.ScatterRefIdeal.nD).tc : Thread Cert.ScatterRefIdeal.nD Cert.ScatterRefIdeal.τ).loc Cert.ScatterRefIdeal.main_arg0))
      ∧ m ((c.tc : Thread Cert.ScatterIdeal.nD Cert.ScatterIdeal.τ).loc Cert.ScatterIdeal.main_arg1) = Layout.block ⟨3, ![8, 1024, 192]⟩ ⟨3, ![64, 1024, 192]⟩ 0 8 c (m' (((0 : Dev Cert.ScatterRefIdeal.nD).tc : Thread Cert.ScatterRefIdeal.nD Cert.ScatterRefIdeal.τ).loc Cert.ScatterRefIdeal.main_arg1))
      ∧ m ((c.tc : Thread Cert.ScatterIdeal.nD Cert.ScatterIdeal.τ).loc Cert.ScatterIdeal.main_arg2) = Layout.block ⟨3, ![8, 512, 256]⟩ ⟨3, ![64, 512, 256]⟩ 0 8 c (m' (((0 : Dev Cert.ScatterRefIdeal.nD).tc : Thread Cert.ScatterRefIdeal.nD Cert.ScatterRefIdeal.τ).loc Cert.ScatterRefIdeal.main_arg2))
      ∧ m ((c.tc : Thread Cert.ScatterIdeal.nD Cert.ScatterIdeal.τ).loc Cert.ScatterIdeal.main_arg3) = Layout.block ⟨3, ![8, 2048, 1024]⟩ ⟨3, ![64, 2048, 1024]⟩ 0 8 c (m' (((0 : Dev Cert.ScatterRefIdeal.nD).tc : Thread Cert.ScatterRefIdeal.nD Cert.ScatterRefIdeal.τ).loc Cert.ScatterRefIdeal.main_arg3))
      ∧ m ((c.tc : Thread Cert.ScatterIdeal.nD Cert.ScatterIdeal.τ).loc Cert.ScatterIdeal.main_arg4) = Layout.block ⟨3, ![8, 2048, 512]⟩ ⟨3, ![64, 2048, 512]⟩ 0 8 c (m' (((0 : Dev Cert.ScatterRefIdeal.nD).tc : Thread Cert.ScatterRefIdeal.nD Cert.ScatterRefIdeal.τ).loc Cert.ScatterRefIdeal.main_arg4))
      ∧ m ((c.tc : Thread Cert.ScatterIdeal.nD Cert.ScatterIdeal.τ).loc Cert.ScatterIdeal.main_arg5) = Layout.block ⟨3, ![8, 32, 128]⟩ ⟨3, ![64, 32, 128]⟩ 0 8 c (m' (((0 : Dev Cert.ScatterRefIdeal.nD).tc : Thread Cert.ScatterRefIdeal.nD Cert.ScatterRefIdeal.τ).loc Cert.ScatterRefIdeal.main_arg5))) →
    ∃ (v0 : Buf (Elt Ideal) (((0 : Dev Cert.ScatterRefIdeal.nD).tc : Thread Cert.ScatterRefIdeal.nD Cert.ScatterRefIdeal.τ).loc Cert.ScatterRefIdeal.main_v2)) (v1 : Buf (Elt Ideal) (((0 : Dev Cert.ScatterRefIdeal.nD).tc : Thread Cert.ScatterRefIdeal.nD Cert.ScatterRefIdeal.τ).loc Cert.ScatterRefIdeal.main_v5)) (v2 : Buf (Elt Ideal) (((0 : Dev Cert.ScatterRefIdeal.nD).tc : Thread Cert.ScatterRefIdeal.nD Cert.ScatterRefIdeal.τ).loc Cert.ScatterRefIdeal.main_v8)) (v3 : Buf (Elt Ideal) (((0 : Dev Cert.ScatterRefIdeal.nD).tc : Thread Cert.ScatterRefIdeal.nD Cert.ScatterRefIdeal.τ).loc Cert.ScatterRefIdeal.main_v11)) (v4 : Buf (Elt Ideal) (((0 : Dev Cert.ScatterRefIdeal.nD).tc : Thread Cert.ScatterRefIdeal.nD Cert.ScatterRefIdeal.τ).loc Cert.ScatterRefIdeal.main_v14)) (v5 : Buf (Elt Ideal) (((0 : Dev Cert.ScatterRefIdeal.nD).tc : Thread Cert.ScatterRefIdeal.nD Cert.ScatterRefIdeal.τ).loc Cert.ScatterRefIdeal.main_v17)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v1_0) = Layout.block ⟨3, ![8, 2048, 1196]⟩ ⟨3, ![64, 2048, 1196]⟩ 0 8 c v0
          ∧ r.2.mem ((c.tc : Thread Cert.ScatterIdeal.nD Cert.ScatterIdeal.τ).loc Cert.ScatterIdeal.main_v1_1) = Layout.block ⟨3, ![8, 1024, 192]⟩ ⟨3, ![64, 1024, 192]⟩ 0 8 c v1
          ∧ r.2.mem ((c.tc : Thread Cert.ScatterIdeal.nD Cert.ScatterIdeal.τ).loc Cert.ScatterIdeal.main_v1_2) = Layout.block ⟨3, ![8, 512, 256]⟩ ⟨3, ![64, 512, 256]⟩ 0 8 c v2
          ∧ r.2.mem ((c.tc : Thread Cert.ScatterIdeal.nD Cert.ScatterIdeal.τ).loc Cert.ScatterIdeal.main_v1_3) = Layout.block ⟨3, ![8, 2048, 1024]⟩ ⟨3, ![64, 2048, 1024]⟩ 0 8 c v3
          ∧ r.2.mem ((c.tc : Thread Cert.ScatterIdeal.nD Cert.ScatterIdeal.τ).loc Cert.ScatterIdeal.main_v1_4) = Layout.block ⟨3, ![8, 2048, 512]⟩ ⟨3, ![64, 2048, 512]⟩ 0 8 c v4
          ∧ r.2.mem ((c.tc : Thread Cert.ScatterIdeal.nD Cert.ScatterIdeal.τ).loc Cert.ScatterIdeal.main_v1_5) = Layout.block ⟨3, ![8, 32, 128]⟩ ⟨3, ![64, 32, 128]⟩ 0 8 c v5
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
          ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
          ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3)
          ∧ r.2.mem ((c.tc : Thread Cert.ScatterIdeal.nD Cert.ScatterIdeal.τ).loc Cert.ScatterIdeal.main_arg4) = m ((c.tc : Thread Cert.ScatterIdeal.nD Cert.ScatterIdeal.τ).loc Cert.ScatterIdeal.main_arg4)
          ∧ r.2.mem ((c.tc : Thread Cert.ScatterIdeal.nD Cert.ScatterIdeal.τ).loc Cert.ScatterIdeal.main_arg5) = m ((c.tc : Thread Cert.ScatterIdeal.nD Cert.ScatterIdeal.τ).loc Cert.ScatterIdeal.main_arg5))
      ∧ θ_run (Cert.ScatterRefIdeal.defs (F := Ideal)) (onTc (τ := Cert.ScatterRefIdeal.τ) (Cert.ScatterRefIdeal.main (F := Ideal))) ⟨m', fun _ => 0, g'⟩ (fun r =>
          r.2.mem (((0 : Dev Cert.ScatterRefIdeal.nD).tc : Thread Cert.ScatterRefIdeal.nD Cert.ScatterRefIdeal.τ).loc Cert.ScatterRefIdeal.main_v2) = v0
          ∧ r.2.mem (((0 : Dev Cert.ScatterRefIdeal.nD).tc : Thread Cert.ScatterRefIdeal.nD Cert.ScatterRefIdeal.τ).loc Cert.ScatterRefIdeal.main_v5) = v1
          ∧ r.2.mem (((0 : Dev Cert.ScatterRefIdeal.nD).tc : Thread Cert.ScatterRefIdeal.nD Cert.ScatterRefIdeal.τ).loc Cert.ScatterRefIdeal.main_v8) = v2
          ∧ r.2.mem (((0 : Dev Cert.ScatterRefIdeal.nD).tc : Thread Cert.ScatterRefIdeal.nD Cert.ScatterRefIdeal.τ).loc Cert.ScatterRefIdeal.main_v11) = v3
          ∧ r.2.mem (((0 : Dev Cert.ScatterRefIdeal.nD).tc : Thread Cert.ScatterRefIdeal.nD Cert.ScatterRefIdeal.τ).loc Cert.ScatterRefIdeal.main_v14) = v4
          ∧ r.2.mem (((0 : Dev Cert.ScatterRefIdeal.nD).tc : Thread Cert.ScatterRefIdeal.nD Cert.ScatterRefIdeal.τ).loc Cert.ScatterRefIdeal.main_v17) = v5
          ∧ r.2.mem (((0 : Dev Cert.ScatterRefIdeal.nD).tc : Thread Cert.ScatterRefIdeal.nD Cert.ScatterRefIdeal.τ).loc Cert.ScatterRefIdeal.main_arg0) = m' (((0 : Dev Cert.ScatterRefIdeal.nD).tc : Thread Cert.ScatterRefIdeal.nD Cert.ScatterRefIdeal.τ).loc Cert.ScatterRefIdeal.main_arg0)
          ∧ r.2.mem (((0 : Dev Cert.ScatterRefIdeal.nD).tc : Thread Cert.ScatterRefIdeal.nD Cert.ScatterRefIdeal.τ).loc Cert.ScatterRefIdeal.main_arg1) = m' (((0 : Dev Cert.ScatterRefIdeal.nD).tc : Thread Cert.ScatterRefIdeal.nD Cert.ScatterRefIdeal.τ).loc Cert.ScatterRefIdeal.main_arg1)
          ∧ r.2.mem (((0 : Dev Cert.ScatterRefIdeal.nD).tc : Thread Cert.ScatterRefIdeal.nD Cert.ScatterRefIdeal.τ).loc Cert.ScatterRefIdeal.main_arg2) = m' (((0 : Dev Cert.ScatterRefIdeal.nD).tc : Thread Cert.ScatterRefIdeal.nD Cert.ScatterRefIdeal.τ).loc Cert.ScatterRefIdeal.main_arg2)
          ∧ r.2.mem (((0 : Dev Cert.ScatterRefIdeal.nD).tc : Thread Cert.ScatterRefIdeal.nD Cert.ScatterRefIdeal.τ).loc Cert.ScatterRefIdeal.main_arg3) = m' (((0 : Dev Cert.ScatterRefIdeal.nD).tc : Thread Cert.ScatterRefIdeal.nD Cert.ScatterRefIdeal.τ).loc Cert.ScatterRefIdeal.main_arg3)
          ∧ r.2.mem (((0 : Dev Cert.ScatterRefIdeal.nD).tc : Thread Cert.ScatterRefIdeal.nD Cert.ScatterRefIdeal.τ).loc Cert.ScatterRefIdeal.main_arg4) = m' (((0 : Dev Cert.ScatterRefIdeal.nD).tc : Thread Cert.ScatterRefIdeal.nD Cert.ScatterRefIdeal.τ).loc Cert.ScatterRefIdeal.main_arg4)
          ∧ r.2.mem (((0 : Dev Cert.ScatterRefIdeal.nD).tc : Thread Cert.ScatterRefIdeal.nD Cert.ScatterRefIdeal.τ).loc Cert.ScatterRefIdeal.main_arg5) = m' (((0 : Dev Cert.ScatterRefIdeal.nD).tc : Thread Cert.ScatterRefIdeal.nD Cert.ScatterRefIdeal.τ).loc Cert.ScatterRefIdeal.main_arg5))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![2048, 1196]⟩ ⟨2, ![16384, 1196]⟩ 0 8 c (m' (((0 : Dev Cert.GatherRefIdeal.nD).tc : Thread Cert.GatherRefIdeal.nD Cert.GatherRefIdeal.τ).loc Cert.GatherRefIdeal.main_arg0))
      ∧ m ((c.tc : Thread Cert.GatherIdeal.nD Cert.GatherIdeal.τ).loc Cert.GatherIdeal.main_arg1) = Layout.block ⟨2, ![1024, 192]⟩ ⟨2, ![8192, 192]⟩ 0 8 c (m' (((0 : Dev Cert.GatherRefIdeal.nD).tc : Thread Cert.GatherRefIdeal.nD Cert.GatherRefIdeal.τ).loc Cert.GatherRefIdeal.main_arg1))
      ∧ m ((c.tc : Thread Cert.GatherIdeal.nD Cert.GatherIdeal.τ).loc Cert.GatherIdeal.main_arg2) = Layout.block ⟨2, ![512, 256]⟩ ⟨2, ![4096, 256]⟩ 0 8 c (m' (((0 : Dev Cert.GatherRefIdeal.nD).tc : Thread Cert.GatherRefIdeal.nD Cert.GatherRefIdeal.τ).loc Cert.GatherRefIdeal.main_arg2))
      ∧ m ((c.tc : Thread Cert.GatherIdeal.nD Cert.GatherIdeal.τ).loc Cert.GatherIdeal.main_arg3) = Layout.block ⟨2, ![2048, 1024]⟩ ⟨2, ![16384, 1024]⟩ 0 8 c (m' (((0 : Dev Cert.GatherRefIdeal.nD).tc : Thread Cert.GatherRefIdeal.nD Cert.GatherRefIdeal.τ).loc Cert.GatherRefIdeal.main_arg3))
      ∧ m ((c.tc : Thread Cert.GatherIdeal.nD Cert.GatherIdeal.τ).loc Cert.GatherIdeal.main_arg4) = Layout.block ⟨2, ![2048, 512]⟩ ⟨2, ![16384, 512]⟩ 0 8 c (m' (((0 : Dev Cert.GatherRefIdeal.nD).tc : Thread Cert.GatherRefIdeal.nD Cert.GatherRefIdeal.τ).loc Cert.GatherRefIdeal.main_arg4))
      ∧ m ((c.tc : Thread Cert.GatherIdeal.nD Cert.GatherIdeal.τ).loc Cert.GatherIdeal.main_arg5) = Layout.block ⟨2, ![32, 128]⟩ ⟨2, ![256, 128]⟩ 0 8 c (m' (((0 : Dev Cert.GatherRefIdeal.nD).tc : Thread Cert.GatherRefIdeal.nD Cert.GatherRefIdeal.τ).loc Cert.GatherRefIdeal.main_arg5))) →
    ∃ (v0 : Buf (Elt Ideal) (((0 : Dev Cert.GatherRefIdeal.nD).tc : Thread Cert.GatherRefIdeal.nD Cert.GatherRefIdeal.τ).loc Cert.GatherRefIdeal.main_v0)) (v1 : Buf (Elt Ideal) (((0 : Dev Cert.GatherRefIdeal.nD).tc : Thread Cert.GatherRefIdeal.nD Cert.GatherRefIdeal.τ).loc Cert.GatherRefIdeal.main_v1)) (v2 : Buf (Elt Ideal) (((0 : Dev Cert.GatherRefIdeal.nD).tc : Thread Cert.GatherRefIdeal.nD Cert.GatherRefIdeal.τ).loc Cert.GatherRefIdeal.main_v2)) (v3 : Buf (Elt Ideal) (((0 : Dev Cert.GatherRefIdeal.nD).tc : Thread Cert.GatherRefIdeal.nD Cert.GatherRefIdeal.τ).loc Cert.GatherRefIdeal.main_v3)) (v4 : Buf (Elt Ideal) (((0 : Dev Cert.GatherRefIdeal.nD).tc : Thread Cert.GatherRefIdeal.nD Cert.GatherRefIdeal.τ).loc Cert.GatherRefIdeal.main_v4)) (v5 : Buf (Elt Ideal) (((0 : Dev Cert.GatherRefIdeal.nD).tc : Thread Cert.GatherRefIdeal.nD Cert.GatherRefIdeal.τ).loc Cert.GatherRefIdeal.main_v5)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_v1_5) = v5
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
          ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_v1) = v1
          ∧ r.2.mem (((0 : Dev Cert.GatherRefIdeal.nD).tc : Thread Cert.GatherRefIdeal.nD Cert.GatherRefIdeal.τ).loc Cert.GatherRefIdeal.main_v2) = v2
          ∧ r.2.mem (((0 : Dev Cert.GatherRefIdeal.nD).tc : Thread Cert.GatherRefIdeal.nD Cert.GatherRefIdeal.τ).loc Cert.GatherRefIdeal.main_v3) = v3
          ∧ r.2.mem (((0 : Dev Cert.GatherRefIdeal.nD).tc : Thread Cert.GatherRefIdeal.nD Cert.GatherRefIdeal.τ).loc Cert.GatherRefIdeal.main_v4) = v4
          ∧ r.2.mem (((0 : Dev Cert.GatherRefIdeal.nD).tc : Thread Cert.GatherRefIdeal.nD Cert.GatherRefIdeal.τ).loc Cert.GatherRefIdeal.main_v5) = v5
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2)
          ∧ r.2.mem (((0 : Dev Cert.GatherRefIdeal.nD).tc : Thread Cert.GatherRefIdeal.nD Cert.GatherRefIdeal.τ).loc Cert.GatherRefIdeal.main_arg3) = m' (((0 : Dev Cert.GatherRefIdeal.nD).tc : Thread Cert.GatherRefIdeal.nD Cert.GatherRefIdeal.τ).loc Cert.GatherRefIdeal.main_arg3)
          ∧ r.2.mem (((0 : Dev Cert.GatherRefIdeal.nD).tc : Thread Cert.GatherRefIdeal.nD Cert.GatherRefIdeal.τ).loc Cert.GatherRefIdeal.main_arg4) = m' (((0 : Dev Cert.GatherRefIdeal.nD).tc : Thread Cert.GatherRefIdeal.nD Cert.GatherRefIdeal.τ).loc Cert.GatherRefIdeal.main_arg4)
          ∧ r.2.mem (((0 : Dev Cert.GatherRefIdeal.nD).tc : Thread Cert.GatherRefIdeal.nD Cert.GatherRefIdeal.τ).loc Cert.GatherRefIdeal.main_arg5) = m' (((0 : Dev Cert.GatherRefIdeal.nD).tc : Thread Cert.GatherRefIdeal.nD Cert.GatherRefIdeal.τ).loc Cert.GatherRefIdeal.main_arg5))

def bitexact_Small_SmallRef [hSmall : Cert.Small.Facts] [hSmallRef : Cert.SmallRef.Facts] : Prop :=
  ∀ (m : (ℓ : Loc Cert.Small.nD Cert.Small.τ Cert.Small.sig) → Buf (Elt Bits) ℓ) (g : Dev Cert.Small.nD → PrngReg)
    (m' : (ℓ : Loc Cert.SmallRef.nD Cert.SmallRef.τ Cert.SmallRef.sig) → Buf (Elt Bits) ℓ) (g' : Dev Cert.SmallRef.nD → PrngReg), Pre_Small m →
    (∀ c : Dev Cert.Small.nD,
      m ((c.tc : Thread Cert.Small.nD Cert.Small.τ).loc Cert.Small.main_arg0) = Layout.block ⟨2, ![96, 128]⟩ ⟨2, ![768, 128]⟩ 0 8 c (m' (((0 : Dev Cert.SmallRef.nD).tc : Thread Cert.SmallRef.nD Cert.SmallRef.τ).loc Cert.SmallRef.main_arg0))) →
    ∃ (v0 : Buf (Elt Bits) (((0 : Dev Cert.SmallRef.nD).tc : Thread Cert.SmallRef.nD Cert.SmallRef.τ).loc Cert.SmallRef.main_v0)),
      θ_run (Cert.Small.defs (F := Bits)) (onTc (τ := Cert.Small.τ) (Cert.Small.main (F := Bits))) ⟨m, fun _ => 0, g⟩ (fun r => ∀ c : Dev Cert.Small.nD,
          r.2.mem ((c.tc : Thread Cert.Small.nD Cert.Small.τ).loc Cert.Small.main_v1) = v0
          ∧ r.2.mem ((c.tc : Thread Cert.Small.nD Cert.Small.τ).loc Cert.Small.main_arg0) = m ((c.tc : Thread Cert.Small.nD Cert.Small.τ).loc Cert.Small.main_arg0))
      ∧ θ_run (Cert.SmallRef.defs (F := Bits)) (onTc (τ := Cert.SmallRef.τ) (Cert.SmallRef.main (F := Bits))) ⟨m', fun _ => 0, g'⟩ (fun r =>
          r.2.mem (((0 : Dev Cert.SmallRef.nD).tc : Thread Cert.SmallRef.nD Cert.SmallRef.τ).loc Cert.SmallRef.main_v0) = v0
          ∧ r.2.mem (((0 : Dev Cert.SmallRef.nD).tc : Thread Cert.SmallRef.nD Cert.SmallRef.τ).loc Cert.SmallRef.main_arg0) = m' (((0 : Dev Cert.SmallRef.nD).tc : Thread Cert.SmallRef.nD Cert.SmallRef.τ).loc Cert.SmallRef.main_arg0))

def bitexact_Scatter_ScatterRef [hScatter : Cert.Scatter.Facts] [hScatterRef : Cert.ScatterRef.Facts] : Prop :=
  ∀ (m : (ℓ : Loc Cert.Scatter.nD Cert.Scatter.τ Cert.Scatter.sig) → Buf (Elt Bits) ℓ) (g : Dev Cert.Scatter.nD → PrngReg)
    (m' : (ℓ : Loc Cert.ScatterRef.nD Cert.ScatterRef.τ Cert.ScatterRef.sig) → Buf (Elt Bits) ℓ) (g' : Dev Cert.ScatterRef.nD → PrngReg), Pre_Scatter m →
    (∀ c : Dev Cert.Scatter.nD,
      m ((c.tc : Thread Cert.Scatter.nD Cert.Scatter.τ).loc Cert.Scatter.main_arg0) = Layout.block ⟨3, ![8, 2048, 1196]⟩ ⟨3, ![64, 2048, 1196]⟩ 0 8 c (m' (((0 : Dev Cert.ScatterRef.nD).tc : Thread Cert.ScatterRef.nD Cert.ScatterRef.τ).loc Cert.ScatterRef.main_arg0))
      ∧ m ((c.tc : Thread Cert.Scatter.nD Cert.Scatter.τ).loc Cert.Scatter.main_arg1) = Layout.block ⟨3, ![8, 1024, 192]⟩ ⟨3, ![64, 1024, 192]⟩ 0 8 c (m' (((0 : Dev Cert.ScatterRef.nD).tc : Thread Cert.ScatterRef.nD Cert.ScatterRef.τ).loc Cert.ScatterRef.main_arg1))
      ∧ m ((c.tc : Thread Cert.Scatter.nD Cert.Scatter.τ).loc Cert.Scatter.main_arg2) = Layout.block ⟨3, ![8, 512, 256]⟩ ⟨3, ![64, 512, 256]⟩ 0 8 c (m' (((0 : Dev Cert.ScatterRef.nD).tc : Thread Cert.ScatterRef.nD Cert.ScatterRef.τ).loc Cert.ScatterRef.main_arg2))
      ∧ m ((c.tc : Thread Cert.Scatter.nD Cert.Scatter.τ).loc Cert.Scatter.main_arg3) = Layout.block ⟨3, ![8, 2048, 1024]⟩ ⟨3, ![64, 2048, 1024]⟩ 0 8 c (m' (((0 : Dev Cert.ScatterRef.nD).tc : Thread Cert.ScatterRef.nD Cert.ScatterRef.τ).loc Cert.ScatterRef.main_arg3))
      ∧ m ((c.tc : Thread Cert.Scatter.nD Cert.Scatter.τ).loc Cert.Scatter.main_arg4) = Layout.block ⟨3, ![8, 2048, 512]⟩ ⟨3, ![64, 2048, 512]⟩ 0 8 c (m' (((0 : Dev Cert.ScatterRef.nD).tc : Thread Cert.ScatterRef.nD Cert.ScatterRef.τ).loc Cert.ScatterRef.main_arg4))
      ∧ m ((c.tc : Thread Cert.Scatter.nD Cert.Scatter.τ).loc Cert.Scatter.main_arg5) = Layout.block ⟨3, ![8, 32, 128]⟩ ⟨3, ![64, 32, 128]⟩ 0 8 c (m' (((0 : Dev Cert.ScatterRef.nD).tc : Thread Cert.ScatterRef.nD Cert.ScatterRef.τ).loc Cert.ScatterRef.main_arg5))) →
    ∃ (v0 : Buf (Elt Bits) (((0 : Dev Cert.ScatterRef.nD).tc : Thread Cert.ScatterRef.nD Cert.ScatterRef.τ).loc Cert.ScatterRef.main_v2)) (v1 : Buf (Elt Bits) (((0 : Dev Cert.ScatterRef.nD).tc : Thread Cert.ScatterRef.nD Cert.ScatterRef.τ).loc Cert.ScatterRef.main_v5)) (v2 : Buf (Elt Bits) (((0 : Dev Cert.ScatterRef.nD).tc : Thread Cert.ScatterRef.nD Cert.ScatterRef.τ).loc Cert.ScatterRef.main_v8)) (v3 : Buf (Elt Bits) (((0 : Dev Cert.ScatterRef.nD).tc : Thread Cert.ScatterRef.nD Cert.ScatterRef.τ).loc Cert.ScatterRef.main_v11)) (v4 : Buf (Elt Bits) (((0 : Dev Cert.ScatterRef.nD).tc : Thread Cert.ScatterRef.nD Cert.ScatterRef.τ).loc Cert.ScatterRef.main_v14)) (v5 : Buf (Elt Bits) (((0 : Dev Cert.ScatterRef.nD).tc : Thread Cert.ScatterRef.nD Cert.ScatterRef.τ).loc Cert.ScatterRef.main_v17)),
      θ_run (Cert.Scatter.defs (F := Bits)) (onTc (τ := Cert.Scatter.τ) (Cert.Scatter.main (F := Bits))) ⟨m, fun _ => 0, g⟩ (fun r => ∀ c : Dev Cert.Scatter.nD,
          r.2.mem ((c.tc : Thread Cert.Scatter.nD Cert.Scatter.τ).loc Cert.Scatter.main_v1_0) = Layout.block ⟨3, ![8, 2048, 1196]⟩ ⟨3, ![64, 2048, 1196]⟩ 0 8 c v0
          ∧ r.2.mem ((c.tc : Thread Cert.Scatter.nD Cert.Scatter.τ).loc Cert.Scatter.main_v1_1) = Layout.block ⟨3, ![8, 1024, 192]⟩ ⟨3, ![64, 1024, 192]⟩ 0 8 c v1
          ∧ r.2.mem ((c.tc : Thread Cert.Scatter.nD Cert.Scatter.τ).loc Cert.Scatter.main_v1_2) = Layout.block ⟨3, ![8, 512, 256]⟩ ⟨3, ![64, 512, 256]⟩ 0 8 c v2
          ∧ r.2.mem ((c.tc : Thread Cert.Scatter.nD Cert.Scatter.τ).loc Cert.Scatter.main_v1_3) = Layout.block ⟨3, ![8, 2048, 1024]⟩ ⟨3, ![64, 2048, 1024]⟩ 0 8 c v3
          ∧ r.2.mem ((c.tc : Thread Cert.Scatter.nD Cert.Scatter.τ).loc Cert.Scatter.main_v1_4) = Layout.block ⟨3, ![8, 2048, 512]⟩ ⟨3, ![64, 2048, 512]⟩ 0 8 c v4
          ∧ r.2.mem ((c.tc : Thread Cert.Scatter.nD Cert.Scatter.τ).loc Cert.Scatter.main_v1_5) = Layout.block ⟨3, ![8, 32, 128]⟩ ⟨3, ![64, 32, 128]⟩ 0 8 c v5
          ∧ r.2.mem ((c.tc : Thread Cert.Scatter.nD Cert.Scatter.τ).loc Cert.Scatter.main_arg0) = m ((c.tc : Thread Cert.Scatter.nD Cert.Scatter.τ).loc Cert.Scatter.main_arg0)
          ∧ r.2.mem ((c.tc : Thread Cert.Scatter.nD Cert.Scatter.τ).loc Cert.Scatter.main_arg1) = m ((c.tc : Thread Cert.Scatter.nD Cert.Scatter.τ).loc Cert.Scatter.main_arg1)
          ∧ r.2.mem ((c.tc : Thread Cert.Scatter.nD Cert.Scatter.τ).loc Cert.Scatter.main_arg2) = m ((c.tc : Thread Cert.Scatter.nD Cert.Scatter.τ).loc Cert.Scatter.main_arg2)
          ∧ r.2.mem ((c.tc : Thread Cert.Scatter.nD Cert.Scatter.τ).loc Cert.Scatter.main_arg3) = m ((c.tc : Thread Cert.Scatter.nD Cert.Scatter.τ).loc Cert.Scatter.main_arg3)
          ∧ r.2.mem ((c.tc : Thread Cert.Scatter.nD Cert.Scatter.τ).loc Cert.Scatter.main_arg4) = m ((c.tc : Thread Cert.Scatter.nD Cert.Scatter.τ).loc Cert.Scatter.main_arg4)
          ∧ r.2.mem ((c.tc : Thread Cert.Scatter.nD Cert.Scatter.τ).loc Cert.Scatter.main_arg5) = m ((c.tc : Thread Cert.Scatter.nD Cert.Scatter.τ).loc Cert.Scatter.main_arg5))
      ∧ θ_run (Cert.ScatterRef.defs (F := Bits)) (onTc (τ := Cert.ScatterRef.τ) (Cert.ScatterRef.main (F := Bits))) ⟨m', fun _ => 0, g'⟩ (fun r =>
          r.2.mem (((0 : Dev Cert.ScatterRef.nD).tc : Thread Cert.ScatterRef.nD Cert.ScatterRef.τ).loc Cert.ScatterRef.main_v2) = v0
          ∧ r.2.mem (((0 : Dev Cert.ScatterRef.nD).tc : Thread Cert.ScatterRef.nD Cert.ScatterRef.τ).loc Cert.ScatterRef.main_v5) = v1
          ∧ r.2.mem (((0 : Dev Cert.ScatterRef.nD).tc : Thread Cert.ScatterRef.nD Cert.ScatterRef.τ).loc Cert.ScatterRef.main_v8) = v2
          ∧ r.2.mem (((0 : Dev Cert.ScatterRef.nD).tc : Thread Cert.ScatterRef.nD Cert.ScatterRef.τ).loc Cert.ScatterRef.main_v11) = v3
          ∧ r.2.mem (((0 : Dev Cert.ScatterRef.nD).tc : Thread Cert.ScatterRef.nD Cert.ScatterRef.τ).loc Cert.ScatterRef.main_v14) = v4
          ∧ r.2.mem (((0 : Dev Cert.ScatterRef.nD).tc : Thread Cert.ScatterRef.nD Cert.ScatterRef.τ).loc Cert.ScatterRef.main_v17) = v5
          ∧ r.2.mem (((0 : Dev Cert.ScatterRef.nD).tc : Thread Cert.ScatterRef.nD Cert.ScatterRef.τ).loc Cert.ScatterRef.main_arg0) = m' (((0 : Dev Cert.ScatterRef.nD).tc : Thread Cert.ScatterRef.nD Cert.ScatterRef.τ).loc Cert.ScatterRef.main_arg0)
          ∧ r.2.mem (((0 : Dev Cert.ScatterRef.nD).tc : Thread Cert.ScatterRef.nD Cert.ScatterRef.τ).loc Cert.ScatterRef.main_arg1) = m' (((0 : Dev Cert.ScatterRef.nD).tc : Thread Cert.ScatterRef.nD Cert.ScatterRef.τ).loc Cert.ScatterRef.main_arg1)
          ∧ r.2.mem (((0 : Dev Cert.ScatterRef.nD).tc : Thread Cert.ScatterRef.nD Cert.ScatterRef.τ).loc Cert.ScatterRef.main_arg2) = m' (((0 : Dev Cert.ScatterRef.nD).tc : Thread Cert.ScatterRef.nD Cert.ScatterRef.τ).loc Cert.ScatterRef.main_arg2)
          ∧ r.2.mem (((0 : Dev Cert.ScatterRef.nD).tc : Thread Cert.ScatterRef.nD Cert.ScatterRef.τ).loc Cert.ScatterRef.main_arg3) = m' (((0 : Dev Cert.ScatterRef.nD).tc : Thread Cert.ScatterRef.nD Cert.ScatterRef.τ).loc Cert.ScatterRef.main_arg3)
          ∧ r.2.mem (((0 : Dev Cert.ScatterRef.nD).tc : Thread Cert.ScatterRef.nD Cert.ScatterRef.τ).loc Cert.ScatterRef.main_arg4) = m' (((0 : Dev Cert.ScatterRef.nD).tc : Thread Cert.ScatterRef.nD Cert.ScatterRef.τ).loc Cert.ScatterRef.main_arg4)
          ∧ r.2.mem (((0 : Dev Cert.ScatterRef.nD).tc : Thread Cert.ScatterRef.nD Cert.ScatterRef.τ).loc Cert.ScatterRef.main_arg5) = m' (((0 : Dev Cert.ScatterRef.nD).tc : Thread Cert.ScatterRef.nD Cert.ScatterRef.τ).loc Cert.ScatterRef.main_arg5))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.block ⟨2, ![2048, 1196]⟩ ⟨2, ![16384, 1196]⟩ 0 8 c (m' (((0 : Dev Cert.GatherRef.nD).tc : Thread Cert.GatherRef.nD Cert.GatherRef.τ).loc Cert.GatherRef.main_arg0))
      ∧ m ((c.tc : Thread Cert.Gather.nD Cert.Gather.τ).loc Cert.Gather.main_arg1) = Layout.block ⟨2, ![1024, 192]⟩ ⟨2, ![8192, 192]⟩ 0 8 c (m' (((0 : Dev Cert.GatherRef.nD).tc : Thread Cert.GatherRef.nD Cert.GatherRef.τ).loc Cert.GatherRef.main_arg1))
      ∧ m ((c.tc : Thread Cert.Gather.nD Cert.Gather.τ).loc Cert.Gather.main_arg2) = Layout.block ⟨2, ![512, 256]⟩ ⟨2, ![4096, 256]⟩ 0 8 c (m' (((0 : Dev Cert.GatherRef.nD).tc : Thread Cert.GatherRef.nD Cert.GatherRef.τ).loc Cert.GatherRef.main_arg2))
      ∧ m ((c.tc : Thread Cert.Gather.nD Cert.Gather.τ).loc Cert.Gather.main_arg3) = Layout.block ⟨2, ![2048, 1024]⟩ ⟨2, ![16384, 1024]⟩ 0 8 c (m' (((0 : Dev Cert.GatherRef.nD).tc : Thread Cert.GatherRef.nD Cert.GatherRef.τ).loc Cert.GatherRef.main_arg3))
      ∧ m ((c.tc : Thread Cert.Gather.nD Cert.Gather.τ).loc Cert.Gather.main_arg4) = Layout.block ⟨2, ![2048, 512]⟩ ⟨2, ![16384, 512]⟩ 0 8 c (m' (((0 : Dev Cert.GatherRef.nD).tc : Thread Cert.GatherRef.nD Cert.GatherRef.τ).loc Cert.GatherRef.main_arg4))
      ∧ m ((c.tc : Thread Cert.Gather.nD Cert.Gather.τ).loc Cert.Gather.main_arg5) = Layout.block ⟨2, ![32, 128]⟩ ⟨2, ![256, 128]⟩ 0 8 c (m' (((0 : Dev Cert.GatherRef.nD).tc : Thread Cert.GatherRef.nD Cert.GatherRef.τ).loc Cert.GatherRef.main_arg5))) →
    ∃ (v0 : Buf (Elt Bits) (((0 : Dev Cert.GatherRef.nD).tc : Thread Cert.GatherRef.nD Cert.GatherRef.τ).loc Cert.GatherRef.main_v0)) (v1 : Buf (Elt Bits) (((0 : Dev Cert.GatherRef.nD).tc : Thread Cert.GatherRef.nD Cert.GatherRef.τ).loc Cert.GatherRef.main_v1)) (v2 : Buf (Elt Bits) (((0 : Dev Cert.GatherRef.nD).tc : Thread Cert.GatherRef.nD Cert.GatherRef.τ).loc Cert.GatherRef.main_v2)) (v3 : Buf (Elt Bits) (((0 : Dev Cert.GatherRef.nD).tc : Thread Cert.GatherRef.nD Cert.GatherRef.τ).loc Cert.GatherRef.main_v3)) (v4 : Buf (Elt Bits) (((0 : Dev Cert.GatherRef.nD).tc : Thread Cert.GatherRef.nD Cert.GatherRef.τ).loc Cert.GatherRef.main_v4)) (v5 : Buf (Elt Bits) (((0 : Dev Cert.GatherRef.nD).tc : Thread Cert.GatherRef.nD Cert.GatherRef.τ).loc Cert.GatherRef.main_v5)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_v1_4) = v4
          ∧ r.2.mem ((c.tc : Thread Cert.Gather.nD Cert.Gather.τ).loc Cert.Gather.main_v1_5) = v5
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3)
          ∧ r.2.mem ((c.tc : Thread Cert.Gather.nD Cert.Gather.τ).loc Cert.Gather.main_arg4) = m ((c.tc : Thread Cert.Gather.nD Cert.Gather.τ).loc Cert.Gather.main_arg4)
          ∧ r.2.mem ((c.tc : Thread Cert.Gather.nD Cert.Gather.τ).loc Cert.Gather.main_arg5) = m ((c.tc : Thread Cert.Gather.nD Cert.Gather.τ).loc Cert.Gather.main_arg5))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_v1) = v1
          ∧ r.2.mem (((0 : Dev Cert.GatherRef.nD).tc : Thread Cert.GatherRef.nD Cert.GatherRef.τ).loc Cert.GatherRef.main_v2) = v2
          ∧ r.2.mem (((0 : Dev Cert.GatherRef.nD).tc : Thread Cert.GatherRef.nD Cert.GatherRef.τ).loc Cert.GatherRef.main_v3) = v3
          ∧ r.2.mem (((0 : Dev Cert.GatherRef.nD).tc : Thread Cert.GatherRef.nD Cert.GatherRef.τ).loc Cert.GatherRef.main_v4) = v4
          ∧ r.2.mem (((0 : Dev Cert.GatherRef.nD).tc : Thread Cert.GatherRef.nD Cert.GatherRef.τ).loc Cert.GatherRef.main_v5) = v5
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0)
          ∧ r.2.mem (((0 : Dev Cert.GatherRef.nD).tc : Thread Cert.GatherRef.nD Cert.GatherRef.τ).loc Cert.GatherRef.main_arg1) = m' (((0 : Dev Cert.GatherRef.nD).tc : Thread Cert.GatherRef.nD Cert.GatherRef.τ).loc Cert.GatherRef.main_arg1)
          ∧ r.2.mem (((0 : Dev Cert.GatherRef.nD).tc : Thread Cert.GatherRef.nD Cert.GatherRef.τ).loc Cert.GatherRef.main_arg2) = m' (((0 : Dev Cert.GatherRef.nD).tc : Thread Cert.GatherRef.nD Cert.GatherRef.τ).loc Cert.GatherRef.main_arg2)
          ∧ r.2.mem (((0 : Dev Cert.GatherRef.nD).tc : Thread Cert.GatherRef.nD Cert.GatherRef.τ).loc Cert.GatherRef.main_arg3) = m' (((0 : Dev Cert.GatherRef.nD).tc : Thread Cert.GatherRef.nD Cert.GatherRef.τ).loc Cert.GatherRef.main_arg3)
          ∧ r.2.mem (((0 : Dev Cert.GatherRef.nD).tc : Thread Cert.GatherRef.nD Cert.GatherRef.τ).loc Cert.GatherRef.main_arg4) = m' (((0 : Dev Cert.GatherRef.nD).tc : Thread Cert.GatherRef.nD Cert.GatherRef.τ).loc Cert.GatherRef.main_arg4)
          ∧ r.2.mem (((0 : Dev Cert.GatherRef.nD).tc : Thread Cert.GatherRef.nD Cert.GatherRef.τ).loc Cert.GatherRef.main_arg5) = m' (((0 : Dev Cert.GatherRef.nD).tc : Thread Cert.GatherRef.nD Cert.GatherRef.τ).loc Cert.GatherRef.main_arg5))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamUq_AdamUqIdeal : Prop :=
  True

def algebraic_AdamUqIdeal_AdamUqRefIdeal [hAdamUqIdeal : Cert.AdamUqIdeal.Facts] [hAdamUqRefIdeal : Cert.AdamUqRefIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg)
    (m' : (ℓ : Loc Cert.AdamUqRefIdeal.nD Cert.AdamUqRefIdeal.τ Cert.AdamUqRefIdeal.sig) → Buf (Elt Ideal) ℓ) (g' : Dev Cert.AdamUqRefIdeal.nD → PrngReg), Pre_AdamUqIdeal m →
    (∀ c : Dev Cert.AdamUqIdeal.nD,
      m' ((c.tc : Thread Cert.AdamUqRefIdeal.nD Cert.AdamUqRefIdeal.τ).loc Cert.AdamUqRefIdeal.main_arg0) = m ((c.tc : Thread Cert.AdamUqIdeal.nD Cert.AdamUqIdeal.τ).loc Cert.AdamUqIdeal.main_arg0)
      ∧ m' ((c.tc : Thread Cert.AdamUqRefIdeal.nD Cert.AdamUqRefIdeal.τ).loc Cert.AdamUqRefIdeal.main_arg1) = m ((c.tc : Thread Cert.AdamUqIdeal.nD Cert.AdamUqIdeal.τ).loc Cert.AdamUqIdeal.main_arg1)
      ∧ m' ((c.tc : Thread Cert.AdamUqRefIdeal.nD Cert.AdamUqRefIdeal.τ).loc Cert.AdamUqRefIdeal.main_arg2) = m ((c.tc : Thread Cert.AdamUqIdeal.nD Cert.AdamUqIdeal.τ).loc Cert.AdamUqIdeal.main_arg2)
      ∧ m' ((c.tc : Thread Cert.AdamUqRefIdeal.nD Cert.AdamUqRefIdeal.τ).loc Cert.AdamUqRefIdeal.main_arg3) = m ((c.tc : Thread Cert.AdamUqIdeal.nD Cert.AdamUqIdeal.τ).loc Cert.AdamUqIdeal.main_arg3)) →
    ∃ (v0 : (c : Dev Cert.AdamUqIdeal.nD) → Buf (Elt Ideal) ((c.tc : Thread Cert.AdamUqIdeal.nD Cert.AdamUqIdeal.τ).loc Cert.AdamUqIdeal.main_v0_0)) (v1 : (c : Dev Cert.AdamUqIdeal.nD) → Buf (Elt Ideal) ((c.tc : Thread Cert.AdamUqIdeal.nD Cert.AdamUqIdeal.τ).loc Cert.AdamUqIdeal.main_v0_1)) (v2 : (c : Dev Cert.AdamUqIdeal.nD) → Buf (Elt Ideal) ((c.tc : Thread Cert.AdamUqIdeal.nD Cert.AdamUqIdeal.τ).loc Cert.AdamUqIdeal.main_v0_2)) (v3 : (c : Dev Cert.AdamUqIdeal.nD) → Buf (Elt Ideal) ((c.tc : Thread Cert.AdamUqIdeal.nD Cert.AdamUqIdeal.τ).loc Cert.AdamUqIdeal.main_v0_3)),
      θ_run (Cert.AdamUqIdeal.defs (F := Ideal)) (onTc (τ := Cert.AdamUqIdeal.τ) (Cert.AdamUqIdeal.main (F := Ideal))) ⟨m, fun _ => 0, g⟩ (fun r => ∀ c : Dev Cert.AdamUqIdeal.nD,
          r.2.mem ((c.tc : Thread Cert.AdamUqIdeal.nD Cert.AdamUqIdeal.τ).loc Cert.AdamUqIdeal.main_v0_0) = v0 c
          ∧ r.2.mem ((c.tc : Thread Cert.AdamUqIdeal.nD Cert.AdamUqIdeal.τ).loc Cert.AdamUqIdeal.main_v0_1) = v1 c
          ∧ r.2.mem ((c.tc : Thread Cert.AdamUqIdeal.nD Cert.AdamUqIdeal.τ).loc Cert.AdamUqIdeal.main_v0_2) = v2 c
          ∧ r.2.mem ((c.tc : Thread Cert.AdamUqIdeal.nD Cert.AdamUqIdeal.τ).loc Cert.AdamUqIdeal.main_v0_3) = v3 c
          ∧ r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
          ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
          ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
          ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3))
      ∧ θ_run (Cert.AdamUqRefIdeal.defs (F := Ideal)) (onTc (τ := Cert.AdamUqRefIdeal.τ) (Cert.AdamUqRefIdeal.main (F := Ideal))) ⟨m', fun _ => 0, g'⟩ (fun r => ∀ c : Dev Cert.AdamUqRefIdeal.nD,
          r.2.mem ((c.tc : Thread Cert.AdamUqRefIdeal.nD Cert.AdamUqRefIdeal.τ).loc Cert.AdamUqRefIdeal.main_v1) = v0 c
          ∧ r.2.mem ((c.tc : Thread Cert.AdamUqRefIdeal.nD Cert.AdamUqRefIdeal.τ).loc Cert.AdamUqRefIdeal.main_v25) = v1 c
          ∧ r.2.mem ((c.tc : Thread Cert.AdamUqRefIdeal.nD Cert.AdamUqRefIdeal.τ).loc Cert.AdamUqRefIdeal.main_v6) = v2 c
          ∧ r.2.mem ((c.tc : Thread Cert.AdamUqRefIdeal.nD Cert.AdamUqRefIdeal.τ).loc Cert.AdamUqRefIdeal.main_v12) = v3 c
          ∧ r.2.mem ((c.tc : Thread Cert.AdamUqRefIdeal.nD Cert.AdamUqRefIdeal.τ).loc Cert.AdamUqRefIdeal.main_arg0) = m' ((c.tc : Thread Cert.AdamUqRefIdeal.nD Cert.AdamUqRefIdeal.τ).loc Cert.AdamUqRefIdeal.main_arg0)
          ∧ r.2.mem ((c.tc : Thread Cert.AdamUqRefIdeal.nD Cert.AdamUqRefIdeal.τ).loc Cert.AdamUqRefIdeal.main_arg1) = m' ((c.tc : Thread Cert.AdamUqRefIdeal.nD Cert.AdamUqRefIdeal.τ).loc Cert.AdamUqRefIdeal.main_arg1)
          ∧ r.2.mem ((c.tc : Thread Cert.AdamUqRefIdeal.nD Cert.AdamUqRefIdeal.τ).loc Cert.AdamUqRefIdeal.main_arg2) = m' ((c.tc : Thread Cert.AdamUqRefIdeal.nD Cert.AdamUqRefIdeal.τ).loc Cert.AdamUqRefIdeal.main_arg2)
          ∧ r.2.mem ((c.tc : Thread Cert.AdamUqRefIdeal.nD Cert.AdamUqRefIdeal.τ).loc Cert.AdamUqRefIdeal.main_arg3) = m' ((c.tc : Thread Cert.AdamUqRefIdeal.nD Cert.AdamUqRefIdeal.τ).loc Cert.AdamUqRefIdeal.main_arg3))

def preserves_AdamUkv_AdamUkvIdeal : Prop :=
  True

def algebraic_AdamUkvIdeal_AdamUkvRefIdeal [hAdamUkvIdeal : Cert.AdamUkvIdeal.Facts] [hAdamUkvRefIdeal : Cert.AdamUkvRefIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg)
    (m' : (ℓ : Loc Cert.AdamUkvRefIdeal.nD Cert.AdamUkvRefIdeal.τ Cert.AdamUkvRefIdeal.sig) → Buf (Elt Ideal) ℓ) (g' : Dev Cert.AdamUkvRefIdeal.nD → PrngReg), Pre_AdamUkvIdeal m →
    (∀ c : Dev Cert.AdamUkvIdeal.nD,
      m' ((c.tc : Thread Cert.AdamUkvRefIdeal.nD Cert.AdamUkvRefIdeal.τ).loc Cert.AdamUkvRefIdeal.main_arg0) = m ((c.tc : Thread Cert.AdamUkvIdeal.nD Cert.AdamUkvIdeal.τ).loc Cert.AdamUkvIdeal.main_arg0)
      ∧ m' ((c.tc : Thread Cert.AdamUkvRefIdeal.nD Cert.AdamUkvRefIdeal.τ).loc Cert.AdamUkvRefIdeal.main_arg1) = m ((c.tc : Thread Cert.AdamUkvIdeal.nD Cert.AdamUkvIdeal.τ).loc Cert.AdamUkvIdeal.main_arg1)
      ∧ m' ((c.tc : Thread Cert.AdamUkvRefIdeal.nD Cert.AdamUkvRefIdeal.τ).loc Cert.AdamUkvRefIdeal.main_arg2) = m ((c.tc : Thread Cert.AdamUkvIdeal.nD Cert.AdamUkvIdeal.τ).loc Cert.AdamUkvIdeal.main_arg2)
      ∧ m' ((c.tc : Thread Cert.AdamUkvRefIdeal.nD Cert.AdamUkvRefIdeal.τ).loc Cert.AdamUkvRefIdeal.main_arg3) = m ((c.tc : Thread Cert.AdamUkvIdeal.nD Cert.AdamUkvIdeal.τ).loc Cert.AdamUkvIdeal.main_arg3)) →
    ∃ (v0 : (c : Dev Cert.AdamUkvIdeal.nD) → Buf (Elt Ideal) ((c.tc : Thread Cert.AdamUkvIdeal.nD Cert.AdamUkvIdeal.τ).loc Cert.AdamUkvIdeal.main_v0_0)) (v1 : (c : Dev Cert.AdamUkvIdeal.nD) → Buf (Elt Ideal) ((c.tc : Thread Cert.AdamUkvIdeal.nD Cert.AdamUkvIdeal.τ).loc Cert.AdamUkvIdeal.main_v0_1)) (v2 : (c : Dev Cert.AdamUkvIdeal.nD) → Buf (Elt Ideal) ((c.tc : Thread Cert.AdamUkvIdeal.nD Cert.AdamUkvIdeal.τ).loc Cert.AdamUkvIdeal.main_v0_2)) (v3 : (c : Dev Cert.AdamUkvIdeal.nD) → Buf (Elt Ideal) ((c.tc : Thread Cert.AdamUkvIdeal.nD Cert.AdamUkvIdeal.τ).loc Cert.AdamUkvIdeal.main_v0_3)),
      θ_run (Cert.AdamUkvIdeal.defs (F := Ideal)) (onTc (τ := Cert.AdamUkvIdeal.τ) (Cert.AdamUkvIdeal.main (F := Ideal))) ⟨m, fun _ => 0, g⟩ (fun r => ∀ c : Dev Cert.AdamUkvIdeal.nD,
          r.2.mem ((c.tc : Thread Cert.AdamUkvIdeal.nD Cert.AdamUkvIdeal.τ).loc Cert.AdamUkvIdeal.main_v0_0) = v0 c
          ∧ r.2.mem ((c.tc : Thread Cert.AdamUkvIdeal.nD Cert.AdamUkvIdeal.τ).loc Cert.AdamUkvIdeal.main_v0_1) = v1 c
          ∧ r.2.mem ((c.tc : Thread Cert.AdamUkvIdeal.nD Cert.AdamUkvIdeal.τ).loc Cert.AdamUkvIdeal.main_v0_2) = v2 c
          ∧ r.2.mem ((c.tc : Thread Cert.AdamUkvIdeal.nD Cert.AdamUkvIdeal.τ).loc Cert.AdamUkvIdeal.main_v0_3) = v3 c
          ∧ r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
          ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
          ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
          ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3))
      ∧ θ_run (Cert.AdamUkvRefIdeal.defs (F := Ideal)) (onTc (τ := Cert.AdamUkvRefIdeal.τ) (Cert.AdamUkvRefIdeal.main (F := Ideal))) ⟨m', fun _ => 0, g'⟩ (fun r => ∀ c : Dev Cert.AdamUkvRefIdeal.nD,
          r.2.mem ((c.tc : Thread Cert.AdamUkvRefIdeal.nD Cert.AdamUkvRefIdeal.τ).loc Cert.AdamUkvRefIdeal.main_v1) = v0 c
          ∧ r.2.mem ((c.tc : Thread Cert.AdamUkvRefIdeal.nD Cert.AdamUkvRefIdeal.τ).loc Cert.AdamUkvRefIdeal.main_v25) = v1 c
          ∧ r.2.mem ((c.tc : Thread Cert.AdamUkvRefIdeal.nD Cert.AdamUkvRefIdeal.τ).loc Cert.AdamUkvRefIdeal.main_v6) = v2 c
          ∧ r.2.mem ((c.tc : Thread Cert.AdamUkvRefIdeal.nD Cert.AdamUkvRefIdeal.τ).loc Cert.AdamUkvRefIdeal.main_v12) = v3 c
          ∧ r.2.mem ((c.tc : Thread Cert.AdamUkvRefIdeal.nD Cert.AdamUkvRefIdeal.τ).loc Cert.AdamUkvRefIdeal.main_arg0) = m' ((c.tc : Thread Cert.AdamUkvRefIdeal.nD Cert.AdamUkvRefIdeal.τ).loc Cert.AdamUkvRefIdeal.main_arg0)
          ∧ r.2.mem ((c.tc : Thread Cert.AdamUkvRefIdeal.nD Cert.AdamUkvRefIdeal.τ).loc Cert.AdamUkvRefIdeal.main_arg1) = m' ((c.tc : Thread Cert.AdamUkvRefIdeal.nD Cert.AdamUkvRefIdeal.τ).loc Cert.AdamUkvRefIdeal.main_arg1)
          ∧ r.2.mem ((c.tc : Thread Cert.AdamUkvRefIdeal.nD Cert.AdamUkvRefIdeal.τ).loc Cert.AdamUkvRefIdeal.main_arg2) = m' ((c.tc : Thread Cert.AdamUkvRefIdeal.nD Cert.AdamUkvRefIdeal.τ).loc Cert.AdamUkvRefIdeal.main_arg2)
          ∧ r.2.mem ((c.tc : Thread Cert.AdamUkvRefIdeal.nD Cert.AdamUkvRefIdeal.τ).loc Cert.AdamUkvRefIdeal.main_arg3) = m' ((c.tc : Thread Cert.AdamUkvRefIdeal.nD Cert.AdamUkvRefIdeal.τ).loc Cert.AdamUkvRefIdeal.main_arg3))

def preserves_AdamSsdOut_AdamSsdOutIdeal : Prop :=
  True

def algebraic_AdamSsdOutIdeal_AdamSsdOutRefIdeal [hAdamSsdOutIdeal : Cert.AdamSsdOutIdeal.Facts] [hAdamSsdOutRefIdeal : Cert.AdamSsdOutRefIdeal.Facts] : Prop :=
  ∀ (m : (ℓ : Loc Cert.AdamSsdOutIdeal.nD Cert.AdamSsdOutIdeal.τ Cert.AdamSsdOutIdeal.sig) → Buf (Elt Ideal) ℓ) (g : Dev Cert.AdamSsdOutIdeal.nD → PrngReg)
    (m' : (ℓ : Loc Cert.AdamSsdOutRefIdeal.nD Cert.AdamSsdOutRefIdeal.τ Cert.AdamSsdOutRefIdeal.sig) → Buf (Elt Ideal) ℓ) (g' : Dev Cert.AdamSsdOutRefIdeal.nD → PrngReg), Pre_AdamSsdOutIdeal m →
    (∀ c : Dev Cert.AdamSsdOutIdeal.nD,
      m' ((c.tc : Thread Cert.AdamSsdOutRefIdeal.nD Cert.AdamSsdOutRefIdeal.τ).loc Cert.AdamSsdOutRefIdeal.main_arg0) = m ((c.tc : Thread Cert.AdamSsdOutIdeal.nD Cert.AdamSsdOutIdeal.τ).loc Cert.AdamSsdOutIdeal.main_arg0)
      ∧ m' ((c.tc : Thread Cert.AdamSsdOutRefIdeal.nD Cert.AdamSsdOutRefIdeal.τ).loc Cert.AdamSsdOutRefIdeal.main_arg1) = m ((c.tc : Thread Cert.AdamSsdOutIdeal.nD Cert.AdamSsdOutIdeal.τ).loc Cert.AdamSsdOutIdeal.main_arg1)
      ∧ m' ((c.tc : Thread Cert.AdamSsdOutRefIdeal.nD Cert.AdamSsdOutRefIdeal.τ).loc Cert.AdamSsdOutRefIdeal.main_arg2) = m ((c.tc : Thread Cert.AdamSsdOutIdeal.nD Cert.AdamSsdOutIdeal.τ).loc Cert.AdamSsdOutIdeal.main_arg2)
      ∧ m' ((c.tc : Thread Cert.AdamSsdOutRefIdeal.nD Cert.AdamSsdOutRefIdeal.τ).loc Cert.AdamSsdOutRefIdeal.main_arg3) = m ((c.tc : Thread Cert.AdamSsdOutIdeal.nD Cert.AdamSsdOutIdeal.τ).loc Cert.AdamSsdOutIdeal.main_arg3)) →
    ∃ (v0 : (c : Dev Cert.AdamSsdOutIdeal.nD) → Buf (Elt Ideal) ((c.tc : Thread Cert.AdamSsdOutIdeal.nD Cert.AdamSsdOutIdeal.τ).loc Cert.AdamSsdOutIdeal.main_v0_0)) (v1 : (c : Dev Cert.AdamSsdOutIdeal.nD) → Buf (Elt Ideal) ((c.tc : Thread Cert.AdamSsdOutIdeal.nD Cert.AdamSsdOutIdeal.τ).loc Cert.AdamSsdOutIdeal.main_v0_1)) (v2 : (c : Dev Cert.AdamSsdOutIdeal.nD) → Buf (Elt Ideal) ((c.tc : Thread Cert.AdamSsdOutIdeal.nD Cert.AdamSsdOutIdeal.τ).loc Cert.AdamSsdOutIdeal.main_v0_2)) (v3 : (c : Dev Cert.AdamSsdOutIdeal.nD) → Buf (Elt Ideal) ((c.tc : Thread Cert.AdamSsdOutIdeal.nD Cert.AdamSsdOutIdeal.τ).loc Cert.AdamSsdOutIdeal.main_v0_3)),
      θ_run (Cert.AdamSsdOutIdeal.defs (F := Ideal)) (onTc (τ := Cert.AdamSsdOutIdeal.τ) (Cert.AdamSsdOutIdeal.main (F := Ideal))) ⟨m, fun _ => 0, g⟩ (fun r => ∀ c : Dev Cert.AdamSsdOutIdeal.nD,
          r.2.mem ((c.tc : Thread Cert.AdamSsdOutIdeal.nD Cert.AdamSsdOutIdeal.τ).loc Cert.AdamSsdOutIdeal.main_v0_0) = v0 c
          ∧ r.2.mem ((c.tc : Thread Cert.AdamSsdOutIdeal.nD Cert.AdamSsdOutIdeal.τ).loc Cert.AdamSsdOutIdeal.main_v0_1) = v1 c
          ∧ r.2.mem ((c.tc : Thread Cert.AdamSsdOutIdeal.nD Cert.AdamSsdOutIdeal.τ).loc Cert.AdamSsdOutIdeal.main_v0_2) = v2 c
          ∧ r.2.mem ((c.tc : Thread Cert.AdamSsdOutIdeal.nD Cert.AdamSsdOutIdeal.τ).loc Cert.AdamSsdOutIdeal.main_v0_3) = v3 c
          ∧ r.2.mem ((c.tc : Thread Cert.AdamSsdOutIdeal.nD Cert.AdamSsdOutIdeal.τ).loc Cert.AdamSsdOutIdeal.main_arg0) = m ((c.tc : Thread Cert.AdamSsdOutIdeal.nD Cert.AdamSsdOutIdeal.τ).loc Cert.AdamSsdOutIdeal.main_arg0)
          ∧ r.2.mem ((c.tc : Thread Cert.AdamSsdOutIdeal.nD Cert.AdamSsdOutIdeal.τ).loc Cert.AdamSsdOutIdeal.main_arg1) = m ((c.tc : Thread Cert.AdamSsdOutIdeal.nD Cert.AdamSsdOutIdeal.τ).loc Cert.AdamSsdOutIdeal.main_arg1)
          ∧ r.2.mem ((c.tc : Thread Cert.AdamSsdOutIdeal.nD Cert.AdamSsdOutIdeal.τ).loc Cert.AdamSsdOutIdeal.main_arg2) = m ((c.tc : Thread Cert.AdamSsdOutIdeal.nD Cert.AdamSsdOutIdeal.τ).loc Cert.AdamSsdOutIdeal.main_arg2)
          ∧ r.2.mem ((c.tc : Thread Cert.AdamSsdOutIdeal.nD Cert.AdamSsdOutIdeal.τ).loc Cert.AdamSsdOutIdeal.main_arg3) = m ((c.tc : Thread Cert.AdamSsdOutIdeal.nD Cert.AdamSsdOutIdeal.τ).loc Cert.AdamSsdOutIdeal.main_arg3))
      ∧ θ_run (Cert.AdamSsdOutRefIdeal.defs (F := Ideal)) (onTc (τ := Cert.AdamSsdOutRefIdeal.τ) (Cert.AdamSsdOutRefIdeal.main (F := Ideal))) ⟨m', fun _ => 0, g'⟩ (fun r => ∀ c : Dev Cert.AdamSsdOutRefIdeal.nD,
          r.2.mem ((c.tc : Thread Cert.AdamSsdOutRefIdeal.nD Cert.AdamSsdOutRefIdeal.τ).loc Cert.AdamSsdOutRefIdeal.main_v2) = v0 c
          ∧ r.2.mem ((c.tc : Thread Cert.AdamSsdOutRefIdeal.nD Cert.AdamSsdOutRefIdeal.τ).loc Cert.AdamSsdOutRefIdeal.main_v26) = v1 c
          ∧ r.2.mem ((c.tc : Thread Cert.AdamSsdOutRefIdeal.nD Cert.AdamSsdOutRefIdeal.τ).loc Cert.AdamSsdOutRefIdeal.main_v7) = v2 c
          ∧ r.2.mem ((c.tc : Thread Cert.AdamSsdOutRefIdeal.nD Cert.AdamSsdOutRefIdeal.τ).loc Cert.AdamSsdOutRefIdeal.main_v13) = v3 c
          ∧ r.2.mem ((c.tc : Thread Cert.AdamSsdOutRefIdeal.nD Cert.AdamSsdOutRefIdeal.τ).loc Cert.AdamSsdOutRefIdeal.main_arg0) = m' ((c.tc : Thread Cert.AdamSsdOutRefIdeal.nD Cert.AdamSsdOutRefIdeal.τ).loc Cert.AdamSsdOutRefIdeal.main_arg0)
          ∧ r.2.mem ((c.tc : Thread Cert.AdamSsdOutRefIdeal.nD Cert.AdamSsdOutRefIdeal.τ).loc Cert.AdamSsdOutRefIdeal.main_arg1) = m' ((c.tc : Thread Cert.AdamSsdOutRefIdeal.nD Cert.AdamSsdOutRefIdeal.τ).loc Cert.AdamSsdOutRefIdeal.main_arg1)
          ∧ r.2.mem ((c.tc : Thread Cert.AdamSsdOutRefIdeal.nD Cert.AdamSsdOutRefIdeal.τ).loc Cert.AdamSsdOutRefIdeal.main_arg2) = m' ((c.tc : Thread Cert.AdamSsdOutRefIdeal.nD Cert.AdamSsdOutRefIdeal.τ).loc Cert.AdamSsdOutRefIdeal.main_arg2)
          ∧ r.2.mem ((c.tc : Thread Cert.AdamSsdOutRefIdeal.nD Cert.AdamSsdOutRefIdeal.τ).loc Cert.AdamSsdOutRefIdeal.main_arg3) = m' ((c.tc : Thread Cert.AdamSsdOutRefIdeal.nD Cert.AdamSsdOutRefIdeal.τ).loc Cert.AdamSsdOutRefIdeal.main_arg3))

def preserves_AdamMlaOut_AdamMlaOutIdeal : Prop :=
  True

def algebraic_AdamMlaOutIdeal_AdamMlaOutRefIdeal [hAdamMlaOutIdeal : Cert.AdamMlaOutIdeal.Facts] [hAdamMlaOutRefIdeal : Cert.AdamMlaOutRefIdeal.Facts] : Prop :=
  ∀ (m : (ℓ : Loc Cert.AdamMlaOutIdeal.nD Cert.AdamMlaOutIdeal.τ Cert.AdamMlaOutIdeal.sig) → Buf (Elt Ideal) ℓ) (g : Dev Cert.AdamMlaOutIdeal.nD → PrngReg)
    (m' : (ℓ : Loc Cert.AdamMlaOutRefIdeal.nD Cert.AdamMlaOutRefIdeal.τ Cert.AdamMlaOutRefIdeal.sig) → Buf (Elt Ideal) ℓ) (g' : Dev Cert.AdamMlaOutRefIdeal.nD → PrngReg), Pre_AdamMlaOutIdeal m →
    (∀ c : Dev Cert.AdamMlaOutIdeal.nD,
      m' ((c.tc : Thread Cert.AdamMlaOutRefIdeal.nD Cert.AdamMlaOutRefIdeal.τ).loc Cert.AdamMlaOutRefIdeal.main_arg0) = m ((c.tc : Thread Cert.AdamMlaOutIdeal.nD Cert.AdamMlaOutIdeal.τ).loc Cert.AdamMlaOutIdeal.main_arg0)
      ∧ m' ((c.tc : Thread Cert.AdamMlaOutRefIdeal.nD Cert.AdamMlaOutRefIdeal.τ).loc Cert.AdamMlaOutRefIdeal.main_arg1) = m ((c.tc : Thread Cert.AdamMlaOutIdeal.nD Cert.AdamMlaOutIdeal.τ).loc Cert.AdamMlaOutIdeal.main_arg1)
      ∧ m' ((c.tc : Thread Cert.AdamMlaOutRefIdeal.nD Cert.AdamMlaOutRefIdeal.τ).loc Cert.AdamMlaOutRefIdeal.main_arg2) = m ((c.tc : Thread Cert.AdamMlaOutIdeal.nD Cert.AdamMlaOutIdeal.τ).loc Cert.AdamMlaOutIdeal.main_arg2)
      ∧ m' ((c.tc : Thread Cert.AdamMlaOutRefIdeal.nD Cert.AdamMlaOutRefIdeal.τ).loc Cert.AdamMlaOutRefIdeal.main_arg3) = m ((c.tc : Thread Cert.AdamMlaOutIdeal.nD Cert.AdamMlaOutIdeal.τ).loc Cert.AdamMlaOutIdeal.main_arg3)) →
    ∃ (v0 : (c : Dev Cert.AdamMlaOutIdeal.nD) → Buf (Elt Ideal) ((c.tc : Thread Cert.AdamMlaOutIdeal.nD Cert.AdamMlaOutIdeal.τ).loc Cert.AdamMlaOutIdeal.main_v0_0)) (v1 : (c : Dev Cert.AdamMlaOutIdeal.nD) → Buf (Elt Ideal) ((c.tc : Thread Cert.AdamMlaOutIdeal.nD Cert.AdamMlaOutIdeal.τ).loc Cert.AdamMlaOutIdeal.main_v0_1)) (v2 : (c : Dev Cert.AdamMlaOutIdeal.nD) → Buf (Elt Ideal) ((c.tc : Thread Cert.AdamMlaOutIdeal.nD Cert.AdamMlaOutIdeal.τ).loc Cert.AdamMlaOutIdeal.main_v0_2)) (v3 : (c : Dev Cert.AdamMlaOutIdeal.nD) → Buf (Elt Ideal) ((c.tc : Thread Cert.AdamMlaOutIdeal.nD Cert.AdamMlaOutIdeal.τ).loc Cert.AdamMlaOutIdeal.main_v0_3)),
      θ_run (Cert.AdamMlaOutIdeal.defs (F := Ideal)) (onTc (τ := Cert.AdamMlaOutIdeal.τ) (Cert.AdamMlaOutIdeal.main (F := Ideal))) ⟨m, fun _ => 0, g⟩ (fun r => ∀ c : Dev Cert.AdamMlaOutIdeal.nD,
          r.2.mem ((c.tc : Thread Cert.AdamMlaOutIdeal.nD Cert.AdamMlaOutIdeal.τ).loc Cert.AdamMlaOutIdeal.main_v0_0) = v0 c
          ∧ r.2.mem ((c.tc : Thread Cert.AdamMlaOutIdeal.nD Cert.AdamMlaOutIdeal.τ).loc Cert.AdamMlaOutIdeal.main_v0_1) = v1 c
          ∧ r.2.mem ((c.tc : Thread Cert.AdamMlaOutIdeal.nD Cert.AdamMlaOutIdeal.τ).loc Cert.AdamMlaOutIdeal.main_v0_2) = v2 c
          ∧ r.2.mem ((c.tc : Thread Cert.AdamMlaOutIdeal.nD Cert.AdamMlaOutIdeal.τ).loc Cert.AdamMlaOutIdeal.main_v0_3) = v3 c
          ∧ r.2.mem ((c.tc : Thread Cert.AdamMlaOutIdeal.nD Cert.AdamMlaOutIdeal.τ).loc Cert.AdamMlaOutIdeal.main_arg0) = m ((c.tc : Thread Cert.AdamMlaOutIdeal.nD Cert.AdamMlaOutIdeal.τ).loc Cert.AdamMlaOutIdeal.main_arg0)
          ∧ r.2.mem ((c.tc : Thread Cert.AdamMlaOutIdeal.nD Cert.AdamMlaOutIdeal.τ).loc Cert.AdamMlaOutIdeal.main_arg1) = m ((c.tc : Thread Cert.AdamMlaOutIdeal.nD Cert.AdamMlaOutIdeal.τ).loc Cert.AdamMlaOutIdeal.main_arg1)
          ∧ r.2.mem ((c.tc : Thread Cert.AdamMlaOutIdeal.nD Cert.AdamMlaOutIdeal.τ).loc Cert.AdamMlaOutIdeal.main_arg2) = m ((c.tc : Thread Cert.AdamMlaOutIdeal.nD Cert.AdamMlaOutIdeal.τ).loc Cert.AdamMlaOutIdeal.main_arg2)
          ∧ r.2.mem ((c.tc : Thread Cert.AdamMlaOutIdeal.nD Cert.AdamMlaOutIdeal.τ).loc Cert.AdamMlaOutIdeal.main_arg3) = m ((c.tc : Thread Cert.AdamMlaOutIdeal.nD Cert.AdamMlaOutIdeal.τ).loc Cert.AdamMlaOutIdeal.main_arg3))
      ∧ θ_run (Cert.AdamMlaOutRefIdeal.defs (F := Ideal)) (onTc (τ := Cert.AdamMlaOutRefIdeal.τ) (Cert.AdamMlaOutRefIdeal.main (F := Ideal))) ⟨m', fun _ => 0, g'⟩ (fun r => ∀ c : Dev Cert.AdamMlaOutRefIdeal.nD,
          r.2.mem ((c.tc : Thread Cert.AdamMlaOutRefIdeal.nD Cert.AdamMlaOutRefIdeal.τ).loc Cert.AdamMlaOutRefIdeal.main_v2) = v0 c
          ∧ r.2.mem ((c.tc : Thread Cert.AdamMlaOutRefIdeal.nD Cert.AdamMlaOutRefIdeal.τ).loc Cert.AdamMlaOutRefIdeal.main_v26) = v1 c
          ∧ r.2.mem ((c.tc : Thread Cert.AdamMlaOutRefIdeal.nD Cert.AdamMlaOutRefIdeal.τ).loc Cert.AdamMlaOutRefIdeal.main_v7) = v2 c
          ∧ r.2.mem ((c.tc : Thread Cert.AdamMlaOutRefIdeal.nD Cert.AdamMlaOutRefIdeal.τ).loc Cert.AdamMlaOutRefIdeal.main_v13) = v3 c
          ∧ r.2.mem ((c.tc : Thread Cert.AdamMlaOutRefIdeal.nD Cert.AdamMlaOutRefIdeal.τ).loc Cert.AdamMlaOutRefIdeal.main_arg0) = m' ((c.tc : Thread Cert.AdamMlaOutRefIdeal.nD Cert.AdamMlaOutRefIdeal.τ).loc Cert.AdamMlaOutRefIdeal.main_arg0)
          ∧ r.2.mem ((c.tc : Thread Cert.AdamMlaOutRefIdeal.nD Cert.AdamMlaOutRefIdeal.τ).loc Cert.AdamMlaOutRefIdeal.main_arg1) = m' ((c.tc : Thread Cert.AdamMlaOutRefIdeal.nD Cert.AdamMlaOutRefIdeal.τ).loc Cert.AdamMlaOutRefIdeal.main_arg1)
          ∧ r.2.mem ((c.tc : Thread Cert.AdamMlaOutRefIdeal.nD Cert.AdamMlaOutRefIdeal.τ).loc Cert.AdamMlaOutRefIdeal.main_arg2) = m' ((c.tc : Thread Cert.AdamMlaOutRefIdeal.nD Cert.AdamMlaOutRefIdeal.τ).loc Cert.AdamMlaOutRefIdeal.main_arg2)
          ∧ r.2.mem ((c.tc : Thread Cert.AdamMlaOutRefIdeal.nD Cert.AdamMlaOutRefIdeal.τ).loc Cert.AdamMlaOutRefIdeal.main_arg3) = m' ((c.tc : Thread Cert.AdamMlaOutRefIdeal.nD Cert.AdamMlaOutRefIdeal.τ).loc Cert.AdamMlaOutRefIdeal.main_arg3))

def preserves_AdamGdnOut_AdamGdnOutIdeal : Prop :=
  True

def algebraic_AdamGdnOutIdeal_AdamGdnOutRefIdeal [hAdamGdnOutIdeal : Cert.AdamGdnOutIdeal.Facts] [hAdamGdnOutRefIdeal : Cert.AdamGdnOutRefIdeal.Facts] : Prop :=
  ∀ (m : (ℓ : Loc Cert.AdamGdnOutIdeal.nD Cert.AdamGdnOutIdeal.τ Cert.AdamGdnOutIdeal.sig) → Buf (Elt Ideal) ℓ) (g : Dev Cert.AdamGdnOutIdeal.nD → PrngReg)
    (m' : (ℓ : Loc Cert.AdamGdnOutRefIdeal.nD Cert.AdamGdnOutRefIdeal.τ Cert.AdamGdnOutRefIdeal.sig) → Buf (Elt Ideal) ℓ) (g' : Dev Cert.AdamGdnOutRefIdeal.nD → PrngReg), Pre_AdamGdnOutIdeal m →
    (∀ c : Dev Cert.AdamGdnOutIdeal.nD,
      m' ((c.tc : Thread Cert.AdamGdnOutRefIdeal.nD Cert.AdamGdnOutRefIdeal.τ).loc Cert.AdamGdnOutRefIdeal.main_arg0) = m ((c.tc : Thread Cert.AdamGdnOutIdeal.nD Cert.AdamGdnOutIdeal.τ).loc Cert.AdamGdnOutIdeal.main_arg0)
      ∧ m' ((c.tc : Thread Cert.AdamGdnOutRefIdeal.nD Cert.AdamGdnOutRefIdeal.τ).loc Cert.AdamGdnOutRefIdeal.main_arg1) = m ((c.tc : Thread Cert.AdamGdnOutIdeal.nD Cert.AdamGdnOutIdeal.τ).loc Cert.AdamGdnOutIdeal.main_arg1)
      ∧ m' ((c.tc : Thread Cert.AdamGdnOutRefIdeal.nD Cert.AdamGdnOutRefIdeal.τ).loc Cert.AdamGdnOutRefIdeal.main_arg2) = m ((c.tc : Thread Cert.AdamGdnOutIdeal.nD Cert.AdamGdnOutIdeal.τ).loc Cert.AdamGdnOutIdeal.main_arg2)
      ∧ m' ((c.tc : Thread Cert.AdamGdnOutRefIdeal.nD Cert.AdamGdnOutRefIdeal.τ).loc Cert.AdamGdnOutRefIdeal.main_arg3) = m ((c.tc : Thread Cert.AdamGdnOutIdeal.nD Cert.AdamGdnOutIdeal.τ).loc Cert.AdamGdnOutIdeal.main_arg3)) →
    ∃ (v0 : (c : Dev Cert.AdamGdnOutIdeal.nD) → Buf (Elt Ideal) ((c.tc : Thread Cert.AdamGdnOutIdeal.nD Cert.AdamGdnOutIdeal.τ).loc Cert.AdamGdnOutIdeal.main_v0_0)) (v1 : (c : Dev Cert.AdamGdnOutIdeal.nD) → Buf (Elt Ideal) ((c.tc : Thread Cert.AdamGdnOutIdeal.nD Cert.AdamGdnOutIdeal.τ).loc Cert.AdamGdnOutIdeal.main_v0_1)) (v2 : (c : Dev Cert.AdamGdnOutIdeal.nD) → Buf (Elt Ideal) ((c.tc : Thread Cert.AdamGdnOutIdeal.nD Cert.AdamGdnOutIdeal.τ).loc Cert.AdamGdnOutIdeal.main_v0_2)) (v3 : (c : Dev Cert.AdamGdnOutIdeal.nD) → Buf (Elt Ideal) ((c.tc : Thread Cert.AdamGdnOutIdeal.nD Cert.AdamGdnOutIdeal.τ).loc Cert.AdamGdnOutIdeal.main_v0_3)),
      θ_run (Cert.AdamGdnOutIdeal.defs (F := Ideal)) (onTc (τ := Cert.AdamGdnOutIdeal.τ) (Cert.AdamGdnOutIdeal.main (F := Ideal))) ⟨m, fun _ => 0, g⟩ (fun r => ∀ c : Dev Cert.AdamGdnOutIdeal.nD,
          r.2.mem ((c.tc : Thread Cert.AdamGdnOutIdeal.nD Cert.AdamGdnOutIdeal.τ).loc Cert.AdamGdnOutIdeal.main_v0_0) = v0 c
          ∧ r.2.mem ((c.tc : Thread Cert.AdamGdnOutIdeal.nD Cert.AdamGdnOutIdeal.τ).loc Cert.AdamGdnOutIdeal.main_v0_1) = v1 c
          ∧ r.2.mem ((c.tc : Thread Cert.AdamGdnOutIdeal.nD Cert.AdamGdnOutIdeal.τ).loc Cert.AdamGdnOutIdeal.main_v0_2) = v2 c
          ∧ r.2.mem ((c.tc : Thread Cert.AdamGdnOutIdeal.nD Cert.AdamGdnOutIdeal.τ).loc Cert.AdamGdnOutIdeal.main_v0_3) = v3 c
          ∧ r.2.mem ((c.tc : Thread Cert.AdamGdnOutIdeal.nD Cert.AdamGdnOutIdeal.τ).loc Cert.AdamGdnOutIdeal.main_arg0) = m ((c.tc : Thread Cert.AdamGdnOutIdeal.nD Cert.AdamGdnOutIdeal.τ).loc Cert.AdamGdnOutIdeal.main_arg0)
          ∧ r.2.mem ((c.tc : Thread Cert.AdamGdnOutIdeal.nD Cert.AdamGdnOutIdeal.τ).loc Cert.AdamGdnOutIdeal.main_arg1) = m ((c.tc : Thread Cert.AdamGdnOutIdeal.nD Cert.AdamGdnOutIdeal.τ).loc Cert.AdamGdnOutIdeal.main_arg1)
          ∧ r.2.mem ((c.tc : Thread Cert.AdamGdnOutIdeal.nD Cert.AdamGdnOutIdeal.τ).loc Cert.AdamGdnOutIdeal.main_arg2) = m ((c.tc : Thread Cert.AdamGdnOutIdeal.nD Cert.AdamGdnOutIdeal.τ).loc Cert.AdamGdnOutIdeal.main_arg2)
          ∧ r.2.mem ((c.tc : Thread Cert.AdamGdnOutIdeal.nD Cert.AdamGdnOutIdeal.τ).loc Cert.AdamGdnOutIdeal.main_arg3) = m ((c.tc : Thread Cert.AdamGdnOutIdeal.nD Cert.AdamGdnOutIdeal.τ).loc Cert.AdamGdnOutIdeal.main_arg3))
      ∧ θ_run (Cert.AdamGdnOutRefIdeal.defs (F := Ideal)) (onTc (τ := Cert.AdamGdnOutRefIdeal.τ) (Cert.AdamGdnOutRefIdeal.main (F := Ideal))) ⟨m', fun _ => 0, g'⟩ (fun r => ∀ c : Dev Cert.AdamGdnOutRefIdeal.nD,
          r.2.mem ((c.tc : Thread Cert.AdamGdnOutRefIdeal.nD Cert.AdamGdnOutRefIdeal.τ).loc Cert.AdamGdnOutRefIdeal.main_v2) = v0 c
          ∧ r.2.mem ((c.tc : Thread Cert.AdamGdnOutRefIdeal.nD Cert.AdamGdnOutRefIdeal.τ).loc Cert.AdamGdnOutRefIdeal.main_v26) = v1 c
          ∧ r.2.mem ((c.tc : Thread Cert.AdamGdnOutRefIdeal.nD Cert.AdamGdnOutRefIdeal.τ).loc Cert.AdamGdnOutRefIdeal.main_v7) = v2 c
          ∧ r.2.mem ((c.tc : Thread Cert.AdamGdnOutRefIdeal.nD Cert.AdamGdnOutRefIdeal.τ).loc Cert.AdamGdnOutRefIdeal.main_v13) = v3 c
          ∧ r.2.mem ((c.tc : Thread Cert.AdamGdnOutRefIdeal.nD Cert.AdamGdnOutRefIdeal.τ).loc Cert.AdamGdnOutRefIdeal.main_arg0) = m' ((c.tc : Thread Cert.AdamGdnOutRefIdeal.nD Cert.AdamGdnOutRefIdeal.τ).loc Cert.AdamGdnOutRefIdeal.main_arg0)
          ∧ r.2.mem ((c.tc : Thread Cert.AdamGdnOutRefIdeal.nD Cert.AdamGdnOutRefIdeal.τ).loc Cert.AdamGdnOutRefIdeal.main_arg1) = m' ((c.tc : Thread Cert.AdamGdnOutRefIdeal.nD Cert.AdamGdnOutRefIdeal.τ).loc Cert.AdamGdnOutRefIdeal.main_arg1)
          ∧ r.2.mem ((c.tc : Thread Cert.AdamGdnOutRefIdeal.nD Cert.AdamGdnOutRefIdeal.τ).loc Cert.AdamGdnOutRefIdeal.main_arg2) = m' ((c.tc : Thread Cert.AdamGdnOutRefIdeal.nD Cert.AdamGdnOutRefIdeal.τ).loc Cert.AdamGdnOutRefIdeal.main_arg2)
          ∧ r.2.mem ((c.tc : Thread Cert.AdamGdnOutRefIdeal.nD Cert.AdamGdnOutRefIdeal.τ).loc Cert.AdamGdnOutRefIdeal.main_arg3) = m' ((c.tc : Thread Cert.AdamGdnOutRefIdeal.nD Cert.AdamGdnOutRefIdeal.τ).loc Cert.AdamGdnOutRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v2) = v0 c
          ∧ r.2.mem ((c.tc : Thread Cert.AdamOutRefIdeal.nD Cert.AdamOutRefIdeal.τ).loc Cert.AdamOutRefIdeal.main_v26) = v1 c
          ∧ r.2.mem ((c.tc : Thread Cert.AdamOutRefIdeal.nD Cert.AdamOutRefIdeal.τ).loc Cert.AdamOutRefIdeal.main_v7) = v2 c
          ∧ r.2.mem ((c.tc : Thread Cert.AdamOutRefIdeal.nD Cert.AdamOutRefIdeal.τ).loc Cert.AdamOutRefIdeal.main_v13) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v2) = v0 c
          ∧ r.2.mem ((c.tc : Thread Cert.AdamDownRefIdeal.nD Cert.AdamDownRefIdeal.τ).loc Cert.AdamDownRefIdeal.main_v26) = v1 c
          ∧ r.2.mem ((c.tc : Thread Cert.AdamDownRefIdeal.nD Cert.AdamDownRefIdeal.τ).loc Cert.AdamDownRefIdeal.main_v7) = v2 c
          ∧ r.2.mem ((c.tc : Thread Cert.AdamDownRefIdeal.nD Cert.AdamDownRefIdeal.τ).loc Cert.AdamDownRefIdeal.main_v13) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v1) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v6) = v2 c
          ∧ r.2.mem ((c.tc : Thread Cert.AdamUpRefIdeal.nD Cert.AdamUpRefIdeal.τ).loc Cert.AdamUpRefIdeal.main_v12) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v0) = v0 c
          ∧ r.2.mem ((c.tc : Thread Cert.AdamConvRefIdeal.nD Cert.AdamConvRefIdeal.τ).loc Cert.AdamConvRefIdeal.main_v24) = v1 c
          ∧ r.2.mem ((c.tc : Thread Cert.AdamConvRefIdeal.nD Cert.AdamConvRefIdeal.τ).loc Cert.AdamConvRefIdeal.main_v5) = v2 c
          ∧ r.2.mem ((c.tc : Thread Cert.AdamConvRefIdeal.nD Cert.AdamConvRefIdeal.τ).loc Cert.AdamConvRefIdeal.main_v11) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0) = v0 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v21) = v0 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v0)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v13) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_Relu_ReluIdeal : Prop :=
  True

def algebraic_ReluIdeal_ReluRefIdeal [hReluIdeal : Cert.ReluIdeal.Facts] [hReluRefIdeal : Cert.ReluRefIdeal.Facts] : Prop :=
  ∀ (m : (ℓ : Loc Cert.ReluIdeal.nD Cert.ReluIdeal.τ Cert.ReluIdeal.sig) → Buf (Elt Ideal) ℓ) (g : Dev Cert.ReluIdeal.nD → PrngReg)
    (m' : (ℓ : Loc Cert.ReluRefIdeal.nD Cert.ReluRefIdeal.τ Cert.ReluRefIdeal.sig) → Buf (Elt Ideal) ℓ) (g' : Dev Cert.ReluRefIdeal.nD → PrngReg), Pre_ReluIdeal m →
    (∀ c : Dev Cert.ReluIdeal.nD,
      m' ((c.tc : Thread Cert.ReluRefIdeal.nD Cert.ReluRefIdeal.τ).loc Cert.ReluRefIdeal.main_arg0) = m ((c.tc : Thread Cert.ReluIdeal.nD Cert.ReluIdeal.τ).loc Cert.ReluIdeal.main_arg0)) →
    ∃ (v0 : (c : Dev Cert.ReluIdeal.nD) → Buf (Elt Ideal) ((c.tc : Thread Cert.ReluIdeal.nD Cert.ReluIdeal.τ).loc Cert.ReluIdeal.main_v0)),
      θ_run (Cert.ReluIdeal.defs (F := Ideal)) (onTc (τ := Cert.ReluIdeal.τ) (Cert.ReluIdeal.main (F := Ideal))) ⟨m, fun _ => 0, g⟩ (fun r => ∀ c : Dev Cert.ReluIdeal.nD,
          r.2.mem ((c.tc : Thread Cert.ReluIdeal.nD Cert.ReluIdeal.τ).loc Cert.ReluIdeal.main_v0) = v0 c
          ∧ r.2.mem ((c.tc : Thread Cert.ReluIdeal.nD Cert.ReluIdeal.τ).loc Cert.ReluIdeal.main_arg0) = m ((c.tc : Thread Cert.ReluIdeal.nD Cert.ReluIdeal.τ).loc Cert.ReluIdeal.main_arg0))
      ∧ θ_run (Cert.ReluRefIdeal.defs (F := Ideal)) (onTc (τ := Cert.ReluRefIdeal.τ) (Cert.ReluRefIdeal.main (F := Ideal))) ⟨m', fun _ => 0, g'⟩ (fun r => ∀ c : Dev Cert.ReluRefIdeal.nD,
          r.2.mem ((c.tc : Thread Cert.ReluRefIdeal.nD Cert.ReluRefIdeal.τ).loc Cert.ReluRefIdeal.main_v1) = v0 c
          ∧ r.2.mem ((c.tc : Thread Cert.ReluRefIdeal.nD Cert.ReluRefIdeal.τ).loc Cert.ReluRefIdeal.main_arg0) = m' ((c.tc : Thread Cert.ReluRefIdeal.nD Cert.ReluRefIdeal.τ).loc Cert.ReluRefIdeal.main_arg0))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v13) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_MmIn_MmInIdeal : Prop :=
  True

def algebraic_MmInIdeal_MmInRefIdeal [hMmInIdeal : Cert.MmInIdeal.Facts] [hMmInRefIdeal : Cert.MmInRefIdeal.Facts] : Prop :=
  ∀ (m : (ℓ : Loc Cert.MmInIdeal.nD Cert.MmInIdeal.τ Cert.MmInIdeal.sig) → Buf (Elt Ideal) ℓ) (g : Dev Cert.MmInIdeal.nD → PrngReg)
    (m' : (ℓ : Loc Cert.MmInRefIdeal.nD Cert.MmInRefIdeal.τ Cert.MmInRefIdeal.sig) → Buf (Elt Ideal) ℓ) (g' : Dev Cert.MmInRefIdeal.nD → PrngReg), Pre_MmInIdeal m →
    (∀ c : Dev Cert.MmInIdeal.nD,
      m' ((c.tc : Thread Cert.MmInRefIdeal.nD Cert.MmInRefIdeal.τ).loc Cert.MmInRefIdeal.main_arg0) = m ((c.tc : Thread Cert.MmInIdeal.nD Cert.MmInIdeal.τ).loc Cert.MmInIdeal.main_arg0)
      ∧ m' ((c.tc : Thread Cert.MmInRefIdeal.nD Cert.MmInRefIdeal.τ).loc Cert.MmInRefIdeal.main_arg1) = m ((c.tc : Thread Cert.MmInIdeal.nD Cert.MmInIdeal.τ).loc Cert.MmInIdeal.main_arg1)) →
    ∃ (v0 : (c : Dev Cert.MmInIdeal.nD) → Buf (Elt Ideal) ((c.tc : Thread Cert.MmInIdeal.nD Cert.MmInIdeal.τ).loc Cert.MmInIdeal.main_v0)),
      θ_run (Cert.MmInIdeal.defs (F := Ideal)) (onTc (τ := Cert.MmInIdeal.τ) (Cert.MmInIdeal.main (F := Ideal))) ⟨m, fun _ => 0, g⟩ (fun r => ∀ c : Dev Cert.MmInIdeal.nD,
          r.2.mem ((c.tc : Thread Cert.MmInIdeal.nD Cert.MmInIdeal.τ).loc Cert.MmInIdeal.main_v0) = v0 c
          ∧ r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
          ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ θ_run (Cert.MmInRefIdeal.defs (F := Ideal)) (onTc (τ := Cert.MmInRefIdeal.τ) (Cert.MmInRefIdeal.main (F := Ideal))) ⟨m', fun _ => 0, g'⟩ (fun r => ∀ c : Dev Cert.MmInRefIdeal.nD,
          r.2.mem ((c.tc : Thread Cert.MmInRefIdeal.nD Cert.MmInRefIdeal.τ).loc Cert.MmInRefIdeal.main_v1) = v0 c
          ∧ r.2.mem ((c.tc : Thread Cert.MmInRefIdeal.nD Cert.MmInRefIdeal.τ).loc Cert.MmInRefIdeal.main_arg0) = m' ((c.tc : Thread Cert.MmInRefIdeal.nD Cert.MmInRefIdeal.τ).loc Cert.MmInRefIdeal.main_arg0)
          ∧ r.2.mem ((c.tc : Thread Cert.MmInRefIdeal.nD Cert.MmInRefIdeal.τ).loc Cert.MmInRefIdeal.main_arg1) = m' ((c.tc : Thread Cert.MmInRefIdeal.nD Cert.MmInRefIdeal.τ).loc Cert.MmInRefIdeal.main_arg1))

def preserves_MmUq_MmUqIdeal : Prop :=
  True

def algebraic_MmUqIdeal_MmUqRefIdeal [hMmUqIdeal : Cert.MmUqIdeal.Facts] [hMmUqRefIdeal : Cert.MmUqRefIdeal.Facts] : Prop :=
  ∀ (m : (ℓ : Loc Cert.MmUqIdeal.nD Cert.MmUqIdeal.τ Cert.MmUqIdeal.sig) → Buf (Elt Ideal) ℓ) (g : Dev Cert.MmUqIdeal.nD → PrngReg)
    (m' : (ℓ : Loc Cert.MmUqRefIdeal.nD Cert.MmUqRefIdeal.τ Cert.MmUqRefIdeal.sig) → Buf (Elt Ideal) ℓ) (g' : Dev Cert.MmUqRefIdeal.nD → PrngReg), Pre_MmUqIdeal m →
    (∀ c : Dev Cert.MmUqIdeal.nD,
      m' ((c.tc : Thread Cert.MmUqRefIdeal.nD Cert.MmUqRefIdeal.τ).loc Cert.MmUqRefIdeal.main_arg0) = m ((c.tc : Thread Cert.MmUqIdeal.nD Cert.MmUqIdeal.τ).loc Cert.MmUqIdeal.main_arg0)
      ∧ m' ((c.tc : Thread Cert.MmUqRefIdeal.nD Cert.MmUqRefIdeal.τ).loc Cert.MmUqRefIdeal.main_arg1) = m ((c.tc : Thread Cert.MmUqIdeal.nD Cert.MmUqIdeal.τ).loc Cert.MmUqIdeal.main_arg1)) →
    ∃ (v0 : (c : Dev Cert.MmUqIdeal.nD) → Buf (Elt Ideal) ((c.tc : Thread Cert.MmUqIdeal.nD Cert.MmUqIdeal.τ).loc Cert.MmUqIdeal.main_v0)),
      θ_run (Cert.MmUqIdeal.defs (F := Ideal)) (onTc (τ := Cert.MmUqIdeal.τ) (Cert.MmUqIdeal.main (F := Ideal))) ⟨m, fun _ => 0, g⟩ (fun r => ∀ c : Dev Cert.MmUqIdeal.nD,
          r.2.mem ((c.tc : Thread Cert.MmUqIdeal.nD Cert.MmUqIdeal.τ).loc Cert.MmUqIdeal.main_v0) = v0 c
          ∧ r.2.mem ((c.tc : Thread Cert.MmUqIdeal.nD Cert.MmUqIdeal.τ).loc Cert.MmUqIdeal.main_arg0) = m ((c.tc : Thread Cert.MmUqIdeal.nD Cert.MmUqIdeal.τ).loc Cert.MmUqIdeal.main_arg0)
          ∧ r.2.mem ((c.tc : Thread Cert.MmUqIdeal.nD Cert.MmUqIdeal.τ).loc Cert.MmUqIdeal.main_arg1) = m ((c.tc : Thread Cert.MmUqIdeal.nD Cert.MmUqIdeal.τ).loc Cert.MmUqIdeal.main_arg1))
      ∧ θ_run (Cert.MmUqRefIdeal.defs (F := Ideal)) (onTc (τ := Cert.MmUqRefIdeal.τ) (Cert.MmUqRefIdeal.main (F := Ideal))) ⟨m', fun _ => 0, g'⟩ (fun r => ∀ c : Dev Cert.MmUqRefIdeal.nD,
          r.2.mem ((c.tc : Thread Cert.MmUqRefIdeal.nD Cert.MmUqRefIdeal.τ).loc Cert.MmUqRefIdeal.main_v1) = v0 c
          ∧ r.2.mem ((c.tc : Thread Cert.MmUqRefIdeal.nD Cert.MmUqRefIdeal.τ).loc Cert.MmUqRefIdeal.main_arg0) = m' ((c.tc : Thread Cert.MmUqRefIdeal.nD Cert.MmUqRefIdeal.τ).loc Cert.MmUqRefIdeal.main_arg0)
          ∧ r.2.mem ((c.tc : Thread Cert.MmUqRefIdeal.nD Cert.MmUqRefIdeal.τ).loc Cert.MmUqRefIdeal.main_arg1) = m' ((c.tc : Thread Cert.MmUqRefIdeal.nD Cert.MmUqRefIdeal.τ).loc Cert.MmUqRefIdeal.main_arg1))

def preserves_MmUkv_MmUkvIdeal : Prop :=
  True

def algebraic_MmUkvIdeal_MmUkvRefIdeal [hMmUkvIdeal : Cert.MmUkvIdeal.Facts] [hMmUkvRefIdeal : Cert.MmUkvRefIdeal.Facts] : Prop :=
  ∀ (m : (ℓ : Loc Cert.MmUkvIdeal.nD Cert.MmUkvIdeal.τ Cert.MmUkvIdeal.sig) → Buf (Elt Ideal) ℓ) (g : Dev Cert.MmUkvIdeal.nD → PrngReg)
    (m' : (ℓ : Loc Cert.MmUkvRefIdeal.nD Cert.MmUkvRefIdeal.τ Cert.MmUkvRefIdeal.sig) → Buf (Elt Ideal) ℓ) (g' : Dev Cert.MmUkvRefIdeal.nD → PrngReg), Pre_MmUkvIdeal m →
    (∀ c : Dev Cert.MmUkvIdeal.nD,
      m' ((c.tc : Thread Cert.MmUkvRefIdeal.nD Cert.MmUkvRefIdeal.τ).loc Cert.MmUkvRefIdeal.main_arg0) = m ((c.tc : Thread Cert.MmUkvIdeal.nD Cert.MmUkvIdeal.τ).loc Cert.MmUkvIdeal.main_arg0)
      ∧ m' ((c.tc : Thread Cert.MmUkvRefIdeal.nD Cert.MmUkvRefIdeal.τ).loc Cert.MmUkvRefIdeal.main_arg1) = m ((c.tc : Thread Cert.MmUkvIdeal.nD Cert.MmUkvIdeal.τ).loc Cert.MmUkvIdeal.main_arg1)) →
    ∃ (v0 : (c : Dev Cert.MmUkvIdeal.nD) → Buf (Elt Ideal) ((c.tc : Thread Cert.MmUkvIdeal.nD Cert.MmUkvIdeal.τ).loc Cert.MmUkvIdeal.main_v0)),
      θ_run (Cert.MmUkvIdeal.defs (F := Ideal)) (onTc (τ := Cert.MmUkvIdeal.τ) (Cert.MmUkvIdeal.main (F := Ideal))) ⟨m, fun _ => 0, g⟩ (fun r => ∀ c : Dev Cert.MmUkvIdeal.nD,
          r.2.mem ((c.tc : Thread Cert.MmUkvIdeal.nD Cert.MmUkvIdeal.τ).loc Cert.MmUkvIdeal.main_v0) = v0 c
          ∧ r.2.mem ((c.tc : Thread Cert.MmUkvIdeal.nD Cert.MmUkvIdeal.τ).loc Cert.MmUkvIdeal.main_arg0) = m ((c.tc : Thread Cert.MmUkvIdeal.nD Cert.MmUkvIdeal.τ).loc Cert.MmUkvIdeal.main_arg0)
          ∧ r.2.mem ((c.tc : Thread Cert.MmUkvIdeal.nD Cert.MmUkvIdeal.τ).loc Cert.MmUkvIdeal.main_arg1) = m ((c.tc : Thread Cert.MmUkvIdeal.nD Cert.MmUkvIdeal.τ).loc Cert.MmUkvIdeal.main_arg1))
      ∧ θ_run (Cert.MmUkvRefIdeal.defs (F := Ideal)) (onTc (τ := Cert.MmUkvRefIdeal.τ) (Cert.MmUkvRefIdeal.main (F := Ideal))) ⟨m', fun _ => 0, g'⟩ (fun r => ∀ c : Dev Cert.MmUkvRefIdeal.nD,
          r.2.mem ((c.tc : Thread Cert.MmUkvRefIdeal.nD Cert.MmUkvRefIdeal.τ).loc Cert.MmUkvRefIdeal.main_v1) = v0 c
          ∧ r.2.mem ((c.tc : Thread Cert.MmUkvRefIdeal.nD Cert.MmUkvRefIdeal.τ).loc Cert.MmUkvRefIdeal.main_arg0) = m' ((c.tc : Thread Cert.MmUkvRefIdeal.nD Cert.MmUkvRefIdeal.τ).loc Cert.MmUkvRefIdeal.main_arg0)
          ∧ r.2.mem ((c.tc : Thread Cert.MmUkvRefIdeal.nD Cert.MmUkvRefIdeal.τ).loc Cert.MmUkvRefIdeal.main_arg1) = m' ((c.tc : Thread Cert.MmUkvRefIdeal.nD Cert.MmUkvRefIdeal.τ).loc Cert.MmUkvRefIdeal.main_arg1))

def preserves_MmOut_MmOutIdeal : Prop :=
  True

def algebraic_MmOutIdeal_MmOutRefIdeal [hMmOutIdeal : Cert.MmOutIdeal.Facts] [hMmOutRefIdeal : Cert.MmOutRefIdeal.Facts] : Prop :=
  ∀ (m : (ℓ : Loc Cert.MmOutIdeal.nD Cert.MmOutIdeal.τ Cert.MmOutIdeal.sig) → Buf (Elt Ideal) ℓ) (g : Dev Cert.MmOutIdeal.nD → PrngReg)
    (m' : (ℓ : Loc Cert.MmOutRefIdeal.nD Cert.MmOutRefIdeal.τ Cert.MmOutRefIdeal.sig) → Buf (Elt Ideal) ℓ) (g' : Dev Cert.MmOutRefIdeal.nD → PrngReg), Pre_MmOutIdeal m →
    (∀ c : Dev Cert.MmOutIdeal.nD,
      m' ((c.tc : Thread Cert.MmOutRefIdeal.nD Cert.MmOutRefIdeal.τ).loc Cert.MmOutRefIdeal.main_arg0) = m ((c.tc : Thread Cert.MmOutIdeal.nD Cert.MmOutIdeal.τ).loc Cert.MmOutIdeal.main_arg0)
      ∧ m' ((c.tc : Thread Cert.MmOutRefIdeal.nD Cert.MmOutRefIdeal.τ).loc Cert.MmOutRefIdeal.main_arg1) = m ((c.tc : Thread Cert.MmOutIdeal.nD Cert.MmOutIdeal.τ).loc Cert.MmOutIdeal.main_arg1)) →
    ∃ (v0 : (c : Dev Cert.MmOutIdeal.nD) → Buf (Elt Ideal) ((c.tc : Thread Cert.MmOutIdeal.nD Cert.MmOutIdeal.τ).loc Cert.MmOutIdeal.main_v0)),
      θ_run (Cert.MmOutIdeal.defs (F := Ideal)) (onTc (τ := Cert.MmOutIdeal.τ) (Cert.MmOutIdeal.main (F := Ideal))) ⟨m, fun _ => 0, g⟩ (fun r => ∀ c : Dev Cert.MmOutIdeal.nD,
          r.2.mem ((c.tc : Thread Cert.MmOutIdeal.nD Cert.MmOutIdeal.τ).loc Cert.MmOutIdeal.main_v0) = v0 c
          ∧ r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
          ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1))
      ∧ θ_run (Cert.MmOutRefIdeal.defs (F := Ideal)) (onTc (τ := Cert.MmOutRefIdeal.τ) (Cert.MmOutRefIdeal.main (F := Ideal))) ⟨m', fun _ => 0, g'⟩ (fun r => ∀ c : Dev Cert.MmOutRefIdeal.nD,
          r.2.mem ((c.tc : Thread Cert.MmOutRefIdeal.nD Cert.MmOutRefIdeal.τ).loc Cert.MmOutRefIdeal.main_v1) = v0 c
          ∧ r.2.mem ((c.tc : Thread Cert.MmOutRefIdeal.nD Cert.MmOutRefIdeal.τ).loc Cert.MmOutRefIdeal.main_arg0) = m' ((c.tc : Thread Cert.MmOutRefIdeal.nD Cert.MmOutRefIdeal.τ).loc Cert.MmOutRefIdeal.main_arg0)
          ∧ r.2.mem ((c.tc : Thread Cert.MmOutRefIdeal.nD Cert.MmOutRefIdeal.τ).loc Cert.MmOutRefIdeal.main_arg1) = m' ((c.tc : Thread Cert.MmOutRefIdeal.nD Cert.MmOutRefIdeal.τ).loc Cert.MmOutRefIdeal.main_arg1))

def preserves_MmUp_MmUpIdeal : Prop :=
  True

def algebraic_MmUpIdeal_MmUpRefIdeal [hMmUpIdeal : Cert.MmUpIdeal.Facts] [hMmUpRefIdeal : Cert.MmUpRefIdeal.Facts] : Prop :=
  ∀ (m : (ℓ : Loc Cert.MmUpIdeal.nD Cert.MmUpIdeal.τ Cert.MmUpIdeal.sig) → Buf (Elt Ideal) ℓ) (g : Dev Cert.MmUpIdeal.nD → PrngReg)
    (m' : (ℓ : Loc Cert.MmUpRefIdeal.nD Cert.MmUpRefIdeal.τ Cert.MmUpRefIdeal.sig) → Buf (Elt Ideal) ℓ) (g' : Dev Cert.MmUpRefIdeal.nD → PrngReg), Pre_MmUpIdeal m →
    (∀ c : Dev Cert.MmUpIdeal.nD,
      m' ((c.tc : Thread Cert.MmUpRefIdeal.nD Cert.MmUpRefIdeal.τ).loc Cert.MmUpRefIdeal.main_arg0) = m ((c.tc : Thread Cert.MmUpIdeal.nD Cert.MmUpIdeal.τ).loc Cert.MmUpIdeal.main_arg0)
      ∧ m' ((c.tc : Thread Cert.MmUpRefIdeal.nD Cert.MmUpRefIdeal.τ).loc Cert.MmUpRefIdeal.main_arg1) = m ((c.tc : Thread Cert.MmUpIdeal.nD Cert.MmUpIdeal.τ).loc Cert.MmUpIdeal.main_arg1)) →
    ∃ (v0 : (c : Dev Cert.MmUpIdeal.nD) → Buf (Elt Ideal) ((c.tc : Thread Cert.MmUpIdeal.nD Cert.MmUpIdeal.τ).loc Cert.MmUpIdeal.main_v0)),
      θ_run (Cert.MmUpIdeal.defs (F := Ideal)) (onTc (τ := Cert.MmUpIdeal.τ) (Cert.MmUpIdeal.main (F := Ideal))) ⟨m, fun _ => 0, g⟩ (fun r => ∀ c : Dev Cert.MmUpIdeal.nD,
          r.2.mem ((c.tc : Thread Cert.MmUpIdeal.nD Cert.MmUpIdeal.τ).loc Cert.MmUpIdeal.main_v0) = v0 c
          ∧ r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
          ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ θ_run (Cert.MmUpRefIdeal.defs (F := Ideal)) (onTc (τ := Cert.MmUpRefIdeal.τ) (Cert.MmUpRefIdeal.main (F := Ideal))) ⟨m', fun _ => 0, g'⟩ (fun r => ∀ c : Dev Cert.MmUpRefIdeal.nD,
          r.2.mem ((c.tc : Thread Cert.MmUpRefIdeal.nD Cert.MmUpRefIdeal.τ).loc Cert.MmUpRefIdeal.main_v1) = v0 c
          ∧ r.2.mem ((c.tc : Thread Cert.MmUpRefIdeal.nD Cert.MmUpRefIdeal.τ).loc Cert.MmUpRefIdeal.main_arg0) = m' ((c.tc : Thread Cert.MmUpRefIdeal.nD Cert.MmUpRefIdeal.τ).loc Cert.MmUpRefIdeal.main_arg0)
          ∧ r.2.mem ((c.tc : Thread Cert.MmUpRefIdeal.nD Cert.MmUpRefIdeal.τ).loc Cert.MmUpRefIdeal.main_arg1) = m' ((c.tc : Thread Cert.MmUpRefIdeal.nD Cert.MmUpRefIdeal.τ).loc Cert.MmUpRefIdeal.main_arg1))

def preserves_MmDown_MmDownIdeal : Prop :=
  True

def algebraic_MmDownIdeal_MmDownRefIdeal [hMmDownIdeal : Cert.MmDownIdeal.Facts] [hMmDownRefIdeal : Cert.MmDownRefIdeal.Facts] : Prop :=
  ∀ (m : (ℓ : Loc Cert.MmDownIdeal.nD Cert.MmDownIdeal.τ Cert.MmDownIdeal.sig) → Buf (Elt Ideal) ℓ) (g : Dev Cert.MmDownIdeal.nD → PrngReg)
    (m' : (ℓ : Loc Cert.MmDownRefIdeal.nD Cert.MmDownRefIdeal.τ Cert.MmDownRefIdeal.sig) → Buf (Elt Ideal) ℓ) (g' : Dev Cert.MmDownRefIdeal.nD → PrngReg), Pre_MmDownIdeal m →
    (∀ c : Dev Cert.MmDownIdeal.nD,
      m' ((c.tc : Thread Cert.MmDownRefIdeal.nD Cert.MmDownRefIdeal.τ).loc Cert.MmDownRefIdeal.main_arg0) = m ((c.tc : Thread Cert.MmDownIdeal.nD Cert.MmDownIdeal.τ).loc Cert.MmDownIdeal.main_arg0)
      ∧ m' ((c.tc : Thread Cert.MmDownRefIdeal.nD Cert.MmDownRefIdeal.τ).loc Cert.MmDownRefIdeal.main_arg1) = m ((c.tc : Thread Cert.MmDownIdeal.nD Cert.MmDownIdeal.τ).loc Cert.MmDownIdeal.main_arg1)) →
    ∃ (v0 : (c : Dev Cert.MmDownIdeal.nD) → Buf (Elt Ideal) ((c.tc : Thread Cert.MmDownIdeal.nD Cert.MmDownIdeal.τ).loc Cert.MmDownIdeal.main_v0)),
      θ_run (Cert.MmDownIdeal.defs (F := Ideal)) (onTc (τ := Cert.MmDownIdeal.τ) (Cert.MmDownIdeal.main (F := Ideal))) ⟨m, fun _ => 0, g⟩ (fun r => ∀ c : Dev Cert.MmDownIdeal.nD,
          r.2.mem ((c.tc : Thread Cert.MmDownIdeal.nD Cert.MmDownIdeal.τ).loc Cert.MmDownIdeal.main_v0) = v0 c
          ∧ r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
          ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1))
      ∧ θ_run (Cert.MmDownRefIdeal.defs (F := Ideal)) (onTc (τ := Cert.MmDownRefIdeal.τ) (Cert.MmDownRefIdeal.main (F := Ideal))) ⟨m', fun _ => 0, g'⟩ (fun r => ∀ c : Dev Cert.MmDownRefIdeal.nD,
          r.2.mem ((c.tc : Thread Cert.MmDownRefIdeal.nD Cert.MmDownRefIdeal.τ).loc Cert.MmDownRefIdeal.main_v1) = v0 c
          ∧ r.2.mem ((c.tc : Thread Cert.MmDownRefIdeal.nD Cert.MmDownRefIdeal.τ).loc Cert.MmDownRefIdeal.main_arg0) = m' ((c.tc : Thread Cert.MmDownRefIdeal.nD Cert.MmDownRefIdeal.τ).loc Cert.MmDownRefIdeal.main_arg0)
          ∧ r.2.mem ((c.tc : Thread Cert.MmDownRefIdeal.nD Cert.MmDownRefIdeal.τ).loc Cert.MmDownRefIdeal.main_arg1) = m' ((c.tc : Thread Cert.MmDownRefIdeal.nD Cert.MmDownRefIdeal.τ).loc Cert.MmDownRefIdeal.main_arg1))

def preserves_SsdPost_SsdPostIdeal : Prop :=
  True

def algebraic_SsdPostIdeal_SsdPostRefIdeal [hSsdPostIdeal : Cert.SsdPostIdeal.Facts] [hSsdPostRefIdeal : Cert.SsdPostRefIdeal.Facts] : Prop :=
  ∀ (m : (ℓ : Loc Cert.SsdPostIdeal.nD Cert.SsdPostIdeal.τ Cert.SsdPostIdeal.sig) → Buf (Elt Ideal) ℓ) (g : Dev Cert.SsdPostIdeal.nD → PrngReg)
    (m' : (ℓ : Loc Cert.SsdPostRefIdeal.nD Cert.SsdPostRefIdeal.τ Cert.SsdPostRefIdeal.sig) → Buf (Elt Ideal) ℓ) (g' : Dev Cert.SsdPostRefIdeal.nD → PrngReg), Pre_SsdPostIdeal m →
    (∀ c : Dev Cert.SsdPostIdeal.nD,
      m' ((c.tc : Thread Cert.SsdPostRefIdeal.nD Cert.SsdPostRefIdeal.τ).loc Cert.SsdPostRefIdeal.main_arg0) = m ((c.tc : Thread Cert.SsdPostIdeal.nD Cert.SsdPostIdeal.τ).loc Cert.SsdPostIdeal.main_arg0)
      ∧ m' ((c.tc : Thread Cert.SsdPostRefIdeal.nD Cert.SsdPostRefIdeal.τ).loc Cert.SsdPostRefIdeal.main_arg1) = m ((c.tc : Thread Cert.SsdPostIdeal.nD Cert.SsdPostIdeal.τ).loc Cert.SsdPostIdeal.main_arg1)
      ∧ m' ((c.tc : Thread Cert.SsdPostRefIdeal.nD Cert.SsdPostRefIdeal.τ).loc Cert.SsdPostRefIdeal.main_arg2) = m ((c.tc : Thread Cert.SsdPostIdeal.nD Cert.SsdPostIdeal.τ).loc Cert.SsdPostIdeal.main_arg2)) →
    ∃ (v0 : (c : Dev Cert.SsdPostIdeal.nD) → Buf (Elt Ideal) ((c.tc : Thread Cert.SsdPostIdeal.nD Cert.SsdPostIdeal.τ).loc Cert.SsdPostIdeal.main_v0)),
      θ_run (Cert.SsdPostIdeal.defs (F := Ideal)) (onTc (τ := Cert.SsdPostIdeal.τ) (Cert.SsdPostIdeal.main (F := Ideal))) ⟨m, fun _ => 0, g⟩ (fun r => ∀ c : Dev Cert.SsdPostIdeal.nD,
          r.2.mem ((c.tc : Thread Cert.SsdPostIdeal.nD Cert.SsdPostIdeal.τ).loc Cert.SsdPostIdeal.main_v0) = v0 c
          ∧ r.2.mem ((c.tc : Thread Cert.SsdPostIdeal.nD Cert.SsdPostIdeal.τ).loc Cert.SsdPostIdeal.main_arg0) = m ((c.tc : Thread Cert.SsdPostIdeal.nD Cert.SsdPostIdeal.τ).loc Cert.SsdPostIdeal.main_arg0)
          ∧ r.2.mem ((c.tc : Thread Cert.SsdPostIdeal.nD Cert.SsdPostIdeal.τ).loc Cert.SsdPostIdeal.main_arg1) = m ((c.tc : Thread Cert.SsdPostIdeal.nD Cert.SsdPostIdeal.τ).loc Cert.SsdPostIdeal.main_arg1)
          ∧ r.2.mem ((c.tc : Thread Cert.SsdPostIdeal.nD Cert.SsdPostIdeal.τ).loc Cert.SsdPostIdeal.main_arg2) = m ((c.tc : Thread Cert.SsdPostIdeal.nD Cert.SsdPostIdeal.τ).loc Cert.SsdPostIdeal.main_arg2))
      ∧ θ_run (Cert.SsdPostRefIdeal.defs (F := Ideal)) (onTc (τ := Cert.SsdPostRefIdeal.τ) (Cert.SsdPostRefIdeal.main (F := Ideal))) ⟨m', fun _ => 0, g'⟩ (fun r => ∀ c : Dev Cert.SsdPostRefIdeal.nD,
          r.2.mem ((c.tc : Thread Cert.SsdPostRefIdeal.nD Cert.SsdPostRefIdeal.τ).loc Cert.SsdPostRefIdeal.main_v17) = v0 c
          ∧ r.2.mem ((c.tc : Thread Cert.SsdPostRefIdeal.nD Cert.SsdPostRefIdeal.τ).loc Cert.SsdPostRefIdeal.main_arg0) = m' ((c.tc : Thread Cert.SsdPostRefIdeal.nD Cert.SsdPostRefIdeal.τ).loc Cert.SsdPostRefIdeal.main_arg0)
          ∧ r.2.mem ((c.tc : Thread Cert.SsdPostRefIdeal.nD Cert.SsdPostRefIdeal.τ).loc Cert.SsdPostRefIdeal.main_arg1) = m' ((c.tc : Thread Cert.SsdPostRefIdeal.nD Cert.SsdPostRefIdeal.τ).loc Cert.SsdPostRefIdeal.main_arg1)
          ∧ r.2.mem ((c.tc : Thread Cert.SsdPostRefIdeal.nD Cert.SsdPostRefIdeal.τ).loc Cert.SsdPostRefIdeal.main_arg2) = m' ((c.tc : Thread Cert.SsdPostRefIdeal.nD Cert.SsdPostRefIdeal.τ).loc Cert.SsdPostRefIdeal.main_arg2))

def preserves_GdnPost_GdnPostIdeal : Prop :=
  True

def algebraic_GdnPostIdeal_GdnPostRefIdeal [hGdnPostIdeal : Cert.GdnPostIdeal.Facts] [hGdnPostRefIdeal : Cert.GdnPostRefIdeal.Facts] : Prop :=
  ∀ (m : (ℓ : Loc Cert.GdnPostIdeal.nD Cert.GdnPostIdeal.τ Cert.GdnPostIdeal.sig) → Buf (Elt Ideal) ℓ) (g : Dev Cert.GdnPostIdeal.nD → PrngReg)
    (m' : (ℓ : Loc Cert.GdnPostRefIdeal.nD Cert.GdnPostRefIdeal.τ Cert.GdnPostRefIdeal.sig) → Buf (Elt Ideal) ℓ) (g' : Dev Cert.GdnPostRefIdeal.nD → PrngReg), Pre_GdnPostIdeal m →
    (∀ c : Dev Cert.GdnPostIdeal.nD,
      m' ((c.tc : Thread Cert.GdnPostRefIdeal.nD Cert.GdnPostRefIdeal.τ).loc Cert.GdnPostRefIdeal.main_arg0) = m ((c.tc : Thread Cert.GdnPostIdeal.nD Cert.GdnPostIdeal.τ).loc Cert.GdnPostIdeal.main_arg0)
      ∧ m' ((c.tc : Thread Cert.GdnPostRefIdeal.nD Cert.GdnPostRefIdeal.τ).loc Cert.GdnPostRefIdeal.main_arg1) = m ((c.tc : Thread Cert.GdnPostIdeal.nD Cert.GdnPostIdeal.τ).loc Cert.GdnPostIdeal.main_arg1)
      ∧ m' ((c.tc : Thread Cert.GdnPostRefIdeal.nD Cert.GdnPostRefIdeal.τ).loc Cert.GdnPostRefIdeal.main_arg2) = m ((c.tc : Thread Cert.GdnPostIdeal.nD Cert.GdnPostIdeal.τ).loc Cert.GdnPostIdeal.main_arg2)) →
    ∃ (v0 : (c : Dev Cert.GdnPostIdeal.nD) → Buf (Elt Ideal) ((c.tc : Thread Cert.GdnPostIdeal.nD Cert.GdnPostIdeal.τ).loc Cert.GdnPostIdeal.main_v0)),
      θ_run (Cert.GdnPostIdeal.defs (F := Ideal)) (onTc (τ := Cert.GdnPostIdeal.τ) (Cert.GdnPostIdeal.main (F := Ideal))) ⟨m, fun _ => 0, g⟩ (fun r => ∀ c : Dev Cert.GdnPostIdeal.nD,
          r.2.mem ((c.tc : Thread Cert.GdnPostIdeal.nD Cert.GdnPostIdeal.τ).loc Cert.GdnPostIdeal.main_v0) = v0 c
          ∧ r.2.mem ((c.tc : Thread Cert.GdnPostIdeal.nD Cert.GdnPostIdeal.τ).loc Cert.GdnPostIdeal.main_arg0) = m ((c.tc : Thread Cert.GdnPostIdeal.nD Cert.GdnPostIdeal.τ).loc Cert.GdnPostIdeal.main_arg0)
          ∧ r.2.mem ((c.tc : Thread Cert.GdnPostIdeal.nD Cert.GdnPostIdeal.τ).loc Cert.GdnPostIdeal.main_arg1) = m ((c.tc : Thread Cert.GdnPostIdeal.nD Cert.GdnPostIdeal.τ).loc Cert.GdnPostIdeal.main_arg1)
          ∧ r.2.mem ((c.tc : Thread Cert.GdnPostIdeal.nD Cert.GdnPostIdeal.τ).loc Cert.GdnPostIdeal.main_arg2) = m ((c.tc : Thread Cert.GdnPostIdeal.nD Cert.GdnPostIdeal.τ).loc Cert.GdnPostIdeal.main_arg2))
      ∧ θ_run (Cert.GdnPostRefIdeal.defs (F := Ideal)) (onTc (τ := Cert.GdnPostRefIdeal.τ) (Cert.GdnPostRefIdeal.main (F := Ideal))) ⟨m', fun _ => 0, g'⟩ (fun r => ∀ c : Dev Cert.GdnPostRefIdeal.nD,
          r.2.mem ((c.tc : Thread Cert.GdnPostRefIdeal.nD Cert.GdnPostRefIdeal.τ).loc Cert.GdnPostRefIdeal.main_v18) = v0 c
          ∧ r.2.mem ((c.tc : Thread Cert.GdnPostRefIdeal.nD Cert.GdnPostRefIdeal.τ).loc Cert.GdnPostRefIdeal.main_arg0) = m' ((c.tc : Thread Cert.GdnPostRefIdeal.nD Cert.GdnPostRefIdeal.τ).loc Cert.GdnPostRefIdeal.main_arg0)
          ∧ r.2.mem ((c.tc : Thread Cert.GdnPostRefIdeal.nD Cert.GdnPostRefIdeal.τ).loc Cert.GdnPostRefIdeal.main_arg1) = m' ((c.tc : Thread Cert.GdnPostRefIdeal.nD Cert.GdnPostRefIdeal.τ).loc Cert.GdnPostRefIdeal.main_arg1)
          ∧ r.2.mem ((c.tc : Thread Cert.GdnPostRefIdeal.nD Cert.GdnPostRefIdeal.τ).loc Cert.GdnPostRefIdeal.main_arg2) = m' ((c.tc : Thread Cert.GdnPostRefIdeal.nD Cert.GdnPostRefIdeal.τ).loc Cert.GdnPostRefIdeal.main_arg2))

def preserves_MlaNorm_MlaNormIdeal : Prop :=
  True

def algebraic_MlaNormIdeal_MlaNormRefIdeal [hMlaNormIdeal : Cert.MlaNormIdeal.Facts] [hMlaNormRefIdeal : Cert.MlaNormRefIdeal.Facts] : Prop :=
  ∀ (m : (ℓ : Loc Cert.MlaNormIdeal.nD Cert.MlaNormIdeal.τ Cert.MlaNormIdeal.sig) → Buf (Elt Ideal) ℓ) (g : Dev Cert.MlaNormIdeal.nD → PrngReg)
    (m' : (ℓ : Loc Cert.MlaNormRefIdeal.nD Cert.MlaNormRefIdeal.τ Cert.MlaNormRefIdeal.sig) → Buf (Elt Ideal) ℓ) (g' : Dev Cert.MlaNormRefIdeal.nD → PrngReg), Pre_MlaNormIdeal m →
    (∀ c : Dev Cert.MlaNormIdeal.nD,
      m' ((c.tc : Thread Cert.MlaNormRefIdeal.nD Cert.MlaNormRefIdeal.τ).loc Cert.MlaNormRefIdeal.main_arg0) = m ((c.tc : Thread Cert.MlaNormIdeal.nD Cert.MlaNormIdeal.τ).loc Cert.MlaNormIdeal.main_arg0)
      ∧ m' ((c.tc : Thread Cert.MlaNormRefIdeal.nD Cert.MlaNormRefIdeal.τ).loc Cert.MlaNormRefIdeal.main_arg1) = m ((c.tc : Thread Cert.MlaNormIdeal.nD Cert.MlaNormIdeal.τ).loc Cert.MlaNormIdeal.main_arg1)
      ∧ m' ((c.tc : Thread Cert.MlaNormRefIdeal.nD Cert.MlaNormRefIdeal.τ).loc Cert.MlaNormRefIdeal.main_arg2) = m ((c.tc : Thread Cert.MlaNormIdeal.nD Cert.MlaNormIdeal.τ).loc Cert.MlaNormIdeal.main_arg2)
      ∧ m' ((c.tc : Thread Cert.MlaNormRefIdeal.nD Cert.MlaNormRefIdeal.τ).loc Cert.MlaNormRefIdeal.main_arg3) = m ((c.tc : Thread Cert.MlaNormIdeal.nD Cert.MlaNormIdeal.τ).loc Cert.MlaNormIdeal.main_arg3)) →
    ∃ (v0 : (c : Dev Cert.MlaNormIdeal.nD) → Buf (Elt Ideal) ((c.tc : Thread Cert.MlaNormIdeal.nD Cert.MlaNormIdeal.τ).loc Cert.MlaNormIdeal.main_v0_0)) (v1 : (c : Dev Cert.MlaNormIdeal.nD) → Buf (Elt Ideal) ((c.tc : Thread Cert.MlaNormIdeal.nD Cert.MlaNormIdeal.τ).loc Cert.MlaNormIdeal.main_v0_1)),
      θ_run (Cert.MlaNormIdeal.defs (F := Ideal)) (onTc (τ := Cert.MlaNormIdeal.τ) (Cert.MlaNormIdeal.main (F := Ideal))) ⟨m, fun _ => 0, g⟩ (fun r => ∀ c : Dev Cert.MlaNormIdeal.nD,
          r.2.mem ((c.tc : Thread Cert.MlaNormIdeal.nD Cert.MlaNormIdeal.τ).loc Cert.MlaNormIdeal.main_v0_0) = v0 c
          ∧ r.2.mem ((c.tc : Thread Cert.MlaNormIdeal.nD Cert.MlaNormIdeal.τ).loc Cert.MlaNormIdeal.main_v0_1) = v1 c
          ∧ r.2.mem ((c.tc : Thread Cert.MlaNormIdeal.nD Cert.MlaNormIdeal.τ).loc Cert.MlaNormIdeal.main_arg0) = m ((c.tc : Thread Cert.MlaNormIdeal.nD Cert.MlaNormIdeal.τ).loc Cert.MlaNormIdeal.main_arg0)
          ∧ r.2.mem ((c.tc : Thread Cert.MlaNormIdeal.nD Cert.MlaNormIdeal.τ).loc Cert.MlaNormIdeal.main_arg1) = m ((c.tc : Thread Cert.MlaNormIdeal.nD Cert.MlaNormIdeal.τ).loc Cert.MlaNormIdeal.main_arg1)
          ∧ r.2.mem ((c.tc : Thread Cert.MlaNormIdeal.nD Cert.MlaNormIdeal.τ).loc Cert.MlaNormIdeal.main_arg2) = m ((c.tc : Thread Cert.MlaNormIdeal.nD Cert.MlaNormIdeal.τ).loc Cert.MlaNormIdeal.main_arg2)
          ∧ r.2.mem ((c.tc : Thread Cert.MlaNormIdeal.nD Cert.MlaNormIdeal.τ).loc Cert.MlaNormIdeal.main_arg3) = m ((c.tc : Thread Cert.MlaNormIdeal.nD Cert.MlaNormIdeal.τ).loc Cert.MlaNormIdeal.main_arg3))
      ∧ θ_run (Cert.MlaNormRefIdeal.defs (F := Ideal)) (onTc (τ := Cert.MlaNormRefIdeal.τ) (Cert.MlaNormRefIdeal.main (F := Ideal))) ⟨m', fun _ => 0, g'⟩ (fun r => ∀ c : Dev Cert.MlaNormRefIdeal.nD,
          r.2.mem ((c.tc : Thread Cert.MlaNormRefIdeal.nD Cert.MlaNormRefIdeal.τ).loc Cert.MlaNormRefIdeal.main_v13) = v0 c
          ∧ r.2.mem ((c.tc : Thread Cert.MlaNormRefIdeal.nD Cert.MlaNormRefIdeal.τ).loc Cert.MlaNormRefIdeal.main_v27) = v1 c
          ∧ r.2.mem ((c.tc : Thread Cert.MlaNormRefIdeal.nD Cert.MlaNormRefIdeal.τ).loc Cert.MlaNormRefIdeal.main_arg0) = m' ((c.tc : Thread Cert.MlaNormRefIdeal.nD Cert.MlaNormRefIdeal.τ).loc Cert.MlaNormRefIdeal.main_arg0)
          ∧ r.2.mem ((c.tc : Thread Cert.MlaNormRefIdeal.nD Cert.MlaNormRefIdeal.τ).loc Cert.MlaNormRefIdeal.main_arg1) = m' ((c.tc : Thread Cert.MlaNormRefIdeal.nD Cert.MlaNormRefIdeal.τ).loc Cert.MlaNormRefIdeal.main_arg1)
          ∧ r.2.mem ((c.tc : Thread Cert.MlaNormRefIdeal.nD Cert.MlaNormRefIdeal.τ).loc Cert.MlaNormRefIdeal.main_arg2) = m' ((c.tc : Thread Cert.MlaNormRefIdeal.nD Cert.MlaNormRefIdeal.τ).loc Cert.MlaNormRefIdeal.main_arg2)
          ∧ r.2.mem ((c.tc : Thread Cert.MlaNormRefIdeal.nD Cert.MlaNormRefIdeal.τ).loc Cert.MlaNormRefIdeal.main_arg3) = m' ((c.tc : Thread Cert.MlaNormRefIdeal.nD Cert.MlaNormRefIdeal.τ).loc Cert.MlaNormRefIdeal.main_arg3))

def preserves_LossBack_LossBackIdeal : Prop :=
  True

def algebraic_LossBackIdeal_LossBackRefIdeal [hLossBackIdeal : Cert.LossBackIdeal.Facts] [hLossBackRefIdeal : Cert.LossBackRefIdeal.Facts] : Prop :=
  ∀ (m : (ℓ : Loc Cert.LossBackIdeal.nD Cert.LossBackIdeal.τ Cert.LossBackIdeal.sig) → Buf (Elt Ideal) ℓ) (g : Dev Cert.LossBackIdeal.nD → PrngReg)
    (m' : (ℓ : Loc Cert.LossBackRefIdeal.nD Cert.LossBackRefIdeal.τ Cert.LossBackRefIdeal.sig) → Buf (Elt Ideal) ℓ) (g' : Dev Cert.LossBackRefIdeal.nD → PrngReg), Pre_LossBackIdeal m →
    (∀ c : Dev Cert.LossBackIdeal.nD,
      m' ((c.tc : Thread Cert.LossBackRefIdeal.nD Cert.LossBackRefIdeal.τ).loc Cert.LossBackRefIdeal.main_arg0) = m ((c.tc : Thread Cert.LossBackIdeal.nD Cert.LossBackIdeal.τ).loc Cert.LossBackIdeal.main_arg0)
      ∧ m' ((c.tc : Thread Cert.LossBackRefIdeal.nD Cert.LossBackRefIdeal.τ).loc Cert.LossBackRefIdeal.main_arg1) = m ((c.tc : Thread Cert.LossBackIdeal.nD Cert.LossBackIdeal.τ).loc Cert.LossBackIdeal.main_arg1)
      ∧ m' ((c.tc : Thread Cert.LossBackRefIdeal.nD Cert.LossBackRefIdeal.τ).loc Cert.LossBackRefIdeal.main_arg2) = m ((c.tc : Thread Cert.LossBackIdeal.nD Cert.LossBackIdeal.τ).loc Cert.LossBackIdeal.main_arg2)
      ∧ m' ((c.tc : Thread Cert.LossBackRefIdeal.nD Cert.LossBackRefIdeal.τ).loc Cert.LossBackRefIdeal.main_arg3) = m ((c.tc : Thread Cert.LossBackIdeal.nD Cert.LossBackIdeal.τ).loc Cert.LossBackIdeal.main_arg3)) →
    ∃ (v0 : (c : Dev Cert.LossBackIdeal.nD) → Buf (Elt Ideal) ((c.tc : Thread Cert.LossBackIdeal.nD Cert.LossBackIdeal.τ).loc Cert.LossBackIdeal.main_v0_0)) (v1 : (c : Dev Cert.LossBackIdeal.nD) → Buf (Elt Ideal) ((c.tc : Thread Cert.LossBackIdeal.nD Cert.LossBackIdeal.τ).loc Cert.LossBackIdeal.main_v0_1)),
      θ_run (Cert.LossBackIdeal.defs (F := Ideal)) (onTc (τ := Cert.LossBackIdeal.τ) (Cert.LossBackIdeal.main (F := Ideal))) ⟨m, fun _ => 0, g⟩ (fun r => ∀ c : Dev Cert.LossBackIdeal.nD,
          r.2.mem ((c.tc : Thread Cert.LossBackIdeal.nD Cert.LossBackIdeal.τ).loc Cert.LossBackIdeal.main_v0_0) = v0 c
          ∧ r.2.mem ((c.tc : Thread Cert.LossBackIdeal.nD Cert.LossBackIdeal.τ).loc Cert.LossBackIdeal.main_v0_1) = v1 c
          ∧ r.2.mem ((c.tc : Thread Cert.LossBackIdeal.nD Cert.LossBackIdeal.τ).loc Cert.LossBackIdeal.main_arg0) = m ((c.tc : Thread Cert.LossBackIdeal.nD Cert.LossBackIdeal.τ).loc Cert.LossBackIdeal.main_arg0)
          ∧ r.2.mem ((c.tc : Thread Cert.LossBackIdeal.nD Cert.LossBackIdeal.τ).loc Cert.LossBackIdeal.main_arg1) = m ((c.tc : Thread Cert.LossBackIdeal.nD Cert.LossBackIdeal.τ).loc Cert.LossBackIdeal.main_arg1)
          ∧ r.2.mem ((c.tc : Thread Cert.LossBackIdeal.nD Cert.LossBackIdeal.τ).loc Cert.LossBackIdeal.main_arg2) = m ((c.tc : Thread Cert.LossBackIdeal.nD Cert.LossBackIdeal.τ).loc Cert.LossBackIdeal.main_arg2)
          ∧ r.2.mem ((c.tc : Thread Cert.LossBackIdeal.nD Cert.LossBackIdeal.τ).loc Cert.LossBackIdeal.main_arg3) = m ((c.tc : Thread Cert.LossBackIdeal.nD Cert.LossBackIdeal.τ).loc Cert.LossBackIdeal.main_arg3))
      ∧ θ_run (Cert.LossBackRefIdeal.defs (F := Ideal)) (onTc (τ := Cert.LossBackRefIdeal.τ) (Cert.LossBackRefIdeal.main (F := Ideal))) ⟨m', fun _ => 0, g'⟩ (fun r => ∀ c : Dev Cert.LossBackRefIdeal.nD,
          r.2.mem ((c.tc : Thread Cert.LossBackRefIdeal.nD Cert.LossBackRefIdeal.τ).loc Cert.LossBackRefIdeal.main_v52) = v0 c
          ∧ r.2.mem ((c.tc : Thread Cert.LossBackRefIdeal.nD Cert.LossBackRefIdeal.τ).loc Cert.LossBackRefIdeal.main_v53) = v1 c
          ∧ r.2.mem ((c.tc : Thread Cert.LossBackRefIdeal.nD Cert.LossBackRefIdeal.τ).loc Cert.LossBackRefIdeal.main_arg0) = m' ((c.tc : Thread Cert.LossBackRefIdeal.nD Cert.LossBackRefIdeal.τ).loc Cert.LossBackRefIdeal.main_arg0)
          ∧ r.2.mem ((c.tc : Thread Cert.LossBackRefIdeal.nD Cert.LossBackRefIdeal.τ).loc Cert.LossBackRefIdeal.main_arg1) = m' ((c.tc : Thread Cert.LossBackRefIdeal.nD Cert.LossBackRefIdeal.τ).loc Cert.LossBackRefIdeal.main_arg1)
          ∧ r.2.mem ((c.tc : Thread Cert.LossBackRefIdeal.nD Cert.LossBackRefIdeal.τ).loc Cert.LossBackRefIdeal.main_arg2) = m' ((c.tc : Thread Cert.LossBackRefIdeal.nD Cert.LossBackRefIdeal.τ).loc Cert.LossBackRefIdeal.main_arg2)
          ∧ r.2.mem ((c.tc : Thread Cert.LossBackRefIdeal.nD Cert.LossBackRefIdeal.τ).loc Cert.LossBackRefIdeal.main_arg3) = m' ((c.tc : Thread Cert.LossBackRefIdeal.nD Cert.LossBackRefIdeal.τ).loc Cert.LossBackRefIdeal.main_arg3))

def preserves_RmsBack_RmsBackIdeal : Prop :=
  True

def algebraic_RmsBackIdeal_RmsBackRefIdeal [hRmsBackIdeal : Cert.RmsBackIdeal.Facts] [hRmsBackRefIdeal : Cert.RmsBackRefIdeal.Facts] : Prop :=
  ∀ (m : (ℓ : Loc Cert.RmsBackIdeal.nD Cert.RmsBackIdeal.τ Cert.RmsBackIdeal.sig) → Buf (Elt Ideal) ℓ) (g : Dev Cert.RmsBackIdeal.nD → PrngReg)
    (m' : (ℓ : Loc Cert.RmsBackRefIdeal.nD Cert.RmsBackRefIdeal.τ Cert.RmsBackRefIdeal.sig) → Buf (Elt Ideal) ℓ) (g' : Dev Cert.RmsBackRefIdeal.nD → PrngReg), Pre_RmsBackIdeal m →
    (∀ c : Dev Cert.RmsBackIdeal.nD,
      m' ((c.tc : Thread Cert.RmsBackRefIdeal.nD Cert.RmsBackRefIdeal.τ).loc Cert.RmsBackRefIdeal.main_arg0) = m ((c.tc : Thread Cert.RmsBackIdeal.nD Cert.RmsBackIdeal.τ).loc Cert.RmsBackIdeal.main_arg0)
      ∧ m' ((c.tc : Thread Cert.RmsBackRefIdeal.nD Cert.RmsBackRefIdeal.τ).loc Cert.RmsBackRefIdeal.main_arg1) = m ((c.tc : Thread Cert.RmsBackIdeal.nD Cert.RmsBackIdeal.τ).loc Cert.RmsBackIdeal.main_arg1)
      ∧ m' ((c.tc : Thread Cert.RmsBackRefIdeal.nD Cert.RmsBackRefIdeal.τ).loc Cert.RmsBackRefIdeal.main_arg2) = m ((c.tc : Thread Cert.RmsBackIdeal.nD Cert.RmsBackIdeal.τ).loc Cert.RmsBackIdeal.main_arg2)) →
    ∃ (v0 : (c : Dev Cert.RmsBackIdeal.nD) → Buf (Elt Ideal) ((c.tc : Thread Cert.RmsBackIdeal.nD Cert.RmsBackIdeal.τ).loc Cert.RmsBackIdeal.main_v0_0)) (v1 : (c : Dev Cert.RmsBackIdeal.nD) → Buf (Elt Ideal) ((c.tc : Thread Cert.RmsBackIdeal.nD Cert.RmsBackIdeal.τ).loc Cert.RmsBackIdeal.main_v0_1)),
      θ_run (Cert.RmsBackIdeal.defs (F := Ideal)) (onTc (τ := Cert.RmsBackIdeal.τ) (Cert.RmsBackIdeal.main (F := Ideal))) ⟨m, fun _ => 0, g⟩ (fun r => ∀ c : Dev Cert.RmsBackIdeal.nD,
          r.2.mem ((c.tc : Thread Cert.RmsBackIdeal.nD Cert.RmsBackIdeal.τ).loc Cert.RmsBackIdeal.main_v0_0) = v0 c
          ∧ r.2.mem ((c.tc : Thread Cert.RmsBackIdeal.nD Cert.RmsBackIdeal.τ).loc Cert.RmsBackIdeal.main_v0_1) = v1 c
          ∧ r.2.mem ((c.tc : Thread Cert.RmsBackIdeal.nD Cert.RmsBackIdeal.τ).loc Cert.RmsBackIdeal.main_arg0) = m ((c.tc : Thread Cert.RmsBackIdeal.nD Cert.RmsBackIdeal.τ).loc Cert.RmsBackIdeal.main_arg0)
          ∧ r.2.mem ((c.tc : Thread Cert.RmsBackIdeal.nD Cert.RmsBackIdeal.τ).loc Cert.RmsBackIdeal.main_arg1) = m ((c.tc : Thread Cert.RmsBackIdeal.nD Cert.RmsBackIdeal.τ).loc Cert.RmsBackIdeal.main_arg1)
          ∧ r.2.mem ((c.tc : Thread Cert.RmsBackIdeal.nD Cert.RmsBackIdeal.τ).loc Cert.RmsBackIdeal.main_arg2) = m ((c.tc : Thread Cert.RmsBackIdeal.nD Cert.RmsBackIdeal.τ).loc Cert.RmsBackIdeal.main_arg2))
      ∧ θ_run (Cert.RmsBackRefIdeal.defs (F := Ideal)) (onTc (τ := Cert.RmsBackRefIdeal.τ) (Cert.RmsBackRefIdeal.main (F := Ideal))) ⟨m', fun _ => 0, g'⟩ (fun r => ∀ c : Dev Cert.RmsBackRefIdeal.nD,
          r.2.mem ((c.tc : Thread Cert.RmsBackRefIdeal.nD Cert.RmsBackRefIdeal.τ).loc Cert.RmsBackRefIdeal.main_v36) = v0 c
          ∧ r.2.mem ((c.tc : Thread Cert.RmsBackRefIdeal.nD Cert.RmsBackRefIdeal.τ).loc Cert.RmsBackRefIdeal.main_v37) = v1 c
          ∧ r.2.mem ((c.tc : Thread Cert.RmsBackRefIdeal.nD Cert.RmsBackRefIdeal.τ).loc Cert.RmsBackRefIdeal.main_arg0) = m' ((c.tc : Thread Cert.RmsBackRefIdeal.nD Cert.RmsBackRefIdeal.τ).loc Cert.RmsBackRefIdeal.main_arg0)
          ∧ r.2.mem ((c.tc : Thread Cert.RmsBackRefIdeal.nD Cert.RmsBackRefIdeal.τ).loc Cert.RmsBackRefIdeal.main_arg1) = m' ((c.tc : Thread Cert.RmsBackRefIdeal.nD Cert.RmsBackRefIdeal.τ).loc Cert.RmsBackRefIdeal.main_arg1)
          ∧ r.2.mem ((c.tc : Thread Cert.RmsBackRefIdeal.nD Cert.RmsBackRefIdeal.τ).loc Cert.RmsBackRefIdeal.main_arg2) = m' ((c.tc : Thread Cert.RmsBackRefIdeal.nD Cert.RmsBackRefIdeal.τ).loc Cert.RmsBackRefIdeal.main_arg2))

def preserves_ReluBack_ReluBackIdeal : Prop :=
  True

def algebraic_ReluBackIdeal_ReluBackRefIdeal [hReluBackIdeal : Cert.ReluBackIdeal.Facts] [hReluBackRefIdeal : Cert.ReluBackRefIdeal.Facts] : Prop :=
  ∀ (m : (ℓ : Loc Cert.ReluBackIdeal.nD Cert.ReluBackIdeal.τ Cert.ReluBackIdeal.sig) → Buf (Elt Ideal) ℓ) (g : Dev Cert.ReluBackIdeal.nD → PrngReg)
    (m' : (ℓ : Loc Cert.ReluBackRefIdeal.nD Cert.ReluBackRefIdeal.τ Cert.ReluBackRefIdeal.sig) → Buf (Elt Ideal) ℓ) (g' : Dev Cert.ReluBackRefIdeal.nD → PrngReg), Pre_ReluBackIdeal m →
    (∀ c : Dev Cert.ReluBackIdeal.nD,
      m' ((c.tc : Thread Cert.ReluBackRefIdeal.nD Cert.ReluBackRefIdeal.τ).loc Cert.ReluBackRefIdeal.main_arg0) = m ((c.tc : Thread Cert.ReluBackIdeal.nD Cert.ReluBackIdeal.τ).loc Cert.ReluBackIdeal.main_arg0)
      ∧ m' ((c.tc : Thread Cert.ReluBackRefIdeal.nD Cert.ReluBackRefIdeal.τ).loc Cert.ReluBackRefIdeal.main_arg1) = m ((c.tc : Thread Cert.ReluBackIdeal.nD Cert.ReluBackIdeal.τ).loc Cert.ReluBackIdeal.main_arg1)) →
    ∃ (v0 : (c : Dev Cert.ReluBackIdeal.nD) → Buf (Elt Ideal) ((c.tc : Thread Cert.ReluBackIdeal.nD Cert.ReluBackIdeal.τ).loc Cert.ReluBackIdeal.main_v0)),
      θ_run (Cert.ReluBackIdeal.defs (F := Ideal)) (onTc (τ := Cert.ReluBackIdeal.τ) (Cert.ReluBackIdeal.main (F := Ideal))) ⟨m, fun _ => 0, g⟩ (fun r => ∀ c : Dev Cert.ReluBackIdeal.nD,
          r.2.mem ((c.tc : Thread Cert.ReluBackIdeal.nD Cert.ReluBackIdeal.τ).loc Cert.ReluBackIdeal.main_v0) = v0 c
          ∧ r.2.mem ((c.tc : Thread Cert.ReluBackIdeal.nD Cert.ReluBackIdeal.τ).loc Cert.ReluBackIdeal.main_arg0) = m ((c.tc : Thread Cert.ReluBackIdeal.nD Cert.ReluBackIdeal.τ).loc Cert.ReluBackIdeal.main_arg0)
          ∧ r.2.mem ((c.tc : Thread Cert.ReluBackIdeal.nD Cert.ReluBackIdeal.τ).loc Cert.ReluBackIdeal.main_arg1) = m ((c.tc : Thread Cert.ReluBackIdeal.nD Cert.ReluBackIdeal.τ).loc Cert.ReluBackIdeal.main_arg1))
      ∧ θ_run (Cert.ReluBackRefIdeal.defs (F := Ideal)) (onTc (τ := Cert.ReluBackRefIdeal.τ) (Cert.ReluBackRefIdeal.main (F := Ideal))) ⟨m', fun _ => 0, g'⟩ (fun r => ∀ c : Dev Cert.ReluBackRefIdeal.nD,
          r.2.mem ((c.tc : Thread Cert.ReluBackRefIdeal.nD Cert.ReluBackRefIdeal.τ).loc Cert.ReluBackRefIdeal.main_v9) = v0 c
          ∧ r.2.mem ((c.tc : Thread Cert.ReluBackRefIdeal.nD Cert.ReluBackRefIdeal.τ).loc Cert.ReluBackRefIdeal.main_arg0) = m' ((c.tc : Thread Cert.ReluBackRefIdeal.nD Cert.ReluBackRefIdeal.τ).loc Cert.ReluBackRefIdeal.main_arg0)
          ∧ r.2.mem ((c.tc : Thread Cert.ReluBackRefIdeal.nD Cert.ReluBackRefIdeal.τ).loc Cert.ReluBackRefIdeal.main_arg1) = m' ((c.tc : Thread Cert.ReluBackRefIdeal.nD Cert.ReluBackRefIdeal.τ).loc Cert.ReluBackRefIdeal.main_arg1))

def preserves_MergeBack_MergeBackIdeal : Prop :=
  True

def algebraic_MergeBackIdeal_MergeBackRefIdeal [hMergeBackIdeal : Cert.MergeBackIdeal.Facts] [hMergeBackRefIdeal : Cert.MergeBackRefIdeal.Facts] : Prop :=
  ∀ (m : (ℓ : Loc Cert.MergeBackIdeal.nD Cert.MergeBackIdeal.τ Cert.MergeBackIdeal.sig) → Buf (Elt Ideal) ℓ) (g : Dev Cert.MergeBackIdeal.nD → PrngReg)
    (m' : (ℓ : Loc Cert.MergeBackRefIdeal.nD Cert.MergeBackRefIdeal.τ Cert.MergeBackRefIdeal.sig) → Buf (Elt Ideal) ℓ) (g' : Dev Cert.MergeBackRefIdeal.nD → PrngReg), Pre_MergeBackIdeal m →
    (∀ c : Dev Cert.MergeBackIdeal.nD,
      m' ((c.tc : Thread Cert.MergeBackRefIdeal.nD Cert.MergeBackRefIdeal.τ).loc Cert.MergeBackRefIdeal.main_arg0) = m ((c.tc : Thread Cert.MergeBackIdeal.nD Cert.MergeBackIdeal.τ).loc Cert.MergeBackIdeal.main_arg0)
      ∧ m' ((c.tc : Thread Cert.MergeBackRefIdeal.nD Cert.MergeBackRefIdeal.τ).loc Cert.MergeBackRefIdeal.main_arg1) = m ((c.tc : Thread Cert.MergeBackIdeal.nD Cert.MergeBackIdeal.τ).loc Cert.MergeBackIdeal.main_arg1)
      ∧ m' ((c.tc : Thread Cert.MergeBackRefIdeal.nD Cert.MergeBackRefIdeal.τ).loc Cert.MergeBackRefIdeal.main_arg2) = m ((c.tc : Thread Cert.MergeBackIdeal.nD Cert.MergeBackIdeal.τ).loc Cert.MergeBackIdeal.main_arg2)
      ∧ m' ((c.tc : Thread Cert.MergeBackRefIdeal.nD Cert.MergeBackRefIdeal.τ).loc Cert.MergeBackRefIdeal.main_arg3) = m ((c.tc : Thread Cert.MergeBackIdeal.nD Cert.MergeBackIdeal.τ).loc Cert.MergeBackIdeal.main_arg3)
      ∧ m' ((c.tc : Thread Cert.MergeBackRefIdeal.nD Cert.MergeBackRefIdeal.τ).loc Cert.MergeBackRefIdeal.main_arg4) = m ((c.tc : Thread Cert.MergeBackIdeal.nD Cert.MergeBackIdeal.τ).loc Cert.MergeBackIdeal.main_arg4)) →
    ∃ (v0 : (c : Dev Cert.MergeBackIdeal.nD) → Buf (Elt Ideal) ((c.tc : Thread Cert.MergeBackIdeal.nD Cert.MergeBackIdeal.τ).loc Cert.MergeBackIdeal.main_v0_0)) (v1 : (c : Dev Cert.MergeBackIdeal.nD) → Buf (Elt Ideal) ((c.tc : Thread Cert.MergeBackIdeal.nD Cert.MergeBackIdeal.τ).loc Cert.MergeBackIdeal.main_v0_1)) (v2 : (c : Dev Cert.MergeBackIdeal.nD) → Buf (Elt Ideal) ((c.tc : Thread Cert.MergeBackIdeal.nD Cert.MergeBackIdeal.τ).loc Cert.MergeBackIdeal.main_v0_2)) (v3 : (c : Dev Cert.MergeBackIdeal.nD) → Buf (Elt Ideal) ((c.tc : Thread Cert.MergeBackIdeal.nD Cert.MergeBackIdeal.τ).loc Cert.MergeBackIdeal.main_v0_3)),
      θ_run (Cert.MergeBackIdeal.defs (F := Ideal)) (onTc (τ := Cert.MergeBackIdeal.τ) (Cert.MergeBackIdeal.main (F := Ideal))) ⟨m, fun _ => 0, g⟩ (fun r => ∀ c : Dev Cert.MergeBackIdeal.nD,
          r.2.mem ((c.tc : Thread Cert.MergeBackIdeal.nD Cert.MergeBackIdeal.τ).loc Cert.MergeBackIdeal.main_v0_0) = v0 c
          ∧ r.2.mem ((c.tc : Thread Cert.MergeBackIdeal.nD Cert.MergeBackIdeal.τ).loc Cert.MergeBackIdeal.main_v0_1) = v1 c
          ∧ r.2.mem ((c.tc : Thread Cert.MergeBackIdeal.nD Cert.MergeBackIdeal.τ).loc Cert.MergeBackIdeal.main_v0_2) = v2 c
          ∧ r.2.mem ((c.tc : Thread Cert.MergeBackIdeal.nD Cert.MergeBackIdeal.τ).loc Cert.MergeBackIdeal.main_v0_3) = v3 c
          ∧ r.2.mem ((c.tc : Thread Cert.MergeBackIdeal.nD Cert.MergeBackIdeal.τ).loc Cert.MergeBackIdeal.main_arg0) = m ((c.tc : Thread Cert.MergeBackIdeal.nD Cert.MergeBackIdeal.τ).loc Cert.MergeBackIdeal.main_arg0)
          ∧ r.2.mem ((c.tc : Thread Cert.MergeBackIdeal.nD Cert.MergeBackIdeal.τ).loc Cert.MergeBackIdeal.main_arg1) = m ((c.tc : Thread Cert.MergeBackIdeal.nD Cert.MergeBackIdeal.τ).loc Cert.MergeBackIdeal.main_arg1)
          ∧ r.2.mem ((c.tc : Thread Cert.MergeBackIdeal.nD Cert.MergeBackIdeal.τ).loc Cert.MergeBackIdeal.main_arg2) = m ((c.tc : Thread Cert.MergeBackIdeal.nD Cert.MergeBackIdeal.τ).loc Cert.MergeBackIdeal.main_arg2)
          ∧ r.2.mem ((c.tc : Thread Cert.MergeBackIdeal.nD Cert.MergeBackIdeal.τ).loc Cert.MergeBackIdeal.main_arg3) = m ((c.tc : Thread Cert.MergeBackIdeal.nD Cert.MergeBackIdeal.τ).loc Cert.MergeBackIdeal.main_arg3)
          ∧ r.2.mem ((c.tc : Thread Cert.MergeBackIdeal.nD Cert.MergeBackIdeal.τ).loc Cert.MergeBackIdeal.main_arg4) = m ((c.tc : Thread Cert.MergeBackIdeal.nD Cert.MergeBackIdeal.τ).loc Cert.MergeBackIdeal.main_arg4))
      ∧ θ_run (Cert.MergeBackRefIdeal.defs (F := Ideal)) (onTc (τ := Cert.MergeBackRefIdeal.τ) (Cert.MergeBackRefIdeal.main (F := Ideal))) ⟨m', fun _ => 0, g'⟩ (fun r => ∀ c : Dev Cert.MergeBackRefIdeal.nD,
          r.2.mem ((c.tc : Thread Cert.MergeBackRefIdeal.nD Cert.MergeBackRefIdeal.τ).loc Cert.MergeBackRefIdeal.main_v26) = v0 c
          ∧ r.2.mem ((c.tc : Thread Cert.MergeBackRefIdeal.nD Cert.MergeBackRefIdeal.τ).loc Cert.MergeBackRefIdeal.main_v23) = v1 c
          ∧ r.2.mem ((c.tc : Thread Cert.MergeBackRefIdeal.nD Cert.MergeBackRefIdeal.τ).loc Cert.MergeBackRefIdeal.main_v21) = v2 c
          ∧ r.2.mem ((c.tc : Thread Cert.MergeBackRefIdeal.nD Cert.MergeBackRefIdeal.τ).loc Cert.MergeBackRefIdeal.main_v19) = v3 c
          ∧ r.2.mem ((c.tc : Thread Cert.MergeBackRefIdeal.nD Cert.MergeBackRefIdeal.τ).loc Cert.MergeBackRefIdeal.main_arg0) = m' ((c.tc : Thread Cert.MergeBackRefIdeal.nD Cert.MergeBackRefIdeal.τ).loc Cert.MergeBackRefIdeal.main_arg0)
          ∧ r.2.mem ((c.tc : Thread Cert.MergeBackRefIdeal.nD Cert.MergeBackRefIdeal.τ).loc Cert.MergeBackRefIdeal.main_arg1) = m' ((c.tc : Thread Cert.MergeBackRefIdeal.nD Cert.MergeBackRefIdeal.τ).loc Cert.MergeBackRefIdeal.main_arg1)
          ∧ r.2.mem ((c.tc : Thread Cert.MergeBackRefIdeal.nD Cert.MergeBackRefIdeal.τ).loc Cert.MergeBackRefIdeal.main_arg2) = m' ((c.tc : Thread Cert.MergeBackRefIdeal.nD Cert.MergeBackRefIdeal.τ).loc Cert.MergeBackRefIdeal.main_arg2)
          ∧ r.2.mem ((c.tc : Thread Cert.MergeBackRefIdeal.nD Cert.MergeBackRefIdeal.τ).loc Cert.MergeBackRefIdeal.main_arg3) = m' ((c.tc : Thread Cert.MergeBackRefIdeal.nD Cert.MergeBackRefIdeal.τ).loc Cert.MergeBackRefIdeal.main_arg3)
          ∧ r.2.mem ((c.tc : Thread Cert.MergeBackRefIdeal.nD Cert.MergeBackRefIdeal.τ).loc Cert.MergeBackRefIdeal.main_arg4) = m' ((c.tc : Thread Cert.MergeBackRefIdeal.nD Cert.MergeBackRefIdeal.τ).loc Cert.MergeBackRefIdeal.main_arg4))

def preserves_DxIn_DxInIdeal : Prop :=
  True

def algebraic_DxInIdeal_DxInRefIdeal [hDxInIdeal : Cert.DxInIdeal.Facts] [hDxInRefIdeal : Cert.DxInRefIdeal.Facts] : Prop :=
  ∀ (m : (ℓ : Loc Cert.DxInIdeal.nD Cert.DxInIdeal.τ Cert.DxInIdeal.sig) → Buf (Elt Ideal) ℓ) (g : Dev Cert.DxInIdeal.nD → PrngReg)
    (m' : (ℓ : Loc Cert.DxInRefIdeal.nD Cert.DxInRefIdeal.τ Cert.DxInRefIdeal.sig) → Buf (Elt Ideal) ℓ) (g' : Dev Cert.DxInRefIdeal.nD → PrngReg), Pre_DxInIdeal m →
    (∀ c : Dev Cert.DxInIdeal.nD,
      m' ((c.tc : Thread Cert.DxInRefIdeal.nD Cert.DxInRefIdeal.τ).loc Cert.DxInRefIdeal.main_arg0) = m ((c.tc : Thread Cert.DxInIdeal.nD Cert.DxInIdeal.τ).loc Cert.DxInIdeal.main_arg0)
      ∧ m' ((c.tc : Thread Cert.DxInRefIdeal.nD Cert.DxInRefIdeal.τ).loc Cert.DxInRefIdeal.main_arg1) = m ((c.tc : Thread Cert.DxInIdeal.nD Cert.DxInIdeal.τ).loc Cert.DxInIdeal.main_arg1)) →
    ∃ (v0 : (c : Dev Cert.DxInIdeal.nD) → Buf (Elt Ideal) ((c.tc : Thread Cert.DxInIdeal.nD Cert.DxInIdeal.τ).loc Cert.DxInIdeal.main_v0)),
      θ_run (Cert.DxInIdeal.defs (F := Ideal)) (onTc (τ := Cert.DxInIdeal.τ) (Cert.DxInIdeal.main (F := Ideal))) ⟨m, fun _ => 0, g⟩ (fun r => ∀ c : Dev Cert.DxInIdeal.nD,
          r.2.mem ((c.tc : Thread Cert.DxInIdeal.nD Cert.DxInIdeal.τ).loc Cert.DxInIdeal.main_v0) = v0 c
          ∧ r.2.mem ((c.tc : Thread Cert.DxInIdeal.nD Cert.DxInIdeal.τ).loc Cert.DxInIdeal.main_arg0) = m ((c.tc : Thread Cert.DxInIdeal.nD Cert.DxInIdeal.τ).loc Cert.DxInIdeal.main_arg0)
          ∧ r.2.mem ((c.tc : Thread Cert.DxInIdeal.nD Cert.DxInIdeal.τ).loc Cert.DxInIdeal.main_arg1) = m ((c.tc : Thread Cert.DxInIdeal.nD Cert.DxInIdeal.τ).loc Cert.DxInIdeal.main_arg1))
      ∧ θ_run (Cert.DxInRefIdeal.defs (F := Ideal)) (onTc (τ := Cert.DxInRefIdeal.τ) (Cert.DxInRefIdeal.main (F := Ideal))) ⟨m', fun _ => 0, g'⟩ (fun r => ∀ c : Dev Cert.DxInRefIdeal.nD,
          r.2.mem ((c.tc : Thread Cert.DxInRefIdeal.nD Cert.DxInRefIdeal.τ).loc Cert.DxInRefIdeal.main_v2) = v0 c
          ∧ r.2.mem ((c.tc : Thread Cert.DxInRefIdeal.nD Cert.DxInRefIdeal.τ).loc Cert.DxInRefIdeal.main_arg0) = m' ((c.tc : Thread Cert.DxInRefIdeal.nD Cert.DxInRefIdeal.τ).loc Cert.DxInRefIdeal.main_arg0)
          ∧ r.2.mem ((c.tc : Thread Cert.DxInRefIdeal.nD Cert.DxInRefIdeal.τ).loc Cert.DxInRefIdeal.main_arg1) = m' ((c.tc : Thread Cert.DxInRefIdeal.nD Cert.DxInRefIdeal.τ).loc Cert.DxInRefIdeal.main_arg1))

def preserves_DxUq_DxUqIdeal : Prop :=
  True

def algebraic_DxUqIdeal_DxUqRefIdeal [hDxUqIdeal : Cert.DxUqIdeal.Facts] [hDxUqRefIdeal : Cert.DxUqRefIdeal.Facts] : Prop :=
  ∀ (m : (ℓ : Loc Cert.DxUqIdeal.nD Cert.DxUqIdeal.τ Cert.DxUqIdeal.sig) → Buf (Elt Ideal) ℓ) (g : Dev Cert.DxUqIdeal.nD → PrngReg)
    (m' : (ℓ : Loc Cert.DxUqRefIdeal.nD Cert.DxUqRefIdeal.τ Cert.DxUqRefIdeal.sig) → Buf (Elt Ideal) ℓ) (g' : Dev Cert.DxUqRefIdeal.nD → PrngReg), Pre_DxUqIdeal m →
    (∀ c : Dev Cert.DxUqIdeal.nD,
      m' ((c.tc : Thread Cert.DxUqRefIdeal.nD Cert.DxUqRefIdeal.τ).loc Cert.DxUqRefIdeal.main_arg0) = m ((c.tc : Thread Cert.DxUqIdeal.nD Cert.DxUqIdeal.τ).loc Cert.DxUqIdeal.main_arg0)
      ∧ m' ((c.tc : Thread Cert.DxUqRefIdeal.nD Cert.DxUqRefIdeal.τ).loc Cert.DxUqRefIdeal.main_arg1) = m ((c.tc : Thread Cert.DxUqIdeal.nD Cert.DxUqIdeal.τ).loc Cert.DxUqIdeal.main_arg1)) →
    ∃ (v0 : (c : Dev Cert.DxUqIdeal.nD) → Buf (Elt Ideal) ((c.tc : Thread Cert.DxUqIdeal.nD Cert.DxUqIdeal.τ).loc Cert.DxUqIdeal.main_v0)),
      θ_run (Cert.DxUqIdeal.defs (F := Ideal)) (onTc (τ := Cert.DxUqIdeal.τ) (Cert.DxUqIdeal.main (F := Ideal))) ⟨m, fun _ => 0, g⟩ (fun r => ∀ c : Dev Cert.DxUqIdeal.nD,
          r.2.mem ((c.tc : Thread Cert.DxUqIdeal.nD Cert.DxUqIdeal.τ).loc Cert.DxUqIdeal.main_v0) = v0 c
          ∧ r.2.mem ((c.tc : Thread Cert.DxUqIdeal.nD Cert.DxUqIdeal.τ).loc Cert.DxUqIdeal.main_arg0) = m ((c.tc : Thread Cert.DxUqIdeal.nD Cert.DxUqIdeal.τ).loc Cert.DxUqIdeal.main_arg0)
          ∧ r.2.mem ((c.tc : Thread Cert.DxUqIdeal.nD Cert.DxUqIdeal.τ).loc Cert.DxUqIdeal.main_arg1) = m ((c.tc : Thread Cert.DxUqIdeal.nD Cert.DxUqIdeal.τ).loc Cert.DxUqIdeal.main_arg1))
      ∧ θ_run (Cert.DxUqRefIdeal.defs (F := Ideal)) (onTc (τ := Cert.DxUqRefIdeal.τ) (Cert.DxUqRefIdeal.main (F := Ideal))) ⟨m', fun _ => 0, g'⟩ (fun r => ∀ c : Dev Cert.DxUqRefIdeal.nD,
          r.2.mem ((c.tc : Thread Cert.DxUqRefIdeal.nD Cert.DxUqRefIdeal.τ).loc Cert.DxUqRefIdeal.main_v2) = v0 c
          ∧ r.2.mem ((c.tc : Thread Cert.DxUqRefIdeal.nD Cert.DxUqRefIdeal.τ).loc Cert.DxUqRefIdeal.main_arg0) = m' ((c.tc : Thread Cert.DxUqRefIdeal.nD Cert.DxUqRefIdeal.τ).loc Cert.DxUqRefIdeal.main_arg0)
          ∧ r.2.mem ((c.tc : Thread Cert.DxUqRefIdeal.nD Cert.DxUqRefIdeal.τ).loc Cert.DxUqRefIdeal.main_arg1) = m' ((c.tc : Thread Cert.DxUqRefIdeal.nD Cert.DxUqRefIdeal.τ).loc Cert.DxUqRefIdeal.main_arg1))

def preserves_DxUkv_DxUkvIdeal : Prop :=
  True

def algebraic_DxUkvIdeal_DxUkvRefIdeal [hDxUkvIdeal : Cert.DxUkvIdeal.Facts] [hDxUkvRefIdeal : Cert.DxUkvRefIdeal.Facts] : Prop :=
  ∀ (m : (ℓ : Loc Cert.DxUkvIdeal.nD Cert.DxUkvIdeal.τ Cert.DxUkvIdeal.sig) → Buf (Elt Ideal) ℓ) (g : Dev Cert.DxUkvIdeal.nD → PrngReg)
    (m' : (ℓ : Loc Cert.DxUkvRefIdeal.nD Cert.DxUkvRefIdeal.τ Cert.DxUkvRefIdeal.sig) → Buf (Elt Ideal) ℓ) (g' : Dev Cert.DxUkvRefIdeal.nD → PrngReg), Pre_DxUkvIdeal m →
    (∀ c : Dev Cert.DxUkvIdeal.nD,
      m' ((c.tc : Thread Cert.DxUkvRefIdeal.nD Cert.DxUkvRefIdeal.τ).loc Cert.DxUkvRefIdeal.main_arg0) = m ((c.tc : Thread Cert.DxUkvIdeal.nD Cert.DxUkvIdeal.τ).loc Cert.DxUkvIdeal.main_arg0)
      ∧ m' ((c.tc : Thread Cert.DxUkvRefIdeal.nD Cert.DxUkvRefIdeal.τ).loc Cert.DxUkvRefIdeal.main_arg1) = m ((c.tc : Thread Cert.DxUkvIdeal.nD Cert.DxUkvIdeal.τ).loc Cert.DxUkvIdeal.main_arg1)) →
    ∃ (v0 : (c : Dev Cert.DxUkvIdeal.nD) → Buf (Elt Ideal) ((c.tc : Thread Cert.DxUkvIdeal.nD Cert.DxUkvIdeal.τ).loc Cert.DxUkvIdeal.main_v0)),
      θ_run (Cert.DxUkvIdeal.defs (F := Ideal)) (onTc (τ := Cert.DxUkvIdeal.τ) (Cert.DxUkvIdeal.main (F := Ideal))) ⟨m, fun _ => 0, g⟩ (fun r => ∀ c : Dev Cert.DxUkvIdeal.nD,
          r.2.mem ((c.tc : Thread Cert.DxUkvIdeal.nD Cert.DxUkvIdeal.τ).loc Cert.DxUkvIdeal.main_v0) = v0 c
          ∧ r.2.mem ((c.tc : Thread Cert.DxUkvIdeal.nD Cert.DxUkvIdeal.τ).loc Cert.DxUkvIdeal.main_arg0) = m ((c.tc : Thread Cert.DxUkvIdeal.nD Cert.DxUkvIdeal.τ).loc Cert.DxUkvIdeal.main_arg0)
          ∧ r.2.mem ((c.tc : Thread Cert.DxUkvIdeal.nD Cert.DxUkvIdeal.τ).loc Cert.DxUkvIdeal.main_arg1) = m ((c.tc : Thread Cert.DxUkvIdeal.nD Cert.DxUkvIdeal.τ).loc Cert.DxUkvIdeal.main_arg1))
      ∧ θ_run (Cert.DxUkvRefIdeal.defs (F := Ideal)) (onTc (τ := Cert.DxUkvRefIdeal.τ) (Cert.DxUkvRefIdeal.main (F := Ideal))) ⟨m', fun _ => 0, g'⟩ (fun r => ∀ c : Dev Cert.DxUkvRefIdeal.nD,
          r.2.mem ((c.tc : Thread Cert.DxUkvRefIdeal.nD Cert.DxUkvRefIdeal.τ).loc Cert.DxUkvRefIdeal.main_v2) = v0 c
          ∧ r.2.mem ((c.tc : Thread Cert.DxUkvRefIdeal.nD Cert.DxUkvRefIdeal.τ).loc Cert.DxUkvRefIdeal.main_arg0) = m' ((c.tc : Thread Cert.DxUkvRefIdeal.nD Cert.DxUkvRefIdeal.τ).loc Cert.DxUkvRefIdeal.main_arg0)
          ∧ r.2.mem ((c.tc : Thread Cert.DxUkvRefIdeal.nD Cert.DxUkvRefIdeal.τ).loc Cert.DxUkvRefIdeal.main_arg1) = m' ((c.tc : Thread Cert.DxUkvRefIdeal.nD Cert.DxUkvRefIdeal.τ).loc Cert.DxUkvRefIdeal.main_arg1))

def preserves_DxOut_DxOutIdeal : Prop :=
  True

def algebraic_DxOutIdeal_DxOutRefIdeal [hDxOutIdeal : Cert.DxOutIdeal.Facts] [hDxOutRefIdeal : Cert.DxOutRefIdeal.Facts] : Prop :=
  ∀ (m : (ℓ : Loc Cert.DxOutIdeal.nD Cert.DxOutIdeal.τ Cert.DxOutIdeal.sig) → Buf (Elt Ideal) ℓ) (g : Dev Cert.DxOutIdeal.nD → PrngReg)
    (m' : (ℓ : Loc Cert.DxOutRefIdeal.nD Cert.DxOutRefIdeal.τ Cert.DxOutRefIdeal.sig) → Buf (Elt Ideal) ℓ) (g' : Dev Cert.DxOutRefIdeal.nD → PrngReg), Pre_DxOutIdeal m →
    (∀ c : Dev Cert.DxOutIdeal.nD,
      m' ((c.tc : Thread Cert.DxOutRefIdeal.nD Cert.DxOutRefIdeal.τ).loc Cert.DxOutRefIdeal.main_arg0) = m ((c.tc : Thread Cert.DxOutIdeal.nD Cert.DxOutIdeal.τ).loc Cert.DxOutIdeal.main_arg0)
      ∧ m' ((c.tc : Thread Cert.DxOutRefIdeal.nD Cert.DxOutRefIdeal.τ).loc Cert.DxOutRefIdeal.main_arg1) = m ((c.tc : Thread Cert.DxOutIdeal.nD Cert.DxOutIdeal.τ).loc Cert.DxOutIdeal.main_arg1)) →
    ∃ (v0 : (c : Dev Cert.DxOutIdeal.nD) → Buf (Elt Ideal) ((c.tc : Thread Cert.DxOutIdeal.nD Cert.DxOutIdeal.τ).loc Cert.DxOutIdeal.main_v0)),
      θ_run (Cert.DxOutIdeal.defs (F := Ideal)) (onTc (τ := Cert.DxOutIdeal.τ) (Cert.DxOutIdeal.main (F := Ideal))) ⟨m, fun _ => 0, g⟩ (fun r => ∀ c : Dev Cert.DxOutIdeal.nD,
          r.2.mem ((c.tc : Thread Cert.DxOutIdeal.nD Cert.DxOutIdeal.τ).loc Cert.DxOutIdeal.main_v0) = v0 c
          ∧ r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
          ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1))
      ∧ θ_run (Cert.DxOutRefIdeal.defs (F := Ideal)) (onTc (τ := Cert.DxOutRefIdeal.τ) (Cert.DxOutRefIdeal.main (F := Ideal))) ⟨m', fun _ => 0, g'⟩ (fun r => ∀ c : Dev Cert.DxOutRefIdeal.nD,
          r.2.mem ((c.tc : Thread Cert.DxOutRefIdeal.nD Cert.DxOutRefIdeal.τ).loc Cert.DxOutRefIdeal.main_v2) = v0 c
          ∧ r.2.mem ((c.tc : Thread Cert.DxOutRefIdeal.nD Cert.DxOutRefIdeal.τ).loc Cert.DxOutRefIdeal.main_arg0) = m' ((c.tc : Thread Cert.DxOutRefIdeal.nD Cert.DxOutRefIdeal.τ).loc Cert.DxOutRefIdeal.main_arg0)
          ∧ r.2.mem ((c.tc : Thread Cert.DxOutRefIdeal.nD Cert.DxOutRefIdeal.τ).loc Cert.DxOutRefIdeal.main_arg1) = m' ((c.tc : Thread Cert.DxOutRefIdeal.nD Cert.DxOutRefIdeal.τ).loc Cert.DxOutRefIdeal.main_arg1))

def preserves_DxUp_DxUpIdeal : Prop :=
  True

def algebraic_DxUpIdeal_DxUpRefIdeal [hDxUpIdeal : Cert.DxUpIdeal.Facts] [hDxUpRefIdeal : Cert.DxUpRefIdeal.Facts] : Prop :=
  ∀ (m : (ℓ : Loc Cert.DxUpIdeal.nD Cert.DxUpIdeal.τ Cert.DxUpIdeal.sig) → Buf (Elt Ideal) ℓ) (g : Dev Cert.DxUpIdeal.nD → PrngReg)
    (m' : (ℓ : Loc Cert.DxUpRefIdeal.nD Cert.DxUpRefIdeal.τ Cert.DxUpRefIdeal.sig) → Buf (Elt Ideal) ℓ) (g' : Dev Cert.DxUpRefIdeal.nD → PrngReg), Pre_DxUpIdeal m →
    (∀ c : Dev Cert.DxUpIdeal.nD,
      m' ((c.tc : Thread Cert.DxUpRefIdeal.nD Cert.DxUpRefIdeal.τ).loc Cert.DxUpRefIdeal.main_arg0) = m ((c.tc : Thread Cert.DxUpIdeal.nD Cert.DxUpIdeal.τ).loc Cert.DxUpIdeal.main_arg0)
      ∧ m' ((c.tc : Thread Cert.DxUpRefIdeal.nD Cert.DxUpRefIdeal.τ).loc Cert.DxUpRefIdeal.main_arg1) = m ((c.tc : Thread Cert.DxUpIdeal.nD Cert.DxUpIdeal.τ).loc Cert.DxUpIdeal.main_arg1)) →
    ∃ (v0 : (c : Dev Cert.DxUpIdeal.nD) → Buf (Elt Ideal) ((c.tc : Thread Cert.DxUpIdeal.nD Cert.DxUpIdeal.τ).loc Cert.DxUpIdeal.main_v0)),
      θ_run (Cert.DxUpIdeal.defs (F := Ideal)) (onTc (τ := Cert.DxUpIdeal.τ) (Cert.DxUpIdeal.main (F := Ideal))) ⟨m, fun _ => 0, g⟩ (fun r => ∀ c : Dev Cert.DxUpIdeal.nD,
          r.2.mem ((c.tc : Thread Cert.DxUpIdeal.nD Cert.DxUpIdeal.τ).loc Cert.DxUpIdeal.main_v0) = v0 c
          ∧ r.2.mem ((c.tc : Thread Cert.DxUpIdeal.nD Cert.DxUpIdeal.τ).loc Cert.DxUpIdeal.main_arg0) = m ((c.tc : Thread Cert.DxUpIdeal.nD Cert.DxUpIdeal.τ).loc Cert.DxUpIdeal.main_arg0)
          ∧ r.2.mem ((c.tc : Thread Cert.DxUpIdeal.nD Cert.DxUpIdeal.τ).loc Cert.DxUpIdeal.main_arg1) = m ((c.tc : Thread Cert.DxUpIdeal.nD Cert.DxUpIdeal.τ).loc Cert.DxUpIdeal.main_arg1))
      ∧ θ_run (Cert.DxUpRefIdeal.defs (F := Ideal)) (onTc (τ := Cert.DxUpRefIdeal.τ) (Cert.DxUpRefIdeal.main (F := Ideal))) ⟨m', fun _ => 0, g'⟩ (fun r => ∀ c : Dev Cert.DxUpRefIdeal.nD,
          r.2.mem ((c.tc : Thread Cert.DxUpRefIdeal.nD Cert.DxUpRefIdeal.τ).loc Cert.DxUpRefIdeal.main_v2) = v0 c
          ∧ r.2.mem ((c.tc : Thread Cert.DxUpRefIdeal.nD Cert.DxUpRefIdeal.τ).loc Cert.DxUpRefIdeal.main_arg0) = m' ((c.tc : Thread Cert.DxUpRefIdeal.nD Cert.DxUpRefIdeal.τ).loc Cert.DxUpRefIdeal.main_arg0)
          ∧ r.2.mem ((c.tc : Thread Cert.DxUpRefIdeal.nD Cert.DxUpRefIdeal.τ).loc Cert.DxUpRefIdeal.main_arg1) = m' ((c.tc : Thread Cert.DxUpRefIdeal.nD Cert.DxUpRefIdeal.τ).loc Cert.DxUpRefIdeal.main_arg1))

def preserves_DxDown_DxDownIdeal : Prop :=
  True

def algebraic_DxDownIdeal_DxDownRefIdeal [hDxDownIdeal : Cert.DxDownIdeal.Facts] [hDxDownRefIdeal : Cert.DxDownRefIdeal.Facts] : Prop :=
  ∀ (m : (ℓ : Loc Cert.DxDownIdeal.nD Cert.DxDownIdeal.τ Cert.DxDownIdeal.sig) → Buf (Elt Ideal) ℓ) (g : Dev Cert.DxDownIdeal.nD → PrngReg)
    (m' : (ℓ : Loc Cert.DxDownRefIdeal.nD Cert.DxDownRefIdeal.τ Cert.DxDownRefIdeal.sig) → Buf (Elt Ideal) ℓ) (g' : Dev Cert.DxDownRefIdeal.nD → PrngReg), Pre_DxDownIdeal m →
    (∀ c : Dev Cert.DxDownIdeal.nD,
      m' ((c.tc : Thread Cert.DxDownRefIdeal.nD Cert.DxDownRefIdeal.τ).loc Cert.DxDownRefIdeal.main_arg0) = m ((c.tc : Thread Cert.DxDownIdeal.nD Cert.DxDownIdeal.τ).loc Cert.DxDownIdeal.main_arg0)
      ∧ m' ((c.tc : Thread Cert.DxDownRefIdeal.nD Cert.DxDownRefIdeal.τ).loc Cert.DxDownRefIdeal.main_arg1) = m ((c.tc : Thread Cert.DxDownIdeal.nD Cert.DxDownIdeal.τ).loc Cert.DxDownIdeal.main_arg1)) →
    ∃ (v0 : (c : Dev Cert.DxDownIdeal.nD) → Buf (Elt Ideal) ((c.tc : Thread Cert.DxDownIdeal.nD Cert.DxDownIdeal.τ).loc Cert.DxDownIdeal.main_v0)),
      θ_run (Cert.DxDownIdeal.defs (F := Ideal)) (onTc (τ := Cert.DxDownIdeal.τ) (Cert.DxDownIdeal.main (F := Ideal))) ⟨m, fun _ => 0, g⟩ (fun r => ∀ c : Dev Cert.DxDownIdeal.nD,
          r.2.mem ((c.tc : Thread Cert.DxDownIdeal.nD Cert.DxDownIdeal.τ).loc Cert.DxDownIdeal.main_v0) = v0 c
          ∧ r.2.mem ((c.tc : Thread Cert.DxDownIdeal.nD Cert.DxDownIdeal.τ).loc Cert.DxDownIdeal.main_arg0) = m ((c.tc : Thread Cert.DxDownIdeal.nD Cert.DxDownIdeal.τ).loc Cert.DxDownIdeal.main_arg0)
          ∧ r.2.mem ((c.tc : Thread Cert.DxDownIdeal.nD Cert.DxDownIdeal.τ).loc Cert.DxDownIdeal.main_arg1) = m ((c.tc : Thread Cert.DxDownIdeal.nD Cert.DxDownIdeal.τ).loc Cert.DxDownIdeal.main_arg1))
      ∧ θ_run (Cert.DxDownRefIdeal.defs (F := Ideal)) (onTc (τ := Cert.DxDownRefIdeal.τ) (Cert.DxDownRefIdeal.main (F := Ideal))) ⟨m', fun _ => 0, g'⟩ (fun r => ∀ c : Dev Cert.DxDownRefIdeal.nD,
          r.2.mem ((c.tc : Thread Cert.DxDownRefIdeal.nD Cert.DxDownRefIdeal.τ).loc Cert.DxDownRefIdeal.main_v2) = v0 c
          ∧ r.2.mem ((c.tc : Thread Cert.DxDownRefIdeal.nD Cert.DxDownRefIdeal.τ).loc Cert.DxDownRefIdeal.main_arg0) = m' ((c.tc : Thread Cert.DxDownRefIdeal.nD Cert.DxDownRefIdeal.τ).loc Cert.DxDownRefIdeal.main_arg0)
          ∧ r.2.mem ((c.tc : Thread Cert.DxDownRefIdeal.nD Cert.DxDownRefIdeal.τ).loc Cert.DxDownRefIdeal.main_arg1) = m' ((c.tc : Thread Cert.DxDownRefIdeal.nD Cert.DxDownRefIdeal.τ).loc Cert.DxDownRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v1) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwUq_DwUqIdeal : Prop :=
  True

def algebraic_DwUqIdeal_DwUqRefIdeal [hDwUqIdeal : Cert.DwUqIdeal.Facts] [hDwUqRefIdeal : Cert.DwUqRefIdeal.Facts] : Prop :=
  ∀ (m : (ℓ : Loc Cert.DwUqIdeal.nD Cert.DwUqIdeal.τ Cert.DwUqIdeal.sig) → Buf (Elt Ideal) ℓ) (g : Dev Cert.DwUqIdeal.nD → PrngReg)
    (m' : (ℓ : Loc Cert.DwUqRefIdeal.nD Cert.DwUqRefIdeal.τ Cert.DwUqRefIdeal.sig) → Buf (Elt Ideal) ℓ) (g' : Dev Cert.DwUqRefIdeal.nD → PrngReg), Pre_DwUqIdeal m →
    (∀ c : Dev Cert.DwUqIdeal.nD,
      m' ((c.tc : Thread Cert.DwUqRefIdeal.nD Cert.DwUqRefIdeal.τ).loc Cert.DwUqRefIdeal.main_arg0) = m ((c.tc : Thread Cert.DwUqIdeal.nD Cert.DwUqIdeal.τ).loc Cert.DwUqIdeal.main_arg0)
      ∧ m' ((c.tc : Thread Cert.DwUqRefIdeal.nD Cert.DwUqRefIdeal.τ).loc Cert.DwUqRefIdeal.main_arg1) = m ((c.tc : Thread Cert.DwUqIdeal.nD Cert.DwUqIdeal.τ).loc Cert.DwUqIdeal.main_arg1)) →
    ∃ (v0 : (c : Dev Cert.DwUqIdeal.nD) → Buf (Elt Ideal) ((c.tc : Thread Cert.DwUqIdeal.nD Cert.DwUqIdeal.τ).loc Cert.DwUqIdeal.main_v0)),
      θ_run (Cert.DwUqIdeal.defs (F := Ideal)) (onTc (τ := Cert.DwUqIdeal.τ) (Cert.DwUqIdeal.main (F := Ideal))) ⟨m, fun _ => 0, g⟩ (fun r => ∀ c : Dev Cert.DwUqIdeal.nD,
          r.2.mem ((c.tc : Thread Cert.DwUqIdeal.nD Cert.DwUqIdeal.τ).loc Cert.DwUqIdeal.main_v0) = v0 c
          ∧ r.2.mem ((c.tc : Thread Cert.DwUqIdeal.nD Cert.DwUqIdeal.τ).loc Cert.DwUqIdeal.main_arg0) = m ((c.tc : Thread Cert.DwUqIdeal.nD Cert.DwUqIdeal.τ).loc Cert.DwUqIdeal.main_arg0)
          ∧ r.2.mem ((c.tc : Thread Cert.DwUqIdeal.nD Cert.DwUqIdeal.τ).loc Cert.DwUqIdeal.main_arg1) = m ((c.tc : Thread Cert.DwUqIdeal.nD Cert.DwUqIdeal.τ).loc Cert.DwUqIdeal.main_arg1))
      ∧ θ_run (Cert.DwUqRefIdeal.defs (F := Ideal)) (onTc (τ := Cert.DwUqRefIdeal.τ) (Cert.DwUqRefIdeal.main (F := Ideal))) ⟨m', fun _ => 0, g'⟩ (fun r => ∀ c : Dev Cert.DwUqRefIdeal.nD,
          r.2.mem ((c.tc : Thread Cert.DwUqRefIdeal.nD Cert.DwUqRefIdeal.τ).loc Cert.DwUqRefIdeal.main_v1) = v0 c
          ∧ r.2.mem ((c.tc : Thread Cert.DwUqRefIdeal.nD Cert.DwUqRefIdeal.τ).loc Cert.DwUqRefIdeal.main_arg0) = m' ((c.tc : Thread Cert.DwUqRefIdeal.nD Cert.DwUqRefIdeal.τ).loc Cert.DwUqRefIdeal.main_arg0)
          ∧ r.2.mem ((c.tc : Thread Cert.DwUqRefIdeal.nD Cert.DwUqRefIdeal.τ).loc Cert.DwUqRefIdeal.main_arg1) = m' ((c.tc : Thread Cert.DwUqRefIdeal.nD Cert.DwUqRefIdeal.τ).loc Cert.DwUqRefIdeal.main_arg1))

def preserves_DwUkv_DwUkvIdeal : Prop :=
  True

def algebraic_DwUkvIdeal_DwUkvRefIdeal [hDwUkvIdeal : Cert.DwUkvIdeal.Facts] [hDwUkvRefIdeal : Cert.DwUkvRefIdeal.Facts] : Prop :=
  ∀ (m : (ℓ : Loc Cert.DwUkvIdeal.nD Cert.DwUkvIdeal.τ Cert.DwUkvIdeal.sig) → Buf (Elt Ideal) ℓ) (g : Dev Cert.DwUkvIdeal.nD → PrngReg)
    (m' : (ℓ : Loc Cert.DwUkvRefIdeal.nD Cert.DwUkvRefIdeal.τ Cert.DwUkvRefIdeal.sig) → Buf (Elt Ideal) ℓ) (g' : Dev Cert.DwUkvRefIdeal.nD → PrngReg), Pre_DwUkvIdeal m →
    (∀ c : Dev Cert.DwUkvIdeal.nD,
      m' ((c.tc : Thread Cert.DwUkvRefIdeal.nD Cert.DwUkvRefIdeal.τ).loc Cert.DwUkvRefIdeal.main_arg0) = m ((c.tc : Thread Cert.DwUkvIdeal.nD Cert.DwUkvIdeal.τ).loc Cert.DwUkvIdeal.main_arg0)
      ∧ m' ((c.tc : Thread Cert.DwUkvRefIdeal.nD Cert.DwUkvRefIdeal.τ).loc Cert.DwUkvRefIdeal.main_arg1) = m ((c.tc : Thread Cert.DwUkvIdeal.nD Cert.DwUkvIdeal.τ).loc Cert.DwUkvIdeal.main_arg1)) →
    ∃ (v0 : (c : Dev Cert.DwUkvIdeal.nD) → Buf (Elt Ideal) ((c.tc : Thread Cert.DwUkvIdeal.nD Cert.DwUkvIdeal.τ).loc Cert.DwUkvIdeal.main_v0)),
      θ_run (Cert.DwUkvIdeal.defs (F := Ideal)) (onTc (τ := Cert.DwUkvIdeal.τ) (Cert.DwUkvIdeal.main (F := Ideal))) ⟨m, fun _ => 0, g⟩ (fun r => ∀ c : Dev Cert.DwUkvIdeal.nD,
          r.2.mem ((c.tc : Thread Cert.DwUkvIdeal.nD Cert.DwUkvIdeal.τ).loc Cert.DwUkvIdeal.main_v0) = v0 c
          ∧ r.2.mem ((c.tc : Thread Cert.DwUkvIdeal.nD Cert.DwUkvIdeal.τ).loc Cert.DwUkvIdeal.main_arg0) = m ((c.tc : Thread Cert.DwUkvIdeal.nD Cert.DwUkvIdeal.τ).loc Cert.DwUkvIdeal.main_arg0)
          ∧ r.2.mem ((c.tc : Thread Cert.DwUkvIdeal.nD Cert.DwUkvIdeal.τ).loc Cert.DwUkvIdeal.main_arg1) = m ((c.tc : Thread Cert.DwUkvIdeal.nD Cert.DwUkvIdeal.τ).loc Cert.DwUkvIdeal.main_arg1))
      ∧ θ_run (Cert.DwUkvRefIdeal.defs (F := Ideal)) (onTc (τ := Cert.DwUkvRefIdeal.τ) (Cert.DwUkvRefIdeal.main (F := Ideal))) ⟨m', fun _ => 0, g'⟩ (fun r => ∀ c : Dev Cert.DwUkvRefIdeal.nD,
          r.2.mem ((c.tc : Thread Cert.DwUkvRefIdeal.nD Cert.DwUkvRefIdeal.τ).loc Cert.DwUkvRefIdeal.main_v1) = v0 c
          ∧ r.2.mem ((c.tc : Thread Cert.DwUkvRefIdeal.nD Cert.DwUkvRefIdeal.τ).loc Cert.DwUkvRefIdeal.main_arg0) = m' ((c.tc : Thread Cert.DwUkvRefIdeal.nD Cert.DwUkvRefIdeal.τ).loc Cert.DwUkvRefIdeal.main_arg0)
          ∧ r.2.mem ((c.tc : Thread Cert.DwUkvRefIdeal.nD Cert.DwUkvRefIdeal.τ).loc Cert.DwUkvRefIdeal.main_arg1) = m' ((c.tc : Thread Cert.DwUkvRefIdeal.nD Cert.DwUkvRefIdeal.τ).loc Cert.DwUkvRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v1) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v1) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v1) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def Claim : Prop :=
  ∃ (hSmall : Cert.Small.Facts) (hSmallIdeal : Cert.SmallIdeal.Facts) (hSmallRefIdeal : Cert.SmallRefIdeal.Facts) (hScatter : Cert.Scatter.Facts) (hScatterIdeal : Cert.ScatterIdeal.Facts) (hScatterRefIdeal : Cert.ScatterRefIdeal.Facts) (hGather : Cert.Gather.Facts) (hGatherIdeal : Cert.GatherIdeal.Facts) (hGatherRefIdeal : Cert.GatherRefIdeal.Facts) (hSmallRef : Cert.SmallRef.Facts) (hScatterRef : Cert.ScatterRef.Facts) (hGatherRef : Cert.GatherRef.Facts) (hAdamIn : Cert.AdamIn.Facts) (hAdamInIdeal : Cert.AdamInIdeal.Facts) (hAdamInRefIdeal : Cert.AdamInRefIdeal.Facts) (hAdamUq : Cert.AdamUq.Facts) (hAdamUqIdeal : Cert.AdamUqIdeal.Facts) (hAdamUqRefIdeal : Cert.AdamUqRefIdeal.Facts) (hAdamUkv : Cert.AdamUkv.Facts) (hAdamUkvIdeal : Cert.AdamUkvIdeal.Facts) (hAdamUkvRefIdeal : Cert.AdamUkvRefIdeal.Facts) (hAdamSsdOut : Cert.AdamSsdOut.Facts) (hAdamSsdOutIdeal : Cert.AdamSsdOutIdeal.Facts) (hAdamSsdOutRefIdeal : Cert.AdamSsdOutRefIdeal.Facts) (hAdamMlaOut : Cert.AdamMlaOut.Facts) (hAdamMlaOutIdeal : Cert.AdamMlaOutIdeal.Facts) (hAdamMlaOutRefIdeal : Cert.AdamMlaOutRefIdeal.Facts) (hAdamGdnOut : Cert.AdamGdnOut.Facts) (hAdamGdnOutIdeal : Cert.AdamGdnOutIdeal.Facts) (hAdamGdnOutRefIdeal : Cert.AdamGdnOutRefIdeal.Facts) (hAdamOut : Cert.AdamOut.Facts) (hAdamOutIdeal : Cert.AdamOutIdeal.Facts) (hAdamOutRefIdeal : Cert.AdamOutRefIdeal.Facts) (hAdamDown : Cert.AdamDown.Facts) (hAdamDownIdeal : Cert.AdamDownIdeal.Facts) (hAdamDownRefIdeal : Cert.AdamDownRefIdeal.Facts) (hAdamUp : Cert.AdamUp.Facts) (hAdamUpIdeal : Cert.AdamUpIdeal.Facts) (hAdamUpRefIdeal : Cert.AdamUpRefIdeal.Facts) (hAdamConv : Cert.AdamConv.Facts) (hAdamConvIdeal : Cert.AdamConvIdeal.Facts) (hAdamConvRefIdeal : Cert.AdamConvRefIdeal.Facts) (hAdamSmall : Cert.AdamSmall.Facts) (hAdamSmallIdeal : Cert.AdamSmallIdeal.Facts) (hAdamSmallRefIdeal : Cert.AdamSmallRefIdeal.Facts) (hLoss : Cert.Loss.Facts) (hLossIdeal : Cert.LossIdeal.Facts) (hLossRefIdeal : Cert.LossRefIdeal.Facts) (hRms : Cert.Rms.Facts) (hRmsIdeal : Cert.RmsIdeal.Facts) (hRmsRefIdeal : Cert.RmsRefIdeal.Facts) (hRelu : Cert.Relu.Facts) (hReluIdeal : Cert.ReluIdeal.Facts) (hReluRefIdeal : Cert.ReluRefIdeal.Facts) (hMerge : Cert.Merge.Facts) (hMergeIdeal : Cert.MergeIdeal.Facts) (hMergeRefIdeal : Cert.MergeRefIdeal.Facts) (hMmIn : Cert.MmIn.Facts) (hMmInIdeal : Cert.MmInIdeal.Facts) (hMmInRefIdeal : Cert.MmInRefIdeal.Facts) (hMmUq : Cert.MmUq.Facts) (hMmUqIdeal : Cert.MmUqIdeal.Facts) (hMmUqRefIdeal : Cert.MmUqRefIdeal.Facts) (hMmUkv : Cert.MmUkv.Facts) (hMmUkvIdeal : Cert.MmUkvIdeal.Facts) (hMmUkvRefIdeal : Cert.MmUkvRefIdeal.Facts) (hMmOut : Cert.MmOut.Facts) (hMmOutIdeal : Cert.MmOutIdeal.Facts) (hMmOutRefIdeal : Cert.MmOutRefIdeal.Facts) (hMmUp : Cert.MmUp.Facts) (hMmUpIdeal : Cert.MmUpIdeal.Facts) (hMmUpRefIdeal : Cert.MmUpRefIdeal.Facts) (hMmDown : Cert.MmDown.Facts) (hMmDownIdeal : Cert.MmDownIdeal.Facts) (hMmDownRefIdeal : Cert.MmDownRefIdeal.Facts) (hSsdPost : Cert.SsdPost.Facts) (hSsdPostIdeal : Cert.SsdPostIdeal.Facts) (hSsdPostRefIdeal : Cert.SsdPostRefIdeal.Facts) (hGdnPost : Cert.GdnPost.Facts) (hGdnPostIdeal : Cert.GdnPostIdeal.Facts) (hGdnPostRefIdeal : Cert.GdnPostRefIdeal.Facts) (hMlaNorm : Cert.MlaNorm.Facts) (hMlaNormIdeal : Cert.MlaNormIdeal.Facts) (hMlaNormRefIdeal : Cert.MlaNormRefIdeal.Facts) (hLossBack : Cert.LossBack.Facts) (hLossBackIdeal : Cert.LossBackIdeal.Facts) (hLossBackRefIdeal : Cert.LossBackRefIdeal.Facts) (hRmsBack : Cert.RmsBack.Facts) (hRmsBackIdeal : Cert.RmsBackIdeal.Facts) (hRmsBackRefIdeal : Cert.RmsBackRefIdeal.Facts) (hReluBack : Cert.ReluBack.Facts) (hReluBackIdeal : Cert.ReluBackIdeal.Facts) (hReluBackRefIdeal : Cert.ReluBackRefIdeal.Facts) (hMergeBack : Cert.MergeBack.Facts) (hMergeBackIdeal : Cert.MergeBackIdeal.Facts) (hMergeBackRefIdeal : Cert.MergeBackRefIdeal.Facts) (hDxIn : Cert.DxIn.Facts) (hDxInIdeal : Cert.DxInIdeal.Facts) (hDxInRefIdeal : Cert.DxInRefIdeal.Facts) (hDxUq : Cert.DxUq.Facts) (hDxUqIdeal : Cert.DxUqIdeal.Facts) (hDxUqRefIdeal : Cert.DxUqRefIdeal.Facts) (hDxUkv : Cert.DxUkv.Facts) (hDxUkvIdeal : Cert.DxUkvIdeal.Facts) (hDxUkvRefIdeal : Cert.DxUkvRefIdeal.Facts) (hDxOut : Cert.DxOut.Facts) (hDxOutIdeal : Cert.DxOutIdeal.Facts) (hDxOutRefIdeal : Cert.DxOutRefIdeal.Facts) (hDxUp : Cert.DxUp.Facts) (hDxUpIdeal : Cert.DxUpIdeal.Facts) (hDxUpRefIdeal : Cert.DxUpRefIdeal.Facts) (hDxDown : Cert.DxDown.Facts) (hDxDownIdeal : Cert.DxDownIdeal.Facts) (hDxDownRefIdeal : Cert.DxDownRefIdeal.Facts) (hDwIn : Cert.DwIn.Facts) (hDwInIdeal : Cert.DwInIdeal.Facts) (hDwInRefIdeal : Cert.DwInRefIdeal.Facts) (hDwUq : Cert.DwUq.Facts) (hDwUqIdeal : Cert.DwUqIdeal.Facts) (hDwUqRefIdeal : Cert.DwUqRefIdeal.Facts) (hDwUkv : Cert.DwUkv.Facts) (hDwUkvIdeal : Cert.DwUkvIdeal.Facts) (hDwUkvRefIdeal : Cert.DwUkvRefIdeal.Facts) (hDwOut : Cert.DwOut.Facts) (hDwOutIdeal : Cert.DwOutIdeal.Facts) (hDwOutRefIdeal : Cert.DwOutRefIdeal.Facts) (hDwUp : Cert.DwUp.Facts) (hDwUpIdeal : Cert.DwUpIdeal.Facts) (hDwUpRefIdeal : Cert.DwUpRefIdeal.Facts) (hDwDown : Cert.DwDown.Facts) (hDwDownIdeal : Cert.DwDownIdeal.Facts) (hDwDownRefIdeal : Cert.DwDownRefIdeal.Facts),
    quiescent_Small (hSmall := hSmall)
    ∧ quiescent_SmallIdeal (hSmallIdeal := hSmallIdeal)
    ∧ quiescent_SmallRefIdeal (hSmallRefIdeal := hSmallRefIdeal)
    ∧ quiescent_Scatter (hScatter := hScatter)
    ∧ quiescent_ScatterIdeal (hScatterIdeal := hScatterIdeal)
    ∧ quiescent_ScatterRefIdeal (hScatterRefIdeal := hScatterRefIdeal)
    ∧ quiescent_Gather (hGather := hGather)
    ∧ quiescent_GatherIdeal (hGatherIdeal := hGatherIdeal)
    ∧ quiescent_GatherRefIdeal (hGatherRefIdeal := hGatherRefIdeal)
    ∧ quiescent_SmallRef (hSmallRef := hSmallRef)
    ∧ quiescent_ScatterRef (hScatterRef := hScatterRef)
    ∧ quiescent_GatherRef (hGatherRef := hGatherRef)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamUq (hAdamUq := hAdamUq)
    ∧ quiescent_AdamUqIdeal (hAdamUqIdeal := hAdamUqIdeal)
    ∧ quiescent_AdamUqRefIdeal (hAdamUqRefIdeal := hAdamUqRefIdeal)
    ∧ quiescent_AdamUkv (hAdamUkv := hAdamUkv)
    ∧ quiescent_AdamUkvIdeal (hAdamUkvIdeal := hAdamUkvIdeal)
    ∧ quiescent_AdamUkvRefIdeal (hAdamUkvRefIdeal := hAdamUkvRefIdeal)
    ∧ quiescent_AdamSsdOut (hAdamSsdOut := hAdamSsdOut)
    ∧ quiescent_AdamSsdOutIdeal (hAdamSsdOutIdeal := hAdamSsdOutIdeal)
    ∧ quiescent_AdamSsdOutRefIdeal (hAdamSsdOutRefIdeal := hAdamSsdOutRefIdeal)
    ∧ quiescent_AdamMlaOut (hAdamMlaOut := hAdamMlaOut)
    ∧ quiescent_AdamMlaOutIdeal (hAdamMlaOutIdeal := hAdamMlaOutIdeal)
    ∧ quiescent_AdamMlaOutRefIdeal (hAdamMlaOutRefIdeal := hAdamMlaOutRefIdeal)
    ∧ quiescent_AdamGdnOut (hAdamGdnOut := hAdamGdnOut)
    ∧ quiescent_AdamGdnOutIdeal (hAdamGdnOutIdeal := hAdamGdnOutIdeal)
    ∧ quiescent_AdamGdnOutRefIdeal (hAdamGdnOutRefIdeal := hAdamGdnOutRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_Loss (hLoss := hLoss)
    ∧ quiescent_LossIdeal (hLossIdeal := hLossIdeal)
    ∧ quiescent_LossRefIdeal (hLossRefIdeal := hLossRefIdeal)
    ∧ quiescent_Rms (hRms := hRms)
    ∧ quiescent_RmsIdeal (hRmsIdeal := hRmsIdeal)
    ∧ quiescent_RmsRefIdeal (hRmsRefIdeal := hRmsRefIdeal)
    ∧ quiescent_Relu (hRelu := hRelu)
    ∧ quiescent_ReluIdeal (hReluIdeal := hReluIdeal)
    ∧ quiescent_ReluRefIdeal (hReluRefIdeal := hReluRefIdeal)
    ∧ quiescent_Merge (hMerge := hMerge)
    ∧ quiescent_MergeIdeal (hMergeIdeal := hMergeIdeal)
    ∧ quiescent_MergeRefIdeal (hMergeRefIdeal := hMergeRefIdeal)
    ∧ quiescent_MmIn (hMmIn := hMmIn)
    ∧ quiescent_MmInIdeal (hMmInIdeal := hMmInIdeal)
    ∧ quiescent_MmInRefIdeal (hMmInRefIdeal := hMmInRefIdeal)
    ∧ quiescent_MmUq (hMmUq := hMmUq)
    ∧ quiescent_MmUqIdeal (hMmUqIdeal := hMmUqIdeal)
    ∧ quiescent_MmUqRefIdeal (hMmUqRefIdeal := hMmUqRefIdeal)
    ∧ quiescent_MmUkv (hMmUkv := hMmUkv)
    ∧ quiescent_MmUkvIdeal (hMmUkvIdeal := hMmUkvIdeal)
    ∧ quiescent_MmUkvRefIdeal (hMmUkvRefIdeal := hMmUkvRefIdeal)
    ∧ quiescent_MmOut (hMmOut := hMmOut)
    ∧ quiescent_MmOutIdeal (hMmOutIdeal := hMmOutIdeal)
    ∧ quiescent_MmOutRefIdeal (hMmOutRefIdeal := hMmOutRefIdeal)
    ∧ quiescent_MmUp (hMmUp := hMmUp)
    ∧ quiescent_MmUpIdeal (hMmUpIdeal := hMmUpIdeal)
    ∧ quiescent_MmUpRefIdeal (hMmUpRefIdeal := hMmUpRefIdeal)
    ∧ quiescent_MmDown (hMmDown := hMmDown)
    ∧ quiescent_MmDownIdeal (hMmDownIdeal := hMmDownIdeal)
    ∧ quiescent_MmDownRefIdeal (hMmDownRefIdeal := hMmDownRefIdeal)
    ∧ quiescent_SsdPost (hSsdPost := hSsdPost)
    ∧ quiescent_SsdPostIdeal (hSsdPostIdeal := hSsdPostIdeal)
    ∧ quiescent_SsdPostRefIdeal (hSsdPostRefIdeal := hSsdPostRefIdeal)
    ∧ quiescent_GdnPost (hGdnPost := hGdnPost)
    ∧ quiescent_GdnPostIdeal (hGdnPostIdeal := hGdnPostIdeal)
    ∧ quiescent_GdnPostRefIdeal (hGdnPostRefIdeal := hGdnPostRefIdeal)
    ∧ quiescent_MlaNorm (hMlaNorm := hMlaNorm)
    ∧ quiescent_MlaNormIdeal (hMlaNormIdeal := hMlaNormIdeal)
    ∧ quiescent_MlaNormRefIdeal (hMlaNormRefIdeal := hMlaNormRefIdeal)
    ∧ quiescent_LossBack (hLossBack := hLossBack)
    ∧ quiescent_LossBackIdeal (hLossBackIdeal := hLossBackIdeal)
    ∧ quiescent_LossBackRefIdeal (hLossBackRefIdeal := hLossBackRefIdeal)
    ∧ quiescent_RmsBack (hRmsBack := hRmsBack)
    ∧ quiescent_RmsBackIdeal (hRmsBackIdeal := hRmsBackIdeal)
    ∧ quiescent_RmsBackRefIdeal (hRmsBackRefIdeal := hRmsBackRefIdeal)
    ∧ quiescent_ReluBack (hReluBack := hReluBack)
    ∧ quiescent_ReluBackIdeal (hReluBackIdeal := hReluBackIdeal)
    ∧ quiescent_ReluBackRefIdeal (hReluBackRefIdeal := hReluBackRefIdeal)
    ∧ quiescent_MergeBack (hMergeBack := hMergeBack)
    ∧ quiescent_MergeBackIdeal (hMergeBackIdeal := hMergeBackIdeal)
    ∧ quiescent_MergeBackRefIdeal (hMergeBackRefIdeal := hMergeBackRefIdeal)
    ∧ quiescent_DxIn (hDxIn := hDxIn)
    ∧ quiescent_DxInIdeal (hDxInIdeal := hDxInIdeal)
    ∧ quiescent_DxInRefIdeal (hDxInRefIdeal := hDxInRefIdeal)
    ∧ quiescent_DxUq (hDxUq := hDxUq)
    ∧ quiescent_DxUqIdeal (hDxUqIdeal := hDxUqIdeal)
    ∧ quiescent_DxUqRefIdeal (hDxUqRefIdeal := hDxUqRefIdeal)
    ∧ quiescent_DxUkv (hDxUkv := hDxUkv)
    ∧ quiescent_DxUkvIdeal (hDxUkvIdeal := hDxUkvIdeal)
    ∧ quiescent_DxUkvRefIdeal (hDxUkvRefIdeal := hDxUkvRefIdeal)
    ∧ quiescent_DxOut (hDxOut := hDxOut)
    ∧ quiescent_DxOutIdeal (hDxOutIdeal := hDxOutIdeal)
    ∧ quiescent_DxOutRefIdeal (hDxOutRefIdeal := hDxOutRefIdeal)
    ∧ quiescent_DxUp (hDxUp := hDxUp)
    ∧ quiescent_DxUpIdeal (hDxUpIdeal := hDxUpIdeal)
    ∧ quiescent_DxUpRefIdeal (hDxUpRefIdeal := hDxUpRefIdeal)
    ∧ quiescent_DxDown (hDxDown := hDxDown)
    ∧ quiescent_DxDownIdeal (hDxDownIdeal := hDxDownIdeal)
    ∧ quiescent_DxDownRefIdeal (hDxDownRefIdeal := hDxDownRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwUq (hDwUq := hDwUq)
    ∧ quiescent_DwUqIdeal (hDwUqIdeal := hDwUqIdeal)
    ∧ quiescent_DwUqRefIdeal (hDwUqRefIdeal := hDwUqRefIdeal)
    ∧ quiescent_DwUkv (hDwUkv := hDwUkv)
    ∧ quiescent_DwUkvIdeal (hDwUkvIdeal := hDwUkvIdeal)
    ∧ quiescent_DwUkvRefIdeal (hDwUkvRefIdeal := hDwUkvRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ preserves_Small_SmallIdeal
    ∧ algebraic_SmallIdeal_SmallRefIdeal (hSmallIdeal := hSmallIdeal) (hSmallRefIdeal := hSmallRefIdeal)
    ∧ preserves_Scatter_ScatterIdeal
    ∧ algebraic_ScatterIdeal_ScatterRefIdeal (hScatterIdeal := hScatterIdeal) (hScatterRefIdeal := hScatterRefIdeal)
    ∧ preserves_Gather_GatherIdeal
    ∧ algebraic_GatherIdeal_GatherRefIdeal (hGatherIdeal := hGatherIdeal) (hGatherRefIdeal := hGatherRefIdeal)
    ∧ bitexact_Small_SmallRef (hSmall := hSmall) (hSmallRef := hSmallRef)
    ∧ bitexact_Scatter_ScatterRef (hScatter := hScatter) (hScatterRef := hScatterRef)
    ∧ bitexact_Gather_GatherRef (hGather := hGather) (hGatherRef := hGatherRef)
    ∧ preserves_AdamIn_AdamInIdeal
    ∧ algebraic_AdamInIdeal_AdamInRefIdeal (hAdamInIdeal := hAdamInIdeal) (hAdamInRefIdeal := hAdamInRefIdeal)
    ∧ preserves_AdamUq_AdamUqIdeal
    ∧ algebraic_AdamUqIdeal_AdamUqRefIdeal (hAdamUqIdeal := hAdamUqIdeal) (hAdamUqRefIdeal := hAdamUqRefIdeal)
    ∧ preserves_AdamUkv_AdamUkvIdeal
    ∧ algebraic_AdamUkvIdeal_AdamUkvRefIdeal (hAdamUkvIdeal := hAdamUkvIdeal) (hAdamUkvRefIdeal := hAdamUkvRefIdeal)
    ∧ preserves_AdamSsdOut_AdamSsdOutIdeal
    ∧ algebraic_AdamSsdOutIdeal_AdamSsdOutRefIdeal (hAdamSsdOutIdeal := hAdamSsdOutIdeal) (hAdamSsdOutRefIdeal := hAdamSsdOutRefIdeal)
    ∧ preserves_AdamMlaOut_AdamMlaOutIdeal
    ∧ algebraic_AdamMlaOutIdeal_AdamMlaOutRefIdeal (hAdamMlaOutIdeal := hAdamMlaOutIdeal) (hAdamMlaOutRefIdeal := hAdamMlaOutRefIdeal)
    ∧ preserves_AdamGdnOut_AdamGdnOutIdeal
    ∧ algebraic_AdamGdnOutIdeal_AdamGdnOutRefIdeal (hAdamGdnOutIdeal := hAdamGdnOutIdeal) (hAdamGdnOutRefIdeal := hAdamGdnOutRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_Loss_LossIdeal
    ∧ algebraic_LossIdeal_LossRefIdeal (hLossIdeal := hLossIdeal) (hLossRefIdeal := hLossRefIdeal)
    ∧ preserves_Rms_RmsIdeal
    ∧ algebraic_RmsIdeal_RmsRefIdeal (hRmsIdeal := hRmsIdeal) (hRmsRefIdeal := hRmsRefIdeal)
    ∧ preserves_Relu_ReluIdeal
    ∧ algebraic_ReluIdeal_ReluRefIdeal (hReluIdeal := hReluIdeal) (hReluRefIdeal := hReluRefIdeal)
    ∧ preserves_Merge_MergeIdeal
    ∧ algebraic_MergeIdeal_MergeRefIdeal (hMergeIdeal := hMergeIdeal) (hMergeRefIdeal := hMergeRefIdeal)
    ∧ preserves_MmIn_MmInIdeal
    ∧ algebraic_MmInIdeal_MmInRefIdeal (hMmInIdeal := hMmInIdeal) (hMmInRefIdeal := hMmInRefIdeal)
    ∧ preserves_MmUq_MmUqIdeal
    ∧ algebraic_MmUqIdeal_MmUqRefIdeal (hMmUqIdeal := hMmUqIdeal) (hMmUqRefIdeal := hMmUqRefIdeal)
    ∧ preserves_MmUkv_MmUkvIdeal
    ∧ algebraic_MmUkvIdeal_MmUkvRefIdeal (hMmUkvIdeal := hMmUkvIdeal) (hMmUkvRefIdeal := hMmUkvRefIdeal)
    ∧ preserves_MmOut_MmOutIdeal
    ∧ algebraic_MmOutIdeal_MmOutRefIdeal (hMmOutIdeal := hMmOutIdeal) (hMmOutRefIdeal := hMmOutRefIdeal)
    ∧ preserves_MmUp_MmUpIdeal
    ∧ algebraic_MmUpIdeal_MmUpRefIdeal (hMmUpIdeal := hMmUpIdeal) (hMmUpRefIdeal := hMmUpRefIdeal)
    ∧ preserves_MmDown_MmDownIdeal
    ∧ algebraic_MmDownIdeal_MmDownRefIdeal (hMmDownIdeal := hMmDownIdeal) (hMmDownRefIdeal := hMmDownRefIdeal)
    ∧ preserves_SsdPost_SsdPostIdeal
    ∧ algebraic_SsdPostIdeal_SsdPostRefIdeal (hSsdPostIdeal := hSsdPostIdeal) (hSsdPostRefIdeal := hSsdPostRefIdeal)
    ∧ preserves_GdnPost_GdnPostIdeal
    ∧ algebraic_GdnPostIdeal_GdnPostRefIdeal (hGdnPostIdeal := hGdnPostIdeal) (hGdnPostRefIdeal := hGdnPostRefIdeal)
    ∧ preserves_MlaNorm_MlaNormIdeal
    ∧ algebraic_MlaNormIdeal_MlaNormRefIdeal (hMlaNormIdeal := hMlaNormIdeal) (hMlaNormRefIdeal := hMlaNormRefIdeal)
    ∧ preserves_LossBack_LossBackIdeal
    ∧ algebraic_LossBackIdeal_LossBackRefIdeal (hLossBackIdeal := hLossBackIdeal) (hLossBackRefIdeal := hLossBackRefIdeal)
    ∧ preserves_RmsBack_RmsBackIdeal
    ∧ algebraic_RmsBackIdeal_RmsBackRefIdeal (hRmsBackIdeal := hRmsBackIdeal) (hRmsBackRefIdeal := hRmsBackRefIdeal)
    ∧ preserves_ReluBack_ReluBackIdeal
    ∧ algebraic_ReluBackIdeal_ReluBackRefIdeal (hReluBackIdeal := hReluBackIdeal) (hReluBackRefIdeal := hReluBackRefIdeal)
    ∧ preserves_MergeBack_MergeBackIdeal
    ∧ algebraic_MergeBackIdeal_MergeBackRefIdeal (hMergeBackIdeal := hMergeBackIdeal) (hMergeBackRefIdeal := hMergeBackRefIdeal)
    ∧ preserves_DxIn_DxInIdeal
    ∧ algebraic_DxInIdeal_DxInRefIdeal (hDxInIdeal := hDxInIdeal) (hDxInRefIdeal := hDxInRefIdeal)
    ∧ preserves_DxUq_DxUqIdeal
    ∧ algebraic_DxUqIdeal_DxUqRefIdeal (hDxUqIdeal := hDxUqIdeal) (hDxUqRefIdeal := hDxUqRefIdeal)
    ∧ preserves_DxUkv_DxUkvIdeal
    ∧ algebraic_DxUkvIdeal_DxUkvRefIdeal (hDxUkvIdeal := hDxUkvIdeal) (hDxUkvRefIdeal := hDxUkvRefIdeal)
    ∧ preserves_DxOut_DxOutIdeal
    ∧ algebraic_DxOutIdeal_DxOutRefIdeal (hDxOutIdeal := hDxOutIdeal) (hDxOutRefIdeal := hDxOutRefIdeal)
    ∧ preserves_DxUp_DxUpIdeal
    ∧ algebraic_DxUpIdeal_DxUpRefIdeal (hDxUpIdeal := hDxUpIdeal) (hDxUpRefIdeal := hDxUpRefIdeal)
    ∧ preserves_DxDown_DxDownIdeal
    ∧ algebraic_DxDownIdeal_DxDownRefIdeal (hDxDownIdeal := hDxDownIdeal) (hDxDownRefIdeal := hDxDownRefIdeal)
    ∧ preserves_DwIn_DwInIdeal
    ∧ algebraic_DwInIdeal_DwInRefIdeal (hDwInIdeal := hDwInIdeal) (hDwInRefIdeal := hDwInRefIdeal)
    ∧ preserves_DwUq_DwUqIdeal
    ∧ algebraic_DwUqIdeal_DwUqRefIdeal (hDwUqIdeal := hDwUqIdeal) (hDwUqRefIdeal := hDwUqRefIdeal)
    ∧ preserves_DwUkv_DwUkvIdeal
    ∧ algebraic_DwUkvIdeal_DwUkvRefIdeal (hDwUkvIdeal := hDwUkvIdeal) (hDwUkvRefIdeal := hDwUkvRefIdeal)
    ∧ preserves_DwOut_DwOutIdeal
    ∧ algebraic_DwOutIdeal_DwOutRefIdeal (hDwOutIdeal := hDwOutIdeal) (hDwOutRefIdeal := hDwOutRefIdeal)
    ∧ preserves_DwUp_DwUpIdeal
    ∧ algebraic_DwUpIdeal_DwUpRefIdeal (hDwUpIdeal := hDwUpIdeal) (hDwUpRefIdeal := hDwUpRefIdeal)
    ∧ preserves_DwDown_DwDownIdeal
    ∧ algebraic_DwDownIdeal_DwDownRefIdeal (hDwDownIdeal := hDwDownIdeal) (hDwDownRefIdeal := hDwDownRefIdeal)
-- ==== Small.lean ====
abbrev S96x128 : Shape := ⟨2, ![96, 128]⟩
abbrev S8x96x128 : Shape := ⟨3, ![8, 96, 128]⟩
abbrev S7 : Shape := ⟨1, ![7]⟩
abbrev S1 : Shape := ⟨1, ![1]⟩
abbrev S_ : Shape := ⟨0, ![]⟩
abbrev S1x96x128 : Shape := ⟨3, ![1, 96, 128]⟩

abbrev nBuf : Space → Nat
  | .hbm => 2
  | .vmem => 0
  | .smem => 0
  | _ => 0

abbrev bufTy : (tb : Table) → Fin (tcTables nBuf tb) → BufTy
  | .hbm, ⟨0, _⟩ => ⟨S96x128, .f32⟩
  | .hbm, ⟨1, _⟩ => ⟨S8x96x128, .f32⟩
  | _, _ => ⟨S96x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_dev1 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v22 : BitVec 32 := Scalar.muli v2 c4_i32_12
  let v23 : BitVec 32 := Scalar.addi c0_i32_13 v22
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v24 : BitVec 32 := Scalar.muli v5 c2_i32_14
  let v25 : BitVec 32 := Scalar.addi v23 v24
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_7 v8
  let c1_i32_15 : BitVec 32 := 1#32
  let v26 : BitVec 32 := Scalar.muli v17 c1_i32_15
  let v27 : BitVec 32 := Scalar.addi v25 v26
  v27.toNat
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v39 : BitVec 32 := Scalar.muli v2 c4_i32_23
  let v40 : BitVec 32 := Scalar.addi c0_i32_24 v39
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_18 v5
  let c2_i32_25 : BitVec 32 := 2#32
  let v41 : BitVec 32 := Scalar.muli v34 c2_i32_25
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v43 : BitVec 32 := Scalar.muli v8 c1_i32_26
  let v44 : BitVec 32 := Scalar.addi v42 v43
  v44.toNat
def k0_dev3 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v57 : BitVec 32 := Scalar.muli v2 c4_i32_35
  let v58 : BitVec 32 := Scalar.addi c0_i32_36 v57
  let c1_i32_29 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_29 v5
  let c2_i32_37 : BitVec 32 := 2#32
  let v59 : BitVec 32 := Scalar.muli v51 c2_i32_37
  let v60 : BitVec 32 := Scalar.addi v58 v59
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_30 v8
  let c1_i32_38 : BitVec 32 := 1#32
  let v61 : BitVec 32 := Scalar.muli v52 c1_i32_38
  let v62 : BitVec 32 := Scalar.addi v60 v61
  v62.toNat
def k0_dev4 (d0 : Dev nD) : Nat :=
  let c0_i32_46 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v69 : BitVec 32 := Scalar.subi c1_i32_41 v2
  let c4_i32_45 : BitVec 32 := 4#32
  let v74 : BitVec 32 := Scalar.muli v69 c4_i32_45
  let v75 : BitVec 32 := Scalar.addi c0_i32_46 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v76 : BitVec 32 := Scalar.muli v5 c2_i32_47
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v78 : BitVec 32 := Scalar.muli v8 c1_i32_48
  let v79 : BitVec 32 := Scalar.addi v77 v78
  v79.toNat
def k0_dev5 (d0 : Dev nD) : Nat :=
  let c0_i32_58 : BitVec 32 := 0#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v86 : BitVec 32 := Scalar.subi c1_i32_51 v2
  let c4_i32_57 : BitVec 32 := 4#32
  let v92 : BitVec 32 := Scalar.muli v86 c4_i32_57
  let v93 : BitVec 32 := Scalar.addi c0_i32_58 v92
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v94 : BitVec 32 := Scalar.muli v5 c2_i32_59
  let v95 : BitVec 32 := Scalar.addi v93 v94
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v87 : BitVec 32 := Scalar.subi c1_i32_52 v8
  let c1_i32_60 : BitVec 32 := 1#32
  let v96 : BitVec 32 := Scalar.muli v87 c1_i32_60
  let v97 : BitVec 32 := Scalar.addi v95 v96
  v97.toNat
def k0_dev6 (d0 : Dev nD) : Nat :=
  let c0_i32_69 : BitVec 32 := 0#32
  let c1_i32_63 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v104 : BitVec 32 := Scalar.subi c1_i32_63 v2
  let c4_i32_68 : BitVec 32 := 4#32
  let v110 : BitVec 32 := Scalar.muli v104 c4_i32_68
  let v111 : BitVec 32 := Scalar.addi c0_i32_69 v110
  let c1_i32_64 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v105 : BitVec 32 := Scalar.subi c1_i32_64 v5
  let c2_i32_70 : BitVec 32 := 2#32
  let v112 : BitVec 32 := Scalar.muli v105 c2_i32_70
  let v113 : BitVec 32 := Scalar.addi v111 v112
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v114 : BitVec 32 := Scalar.muli v8 c1_i32_71
  let v115 : BitVec 32 := Scalar.addi v113 v114
  v115.toNat
def k0_dev7 (d0 : Dev nD) : Nat :=
  let c0_i32_81 : BitVec 32 := 0#32
  let c1_i32_74 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v122 : BitVec 32 := Scalar.subi c1_i32_74 v2
  let c4_i32_80 : BitVec 32 := 4#32
  let v129 : BitVec 32 := Scalar.muli v122 c4_i32_80
  let v130 : BitVec 32 := Scalar.addi c0_i32_81 v129
  let c1_i32_75 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v123 : BitVec 32 := Scalar.subi c1_i32_75 v5
  let c2_i32_82 : BitVec 32 := 2#32
  let v131 : BitVec 32 := Scalar.muli v123 c2_i32_82
  let v132 : BitVec 32 := Scalar.addi v130 v131
  let c1_i32_76 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v124 : BitVec 32 := Scalar.subi c1_i32_76 v8
  let c1_i32_83 : BitVec 32 := 1#32
  let v133 : BitVec 32 := Scalar.muli v124 c1_i32_83
  let v134 : BitVec 32 := Scalar.addi v132 v133
  v134.toNat
def k0_off2 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_9 v5
  let v20 : BitVec 32 := Scalar.addi v18 v19
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_7 v8
  let v21 : BitVec 32 := Scalar.addi v20 v17
  let c0_i32_97 : BitVec 32 := 0#32
  let c0_i32_98 : BitVec 32 := 0#32
  ![v21.toNat, 0, 0]
def k0_off3 (d0 : Dev nD) : Fin 3 → Nat :=
  let c4_i32_19 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v35 : BitVec 32 := Scalar.muli c4_i32_19 v2
  let c2_i32_20 : BitVec 32 := 2#32
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_18 v5
  let v36 : BitVec 32 := Scalar.muli c2_i32_20 v34
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.addi v37 v8
  let c0_i32_110 : BitVec 32 := 0#32
  let c0_i32_111 : BitVec 32 := 0#32
  ![v38.toNat, 0, 0]
def k0_off4 (d0 : Dev nD) : Fin 3 → Nat :=
  let c4_i32_31 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.muli c4_i32_31 v2
  let c2_i32_32 : BitVec 32 := 2#32
  let c1_i32_29 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_29 v5
  let v54 : BitVec 32 := Scalar.muli c2_i32_32 v51
  let v55 : BitVec 32 := Scalar.addi v53 v54
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_30 v8
  let v56 : BitVec 32 := Scalar.addi v55 v52
  let c0_i32_123 : BitVec 32 := 0#32
  let c0_i32_124 : BitVec 32 := 0#32
  ![v56.toNat, 0, 0]
def k0_off5 (d0 : Dev nD) : Fin 3 → Nat :=
  let c4_i32_42 : BitVec 32 := 4#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v69 : BitVec 32 := Scalar.subi c1_i32_41 v2
  let v70 : BitVec 32 := Scalar.muli c4_i32_42 v69
  let c2_i32_43 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.muli c2_i32_43 v5
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v73 : BitVec 32 := Scalar.addi v72 v8
  let c0_i32_136 : BitVec 32 := 0#32
  let c0_i32_137 : BitVec 32 := 0#32
  ![v73.toNat, 0, 0]
def k0_off6 (d0 : Dev nD) : Fin 3 → Nat :=
  let c4_i32_53 : BitVec 32 := 4#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v86 : BitVec 32 := Scalar.subi c1_i32_51 v2
  let v88 : BitVec 32 := Scalar.muli c4_i32_53 v86
  let c2_i32_54 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v89 : BitVec 32 := Scalar.muli c2_i32_54 v5
  let v90 : BitVec 32 := Scalar.addi v88 v89
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v87 : BitVec 32 := Scalar.subi c1_i32_52 v8
  let v91 : BitVec 32 := Scalar.addi v90 v87
  let c0_i32_149 : BitVec 32 := 0#32
  let c0_i32_150 : BitVec 32 := 0#32
  ![v91.toNat, 0, 0]
def k0_off7 (d0 : Dev nD) : Fin 3 → Nat :=
  let c4_i32_65 : BitVec 32 := 4#32
  let c1_i32_63 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v104 : BitVec 32 := Scalar.subi c1_i32_63 v2
  let v106 : BitVec 32 := Scalar.muli c4_i32_65 v104
  let c2_i32_66 : BitVec 32 := 2#32
  let c1_i32_64 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v105 : BitVec 32 := Scalar.subi c1_i32_64 v5
  let v107 : BitVec 32 := Scalar.muli c2_i32_66 v105
  let v108 : BitVec 32 := Scalar.addi v106 v107
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v109 : BitVec 32 := Scalar.addi v108 v8
  let c0_i32_162 : BitVec 32 := 0#32
  let c0_i32_163 : BitVec 32 := 0#32
  ![v109.toNat, 0, 0]
def k0_off8 (d0 : Dev nD) : Fin 3 → Nat :=
  let c4_i32_77 : BitVec 32 := 4#32
  let c1_i32_74 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v122 : BitVec 32 := Scalar.subi c1_i32_74 v2
  let v125 : BitVec 32 := Scalar.muli c4_i32_77 v122
  let c2_i32_78 : BitVec 32 := 2#32
  let c1_i32_75 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v123 : BitVec 32 := Scalar.subi c1_i32_75 v5
  let v126 : BitVec 32 := Scalar.muli c2_i32_78 v123
  let v127 : BitVec 32 := Scalar.addi v125 v126
  let c1_i32_76 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v124 : BitVec 32 := Scalar.subi c1_i32_76 v8
  let v128 : BitVec 32 := Scalar.addi v127 v124
  let c0_i32_175 : BitVec 32 := 0#32
  let c0_i32_176 : BitVec 32 := 0#32
  ![v128.toNat, 0, 0]
-- ==== Scatter.lean ====
abbrev S8x2048x1196 : Shape := ⟨3, ![8, 2048, 1196]⟩
abbrev S8x1024x192 : Shape := ⟨3, ![8, 1024, 192]⟩
abbrev S8x512x256 : Shape := ⟨3, ![8, 512, 256]⟩
abbrev S8x2048x1024 : Shape := ⟨3, ![8, 2048, 1024]⟩
abbrev S8x2048x512 : Shape := ⟨3, ![8, 2048, 512]⟩
abbrev S8x32x128 : Shape := ⟨3, ![8, 32, 128]⟩
abbrev S42 : Shape := ⟨1, ![42]⟩
abbrev S6 : Shape := ⟨1, ![6]⟩
abbrev S1 : Shape := ⟨1, ![1]⟩
abbrev S_ : Shape := ⟨0, ![]⟩
abbrev S1x2048x1196 : Shape := ⟨3, ![1, 2048, 1196]⟩
abbrev S2048x1196 : Shape := ⟨2, ![2048, 1196]⟩
abbrev S1x1024x192 : Shape := ⟨3, ![1, 1024, 192]⟩
abbrev S1024x192 : Shape := ⟨2, ![1024, 192]⟩
abbrev S1x512x256 : Shape := ⟨3, ![1, 512, 256]⟩
abbrev S512x256 : Shape := ⟨2, ![512, 256]⟩
abbrev S1x2048x1024 : Shape := ⟨3, ![1, 2048, 1024]⟩
abbrev S2048x1024 : Shape := ⟨2, ![2048, 1024]⟩
abbrev S1x2048x512 : Shape := ⟨3, ![1, 2048, 512]⟩
abbrev S2048x512 : Shape := ⟨2, ![2048, 512]⟩
abbrev S1x32x128 : Shape := ⟨3, ![1, 32, 128]⟩
abbrev S32x128 : Shape := ⟨2, ![32, 128]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x1196, .bf16⟩
  | .hbm, ⟨1, _⟩ => ⟨S8x1024x192, .bf16⟩
  | .hbm, ⟨2, _⟩ => ⟨S8x512x256, .bf16⟩
  | .hbm, ⟨3, _⟩ => ⟨S8x2048x1024, .bf16⟩
  | .hbm, ⟨4, _⟩ => ⟨S8x2048x512, .bf16⟩
  | .hbm, ⟨5, _⟩ => ⟨S8x32x128, .f32⟩
  | .hbm, ⟨6, _⟩ => ⟨S8x2048x1196, .bf16⟩
  | .hbm, ⟨7, _⟩ => ⟨S8x1024x192, .bf16⟩
  | .hbm, ⟨8, _⟩ => ⟨S8x512x256, .bf16⟩
  | .hbm, ⟨9, _⟩ => ⟨S8x2048x1024, .bf16⟩
  | .hbm, ⟨10, _⟩ => ⟨S8x2048x512, .bf16⟩
  | .hbm, ⟨11, _⟩ => ⟨S8x32x128, .f32⟩
  | _, _ => ⟨S8x2048x1196, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_10 : BitVec 32 := 0#32
  let c0_i32_11 : BitVec 32 := 0#32
  ![v12.toNat, 0, 0]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_15 : BitVec 32 := 0#32
  let c0_i32_16 : BitVec 32 := 0#32
  ![v12.toNat, 0, 0]
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_19 : BitVec 32 := 0#32
  let c0_i32_20 : BitVec 32 := 0#32
  ![v12.toNat, 0, 0]
def k0_off5 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_24 : BitVec 32 := 0#32
  let c0_i32_25 : BitVec 32 := 0#32
  ![v12.toNat, 0, 0]
def k0_off6 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_28 : BitVec 32 := 0#32
  let c0_i32_29 : BitVec 32 := 0#32
  ![v12.toNat, 0, 0]
def k0_off7 (d0 : Dev nD) : Fin 3 → Nat :=
  let c4_i32_33 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.muli c4_i32_33 v2
  let c2_i32_34 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.muli c2_i32_34 v5
  let v52 : BitVec 32 := Scalar.addi v50 v51
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let v53 : BitVec 32 := Scalar.addi v52 v49
  let c0_i32_43 : BitVec 32 := 0#32
  let c0_i32_44 : BitVec 32 := 0#32
  ![v53.toNat, 0, 0]
def k0_dev1 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v54 : BitVec 32 := Scalar.muli v2 c4_i32_37
  let v55 : BitVec 32 := Scalar.addi c0_i32_38 v54
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v56 : BitVec 32 := Scalar.muli v5 c2_i32_39
  let v57 : BitVec 32 := Scalar.addi v55 v56
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let c1_i32_40 : BitVec 32 := 1#32
  let v58 : BitVec 32 := Scalar.muli v49 c1_i32_40
  let v59 : BitVec 32 := Scalar.addi v57 v58
  v59.toNat
def k0_off8 (d0 : Dev nD) : Fin 3 → Nat :=
  let c4_i32_33 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.muli c4_i32_33 v2
  let c2_i32_34 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.muli c2_i32_34 v5
  let v52 : BitVec 32 := Scalar.addi v50 v51
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let v53 : BitVec 32 := Scalar.addi v52 v49
  let c0_i32_53 : BitVec 32 := 0#32
  let c0_i32_54 : BitVec 32 := 0#32
  ![v53.toNat, 0, 0]
def k0_dev2 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v68 : BitVec 32 := Scalar.muli v2 c4_i32_47
  let v69 : BitVec 32 := Scalar.addi c0_i32_48 v68
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_49 : BitVec 32 := 2#32
  let v70 : BitVec 32 := Scalar.muli v5 c2_i32_49
  let v71 : BitVec 32 := Scalar.addi v69 v70
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let c1_i32_50 : BitVec 32 := 1#32
  let v72 : BitVec 32 := Scalar.muli v49 c1_i32_50
  let v73 : BitVec 32 := Scalar.addi v71 v72
  v73.toNat
def k0_off9 (d0 : Dev nD) : Fin 3 → Nat :=
  let c4_i32_33 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.muli c4_i32_33 v2
  let c2_i32_34 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.muli c2_i32_34 v5
  let v52 : BitVec 32 := Scalar.addi v50 v51
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let v53 : BitVec 32 := Scalar.addi v52 v49
  let c0_i32_63 : BitVec 32 := 0#32
  let c0_i32_64 : BitVec 32 := 0#32
  ![v53.toNat, 0, 0]
def k0_dev3 (d0 : Dev nD) : Nat :=
  let c0_i32_58 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_57 : BitVec 32 := 4#32
  let v82 : BitVec 32 := Scalar.muli v2 c4_i32_57
  let v83 : BitVec 32 := Scalar.addi c0_i32_58 v82
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v84 : BitVec 32 := Scalar.muli v5 c2_i32_59
  let v85 : BitVec 32 := Scalar.addi v83 v84
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let c1_i32_60 : BitVec 32 := 1#32
  let v86 : BitVec 32 := Scalar.muli v49 c1_i32_60
  let v87 : BitVec 32 := Scalar.addi v85 v86
  v87.toNat
def k0_off10 (d0 : Dev nD) : Fin 3 → Nat :=
  let c4_i32_33 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.muli c4_i32_33 v2
  let c2_i32_34 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.muli c2_i32_34 v5
  let v52 : BitVec 32 := Scalar.addi v50 v51
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let v53 : BitVec 32 := Scalar.addi v52 v49
  let c0_i32_73 : BitVec 32 := 0#32
  let c0_i32_74 : BitVec 32 := 0#32
  ![v53.toNat, 0, 0]
def k0_dev4 (d0 : Dev nD) : Nat :=
  let c0_i32_68 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_67 : BitVec 32 := 4#32
  let v96 : BitVec 32 := Scalar.muli v2 c4_i32_67
  let v97 : BitVec 32 := Scalar.addi c0_i32_68 v96
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_69 : BitVec 32 := 2#32
  let v98 : BitVec 32 := Scalar.muli v5 c2_i32_69
  let v99 : BitVec 32 := Scalar.addi v97 v98
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let c1_i32_70 : BitVec 32 := 1#32
  let v100 : BitVec 32 := Scalar.muli v49 c1_i32_70
  let v101 : BitVec 32 := Scalar.addi v99 v100
  v101.toNat
def k0_off11 (d0 : Dev nD) : Fin 3 → Nat :=
  let c4_i32_33 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.muli c4_i32_33 v2
  let c2_i32_34 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.muli c2_i32_34 v5
  let v52 : BitVec 32 := Scalar.addi v50 v51
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let v53 : BitVec 32 := Scalar.addi v52 v49
  let c0_i32_83 : BitVec 32 := 0#32
  let c0_i32_84 : BitVec 32 := 0#32
  ![v53.toNat, 0, 0]
def k0_dev5 (d0 : Dev nD) : Nat :=
  let c0_i32_78 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_77 : BitVec 32 := 4#32
  let v110 : BitVec 32 := Scalar.muli v2 c4_i32_77
  let v111 : BitVec 32 := Scalar.addi c0_i32_78 v110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_79 : BitVec 32 := 2#32
  let v112 : BitVec 32 := Scalar.muli v5 c2_i32_79
  let v113 : BitVec 32 := Scalar.addi v111 v112
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let c1_i32_80 : BitVec 32 := 1#32
  let v114 : BitVec 32 := Scalar.muli v49 c1_i32_80
  let v115 : BitVec 32 := Scalar.addi v113 v114
  v115.toNat
def k0_off12 (d0 : Dev nD) : Fin 3 → Nat :=
  let c4_i32_33 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.muli c4_i32_33 v2
  let c2_i32_34 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.muli c2_i32_34 v5
  let v52 : BitVec 32 := Scalar.addi v50 v51
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let v53 : BitVec 32 := Scalar.addi v52 v49
  let c0_i32_93 : BitVec 32 := 0#32
  let c0_i32_94 : BitVec 32 := 0#32
  ![v53.toNat, 0, 0]
def k0_dev6 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v124 : BitVec 32 := Scalar.muli v2 c4_i32_87
  let v125 : BitVec 32 := Scalar.addi c0_i32_88 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v126 : BitVec 32 := Scalar.muli v5 c2_i32_89
  let v127 : BitVec 32 := Scalar.addi v125 v126
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let c1_i32_90 : BitVec 32 := 1#32
  let v128 : BitVec 32 := Scalar.muli v49 c1_i32_90
  let v129 : BitVec 32 := Scalar.addi v127 v128
  v129.toNat
def k0_off13 (d0 : Dev nD) : Fin 3 → Nat :=
  let c4_i32_96 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v139 : BitVec 32 := Scalar.muli c4_i32_96 v2
  let c2_i32_97 : BitVec 32 := 2#32
  let c1_i32_95 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v138 : BitVec 32 := Scalar.subi c1_i32_95 v5
  let v140 : BitVec 32 := Scalar.muli c2_i32_97 v138
  let v141 : BitVec 32 := Scalar.addi v139 v140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v142 : BitVec 32 := Scalar.addi v141 v8
  let c0_i32_105 : BitVec 32 := 0#32
  let c0_i32_106 : BitVec 32 := 0#32
  ![v142.toNat, 0, 0]
def k0_dev7 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_99 : BitVec 32 := 4#32
  let v143 : BitVec 32 := Scalar.muli v2 c4_i32_99
  let v144 : BitVec 32 := Scalar.addi c0_i32_100 v143
  let c1_i32_95 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v138 : BitVec 32 := Scalar.subi c1_i32_95 v5
  let c2_i32_101 : BitVec 32 := 2#32
  let v145 : BitVec 32 := Scalar.muli v138 c2_i32_101
  let v146 : BitVec 32 := Scalar.addi v144 v145
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v147 : BitVec 32 := Scalar.muli v8 c1_i32_102
  let v148 : BitVec 32 := Scalar.addi v146 v147
  v148.toNat
def k0_off14 (d0 : Dev nD) : Fin 3 → Nat :=
  let c4_i32_96 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v139 : BitVec 32 := Scalar.muli c4_i32_96 v2
  let c2_i32_97 : BitVec 32 := 2#32
  let c1_i32_95 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v138 : BitVec 32 := Scalar.subi c1_i32_95 v5
  let v140 : BitVec 32 := Scalar.muli c2_i32_97 v138
  let v141 : BitVec 32 := Scalar.addi v139 v140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v142 : BitVec 32 := Scalar.addi v141 v8
  let c0_i32_114 : BitVec 32 := 0#32
  let c0_i32_115 : BitVec 32 := 0#32
  ![v142.toNat, 0, 0]
def k0_dev8 (d0 : Dev nD) : Nat :=
  let c0_i32_109 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_108 : BitVec 32 := 4#32
  let v157 : BitVec 32 := Scalar.muli v2 c4_i32_108
  let v158 : BitVec 32 := Scalar.addi c0_i32_109 v157
  let c1_i32_95 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v138 : BitVec 32 := Scalar.subi c1_i32_95 v5
  let c2_i32_110 : BitVec 32 := 2#32
  let v159 : BitVec 32 := Scalar.muli v138 c2_i32_110
  let v160 : BitVec 32 := Scalar.addi v158 v159
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_111 : BitVec 32 := 1#32
  let v161 : BitVec 32 := Scalar.muli v8 c1_i32_111
  let v162 : BitVec 32 := Scalar.addi v160 v161
  v162.toNat
def k0_off15 (d0 : Dev nD) : Fin 3 → Nat :=
  let c4_i32_96 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v139 : BitVec 32 := Scalar.muli c4_i32_96 v2
  let c2_i32_97 : BitVec 32 := 2#32
  let c1_i32_95 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v138 : BitVec 32 := Scalar.subi c1_i32_95 v5
  let v140 : BitVec 32 := Scalar.muli c2_i32_97 v138
  let v141 : BitVec 32 := Scalar.addi v139 v140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v142 : BitVec 32 := Scalar.addi v141 v8
  let c0_i32_123 : BitVec 32 := 0#32
  let c0_i32_124 : BitVec 32 := 0#32
  ![v142.toNat, 0, 0]
def k0_dev9 (d0 : Dev nD) : Nat :=
  let c0_i32_118 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_117 : BitVec 32 := 4#32
  let v171 : BitVec 32 := Scalar.muli v2 c4_i32_117
  let v172 : BitVec 32 := Scalar.addi c0_i32_118 v171
  let c1_i32_95 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v138 : BitVec 32 := Scalar.subi c1_i32_95 v5
  let c2_i32_119 : BitVec 32 := 2#32
  let v173 : BitVec 32 := Scalar.muli v138 c2_i32_119
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_120 : BitVec 32 := 1#32
  let v175 : BitVec 32 := Scalar.muli v8 c1_i32_120
  let v176 : BitVec 32 := Scalar.addi v174 v175
  v176.toNat
def k0_off16 (d0 : Dev nD) : Fin 3 → Nat :=
  let c4_i32_96 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v139 : BitVec 32 := Scalar.muli c4_i32_96 v2
  let c2_i32_97 : BitVec 32 := 2#32
  let c1_i32_95 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v138 : BitVec 32 := Scalar.subi c1_i32_95 v5
  let v140 : BitVec 32 := Scalar.muli c2_i32_97 v138
  let v141 : BitVec 32 := Scalar.addi v139 v140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v142 : BitVec 32 := Scalar.addi v141 v8
  let c0_i32_132 : BitVec 32 := 0#32
  let c0_i32_133 : BitVec 32 := 0#32
  ![v142.toNat, 0, 0]
def k0_dev10 (d0 : Dev nD) : Nat :=
  let c0_i32_127 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_126 : BitVec 32 := 4#32
  let v185 : BitVec 32 := Scalar.muli v2 c4_i32_126
  let v186 : BitVec 32 := Scalar.addi c0_i32_127 v185
  let c1_i32_95 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v138 : BitVec 32 := Scalar.subi c1_i32_95 v5
  let c2_i32_128 : BitVec 32 := 2#32
  let v187 : BitVec 32 := Scalar.muli v138 c2_i32_128
  let v188 : BitVec 32 := Scalar.addi v186 v187
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_129 : BitVec 32 := 1#32
  let v189 : BitVec 32 := Scalar.muli v8 c1_i32_129
  let v190 : BitVec 32 := Scalar.addi v188 v189
  v190.toNat
def k0_off17 (d0 : Dev nD) : Fin 3 → Nat :=
  let c4_i32_96 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v139 : BitVec 32 := Scalar.muli c4_i32_96 v2
  let c2_i32_97 : BitVec 32 := 2#32
  let c1_i32_95 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v138 : BitVec 32 := Scalar.subi c1_i32_95 v5
  let v140 : BitVec 32 := Scalar.muli c2_i32_97 v138
  let v141 : BitVec 32 := Scalar.addi v139 v140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v142 : BitVec 32 := Scalar.addi v141 v8
  let c0_i32_141 : BitVec 32 := 0#32
  let c0_i32_142 : BitVec 32 := 0#32
  ![v142.toNat, 0, 0]
def k0_dev11 (d0 : Dev nD) : Nat :=
  let c0_i32_136 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_135 : BitVec 32 := 4#32
  let v199 : BitVec 32 := Scalar.muli v2 c4_i32_135
  let v200 : BitVec 32 := Scalar.addi c0_i32_136 v199
  let c1_i32_95 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v138 : BitVec 32 := Scalar.subi c1_i32_95 v5
  let c2_i32_137 : BitVec 32 := 2#32
  let v201 : BitVec 32 := Scalar.muli v138 c2_i32_137
  let v202 : BitVec 32 := Scalar.addi v200 v201
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_138 : BitVec 32 := 1#32
  let v203 : BitVec 32 := Scalar.muli v8 c1_i32_138
  let v204 : BitVec 32 := Scalar.addi v202 v203
  v204.toNat
def k0_off18 (d0 : Dev nD) : Fin 3 → Nat :=
  let c4_i32_96 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v139 : BitVec 32 := Scalar.muli c4_i32_96 v2
  let c2_i32_97 : BitVec 32 := 2#32
  let c1_i32_95 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v138 : BitVec 32 := Scalar.subi c1_i32_95 v5
  let v140 : BitVec 32 := Scalar.muli c2_i32_97 v138
  let v141 : BitVec 32 := Scalar.addi v139 v140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v142 : BitVec 32 := Scalar.addi v141 v8
  let c0_i32_150 : BitVec 32 := 0#32
  let c0_i32_151 : BitVec 32 := 0#32
  ![v142.toNat, 0, 0]
def k0_dev12 (d0 : Dev nD) : Nat :=
  let c0_i32_145 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_144 : BitVec 32 := 4#32
  let v213 : BitVec 32 := Scalar.muli v2 c4_i32_144
  let v214 : BitVec 32 := Scalar.addi c0_i32_145 v213
  let c1_i32_95 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v138 : BitVec 32 := Scalar.subi c1_i32_95 v5
  let c2_i32_146 : BitVec 32 := 2#32
  let v215 : BitVec 32 := Scalar.muli v138 c2_i32_146
  let v216 : BitVec 32 := Scalar.addi v214 v215
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_147 : BitVec 32 := 1#32
  let v217 : BitVec 32 := Scalar.muli v8 c1_i32_147
  let v218 : BitVec 32 := Scalar.addi v216 v217
  v218.toNat
def k0_off19 (d0 : Dev nD) : Fin 3 → Nat :=
  let c4_i32_154 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v229 : BitVec 32 := Scalar.muli c4_i32_154 v2
  let c2_i32_155 : BitVec 32 := 2#32
  let c1_i32_152 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v227 : BitVec 32 := Scalar.subi c1_i32_152 v5
  let v230 : BitVec 32 := Scalar.muli c2_i32_155 v227
  let v231 : BitVec 32 := Scalar.addi v229 v230
  let c1_i32_153 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_153 v8
  let v232 : BitVec 32 := Scalar.addi v231 v228
  let c0_i32_163 : BitVec 32 := 0#32
  let c0_i32_164 : BitVec 32 := 0#32
  ![v232.toNat, 0, 0]
def k0_dev13 (d0 : Dev nD) : Nat :=
  let c0_i32_158 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_157 : BitVec 32 := 4#32
  let v233 : BitVec 32 := Scalar.muli v2 c4_i32_157
  let v234 : BitVec 32 := Scalar.addi c0_i32_158 v233
  let c1_i32_152 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v227 : BitVec 32 := Scalar.subi c1_i32_152 v5
  let c2_i32_159 : BitVec 32 := 2#32
  let v235 : BitVec 32 := Scalar.muli v227 c2_i32_159
  let v236 : BitVec 32 := Scalar.addi v234 v235
  let c1_i32_153 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_153 v8
  let c1_i32_160 : BitVec 32 := 1#32
  let v237 : BitVec 32 := Scalar.muli v228 c1_i32_160
  let v238 : BitVec 32 := Scalar.addi v236 v237
  v238.toNat
def k0_off20 (d0 : Dev nD) : Fin 3 → Nat :=
  let c4_i32_154 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v229 : BitVec 32 := Scalar.muli c4_i32_154 v2
  let c2_i32_155 : BitVec 32 := 2#32
  let c1_i32_152 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v227 : BitVec 32 := Scalar.subi c1_i32_152 v5
  let v230 : BitVec 32 := Scalar.muli c2_i32_155 v227
  let v231 : BitVec 32 := Scalar.addi v229 v230
  let c1_i32_153 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_153 v8
  let v232 : BitVec 32 := Scalar.addi v231 v228
  let c0_i32_172 : BitVec 32 := 0#32
  let c0_i32_173 : BitVec 32 := 0#32
  ![v232.toNat, 0, 0]
def k0_dev14 (d0 : Dev nD) : Nat :=
  let c0_i32_167 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_166 : BitVec 32 := 4#32
  let v247 : BitVec 32 := Scalar.muli v2 c4_i32_166
  let v248 : BitVec 32 := Scalar.addi c0_i32_167 v247
  let c1_i32_152 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v227 : BitVec 32 := Scalar.subi c1_i32_152 v5
  let c2_i32_168 : BitVec 32 := 2#32
  let v249 : BitVec 32 := Scalar.muli v227 c2_i32_168
  let v250 : BitVec 32 := Scalar.addi v248 v249
  let c1_i32_153 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_153 v8
  let c1_i32_169 : BitVec 32 := 1#32
  let v251 : BitVec 32 := Scalar.muli v228 c1_i32_169
  let v252 : BitVec 32 := Scalar.addi v250 v251
  v252.toNat
def k0_off21 (d0 : Dev nD) : Fin 3 → Nat :=
  let c4_i32_154 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v229 : BitVec 32 := Scalar.muli c4_i32_154 v2
  let c2_i32_155 : BitVec 32 := 2#32
  let c1_i32_152 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v227 : BitVec 32 := Scalar.subi c1_i32_152 v5
  let v230 : BitVec 32 := Scalar.muli c2_i32_155 v227
  let v231 : BitVec 32 := Scalar.addi v229 v230
  let c1_i32_153 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_153 v8
  let v232 : BitVec 32 := Scalar.addi v231 v228
  let c0_i32_181 : BitVec 32 := 0#32
  let c0_i32_182 : BitVec 32 := 0#32
  ![v232.toNat, 0, 0]
def k0_dev15 (d0 : Dev nD) : Nat :=
  let c0_i32_176 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_175 : BitVec 32 := 4#32
  let v261 : BitVec 32 := Scalar.muli v2 c4_i32_175
  let v262 : BitVec 32 := Scalar.addi c0_i32_176 v261
  let c1_i32_152 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v227 : BitVec 32 := Scalar.subi c1_i32_152 v5
  let c2_i32_177 : BitVec 32 := 2#32
  let v263 : BitVec 32 := Scalar.muli v227 c2_i32_177
  let v264 : BitVec 32 := Scalar.addi v262 v263
  let c1_i32_153 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_153 v8
  let c1_i32_178 : BitVec 32 := 1#32
  let v265 : BitVec 32 := Scalar.muli v228 c1_i32_178
  let v266 : BitVec 32 := Scalar.addi v264 v265
  v266.toNat
def k0_off22 (d0 : Dev nD) : Fin 3 → Nat :=
  let c4_i32_154 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v229 : BitVec 32 := Scalar.muli c4_i32_154 v2
  let c2_i32_155 : BitVec 32 := 2#32
  let c1_i32_152 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v227 : BitVec 32 := Scalar.subi c1_i32_152 v5
  let v230 : BitVec 32 := Scalar.muli c2_i32_155 v227
  let v231 : BitVec 32 := Scalar.addi v229 v230
  let c1_i32_153 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_153 v8
  let v232 : BitVec 32 := Scalar.addi v231 v228
  let c0_i32_190 : BitVec 32 := 0#32
  let c0_i32_191 : BitVec 32 := 0#32
  ![v232.toNat, 0, 0]
def k0_dev16 (d0 : Dev nD) : Nat :=
  let c0_i32_185 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_184 : BitVec 32 := 4#32
  let v275 : BitVec 32 := Scalar.muli v2 c4_i32_184
  let v276 : BitVec 32 := Scalar.addi c0_i32_185 v275
  let c1_i32_152 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v227 : BitVec 32 := Scalar.subi c1_i32_152 v5
  let c2_i32_186 : BitVec 32 := 2#32
  let v277 : BitVec 32 := Scalar.muli v227 c2_i32_186
  let v278 : BitVec 32 := Scalar.addi v276 v277
  let c1_i32_153 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_153 v8
  let c1_i32_187 : BitVec 32 := 1#32
  let v279 : BitVec 32 := Scalar.muli v228 c1_i32_187
  let v280 : BitVec 32 := Scalar.addi v278 v279
  v280.toNat
def k0_off23 (d0 : Dev nD) : Fin 3 → Nat :=
  let c4_i32_154 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v229 : BitVec 32 := Scalar.muli c4_i32_154 v2
  let c2_i32_155 : BitVec 32 := 2#32
  let c1_i32_152 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v227 : BitVec 32 := Scalar.subi c1_i32_152 v5
  let v230 : BitVec 32 := Scalar.muli c2_i32_155 v227
  let v231 : BitVec 32 := Scalar.addi v229 v230
  let c1_i32_153 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_153 v8
  let v232 : BitVec 32 := Scalar.addi v231 v228
  let c0_i32_199 : BitVec 32 := 0#32
  let c0_i32_200 : BitVec 32 := 0#32
  ![v232.toNat, 0, 0]
def k0_dev17 (d0 : Dev nD) : Nat :=
  let c0_i32_194 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_193 : BitVec 32 := 4#32
  let v289 : BitVec 32 := Scalar.muli v2 c4_i32_193
  let v290 : BitVec 32 := Scalar.addi c0_i32_194 v289
  let c1_i32_152 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v227 : BitVec 32 := Scalar.subi c1_i32_152 v5
  let c2_i32_195 : BitVec 32 := 2#32
  let v291 : BitVec 32 := Scalar.muli v227 c2_i32_195
  let v292 : BitVec 32 := Scalar.addi v290 v291
  let c1_i32_153 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_153 v8
  let c1_i32_196 : BitVec 32 := 1#32
  let v293 : BitVec 32 := Scalar.muli v228 c1_i32_196
  let v294 : BitVec 32 := Scalar.addi v292 v293
  v294.toNat
def k0_off24 (d0 : Dev nD) : Fin 3 → Nat :=
  let c4_i32_154 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v229 : BitVec 32 := Scalar.muli c4_i32_154 v2
  let c2_i32_155 : BitVec 32 := 2#32
  let c1_i32_152 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v227 : BitVec 32 := Scalar.subi c1_i32_152 v5
  let v230 : BitVec 32 := Scalar.muli c2_i32_155 v227
  let v231 : BitVec 32 := Scalar.addi v229 v230
  let c1_i32_153 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_153 v8
  let v232 : BitVec 32 := Scalar.addi v231 v228
  let c0_i32_208 : BitVec 32 := 0#32
  let c0_i32_209 : BitVec 32 := 0#32
  ![v232.toNat, 0, 0]
def k0_dev18 (d0 : Dev nD) : Nat :=
  let c0_i32_203 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_202 : BitVec 32 := 4#32
  let v303 : BitVec 32 := Scalar.muli v2 c4_i32_202
  let v304 : BitVec 32 := Scalar.addi c0_i32_203 v303
  let c1_i32_152 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v227 : BitVec 32 := Scalar.subi c1_i32_152 v5
  let c2_i32_204 : BitVec 32 := 2#32
  let v305 : BitVec 32 := Scalar.muli v227 c2_i32_204
  let v306 : BitVec 32 := Scalar.addi v304 v305
  let c1_i32_153 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_153 v8
  let c1_i32_205 : BitVec 32 := 1#32
  let v307 : BitVec 32 := Scalar.muli v228 c1_i32_205
  let v308 : BitVec 32 := Scalar.addi v306 v307
  v308.toNat
def k0_off25 (d0 : Dev nD) : Fin 3 → Nat :=
  let c4_i32_211 : BitVec 32 := 4#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v317 : BitVec 32 := Scalar.subi c1_i32_210 v2
  let v318 : BitVec 32 := Scalar.muli c4_i32_211 v317
  let c2_i32_212 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v319 : BitVec 32 := Scalar.muli c2_i32_212 v5
  let v320 : BitVec 32 := Scalar.addi v318 v319
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v321 : BitVec 32 := Scalar.addi v320 v8
  let c0_i32_220 : BitVec 32 := 0#32
  let c0_i32_221 : BitVec 32 := 0#32
  ![v321.toNat, 0, 0]
def k0_dev19 (d0 : Dev nD) : Nat :=
  let c0_i32_215 : BitVec 32 := 0#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v317 : BitVec 32 := Scalar.subi c1_i32_210 v2
  let c4_i32_214 : BitVec 32 := 4#32
  let v322 : BitVec 32 := Scalar.muli v317 c4_i32_214
  let v323 : BitVec 32 := Scalar.addi c0_i32_215 v322
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_216 : BitVec 32 := 2#32
  let v324 : BitVec 32 := Scalar.muli v5 c2_i32_216
  let v325 : BitVec 32 := Scalar.addi v323 v324
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_217 : BitVec 32 := 1#32
  let v326 : BitVec 32 := Scalar.muli v8 c1_i32_217
  let v327 : BitVec 32 := Scalar.addi v325 v326
  v327.toNat
def k0_off26 (d0 : Dev nD) : Fin 3 → Nat :=
  let c4_i32_211 : BitVec 32 := 4#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v317 : BitVec 32 := Scalar.subi c1_i32_210 v2
  let v318 : BitVec 32 := Scalar.muli c4_i32_211 v317
  let c2_i32_212 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v319 : BitVec 32 := Scalar.muli c2_i32_212 v5
  let v320 : BitVec 32 := Scalar.addi v318 v319
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v321 : BitVec 32 := Scalar.addi v320 v8
  let c0_i32_229 : BitVec 32 := 0#32
  let c0_i32_230 : BitVec 32 := 0#32
  ![v321.toNat, 0, 0]
def k0_dev20 (d0 : Dev nD) : Nat :=
  let c0_i32_224 : BitVec 32 := 0#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v317 : BitVec 32 := Scalar.subi c1_i32_210 v2
  let c4_i32_223 : BitVec 32 := 4#32
  let v336 : BitVec 32 := Scalar.muli v317 c4_i32_223
  let v337 : BitVec 32 := Scalar.addi c0_i32_224 v336
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_225 : BitVec 32 := 2#32
  let v338 : BitVec 32 := Scalar.muli v5 c2_i32_225
  let v339 : BitVec 32 := Scalar.addi v337 v338
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_226 : BitVec 32 := 1#32
  let v340 : BitVec 32 := Scalar.muli v8 c1_i32_226
  let v341 : BitVec 32 := Scalar.addi v339 v340
  v341.toNat
def k0_off27 (d0 : Dev nD) : Fin 3 → Nat :=
  let c4_i32_211 : BitVec 32 := 4#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v317 : BitVec 32 := Scalar.subi c1_i32_210 v2
  let v318 : BitVec 32 := Scalar.muli c4_i32_211 v317
  let c2_i32_212 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v319 : BitVec 32 := Scalar.muli c2_i32_212 v5
  let v320 : BitVec 32 := Scalar.addi v318 v319
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v321 : BitVec 32 := Scalar.addi v320 v8
  let c0_i32_238 : BitVec 32 := 0#32
  let c0_i32_239 : BitVec 32 := 0#32
  ![v321.toNat, 0, 0]
def k0_dev21 (d0 : Dev nD) : Nat :=
  let c0_i32_233 : BitVec 32 := 0#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v317 : BitVec 32 := Scalar.subi c1_i32_210 v2
  let c4_i32_232 : BitVec 32 := 4#32
  let v350 : BitVec 32 := Scalar.muli v317 c4_i32_232
  let v351 : BitVec 32 := Scalar.addi c0_i32_233 v350
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_234 : BitVec 32 := 2#32
  let v352 : BitVec 32 := Scalar.muli v5 c2_i32_234
  let v353 : BitVec 32 := Scalar.addi v351 v352
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_235 : BitVec 32 := 1#32
  let v354 : BitVec 32 := Scalar.muli v8 c1_i32_235
  let v355 : BitVec 32 := Scalar.addi v353 v354
  v355.toNat
def k0_off28 (d0 : Dev nD) : Fin 3 → Nat :=
  let c4_i32_211 : BitVec 32 := 4#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v317 : BitVec 32 := Scalar.subi c1_i32_210 v2
  let v318 : BitVec 32 := Scalar.muli c4_i32_211 v317
  let c2_i32_212 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v319 : BitVec 32 := Scalar.muli c2_i32_212 v5
  let v320 : BitVec 32 := Scalar.addi v318 v319
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v321 : BitVec 32 := Scalar.addi v320 v8
  let c0_i32_247 : BitVec 32 := 0#32
  let c0_i32_248 : BitVec 32 := 0#32
  ![v321.toNat, 0, 0]
def k0_dev22 (d0 : Dev nD) : Nat :=
  let c0_i32_242 : BitVec 32 := 0#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v317 : BitVec 32 := Scalar.subi c1_i32_210 v2
  let c4_i32_241 : BitVec 32 := 4#32
  let v364 : BitVec 32 := Scalar.muli v317 c4_i32_241
  let v365 : BitVec 32 := Scalar.addi c0_i32_242 v364
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_243 : BitVec 32 := 2#32
  let v366 : BitVec 32 := Scalar.muli v5 c2_i32_243
  let v367 : BitVec 32 := Scalar.addi v365 v366
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_244 : BitVec 32 := 1#32
  let v368 : BitVec 32 := Scalar.muli v8 c1_i32_244
  let v369 : BitVec 32 := Scalar.addi v367 v368
  v369.toNat
def k0_off29 (d0 : Dev nD) : Fin 3 → Nat :=
  let c4_i32_211 : BitVec 32 := 4#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v317 : BitVec 32 := Scalar.subi c1_i32_210 v2
  let v318 : BitVec 32 := Scalar.muli c4_i32_211 v317
  let c2_i32_212 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v319 : BitVec 32 := Scalar.muli c2_i32_212 v5
  let v320 : BitVec 32 := Scalar.addi v318 v319
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v321 : BitVec 32 := Scalar.addi v320 v8
  let c0_i32_256 : BitVec 32 := 0#32
  let c0_i32_257 : BitVec 32 := 0#32
  ![v321.toNat, 0, 0]
def k0_dev23 (d0 : Dev nD) : Nat :=
  let c0_i32_251 : BitVec 32 := 0#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v317 : BitVec 32 := Scalar.subi c1_i32_210 v2
  let c4_i32_250 : BitVec 32 := 4#32
  let v378 : BitVec 32 := Scalar.muli v317 c4_i32_250
  let v379 : BitVec 32 := Scalar.addi c0_i32_251 v378
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_252 : BitVec 32 := 2#32
  let v380 : BitVec 32 := Scalar.muli v5 c2_i32_252
  let v381 : BitVec 32 := Scalar.addi v379 v380
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_253 : BitVec 32 := 1#32
  let v382 : BitVec 32 := Scalar.muli v8 c1_i32_253
  let v383 : BitVec 32 := Scalar.addi v381 v382
  v383.toNat
def k0_off30 (d0 : Dev nD) : Fin 3 → Nat :=
  let c4_i32_211 : BitVec 32 := 4#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v317 : BitVec 32 := Scalar.subi c1_i32_210 v2
  let v318 : BitVec 32 := Scalar.muli c4_i32_211 v317
  let c2_i32_212 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v319 : BitVec 32 := Scalar.muli c2_i32_212 v5
  let v320 : BitVec 32 := Scalar.addi v318 v319
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v321 : BitVec 32 := Scalar.addi v320 v8
  let c0_i32_265 : BitVec 32 := 0#32
  let c0_i32_266 : BitVec 32 := 0#32
  ![v321.toNat, 0, 0]
def k0_dev24 (d0 : Dev nD) : Nat :=
  let c0_i32_260 : BitVec 32 := 0#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v317 : BitVec 32 := Scalar.subi c1_i32_210 v2
  let c4_i32_259 : BitVec 32 := 4#32
  let v392 : BitVec 32 := Scalar.muli v317 c4_i32_259
  let v393 : BitVec 32 := Scalar.addi c0_i32_260 v392
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_261 : BitVec 32 := 2#32
  let v394 : BitVec 32 := Scalar.muli v5 c2_i32_261
  let v395 : BitVec 32 := Scalar.addi v393 v394
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_262 : BitVec 32 := 1#32
  let v396 : BitVec 32 := Scalar.muli v8 c1_i32_262
  let v397 : BitVec 32 := Scalar.addi v395 v396
  v397.toNat
def k0_off31 (d0 : Dev nD) : Fin 3 → Nat :=
  let c4_i32_269 : BitVec 32 := 4#32
  let c1_i32_267 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v406 : BitVec 32 := Scalar.subi c1_i32_267 v2
  let v408 : BitVec 32 := Scalar.muli c4_i32_269 v406
  let c2_i32_270 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v409 : BitVec 32 := Scalar.muli c2_i32_270 v5
  let v410 : BitVec 32 := Scalar.addi v408 v409
  let c1_i32_268 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v407 : BitVec 32 := Scalar.subi c1_i32_268 v8
  let v411 : BitVec 32 := Scalar.addi v410 v407
  let c0_i32_278 : BitVec 32 := 0#32
  let c0_i32_279 : BitVec 32 := 0#32
  ![v411.toNat, 0, 0]
def k0_dev25 (d0 : Dev nD) : Nat :=
  let c0_i32_273 : BitVec 32 := 0#32
  let c1_i32_267 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v406 : BitVec 32 := Scalar.subi c1_i32_267 v2
  let c4_i32_272 : BitVec 32 := 4#32
  let v412 : BitVec 32 := Scalar.muli v406 c4_i32_272
  let v413 : BitVec 32 := Scalar.addi c0_i32_273 v412
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_274 : BitVec 32 := 2#32
  let v414 : BitVec 32 := Scalar.muli v5 c2_i32_274
  let v415 : BitVec 32 := Scalar.addi v413 v414
  let c1_i32_268 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v407 : BitVec 32 := Scalar.subi c1_i32_268 v8
  let c1_i32_275 : BitVec 32 := 1#32
  let v416 : BitVec 32 := Scalar.muli v407 c1_i32_275
  let v417 : BitVec 32 := Scalar.addi v415 v416
  v417.toNat
def k0_off32 (d0 : Dev nD) : Fin 3 → Nat :=
  let c4_i32_269 : BitVec 32 := 4#32
  let c1_i32_267 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v406 : BitVec 32 := Scalar.subi c1_i32_267 v2
  let v408 : BitVec 32 := Scalar.muli c4_i32_269 v406
  let c2_i32_270 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v409 : BitVec 32 := Scalar.muli c2_i32_270 v5
  let v410 : BitVec 32 := Scalar.addi v408 v409
  let c1_i32_268 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v407 : BitVec 32 := Scalar.subi c1_i32_268 v8
  let v411 : BitVec 32 := Scalar.addi v410 v407
  let c0_i32_287 : BitVec 32 := 0#32
  let c0_i32_288 : BitVec 32 := 0#32
  ![v411.toNat, 0, 0]
def k0_dev26 (d0 : Dev nD) : Nat :=
  let c0_i32_282 : BitVec 32 := 0#32
  let c1_i32_267 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v406 : BitVec 32 := Scalar.subi c1_i32_267 v2
  let c4_i32_281 : BitVec 32 := 4#32
  let v426 : BitVec 32 := Scalar.muli v406 c4_i32_281
  let v427 : BitVec 32 := Scalar.addi c0_i32_282 v426
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_283 : BitVec 32 := 2#32
  let v428 : BitVec 32 := Scalar.muli v5 c2_i32_283
  let v429 : BitVec 32 := Scalar.addi v427 v428
  let c1_i32_268 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v407 : BitVec 32 := Scalar.subi c1_i32_268 v8
  let c1_i32_284 : BitVec 32 := 1#32
  let v430 : BitVec 32 := Scalar.muli v407 c1_i32_284
  let v431 : BitVec 32 := Scalar.addi v429 v430
  v431.toNat
def k0_off33 (d0 : Dev nD) : Fin 3 → Nat :=
  let c4_i32_269 : BitVec 32 := 4#32
  let c1_i32_267 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v406 : BitVec 32 := Scalar.subi c1_i32_267 v2
  let v408 : BitVec 32 := Scalar.muli c4_i32_269 v406
  let c2_i32_270 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v409 : BitVec 32 := Scalar.muli c2_i32_270 v5
  let v410 : BitVec 32 := Scalar.addi v408 v409
  let c1_i32_268 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v407 : BitVec 32 := Scalar.subi c1_i32_268 v8
  let v411 : BitVec 32 := Scalar.addi v410 v407
  let c0_i32_296 : BitVec 32 := 0#32
  let c0_i32_297 : BitVec 32 := 0#32
  ![v411.toNat, 0, 0]
def k0_dev27 (d0 : Dev nD) : Nat :=
  let c0_i32_291 : BitVec 32 := 0#32
  let c1_i32_267 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v406 : BitVec 32 := Scalar.subi c1_i32_267 v2
  let c4_i32_290 : BitVec 32 := 4#32
  let v440 : BitVec 32 := Scalar.muli v406 c4_i32_290
  let v441 : BitVec 32 := Scalar.addi c0_i32_291 v440
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_292 : BitVec 32 := 2#32
  let v442 : BitVec 32 := Scalar.muli v5 c2_i32_292
  let v443 : BitVec 32 := Scalar.addi v441 v442
  let c1_i32_268 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v407 : BitVec 32 := Scalar.subi c1_i32_268 v8
  let c1_i32_293 : BitVec 32 := 1#32
  let v444 : BitVec 32 := Scalar.muli v407 c1_i32_293
  let v445 : BitVec 32 := Scalar.addi v443 v444
  v445.toNat
def k0_off34 (d0 : Dev nD) : Fin 3 → Nat :=
  let c4_i32_269 : BitVec 32 := 4#32
  let c1_i32_267 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v406 : BitVec 32 := Scalar.subi c1_i32_267 v2
  let v408 : BitVec 32 := Scalar.muli c4_i32_269 v406
  let c2_i32_270 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v409 : BitVec 32 := Scalar.muli c2_i32_270 v5
  let v410 : BitVec 32 := Scalar.addi v408 v409
  let c1_i32_268 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v407 : BitVec 32 := Scalar.subi c1_i32_268 v8
  let v411 : BitVec 32 := Scalar.addi v410 v407
  let c0_i32_305 : BitVec 32 := 0#32
  let c0_i32_306 : BitVec 32 := 0#32
  ![v411.toNat, 0, 0]
def k0_dev28 (d0 : Dev nD) : Nat :=
  let c0_i32_300 : BitVec 32 := 0#32
  let c1_i32_267 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v406 : BitVec 32 := Scalar.subi c1_i32_267 v2
  let c4_i32_299 : BitVec 32 := 4#32
  let v454 : BitVec 32 := Scalar.muli v406 c4_i32_299
  let v455 : BitVec 32 := Scalar.addi c0_i32_300 v454
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_301 : BitVec 32 := 2#32
  let v456 : BitVec 32 := Scalar.muli v5 c2_i32_301
  let v457 : BitVec 32 := Scalar.addi v455 v456
  let c1_i32_268 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v407 : BitVec 32 := Scalar.subi c1_i32_268 v8
  let c1_i32_302 : BitVec 32 := 1#32
  let v458 : BitVec 32 := Scalar.muli v407 c1_i32_302
  let v459 : BitVec 32 := Scalar.addi v457 v458
  v459.toNat
def k0_off35 (d0 : Dev nD) : Fin 3 → Nat :=
  let c4_i32_269 : BitVec 32 := 4#32
  let c1_i32_267 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v406 : BitVec 32 := Scalar.subi c1_i32_267 v2
  let v408 : BitVec 32 := Scalar.muli c4_i32_269 v406
  let c2_i32_270 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v409 : BitVec 32 := Scalar.muli c2_i32_270 v5
  let v410 : BitVec 32 := Scalar.addi v408 v409
  let c1_i32_268 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v407 : BitVec 32 := Scalar.subi c1_i32_268 v8
  let v411 : BitVec 32 := Scalar.addi v410 v407
  let c0_i32_314 : BitVec 32 := 0#32
  let c0_i32_315 : BitVec 32 := 0#32
  ![v411.toNat, 0, 0]
def k0_dev29 (d0 : Dev nD) : Nat :=
  let c0_i32_309 : BitVec 32 := 0#32
  let c1_i32_267 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v406 : BitVec 32 := Scalar.subi c1_i32_267 v2
  let c4_i32_308 : BitVec 32 := 4#32
  let v468 : BitVec 32 := Scalar.muli v406 c4_i32_308
  let v469 : BitVec 32 := Scalar.addi c0_i32_309 v468
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_310 : BitVec 32 := 2#32
  let v470 : BitVec 32 := Scalar.muli v5 c2_i32_310
  let v471 : BitVec 32 := Scalar.addi v469 v470
  let c1_i32_268 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v407 : BitVec 32 := Scalar.subi c1_i32_268 v8
  let c1_i32_311 : BitVec 32 := 1#32
  let v472 : BitVec 32 := Scalar.muli v407 c1_i32_311
  let v473 : BitVec 32 := Scalar.addi v471 v472
  v473.toNat
def k0_off36 (d0 : Dev nD) : Fin 3 → Nat :=
  let c4_i32_269 : BitVec 32 := 4#32
  let c1_i32_267 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v406 : BitVec 32 := Scalar.subi c1_i32_267 v2
  let v408 : BitVec 32 := Scalar.muli c4_i32_269 v406
  let c2_i32_270 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v409 : BitVec 32 := Scalar.muli c2_i32_270 v5
  let v410 : BitVec 32 := Scalar.addi v408 v409
  let c1_i32_268 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v407 : BitVec 32 := Scalar.subi c1_i32_268 v8
  let v411 : BitVec 32 := Scalar.addi v410 v407
  let c0_i32_323 : BitVec 32 := 0#32
  let c0_i32_324 : BitVec 32 := 0#32
  ![v411.toNat, 0, 0]
def k0_dev30 (d0 : Dev nD) : Nat :=
  let c0_i32_318 : BitVec 32 := 0#32
  let c1_i32_267 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v406 : BitVec 32 := Scalar.subi c1_i32_267 v2
  let c4_i32_317 : BitVec 32 := 4#32
  let v482 : BitVec 32 := Scalar.muli v406 c4_i32_317
  let v483 : BitVec 32 := Scalar.addi c0_i32_318 v482
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_319 : BitVec 32 := 2#32
  let v484 : BitVec 32 := Scalar.muli v5 c2_i32_319
  let v485 : BitVec 32 := Scalar.addi v483 v484
  let c1_i32_268 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v407 : BitVec 32 := Scalar.subi c1_i32_268 v8
  let c1_i32_320 : BitVec 32 := 1#32
  let v486 : BitVec 32 := Scalar.muli v407 c1_i32_320
  let v487 : BitVec 32 := Scalar.addi v485 v486
  v487.toNat
def k0_off37 (d0 : Dev nD) : Fin 3 → Nat :=
  let c4_i32_327 : BitVec 32 := 4#32
  let c1_i32_325 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v496 : BitVec 32 := Scalar.subi c1_i32_325 v2
  let v498 : BitVec 32 := Scalar.muli c4_i32_327 v496
  let c2_i32_328 : BitVec 32 := 2#32
  let c1_i32_326 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v497 : BitVec 32 := Scalar.subi c1_i32_326 v5
  let v499 : BitVec 32 := Scalar.muli c2_i32_328 v497
  let v500 : BitVec 32 := Scalar.addi v498 v499
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v501 : BitVec 32 := Scalar.addi v500 v8
  let c0_i32_336 : BitVec 32 := 0#32
  let c0_i32_337 : BitVec 32 := 0#32
  ![v501.toNat, 0, 0]
def k0_dev31 (d0 : Dev nD) : Nat :=
  let c0_i32_331 : BitVec 32 := 0#32
  let c1_i32_325 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v496 : BitVec 32 := Scalar.subi c1_i32_325 v2
  let c4_i32_330 : BitVec 32 := 4#32
  let v502 : BitVec 32 := Scalar.muli v496 c4_i32_330
  let v503 : BitVec 32 := Scalar.addi c0_i32_331 v502
  let c1_i32_326 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v497 : BitVec 32 := Scalar.subi c1_i32_326 v5
  let c2_i32_332 : BitVec 32 := 2#32
  let v504 : BitVec 32 := Scalar.muli v497 c2_i32_332
  let v505 : BitVec 32 := Scalar.addi v503 v504
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_333 : BitVec 32 := 1#32
  let v506 : BitVec 32 := Scalar.muli v8 c1_i32_333
  let v507 : BitVec 32 := Scalar.addi v505 v506
  v507.toNat
def k0_off38 (d0 : Dev nD) : Fin 3 → Nat :=
  let c4_i32_327 : BitVec 32 := 4#32
  let c1_i32_325 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v496 : BitVec 32 := Scalar.subi c1_i32_325 v2
  let v498 : BitVec 32 := Scalar.muli c4_i32_327 v496
  let c2_i32_328 : BitVec 32 := 2#32
  let c1_i32_326 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v497 : BitVec 32 := Scalar.subi c1_i32_326 v5
  let v499 : BitVec 32 := Scalar.muli c2_i32_328 v497
  let v500 : BitVec 32 := Scalar.addi v498 v499
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v501 : BitVec 32 := Scalar.addi v500 v8
  let c0_i32_345 : BitVec 32 := 0#32
  let c0_i32_346 : BitVec 32 := 0#32
  ![v501.toNat, 0, 0]
def k0_dev32 (d0 : Dev nD) : Nat :=
  let c0_i32_340 : BitVec 32 := 0#32
  let c1_i32_325 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v496 : BitVec 32 := Scalar.subi c1_i32_325 v2
  let c4_i32_339 : BitVec 32 := 4#32
  let v516 : BitVec 32 := Scalar.muli v496 c4_i32_339
  let v517 : BitVec 32 := Scalar.addi c0_i32_340 v516
  let c1_i32_326 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v497 : BitVec 32 := Scalar.subi c1_i32_326 v5
  let c2_i32_341 : BitVec 32 := 2#32
  let v518 : BitVec 32 := Scalar.muli v497 c2_i32_341
  let v519 : BitVec 32 := Scalar.addi v517 v518
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_342 : BitVec 32 := 1#32
  let v520 : BitVec 32 := Scalar.muli v8 c1_i32_342
  let v521 : BitVec 32 := Scalar.addi v519 v520
  v521.toNat
def k0_off39 (d0 : Dev nD) : Fin 3 → Nat :=
  let c4_i32_327 : BitVec 32 := 4#32
  let c1_i32_325 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v496 : BitVec 32 := Scalar.subi c1_i32_325 v2
  let v498 : BitVec 32 := Scalar.muli c4_i32_327 v496
  let c2_i32_328 : BitVec 32 := 2#32
  let c1_i32_326 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v497 : BitVec 32 := Scalar.subi c1_i32_326 v5
  let v499 : BitVec 32 := Scalar.muli c2_i32_328 v497
  let v500 : BitVec 32 := Scalar.addi v498 v499
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v501 : BitVec 32 := Scalar.addi v500 v8
  let c0_i32_354 : BitVec 32 := 0#32
  let c0_i32_355 : BitVec 32 := 0#32
  ![v501.toNat, 0, 0]
def k0_dev33 (d0 : Dev nD) : Nat :=
  let c0_i32_349 : BitVec 32 := 0#32
  let c1_i32_325 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v496 : BitVec 32 := Scalar.subi c1_i32_325 v2
  let c4_i32_348 : BitVec 32 := 4#32
  let v530 : BitVec 32 := Scalar.muli v496 c4_i32_348
  let v531 : BitVec 32 := Scalar.addi c0_i32_349 v530
  let c1_i32_326 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v497 : BitVec 32 := Scalar.subi c1_i32_326 v5
  let c2_i32_350 : BitVec 32 := 2#32
  let v532 : BitVec 32 := Scalar.muli v497 c2_i32_350
  let v533 : BitVec 32 := Scalar.addi v531 v532
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_351 : BitVec 32 := 1#32
  let v534 : BitVec 32 := Scalar.muli v8 c1_i32_351
  let v535 : BitVec 32 := Scalar.addi v533 v534
  v535.toNat
def k0_off40 (d0 : Dev nD) : Fin 3 → Nat :=
  let c4_i32_327 : BitVec 32 := 4#32
  let c1_i32_325 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v496 : BitVec 32 := Scalar.subi c1_i32_325 v2
  let v498 : BitVec 32 := Scalar.muli c4_i32_327 v496
  let c2_i32_328 : BitVec 32 := 2#32
  let c1_i32_326 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v497 : BitVec 32 := Scalar.subi c1_i32_326 v5
  let v499 : BitVec 32 := Scalar.muli c2_i32_328 v497
  let v500 : BitVec 32 := Scalar.addi v498 v499
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v501 : BitVec 32 := Scalar.addi v500 v8
  let c0_i32_363 : BitVec 32 := 0#32
  let c0_i32_364 : BitVec 32 := 0#32
  ![v501.toNat, 0, 0]
def k0_dev34 (d0 : Dev nD) : Nat :=
  let c0_i32_358 : BitVec 32 := 0#32
  let c1_i32_325 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v496 : BitVec 32 := Scalar.subi c1_i32_325 v2
  let c4_i32_357 : BitVec 32 := 4#32
  let v544 : BitVec 32 := Scalar.muli v496 c4_i32_357
  let v545 : BitVec 32 := Scalar.addi c0_i32_358 v544
  let c1_i32_326 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v497 : BitVec 32 := Scalar.subi c1_i32_326 v5
  let c2_i32_359 : BitVec 32 := 2#32
  let v546 : BitVec 32 := Scalar.muli v497 c2_i32_359
  let v547 : BitVec 32 := Scalar.addi v545 v546
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_360 : BitVec 32 := 1#32
  let v548 : BitVec 32 := Scalar.muli v8 c1_i32_360
  let v549 : BitVec 32 := Scalar.addi v547 v548
  v549.toNat
def k0_off41 (d0 : Dev nD) : Fin 3 → Nat :=
  let c4_i32_327 : BitVec 32 := 4#32
  let c1_i32_325 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v496 : BitVec 32 := Scalar.subi c1_i32_325 v2
  let v498 : BitVec 32 := Scalar.muli c4_i32_327 v496
  let c2_i32_328 : BitVec 32 := 2#32
  let c1_i32_326 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v497 : BitVec 32 := Scalar.subi c1_i32_326 v5
  let v499 : BitVec 32 := Scalar.muli c2_i32_328 v497
  let v500 : BitVec 32 := Scalar.addi v498 v499
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v501 : BitVec 32 := Scalar.addi v500 v8
  let c0_i32_372 : BitVec 32 := 0#32
  let c0_i32_373 : BitVec 32 := 0#32
  ![v501.toNat, 0, 0]
def k0_dev35 (d0 : Dev nD) : Nat :=
  let c0_i32_367 : BitVec 32 := 0#32
  let c1_i32_325 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v496 : BitVec 32 := Scalar.subi c1_i32_325 v2
  let c4_i32_366 : BitVec 32 := 4#32
  let v558 : BitVec 32 := Scalar.muli v496 c4_i32_366
  let v559 : BitVec 32 := Scalar.addi c0_i32_367 v558
  let c1_i32_326 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v497 : BitVec 32 := Scalar.subi c1_i32_326 v5
  let c2_i32_368 : BitVec 32 := 2#32
  let v560 : BitVec 32 := Scalar.muli v497 c2_i32_368
  let v561 : BitVec 32 := Scalar.addi v559 v560
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_369 : BitVec 32 := 1#32
  let v562 : BitVec 32 := Scalar.muli v8 c1_i32_369
  let v563 : BitVec 32 := Scalar.addi v561 v562
  v563.toNat
def k0_off42 (d0 : Dev nD) : Fin 3 → Nat :=
  let c4_i32_327 : BitVec 32 := 4#32
  let c1_i32_325 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v496 : BitVec 32 := Scalar.subi c1_i32_325 v2
  let v498 : BitVec 32 := Scalar.muli c4_i32_327 v496
  let c2_i32_328 : BitVec 32 := 2#32
  let c1_i32_326 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v497 : BitVec 32 := Scalar.subi c1_i32_326 v5
  let v499 : BitVec 32 := Scalar.muli c2_i32_328 v497
  let v500 : BitVec 32 := Scalar.addi v498 v499
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v501 : BitVec 32 := Scalar.addi v500 v8
  let c0_i32_381 : BitVec 32 := 0#32
  let c0_i32_382 : BitVec 32 := 0#32
  ![v501.toNat, 0, 0]
def k0_dev36 (d0 : Dev nD) : Nat :=
  let c0_i32_376 : BitVec 32 := 0#32
  let c1_i32_325 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v496 : BitVec 32 := Scalar.subi c1_i32_325 v2
  let c4_i32_375 : BitVec 32 := 4#32
  let v572 : BitVec 32 := Scalar.muli v496 c4_i32_375
  let v573 : BitVec 32 := Scalar.addi c0_i32_376 v572
  let c1_i32_326 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v497 : BitVec 32 := Scalar.subi c1_i32_326 v5
  let c2_i32_377 : BitVec 32 := 2#32
  let v574 : BitVec 32 := Scalar.muli v497 c2_i32_377
  let v575 : BitVec 32 := Scalar.addi v573 v574
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_378 : BitVec 32 := 1#32
  let v576 : BitVec 32 := Scalar.muli v8 c1_i32_378
  let v577 : BitVec 32 := Scalar.addi v575 v576
  v577.toNat
def k0_off43 (d0 : Dev nD) : Fin 3 → Nat :=
  let c4_i32_386 : BitVec 32 := 4#32
  let c1_i32_383 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v586 : BitVec 32 := Scalar.subi c1_i32_383 v2
  let v589 : BitVec 32 := Scalar.muli c4_i32_386 v586
  let c2_i32_387 : BitVec 32 := 2#32
  let c1_i32_384 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v587 : BitVec 32 := Scalar.subi c1_i32_384 v5
  let v590 : BitVec 32 := Scalar.muli c2_i32_387 v587
  let v591 : BitVec 32 := Scalar.addi v589 v590
  let c1_i32_385 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v588 : BitVec 32 := Scalar.subi c1_i32_385 v8
  let v592 : BitVec 32 := Scalar.addi v591 v588
  let c0_i32_395 : BitVec 32 := 0#32
  let c0_i32_396 : BitVec 32 := 0#32
  ![v592.toNat, 0, 0]
def k0_dev37 (d0 : Dev nD) : Nat :=
  let c0_i32_390 : BitVec 32 := 0#32
  let c1_i32_383 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v586 : BitVec 32 := Scalar.subi c1_i32_383 v2
  let c4_i32_389 : BitVec 32 := 4#32
  let v593 : BitVec 32 := Scalar.muli v586 c4_i32_389
  let v594 : BitVec 32 := Scalar.addi c0_i32_390 v593
  let c1_i32_384 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v587 : BitVec 32 := Scalar.subi c1_i32_384 v5
  let c2_i32_391 : BitVec 32 := 2#32
  let v595 : BitVec 32 := Scalar.muli v587 c2_i32_391
  let v596 : BitVec 32 := Scalar.addi v594 v595
  let c1_i32_385 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v588 : BitVec 32 := Scalar.subi c1_i32_385 v8
  let c1_i32_392 : BitVec 32 := 1#32
  let v597 : BitVec 32 := Scalar.muli v588 c1_i32_392
  let v598 : BitVec 32 := Scalar.addi v596 v597
  v598.toNat
def k0_off44 (d0 : Dev nD) : Fin 3 → Nat :=
  let c4_i32_386 : BitVec 32 := 4#32
  let c1_i32_383 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v586 : BitVec 32 := Scalar.subi c1_i32_383 v2
  let v589 : BitVec 32 := Scalar.muli c4_i32_386 v586
  let c2_i32_387 : BitVec 32 := 2#32
  let c1_i32_384 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v587 : BitVec 32 := Scalar.subi c1_i32_384 v5
  let v590 : BitVec 32 := Scalar.muli c2_i32_387 v587
  let v591 : BitVec 32 := Scalar.addi v589 v590
  let c1_i32_385 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v588 : BitVec 32 := Scalar.subi c1_i32_385 v8
  let v592 : BitVec 32 := Scalar.addi v591 v588
  let c0_i32_404 : BitVec 32 := 0#32
  let c0_i32_405 : BitVec 32 := 0#32
  ![v592.toNat, 0, 0]
def k0_dev38 (d0 : Dev nD) : Nat :=
  let c0_i32_399 : BitVec 32 := 0#32
  let c1_i32_383 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v586 : BitVec 32 := Scalar.subi c1_i32_383 v2
  let c4_i32_398 : BitVec 32 := 4#32
  let v607 : BitVec 32 := Scalar.muli v586 c4_i32_398
  let v608 : BitVec 32 := Scalar.addi c0_i32_399 v607
  let c1_i32_384 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v587 : BitVec 32 := Scalar.subi c1_i32_384 v5
  let c2_i32_400 : BitVec 32 := 2#32
  let v609 : BitVec 32 := Scalar.muli v587 c2_i32_400
  let v610 : BitVec 32 := Scalar.addi v608 v609
  let c1_i32_385 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v588 : BitVec 32 := Scalar.subi c1_i32_385 v8
  let c1_i32_401 : BitVec 32 := 1#32
  let v611 : BitVec 32 := Scalar.muli v588 c1_i32_401
  let v612 : BitVec 32 := Scalar.addi v610 v611
  v612.toNat
def k0_off45 (d0 : Dev nD) : Fin 3 → Nat :=
  let c4_i32_386 : BitVec 32 := 4#32
  let c1_i32_383 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v586 : BitVec 32 := Scalar.subi c1_i32_383 v2
  let v589 : BitVec 32 := Scalar.muli c4_i32_386 v586
  let c2_i32_387 : BitVec 32 := 2#32
  let c1_i32_384 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v587 : BitVec 32 := Scalar.subi c1_i32_384 v5
  let v590 : BitVec 32 := Scalar.muli c2_i32_387 v587
  let v591 : BitVec 32 := Scalar.addi v589 v590
  let c1_i32_385 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v588 : BitVec 32 := Scalar.subi c1_i32_385 v8
  let v592 : BitVec 32 := Scalar.addi v591 v588
  let c0_i32_413 : BitVec 32 := 0#32
  let c0_i32_414 : BitVec 32 := 0#32
  ![v592.toNat, 0, 0]
def k0_dev39 (d0 : Dev nD) : Nat :=
  let c0_i32_408 : BitVec 32 := 0#32
  let c1_i32_383 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v586 : BitVec 32 := Scalar.subi c1_i32_383 v2
  let c4_i32_407 : BitVec 32 := 4#32
  let v621 : BitVec 32 := Scalar.muli v586 c4_i32_407
  let v622 : BitVec 32 := Scalar.addi c0_i32_408 v621
  let c1_i32_384 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v587 : BitVec 32 := Scalar.subi c1_i32_384 v5
  let c2_i32_409 : BitVec 32 := 2#32
  let v623 : BitVec 32 := Scalar.muli v587 c2_i32_409
  let v624 : BitVec 32 := Scalar.addi v622 v623
  let c1_i32_385 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v588 : BitVec 32 := Scalar.subi c1_i32_385 v8
  let c1_i32_410 : BitVec 32 := 1#32
  let v625 : BitVec 32 := Scalar.muli v588 c1_i32_410
  let v626 : BitVec 32 := Scalar.addi v624 v625
  v626.toNat
def k0_off46 (d0 : Dev nD) : Fin 3 → Nat :=
  let c4_i32_386 : BitVec 32 := 4#32
  let c1_i32_383 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v586 : BitVec 32 := Scalar.subi c1_i32_383 v2
  let v589 : BitVec 32 := Scalar.muli c4_i32_386 v586
  let c2_i32_387 : BitVec 32 := 2#32
  let c1_i32_384 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v587 : BitVec 32 := Scalar.subi c1_i32_384 v5
  let v590 : BitVec 32 := Scalar.muli c2_i32_387 v587
  let v591 : BitVec 32 := Scalar.addi v589 v590
  let c1_i32_385 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v588 : BitVec 32 := Scalar.subi c1_i32_385 v8
  let v592 : BitVec 32 := Scalar.addi v591 v588
  let c0_i32_422 : BitVec 32 := 0#32
  let c0_i32_423 : BitVec 32 := 0#32
  ![v592.toNat, 0, 0]
def k0_dev40 (d0 : Dev nD) : Nat :=
  let c0_i32_417 : BitVec 32 := 0#32
  let c1_i32_383 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v586 : BitVec 32 := Scalar.subi c1_i32_383 v2
  let c4_i32_416 : BitVec 32 := 4#32
  let v635 : BitVec 32 := Scalar.muli v586 c4_i32_416
  let v636 : BitVec 32 := Scalar.addi c0_i32_417 v635
  let c1_i32_384 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v587 : BitVec 32 := Scalar.subi c1_i32_384 v5
  let c2_i32_418 : BitVec 32 := 2#32
  let v637 : BitVec 32 := Scalar.muli v587 c2_i32_418
  let v638 : BitVec 32 := Scalar.addi v636 v637
  let c1_i32_385 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v588 : BitVec 32 := Scalar.subi c1_i32_385 v8
  let c1_i32_419 : BitVec 32 := 1#32
  let v639 : BitVec 32 := Scalar.muli v588 c1_i32_419
  let v640 : BitVec 32 := Scalar.addi v638 v639
  v640.toNat
def k0_off47 (d0 : Dev nD) : Fin 3 → Nat :=
  let c4_i32_386 : BitVec 32 := 4#32
  let c1_i32_383 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v586 : BitVec 32 := Scalar.subi c1_i32_383 v2
  let v589 : BitVec 32 := Scalar.muli c4_i32_386 v586
  let c2_i32_387 : BitVec 32 := 2#32
  let c1_i32_384 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v587 : BitVec 32 := Scalar.subi c1_i32_384 v5
  let v590 : BitVec 32 := Scalar.muli c2_i32_387 v587
  let v591 : BitVec 32 := Scalar.addi v589 v590
  let c1_i32_385 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v588 : BitVec 32 := Scalar.subi c1_i32_385 v8
  let v592 : BitVec 32 := Scalar.addi v591 v588
  let c0_i32_431 : BitVec 32 := 0#32
  let c0_i32_432 : BitVec 32 := 0#32
  ![v592.toNat, 0, 0]
def k0_dev41 (d0 : Dev nD) : Nat :=
  let c0_i32_426 : BitVec 32 := 0#32
  let c1_i32_383 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v586 : BitVec 32 := Scalar.subi c1_i32_383 v2
  let c4_i32_425 : BitVec 32 := 4#32
  let v649 : BitVec 32 := Scalar.muli v586 c4_i32_425
  let v650 : BitVec 32 := Scalar.addi c0_i32_426 v649
  let c1_i32_384 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v587 : BitVec 32 := Scalar.subi c1_i32_384 v5
  let c2_i32_427 : BitVec 32 := 2#32
  let v651 : BitVec 32 := Scalar.muli v587 c2_i32_427
  let v652 : BitVec 32 := Scalar.addi v650 v651
  let c1_i32_385 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v588 : BitVec 32 := Scalar.subi c1_i32_385 v8
  let c1_i32_428 : BitVec 32 := 1#32
  let v653 : BitVec 32 := Scalar.muli v588 c1_i32_428
  let v654 : BitVec 32 := Scalar.addi v652 v653
  v654.toNat
def k0_off48 (d0 : Dev nD) : Fin 3 → Nat :=
  let c4_i32_386 : BitVec 32 := 4#32
  let c1_i32_383 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v586 : BitVec 32 := Scalar.subi c1_i32_383 v2
  let v589 : BitVec 32 := Scalar.muli c4_i32_386 v586
  let c2_i32_387 : BitVec 32 := 2#32
  let c1_i32_384 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v587 : BitVec 32 := Scalar.subi c1_i32_384 v5
  let v590 : BitVec 32 := Scalar.muli c2_i32_387 v587
  let v591 : BitVec 32 := Scalar.addi v589 v590
  let c1_i32_385 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v588 : BitVec 32 := Scalar.subi c1_i32_385 v8
  let v592 : BitVec 32 := Scalar.addi v591 v588
  let c0_i32_440 : BitVec 32 := 0#32
  let c0_i32_441 : BitVec 32 := 0#32
  ![v592.toNat, 0, 0]
def k0_dev42 (d0 : Dev nD) : Nat :=
  let c0_i32_435 : BitVec 32 := 0#32
  let c1_i32_383 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v586 : BitVec 32 := Scalar.subi c1_i32_383 v2
  let c4_i32_434 : BitVec 32 := 4#32
  let v663 : BitVec 32 := Scalar.muli v586 c4_i32_434
  let v664 : BitVec 32 := Scalar.addi c0_i32_435 v663
  let c1_i32_384 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v587 : BitVec 32 := Scalar.subi c1_i32_384 v5
  let c2_i32_436 : BitVec 32 := 2#32
  let v665 : BitVec 32 := Scalar.muli v587 c2_i32_436
  let v666 : BitVec 32 := Scalar.addi v664 v665
  let c1_i32_385 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v588 : BitVec 32 := Scalar.subi c1_i32_385 v8
  let c1_i32_437 : BitVec 32 := 1#32
  let v667 : BitVec 32 := Scalar.muli v588 c1_i32_437
  let v668 : BitVec 32 := Scalar.addi v666 v667
  v668.toNat
-- ==== Gather.lean ====
abbrev S2048x1196 : Shape := ⟨2, ![2048, 1196]⟩
abbrev S1024x192 : Shape := ⟨2, ![1024, 192]⟩
abbrev S512x256 : Shape := ⟨2, ![512, 256]⟩
abbrev S2048x1024 : Shape := ⟨2, ![2048, 1024]⟩
abbrev S2048x512 : Shape := ⟨2, ![2048, 512]⟩
abbrev S32x128 : Shape := ⟨2, ![32, 128]⟩
abbrev S8x2048x1196 : Shape := ⟨3, ![8, 2048, 1196]⟩
abbrev S8x1024x192 : Shape := ⟨3, ![8, 1024, 192]⟩
abbrev S8x512x256 : Shape := ⟨3, ![8, 512, 256]⟩
abbrev S8x2048x1024 : Shape := ⟨3, ![8, 2048, 1024]⟩
abbrev S8x2048x512 : Shape := ⟨3, ![8, 2048, 512]⟩
abbrev S8x32x128 : Shape := ⟨3, ![8, 32, 128]⟩
abbrev S42 : Shape := ⟨1, ![42]⟩
abbrev S6 : Shape := ⟨1, ![6]⟩
abbrev S1 : Shape := ⟨1, ![1]⟩
abbrev S_ : Shape := ⟨0, ![]⟩
abbrev S1x2048x1196 : Shape := ⟨3, ![1, 2048, 1196]⟩
abbrev S1x1024x192 : Shape := ⟨3, ![1, 1024, 192]⟩
abbrev S1x512x256 : Shape := ⟨3, ![1, 512, 256]⟩
abbrev S1x2048x1024 : Shape := ⟨3, ![1, 2048, 1024]⟩
abbrev S1x2048x512 : Shape := ⟨3, ![1, 2048, 512]⟩
abbrev S1x32x128 : Shape := ⟨3, ![1, 32, 128]⟩

abbrev nBuf : Space → Nat
  | .hbm => 12
  | .vmem => 0
  | .smem => 0
  | _ => 0

abbrev bufTy : (tb : Table) → Fin (tcTables nBuf tb) → BufTy
  | .hbm, ⟨0, _⟩ => ⟨S2048x1196, .bf16⟩
  | .hbm, ⟨1, _⟩ => ⟨S1024x192, .bf16⟩
  | .hbm, ⟨2, _⟩ => ⟨S512x256, .bf16⟩
  | .hbm, ⟨3, _⟩ => ⟨S2048x1024, .bf16⟩
  | .hbm, ⟨4, _⟩ => ⟨S2048x512, .bf16⟩
  | .hbm, ⟨5, _⟩ => ⟨S32x128, .f32⟩
  | .hbm, ⟨6, _⟩ => ⟨S8x2048x1196, .bf16⟩
  | .hbm, ⟨7, _⟩ => ⟨S8x1024x192, .bf16⟩
  | .hbm, ⟨8, _⟩ => ⟨S8x512x256, .bf16⟩
  | .hbm, ⟨9, _⟩ => ⟨S8x2048x1024, .bf16⟩
  | .hbm, ⟨10, _⟩ => ⟨S8x2048x512, .bf16⟩
  | .hbm, ⟨11, _⟩ => ⟨S8x32x128, .f32⟩
  | _, _ => ⟨S2048x1196, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_20 : BitVec 32 := 0#32
  let c0_i32_21 : BitVec 32 := 0#32
  ![v17.toNat, 0, 0]
def k0_off2 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_10 v2
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_11 v5
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi v20 v8
  let c0_i32_23 : BitVec 32 := 0#32
  let c0_i32_24 : BitVec 32 := 0#32
  ![v21.toNat, 0, 0]
def k0_off3 (d0 : Dev nD) : Fin 3 → Nat :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.muli c4_i32_12 v2
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.muli c2_i32_13 v5
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.addi v24 v8
  let c0_i32_26 : BitVec 32 := 0#32
  let c0_i32_27 : BitVec 32 := 0#32
  ![v25.toNat, 0, 0]
def k0_off4 (d0 : Dev nD) : Fin 3 → Nat :=
  let c4_i32_14 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.muli c4_i32_14 v2
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_15 v5
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.addi v28 v8
  let c0_i32_28 : BitVec 32 := 0#32
  let c0_i32_29 : BitVec 32 := 0#32
  ![v29.toNat, 0, 0]
def k0_off5 (d0 : Dev nD) : Fin 3 → Nat :=
  let c4_i32_16 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.muli c4_i32_16 v2
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_31 : BitVec 32 := 0#32
  let c0_i32_32 : BitVec 32 := 0#32
  ![v33.toNat, 0, 0]
def k0_off6 (d0 : Dev nD) : Fin 3 → Nat :=
  let c4_i32_18 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.muli c4_i32_18 v2
  let c2_i32_19 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.muli c2_i32_19 v5
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.addi v36 v8
  let c0_i32_33 : BitVec 32 := 0#32
  let c0_i32_34 : BitVec 32 := 0#32
  ![v37.toNat, 0, 0]
def k0_dev1 (d0 : Dev nD) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_85 : BitVec 32 := 4#32
  let v158 : BitVec 32 := Scalar.muli v2 c4_i32_85
  let v159 : BitVec 32 := Scalar.addi c0_i32_86 v158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_87 : BitVec 32 := 2#32
  let v160 : BitVec 32 := Scalar.muli v5 c2_i32_87
  let v161 : BitVec 32 := Scalar.addi v159 v160
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_88 : BitVec 32 := 1#32
  let v162 : BitVec 32 := Scalar.muli v9 c1_i32_88
  let v163 : BitVec 32 := Scalar.addi v161 v162
  v163.toNat
def k0_dev2 (d0 : Dev nD) : Nat :=
  let c0_i32_94 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_93 : BitVec 32 := 4#32
  let v170 : BitVec 32 := Scalar.muli v2 c4_i32_93
  let v171 : BitVec 32 := Scalar.addi c0_i32_94 v170
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_95 : BitVec 32 := 2#32
  let v172 : BitVec 32 := Scalar.muli v5 c2_i32_95
  let v173 : BitVec 32 := Scalar.addi v171 v172
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_96 : BitVec 32 := 1#32
  let v174 : BitVec 32 := Scalar.muli v9 c1_i32_96
  let v175 : BitVec 32 := Scalar.addi v173 v174
  v175.toNat
def k0_dev3 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v182 : BitVec 32 := Scalar.muli v2 c4_i32_101
  let v183 : BitVec 32 := Scalar.addi c0_i32_102 v182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v184 : BitVec 32 := Scalar.muli v5 c2_i32_103
  let v185 : BitVec 32 := Scalar.addi v183 v184
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v186 : BitVec 32 := Scalar.muli v9 c1_i32_104
  let v187 : BitVec 32 := Scalar.addi v185 v186
  v187.toNat
def k0_dev4 (d0 : Dev nD) : Nat :=
  let c0_i32_110 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_109 : BitVec 32 := 4#32
  let v194 : BitVec 32 := Scalar.muli v2 c4_i32_109
  let v195 : BitVec 32 := Scalar.addi c0_i32_110 v194
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_111 : BitVec 32 := 2#32
  let v196 : BitVec 32 := Scalar.muli v5 c2_i32_111
  let v197 : BitVec 32 := Scalar.addi v195 v196
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_112 : BitVec 32 := 1#32
  let v198 : BitVec 32 := Scalar.muli v9 c1_i32_112
  let v199 : BitVec 32 := Scalar.addi v197 v198
  v199.toNat
def k0_dev5 (d0 : Dev nD) : Nat :=
  let c0_i32_118 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_117 : BitVec 32 := 4#32
  let v206 : BitVec 32 := Scalar.muli v2 c4_i32_117
  let v207 : BitVec 32 := Scalar.addi c0_i32_118 v206
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_119 : BitVec 32 := 2#32
  let v208 : BitVec 32 := Scalar.muli v5 c2_i32_119
  let v209 : BitVec 32 := Scalar.addi v207 v208
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_120 : BitVec 32 := 1#32
  let v210 : BitVec 32 := Scalar.muli v9 c1_i32_120
  let v211 : BitVec 32 := Scalar.addi v209 v210
  v211.toNat
def k0_dev6 (d0 : Dev nD) : Nat :=
  let c0_i32_126 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_125 : BitVec 32 := 4#32
  let v218 : BitVec 32 := Scalar.muli v2 c4_i32_125
  let v219 : BitVec 32 := Scalar.addi c0_i32_126 v218
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_127 : BitVec 32 := 2#32
  let v220 : BitVec 32 := Scalar.muli v5 c2_i32_127
  let v221 : BitVec 32 := Scalar.addi v219 v220
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_128 : BitVec 32 := 1#32
  let v222 : BitVec 32 := Scalar.muli v9 c1_i32_128
  let v223 : BitVec 32 := Scalar.addi v221 v222
  v223.toNat
def k0_dev7 (d0 : Dev nD) : Nat :=
  let c0_i32_133 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_132 : BitVec 32 := 4#32
  let v230 : BitVec 32 := Scalar.muli v10 c4_i32_132
  let v231 : BitVec 32 := Scalar.addi c0_i32_133 v230
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_134 : BitVec 32 := 2#32
  let v232 : BitVec 32 := Scalar.muli v5 c2_i32_134
  let v233 : BitVec 32 := Scalar.addi v231 v232
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_135 : BitVec 32 := 1#32
  let v234 : BitVec 32 := Scalar.muli v8 c1_i32_135
  let v235 : BitVec 32 := Scalar.addi v233 v234
  v235.toNat
def k0_dev8 (d0 : Dev nD) : Nat :=
  let c0_i32_140 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_139 : BitVec 32 := 4#32
  let v242 : BitVec 32 := Scalar.muli v10 c4_i32_139
  let v243 : BitVec 32 := Scalar.addi c0_i32_140 v242
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_141 : BitVec 32 := 2#32
  let v244 : BitVec 32 := Scalar.muli v5 c2_i32_141
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_142 : BitVec 32 := 1#32
  let v246 : BitVec 32 := Scalar.muli v8 c1_i32_142
  let v247 : BitVec 32 := Scalar.addi v245 v246
  v247.toNat
def k0_dev9 (d0 : Dev nD) : Nat :=
  let c0_i32_147 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_146 : BitVec 32 := 4#32
  let v254 : BitVec 32 := Scalar.muli v10 c4_i32_146
  let v255 : BitVec 32 := Scalar.addi c0_i32_147 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_148 : BitVec 32 := 2#32
  let v256 : BitVec 32 := Scalar.muli v5 c2_i32_148
  let v257 : BitVec 32 := Scalar.addi v255 v256
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_149 : BitVec 32 := 1#32
  let v258 : BitVec 32 := Scalar.muli v8 c1_i32_149
  let v259 : BitVec 32 := Scalar.addi v257 v258
  v259.toNat
def k0_dev10 (d0 : Dev nD) : Nat :=
  let c0_i32_154 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_153 : BitVec 32 := 4#32
  let v266 : BitVec 32 := Scalar.muli v10 c4_i32_153
  let v267 : BitVec 32 := Scalar.addi c0_i32_154 v266
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_155 : BitVec 32 := 2#32
  let v268 : BitVec 32 := Scalar.muli v5 c2_i32_155
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v270 : BitVec 32 := Scalar.muli v8 c1_i32_156
  let v271 : BitVec 32 := Scalar.addi v269 v270
  v271.toNat
def k0_dev11 (d0 : Dev nD) : Nat :=
  let c0_i32_161 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_160 : BitVec 32 := 4#32
  let v278 : BitVec 32 := Scalar.muli v10 c4_i32_160
  let v279 : BitVec 32 := Scalar.addi c0_i32_161 v278
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_162 : BitVec 32 := 2#32
  let v280 : BitVec 32 := Scalar.muli v5 c2_i32_162
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_163 : BitVec 32 := 1#32
  let v282 : BitVec 32 := Scalar.muli v8 c1_i32_163
  let v283 : BitVec 32 := Scalar.addi v281 v282
  v283.toNat
def k0_dev12 (d0 : Dev nD) : Nat :=
  let c0_i32_168 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_167 : BitVec 32 := 4#32
  let v290 : BitVec 32 := Scalar.muli v10 c4_i32_167
  let v291 : BitVec 32 := Scalar.addi c0_i32_168 v290
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_169 : BitVec 32 := 2#32
  let v292 : BitVec 32 := Scalar.muli v5 c2_i32_169
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_170 : BitVec 32 := 1#32
  let v294 : BitVec 32 := Scalar.muli v8 c1_i32_170
  let v295 : BitVec 32 := Scalar.addi v293 v294
  v295.toNat
def k0_dev13 (d0 : Dev nD) : Nat :=
  let c0_i32_175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_174 : BitVec 32 := 4#32
  let v302 : BitVec 32 := Scalar.muli v2 c4_i32_174
  let v303 : BitVec 32 := Scalar.addi c0_i32_175 v302
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_176 : BitVec 32 := 2#32
  let v304 : BitVec 32 := Scalar.muli v11 c2_i32_176
  let v305 : BitVec 32 := Scalar.addi v303 v304
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_177 : BitVec 32 := 1#32
  let v306 : BitVec 32 := Scalar.muli v8 c1_i32_177
  let v307 : BitVec 32 := Scalar.addi v305 v306
  v307.toNat
def k0_dev14 (d0 : Dev nD) : Nat :=
  let c0_i32_182 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_181 : BitVec 32 := 4#32
  let v314 : BitVec 32 := Scalar.muli v2 c4_i32_181
  let v315 : BitVec 32 := Scalar.addi c0_i32_182 v314
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_183 : BitVec 32 := 2#32
  let v316 : BitVec 32 := Scalar.muli v11 c2_i32_183
  let v317 : BitVec 32 := Scalar.addi v315 v316
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_184 : BitVec 32 := 1#32
  let v318 : BitVec 32 := Scalar.muli v8 c1_i32_184
  let v319 : BitVec 32 := Scalar.addi v317 v318
  v319.toNat
def k0_dev15 (d0 : Dev nD) : Nat :=
  let c0_i32_189 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_188 : BitVec 32 := 4#32
  let v326 : BitVec 32 := Scalar.muli v2 c4_i32_188
  let v327 : BitVec 32 := Scalar.addi c0_i32_189 v326
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_190 : BitVec 32 := 2#32
  let v328 : BitVec 32 := Scalar.muli v11 c2_i32_190
  let v329 : BitVec 32 := Scalar.addi v327 v328
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_191 : BitVec 32 := 1#32
  let v330 : BitVec 32 := Scalar.muli v8 c1_i32_191
  let v331 : BitVec 32 := Scalar.addi v329 v330
  v331.toNat
def k0_dev16 (d0 : Dev nD) : Nat :=
  let c0_i32_196 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_195 : BitVec 32 := 4#32
  let v338 : BitVec 32 := Scalar.muli v2 c4_i32_195
  let v339 : BitVec 32 := Scalar.addi c0_i32_196 v338
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_197 : BitVec 32 := 2#32
  let v340 : BitVec 32 := Scalar.muli v11 c2_i32_197
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_198 : BitVec 32 := 1#32
  let v342 : BitVec 32 := Scalar.muli v8 c1_i32_198
  let v343 : BitVec 32 := Scalar.addi v341 v342
  v343.toNat
def k0_dev17 (d0 : Dev nD) : Nat :=
  let c0_i32_203 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_202 : BitVec 32 := 4#32
  let v350 : BitVec 32 := Scalar.muli v2 c4_i32_202
  let v351 : BitVec 32 := Scalar.addi c0_i32_203 v350
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_204 : BitVec 32 := 2#32
  let v352 : BitVec 32 := Scalar.muli v11 c2_i32_204
  let v353 : BitVec 32 := Scalar.addi v351 v352
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_205 : BitVec 32 := 1#32
  let v354 : BitVec 32 := Scalar.muli v8 c1_i32_205
  let v355 : BitVec 32 := Scalar.addi v353 v354
  v355.toNat
def k0_dev18 (d0 : Dev nD) : Nat :=
  let c0_i32_210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_209 : BitVec 32 := 4#32
  let v362 : BitVec 32 := Scalar.muli v2 c4_i32_209
  let v363 : BitVec 32 := Scalar.addi c0_i32_210 v362
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_211 : BitVec 32 := 2#32
  let v364 : BitVec 32 := Scalar.muli v11 c2_i32_211
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_212 : BitVec 32 := 1#32
  let v366 : BitVec 32 := Scalar.muli v8 c1_i32_212
  let v367 : BitVec 32 := Scalar.addi v365 v366
  v367.toNat
def k0_dev19 (d0 : Dev nD) : Nat :=
  let c0_i32_217 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_216 : BitVec 32 := 4#32
  let v374 : BitVec 32 := Scalar.muli v12 c4_i32_216
  let v375 : BitVec 32 := Scalar.addi c0_i32_217 v374
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_218 : BitVec 32 := 2#32
  let v376 : BitVec 32 := Scalar.muli v13 c2_i32_218
  let v377 : BitVec 32 := Scalar.addi v375 v376
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_219 : BitVec 32 := 1#32
  let v378 : BitVec 32 := Scalar.muli v8 c1_i32_219
  let v379 : BitVec 32 := Scalar.addi v377 v378
  v379.toNat
def k0_dev20 (d0 : Dev nD) : Nat :=
  let c0_i32_224 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_223 : BitVec 32 := 4#32
  let v386 : BitVec 32 := Scalar.muli v12 c4_i32_223
  let v387 : BitVec 32 := Scalar.addi c0_i32_224 v386
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_225 : BitVec 32 := 2#32
  let v388 : BitVec 32 := Scalar.muli v13 c2_i32_225
  let v389 : BitVec 32 := Scalar.addi v387 v388
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_226 : BitVec 32 := 1#32
  let v390 : BitVec 32 := Scalar.muli v8 c1_i32_226
  let v391 : BitVec 32 := Scalar.addi v389 v390
  v391.toNat
def k0_dev21 (d0 : Dev nD) : Nat :=
  let c0_i32_231 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_230 : BitVec 32 := 4#32
  let v398 : BitVec 32 := Scalar.muli v12 c4_i32_230
  let v399 : BitVec 32 := Scalar.addi c0_i32_231 v398
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_232 : BitVec 32 := 2#32
  let v400 : BitVec 32 := Scalar.muli v13 c2_i32_232
  let v401 : BitVec 32 := Scalar.addi v399 v400
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_233 : BitVec 32 := 1#32
  let v402 : BitVec 32 := Scalar.muli v8 c1_i32_233
  let v403 : BitVec 32 := Scalar.addi v401 v402
  v403.toNat
def k0_dev22 (d0 : Dev nD) : Nat :=
  let c0_i32_238 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_237 : BitVec 32 := 4#32
  let v410 : BitVec 32 := Scalar.muli v12 c4_i32_237
  let v411 : BitVec 32 := Scalar.addi c0_i32_238 v410
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_239 : BitVec 32 := 2#32
  let v412 : BitVec 32 := Scalar.muli v13 c2_i32_239
  let v413 : BitVec 32 := Scalar.addi v411 v412
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_240 : BitVec 32 := 1#32
  let v414 : BitVec 32 := Scalar.muli v8 c1_i32_240
  let v415 : BitVec 32 := Scalar.addi v413 v414
  v415.toNat
def k0_dev23 (d0 : Dev nD) : Nat :=
  let c0_i32_245 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_244 : BitVec 32 := 4#32
  let v422 : BitVec 32 := Scalar.muli v12 c4_i32_244
  let v423 : BitVec 32 := Scalar.addi c0_i32_245 v422
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_246 : BitVec 32 := 2#32
  let v424 : BitVec 32 := Scalar.muli v13 c2_i32_246
  let v425 : BitVec 32 := Scalar.addi v423 v424
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_247 : BitVec 32 := 1#32
  let v426 : BitVec 32 := Scalar.muli v8 c1_i32_247
  let v427 : BitVec 32 := Scalar.addi v425 v426
  v427.toNat
def k0_dev24 (d0 : Dev nD) : Nat :=
  let c0_i32_252 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_251 : BitVec 32 := 4#32
  let v434 : BitVec 32 := Scalar.muli v12 c4_i32_251
  let v435 : BitVec 32 := Scalar.addi c0_i32_252 v434
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_253 : BitVec 32 := 2#32
  let v436 : BitVec 32 := Scalar.muli v13 c2_i32_253
  let v437 : BitVec 32 := Scalar.addi v435 v436
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_254 : BitVec 32 := 1#32
  let v438 : BitVec 32 := Scalar.muli v8 c1_i32_254
  let v439 : BitVec 32 := Scalar.addi v437 v438
  v439.toNat
def k0_off7 (d0 : Dev nD) : Fin 3 → Nat :=
  let c4_i32_257 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v446 : BitVec 32 := Scalar.muli c4_i32_257 v10
  let c2_i32_258 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v447 : BitVec 32 := Scalar.muli c2_i32_258 v5
  let v448 : BitVec 32 := Scalar.addi v446 v447
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v449 : BitVec 32 := Scalar.addi v448 v8
  let c0_i32_265 : BitVec 32 := 0#32
  let c0_i32_266 : BitVec 32 := 0#32
  ![v449.toNat, 0, 0]
def k0_dev25 (d0 : Dev nD) : Nat :=
  let c0_i32_273 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_272 : BitVec 32 := 4#32
  let v466 : BitVec 32 := Scalar.muli v2 c4_i32_272
  let v467 : BitVec 32 := Scalar.addi c0_i32_273 v466
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_274 : BitVec 32 := 2#32
  let v468 : BitVec 32 := Scalar.muli v5 c2_i32_274
  let v469 : BitVec 32 := Scalar.addi v467 v468
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_275 : BitVec 32 := 1#32
  let v470 : BitVec 32 := Scalar.muli v9 c1_i32_275
  let v471 : BitVec 32 := Scalar.addi v469 v470
  v471.toNat
def k0_off8 (d0 : Dev nD) : Fin 3 → Nat :=
  let c4_i32_280 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v480 : BitVec 32 := Scalar.muli c4_i32_280 v10
  let c2_i32_281 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v481 : BitVec 32 := Scalar.muli c2_i32_281 v5
  let v482 : BitVec 32 := Scalar.addi v480 v481
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v483 : BitVec 32 := Scalar.addi v482 v8
  let c0_i32_288 : BitVec 32 := 0#32
  let c0_i32_289 : BitVec 32 := 0#32
  ![v483.toNat, 0, 0]
def k0_dev26 (d0 : Dev nD) : Nat :=
  let c0_i32_296 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_295 : BitVec 32 := 4#32
  let v500 : BitVec 32 := Scalar.muli v2 c4_i32_295
  let v501 : BitVec 32 := Scalar.addi c0_i32_296 v500
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_297 : BitVec 32 := 2#32
  let v502 : BitVec 32 := Scalar.muli v5 c2_i32_297
  let v503 : BitVec 32 := Scalar.addi v501 v502
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_298 : BitVec 32 := 1#32
  let v504 : BitVec 32 := Scalar.muli v9 c1_i32_298
  let v505 : BitVec 32 := Scalar.addi v503 v504
  v505.toNat
def k0_off9 (d0 : Dev nD) : Fin 3 → Nat :=
  let c4_i32_303 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v514 : BitVec 32 := Scalar.muli c4_i32_303 v10
  let c2_i32_304 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v515 : BitVec 32 := Scalar.muli c2_i32_304 v5
  let v516 : BitVec 32 := Scalar.addi v514 v515
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v517 : BitVec 32 := Scalar.addi v516 v8
  let c0_i32_311 : BitVec 32 := 0#32
  let c0_i32_312 : BitVec 32 := 0#32
  ![v517.toNat, 0, 0]
def k0_dev27 (d0 : Dev nD) : Nat :=
  let c0_i32_319 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_318 : BitVec 32 := 4#32
  let v534 : BitVec 32 := Scalar.muli v2 c4_i32_318
  let v535 : BitVec 32 := Scalar.addi c0_i32_319 v534
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_320 : BitVec 32 := 2#32
  let v536 : BitVec 32 := Scalar.muli v5 c2_i32_320
  let v537 : BitVec 32 := Scalar.addi v535 v536
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_321 : BitVec 32 := 1#32
  let v538 : BitVec 32 := Scalar.muli v9 c1_i32_321
  let v539 : BitVec 32 := Scalar.addi v537 v538
  v539.toNat
def k0_off10 (d0 : Dev nD) : Fin 3 → Nat :=
  let c4_i32_326 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v548 : BitVec 32 := Scalar.muli c4_i32_326 v10
  let c2_i32_327 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v549 : BitVec 32 := Scalar.muli c2_i32_327 v5
  let v550 : BitVec 32 := Scalar.addi v548 v549
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v551 : BitVec 32 := Scalar.addi v550 v8
  let c0_i32_334 : BitVec 32 := 0#32
  let c0_i32_335 : BitVec 32 := 0#32
  ![v551.toNat, 0, 0]
def k0_dev28 (d0 : Dev nD) : Nat :=
  let c0_i32_342 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_341 : BitVec 32 := 4#32
  let v568 : BitVec 32 := Scalar.muli v2 c4_i32_341
  let v569 : BitVec 32 := Scalar.addi c0_i32_342 v568
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_343 : BitVec 32 := 2#32
  let v570 : BitVec 32 := Scalar.muli v5 c2_i32_343
  let v571 : BitVec 32 := Scalar.addi v569 v570
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_344 : BitVec 32 := 1#32
  let v572 : BitVec 32 := Scalar.muli v9 c1_i32_344
  let v573 : BitVec 32 := Scalar.addi v571 v572
  v573.toNat
def k0_off11 (d0 : Dev nD) : Fin 3 → Nat :=
  let c4_i32_349 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v582 : BitVec 32 := Scalar.muli c4_i32_349 v10
  let c2_i32_350 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v583 : BitVec 32 := Scalar.muli c2_i32_350 v5
  let v584 : BitVec 32 := Scalar.addi v582 v583
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v585 : BitVec 32 := Scalar.addi v584 v8
  let c0_i32_357 : BitVec 32 := 0#32
  let c0_i32_358 : BitVec 32 := 0#32
  ![v585.toNat, 0, 0]
def k0_dev29 (d0 : Dev nD) : Nat :=
  let c0_i32_365 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_364 : BitVec 32 := 4#32
  let v602 : BitVec 32 := Scalar.muli v2 c4_i32_364
  let v603 : BitVec 32 := Scalar.addi c0_i32_365 v602
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_366 : BitVec 32 := 2#32
  let v604 : BitVec 32 := Scalar.muli v5 c2_i32_366
  let v605 : BitVec 32 := Scalar.addi v603 v604
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_367 : BitVec 32 := 1#32
  let v606 : BitVec 32 := Scalar.muli v9 c1_i32_367
  let v607 : BitVec 32 := Scalar.addi v605 v606
  v607.toNat
def k0_off12 (d0 : Dev nD) : Fin 3 → Nat :=
  let c4_i32_372 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v616 : BitVec 32 := Scalar.muli c4_i32_372 v10
  let c2_i32_373 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v617 : BitVec 32 := Scalar.muli c2_i32_373 v5
  let v618 : BitVec 32 := Scalar.addi v616 v617
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v619 : BitVec 32 := Scalar.addi v618 v8
  let c0_i32_380 : BitVec 32 := 0#32
  let c0_i32_381 : BitVec 32 := 0#32
  ![v619.toNat, 0, 0]
def k0_dev30 (d0 : Dev nD) : Nat :=
  let c0_i32_388 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_387 : BitVec 32 := 4#32
  let v636 : BitVec 32 := Scalar.muli v2 c4_i32_387
  let v637 : BitVec 32 := Scalar.addi c0_i32_388 v636
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_389 : BitVec 32 := 2#32
  let v638 : BitVec 32 := Scalar.muli v5 c2_i32_389
  let v639 : BitVec 32 := Scalar.addi v637 v638
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_390 : BitVec 32 := 1#32
  let v640 : BitVec 32 := Scalar.muli v9 c1_i32_390
  let v641 : BitVec 32 := Scalar.addi v639 v640
  v641.toNat
def k0_off13 (d0 : Dev nD) : Fin 3 → Nat :=
  let c4_i32_395 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v650 : BitVec 32 := Scalar.muli c4_i32_395 v2
  let c2_i32_396 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v651 : BitVec 32 := Scalar.muli c2_i32_396 v11
  let v652 : BitVec 32 := Scalar.addi v650 v651
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v653 : BitVec 32 := Scalar.addi v652 v8
  let c0_i32_403 : BitVec 32 := 0#32
  let c0_i32_404 : BitVec 32 := 0#32
  ![v653.toNat, 0, 0]
def k0_dev31 (d0 : Dev nD) : Nat :=
  let c0_i32_411 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_410 : BitVec 32 := 4#32
  let v670 : BitVec 32 := Scalar.muli v2 c4_i32_410
  let v671 : BitVec 32 := Scalar.addi c0_i32_411 v670
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_412 : BitVec 32 := 2#32
  let v672 : BitVec 32 := Scalar.muli v5 c2_i32_412
  let v673 : BitVec 32 := Scalar.addi v671 v672
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_413 : BitVec 32 := 1#32
  let v674 : BitVec 32 := Scalar.muli v9 c1_i32_413
  let v675 : BitVec 32 := Scalar.addi v673 v674
  v675.toNat
def k0_off14 (d0 : Dev nD) : Fin 3 → Nat :=
  let c4_i32_418 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v684 : BitVec 32 := Scalar.muli c4_i32_418 v2
  let c2_i32_419 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v685 : BitVec 32 := Scalar.muli c2_i32_419 v11
  let v686 : BitVec 32 := Scalar.addi v684 v685
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v687 : BitVec 32 := Scalar.addi v686 v8
  let c0_i32_426 : BitVec 32 := 0#32
  let c0_i32_427 : BitVec 32 := 0#32
  ![v687.toNat, 0, 0]
def k0_dev32 (d0 : Dev nD) : Nat :=
  let c0_i32_434 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_433 : BitVec 32 := 4#32
  let v704 : BitVec 32 := Scalar.muli v2 c4_i32_433
  let v705 : BitVec 32 := Scalar.addi c0_i32_434 v704
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_435 : BitVec 32 := 2#32
  let v706 : BitVec 32 := Scalar.muli v5 c2_i32_435
  let v707 : BitVec 32 := Scalar.addi v705 v706
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_436 : BitVec 32 := 1#32
  let v708 : BitVec 32 := Scalar.muli v9 c1_i32_436
  let v709 : BitVec 32 := Scalar.addi v707 v708
  v709.toNat
def k0_off15 (d0 : Dev nD) : Fin 3 → Nat :=
  let c4_i32_441 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v718 : BitVec 32 := Scalar.muli c4_i32_441 v2
  let c2_i32_442 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v719 : BitVec 32 := Scalar.muli c2_i32_442 v11
  let v720 : BitVec 32 := Scalar.addi v718 v719
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v721 : BitVec 32 := Scalar.addi v720 v8
  let c0_i32_449 : BitVec 32 := 0#32
  let c0_i32_450 : BitVec 32 := 0#32
  ![v721.toNat, 0, 0]
def k0_dev33 (d0 : Dev nD) : Nat :=
  let c0_i32_457 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_456 : BitVec 32 := 4#32
  let v738 : BitVec 32 := Scalar.muli v2 c4_i32_456
  let v739 : BitVec 32 := Scalar.addi c0_i32_457 v738
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_458 : BitVec 32 := 2#32
  let v740 : BitVec 32 := Scalar.muli v5 c2_i32_458
  let v741 : BitVec 32 := Scalar.addi v739 v740
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_459 : BitVec 32 := 1#32
  let v742 : BitVec 32 := Scalar.muli v9 c1_i32_459
  let v743 : BitVec 32 := Scalar.addi v741 v742
  v743.toNat
def k0_off16 (d0 : Dev nD) : Fin 3 → Nat :=
  let c4_i32_464 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v752 : BitVec 32 := Scalar.muli c4_i32_464 v2
  let c2_i32_465 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v753 : BitVec 32 := Scalar.muli c2_i32_465 v11
  let v754 : BitVec 32 := Scalar.addi v752 v753
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v755 : BitVec 32 := Scalar.addi v754 v8
  let c0_i32_472 : BitVec 32 := 0#32
  let c0_i32_473 : BitVec 32 := 0#32
  ![v755.toNat, 0, 0]
def k0_dev34 (d0 : Dev nD) : Nat :=
  let c0_i32_480 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_479 : BitVec 32 := 4#32
  let v772 : BitVec 32 := Scalar.muli v2 c4_i32_479
  let v773 : BitVec 32 := Scalar.addi c0_i32_480 v772
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_481 : BitVec 32 := 2#32
  let v774 : BitVec 32 := Scalar.muli v5 c2_i32_481
  let v775 : BitVec 32 := Scalar.addi v773 v774
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_482 : BitVec 32 := 1#32
  let v776 : BitVec 32 := Scalar.muli v9 c1_i32_482
  let v777 : BitVec 32 := Scalar.addi v775 v776
  v777.toNat
def k0_off17 (d0 : Dev nD) : Fin 3 → Nat :=
  let c4_i32_487 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v786 : BitVec 32 := Scalar.muli c4_i32_487 v2
  let c2_i32_488 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v787 : BitVec 32 := Scalar.muli c2_i32_488 v11
  let v788 : BitVec 32 := Scalar.addi v786 v787
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v789 : BitVec 32 := Scalar.addi v788 v8
  let c0_i32_495 : BitVec 32 := 0#32
  let c0_i32_496 : BitVec 32 := 0#32
  ![v789.toNat, 0, 0]
def k0_dev35 (d0 : Dev nD) : Nat :=
  let c0_i32_503 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_502 : BitVec 32 := 4#32
  let v806 : BitVec 32 := Scalar.muli v2 c4_i32_502
  let v807 : BitVec 32 := Scalar.addi c0_i32_503 v806
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_504 : BitVec 32 := 2#32
  let v808 : BitVec 32 := Scalar.muli v5 c2_i32_504
  let v809 : BitVec 32 := Scalar.addi v807 v808
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_505 : BitVec 32 := 1#32
  let v810 : BitVec 32 := Scalar.muli v9 c1_i32_505
  let v811 : BitVec 32 := Scalar.addi v809 v810
  v811.toNat
def k0_off18 (d0 : Dev nD) : Fin 3 → Nat :=
  let c4_i32_510 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v820 : BitVec 32 := Scalar.muli c4_i32_510 v2
  let c2_i32_511 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v821 : BitVec 32 := Scalar.muli c2_i32_511 v11
  let v822 : BitVec 32 := Scalar.addi v820 v821
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v823 : BitVec 32 := Scalar.addi v822 v8
  let c0_i32_518 : BitVec 32 := 0#32
  let c0_i32_519 : BitVec 32 := 0#32
  ![v823.toNat, 0, 0]
def k0_dev36 (d0 : Dev nD) : Nat :=
  let c0_i32_526 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_525 : BitVec 32 := 4#32
  let v840 : BitVec 32 := Scalar.muli v2 c4_i32_525
  let v841 : BitVec 32 := Scalar.addi c0_i32_526 v840
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_527 : BitVec 32 := 2#32
  let v842 : BitVec 32 := Scalar.muli v5 c2_i32_527
  let v843 : BitVec 32 := Scalar.addi v841 v842
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_528 : BitVec 32 := 1#32
  let v844 : BitVec 32 := Scalar.muli v9 c1_i32_528
  let v845 : BitVec 32 := Scalar.addi v843 v844
  v845.toNat
def k0_off19 (d0 : Dev nD) : Fin 3 → Nat :=
  let c4_i32_533 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v854 : BitVec 32 := Scalar.muli c4_i32_533 v12
  let c2_i32_534 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v855 : BitVec 32 := Scalar.muli c2_i32_534 v13
  let v856 : BitVec 32 := Scalar.addi v854 v855
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v857 : BitVec 32 := Scalar.addi v856 v8
  let c0_i32_541 : BitVec 32 := 0#32
  let c0_i32_542 : BitVec 32 := 0#32
  ![v857.toNat, 0, 0]
def k0_dev37 (d0 : Dev nD) : Nat :=
  let c0_i32_549 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_548 : BitVec 32 := 4#32
  let v874 : BitVec 32 := Scalar.muli v2 c4_i32_548
  let v875 : BitVec 32 := Scalar.addi c0_i32_549 v874
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_550 : BitVec 32 := 2#32
  let v876 : BitVec 32 := Scalar.muli v5 c2_i32_550
  let v877 : BitVec 32 := Scalar.addi v875 v876
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_551 : BitVec 32 := 1#32
  let v878 : BitVec 32 := Scalar.muli v9 c1_i32_551
  let v879 : BitVec 32 := Scalar.addi v877 v878
  v879.toNat
def k0_off20 (d0 : Dev nD) : Fin 3 → Nat :=
  let c4_i32_556 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v888 : BitVec 32 := Scalar.muli c4_i32_556 v12
  let c2_i32_557 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v889 : BitVec 32 := Scalar.muli c2_i32_557 v13
  let v890 : BitVec 32 := Scalar.addi v888 v889
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v891 : BitVec 32 := Scalar.addi v890 v8
  let c0_i32_564 : BitVec 32 := 0#32
  let c0_i32_565 : BitVec 32 := 0#32
  ![v891.toNat, 0, 0]
def k0_dev38 (d0 : Dev nD) : Nat :=
  let c0_i32_572 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_571 : BitVec 32 := 4#32
  let v908 : BitVec 32 := Scalar.muli v2 c4_i32_571
  let v909 : BitVec 32 := Scalar.addi c0_i32_572 v908
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_573 : BitVec 32 := 2#32
  let v910 : BitVec 32 := Scalar.muli v5 c2_i32_573
  let v911 : BitVec 32 := Scalar.addi v909 v910
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_574 : BitVec 32 := 1#32
  let v912 : BitVec 32 := Scalar.muli v9 c1_i32_574
  let v913 : BitVec 32 := Scalar.addi v911 v912
  v913.toNat
def k0_off21 (d0 : Dev nD) : Fin 3 → Nat :=
  let c4_i32_579 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v922 : BitVec 32 := Scalar.muli c4_i32_579 v12
  let c2_i32_580 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v923 : BitVec 32 := Scalar.muli c2_i32_580 v13
  let v924 : BitVec 32 := Scalar.addi v922 v923
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v925 : BitVec 32 := Scalar.addi v924 v8
  let c0_i32_587 : BitVec 32 := 0#32
  let c0_i32_588 : BitVec 32 := 0#32
  ![v925.toNat, 0, 0]
def k0_dev39 (d0 : Dev nD) : Nat :=
  let c0_i32_595 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_594 : BitVec 32 := 4#32
  let v942 : BitVec 32 := Scalar.muli v2 c4_i32_594
  let v943 : BitVec 32 := Scalar.addi c0_i32_595 v942
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_596 : BitVec 32 := 2#32
  let v944 : BitVec 32 := Scalar.muli v5 c2_i32_596
  let v945 : BitVec 32 := Scalar.addi v943 v944
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_597 : BitVec 32 := 1#32
  let v946 : BitVec 32 := Scalar.muli v9 c1_i32_597
  let v947 : BitVec 32 := Scalar.addi v945 v946
  v947.toNat
def k0_off22 (d0 : Dev nD) : Fin 3 → Nat :=
  let c4_i32_602 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v956 : BitVec 32 := Scalar.muli c4_i32_602 v12
  let c2_i32_603 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v957 : BitVec 32 := Scalar.muli c2_i32_603 v13
  let v958 : BitVec 32 := Scalar.addi v956 v957
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v959 : BitVec 32 := Scalar.addi v958 v8
  let c0_i32_610 : BitVec 32 := 0#32
  let c0_i32_611 : BitVec 32 := 0#32
  ![v959.toNat, 0, 0]
def k0_dev40 (d0 : Dev nD) : Nat :=
  let c0_i32_618 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_617 : BitVec 32 := 4#32
  let v976 : BitVec 32 := Scalar.muli v2 c4_i32_617
  let v977 : BitVec 32 := Scalar.addi c0_i32_618 v976
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_619 : BitVec 32 := 2#32
  let v978 : BitVec 32 := Scalar.muli v5 c2_i32_619
  let v979 : BitVec 32 := Scalar.addi v977 v978
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_620 : BitVec 32 := 1#32
  let v980 : BitVec 32 := Scalar.muli v9 c1_i32_620
  let v981 : BitVec 32 := Scalar.addi v979 v980
  v981.toNat
def k0_off23 (d0 : Dev nD) : Fin 3 → Nat :=
  let c4_i32_625 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v990 : BitVec 32 := Scalar.muli c4_i32_625 v12
  let c2_i32_626 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v991 : BitVec 32 := Scalar.muli c2_i32_626 v13
  let v992 : BitVec 32 := Scalar.addi v990 v991
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v993 : BitVec 32 := Scalar.addi v992 v8
  let c0_i32_633 : BitVec 32 := 0#32
  let c0_i32_634 : BitVec 32 := 0#32
  ![v993.toNat, 0, 0]
def k0_dev41 (d0 : Dev nD) : Nat :=
  let c0_i32_641 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_640 : BitVec 32 := 4#32
  let v1010 : BitVec 32 := Scalar.muli v2 c4_i32_640
  let v1011 : BitVec 32 := Scalar.addi c0_i32_641 v1010
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_642 : BitVec 32 := 2#32
  let v1012 : BitVec 32 := Scalar.muli v5 c2_i32_642
  let v1013 : BitVec 32 := Scalar.addi v1011 v1012
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_643 : BitVec 32 := 1#32
  let v1014 : BitVec 32 := Scalar.muli v9 c1_i32_643
  let v1015 : BitVec 32 := Scalar.addi v1013 v1014
  v1015.toNat
def k0_off24 (d0 : Dev nD) : Fin 3 → Nat :=
  let c4_i32_648 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1024 : BitVec 32 := Scalar.muli c4_i32_648 v12
  let c2_i32_649 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1025 : BitVec 32 := Scalar.muli c2_i32_649 v13
  let v1026 : BitVec 32 := Scalar.addi v1024 v1025
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1027 : BitVec 32 := Scalar.addi v1026 v8
  let c0_i32_656 : BitVec 32 := 0#32
  let c0_i32_657 : BitVec 32 := 0#32
  ![v1027.toNat, 0, 0]
def k0_dev42 (d0 : Dev nD) : Nat :=
  let c0_i32_664 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_663 : BitVec 32 := 4#32
  let v1044 : BitVec 32 := Scalar.muli v2 c4_i32_663
  let v1045 : BitVec 32 := Scalar.addi c0_i32_664 v1044
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_665 : BitVec 32 := 2#32
  let v1046 : BitVec 32 := Scalar.muli v5 c2_i32_665
  let v1047 : BitVec 32 := Scalar.addi v1045 v1046
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_666 : BitVec 32 := 1#32
  let v1048 : BitVec 32 := Scalar.muli v9 c1_i32_666
  let v1049 : BitVec 32 := Scalar.addi v1047 v1048
  v1049.toNat
def k0_off25 (d0 : Dev nD) : Fin 3 → Nat :=
  let c4_i32_671 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1058 : BitVec 32 := Scalar.muli c4_i32_671 v2
  let c2_i32_672 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1059 : BitVec 32 := Scalar.muli c2_i32_672 v5
  let v1060 : BitVec 32 := Scalar.addi v1058 v1059
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1061 : BitVec 32 := Scalar.addi v1060 v9
  let c0_i32_679 : BitVec 32 := 0#32
  let c0_i32_680 : BitVec 32 := 0#32
  ![v1061.toNat, 0, 0]
def k0_off26 (d0 : Dev nD) : Fin 3 → Nat :=
  let c4_i32_683 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1074 : BitVec 32 := Scalar.muli c4_i32_683 v2
  let c2_i32_684 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1075 : BitVec 32 := Scalar.muli c2_i32_684 v5
  let v1076 : BitVec 32 := Scalar.addi v1074 v1075
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1077 : BitVec 32 := Scalar.addi v1076 v9
  let c0_i32_691 : BitVec 32 := 0#32
  let c0_i32_692 : BitVec 32 := 0#32
  ![v1077.toNat, 0, 0]
def k0_off27 (d0 : Dev nD) : Fin 3 → Nat :=
  let c4_i32_695 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1090 : BitVec 32 := Scalar.muli c4_i32_695 v2
  let c2_i32_696 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1091 : BitVec 32 := Scalar.muli c2_i32_696 v5
  let v1092 : BitVec 32 := Scalar.addi v1090 v1091
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1093 : BitVec 32 := Scalar.addi v1092 v9
  let c0_i32_703 : BitVec 32 := 0#32
  let c0_i32_704 : BitVec 32 := 0#32
  ![v1093.toNat, 0, 0]
def k0_off28 (d0 : Dev nD) : Fin 3 → Nat :=
  let c4_i32_707 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1106 : BitVec 32 := Scalar.muli c4_i32_707 v2
  let c2_i32_708 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1107 : BitVec 32 := Scalar.muli c2_i32_708 v5
  let v1108 : BitVec 32 := Scalar.addi v1106 v1107
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1109 : BitVec 32 := Scalar.addi v1108 v9
  let c0_i32_715 : BitVec 32 := 0#32
  let c0_i32_716 : BitVec 32 := 0#32
  ![v1109.toNat, 0, 0]
def k0_off29 (d0 : Dev nD) : Fin 3 → Nat :=
  let c4_i32_719 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1122 : BitVec 32 := Scalar.muli c4_i32_719 v2
  let c2_i32_720 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1123 : BitVec 32 := Scalar.muli c2_i32_720 v5
  let v1124 : BitVec 32 := Scalar.addi v1122 v1123
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1125 : BitVec 32 := Scalar.addi v1124 v9
  let c0_i32_727 : BitVec 32 := 0#32
  let c0_i32_728 : BitVec 32 := 0#32
  ![v1125.toNat, 0, 0]
def k0_off30 (d0 : Dev nD) : Fin 3 → Nat :=
  let c4_i32_731 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1138 : BitVec 32 := Scalar.muli c4_i32_731 v2
  let c2_i32_732 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1139 : BitVec 32 := Scalar.muli c2_i32_732 v5
  let v1140 : BitVec 32 := Scalar.addi v1138 v1139
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1141 : BitVec 32 := Scalar.addi v1140 v9
  let c0_i32_739 : BitVec 32 := 0#32
  let c0_i32_740 : BitVec 32 := 0#32
  ![v1141.toNat, 0, 0]
def k0_off31 (d0 : Dev nD) : Fin 3 → Nat :=
  let c4_i32_744 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1155 : BitVec 32 := Scalar.muli c4_i32_744 v10
  let c2_i32_745 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1156 : BitVec 32 := Scalar.muli c2_i32_745 v5
  let v1157 : BitVec 32 := Scalar.addi v1155 v1156
  let c1_i32_743 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1154 : BitVec 32 := Scalar.subi c1_i32_743 v8
  let v1158 : BitVec 32 := Scalar.addi v1157 v1154
  let c0_i32_752 : BitVec 32 := 0#32
  let c0_i32_753 : BitVec 32 := 0#32
  ![v1158.toNat, 0, 0]
def k0_off32 (d0 : Dev nD) : Fin 3 → Nat :=
  let c4_i32_757 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1172 : BitVec 32 := Scalar.muli c4_i32_757 v10
  let c2_i32_758 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1173 : BitVec 32 := Scalar.muli c2_i32_758 v5
  let v1174 : BitVec 32 := Scalar.addi v1172 v1173
  let c1_i32_756 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1171 : BitVec 32 := Scalar.subi c1_i32_756 v8
  let v1175 : BitVec 32 := Scalar.addi v1174 v1171
  let c0_i32_765 : BitVec 32 := 0#32
  let c0_i32_766 : BitVec 32 := 0#32
  ![v1175.toNat, 0, 0]
def k0_off33 (d0 : Dev nD) : Fin 3 → Nat :=
  let c4_i32_770 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1189 : BitVec 32 := Scalar.muli c4_i32_770 v10
  let c2_i32_771 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1190 : BitVec 32 := Scalar.muli c2_i32_771 v5
  let v1191 : BitVec 32 := Scalar.addi v1189 v1190
  let c1_i32_769 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1188 : BitVec 32 := Scalar.subi c1_i32_769 v8
  let v1192 : BitVec 32 := Scalar.addi v1191 v1188
  let c0_i32_778 : BitVec 32 := 0#32
  let c0_i32_779 : BitVec 32 := 0#32
  ![v1192.toNat, 0, 0]
def k0_off34 (d0 : Dev nD) : Fin 3 → Nat :=
  let c4_i32_783 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1206 : BitVec 32 := Scalar.muli c4_i32_783 v10
  let c2_i32_784 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1207 : BitVec 32 := Scalar.muli c2_i32_784 v5
  let v1208 : BitVec 32 := Scalar.addi v1206 v1207
  let c1_i32_782 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1205 : BitVec 32 := Scalar.subi c1_i32_782 v8
  let v1209 : BitVec 32 := Scalar.addi v1208 v1205
  let c0_i32_791 : BitVec 32 := 0#32
  let c0_i32_792 : BitVec 32 := 0#32
  ![v1209.toNat, 0, 0]
def k0_off35 (d0 : Dev nD) : Fin 3 → Nat :=
  let c4_i32_796 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1223 : BitVec 32 := Scalar.muli c4_i32_796 v10
  let c2_i32_797 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1224 : BitVec 32 := Scalar.muli c2_i32_797 v5
  let v1225 : BitVec 32 := Scalar.addi v1223 v1224
  let c1_i32_795 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1222 : BitVec 32 := Scalar.subi c1_i32_795 v8
  let v1226 : BitVec 32 := Scalar.addi v1225 v1222
  let c0_i32_804 : BitVec 32 := 0#32
  let c0_i32_805 : BitVec 32 := 0#32
  ![v1226.toNat, 0, 0]
def k0_off36 (d0 : Dev nD) : Fin 3 → Nat :=
  let c4_i32_809 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1240 : BitVec 32 := Scalar.muli c4_i32_809 v10
  let c2_i32_810 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1241 : BitVec 32 := Scalar.muli c2_i32_810 v5
  let v1242 : BitVec 32 := Scalar.addi v1240 v1241
  let c1_i32_808 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1239 : BitVec 32 := Scalar.subi c1_i32_808 v8
  let v1243 : BitVec 32 := Scalar.addi v1242 v1239
  let c0_i32_817 : BitVec 32 := 0#32
  let c0_i32_818 : BitVec 32 := 0#32
  ![v1243.toNat, 0, 0]
def k0_off37 (d0 : Dev nD) : Fin 3 → Nat :=
  let c4_i32_822 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1257 : BitVec 32 := Scalar.muli c4_i32_822 v2
  let c2_i32_823 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1258 : BitVec 32 := Scalar.muli c2_i32_823 v11
  let v1259 : BitVec 32 := Scalar.addi v1257 v1258
  let c1_i32_821 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1256 : BitVec 32 := Scalar.subi c1_i32_821 v8
  let v1260 : BitVec 32 := Scalar.addi v1259 v1256
  let c0_i32_830 : BitVec 32 := 0#32
  let c0_i32_831 : BitVec 32 := 0#32
  ![v1260.toNat, 0, 0]
def k0_off38 (d0 : Dev nD) : Fin 3 → Nat :=
  let c4_i32_835 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1274 : BitVec 32 := Scalar.muli c4_i32_835 v2
  let c2_i32_836 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1275 : BitVec 32 := Scalar.muli c2_i32_836 v11
  let v1276 : BitVec 32 := Scalar.addi v1274 v1275
  let c1_i32_834 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1273 : BitVec 32 := Scalar.subi c1_i32_834 v8
  let v1277 : BitVec 32 := Scalar.addi v1276 v1273
  let c0_i32_843 : BitVec 32 := 0#32
  let c0_i32_844 : BitVec 32 := 0#32
  ![v1277.toNat, 0, 0]
def k0_off39 (d0 : Dev nD) : Fin 3 → Nat :=
  let c4_i32_848 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1291 : BitVec 32 := Scalar.muli c4_i32_848 v2
  let c2_i32_849 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1292 : BitVec 32 := Scalar.muli c2_i32_849 v11
  let v1293 : BitVec 32 := Scalar.addi v1291 v1292
  let c1_i32_847 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1290 : BitVec 32 := Scalar.subi c1_i32_847 v8
  let v1294 : BitVec 32 := Scalar.addi v1293 v1290
  let c0_i32_856 : BitVec 32 := 0#32
  let c0_i32_857 : BitVec 32 := 0#32
  ![v1294.toNat, 0, 0]
def k0_off40 (d0 : Dev nD) : Fin 3 → Nat :=
  let c4_i32_861 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1308 : BitVec 32 := Scalar.muli c4_i32_861 v2
  let c2_i32_862 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1309 : BitVec 32 := Scalar.muli c2_i32_862 v11
  let v1310 : BitVec 32 := Scalar.addi v1308 v1309
  let c1_i32_860 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1307 : BitVec 32 := Scalar.subi c1_i32_860 v8
  let v1311 : BitVec 32 := Scalar.addi v1310 v1307
  let c0_i32_869 : BitVec 32 := 0#32
  let c0_i32_870 : BitVec 32 := 0#32
  ![v1311.toNat, 0, 0]
def k0_off41 (d0 : Dev nD) : Fin 3 → Nat :=
  let c4_i32_874 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1325 : BitVec 32 := Scalar.muli c4_i32_874 v2
  let c2_i32_875 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1326 : BitVec 32 := Scalar.muli c2_i32_875 v11
  let v1327 : BitVec 32 := Scalar.addi v1325 v1326
  let c1_i32_873 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1324 : BitVec 32 := Scalar.subi c1_i32_873 v8
  let v1328 : BitVec 32 := Scalar.addi v1327 v1324
  let c0_i32_882 : BitVec 32 := 0#32
  let c0_i32_883 : BitVec 32 := 0#32
  ![v1328.toNat, 0, 0]
def k0_off42 (d0 : Dev nD) : Fin 3 → Nat :=
  let c4_i32_887 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1342 : BitVec 32 := Scalar.muli c4_i32_887 v2
  let c2_i32_888 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1343 : BitVec 32 := Scalar.muli c2_i32_888 v11
  let v1344 : BitVec 32 := Scalar.addi v1342 v1343
  let c1_i32_886 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1341 : BitVec 32 := Scalar.subi c1_i32_886 v8
  let v1345 : BitVec 32 := Scalar.addi v1344 v1341
  let c0_i32_895 : BitVec 32 := 0#32
  let c0_i32_896 : BitVec 32 := 0#32
  ![v1345.toNat, 0, 0]
def k0_off43 (d0 : Dev nD) : Fin 3 → Nat :=
  let c4_i32_900 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1359 : BitVec 32 := Scalar.muli c4_i32_900 v12
  let c2_i32_901 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1360 : BitVec 32 := Scalar.muli c2_i32_901 v13
  let v1361 : BitVec 32 := Scalar.addi v1359 v1360
  let c1_i32_899 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1358 : BitVec 32 := Scalar.subi c1_i32_899 v8
  let v1362 : BitVec 32 := Scalar.addi v1361 v1358
  let c0_i32_908 : BitVec 32 := 0#32
  let c0_i32_909 : BitVec 32 := 0#32
  ![v1362.toNat, 0, 0]
def k0_off44 (d0 : Dev nD) : Fin 3 → Nat :=
  let c4_i32_913 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1376 : BitVec 32 := Scalar.muli c4_i32_913 v12
  let c2_i32_914 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1377 : BitVec 32 := Scalar.muli c2_i32_914 v13
  let v1378 : BitVec 32 := Scalar.addi v1376 v1377
  let c1_i32_912 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1375 : BitVec 32 := Scalar.subi c1_i32_912 v8
  let v1379 : BitVec 32 := Scalar.addi v1378 v1375
  let c0_i32_921 : BitVec 32 := 0#32
  let c0_i32_922 : BitVec 32 := 0#32
  ![v1379.toNat, 0, 0]
def k0_off45 (d0 : Dev nD) : Fin 3 → Nat :=
  let c4_i32_926 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1393 : BitVec 32 := Scalar.muli c4_i32_926 v12
  let c2_i32_927 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1394 : BitVec 32 := Scalar.muli c2_i32_927 v13
  let v1395 : BitVec 32 := Scalar.addi v1393 v1394
  let c1_i32_925 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1392 : BitVec 32 := Scalar.subi c1_i32_925 v8
  let v1396 : BitVec 32 := Scalar.addi v1395 v1392
  let c0_i32_934 : BitVec 32 := 0#32
  let c0_i32_935 : BitVec 32 := 0#32
  ![v1396.toNat, 0, 0]
def k0_off46 (d0 : Dev nD) : Fin 3 → Nat :=
  let c4_i32_939 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1410 : BitVec 32 := Scalar.muli c4_i32_939 v12
  let c2_i32_940 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1411 : BitVec 32 := Scalar.muli c2_i32_940 v13
  let v1412 : BitVec 32 := Scalar.addi v1410 v1411
  let c1_i32_938 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1409 : BitVec 32 := Scalar.subi c1_i32_938 v8
  let v1413 : BitVec 32 := Scalar.addi v1412 v1409
  let c0_i32_947 : BitVec 32 := 0#32
  let c0_i32_948 : BitVec 32 := 0#32
  ![v1413.toNat, 0, 0]
def k0_off47 (d0 : Dev nD) : Fin 3 → Nat :=
  let c4_i32_952 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1427 : BitVec 32 := Scalar.muli c4_i32_952 v12
  let c2_i32_953 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1428 : BitVec 32 := Scalar.muli c2_i32_953 v13
  let v1429 : BitVec 32 := Scalar.addi v1427 v1428
  let c1_i32_951 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1426 : BitVec 32 := Scalar.subi c1_i32_951 v8
  let v1430 : BitVec 32 := Scalar.addi v1429 v1426
  let c0_i32_960 : BitVec 32 := 0#32
  let c0_i32_961 : BitVec 32 := 0#32
  ![v1430.toNat, 0, 0]
def k0_off48 (d0 : Dev nD) : Fin 3 → Nat :=
  let c4_i32_965 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1444 : BitVec 32 := Scalar.muli c4_i32_965 v12
  let c2_i32_966 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1445 : BitVec 32 := Scalar.muli c2_i32_966 v13
  let v1446 : BitVec 32 := Scalar.addi v1444 v1445
  let c1_i32_964 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1443 : BitVec 32 := Scalar.subi c1_i32_964 v8
  let v1447 : BitVec 32 := Scalar.addi v1446 v1443
  let c0_i32_973 : BitVec 32 := 0#32
  let c0_i32_974 : BitVec 32 := 0#32
  ![v1447.toNat, 0, 0]
-- ==== SmallRef.lean ====
abbrev S768x128 : Shape := ⟨2, ![768, 128]⟩
abbrev S8x96x128 : Shape := ⟨3, ![8, 96, 128]⟩

abbrev nBuf : Space → Nat
  | .hbm => 2
  | .vmem => 0
  | .smem => 0
  | _ => 0

abbrev bufTy : (tb : Table) → Fin (tcTables nBuf tb) → BufTy
  | .hbm, ⟨0, _⟩ => ⟨S768x128, .f32⟩
  | .hbm, ⟨1, _⟩ => ⟨S8x96x128, .f32⟩
  | _, _ => ⟨S768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== ScatterRef.lean ====
abbrev S64x2048x1196 : Shape := ⟨3, ![64, 2048, 1196]⟩
abbrev S64x1024x192 : Shape := ⟨3, ![64, 1024, 192]⟩
abbrev S64x512x256 : Shape := ⟨3, ![64, 512, 256]⟩
abbrev S64x2048x1024 : Shape := ⟨3, ![64, 2048, 1024]⟩
abbrev S64x2048x512 : Shape := ⟨3, ![64, 2048, 512]⟩
abbrev S64x32x128 : Shape := ⟨3, ![64, 32, 128]⟩
abbrev S8x8x2048x1196 : Shape := ⟨4, ![8, 8, 2048, 1196]⟩
abbrev S8x8x1024x192 : Shape := ⟨4, ![8, 8, 1024, 192]⟩
abbrev S8x8x512x256 : Shape := ⟨4, ![8, 8, 512, 256]⟩
abbrev S8x8x2048x1024 : Shape := ⟨4, ![8, 8, 2048, 1024]⟩
abbrev S8x8x2048x512 : Shape := ⟨4, ![8, 8, 2048, 512]⟩
abbrev S8x8x32x128 : Shape := ⟨4, ![8, 8, 32, 128]⟩

abbrev nBuf : Space → Nat
  | .hbm => 24
  | .vmem => 0
  | .smem => 0
  | _ => 0

abbrev bufTy : (tb : Table) → Fin (tcTables nBuf tb) → BufTy
  | .hbm, ⟨0, _⟩ => ⟨S64x2048x1196, .bf16⟩
  | .hbm, ⟨1, _⟩ => ⟨S64x1024x192, .bf16⟩
  | .hbm, ⟨2, _⟩ => ⟨S64x512x256, .bf16⟩
  | .hbm, ⟨3, _⟩ => ⟨S64x2048x1024, .bf16⟩
  | .hbm, ⟨4, _⟩ => ⟨S64x2048x512, .bf16⟩
  | .hbm, ⟨5, _⟩ => ⟨S64x32x128, .f32⟩
  | .hbm, ⟨6, _⟩ => ⟨S8x8x2048x1196, .bf16⟩
  | .hbm, ⟨7, _⟩ => ⟨S8x8x2048x1196, .bf16⟩
  | .hbm, ⟨8, _⟩ => ⟨S64x2048x1196, .bf16⟩
  | .hbm, ⟨9, _⟩ => ⟨S8x8x1024x192, .bf16⟩
  | .hbm, ⟨10, _⟩ => ⟨S8x8x1024x192, .bf16⟩
  | .hbm, ⟨11, _⟩ => ⟨S64x1024x192, .bf16⟩
  | .hbm, ⟨12, _⟩ => ⟨S8x8x512x256, .bf16⟩
  | .hbm, ⟨13, _⟩ => ⟨S8x8x512x256, .bf16⟩
  | .hbm, ⟨14, _⟩ => ⟨S64x512x256, .bf16⟩
  | .hbm, ⟨15, _⟩ => ⟨S8x8x2048x1024, .bf16⟩
  | .hbm, ⟨16, _⟩ => ⟨S8x8x2048x1024, .bf16⟩
  | .hbm, ⟨17, _⟩ => ⟨S64x2048x1024, .bf16⟩
  | .hbm, ⟨18, _⟩ => ⟨S8x8x2048x512, .bf16⟩
  | .hbm, ⟨19, _⟩ => ⟨S8x8x2048x512, .bf16⟩
  | .hbm, ⟨20, _⟩ => ⟨S64x2048x512, .bf16⟩
  | .hbm, ⟨21, _⟩ => ⟨S8x8x32x128, .f32⟩
  | .hbm, ⟨22, _⟩ => ⟨S8x8x32x128, .f32⟩
  | .hbm, ⟨23, _⟩ => ⟨S64x32x128, .f32⟩
  | _, _ => ⟨S64x2048x1196, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== GatherRef.lean ====
abbrev S16384x1196 : Shape := ⟨2, ![16384, 1196]⟩
abbrev S8192x192 : Shape := ⟨2, ![8192, 192]⟩
abbrev S4096x256 : Shape := ⟨2, ![4096, 256]⟩
abbrev S16384x1024 : Shape := ⟨2, ![16384, 1024]⟩
abbrev S16384x512 : Shape := ⟨2, ![16384, 512]⟩
abbrev S256x128 : Shape := ⟨2, ![256, 128]⟩
abbrev S8x2048x1196 : Shape := ⟨3, ![8, 2048, 1196]⟩
abbrev S8x1024x192 : Shape := ⟨3, ![8, 1024, 192]⟩
abbrev S8x512x256 : Shape := ⟨3, ![8, 512, 256]⟩
abbrev S8x2048x1024 : Shape := ⟨3, ![8, 2048, 1024]⟩
abbrev S8x2048x512 : Shape := ⟨3, ![8, 2048, 512]⟩
abbrev S8x32x128 : Shape := ⟨3, ![8, 32, 128]⟩

abbrev nBuf : Space → Nat
  | .hbm => 12
  | .vmem => 0
  | .smem => 0
  | _ => 0

abbrev bufTy : (tb : Table) → Fin (tcTables nBuf tb) → BufTy
  | .hbm, ⟨0, _⟩ => ⟨S16384x1196, .bf16⟩
  | .hbm, ⟨1, _⟩ => ⟨S8192x192, .bf16⟩
  | .hbm, ⟨2, _⟩ => ⟨S4096x256, .bf16⟩
  | .hbm, ⟨3, _⟩ => ⟨S16384x1024, .bf16⟩
  | .hbm, ⟨4, _⟩ => ⟨S16384x512, .bf16⟩
  | .hbm, ⟨5, _⟩ => ⟨S256x128, .f32⟩
  | .hbm, ⟨6, _⟩ => ⟨S8x2048x1196, .bf16⟩
  | .hbm, ⟨7, _⟩ => ⟨S8x1024x192, .bf16⟩
  | .hbm, ⟨8, _⟩ => ⟨S8x512x256, .bf16⟩
  | .hbm, ⟨9, _⟩ => ⟨S8x2048x1024, .bf16⟩
  | .hbm, ⟨10, _⟩ => ⟨S8x2048x512, .bf16⟩
  | .hbm, ⟨11, _⟩ => ⟨S8x32x128, .f32⟩
  | _, _ => ⟨S16384x1196, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== AdamIn.lean ====
abbrev S2048x1196 : Shape := ⟨2, ![2048, 1196]⟩
abbrev S8x2048x1196 : Shape := ⟨3, ![8, 2048, 1196]⟩
abbrev S128x1196 : Shape := ⟨2, ![128, 1196]⟩
abbrev S8x128x1196 : Shape := ⟨3, ![8, 128, 1196]⟩
abbrev S1x128x1196 : Shape := ⟨3, ![1, 128, 1196]⟩

abbrev nBuf : Space → Nat
  | .hbm => 8
  | .vmem => 16
  | .smem => 0
  | _ => 0

abbrev bufTy : (tb : Table) → Fin (tcTables nBuf tb) → BufTy
  | .hbm, ⟨0, _⟩ => ⟨S2048x1196, .f32⟩
  | .hbm, ⟨1, _⟩ => ⟨S8x2048x1196, .bf16⟩
  | .hbm, ⟨2, _⟩ => ⟨S2048x1196, .f32⟩
  | .hbm, ⟨3, _⟩ => ⟨S2048x1196, .f32⟩
  | .hbm, ⟨4, _⟩ => ⟨S2048x1196, .f32⟩
  | .hbm, ⟨5, _⟩ => ⟨S2048x1196, .f32⟩
  | .hbm, ⟨6, _⟩ => ⟨S2048x1196, .f32⟩
  | .hbm, ⟨7, _⟩ => ⟨S2048x1196, .f32⟩
  | .local _ .vmem, ⟨0, _⟩ => ⟨S128x1196, .f32⟩
  | .local _ .vmem, ⟨1, _⟩ => ⟨S128x1196, .f32⟩
  | .local _ .vmem, ⟨2, _⟩ => ⟨S8x128x1196, .bf16⟩
  | .local _ .vmem, ⟨3, _⟩ => ⟨S8x128x1196, .bf16⟩
  | .local _ .vmem, ⟨4, _⟩ => ⟨S128x1196, .f32⟩
  | .local _ .vmem, ⟨5, _⟩ => ⟨S128x1196, .f32⟩
  | .local _ .vmem, ⟨6, _⟩ => ⟨S128x1196, .f32⟩
  | .local _ .vmem, ⟨7, _⟩ => ⟨S128x1196, .f32⟩
  | .local _ .vmem, ⟨8, _⟩ => ⟨S128x1196, .f32⟩
  | .local _ .vmem, ⟨9, _⟩ => ⟨S128x1196, .f32⟩
  | .local _ .vmem, ⟨10, _⟩ => ⟨S128x1196, .f32⟩
  | .local _ .vmem, ⟨11, _⟩ => ⟨S128x1196, .f32⟩
  | .local _ .vmem, ⟨12, _⟩ => ⟨S128x1196, .f32⟩
  | .local _ .vmem, ⟨13, _⟩ => ⟨S128x1196, .f32⟩
  | .local _ .vmem, ⟨14, _⟩ => ⟨S128x1196, .f32⟩
  | .local _ .vmem, ⟨15, _⟩ => ⟨S128x1196, .f32⟩
  | _, _ => ⟨S2048x1196, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1196 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1196 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1196 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1196 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1196 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1196 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1196 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S2048x1196 : Shape := ⟨2, ![2048, 1196]⟩
abbrev S8x2048x1196 : Shape := ⟨3, ![8, 2048, 1196]⟩
abbrev S128x1196 : Shape := ⟨2, ![128, 1196]⟩
abbrev S8x128x1196 : Shape := ⟨3, ![8, 128, 1196]⟩
abbrev S1x128x1196 : Shape := ⟨3, ![1, 128, 1196]⟩

abbrev nBuf : Space → Nat
  | .hbm => 8
  | .vmem => 16
  | .smem => 0
  | _ => 0

abbrev bufTy : (tb : Table) → Fin (tcTables nBuf tb) → BufTy
  | .hbm, ⟨0, _⟩ => ⟨S2048x1196, .f32⟩
  | .hbm, ⟨1, _⟩ => ⟨S8x2048x1196, .bf16⟩
  | .hbm, ⟨2, _⟩ => ⟨S2048x1196, .f32⟩
  | .hbm, ⟨3, _⟩ => ⟨S2048x1196, .f32⟩
  | .hbm, ⟨4, _⟩ => ⟨S2048x1196, .f32⟩
  | .hbm, ⟨5, _⟩ => ⟨S2048x1196, .f32⟩
  | .hbm, ⟨6, _⟩ => ⟨S2048x1196, .f32⟩
  | .hbm, ⟨7, _⟩ => ⟨S2048x1196, .f32⟩
  | .local _ .vmem, ⟨0, _⟩ => ⟨S128x1196, .f32⟩
  | .local _ .vmem, ⟨1, _⟩ => ⟨S128x1196, .f32⟩
  | .local _ .vmem, ⟨2, _⟩ => ⟨S8x128x1196, .bf16⟩
  | .local _ .vmem, ⟨3, _⟩ => ⟨S8x128x1196, .bf16⟩
  | .local _ .vmem, ⟨4, _⟩ => ⟨S128x1196, .f32⟩
  | .local _ .vmem, ⟨5, _⟩ => ⟨S128x1196, .f32⟩
  | .local _ .vmem, ⟨6, _⟩ => ⟨S128x1196, .f32⟩
  | .local _ .vmem, ⟨7, _⟩ => ⟨S128x1196, .f32⟩
  | .local _ .vmem, ⟨8, _⟩ => ⟨S128x1196, .f32⟩
  | .local _ .vmem, ⟨9, _⟩ => ⟨S128x1196, .f32⟩
  | .local _ .vmem, ⟨10, _⟩ => ⟨S128x1196, .f32⟩
  | .local _ .vmem, ⟨11, _⟩ => ⟨S128x1196, .f32⟩
  | .local _ .vmem, ⟨12, _⟩ => ⟨S128x1196, .f32⟩
  | .local _ .vmem, ⟨13, _⟩ => ⟨S128x1196, .f32⟩
  | .local _ .vmem, ⟨14, _⟩ => ⟨S128x1196, .f32⟩
  | .local _ .vmem, ⟨15, _⟩ => ⟨S128x1196, .f32⟩
  | _, _ => ⟨S2048x1196, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1196 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1196 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1196 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1196 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1196 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1196 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1196 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S2048x1196 : Shape := ⟨2, ![2048, 1196]⟩
abbrev S8x2048x1196 : Shape := ⟨3, ![8, 2048, 1196]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1196, .f32⟩
  | .hbm, ⟨1, _⟩ => ⟨S8x2048x1196, .bf16⟩
  | .hbm, ⟨2, _⟩ => ⟨S2048x1196, .f32⟩
  | .hbm, ⟨3, _⟩ => ⟨S2048x1196, .f32⟩
  | .hbm, ⟨4, _⟩ => ⟨S8x2048x1196, .f32⟩
  | .hbm, ⟨5, _⟩ => ⟨S_, .f32⟩
  | .hbm, ⟨6, _⟩ => ⟨S2048x1196, .f32⟩
  | .hbm, ⟨7, _⟩ => ⟨S_, .f32⟩
  | .hbm, ⟨8, _⟩ => ⟨S2048x1196, .f32⟩
  | .hbm, ⟨9, _⟩ => ⟨S2048x1196, .f32⟩
  | .hbm, ⟨10, _⟩ => ⟨S_, .f32⟩
  | .hbm, ⟨11, _⟩ => ⟨S2048x1196, .f32⟩
  | .hbm, ⟨12, _⟩ => ⟨S2048x1196, .f32⟩
  | .hbm, ⟨13, _⟩ => ⟨S2048x1196, .f32⟩
  | .hbm, ⟨14, _⟩ => ⟨S_, .f32⟩
  | .hbm, ⟨15, _⟩ => ⟨S2048x1196, .f32⟩
  | .hbm, ⟨16, _⟩ => ⟨S2048x1196, .f32⟩
  | .hbm, ⟨17, _⟩ => ⟨S2048x1196, .f32⟩
  | .hbm, ⟨18, _⟩ => ⟨S_, .f32⟩
  | .hbm, ⟨19, _⟩ => ⟨S2048x1196, .f32⟩
  | .hbm, ⟨20, _⟩ => ⟨S2048x1196, .f32⟩
  | .hbm, ⟨21, _⟩ => ⟨S2048x1196, .f32⟩
  | .hbm, ⟨22, _⟩ => ⟨S_, .f32⟩
  | .hbm, ⟨23, _⟩ => ⟨S2048x1196, .f32⟩
  | .hbm, ⟨24, _⟩ => ⟨S2048x1196, .f32⟩
  | .hbm, ⟨25, _⟩ => ⟨S_, .f32⟩
  | .hbm, ⟨26, _⟩ => ⟨S2048x1196, .f32⟩
  | .hbm, ⟨27, _⟩ => ⟨S2048x1196, .f32⟩
  | .hbm, ⟨28, _⟩ => ⟨S2048x1196, .f32⟩
  | .hbm, ⟨29, _⟩ => ⟨S_, .f32⟩
  | .hbm, ⟨30, _⟩ => ⟨S2048x1196, .f32⟩
  | .hbm, ⟨31, _⟩ => ⟨S2048x1196, .f32⟩
  | .hbm, ⟨32, _⟩ => ⟨S2048x1196, .f32⟩
  | .hbm, ⟨33, _⟩ => ⟨S_, .f32⟩
  | .hbm, ⟨34, _⟩ => ⟨S2048x1196, .f32⟩
  | .hbm, ⟨35, _⟩ => ⟨S2048x1196, .f32⟩
  | .hbm, ⟨36, _⟩ => ⟨S2048x1196, .f32⟩
  | .hbm, ⟨37, _⟩ => ⟨S_, .f32⟩
  | .hbm, ⟨38, _⟩ => ⟨S2048x1196, .f32⟩
  | .hbm, ⟨39, _⟩ => ⟨S2048x1196, .f32⟩
  | _, _ => ⟨S2048x1196, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUq.lean ====
abbrev S1024x192 : Shape := ⟨2, ![1024, 192]⟩
abbrev S8x1024x192 : Shape := ⟨3, ![8, 1024, 192]⟩
abbrev S256x192 : Shape := ⟨2, ![256, 192]⟩
abbrev S8x256x192 : Shape := ⟨3, ![8, 256, 192]⟩
abbrev S1x256x192 : Shape := ⟨3, ![1, 256, 192]⟩

abbrev nBuf : Space → Nat
  | .hbm => 8
  | .vmem => 16
  | .smem => 0
  | _ => 0

abbrev bufTy : (tb : Table) → Fin (tcTables nBuf tb) → BufTy
  | .hbm, ⟨0, _⟩ => ⟨S1024x192, .f32⟩
  | .hbm, ⟨1, _⟩ => ⟨S8x1024x192, .bf16⟩
  | .hbm, ⟨2, _⟩ => ⟨S1024x192, .f32⟩
  | .hbm, ⟨3, _⟩ => ⟨S1024x192, .f32⟩
  | .hbm, ⟨4, _⟩ => ⟨S1024x192, .f32⟩
  | .hbm, ⟨5, _⟩ => ⟨S1024x192, .f32⟩
  | .hbm, ⟨6, _⟩ => ⟨S1024x192, .f32⟩
  | .hbm, ⟨7, _⟩ => ⟨S1024x192, .f32⟩
  | .local _ .vmem, ⟨0, _⟩ => ⟨S256x192, .f32⟩
  | .local _ .vmem, ⟨1, _⟩ => ⟨S256x192, .f32⟩
  | .local _ .vmem, ⟨2, _⟩ => ⟨S8x256x192, .bf16⟩
  | .local _ .vmem, ⟨3, _⟩ => ⟨S8x256x192, .bf16⟩
  | .local _ .vmem, ⟨4, _⟩ => ⟨S256x192, .f32⟩
  | .local _ .vmem, ⟨5, _⟩ => ⟨S256x192, .f32⟩
  | .local _ .vmem, ⟨6, _⟩ => ⟨S256x192, .f32⟩
  | .local _ .vmem, ⟨7, _⟩ => ⟨S256x192, .f32⟩
  | .local _ .vmem, ⟨8, _⟩ => ⟨S256x192, .f32⟩
  | .local _ .vmem, ⟨9, _⟩ => ⟨S256x192, .f32⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | .local _ .vmem, ⟨14, _⟩ => ⟨S256x192, .f32⟩
  | .local _ .vmem, ⟨15, _⟩ => ⟨S256x192, .f32⟩
  | _, _ => ⟨S1024x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUqIdeal.lean ====
abbrev S1024x192 : Shape := ⟨2, ![1024, 192]⟩
abbrev S8x1024x192 : Shape := ⟨3, ![8, 1024, 192]⟩
abbrev S256x192 : Shape := ⟨2, ![256, 192]⟩
abbrev S8x256x192 : Shape := ⟨3, ![8, 256, 192]⟩
abbrev S1x256x192 : Shape := ⟨3, ![1, 256, 192]⟩

abbrev nBuf : Space → Nat
  | .hbm => 8
  | .vmem => 16
  | .smem => 0
  | _ => 0

abbrev bufTy : (tb : Table) → Fin (tcTables nBuf tb) → BufTy
  | .hbm, ⟨0, _⟩ => ⟨S1024x192, .f32⟩
  | .hbm, ⟨1, _⟩ => ⟨S8x1024x192, .bf16⟩
  | .hbm, ⟨2, _⟩ => ⟨S1024x192, .f32⟩
  | .hbm, ⟨3, _⟩ => ⟨S1024x192, .f32⟩
  | .hbm, ⟨4, _⟩ => ⟨S1024x192, .f32⟩
  | .hbm, ⟨5, _⟩ => ⟨S1024x192, .f32⟩
  | .hbm, ⟨6, _⟩ => ⟨S1024x192, .f32⟩
  | .hbm, ⟨7, _⟩ => ⟨S1024x192, .f32⟩
  | .local _ .vmem, ⟨0, _⟩ => ⟨S256x192, .f32⟩
  | .local _ .vmem, ⟨1, _⟩ => ⟨S256x192, .f32⟩
  | .local _ .vmem, ⟨2, _⟩ => ⟨S8x256x192, .bf16⟩
  | .local _ .vmem, ⟨3, _⟩ => ⟨S8x256x192, .bf16⟩
  | .local _ .vmem, ⟨4, _⟩ => ⟨S256x192, .f32⟩
  | .local _ .vmem, ⟨5, _⟩ => ⟨S256x192, .f32⟩
  | .local _ .vmem, ⟨6, _⟩ => ⟨S256x192, .f32⟩
  | .local _ .vmem, ⟨7, _⟩ => ⟨S256x192, .f32⟩
  | .local _ .vmem, ⟨8, _⟩ => ⟨S256x192, .f32⟩
  | .local _ .vmem, ⟨9, _⟩ => ⟨S256x192, .f32⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | .local _ .vmem, ⟨14, _⟩ => ⟨S256x192, .f32⟩
  | .local _ .vmem, ⟨15, _⟩ => ⟨S256x192, .f32⟩
  | _, _ => ⟨S1024x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUqRefIdeal.lean ====
abbrev S1024x192 : Shape := ⟨2, ![1024, 192]⟩
abbrev S8x1024x192 : Shape := ⟨3, ![8, 1024, 192]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x192, .f32⟩
  | .hbm, ⟨1, _⟩ => ⟨S8x1024x192, .bf16⟩
  | .hbm, ⟨2, _⟩ => ⟨S1024x192, .f32⟩
  | .hbm, ⟨3, _⟩ => ⟨S1024x192, .f32⟩
  | .hbm, ⟨4, _⟩ => ⟨S8x1024x192, .f32⟩
  | .hbm, ⟨5, _⟩ => ⟨S_, .f32⟩
  | .hbm, ⟨6, _⟩ => ⟨S1024x192, .f32⟩
  | .hbm, ⟨7, _⟩ => ⟨S_, .f32⟩
  | .hbm, ⟨8, _⟩ => ⟨S1024x192, .f32⟩
  | .hbm, ⟨9, _⟩ => ⟨S1024x192, .f32⟩
  | .hbm, ⟨10, _⟩ => ⟨S_, .f32⟩
  | .hbm, ⟨11, _⟩ => ⟨S1024x192, .f32⟩
  | .hbm, ⟨12, _⟩ => ⟨S1024x192, .f32⟩
  | .hbm, ⟨13, _⟩ => ⟨S1024x192, .f32⟩
  | .hbm, ⟨14, _⟩ => ⟨S_, .f32⟩
  | .hbm, ⟨15, _⟩ => ⟨S1024x192, .f32⟩
  | .hbm, ⟨16, _⟩ => ⟨S1024x192, .f32⟩
  | .hbm, ⟨17, _⟩ => ⟨S1024x192, .f32⟩
  | .hbm, ⟨18, _⟩ => ⟨S_, .f32⟩
  | .hbm, ⟨19, _⟩ => ⟨S1024x192, .f32⟩
  | .hbm, ⟨20, _⟩ => ⟨S1024x192, .f32⟩
  | .hbm, ⟨21, _⟩ => ⟨S1024x192, .f32⟩
  | .hbm, ⟨22, _⟩ => ⟨S_, .f32⟩
  | .hbm, ⟨23, _⟩ => ⟨S1024x192, .f32⟩
  | .hbm, ⟨24, _⟩ => ⟨S1024x192, .f32⟩
  | .hbm, ⟨25, _⟩ => ⟨S_, .f32⟩
  | .hbm, ⟨26, _⟩ => ⟨S1024x192, .f32⟩
  | .hbm, ⟨27, _⟩ => ⟨S1024x192, .f32⟩
  | .hbm, ⟨28, _⟩ => ⟨S1024x192, .f32⟩
  | .hbm, ⟨29, _⟩ => ⟨S_, .f32⟩
  | .hbm, ⟨30, _⟩ => ⟨S1024x192, .f32⟩
  | .hbm, ⟨31, _⟩ => ⟨S1024x192, .f32⟩
  | .hbm, ⟨32, _⟩ => ⟨S1024x192, .f32⟩
  | .hbm, ⟨33, _⟩ => ⟨S_, .f32⟩
  | .hbm, ⟨34, _⟩ => ⟨S1024x192, .f32⟩
  | .hbm, ⟨35, _⟩ => ⟨S1024x192, .f32⟩
  | .hbm, ⟨36, _⟩ => ⟨S1024x192, .f32⟩
  | .hbm, ⟨37, _⟩ => ⟨S_, .f32⟩
  | .hbm, ⟨38, _⟩ => ⟨S1024x192, .f32⟩
  | .hbm, ⟨39, _⟩ => ⟨S1024x192, .f32⟩
  | _, _ => ⟨S1024x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUkv.lean ====
abbrev S512x256 : Shape := ⟨2, ![512, 256]⟩
abbrev S8x512x256 : Shape := ⟨3, ![8, 512, 256]⟩
abbrev S256x256 : Shape := ⟨2, ![256, 256]⟩
abbrev S8x256x256 : Shape := ⟨3, ![8, 256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S512x256, .f32⟩
  | .hbm, ⟨1, _⟩ => ⟨S8x512x256, .bf16⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S8x256x256, .bf16⟩
  | .local _ .vmem, ⟨3, _⟩ => ⟨S8x256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUkvIdeal.lean ====
abbrev S512x256 : Shape := ⟨2, ![512, 256]⟩
abbrev S8x512x256 : Shape := ⟨3, ![8, 512, 256]⟩
abbrev S256x256 : Shape := ⟨2, ![256, 256]⟩
abbrev S8x256x256 : Shape := ⟨3, ![8, 256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S512x256, .f32⟩
  | .hbm, ⟨1, _⟩ => ⟨S8x512x256, .bf16⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S8x256x256, .bf16⟩
  | .local _ .vmem, ⟨3, _⟩ => ⟨S8x256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUkvRefIdeal.lean ====
abbrev S512x256 : Shape := ⟨2, ![512, 256]⟩
abbrev S8x512x256 : Shape := ⟨3, ![8, 512, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S8x512x256, .bf16⟩
  | .hbm, ⟨2, _⟩ => ⟨S512x256, .f32⟩
  | .hbm, ⟨3, _⟩ => ⟨S512x256, .f32⟩
  | .hbm, ⟨4, _⟩ => ⟨S8x512x256, .f32⟩
  | .hbm, ⟨5, _⟩ => ⟨S_, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S_, .f32⟩
  | .hbm, ⟨11, _⟩ => ⟨S512x256, .f32⟩
  | .hbm, ⟨12, _⟩ => ⟨S512x256, .f32⟩
  | .hbm, ⟨13, _⟩ => ⟨S512x256, .f32⟩
  | .hbm, ⟨14, _⟩ => ⟨S_, .f32⟩
  | .hbm, ⟨15, _⟩ => ⟨S512x256, .f32⟩
  | .hbm, ⟨16, _⟩ => ⟨S512x256, .f32⟩
  | .hbm, ⟨17, _⟩ => ⟨S512x256, .f32⟩
  | .hbm, ⟨18, _⟩ => ⟨S_, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S_, .f32⟩
  | .hbm, ⟨26, _⟩ => ⟨S512x256, .f32⟩
  | .hbm, ⟨27, _⟩ => ⟨S512x256, .f32⟩
  | .hbm, ⟨28, _⟩ => ⟨S512x256, .f32⟩
  | .hbm, ⟨29, _⟩ => ⟨S_, .f32⟩
  | .hbm, ⟨30, _⟩ => ⟨S512x256, .f32⟩
  | .hbm, ⟨31, _⟩ => ⟨S512x256, .f32⟩
  | .hbm, ⟨32, _⟩ => ⟨S512x256, .f32⟩
  | .hbm, ⟨33, _⟩ => ⟨S_, .f32⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S_, .f32⟩
  | .hbm, ⟨38, _⟩ => ⟨S512x256, .f32⟩
  | .hbm, ⟨39, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSsdOut.lean ====
abbrev S256x1024 : Shape := ⟨2, ![256, 1024]⟩
abbrev S8x2048x1024 : Shape := ⟨3, ![8, 2048, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S8x2048x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S8x128x1024, .bf16⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSsdOutIdeal.lean ====
abbrev S256x1024 : Shape := ⟨2, ![256, 1024]⟩
abbrev S8x2048x1024 : Shape := ⟨3, ![8, 2048, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S8x2048x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S8x128x1024, .bf16⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSsdOutRefIdeal.lean ====
abbrev S256x1024 : Shape := ⟨2, ![256, 1024]⟩
abbrev S8x2048x1024 : Shape := ⟨3, ![8, 2048, 1024]⟩
abbrev S8x256x1024 : Shape := ⟨3, ![8, 256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S8x2048x1024, .bf16⟩
  | .hbm, ⟨2, _⟩ => ⟨S256x1024, .f32⟩
  | .hbm, ⟨3, _⟩ => ⟨S256x1024, .f32⟩
  | .hbm, ⟨4, _⟩ => ⟨S8x256x1024, .bf16⟩
  | .hbm, ⟨5, _⟩ => ⟨S8x256x1024, .f32⟩
  | .hbm, ⟨6, _⟩ => ⟨S_, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamMlaOut.lean ====
abbrev S256x1024 : Shape := ⟨2, ![256, 1024]⟩
abbrev S8x2048x1024 : Shape := ⟨3, ![8, 2048, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S8x2048x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S8x128x1024, .bf16⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMlaOutIdeal.lean ====
abbrev S256x1024 : Shape := ⟨2, ![256, 1024]⟩
abbrev S8x2048x1024 : Shape := ⟨3, ![8, 2048, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S8x2048x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S8x128x1024, .bf16⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMlaOutRefIdeal.lean ====
abbrev S256x1024 : Shape := ⟨2, ![256, 1024]⟩
abbrev S8x2048x1024 : Shape := ⟨3, ![8, 2048, 1024]⟩
abbrev S8x256x1024 : Shape := ⟨3, ![8, 256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S8x2048x1024, .bf16⟩
  | .hbm, ⟨2, _⟩ => ⟨S256x1024, .f32⟩
  | .hbm, ⟨3, _⟩ => ⟨S256x1024, .f32⟩
  | .hbm, ⟨4, _⟩ => ⟨S8x256x1024, .bf16⟩
  | .hbm, ⟨5, _⟩ => ⟨S8x256x1024, .f32⟩
  | .hbm, ⟨6, _⟩ => ⟨S_, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamGdnOut.lean ====
abbrev S256x1024 : Shape := ⟨2, ![256, 1024]⟩
abbrev S8x2048x1024 : Shape := ⟨3, ![8, 2048, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S8x2048x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S8x128x1024, .bf16⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGdnOutIdeal.lean ====
abbrev S256x1024 : Shape := ⟨2, ![256, 1024]⟩
abbrev S8x2048x1024 : Shape := ⟨3, ![8, 2048, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S8x2048x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S8x128x1024, .bf16⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGdnOutRefIdeal.lean ====
abbrev S256x1024 : Shape := ⟨2, ![256, 1024]⟩
abbrev S8x2048x1024 : Shape := ⟨3, ![8, 2048, 1024]⟩
abbrev S8x256x1024 : Shape := ⟨3, ![8, 256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S8x2048x1024, .bf16⟩
  | .hbm, ⟨2, _⟩ => ⟨S256x1024, .f32⟩
  | .hbm, ⟨3, _⟩ => ⟨S256x1024, .f32⟩
  | .hbm, ⟨4, _⟩ => ⟨S8x256x1024, .bf16⟩
  | .hbm, ⟨5, _⟩ => ⟨S8x256x1024, .f32⟩
  | .hbm, ⟨6, _⟩ => ⟨S_, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamOut.lean ====
abbrev S256x1024 : Shape := ⟨2, ![256, 1024]⟩
abbrev S8x2048x1024 : Shape := ⟨3, ![8, 2048, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S8x2048x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S8x128x1024, .bf16⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S256x1024 : Shape := ⟨2, ![256, 1024]⟩
abbrev S8x2048x1024 : Shape := ⟨3, ![8, 2048, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S8x2048x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S8x128x1024, .bf16⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S256x1024 : Shape := ⟨2, ![256, 1024]⟩
abbrev S8x2048x1024 : Shape := ⟨3, ![8, 2048, 1024]⟩
abbrev S8x256x1024 : Shape := ⟨3, ![8, 256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S8x2048x1024, .bf16⟩
  | .hbm, ⟨2, _⟩ => ⟨S256x1024, .f32⟩
  | .hbm, ⟨3, _⟩ => ⟨S256x1024, .f32⟩
  | .hbm, ⟨4, _⟩ => ⟨S8x256x1024, .bf16⟩
  | .hbm, ⟨5, _⟩ => ⟨S8x256x1024, .f32⟩
  | .hbm, ⟨6, _⟩ => ⟨S_, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamDown.lean ====
abbrev S1024x1024 : Shape := ⟨2, ![1024, 1024]⟩
abbrev S8x2048x1024 : Shape := ⟨3, ![8, 2048, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S8x2048x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S128x1024, .f32⟩
  | .local _ .vmem, ⟨1, _⟩ => ⟨S128x1024, .f32⟩
  | .local _ .vmem, ⟨2, _⟩ => ⟨S8x128x1024, .bf16⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S1024x1024 : Shape := ⟨2, ![1024, 1024]⟩
abbrev S8x2048x1024 : Shape := ⟨3, ![8, 2048, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S8x2048x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S128x1024, .f32⟩
  | .local _ .vmem, ⟨1, _⟩ => ⟨S128x1024, .f32⟩
  | .local _ .vmem, ⟨2, _⟩ => ⟨S8x128x1024, .bf16⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S1024x1024 : Shape := ⟨2, ![1024, 1024]⟩
abbrev S8x2048x1024 : Shape := ⟨3, ![8, 2048, 1024]⟩
abbrev S8x1024x1024 : Shape := ⟨3, ![8, 1024, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8x2048x1024, .bf16⟩
  | .hbm, ⟨2, _⟩ => ⟨S1024x1024, .f32⟩
  | .hbm, ⟨3, _⟩ => ⟨S1024x1024, .f32⟩
  | .hbm, ⟨4, _⟩ => ⟨S8x1024x1024, .bf16⟩
  | .hbm, ⟨5, _⟩ => ⟨S8x1024x1024, .f32⟩
  | .hbm, ⟨6, _⟩ => ⟨S_, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S_, .f32⟩
  | .hbm, ⟨39, _⟩ => ⟨S1024x1024, .f32⟩
  | .hbm, ⟨40, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamUp.lean ====
abbrev S2048x512 : Shape := ⟨2, ![2048, 512]⟩
abbrev S8x2048x512 : Shape := ⟨3, ![8, 2048, 512]⟩
abbrev S256x512 : Shape := ⟨2, ![256, 512]⟩
abbrev S8x256x512 : Shape := ⟨3, ![8, 256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S8x2048x512, .bf16⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S8x256x512, .bf16⟩
  | .local _ .vmem, ⟨3, _⟩ => ⟨S8x256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpIdeal.lean ====
abbrev S2048x512 : Shape := ⟨2, ![2048, 512]⟩
abbrev S8x2048x512 : Shape := ⟨3, ![8, 2048, 512]⟩
abbrev S256x512 : Shape := ⟨2, ![256, 512]⟩
abbrev S8x256x512 : Shape := ⟨3, ![8, 256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S8x2048x512, .bf16⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S8x256x512, .bf16⟩
  | .local _ .vmem, ⟨3, _⟩ => ⟨S8x256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S2048x512 : Shape := ⟨2, ![2048, 512]⟩
abbrev S8x2048x512 : Shape := ⟨3, ![8, 2048, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S8x2048x512, .bf16⟩
  | .hbm, ⟨2, _⟩ => ⟨S2048x512, .f32⟩
  | .hbm, ⟨3, _⟩ => ⟨S2048x512, .f32⟩
  | .hbm, ⟨4, _⟩ => ⟨S8x2048x512, .f32⟩
  | .hbm, ⟨5, _⟩ => ⟨S_, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamConv.lean ====
abbrev S32x128 : Shape := ⟨2, ![32, 128]⟩
abbrev S8x32x128 : Shape := ⟨3, ![8, 32, 128]⟩
abbrev S1x32x128 : Shape := ⟨3, ![1, 32, 128]⟩

abbrev nBuf : Space → Nat
  | .hbm => 8
  | .vmem => 8
  | .smem => 0
  | _ => 0

abbrev bufTy : (tb : Table) → Fin (tcTables nBuf tb) → BufTy
  | .hbm, ⟨0, _⟩ => ⟨S32x128, .f32⟩
  | .hbm, ⟨1, _⟩ => ⟨S8x32x128, .f32⟩
  | .hbm, ⟨2, _⟩ => ⟨S32x128, .f32⟩
  | .hbm, ⟨3, _⟩ => ⟨S32x128, .f32⟩
  | .hbm, ⟨4, _⟩ => ⟨S32x128, .f32⟩
  | .hbm, ⟨5, _⟩ => ⟨S32x128, .f32⟩
  | .hbm, ⟨6, _⟩ => ⟨S32x128, .f32⟩
  | .hbm, ⟨7, _⟩ => ⟨S32x128, .f32⟩
  | .local _ .vmem, ⟨0, _⟩ => ⟨S32x128, .f32⟩
  | .local _ .vmem, ⟨1, _⟩ => ⟨S8x32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvIdeal.lean ====
abbrev S32x128 : Shape := ⟨2, ![32, 128]⟩
abbrev S8x32x128 : Shape := ⟨3, ![8, 32, 128]⟩
abbrev S1x32x128 : Shape := ⟨3, ![1, 32, 128]⟩

abbrev nBuf : Space → Nat
  | .hbm => 8
  | .vmem => 8
  | .smem => 0
  | _ => 0

abbrev bufTy : (tb : Table) → Fin (tcTables nBuf tb) → BufTy
  | .hbm, ⟨0, _⟩ => ⟨S32x128, .f32⟩
  | .hbm, ⟨1, _⟩ => ⟨S8x32x128, .f32⟩
  | .hbm, ⟨2, _⟩ => ⟨S32x128, .f32⟩
  | .hbm, ⟨3, _⟩ => ⟨S32x128, .f32⟩
  | .hbm, ⟨4, _⟩ => ⟨S32x128, .f32⟩
  | .hbm, ⟨5, _⟩ => ⟨S32x128, .f32⟩
  | .hbm, ⟨6, _⟩ => ⟨S32x128, .f32⟩
  | .hbm, ⟨7, _⟩ => ⟨S32x128, .f32⟩
  | .local _ .vmem, ⟨0, _⟩ => ⟨S32x128, .f32⟩
  | .local _ .vmem, ⟨1, _⟩ => ⟨S8x32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvRefIdeal.lean ====
abbrev S32x128 : Shape := ⟨2, ![32, 128]⟩
abbrev S8x32x128 : Shape := ⟨3, ![8, 32, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S32x128, .f32⟩
  | .hbm, ⟨1, _⟩ => ⟨S8x32x128, .f32⟩
  | .hbm, ⟨2, _⟩ => ⟨S32x128, .f32⟩
  | .hbm, ⟨3, _⟩ => ⟨S32x128, .f32⟩
  | .hbm, ⟨4, _⟩ => ⟨S_, .f32⟩
  | .hbm, ⟨5, _⟩ => ⟨S32x128, .f32⟩
  | .hbm, ⟨6, _⟩ => ⟨S_, .f32⟩
  | .hbm, ⟨7, _⟩ => ⟨S32x128, .f32⟩
  | .hbm, ⟨8, _⟩ => ⟨S32x128, .f32⟩
  | .hbm, ⟨9, _⟩ => ⟨S_, .f32⟩
  | .hbm, ⟨10, _⟩ => ⟨S32x128, .f32⟩
  | .hbm, ⟨11, _⟩ => ⟨S32x128, .f32⟩
  | .hbm, ⟨12, _⟩ => ⟨S32x128, .f32⟩
  | .hbm, ⟨13, _⟩ => ⟨S_, .f32⟩
  | .hbm, ⟨14, _⟩ => ⟨S32x128, .f32⟩
  | .hbm, ⟨15, _⟩ => ⟨S32x128, .f32⟩
  | .hbm, ⟨16, _⟩ => ⟨S32x128, .f32⟩
  | .hbm, ⟨17, _⟩ => ⟨S_, .f32⟩
  | .hbm, ⟨18, _⟩ => ⟨S32x128, .f32⟩
  | .hbm, ⟨19, _⟩ => ⟨S32x128, .f32⟩
  | .hbm, ⟨20, _⟩ => ⟨S32x128, .f32⟩
  | .hbm, ⟨21, _⟩ => ⟨S_, .f32⟩
  | .hbm, ⟨22, _⟩ => ⟨S32x128, .f32⟩
  | .hbm, ⟨23, _⟩ => ⟨S32x128, .f32⟩
  | .hbm, ⟨24, _⟩ => ⟨S_, .f32⟩
  | .hbm, ⟨25, _⟩ => ⟨S32x128, .f32⟩
  | .hbm, ⟨26, _⟩ => ⟨S32x128, .f32⟩
  | .hbm, ⟨27, _⟩ => ⟨S32x128, .f32⟩
  | .hbm, ⟨28, _⟩ => ⟨S_, .f32⟩
  | .hbm, ⟨29, _⟩ => ⟨S32x128, .f32⟩
  | .hbm, ⟨30, _⟩ => ⟨S32x128, .f32⟩
  | .hbm, ⟨31, _⟩ => ⟨S32x128, .f32⟩
  | .hbm, ⟨32, _⟩ => ⟨S_, .f32⟩
  | .hbm, ⟨33, _⟩ => ⟨S32x128, .f32⟩
  | .hbm, ⟨34, _⟩ => ⟨S32x128, .f32⟩
  | .hbm, ⟨35, _⟩ => ⟨S32x128, .f32⟩
  | .hbm, ⟨36, _⟩ => ⟨S_, .f32⟩
  | .hbm, ⟨37, _⟩ => ⟨S32x128, .f32⟩
  | .hbm, ⟨38, _⟩ => ⟨S32x128, .f32⟩
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSmall.lean ====
abbrev S96x128 : Shape := ⟨2, ![96, 128]⟩
abbrev S8x96x128 : Shape := ⟨3, ![8, 96, 128]⟩
abbrev S32x128 : Shape := ⟨2, ![32, 128]⟩
abbrev S8x32x128 : Shape := ⟨3, ![8, 32, 128]⟩
abbrev S1x32x128 : Shape := ⟨3, ![1, 32, 128]⟩

abbrev nBuf : Space → Nat
  | .hbm => 8
  | .vmem => 16
  | .smem => 0
  | _ => 0

abbrev bufTy : (tb : Table) → Fin (tcTables nBuf tb) → BufTy
  | .hbm, ⟨0, _⟩ => ⟨S96x128, .f32⟩
  | .hbm, ⟨1, _⟩ => ⟨S8x96x128, .f32⟩
  | .hbm, ⟨2, _⟩ => ⟨S96x128, .f32⟩
  | .hbm, ⟨3, _⟩ => ⟨S96x128, .f32⟩
  | .hbm, ⟨4, _⟩ => ⟨S96x128, .f32⟩
  | .hbm, ⟨5, _⟩ => ⟨S96x128, .f32⟩
  | .hbm, ⟨6, _⟩ => ⟨S96x128, .f32⟩
  | .hbm, ⟨7, _⟩ => ⟨S96x128, .f32⟩
  | .local _ .vmem, ⟨0, _⟩ => ⟨S32x128, .f32⟩
  | .local _ .vmem, ⟨1, _⟩ => ⟨S32x128, .f32⟩
  | .local _ .vmem, ⟨2, _⟩ => ⟨S8x32x128, .f32⟩
  | .local _ .vmem, ⟨3, _⟩ => ⟨S8x32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | .local _ .vmem, ⟨14, _⟩ => ⟨S32x128, .f32⟩
  | .local _ .vmem, ⟨15, _⟩ => ⟨S32x128, .f32⟩
  | _, _ => ⟨S96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallRefIdeal.lean ====
abbrev S96x128 : Shape := ⟨2, ![96, 128]⟩
abbrev S8x96x128 : Shape := ⟨3, ![8, 96, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S96x128, .f32⟩
  | .hbm, ⟨1, _⟩ => ⟨S8x96x128, .f32⟩
  | .hbm, ⟨2, _⟩ => ⟨S96x128, .f32⟩
  | .hbm, ⟨3, _⟩ => ⟨S96x128, .f32⟩
  | .hbm, ⟨4, _⟩ => ⟨S_, .f32⟩
  | .hbm, ⟨5, _⟩ => ⟨S96x128, .f32⟩
  | .hbm, ⟨6, _⟩ => ⟨S_, .f32⟩
  | .hbm, ⟨7, _⟩ => ⟨S96x128, .f32⟩
  | .hbm, ⟨8, _⟩ => ⟨S96x128, .f32⟩
  | .hbm, ⟨9, _⟩ => ⟨S_, .f32⟩
  | .hbm, ⟨10, _⟩ => ⟨S96x128, .f32⟩
  | .hbm, ⟨11, _⟩ => ⟨S96x128, .f32⟩
  | .hbm, ⟨12, _⟩ => ⟨S96x128, .f32⟩
  | .hbm, ⟨13, _⟩ => ⟨S_, .f32⟩
  | .hbm, ⟨14, _⟩ => ⟨S96x128, .f32⟩
  | .hbm, ⟨15, _⟩ => ⟨S96x128, .f32⟩
  | .hbm, ⟨16, _⟩ => ⟨S96x128, .f32⟩
  | .hbm, ⟨17, _⟩ => ⟨S_, .f32⟩
  | .hbm, ⟨18, _⟩ => ⟨S96x128, .f32⟩
  | .hbm, ⟨19, _⟩ => ⟨S96x128, .f32⟩
  | .hbm, ⟨20, _⟩ => ⟨S96x128, .f32⟩
  | .hbm, ⟨21, _⟩ => ⟨S_, .f32⟩
  | .hbm, ⟨22, _⟩ => ⟨S96x128, .f32⟩
  | .hbm, ⟨23, _⟩ => ⟨S96x128, .f32⟩
  | .hbm, ⟨24, _⟩ => ⟨S_, .f32⟩
  | .hbm, ⟨25, _⟩ => ⟨S96x128, .f32⟩
  | .hbm, ⟨26, _⟩ => ⟨S96x128, .f32⟩
  | .hbm, ⟨27, _⟩ => ⟨S96x128, .f32⟩
  | .hbm, ⟨28, _⟩ => ⟨S_, .f32⟩
  | .hbm, ⟨29, _⟩ => ⟨S96x128, .f32⟩
  | .hbm, ⟨30, _⟩ => ⟨S96x128, .f32⟩
  | .hbm, ⟨31, _⟩ => ⟨S96x128, .f32⟩
  | .hbm, ⟨32, _⟩ => ⟨S_, .f32⟩
  | .hbm, ⟨33, _⟩ => ⟨S96x128, .f32⟩
  | .hbm, ⟨34, _⟩ => ⟨S96x128, .f32⟩
  | .hbm, ⟨35, _⟩ => ⟨S96x128, .f32⟩
  | .hbm, ⟨36, _⟩ => ⟨S_, .f32⟩
  | .hbm, ⟨37, _⟩ => ⟨S96x128, .f32⟩
  | .hbm, ⟨38, _⟩ => ⟨S96x128, .f32⟩
  | _, _ => ⟨S96x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Loss.lean ====
abbrev S4096x1024 : Shape := ⟨2, ![4096, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v27 : BitVec 1 := Scalar.cmpi .eq arg0 c0_i32
  let v28 : BitVec 32 := Scalar.extui v27
  let c0_i32_11 : BitVec 32 := 0#32
  let v29 : BitVec 1 := Scalar.cmpi .ne v28 c0_i32_11
  v29

def k0_cond2 (i : grid0.Coords) : BitVec 1 :=
  let arg0 : BitVec 32 := BitVec.ofNat 32 (i 0).val
  let c0_i32_12 : BitVec 32 := 0#32
  let v30 : BitVec 1 := Scalar.cmpi .sgt arg0 c0_i32_12
  let v31 : BitVec 32 := Scalar.extui v30
  let c0_i32_13 : BitVec 32 := 0#32
  let v32 : BitVec 1 := Scalar.cmpi .ne v31 c0_i32_13
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Rms.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Relu.lean ====
abbrev S4096x4096 : Shape := ⟨2, ![4096, 4096]⟩
abbrev S256x4096 : Shape := ⟨2, ![256, 4096]⟩

abbrev nBuf : Space → Nat
  | .hbm => 2
  | .vmem => 4
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReluRefIdeal.lean ====
abbrev S4096x4096 : Shape := ⟨2, ![4096, 4096]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S_, .f32⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Merge.lean ====
abbrev S4096x3072 : Shape := ⟨2, ![4096, 3072]⟩
abbrev S4096x1024 : Shape := ⟨2, ![4096, 1024]⟩
abbrev S256x3072 : Shape := ⟨2, ![256, 3072]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .local _ .vmem, ⟨0, _⟩ => ⟨S256x3072, .f32⟩
  | .local _ .vmem, ⟨1, _⟩ => ⟨S256x3072, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeRefIdeal.lean ====
abbrev S4096x3072 : Shape := ⟨2, ![4096, 3072]⟩
abbrev S4096x1024 : Shape := ⟨2, ![4096, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x3072, .f32⟩
  | .hbm, ⟨5, _⟩ => ⟨S4096x3072, .f32⟩
  | .hbm, ⟨6, _⟩ => ⟨S_, .f32⟩
  | .hbm, ⟨7, _⟩ => ⟨S4096x3072, .f32⟩
  | .hbm, ⟨8, _⟩ => ⟨S4096x3072, .f32⟩
  | .hbm, ⟨9, _⟩ => ⟨S_, .f32⟩
  | .hbm, ⟨10, _⟩ => ⟨S4096x3072, .f32⟩
  | .hbm, ⟨11, _⟩ => ⟨S4096x3072, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== MmIn.lean ====
abbrev S4096x1024 : Shape := ⟨2, ![4096, 1024]⟩
abbrev S1024x9600 : Shape := ⟨2, ![1024, 9600]⟩
abbrev S4096x9600 : Shape := ⟨2, ![4096, 9600]⟩
abbrev S512x1024 : Shape := ⟨2, ![512, 1024]⟩
abbrev S1024x640 : Shape := ⟨2, ![1024, 640]⟩
abbrev S512x640 : Shape := ⟨2, ![512, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x9600, .bf16⟩
  | .hbm, ⟨2, _⟩ => ⟨S4096x9600, .f32⟩
  | .local _ .vmem, ⟨0, _⟩ => ⟨S512x1024, .f32⟩
  | .local _ .vmem, ⟨1, _⟩ => ⟨S512x1024, .f32⟩
  | .local _ .vmem, ⟨2, _⟩ => ⟨S1024x640, .bf16⟩
  | .local _ .vmem, ⟨3, _⟩ => ⟨S1024x640, .bf16⟩
  | .local _ .vmem, ⟨4, _⟩ => ⟨S512x640, .f32⟩
  | .local _ .vmem, ⟨5, _⟩ => ⟨S512x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 15, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmInIdeal.lean ====
abbrev S4096x1024 : Shape := ⟨2, ![4096, 1024]⟩
abbrev S1024x9600 : Shape := ⟨2, ![1024, 9600]⟩
abbrev S4096x9600 : Shape := ⟨2, ![4096, 9600]⟩
abbrev S512x1024 : Shape := ⟨2, ![512, 1024]⟩
abbrev S1024x640 : Shape := ⟨2, ![1024, 640]⟩
abbrev S512x640 : Shape := ⟨2, ![512, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x9600, .bf16⟩
  | .hbm, ⟨2, _⟩ => ⟨S4096x9600, .f32⟩
  | .local _ .vmem, ⟨0, _⟩ => ⟨S512x1024, .f32⟩
  | .local _ .vmem, ⟨1, _⟩ => ⟨S512x1024, .f32⟩
  | .local _ .vmem, ⟨2, _⟩ => ⟨S1024x640, .bf16⟩
  | .local _ .vmem, ⟨3, _⟩ => ⟨S1024x640, .bf16⟩
  | .local _ .vmem, ⟨4, _⟩ => ⟨S512x640, .f32⟩
  | .local _ .vmem, ⟨5, _⟩ => ⟨S512x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 15, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmInRefIdeal.lean ====
abbrev S4096x1024 : Shape := ⟨2, ![4096, 1024]⟩
abbrev S1024x9600 : Shape := ⟨2, ![1024, 9600]⟩
abbrev S4096x9600 : Shape := ⟨2, ![4096, 9600]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x9600, .bf16⟩
  | .hbm, ⟨2, _⟩ => ⟨S1024x9600, .f32⟩
  | .hbm, ⟨3, _⟩ => ⟨S4096x9600, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmUq.lean ====
abbrev S4096x512 : Shape := ⟨2, ![4096, 512]⟩
abbrev S512x2048 : Shape := ⟨2, ![512, 2048]⟩
abbrev S4096x2048 : Shape := ⟨2, ![4096, 2048]⟩
abbrev S512x512 : Shape := ⟨2, ![512, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x2048, .bf16⟩
  | .hbm, ⟨2, _⟩ => ⟨S4096x2048, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmUqIdeal.lean ====
abbrev S4096x512 : Shape := ⟨2, ![4096, 512]⟩
abbrev S512x2048 : Shape := ⟨2, ![512, 2048]⟩
abbrev S4096x2048 : Shape := ⟨2, ![4096, 2048]⟩
abbrev S512x512 : Shape := ⟨2, ![512, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x2048, .bf16⟩
  | .hbm, ⟨2, _⟩ => ⟨S4096x2048, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmUqRefIdeal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x2048, .bf16⟩
  | .hbm, ⟨2, _⟩ => ⟨S512x2048, .f32⟩
  | .hbm, ⟨3, _⟩ => ⟨S4096x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmUkv.lean ====
abbrev S4096x256 : Shape := ⟨2, ![4096, 256]⟩
abbrev S256x2048 : Shape := ⟨2, ![256, 2048]⟩
abbrev S4096x2048 : Shape := ⟨2, ![4096, 2048]⟩
abbrev S512x256 : Shape := ⟨2, ![512, 256]⟩
abbrev S256x1024 : Shape := ⟨2, ![256, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S4096x2048, .f32⟩
  | .local _ .vmem, ⟨0, _⟩ => ⟨S512x256, .f32⟩
  | .local _ .vmem, ⟨1, _⟩ => ⟨S512x256, .f32⟩
  | .local _ .vmem, ⟨2, _⟩ => ⟨S256x1024, .bf16⟩
  | .local _ .vmem, ⟨3, _⟩ => ⟨S256x1024, .bf16⟩
  | .local _ .vmem, ⟨4, _⟩ => ⟨S512x1024, .f32⟩
  | .local _ .vmem, ⟨5, _⟩ => ⟨S512x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmUkvIdeal.lean ====
abbrev S4096x256 : Shape := ⟨2, ![4096, 256]⟩
abbrev S256x2048 : Shape := ⟨2, ![256, 2048]⟩
abbrev S4096x2048 : Shape := ⟨2, ![4096, 2048]⟩
abbrev S512x256 : Shape := ⟨2, ![512, 256]⟩
abbrev S256x1024 : Shape := ⟨2, ![256, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S4096x2048, .f32⟩
  | .local _ .vmem, ⟨0, _⟩ => ⟨S512x256, .f32⟩
  | .local _ .vmem, ⟨1, _⟩ => ⟨S512x256, .f32⟩
  | .local _ .vmem, ⟨2, _⟩ => ⟨S256x1024, .bf16⟩
  | .local _ .vmem, ⟨3, _⟩ => ⟨S256x1024, .bf16⟩
  | .local _ .vmem, ⟨4, _⟩ => ⟨S512x1024, .f32⟩
  | .local _ .vmem, ⟨5, _⟩ => ⟨S512x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmUkvRefIdeal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S256x2048, .f32⟩
  | .hbm, ⟨3, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmOut.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmOutIdeal.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmOutRefIdeal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmUp.lean ====
abbrev S4096x1024 : Shape := ⟨2, ![4096, 1024]⟩
abbrev S1024x4096 : Shape := ⟨2, ![1024, 4096]⟩
abbrev S4096x4096 : Shape := ⟨2, ![4096, 4096]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .bf16⟩
  | .hbm, ⟨2, _⟩ => ⟨S4096x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmUpIdeal.lean ====
abbrev S4096x1024 : Shape := ⟨2, ![4096, 1024]⟩
abbrev S1024x4096 : Shape := ⟨2, ![1024, 4096]⟩
abbrev S4096x4096 : Shape := ⟨2, ![4096, 4096]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .bf16⟩
  | .hbm, ⟨2, _⟩ => ⟨S4096x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmUpRefIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .bf16⟩
  | .hbm, ⟨2, _⟩ => ⟨S1024x4096, .f32⟩
  | .hbm, ⟨3, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmDown.lean ====
abbrev S4096x4096 : Shape := ⟨2, ![4096, 4096]⟩
abbrev S4096x1024 : Shape := ⟨2, ![4096, 1024]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDownRefIdeal.lean ====
abbrev S4096x4096 : Shape := ⟨2, ![4096, 4096]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .f32⟩
  | .hbm, ⟨3, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SsdPost.lean ====
abbrev S4096x1024 : Shape := ⟨2, ![4096, 1024]⟩
abbrev S1x1024 : Shape := ⟨2, ![1, 1024]⟩
abbrev S512x1024 : Shape := ⟨2, ![512, 1024]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SsdPostRefIdeal.lean ====
abbrev S4096x1024 : Shape := ⟨2, ![4096, 1024]⟩
abbrev S1x1024 : Shape := ⟨2, ![1, 1024]⟩
abbrev S_ : Shape := ⟨0, ![]⟩
abbrev S4096x2x512 : Shape := ⟨3, ![4096, 2, 512]⟩
abbrev S2x512 : Shape := ⟨2, ![2, 512]⟩
abbrev S4096x2 : Shape := ⟨2, ![4096, 2]⟩
abbrev S4096x2x1 : Shape := ⟨3, ![4096, 2, 1]⟩
abbrev S1x2x512 : Shape := ⟨3, ![1, 2, 512]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x2x512, .f32⟩
  | .hbm, ⟨14, _⟩ => ⟨S2x512, .f32⟩
  | .hbm, ⟨15, _⟩ => ⟨S4096x2x512, .f32⟩
  | .hbm, ⟨16, _⟩ => ⟨S_, .f32⟩
  | .hbm, ⟨17, _⟩ => ⟨S4096x2, .f32⟩
  | .hbm, ⟨18, _⟩ => ⟨S4096x2x1, .f32⟩
  | .hbm, ⟨19, _⟩ => ⟨S_, .f32⟩
  | .hbm, ⟨20, _⟩ => ⟨S4096x2x1, .f32⟩
  | .hbm, ⟨21, _⟩ => ⟨S4096x2x1, .f32⟩
  | .hbm, ⟨22, _⟩ => ⟨S_, .f32⟩
  | .hbm, ⟨23, _⟩ => ⟨S4096x2x1, .f32⟩
  | .hbm, ⟨24, _⟩ => ⟨S4096x2x1, .f32⟩
  | .hbm, ⟨25, _⟩ => ⟨S4096x2x1, .f32⟩
  | .hbm, ⟨26, _⟩ => ⟨S4096x2x512, .f32⟩
  | .hbm, ⟨27, _⟩ => ⟨S4096x2x512, .f32⟩
  | .hbm, ⟨28, _⟩ => ⟨S1x2x512, .f32⟩
  | .hbm, ⟨29, _⟩ => ⟨S4096x2x512, .f32⟩
  | .hbm, ⟨30, _⟩ => ⟨S4096x2x512, .f32⟩
  | .hbm, ⟨31, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== GdnPost.lean ====
abbrev S4096x1024 : Shape := ⟨2, ![4096, 1024]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x128, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GdnPostRefIdeal.lean ====
abbrev S4096x1024 : Shape := ⟨2, ![4096, 1024]⟩
abbrev S1x128 : Shape := ⟨2, ![1, 128]⟩
abbrev S4096x8x128 : Shape := ⟨3, ![4096, 8, 128]⟩
abbrev S128 : Shape := ⟨1, ![128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x128, .f32⟩
  | .hbm, ⟨3, _⟩ => ⟨S4096x8x128, .f32⟩
  | .hbm, ⟨4, _⟩ => ⟨S128, .f32⟩
  | .hbm, ⟨5, _⟩ => ⟨S4096x8x128, .f32⟩
  | .hbm, ⟨6, _⟩ => ⟨S_, .f32⟩
  | .hbm, ⟨7, _⟩ => ⟨S4096x8, .f32⟩
  | .hbm, ⟨8, _⟩ => ⟨S4096x8x1, .f32⟩
  | .hbm, ⟨9, _⟩ => ⟨S_, .f32⟩
  | .hbm, ⟨10, _⟩ => ⟨S4096x8x1, .f32⟩
  | .hbm, ⟨11, _⟩ => ⟨S4096x8x1, .f32⟩
  | .hbm, ⟨12, _⟩ => ⟨S_, .f32⟩
  | .hbm, ⟨13, _⟩ => ⟨S4096x8x1, .f32⟩
  | .hbm, ⟨14, _⟩ => ⟨S4096x8x1, .f32⟩
  | .hbm, ⟨15, _⟩ => ⟨S4096x8x1, .f32⟩
  | .hbm, ⟨16, _⟩ => ⟨S4096x8x128, .f32⟩
  | .hbm, ⟨17, _⟩ => ⟨S4096x8x128, .f32⟩
  | .hbm, ⟨18, _⟩ => ⟨S1x1x128, .f32⟩
  | .hbm, ⟨19, _⟩ => ⟨S4096x8x128, .f32⟩
  | .hbm, ⟨20, _⟩ => ⟨S4096x8x128, .f32⟩
  | .hbm, ⟨21, _⟩ => ⟨S4096x8x128, .f32⟩
  | .hbm, ⟨22, _⟩ => ⟨S4096x8x128, .f32⟩
  | .hbm, ⟨23, _⟩ => ⟨S4096x8x128, .f32⟩
  | .hbm, ⟨24, _⟩ => ⟨S_, .f32⟩
  | .hbm, ⟨25, _⟩ => ⟨S4096x8x128, .f32⟩
  | .hbm, ⟨26, _⟩ => ⟨S4096x8x128, .f32⟩
  | .hbm, ⟨27, _⟩ => ⟨S_, .f32⟩
  | .hbm, ⟨28, _⟩ => ⟨S4096x8x128, .f32⟩
  | .hbm, ⟨29, _⟩ => ⟨S4096x8x128, .f32⟩
  | .hbm, ⟨30, _⟩ => ⟨S4096x8x128, .f32⟩
  | .hbm, ⟨31, _⟩ => ⟨S4096x8x128, .f32⟩
  | .hbm, ⟨32, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== MlaNorm.lean ====
abbrev S4096x512 : Shape := ⟨2, ![4096, 512]⟩
abbrev S4096x256 : Shape := ⟨2, ![4096, 256]⟩
abbrev S1x512 : Shape := ⟨2, ![1, 512]⟩
abbrev S1x256 : Shape := ⟨2, ![1, 256]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S1x512, .f32⟩
  | .hbm, ⟨3, _⟩ => ⟨S1x256, .f32⟩
  | .hbm, ⟨4, _⟩ => ⟨S4096x512, .f32⟩
  | .hbm, ⟨5, _⟩ => ⟨S4096x256, .f32⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S1x512, .f32⟩
  | .local _ .vmem, ⟨5, _⟩ => ⟨S1x256, .f32⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlaNormRefIdeal.lean ====
abbrev S4096x512 : Shape := ⟨2, ![4096, 512]⟩
abbrev S4096x256 : Shape := ⟨2, ![4096, 256]⟩
abbrev S1x512 : Shape := ⟨2, ![1, 512]⟩
abbrev S1x256 : Shape := ⟨2, ![1, 256]⟩
abbrev S512 : Shape := ⟨1, ![512]⟩
abbrev S_ : Shape := ⟨0, ![]⟩
abbrev S4096 : Shape := ⟨1, ![4096]⟩
abbrev S4096x1 : Shape := ⟨2, ![4096, 1]⟩
abbrev S256 : Shape := ⟨1, ![256]⟩

abbrev nBuf : Space → Nat
  | .hbm => 38
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S1x512, .f32⟩
  | .hbm, ⟨3, _⟩ => ⟨S1x256, .f32⟩
  | .hbm, ⟨4, _⟩ => ⟨S512, .f32⟩
  | .hbm, ⟨5, _⟩ => ⟨S4096x512, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x512, .f32⟩
  | .hbm, ⟨17, _⟩ => ⟨S4096x512, .f32⟩
  | .hbm, ⟨18, _⟩ => ⟨S1x512, .f32⟩
  | .hbm, ⟨19, _⟩ => ⟨S4096x512, .f32⟩
  | .hbm, ⟨20, _⟩ => ⟨S4096x512, .f32⟩
  | .hbm, ⟨21, _⟩ => ⟨S256, .f32⟩
  | .hbm, ⟨22, _⟩ => ⟨S4096x256, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x256, .f32⟩
  | .hbm, ⟨34, _⟩ => ⟨S4096x256, .f32⟩
  | .hbm, ⟨35, _⟩ => ⟨S1x256, .f32⟩
  | .hbm, ⟨36, _⟩ => ⟨S4096x256, .f32⟩
  | .hbm, ⟨37, _⟩ => ⟨S4096x256, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== LossBack.lean ====
abbrev S4096x1024 : Shape := ⟨2, ![4096, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1x1x1 : Shape := ⟨3, ![1, 1, 1]⟩
abbrev S1 : Shape := ⟨1, ![1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let v59 : BitVec 32 := Scalar.extui v58
  let c0_i32_20 : BitVec 32 := 0#32
  let v60 : BitVec 1 := Scalar.cmpi .ne v59 c0_i32_20
  v60

def k0_cond2 (i : grid0.Coords) : BitVec 1 :=
  let arg0 : BitVec 32 := BitVec.ofNat 32 (i 0).val
  let c0_i32_21 : BitVec 32 := 0#32
  let v61 : BitVec 1 := Scalar.cmpi .sgt arg0 c0_i32_21
  let v62 : BitVec 32 := Scalar.extui v61
  let c0_i32_22 : BitVec 32 := 0#32
  let v63 : BitVec 1 := Scalar.cmpi .ne v62 c0_i32_22
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossBackRefIdeal.lean ====
abbrev S4096x1024 : Shape := ⟨2, ![4096, 1024]⟩
abbrev S1x1024 : Shape := ⟨2, ![1, 1024]⟩
abbrev S1x1 : Shape := ⟨2, ![1, 1]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_10 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_11 : Ref sig .tc := ⟨.hbm, 54, rfl⟩
abbrev main_v38 : Ref sig .tc := ⟨.hbm, 55, rfl⟩
abbrev main_v39 : Ref sig .tc := ⟨.hbm, 56, rfl⟩
abbrev main_cst_12 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_13 : Ref sig .tc := ⟨.hbm, 63, rfl⟩
abbrev main_v45 : Ref sig .tc := ⟨.hbm, 64, rfl⟩
abbrev main_v46 : Ref sig .tc := ⟨.hbm, 65, rfl⟩
abbrev main_cst_14 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== RmsBack.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_14 : BitVec 32 := 0#32
  let v39 : BitVec 1 := Scalar.cmpi .ne v38 c0_i32_14
  v39

def k0_cond2 (i : grid0.Coords) : BitVec 1 :=
  let arg0 : BitVec 32 := BitVec.ofNat 32 (i 0).val
  let c0_i32_15 : BitVec 32 := 0#32
  let v40 : BitVec 1 := Scalar.cmpi .sgt arg0 c0_i32_15
  let v41 : BitVec 32 := Scalar.extui v40
  let c0_i32_16 : BitVec 32 := 0#32
  let v42 : BitVec 1 := Scalar.cmpi .ne v41 c0_i32_16
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RmsBackRefIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== ReluBack.lean ====
abbrev S4096x4096 : Shape := ⟨2, ![4096, 4096]⟩
abbrev S256x4096 : Shape := ⟨2, ![256, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReluBackRefIdeal.lean ====
abbrev S4096x4096 : Shape := ⟨2, ![4096, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .i1⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== MergeBack.lean ====
abbrev S4096x3072 : Shape := ⟨2, ![4096, 3072]⟩
abbrev S4096x1024 : Shape := ⟨2, ![4096, 1024]⟩
abbrev S256x3072 : Shape := ⟨2, ![256, 3072]⟩
abbrev S256x1024 : Shape := ⟨2, ![256, 1024]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x3072, .f32⟩
  | .hbm, ⟨6, _⟩ => ⟨S4096x1024, .f32⟩
  | .hbm, ⟨7, _⟩ => ⟨S4096x1024, .f32⟩
  | .hbm, ⟨8, _⟩ => ⟨S4096x1024, .f32⟩
  | .local _ .vmem, ⟨0, _⟩ => ⟨S256x3072, .f32⟩
  | .local _ .vmem, ⟨1, _⟩ => ⟨S256x3072, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x3072, .f32⟩
  | .local _ .vmem, ⟨11, _⟩ => ⟨S256x3072, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeBackRefIdeal.lean ====
abbrev S4096x3072 : Shape := ⟨2, ![4096, 3072]⟩
abbrev S4096x1024 : Shape := ⟨2, ![4096, 1024]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S_, .f32⟩
  | .hbm, ⟨8, _⟩ => ⟨S4096x3072, .f32⟩
  | .hbm, ⟨9, _⟩ => ⟨S4096x3072, .f32⟩
  | .hbm, ⟨10, _⟩ => ⟨S_, .f32⟩
  | .hbm, ⟨11, _⟩ => ⟨S4096x3072, .f32⟩
  | .hbm, ⟨12, _⟩ => ⟨S4096x3072, .f32⟩
  | .hbm, ⟨13, _⟩ => ⟨S_, .f32⟩
  | .hbm, ⟨14, _⟩ => ⟨S4096x3072, .f32⟩
  | .hbm, ⟨15, _⟩ => ⟨S4096x3072, .f32⟩
  | .hbm, ⟨16, _⟩ => ⟨S4096x3072, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x3072, .f32⟩
  | .hbm, ⟨34, _⟩ => ⟨S4096x3072, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== DxIn.lean ====
abbrev S4096x9600 : Shape := ⟨2, ![4096, 9600]⟩
abbrev S1024x9600 : Shape := ⟨2, ![1024, 9600]⟩
abbrev S4096x1024 : Shape := ⟨2, ![4096, 1024]⟩
abbrev S512x1920 : Shape := ⟨2, ![512, 1920]⟩
abbrev S1024x1920 : Shape := ⟨2, ![1024, 1920]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x9600, .f32⟩
  | .hbm, ⟨1, _⟩ => ⟨S1024x9600, .bf16⟩
  | .hbm, ⟨2, _⟩ => ⟨S4096x1024, .f32⟩
  | .local _ .vmem, ⟨0, _⟩ => ⟨S512x1920, .f32⟩
  | .local _ .vmem, ⟨1, _⟩ => ⟨S512x1920, .f32⟩
  | .local _ .vmem, ⟨2, _⟩ => ⟨S1024x1920, .bf16⟩
  | .local _ .vmem, ⟨3, _⟩ => ⟨S1024x1920, .bf16⟩
  | .local _ .vmem, ⟨4, _⟩ => ⟨S512x1024, .f32⟩
  | .local _ .vmem, ⟨5, _⟩ => ⟨S512x1024, .f32⟩
  | _, _ => ⟨S4096x9600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 5], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxInIdeal.lean ====
abbrev S4096x9600 : Shape := ⟨2, ![4096, 9600]⟩
abbrev S1024x9600 : Shape := ⟨2, ![1024, 9600]⟩
abbrev S4096x1024 : Shape := ⟨2, ![4096, 1024]⟩
abbrev S512x1920 : Shape := ⟨2, ![512, 1920]⟩
abbrev S1024x1920 : Shape := ⟨2, ![1024, 1920]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x9600, .f32⟩
  | .hbm, ⟨1, _⟩ => ⟨S1024x9600, .bf16⟩
  | .hbm, ⟨2, _⟩ => ⟨S4096x1024, .f32⟩
  | .local _ .vmem, ⟨0, _⟩ => ⟨S512x1920, .f32⟩
  | .local _ .vmem, ⟨1, _⟩ => ⟨S512x1920, .f32⟩
  | .local _ .vmem, ⟨2, _⟩ => ⟨S1024x1920, .bf16⟩
  | .local _ .vmem, ⟨3, _⟩ => ⟨S1024x1920, .bf16⟩
  | .local _ .vmem, ⟨4, _⟩ => ⟨S512x1024, .f32⟩
  | .local _ .vmem, ⟨5, _⟩ => ⟨S512x1024, .f32⟩
  | _, _ => ⟨S4096x9600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 5], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxInRefIdeal.lean ====
abbrev S4096x9600 : Shape := ⟨2, ![4096, 9600]⟩
abbrev S1024x9600 : Shape := ⟨2, ![1024, 9600]⟩
abbrev S9600x1024 : Shape := ⟨2, ![9600, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x9600, .f32⟩
  | .hbm, ⟨1, _⟩ => ⟨S1024x9600, .bf16⟩
  | .hbm, ⟨2, _⟩ => ⟨S1024x9600, .f32⟩
  | .hbm, ⟨3, _⟩ => ⟨S9600x1024, .f32⟩
  | .hbm, ⟨4, _⟩ => ⟨S4096x1024, .f32⟩
  | _, _ => ⟨S4096x9600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DxUq.lean ====
abbrev S4096x2048 : Shape := ⟨2, ![4096, 2048]⟩
abbrev S512x2048 : Shape := ⟨2, ![512, 2048]⟩
abbrev S4096x512 : Shape := ⟨2, ![4096, 512]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S512x2048, .bf16⟩
  | .hbm, ⟨2, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxUqIdeal.lean ====
abbrev S4096x2048 : Shape := ⟨2, ![4096, 2048]⟩
abbrev S512x2048 : Shape := ⟨2, ![512, 2048]⟩
abbrev S4096x512 : Shape := ⟨2, ![4096, 512]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S512x2048, .bf16⟩
  | .hbm, ⟨2, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxUqRefIdeal.lean ====
abbrev S4096x2048 : Shape := ⟨2, ![4096, 2048]⟩
abbrev S512x2048 : Shape := ⟨2, ![512, 2048]⟩
abbrev S2048x512 : Shape := ⟨2, ![2048, 512]⟩
abbrev S4096x512 : Shape := ⟨2, ![4096, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S512x2048, .bf16⟩
  | .hbm, ⟨2, _⟩ => ⟨S512x2048, .f32⟩
  | .hbm, ⟨3, _⟩ => ⟨S2048x512, .f32⟩
  | .hbm, ⟨4, _⟩ => ⟨S4096x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DxUkv.lean ====
abbrev S4096x2048 : Shape := ⟨2, ![4096, 2048]⟩
abbrev S256x2048 : Shape := ⟨2, ![256, 2048]⟩
abbrev S4096x256 : Shape := ⟨2, ![4096, 256]⟩
abbrev S512x1024 : Shape := ⟨2, ![512, 1024]⟩
abbrev S256x1024 : Shape := ⟨2, ![256, 1024]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S256x2048, .bf16⟩
  | .hbm, ⟨2, _⟩ => ⟨S4096x256, .f32⟩
  | .local _ .vmem, ⟨0, _⟩ => ⟨S512x1024, .f32⟩
  | .local _ .vmem, ⟨1, _⟩ => ⟨S512x1024, .f32⟩
  | .local _ .vmem, ⟨2, _⟩ => ⟨S256x1024, .bf16⟩
  | .local _ .vmem, ⟨3, _⟩ => ⟨S256x1024, .bf16⟩
  | .local _ .vmem, ⟨4, _⟩ => ⟨S512x256, .f32⟩
  | .local _ .vmem, ⟨5, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxUkvIdeal.lean ====
abbrev S4096x2048 : Shape := ⟨2, ![4096, 2048]⟩
abbrev S256x2048 : Shape := ⟨2, ![256, 2048]⟩
abbrev S4096x256 : Shape := ⟨2, ![4096, 256]⟩
abbrev S512x1024 : Shape := ⟨2, ![512, 1024]⟩
abbrev S256x1024 : Shape := ⟨2, ![256, 1024]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S256x2048, .bf16⟩
  | .hbm, ⟨2, _⟩ => ⟨S4096x256, .f32⟩
  | .local _ .vmem, ⟨0, _⟩ => ⟨S512x1024, .f32⟩
  | .local _ .vmem, ⟨1, _⟩ => ⟨S512x1024, .f32⟩
  | .local _ .vmem, ⟨2, _⟩ => ⟨S256x1024, .bf16⟩
  | .local _ .vmem, ⟨3, _⟩ => ⟨S256x1024, .bf16⟩
  | .local _ .vmem, ⟨4, _⟩ => ⟨S512x256, .f32⟩
  | .local _ .vmem, ⟨5, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxUkvRefIdeal.lean ====
abbrev S4096x2048 : Shape := ⟨2, ![4096, 2048]⟩
abbrev S256x2048 : Shape := ⟨2, ![256, 2048]⟩
abbrev S2048x256 : Shape := ⟨2, ![2048, 256]⟩
abbrev S4096x256 : Shape := ⟨2, ![4096, 256]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S256x2048, .bf16⟩
  | .hbm, ⟨2, _⟩ => ⟨S256x2048, .f32⟩
  | .hbm, ⟨3, _⟩ => ⟨S2048x256, .f32⟩
  | .hbm, ⟨4, _⟩ => ⟨S4096x256, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DxOut.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxOutIdeal.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxOutRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DxUp.lean ====
abbrev S4096x4096 : Shape := ⟨2, ![4096, 4096]⟩
abbrev S1024x4096 : Shape := ⟨2, ![1024, 4096]⟩
abbrev S4096x1024 : Shape := ⟨2, ![4096, 1024]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S1024x4096, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxUpIdeal.lean ====
abbrev S4096x4096 : Shape := ⟨2, ![4096, 4096]⟩
abbrev S1024x4096 : Shape := ⟨2, ![1024, 4096]⟩
abbrev S4096x1024 : Shape := ⟨2, ![4096, 1024]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S1024x4096, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxUpRefIdeal.lean ====
abbrev S4096x4096 : Shape := ⟨2, ![4096, 4096]⟩
abbrev S1024x4096 : Shape := ⟨2, ![1024, 4096]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1024x4096, .bf16⟩
  | .hbm, ⟨2, _⟩ => ⟨S1024x4096, .f32⟩
  | .hbm, ⟨3, _⟩ => ⟨S4096x1024, .f32⟩
  | .hbm, ⟨4, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DxDown.lean ====
abbrev S4096x1024 : Shape := ⟨2, ![4096, 1024]⟩
abbrev S4096x4096 : Shape := ⟨2, ![4096, 4096]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxDownRefIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .f32⟩
  | .hbm, ⟨3, _⟩ => ⟨S1024x4096, .f32⟩
  | .hbm, ⟨4, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwIn.lean ====
abbrev S4096x1024 : Shape := ⟨2, ![4096, 1024]⟩
abbrev S4096x9600 : Shape := ⟨2, ![4096, 9600]⟩
abbrev S1024x9600 : Shape := ⟨2, ![1024, 9600]⟩
abbrev S1024x512 : Shape := ⟨2, ![1024, 512]⟩
abbrev S1024x640 : Shape := ⟨2, ![1024, 640]⟩
abbrev S512x640 : Shape := ⟨2, ![512, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x9600, .f32⟩
  | .hbm, ⟨2, _⟩ => ⟨S1024x9600, .f32⟩
  | .local _ .vmem, ⟨0, _⟩ => ⟨S1024x512, .f32⟩
  | .local _ .vmem, ⟨1, _⟩ => ⟨S1024x512, .f32⟩
  | .local _ .vmem, ⟨2, _⟩ => ⟨S1024x640, .f32⟩
  | .local _ .vmem, ⟨3, _⟩ => ⟨S1024x640, .f32⟩
  | .local _ .vmem, ⟨4, _⟩ => ⟨S512x640, .f32⟩
  | .local _ .vmem, ⟨5, _⟩ => ⟨S512x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 15, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInIdeal.lean ====
abbrev S4096x1024 : Shape := ⟨2, ![4096, 1024]⟩
abbrev S4096x9600 : Shape := ⟨2, ![4096, 9600]⟩
abbrev S1024x9600 : Shape := ⟨2, ![1024, 9600]⟩
abbrev S1024x512 : Shape := ⟨2, ![1024, 512]⟩
abbrev S1024x640 : Shape := ⟨2, ![1024, 640]⟩
abbrev S512x640 : Shape := ⟨2, ![512, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x9600, .f32⟩
  | .hbm, ⟨2, _⟩ => ⟨S1024x9600, .f32⟩
  | .local _ .vmem, ⟨0, _⟩ => ⟨S1024x512, .f32⟩
  | .local _ .vmem, ⟨1, _⟩ => ⟨S1024x512, .f32⟩
  | .local _ .vmem, ⟨2, _⟩ => ⟨S1024x640, .f32⟩
  | .local _ .vmem, ⟨3, _⟩ => ⟨S1024x640, .f32⟩
  | .local _ .vmem, ⟨4, _⟩ => ⟨S512x640, .f32⟩
  | .local _ .vmem, ⟨5, _⟩ => ⟨S512x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 15, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4096x1024 : Shape := ⟨2, ![4096, 1024]⟩
abbrev S4096x9600 : Shape := ⟨2, ![4096, 9600]⟩
abbrev S1024x4096 : Shape := ⟨2, ![1024, 4096]⟩
abbrev S1024x9600 : Shape := ⟨2, ![1024, 9600]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x9600, .f32⟩
  | .hbm, ⟨2, _⟩ => ⟨S1024x4096, .f32⟩
  | .hbm, ⟨3, _⟩ => ⟨S1024x9600, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DwUq.lean ====
abbrev S4096x512 : Shape := ⟨2, ![4096, 512]⟩
abbrev S4096x2048 : Shape := ⟨2, ![4096, 2048]⟩
abbrev S512x2048 : Shape := ⟨2, ![512, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S512x2048, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUqIdeal.lean ====
abbrev S4096x512 : Shape := ⟨2, ![4096, 512]⟩
abbrev S4096x2048 : Shape := ⟨2, ![4096, 2048]⟩
abbrev S512x2048 : Shape := ⟨2, ![512, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S512x2048, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUqRefIdeal.lean ====
abbrev S4096x512 : Shape := ⟨2, ![4096, 512]⟩
abbrev S4096x2048 : Shape := ⟨2, ![4096, 2048]⟩
abbrev S512x4096 : Shape := ⟨2, ![512, 4096]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S512x4096, .f32⟩
  | .hbm, ⟨3, _⟩ => ⟨S512x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DwUkv.lean ====
abbrev S4096x256 : Shape := ⟨2, ![4096, 256]⟩
abbrev S4096x2048 : Shape := ⟨2, ![4096, 2048]⟩
abbrev S256x2048 : Shape := ⟨2, ![256, 2048]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S256x2048, .f32⟩
  | .local _ .vmem, ⟨0, _⟩ => ⟨S1024x256, .f32⟩
  | .local _ .vmem, ⟨1, _⟩ => ⟨S1024x256, .f32⟩
  | .local _ .vmem, ⟨2, _⟩ => ⟨S1024x1024, .f32⟩
  | .local _ .vmem, ⟨3, _⟩ => ⟨S1024x1024, .f32⟩
  | .local _ .vmem, ⟨4, _⟩ => ⟨S256x1024, .f32⟩
  | .local _ .vmem, ⟨5, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUkvIdeal.lean ====
abbrev S4096x256 : Shape := ⟨2, ![4096, 256]⟩
abbrev S4096x2048 : Shape := ⟨2, ![4096, 2048]⟩
abbrev S256x2048 : Shape := ⟨2, ![256, 2048]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S256x2048, .f32⟩
  | .local _ .vmem, ⟨0, _⟩ => ⟨S1024x256, .f32⟩
  | .local _ .vmem, ⟨1, _⟩ => ⟨S1024x256, .f32⟩
  | .local _ .vmem, ⟨2, _⟩ => ⟨S1024x1024, .f32⟩
  | .local _ .vmem, ⟨3, _⟩ => ⟨S1024x1024, .f32⟩
  | .local _ .vmem, ⟨4, _⟩ => ⟨S256x1024, .f32⟩
  | .local _ .vmem, ⟨5, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUkvRefIdeal.lean ====
abbrev S4096x256 : Shape := ⟨2, ![4096, 256]⟩
abbrev S4096x2048 : Shape := ⟨2, ![4096, 2048]⟩
abbrev S256x4096 : Shape := ⟨2, ![256, 4096]⟩
abbrev S256x2048 : Shape := ⟨2, ![256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S256x4096, .f32⟩
  | .hbm, ⟨3, _⟩ => ⟨S256x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DwOut.lean ====
abbrev S4096x1024 : Shape := ⟨2, ![4096, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutIdeal.lean ====
abbrev S4096x1024 : Shape := ⟨2, ![4096, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DwUp.lean ====
abbrev S4096x1024 : Shape := ⟨2, ![4096, 1024]⟩
abbrev S4096x4096 : Shape := ⟨2, ![4096, 4096]⟩
abbrev S1024x4096 : Shape := ⟨2, ![1024, 4096]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x4096, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpIdeal.lean ====
abbrev S4096x1024 : Shape := ⟨2, ![4096, 1024]⟩
abbrev S4096x4096 : Shape := ⟨2, ![4096, 4096]⟩
abbrev S1024x4096 : Shape := ⟨2, ![1024, 4096]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x4096, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S4096x1024 : Shape := ⟨2, ![4096, 1024]⟩
abbrev S4096x4096 : Shape := ⟨2, ![4096, 4096]⟩
abbrev S1024x4096 : Shape := ⟨2, ![1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x4096, .f32⟩
  | .hbm, ⟨3, _⟩ => ⟨S1024x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DwDown.lean ====
abbrev S4096x4096 : Shape := ⟨2, ![4096, 4096]⟩
abbrev S4096x1024 : Shape := ⟨2, ![4096, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S4096x4096 : Shape := ⟨2, ![4096, 4096]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .f32⟩
  | .hbm, ⟨3, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Start.lean ====
/- # Starting a program whose devices share what they hold

The launch of a TensorCore program in which the devices' buffers and semaphores are dealt out once, together,
before any device runs. A step over all devices at the same time (`hstart`) may open invariants over every device's
scoped semaphores and hand one device's buffer pieces to another. -/
module

public import Idealize.ShloMosaic.Lib.Pipeline.Launch
public import Idealize.ShloMosaic.Lib.Pipeline.Kit
public import Idealize.ShloMosaic.Lib.Pipeline.Regions
public import Idealize.ShloMosaic.Lib.Quiescent
public import Idealize.ShloMosaic.Lib.Tactic

@[expose] public section

set_option Elab.async false

noncomputable section

namespace Cert.Start

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : ℕ} {τ : Topo} {sig : RefSig} {Val : EltTy → Type}
variable {U : Type} [URA U] {Λ : Labels}

local notation "𝕄" => MT nD τ sig Unit Val ℕ U ℕ

/-- What device `c` holds at launch, from memory `m` with every counter at zero, owing `O c`. -/
def held (m : (ℓ : Loc nD τ sig) → Buf Val ℓ) (O : Dev nD → CellTallies nD τ sig Unit) (c : Dev nD) : sProp 𝕄 :=
  iprop(boundary (c.tc : Thread nD τ) ∗ unscopedBufs c (fun b => m ((c.tc : Thread nD τ).loc b)) ∗ unscopedSems0 c
    ∗ owes (c.tc : Thread nD τ) (O c) ∅ ∗ launchCred O c)

/-- The rights to assign levels, spent: every TensorCore pair of `L` is at its level. -/
theorem levels_assign (L : GSem nD τ sig → Finset Unit) (lv : GSem nD τ sig → Unit → ℕ) (hL : ∀ g : GSem nD τ sig, g.1.2 ≠ .tc → L g = ∅) :
    (bigSep Finset.univ fun c : Dev nD => (levels0 c : sProp 𝕄)) ⊢ |==> (levAts L lv : sProp 𝕄) := by
  have hone (c : Dev nD) : (levels0 c : sProp 𝕄) ⊢ |==> coreLevAts (c.tc : Thread nD τ) L lv :=
    (lev_assign_cells (c.tc : Thread nD τ) L lv).trans (BI.bupd_mono (show iprop(_ ∗ coreLevAts (c.tc : Thread nD τ) L lv) ⊢ coreLevAts (c.tc : Thread nD τ) L lv from by iintro ⟨-, H⟩; iexact H))
  have hoff : (bigSep Finset.univ fun d : Dev nD => bigSep (Finset.univ.erase Proc.tc) fun p => (coreLevAts ((d, p) : Thread nD τ) L lv : sProp 𝕄)) = BI.emp := by
    refine (bigSep_congr (Ψ := fun _ => BI.emp) fun d _ => ?_).trans (BI.bigSep_emp_const _)
    refine (bigSep_congr (Ψ := fun _ => BI.emp) fun p hp => ?_).trans (BI.bigSep_emp_const _)
    unfold coreLevAts
    refine (bigSep_congr (Ψ := fun _ => BI.emp) fun sm _ => ?_).trans (BI.bigSep_emp_const _)
    rw [hL _ (Finset.ne_of_mem_erase hp), BI.bigSep_empty]
  have hall : (levAts L lv : sProp 𝕄) = bigSep Finset.univ fun c : Dev nD => coreLevAts (c.tc : Thread nD τ) L lv := by
    have h1 : (levAts L lv : sProp 𝕄) = bigSep Finset.univ fun c : Thread nD τ => coreLevAts c L lv :=
      bigSep_univ_prod fun g : GSem nD τ sig => bigSep (L g) fun ι => levAt g ι (lv g ι)
    rw [h1, bigSep_threads (fun c : Thread nD τ => coreLevAts c L lv), hoff]
    exact sep_emp_eq _
  rw [hall]
  exact (bigSep_mono fun c _ => hone c).trans (BI.bigSep_bupd _ _)

/-- **The launch.** -/
theorem run_all [∀ e, Nonempty (Val e)] {defs : Defs nD τ sig Val Λ} (𝒱 : Variants)
    (m : (ℓ : Loc nD τ sig) → Buf Val ℓ) (g : Dev nD → PrngReg)
    (main : Dev nD → Prog (TpuEff nD τ sig Val Λ .tc) PUnit)
    (O : Dev nD → CellTallies nD τ sig Unit)
    (L : GSem nD τ sig → Finset Unit) (lv : GSem nD τ sig → Unit → ℕ) (hL : ∀ g : GSem nD τ sig, g.1.2 ≠ .tc → L g = ∅)
    (u₀ : U) (T T' : Dev nD → sProp 𝕄)
    (hstart : iprop((bigSep Finset.univ fun c : Dev nD => held m O c) ∗ levAts L lv ∗ ownU u₀) ⊢ |={Set.univ}=> bigSep Finset.univ T)
    (hrun : ∀ c : Dev nD, T c ⊢ wp frame (wpE defs 𝒱 (c.tc : Thread nD τ) none) Set.univ (main c)
      (fun _ => iprop((T' c ∗ boundary (c.tc : Thread nD τ)) ∗ ∃ W, owes (c.tc : Thread nD τ) (0 : CellTallies nD τ sig Unit) W)))
    (R : Dev nD → MemSt nD τ sig Val → Prop)
    (hend : ∀ c (s' : Phys nD τ sig Val), iprop(T' c ∗ SI s') ⊢ |={Set.univ}=> iprop(⌜R c s'.mem⌝ ∗ SI s'))
    {Q : PUnit × MemSt nD τ sig Val → Prop}
    (hQ : ∀ s : MemSt nD τ sig Val, (∀ c : Dev nD, R c s) →
      (∀ g' : GSem nD τ sig, (g'.1.2 ≠ .tc ∨ g'.2.isScoped .tc = true) → s.sem g' = 0) → Q (⟨⟩, s)) :
    θ_run defs (onTc main) ⟨m, fun _ => 0, g⟩ Q := by
  classical
  have hcore (c : Dev nD) : coreInit (Ix := Unit) (Name := ℕ) (U := U) (Lvl := ℕ) (owing O) 0 (⟨m, fun _ => 0, g⟩ : MemSt nD τ sig Val) (c.tc : Thread nD τ)
      ⊢ iprop(held m O c ∗ levels0 c) := by
    refine (coreInit_boundary_owing O m g c).trans ?_
    unfold held
    iintro ⟨H1, H2, H3, H4, H5, -, H6⟩
    isplitr [H5]
    · isplitl [H1]; · iexact H1
      isplitl [H2]; · iexact H2
      isplitl [H3]; · iexact H3
      isplitl [H4] <;> iassumption
    · iexact H5
  have hcores : (bigSep Finset.univ fun c : Dev nD =>
        coreInit (Ix := Unit) (Name := ℕ) (U := U) (Lvl := ℕ) (owing O) 0 (⟨m, fun _ => 0, g⟩ : MemSt nD τ sig Val) (c.tc : Thread nD τ))
      ⊢ iprop((bigSep Finset.univ fun c : Dev nD => held m O c) ∗ bigSep Finset.univ fun c : Dev nD => levels0 c) := by
    rw [← bigSep_sep']
    exact bigSep_mono fun c _ => hcore c
  refine (θ_run defs _ _).mono (Q := fun r => (∀ c : Dev nD, R c r.2 ∧ ∀ sm : SemLoc sig, sm.isScoped .tc = true → r.2.sem ((c.tc : Thread nD τ), sm) = 0)
      ∧ ∀ g' : GSem nD τ sig, g'.1.2 ≠ .tc → r.2.sem g' = 0) ?_ ?_
  · intro r hr
    exact hQ r.2 (fun c => (hr.1 c).1) (sems_of_reads (fun c => (hr.1 c).2) hr.2)
  refine adequate_tpu defs _ _ _ (reflect_intro_fupd_tc_sems (X := Unit) 𝒱 (owing O) 0 (noBookings fun _ => le_rfl) (owing_of_ne O) u₀
    (fun _ => T) (fun _ c => iprop(T' c ∗ boundary (c.tc : Thread nD τ))) (fun _ => iprop(emp)) Set.univ ?_ ?_ ?_)
  · iintro ⟨Hc, Hu⟩
    ihave Hc' := hcores $$ Hc
    icases Hc' with ⟨Hh, Hl⟩
    imod (levels_assign L lv hL) $$ Hl with Hla
    imod hstart $$ [Hh Hla Hu] with HT
    · isplitl [Hh]; · iexact Hh
      isplitl [Hla] <;> iassumption
    imodintro
    iexists ()
    isplitl [HT]; · iexact HT
    iempintro
  · intro _ c
    exact hrun c
  · intro _
    iintro ⟨H, -, Hs⟩ %s' HSI
    ihave %hz := (scSems_read_zero m g s') $$ [Hs HSI]
    · isplitl [Hs] <;> iassumption
    imod (posts_fupd Finset.univ (fun c s' => boundary_read c s' (hend c s')) s') $$ [H HSI] with %h
    · isplitl [H] <;> iassumption
    imodintro
    ipureintro
    exact ⟨fun c => h c (Finset.mem_univ c), hz⟩

end Cert.Start
-- ==== Proof.Cells.lean ====
/-

A program run by every device of a mesh, in which each semaphore cell of each device is paid once (by a copy of its
own, by a send of its own, or by a send of one fixed other device) and waited for once. The instructions are
numbered; `ti k` is the number of the instruction that pays semaphore `k`, `tw k` of the one that waits for it, and
`tf k` of the one that uses up again what the wait gave (a copy that forwards what came in). What a device holds before
instruction `t` is then one proposition, `St c t`, and each kind of instruction is one step from `St c t` to
`St c (t + 1)`.
-/
module

public import Idealize.ShloMosaic.Lib.Pipeline.Launch
public import Idealize.ShloMosaic.Lib.Pipeline.Kit
public import Idealize.ShloMosaic.Lib.Pipeline.Regions
public import Idealize.ShloMosaic.Lib.Tactic
public import proofs.«01_k».proof.Proof.Start

@[expose] public section

set_option Elab.async false

noncomputable section

namespace Cert.Cells

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : ℕ} {τ : Topo} {sig : RefSig} {Val : EltTy → Type}

/-- The ghost state: the pipeline library's rounds, and this exchange's. -/
abbrev UU (nD : ℕ) (τ : Topo) (sig : RefSig) : Type := URounds (GSem nD τ sig) Unit × URounds (GSem nD τ sig) Unit

local notation "𝕄" => MT nD τ sig Unit Val ℕ (UU nD τ sig) ℕ

abbrev EP : Emb (URounds (GSem nD τ sig) Unit) 𝕄 := embL
abbrev ER : Emb (URounds (GSem nD τ sig) Unit) 𝕄 := embR

variable (nD τ sig Val) in
/-- What such an exchange is. -/
structure Plan (K : Type) where
  /-- The semaphores, -/
  cell : K → SemLoc sig
  inj : Function.Injective cell
  /-- the device whose semaphore `k` is paid by a given device, -/
  tgt : K → Equiv.Perm (Dev nD)
  /-- whether another device's send pays it, -/
  owed : K → Bool
  /-- by how much, -/
  amt : K → ℕ
  amt_pos : ∀ k, 0 < amt k
  /-- the numbers of the instructions that pay it, that wait for it, and that use up what came; -/
  ti : K → ℕ
  tw : K → ℕ
  tf : K → ℕ
  /-- its place in the order of waiting, -/
  lev : K → ℕ
  /-- what the paying device gives up, -/
  res : Dev nD → K → sProp 𝕄
  /-- and what the waiting device gets. -/
  pay : Dev nD → K → sProp 𝕄
  stor : ∀ c k, BI.Storable (upEmb : UEmb _ 𝕄) (pay c k)

namespace Plan

variable {K : Type} [Fintype K] [DecidableEq K] (P : Plan nD τ sig Val K)

open Classical in
/-- Which of the plan's semaphores one is. -/
def dec (s : SemLoc sig) : Option K := if h : ∃ k, P.cell k = s then some h.choose else none

theorem dec_cell (k : K) : P.dec (P.cell k) = some k := by
  have h : ∃ k', P.cell k' = P.cell k := ⟨k, rfl⟩
  unfold dec
  rw [dif_pos h, P.inj h.choose_spec]

/-- Device `c`'s cell of semaphore `k`. -/
abbrev at' (c : Dev nD) (k : K) : GSem nD τ sig := ((c : Thread nD τ), P.cell k)

/-- One round per cell, one duty in it. -/
def Rd : Rounds.Schedule (GSem nD τ sig) Unit 𝕄 where
  duties g r := if r = 0 ∧ g.1.2 = .tc ∧ (P.dec g.2).isSome then {()} else ∅
  unitless _ := False
  amount g _ _ := (P.dec g.2).elim 1 P.amt
  payload g _ _ := (P.dec g.2).elim iprop(emp) (P.pay g.1.1)
  amount_pos g _ _ _ := by
    show 0 < (P.dec g.2).elim 1 P.amt
    cases P.dec g.2 with
    | none => exact Nat.one_pos
    | some k => exact P.amt_pos k

instance Rd_storable (g : GSem nD τ sig) (r : ℕ) (d : Unit) : BI.Storable (upEmb : UEmb _ 𝕄) (P.Rd.payload g r d) := by
  show BI.Storable upEmb ((P.dec g.2).elim iprop(emp) (P.pay g.1.1))
  cases P.dec g.2 with
  | none => exact (inferInstance : BI.Storable (upEmb : UEmb _ 𝕄) iprop(emp))
  | some k => exact P.stor g.1.1 k

theorem duties_at (c : Dev nD) (k : K) : P.Rd.duties (P.at' c k) 0 = {()} := by
  show (if (0 : ℕ) = 0 ∧ _ ∧ (P.dec (P.cell k)).isSome then _ else _) = _
  rw [dec_cell]; exact if_pos ⟨rfl, rfl, rfl⟩
theorem duties_later (g : GSem nD τ sig) (r : ℕ) (h : 0 + 1 ≤ r) : P.Rd.duties g r = ∅ := if_neg fun h' => by omega
theorem mem_duties (c : Dev nD) (k : K) : () ∈ P.Rd.duties (P.at' c k) 0 := by rw [duties_at]; exact Finset.mem_singleton_self _
theorem amount_at (c : Dev nD) (k : K) (r : ℕ) (d : Unit) : P.Rd.amount (P.at' c k) r d = P.amt k := by
  show (P.dec (P.cell k)).elim 1 P.amt = _
  rw [dec_cell]; rfl
theorem payload_at (c : Dev nD) (k : K) (r : ℕ) (d : Unit) : P.Rd.payload (P.at' c k) r d = P.pay c k := by
  show (P.dec (P.cell k)).elim iprop(emp) (P.pay c) = _
  rw [dec_cell]; rfl
theorem expect_at (c : Dev nD) (k : K) : P.Rd.expect (P.at' c k) 0 = P.amt k := by
  unfold Schedule.expect Schedule.amountOf; rw [duties_at, Finset.sum_singleton, amount_at]
theorem rest_at (c : Dev nD) (k : K) : bigSep (P.Rd.duties (P.at' c k) 0 \ ∅) (fun d => P.Rd.payload (P.at' c k) 0 d) = P.pay c k := by
  rw [Finset.sdiff_empty, duties_at, bigSep_singleton, payload_at]

/-! ## What a device owes -/

/-- What one payment to another device's cell is worth. -/
def due (k : K) (c : Dev nD) : CellTallies nD τ sig Unit := tallyAt (P.at' (P.tgt k c) k) () (P.amt k)

/-- The payments to other devices left before instruction `t`. -/
def left (t : ℕ) : Finset K := Finset.univ.filter fun k => P.owed k = true ∧ t ≤ P.ti k
def owe (c : Dev nD) (t : ℕ) : CellTallies nD τ sig Unit := ∑ k ∈ P.left t, P.due k c

/-- Every TensorCore cell has a level: the plan's order of waiting. -/
def L : GSem nD τ sig → Finset Unit := fun g => if g.1.2 = .tc then {()} else ∅
def lv (g : GSem nD τ sig) (_ : Unit) : ℕ := (P.dec g.2).elim 0 P.lev

theorem L_of_ne (g : GSem nD τ sig) (h : g.1.2 ≠ .tc) : L g = ∅ := if_neg h

theorem mayWait (c : Dev nD) (t : ℕ) (k : K) (h : ∀ k', P.owed k' = true → t ≤ P.ti k' → P.lev k < P.lev k') :
    (levAts L P.lv : sProp 𝕄) ⊢ MayWait (c : Thread nD τ) (P.cell k) () (P.owe c t) := by
  refine mayWait_of_levAts (by unfold L; rw [if_pos rfl]; exact Finset.mem_singleton_self _) fun g i hg => ?_
  obtain ⟨k', hk', hp⟩ := sum_pos_exists hg
  obtain ⟨rfl, rfl⟩ := tallyAt_pos hp
  refine ⟨by unfold L; rw [if_pos rfl]; exact Finset.mem_singleton_self _, ?_⟩
  unfold lv
  show (P.dec (P.cell k)).elim 0 P.lev < (P.dec (P.cell k')).elim 0 P.lev
  rw [dec_cell, dec_cell]
  have hm := (Finset.mem_filter.mp hk').2
  exact h k' hm.1 hm.2

/-! ## What a device holds -/

/-- Every cell's invariant, every cell's first round reached, and the levels: shared by all. -/
def recs (κ : Dev nD × K → ℕ) : sProp 𝕄 :=
  iprop((bigSep Finset.univ fun ck : Dev nD × K => cellInv ER P.Rd (κ ck) (P.at' ck.1 ck.2))
    ∗ (bigSep Finset.univ fun ck : Dev nD × K => reached ER (P.at' ck.1 ck.2) 0) ∗ levAts L P.lv)

instance recs_persistent (κ : Dev nD × K → ℕ) : BI.Persistent (P.recs κ) := by unfold recs; infer_instance

theorem recs_inv (κ : Dev nD × K → ℕ) (c : Dev nD) (k : K) : P.recs κ ⊢ cellInv ER P.Rd (κ (c, k)) (P.at' c k) := by
  unfold recs; iintro ⟨H, -, -⟩
  iapply (show (bigSep Finset.univ fun ck : Dev nD × K => (cellInv ER P.Rd (κ ck) (P.at' ck.1 ck.2) : sProp 𝕄)) ⊢ cellInv ER P.Rd (κ (c, k)) (P.at' c k)
    from bigSep_elim (Finset.mem_univ (c, k))); iexact H
theorem recs_reached (κ : Dev nD × K → ℕ) (c : Dev nD) (k : K) : P.recs κ ⊢ reached ER (P.at' c k) 0 := by
  unfold recs; iintro ⟨-, H, -⟩
  iapply (show (bigSep Finset.univ fun ck : Dev nD × K => (reached ER (P.at' ck.1 ck.2) 0 : sProp 𝕄)) ⊢ reached ER (P.at' c k) 0
    from bigSep_elim (Finset.mem_univ (c, k))); iexact H
theorem recs_lev (κ : Dev nD × K → ℕ) : P.recs κ ⊢ levAts L P.lv := by
  unfold recs; iintro ⟨-, -, H⟩; iexact H

/-- The right to pay semaphore `k`, with what is given up for it. -/
def tokP (c : Dev nD) (k : K) : sProp 𝕄 := iprop(dutyTok ER (P.at' (P.tgt k c) k) 0 () ∗ P.res c k)
def credP (c : Dev nD) (k : K) : sProp 𝕄 := cred (tallyAt (P.at' c k) () (P.amt k))
def at0 (c : Dev nD) (k : K) : sProp 𝕄 := atPos ER (P.at' c k) 0 ∅ 0
def at1 (c : Dev nD) (k : K) : sProp 𝕄 := atPos ER (P.at' c k) (0 + 1) ∅ 0

/-- The semaphores not paid yet; those paid (or paid by others) and not waited for; those not waited for; those waited for;
    those whose arrival is held. -/
def sTok (t : ℕ) : Finset K := Finset.univ.filter fun k => t ≤ P.ti k
def sCred (t : ℕ) : Finset K := Finset.univ.filter fun k => (P.owed k = true ∨ P.ti k < t) ∧ t ≤ P.tw k
def sAt0 (t : ℕ) : Finset K := Finset.univ.filter fun k => t ≤ P.tw k
def sAt1 (t : ℕ) : Finset K := Finset.univ.filter fun k => P.tw k < t
def sPay (t : ℕ) : Finset K := Finset.univ.filter fun k => P.tw k < t ∧ t ≤ P.tf k

/-- What device `c` holds before instruction `t`. -/
def St (κ : Dev nD × K → ℕ) (c : Dev nD) (t : ℕ) : sProp 𝕄 :=
  iprop(P.recs κ ∗ bigSep (P.sTok t) (P.tokP c) ∗ (∃ W, owes (c : Thread nD τ) (P.owe c t) W)
    ∗ bigSep (P.sCred t) (P.credP c) ∗ bigSep (P.sAt0 t) (P.at0 c) ∗ bigSep (P.sAt1 t) (P.at1 c) ∗ bigSep (P.sPay t) (P.pay c))

/-- What instruction `t` uses up of what came. -/
def used (c : Dev nD) (t : ℕ) : sProp 𝕄 := bigSep (Finset.univ.filter fun k => P.tf k = t) (P.pay c)

theorem used_none (c : Dev nD) (t : ℕ) (h : ∀ k, P.tf k ≠ t) : P.used c t = iprop(emp) := by
  unfold used
  rw [Finset.filter_false_of_mem (fun k _ => h k), bigSep_empty]; rfl
theorem used_one (c : Dev nD) (t : ℕ) (k : K) (h : ∀ k', P.tf k' = t ↔ k' = k) : P.used c t = P.pay c k := by
  unfold used
  rw [show (Finset.univ.filter fun k' => P.tf k' = t) = {k} from by ext k'; simp [h k'], bigSep_singleton]

/-! ### The five sets from one instruction to the next -/

theorem sAt0_same {t : ℕ} (h : ∀ k, P.tw k ≠ t) : P.sAt0 (t + 1) = P.sAt0 t := by
  unfold sAt0; ext k; have := h k; simp only [Finset.mem_filter, Finset.mem_univ, true_and]; omega
theorem sAt1_same {t : ℕ} (h : ∀ k, P.tw k ≠ t) : P.sAt1 (t + 1) = P.sAt1 t := by
  unfold sAt1; ext k; have := h k; simp only [Finset.mem_filter, Finset.mem_univ, true_and]; omega
theorem sPay_pay {t : ℕ} (hw : ∀ k, P.tw k ≠ t) (hf : ∀ k, P.tf k = t → P.tw k < t) :
    P.sPay t = P.sPay (t + 1) ∪ Finset.univ.filter (fun k => P.tf k = t) := by
  unfold sPay; ext k; have := hw k; have := hf k
  simp only [Finset.mem_union, Finset.mem_filter, Finset.mem_univ, true_and]; omega
theorem sPay_disj {t : ℕ} : Disjoint (P.sPay (t + 1)) (Finset.univ.filter (fun k => P.tf k = t)) := by
  unfold sPay; rw [Finset.disjoint_left]; intro k; simp only [Finset.mem_filter, Finset.mem_univ, true_and]; omega

theorem sTok_wait {t : ℕ} (h : ∀ k, P.ti k ≠ t) : P.sTok (t + 1) = P.sTok t := by
  unfold sTok; ext k; have := h k; simp only [Finset.mem_filter, Finset.mem_univ, true_and]; omega
theorem left_wait {t : ℕ} (h : ∀ k, P.ti k ≠ t) : P.left (t + 1) = P.left t := by
  unfold left; ext k; have := h k; simp only [Finset.mem_filter, Finset.mem_univ, true_and]
  exact and_congr_right fun _ => by omega
theorem sAt0_wait {t : ℕ} {k : K} (h : ∀ k', P.tw k' = t ↔ k' = k) : P.sAt0 t = insert k (P.sAt0 (t + 1)) := by
  unfold sAt0; ext k'; simp only [Finset.mem_insert, Finset.mem_filter, Finset.mem_univ, true_and, ← h k']; omega
theorem sAt1_wait {t : ℕ} {k : K} (h : ∀ k', P.tw k' = t ↔ k' = k) : P.sAt1 (t + 1) = insert k (P.sAt1 t) := by
  unfold sAt1; ext k'; simp only [Finset.mem_insert, Finset.mem_filter, Finset.mem_univ, true_and, ← h k']; omega
theorem sPay_wait {t : ℕ} {k : K} (h : ∀ k', P.tw k' = t ↔ k' = k) (hf : ∀ k, P.tf k ≠ t) (hk : t < P.tf k) :
    P.sPay (t + 1) = insert k (P.sPay t) := by
  unfold sPay; ext k'; have := hf k'
  simp only [Finset.mem_insert, Finset.mem_filter, Finset.mem_univ, true_and, ← h k']
  by_cases hh : P.tw k' = t
  · have : k' = k := (h k').mp hh
    subst this; omega
  · omega
theorem sCred_wait {t : ℕ} {k : K} (h : ∀ k', P.tw k' = t ↔ k' = k) (hi : ∀ k, P.ti k ≠ t) (hk : P.owed k = true ∨ P.ti k < t) :
    P.sCred t = insert k (P.sCred (t + 1)) := by
  unfold sCred; ext k'; have := hi k'
  simp only [Finset.mem_insert, Finset.mem_filter, Finset.mem_univ, true_and, ← h k']
  by_cases hh : P.tw k' = t
  · have : k' = k := (h k').mp hh
    subst this
    cases ho : P.owed k' <;> rw [ho] at hk <;> simp at hk ⊢ <;> omega
  · cases P.owed k' <;> simp <;> omega

theorem bigSep_ins {I : Type} [DecidableEq I] {s : Finset I} {i : I} (hi : i ∉ s) (Φ : I → sProp 𝕄) :
    bigSep (insert i s) Φ = iprop(Φ i ∗ bigSep s Φ) := bigSep_insert hi

/-! ### Steps -/

section Steps

variable {Λ : Labels} {defs : Defs nD τ sig Val Λ} (𝒱 : Variants) (bd : Option 𝒱.V)
variable {α : Type}

/-- A wait. -/
theorem wait_step (κ : Dev nD × K → ℕ) (c : Dev nD) (t : ℕ) (k : K)
    {w : TpuEff nD τ sig Val Λ (c : Thread nD τ).2 PUnit} {sm : SemLoc sig} {N : ℕ}
    (hw : ∀ Kt : PUnit → sProp 𝕄, wpE defs 𝒱 (c : Thread nD τ) bd Set.univ w Kt = waitSpec (c : Thread nD τ) Set.univ sm N Kt)
    (hsm : sm = P.cell k) (hN : N = P.amt k)
    (ht : ∀ k', P.tw k' = t ↔ k' = k) (hi : ∀ k, P.ti k ≠ t) (hf : ∀ k, P.tf k ≠ t) (hkf : t < P.tf k)
    (hkc : P.owed k = true ∨ P.ti k < t) (hlev : ∀ k', P.owed k' = true → t ≤ P.ti k' → P.lev k < P.lev k')
    {kt : PUnit → Prog (TpuEff nD τ sig Val Λ (c : Thread nD τ).2) α} {Q : α → sProp 𝕄} :
    P.St κ c t ⊢ iprop((P.St κ c (t + 1) -∗ wp frame (wpE defs 𝒱 (c : Thread nD τ) bd) Set.univ (kt ⟨⟩) Q)
      -∗ wp frame (wpE defs 𝒱 (c : Thread nD τ) bd) Set.univ (.op w kt) Q) := by
  subst hsm hN
  have htk : P.tw k = t := (ht k).mpr rfl
  have h0 : k ∉ P.sAt0 (t + 1) := by unfold sAt0; simp only [Finset.mem_filter, Finset.mem_univ, true_and]; omega
  have h1 : k ∉ P.sAt1 t := by unfold sAt1; simp only [Finset.mem_filter, Finset.mem_univ, true_and]; omega
  have h2 : k ∉ P.sPay t := by unfold sPay; simp only [Finset.mem_filter, Finset.mem_univ, true_and]; omega
  have h3 : k ∉ P.sCred (t + 1) := by unfold sCred; simp only [Finset.mem_filter, Finset.mem_univ, true_and]; omega
  unfold St
  rw [P.sTok_wait hi, show P.owe c (t + 1) = P.owe c t from by unfold owe; rw [P.left_wait hi], P.sAt0_wait ht, P.sAt1_wait ht,
    P.sPay_wait ht hf hkf, P.sCred_wait ht hi hkc, bigSep_ins h0, bigSep_ins h1, bigSep_ins h2, bigSep_ins h3]
  iintro ⟨#HR, HT, ⟨%W, HO⟩, ⟨HC, HCs⟩, ⟨HA, HAs⟩, HB, HP⟩ Hk
  unfold credP at0
  iapply (Rounds.wp_wait_rest_token 𝒱 ER P.Rd (c : Thread nD τ) bd (κ := κ (c, k)) hw (Set.mem_univ _) () (O := P.owe c t) (W := W)
      (R := 0) (m := 0) (T := ∅) ((Nat.zero_add _).trans (P.expect_at c k).symm)) $$ [HC HO HA]
  · isplitr; · iapply (P.recs_inv κ c k); iexact HR
    isplitl [HC]; · iexact HC
    isplitl [HO]; · iexact HO
    isplitr; · iapply ((P.recs_lev κ).trans (P.mayWait c t k hlev)); iexact HR
    iexact HA
  iintro ⟨HO, HA, -, Hp⟩
  ihave Hp' := (Entails.of_eq (P.rest_at c k)) $$ Hp
  iapply Hk
  isplitr; · iexact HR
  isplitl [HT]; · iexact HT
  isplitl [HO]; · iexists _; iexact HO
  isplitl [HCs]; · iexact HCs
  isplitl [HAs]; · iexact HAs
  isplitl [HA HB]
  · isplitl [HA]; · unfold at1; iexact HA
    iexact HB
  isplitl [Hp'] <;> iassumption

theorem sTok_pay {t : ℕ} : P.sTok t = P.sTok (t + 1) ∪ Finset.univ.filter (fun k => P.ti k = t) := by
  unfold sTok; ext k; simp only [Finset.mem_union, Finset.mem_filter, Finset.mem_univ, true_and]; omega
theorem sTok_disj {t : ℕ} : Disjoint (P.sTok (t + 1)) (Finset.univ.filter (fun k => P.ti k = t)) := by
  unfold sTok; rw [Finset.disjoint_left]; intro k; simp only [Finset.mem_filter, Finset.mem_univ, true_and]; omega
theorem sCred_pay {t : ℕ} {k : K} (hw : ∀ k, P.tw k ≠ t) (hi : ∀ k', P.owed k' = false → (P.ti k' = t ↔ k' = k))
    (ho : P.owed k = false) (hk : t < P.tw k) : P.sCred (t + 1) = insert k (P.sCred t) := by
  unfold sCred; ext k'; have := hw k'
  simp only [Finset.mem_insert, Finset.mem_filter, Finset.mem_univ, true_and]
  cases hc : P.owed k' with
  | false =>
    rw [← hi k' hc]
    by_cases hh : P.ti k' = t
    · have : k' = k := (hi k' hc).mp hh
      subst this; simp; omega
    · simp; omega
  | true =>
    have : k' ≠ k := fun h => by subst h; rw [ho] at hc; exact absurd hc (by decide)
    simp [this]; omega

/-- A copy within the device. -/
theorem copy_step (κ : Dev nD × K → ℕ) (c : Dev nD) (t : ℕ) (k : K)
    (ht : ∀ k', P.ti k' = t ↔ k' = k) (hw : ∀ k, P.tw k ≠ t) (hf : ∀ k, P.tf k ≠ t) (hkw : t < P.tw k)
    (ho : P.owed k = false) (hself : P.tgt k c = c)
    {sp sp' : Space} {s : Shape} {e : EltTy} {src : Memref sig (c : Thread nD τ).2.kind sp s e} {dst : Memref sig (c : Thread nD τ).2.kind sp' s e} {sem : SemLoc sig}
    {hsrc : src.view.WordExact} {hdst : dst.view.WordExact} {hsem : DmaTarget.Typed (nD := nD) sp sem (.here dst)}
    {q : PosShare TreeShare} {fs : Buf Val (src.view.loc (c : Thread nD τ))} {fd : Buf Val (dst.view.loc (c : Thread nD τ))}
    (hs : sem = P.cell k) (hN : dst.view.amount sem = P.amt k)
    (hres : P.res c k ⊢ iprop((src.view.loc (c : Thread nD τ) ↦[src.view.set]{q} fs) ∗ (dst.view.loc (c : Thread nD τ) ↦[dst.view.set]{fullShare} fd)))
    (hpay : iprop((dst.view.loc (c : Thread nD τ) ↦[dst.view.set]{fullShare} (dst.view.write Val fd (src.view.read Val fs) Finset.univ))
        ∗ (src.view.loc (c : Thread nD τ) ↦[src.view.set]{q} fs)) ⊢ P.pay c k)
    {kt : PUnit → Prog (TpuEff nD τ sig Val Λ (c : Thread nD τ).2) α} {Q : α → sProp 𝕄} :
    P.St κ c t ⊢ iprop((P.St κ c (t + 1) -∗ wp frame (wpE defs 𝒱 (c : Thread nD τ) bd) Set.univ (kt ⟨⟩) Q)
      -∗ wp frame (wpE defs 𝒱 (c : Thread nD τ) bd) Set.univ (.op (.enqueueDma src (.here dst) sem hsrc hdst hsem) kt) Q) := by
  subst hs
  have hset : (Finset.univ.filter fun k' => P.ti k' = t) = {k} := by ext k'; simp [ht k']
  have hT : bigSep (P.sTok t) (P.tokP c) = iprop(bigSep (P.sTok (t + 1)) (P.tokP c) ∗ P.tokP c k) := by
    rw [P.sTok_pay, bigSep_union P.sTok_disj, hset, bigSep_singleton]; rfl
  have hO : P.owe c (t + 1) = P.owe c t := by
    unfold owe left
    refine congrArg (fun S => ∑ k ∈ S, P.due k c) ?_
    ext k'; simp only [Finset.mem_filter, Finset.mem_univ, true_and]
    refine ⟨fun h => ⟨h.1, by omega⟩, fun h => ⟨h.1, ?_⟩⟩
    have : P.ti k' ≠ t := fun hh => by rw [(ht k').mp hh, ho] at h; exact absurd h.1 (by decide)
    omega
  have hP : P.sPay (t + 1) = P.sPay t := by
    rw [P.sPay_pay hw fun k h => absurd h (hf k), Finset.filter_false_of_mem (fun k _ => hf k), Finset.union_empty]
  have h3 : k ∉ P.sCred t := by
    unfold sCred; simp only [Finset.mem_filter, Finset.mem_univ, true_and, ho]; have := (ht k).mpr rfl; simp; omega
  unfold St
  rw [hT, hO, P.sAt0_same hw, P.sAt1_same hw, hP, P.sCred_pay hw (fun k' _ => ht k') ho hkw, bigSep_ins h3]
  iintro ⟨#HR, ⟨HT, Ht⟩, HO, HC, HA, HB, HP⟩ Hk
  unfold tokP
  rw [hself]
  icases Ht with ⟨Ht, Hr⟩
  ihave Hr' := hres $$ Hr
  icases Hr' with ⟨Hs, Hd⟩
  iapply (Rounds.wp_copy_pointsTo 𝒱 ER P.Rd (c : Thread nD τ) bd (κ := κ (c, k)) (r := 0) (d := ()) (q := q) (fs := fs) (fd := fd)
      (P.mem_duties c k) () (P.amt k) hN (P.amount_at c k 0 ()) (hpay.trans (Entails.of_eq (P.payload_at c k 0 ()).symm))) $$ [Hs Hd Ht]
  · isplitr; · iapply (P.recs_inv κ c k); iexact HR
    isplitl [Hs]; · iexact Hs
    isplitl [Hd]; · iexact Hd
    isplitl [Ht]; · iexact Ht
    iapply (P.recs_reached κ c k); iexact HR
  iintro Hc
  iapply Hk
  isplitr; · iexact HR
  isplitl [HT]; · iexact HT
  isplitl [HO]; · iexact HO
  isplitl [Hc HC]
  · isplitl [Hc]; · unfold credP; iexact Hc
    iexact HC
  isplitl [HA]; · iexact HA
  isplitl [HB] <;> iassumption

/-- A copy to another device: `k₁` the semaphore of the source, `k₂` the one of the arrival. -/
theorem send_step (κ : Dev nD × K → ℕ) (c : Dev nD) (t : ℕ) (k₁ k₂ : K)
    (ht : ∀ k', P.ti k' = t ↔ (k' = k₁ ∨ k' = k₂)) (hne : k₁ ≠ k₂) (hw : ∀ k, P.tw k ≠ t) (hf : ∀ k, P.tf k = t → P.tw k < t) (hkw : t < P.tw k₁)
    (ho₁ : P.owed k₁ = false) (ho₂ : P.owed k₂ = true) (hself : P.tgt k₁ c = c)
    {c' : Dev nD} (hc' : c' = P.tgt k₂ c)
    {sp sp' : Space} {s : Shape} {e : EltTy} {src : Memref sig (c : Thread nD τ).2.kind sp s e} {dst : Memref sig (c' : Thread nD τ).2.kind sp' s e}
    {hsc : dst.view.ref.isScScratch = false} {sS sem : SemLoc sig}
    {hsrc : src.view.WordExact} {hdst : dst.view.WordExact} {hsem : DmaTarget.Typed sp sem (.remote (c' : Thread nD τ) dst sS hsc)}
    {q : PosShare TreeShare} {fs : Buf Val (src.view.loc (c : Thread nD τ))} {fd : Buf Val (dst.view.loc (c' : Thread nD τ))}
    (hs₁ : sS = P.cell k₁) (hs₂ : sem = P.cell k₂) (hN : dst.view.amount sem = P.amt k₂) (hN₁ : P.amt k₁ = P.amt k₂)
    (hres : iprop(P.res c k₁ ∗ P.res c k₂ ∗ P.used c t)
      ⊢ iprop((src.view.loc (c : Thread nD τ) ↦[src.view.set]{q} fs) ∗ (dst.view.loc (c' : Thread nD τ) ↦[dst.view.set]{fullShare} fd)))
    (hpay₁ : (src.view.loc (c : Thread nD τ) ↦[src.view.set]{q} fs) ⊢ P.pay c k₁)
    (hpay₂ : (dst.view.loc (c' : Thread nD τ) ↦[dst.view.set]{fullShare} (dst.view.write Val fd (src.view.read Val fs) Finset.univ)) ⊢ P.pay c' k₂)
    (hr : τ.routes (c : Thread nD τ) (c' : Thread nD τ) = true := by routes)
    {kt : PUnit → Prog (TpuEff nD τ sig Val Λ (c : Thread nD τ).2) α} {Q : α → sProp 𝕄} :
    P.St κ c t ⊢ iprop((P.St κ c (t + 1) -∗ wp frame (wpE defs 𝒱 (c : Thread nD τ) bd) Set.univ (kt ⟨⟩) Q)
      -∗ wp frame (wpE defs 𝒱 (c : Thread nD τ) bd) Set.univ (.op (.enqueueDma src (.remote (c' : Thread nD τ) dst sS hsc) sem hsrc hdst hsem) kt) Q) := by
  subst hs₁ hs₂
  have ht₁ : P.ti k₁ = t := (ht k₁).mpr (Or.inl rfl)
  have ht₂ : P.ti k₂ = t := (ht k₂).mpr (Or.inr rfl)
  have hset : (Finset.univ.filter fun k' => P.ti k' = t) = {k₁, k₂} := by ext k'; simp [ht k']
  have hT : bigSep (P.sTok t) (P.tokP c) = iprop(bigSep (P.sTok (t + 1)) (P.tokP c) ∗ P.tokP c k₁ ∗ P.tokP c k₂) := by
    rw [P.sTok_pay, bigSep_union P.sTok_disj, hset, bigSep_insert (by rw [Finset.mem_singleton]; exact hne), bigSep_singleton]; rfl
  have hL : P.left t = insert k₂ (P.left (t + 1)) := by
    unfold left; ext k'; simp only [Finset.mem_insert, Finset.mem_filter, Finset.mem_univ, true_and]
    constructor
    · rintro ⟨h1, h2⟩
      by_cases hh : P.ti k' = t
      · rcases (ht k').mp hh with h | h
        · rw [h, ho₁] at h1; exact absurd h1 (by decide)
        · exact Or.inl h
      · exact Or.inr ⟨h1, by omega⟩
    · rintro (h | ⟨h1, h2⟩)
      · subst h; exact ⟨ho₂, by omega⟩
      · exact ⟨h1, by omega⟩
  have hnL : k₂ ∉ P.left (t + 1) := by unfold left; simp only [Finset.mem_filter, Finset.mem_univ, true_and]; omega
  have hO : P.owe c t = P.owe c (t + 1) + P.due k₂ c := by unfold owe; rw [hL, Finset.sum_insert hnL, add_comm]
  have hP : bigSep (P.sPay t) (P.pay c) = iprop(bigSep (P.sPay (t + 1)) (P.pay c) ∗ P.used c t) := by
    rw [P.sPay_pay hw hf, bigSep_union P.sPay_disj]; rfl
  have hi : ∀ k', P.owed k' = false → (P.ti k' = t ↔ k' = k₁) := fun k' h => by
    rw [ht k']; exact ⟨fun h' => h'.elim id fun h2 => by rw [h2, ho₂] at h; exact absurd h (by decide), Or.inl⟩
  have h3 : k₁ ∉ P.sCred t := by
    unfold sCred; simp only [Finset.mem_filter, Finset.mem_univ, true_and, ho₁]; simp; omega
  unfold St
  rw [hT, P.sAt0_same hw, P.sAt1_same hw, hP, P.sCred_pay hw hi ho₁ hkw, bigSep_ins h3, hO]
  iintro ⟨#HR, ⟨HT, Ht₁, Ht₂⟩, ⟨%W, HO⟩, HC, HA, HB, HP, HU⟩ Hk
  unfold tokP due
  rw [hself, ← hc']
  icases Ht₁ with ⟨Ht₁, Hr₁⟩
  icases Ht₂ with ⟨Ht₂, Hr₂⟩
  ihave Hr' := hres $$ [Hr₁ Hr₂ HU]
  · isplitl [Hr₁]; · iexact Hr₁
    isplitl [Hr₂] <;> iassumption
  icases Hr' with ⟨Hs, Hd⟩
  iapply (Rounds.wp_send_pointsTo 𝒱 ER P.Rd (c : Thread nD τ) bd (κ₁ := κ (c, k₁)) (κ₂ := κ (c', k₂))
      (r₁ := 0) (r₂ := 0) (d₁ := ()) (d₂ := ()) (q := q) (fs := fs) (fd := fd)
      (P.mem_duties c k₁) (P.mem_duties c' k₂) () () (P.amt k₂) hN ((P.amount_at c k₁ 0 ()).trans hN₁) (P.amount_at c' k₂ 0 ())
      (P.owe c (t + 1)) rfl (W := W)
      (hpay₁.trans (Entails.of_eq (P.payload_at c k₁ 0 ()).symm)) (hpay₂.trans (Entails.of_eq (P.payload_at c' k₂ 0 ()).symm)) (hr := hr))
    $$ [Hs Hd HO Ht₁ Ht₂]
  · isplitr; · iapply (P.recs_inv κ c k₁); iexact HR
    isplitr; · iapply (P.recs_inv κ c' k₂); iexact HR
    isplitl [Hs]; · iexact Hs
    isplitl [Hd]; · iexact Hd
    isplitl [HO]; · iexact HO
    isplitl [Ht₁]; · iexact Ht₁
    isplitr; · iapply (P.recs_reached κ c k₁); iexact HR
    isplitl [Ht₂]; · iexact Ht₂
    iapply (P.recs_reached κ c' k₂); iexact HR
  iintro ⟨Hc, HO⟩
  iapply Hk
  isplitr; · iexact HR
  isplitl [HT]; · iexact HT
  isplitl [HO]; · iexists _; iexact HO
  isplitl [Hc HC]
  · isplitl [Hc]; · unfold credP; rw [hN₁]; iexact Hc
    iexact HC
  isplitl [HA]; · iexact HA
  isplitl [HB] <;> iassumption

end Steps

end Plan

end Cert.Cells
-- ==== Proof.Deal.lean ====
/-

How a plan (`Cells.Plan`) starts and ends: every device's semaphores are opened together at launch, each right to pay goes
to the device that pays, and at the end every semaphore is back at zero. `run_exchange` is the whole run of a program
that is one call of a kernel with no windows.
-/
module

public import Idealize.ShloMosaic.Lib.Pipeline.Launch
public import Idealize.ShloMosaic.Lib.Pipeline.Kit
public import Idealize.ShloMosaic.Lib.Pipeline.Regions
public import Idealize.ShloMosaic.Lib.Tactic
public import proofs.«01_k».proof.Proof.Cells

@[expose] public section

set_option Elab.async false

noncomputable section

namespace Cert.Cells

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : ℕ} {τ : Topo} {sig : RefSig} {Val : EltTy → Type}

local notation "𝕄" => MT nD τ sig Unit Val ℕ (UU nD τ sig) ℕ

namespace Plan

variable {K : Type} [Fintype K] [DecidableEq K] (P : Plan nD τ sig Val K)

theorem at_inj : Function.Injective fun ck : Dev nD × K => P.at' ck.1 ck.2 := by
  rintro ⟨c, k⟩ ⟨c', k'⟩ h
  have h1 : c = c' := congrArg (fun g : GSem nD τ sig => g.1.1) h
  have h2 : P.cell k = P.cell k' := congrArg Prod.snd h
  rw [h1, P.inj h2]

def cells : Finset (GSem nD τ sig) := Finset.univ.map ⟨_, P.at_inj⟩
def toks : Finset (GSem nD τ sig × ℕ × Unit) :=
  Finset.univ.map ⟨fun ck : Dev nD × K => (P.at' ck.1 ck.2, 0, ()), fun _ _ h => P.at_inj (congrArg Prod.fst h)⟩

/-- Every cell opened. -/
theorem opened : iprop((bigSep Finset.univ fun ck : Dev nD × K => semVal (P.at' ck.1 ck.2) 0) ∗ BI.own (ER (initOf P.cells P.toks)))
    ⊢ (|={Set.univ}=> iprop((∃ κ : Dev nD × K → ℕ, bigSep Finset.univ fun ck : Dev nD × K => cellInv ER P.Rd (κ ck) (P.at' ck.1 ck.2))
      ∗ (bigSep Finset.univ fun ck : Dev nD × K => reached ER (P.at' ck.1 ck.2) 0)
      ∗ (bigSep Finset.univ fun ck : Dev nD × K => P.at0 ck.1 ck.2)
      ∗ (bigSep Finset.univ fun ck : Dev nD × K => dutyTok ER (P.at' ck.1 ck.2) 0 ())) : sProp 𝕄) := by
  have hX (Φ : GSem nD τ sig → sProp 𝕄) : bigSep P.cells Φ = bigSep Finset.univ fun ck : Dev nD × K => Φ (P.at' ck.1 ck.2) := by
    unfold cells; rw [bigSep_map]; rfl
  have hT : bigSep P.toks (fun x => (dutyTok ER x.1 x.2.1 x.2.2 : sProp 𝕄)) = bigSep Finset.univ fun ck : Dev nD × K => dutyTok ER (P.at' ck.1 ck.2) 0 () := by
    unfold toks; rw [bigSep_map]; rfl
  iintro ⟨Hv, HX⟩
  imod (Rounds.fund ER P.Rd P.cells P.toks) $$ HX with ⟨Hst, Hr, Hat, Htok⟩
  ihave Hst' := (Entails.of_eq (hX fun g => roundState ER P.Rd g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  imod (show iprop((bigSep Finset.univ fun ck : Dev nD × K => semVal (P.at' ck.1 ck.2) 0)
        ∗ bigSep Finset.univ fun ck : Dev nD × K => roundState ER P.Rd (P.at' ck.1 ck.2) 0)
      ⊢ (|={Set.univ}=> bigSep Finset.univ fun ck : Dev nD × K => iprop(∃ κ : ℕ, cellInv ER P.Rd κ (P.at' ck.1 ck.2)) : sProp 𝕄) from by
        rw [← bigSep_sep']
        exact (bigSep_mono fun ck _ => (Rounds.body_intro ER P.Rd (P.at' ck.1 ck.2)).trans inv_alloc).trans (bigSep_fupd _ _)) $$ [Hv Hst'] with Hinv
  · isplitl [Hv] <;> iassumption
  imodintro
  ihave HK := (BI.bigSep_exists_pi Finset.univ (fun (ck : Dev nD × K) (κ : ℕ) => (cellInv ER P.Rd κ (P.at' ck.1 ck.2) : sProp 𝕄))) $$ Hinv
  isplitl [HK]; · iexact HK
  isplitl [Hr']; · iexact Hr'
  isplitl [Hat']; · unfold at0; iexact Hat'
  iexact Htok'

/-- Each right to pay goes to the device that pays. -/
def deal : (Dev nD × K) ≃ (Dev nD × K) where
  toFun ck := (P.tgt ck.2 ck.1, ck.2)
  invFun ck := ((P.tgt ck.2).symm ck.1, ck.2)
  left_inv ck := by simp
  right_inv ck := by simp

theorem dealt : (bigSep Finset.univ fun ck : Dev nD × K => (dutyTok ER (P.at' ck.1 ck.2) 0 () : sProp 𝕄))
    = bigSep Finset.univ fun ck : Dev nD × K => dutyTok ER (P.at' (P.tgt ck.2 ck.1) ck.2) 0 () :=
  bigSep_univ_equiv P.deal _

theorem creds (c : Dev nD) : (launchCred (fun d => P.owe d 0) c : sProp 𝕄) ⊢ bigSep (P.left 0) (P.credP c) := by
  unfold owe
  rw [launchCred_sum]
  refine bigSep_mono fun k _ => ?_
  unfold due credP
  exact launchCred_tallyAt (P.cell k) (P.tgt k) (P.tgt k).symm (fun c => (P.tgt k).apply_symm_apply c) (fun c => (P.tgt k).symm_apply_apply c) () (P.amt k) c

theorem sTok_zero : P.sTok 0 = Finset.univ := by unfold sTok; exact Finset.filter_true_of_mem fun k _ => Nat.zero_le _
theorem sCred_zero : P.sCred 0 = P.left 0 := by unfold sCred left; ext k; simp
theorem sAt0_zero : P.sAt0 0 = Finset.univ := by unfold sAt0; exact Finset.filter_true_of_mem fun k _ => Nat.zero_le _
theorem sAt1_zero : P.sAt1 0 = ∅ := by unfold sAt1; exact Finset.filter_false_of_mem fun k _ => Nat.not_lt_zero _
theorem sPay_zero : P.sPay 0 = ∅ := by unfold sPay; exact Finset.filter_false_of_mem fun k _ h => Nat.not_lt_zero _ h.1

/-- What each device adds of its own. -/
def ownStart (c : Dev nD) : sProp 𝕄 :=
  iprop((bigSep Finset.univ fun k => iprop(dutyTok ER (P.at' (P.tgt k c) k) 0 () ∗ P.res c k))
    ∗ bigSep (P.left 0) (P.credP c) ∗ bigSep Finset.univ (P.at0 c))

/-- What a device holds at launch but for what it owes. -/
def St₀ (c : Dev nD) : sProp 𝕄 := iprop(∃ κ : Dev nD × K → ℕ, P.recs κ ∗ P.ownStart c)

theorem St_intro (c : Dev nD) : iprop((∃ W, owes (c : Thread nD τ) (P.owe c 0) W) ∗ P.St₀ c) ⊢ iprop(∃ κ : Dev nD × K → ℕ, P.St κ c 0) := by
  unfold St₀ ownStart
  iintro ⟨HO, %κ, #HR, HT, HC, HA⟩
  iexists κ
  unfold St
  rw [P.sTok_zero, P.sCred_zero, P.sAt0_zero, P.sAt1_zero, P.sPay_zero, bigSep_empty, bigSep_empty]
  unfold tokP
  isplitr; · iexact HR
  isplitl [HT]; · iexact HT
  isplitl [HO]; · iexact HO
  isplitl [HC]; · iexact HC
  isplitl [HA]; · iexact HA
  isplitr <;> iempintro

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- **The start**, of all devices together. -/
theorem start : iprop((bigSep Finset.univ fun c : Dev nD => bigSep Finset.univ fun k : K => semVal (P.at' c k) 0)
      ∗ BI.own (ER (initOf P.cells P.toks)) ∗ levAts L P.lv
      ∗ (bigSep Finset.univ fun c : Dev nD => launchCred (fun d => P.owe d 0) c)
      ∗ (bigSep Finset.univ fun c : Dev nD => bigSep Finset.univ fun k : K => P.res c k))
    ⊢ (|={Set.univ}=> bigSep Finset.univ fun c : Dev nD => P.St₀ c : sProp 𝕄) := by
  have h1 : iprop((bigSep Finset.univ fun ck : Dev nD × K => dutyTok ER (P.at' (P.tgt ck.2 ck.1) ck.2) 0 ())
        ∗ (bigSep Finset.univ fun c : Dev nD => bigSep Finset.univ fun k : K => P.res c k)
        ∗ (bigSep Finset.univ fun c : Dev nD => bigSep (P.left 0) (P.credP c))
        ∗ bigSep Finset.univ fun ck : Dev nD × K => P.at0 ck.1 ck.2) ⊢ (bigSep Finset.univ fun c : Dev nD => P.ownStart c) := by
    unfold ownStart
    simp only [bigSep_sep']
    rw [← bigSep_univ_prod (fun ck : Dev nD × K => (dutyTok ER (P.at' (P.tgt ck.2 ck.1) ck.2) 0 () : sProp 𝕄)),
      ← bigSep_univ_prod (fun ck : Dev nD × K => P.at0 ck.1 ck.2)]
    iintro ⟨H1, H2, H3, H4⟩
    isplitl [H1 H2]; · isplitl [H1] <;> iassumption
    isplitl [H3] <;> iassumption
  iintro ⟨Hv, HX, #HL, HC, HR⟩
  ihave Hv' := (Entails.of_eq (bigSep_univ_prod (fun ck : Dev nD × K => (semVal (P.at' ck.1 ck.2) 0 : sProp 𝕄))).symm) $$ Hv
  imod P.opened $$ [Hv' HX] with ⟨⟨%κ, #HI⟩, #Hr, HA, HT⟩
  · isplitl [Hv'] <;> iassumption
  ihave HT' := (Entails.of_eq P.dealt) $$ HT
  ihave HC' := (show (bigSep Finset.univ fun c : Dev nD => (launchCred (fun d => P.owe d 0) c : sProp 𝕄))
      ⊢ bigSep Finset.univ fun c : Dev nD => bigSep (P.left 0) (P.credP c) from bigSep_mono fun c _ => P.creds c) $$ HC
  imodintro
  iapply (with_persistent (R := P.recs κ) (Φ := fun c => P.ownStart c) (Ψ := fun c => P.St₀ c) (S := Finset.univ)
    fun c _ => show iprop(P.recs κ ∗ P.ownStart c) ⊢ P.St₀ c from by
      unfold St₀
      iintro ⟨H1, H2⟩
      iexists κ
      isplitl [H1] <;> iassumption)
  isplitr
  · unfold recs
    isplitr; · iexact HI
    isplitr; · iexact Hr
    iexact HL
  iapply h1
  isplitl [HT']; · iexact HT'
  isplitl [HR]; · iexact HR
  isplitl [HC'] <;> iassumption

/-- What is held at the end: every semaphore back at zero, and what came and was not used up. -/
def Fin' (c : Dev nD) (t : ℕ) : sProp 𝕄 :=
  iprop((bigSep Finset.univ fun k : K => semVal (P.at' c k) 0) ∗ bigSep (Finset.univ.filter fun k => t ≤ P.tf k) (P.pay c))

theorem finish (κ : Dev nD × K → ℕ) (c : Dev nD) (t : ℕ) (hi : ∀ k, P.ti k < t) (hw : ∀ k, P.tw k < t) :
    P.St κ c t ⊢ (|={Set.univ}=> iprop((∃ W, owes (c : Thread nD τ) (0 : CellTallies nD τ sig Unit) W) ∗ P.Fin' c t) : sProp 𝕄) := by
  have h1 : P.owe c t = 0 := by
    unfold owe left
    rw [Finset.filter_false_of_mem (fun k _ h => by have := hi k; omega), Finset.sum_empty]
  have h2 : P.sAt1 t = Finset.univ := by unfold sAt1; exact Finset.filter_true_of_mem fun k _ => hw k
  have h3 : P.sPay t = Finset.univ.filter fun k => t ≤ P.tf k := by
    unfold sPay; ext k; have := hw k; simp only [Finset.mem_filter, Finset.mem_univ, true_and]; omega
  unfold St Fin'
  rw [h1, h2, h3]
  iintro ⟨#HR, -, HO, -, -, HB, HP⟩
  ihave HB' := (with_persistent (R := P.recs κ) (Φ := P.at1 c) (S := Finset.univ)
    (Ψ := fun k => iprop(|={Set.univ}=> semVal (P.at' c k) 0)) fun k _ =>
      show iprop(P.recs κ ∗ P.at1 c k) ⊢ iprop(|={Set.univ}=> semVal (P.at' c k) 0) from
        (sep_mono_left (P.recs_inv κ c k)).trans
          (Rounds.cell_close ER P.Rd (Set.mem_univ (κ (c, k))) (fun h => h) (R := 0 + 1) (P.duties_later _))) $$ [HB]
  · isplitr; · iexact HR
    iexact HB
  imod (bigSep_fupd Finset.univ (fun k : K => (semVal (P.at' c k) 0 : sProp 𝕄))) $$ HB' with HB''
  imodintro
  isplitl [HO]; · iexact HO
  isplitl [HB''] <;> iassumption

end Plan

end Cert.Cells
-- ==== Proof.Run.lean ====
/-

The run of a program that is one call of a kernel with no windows, each device following a plan (`Cells.Plan`).
-/
module

public import Idealize.ShloMosaic.Lib.Pipeline.Launch
public import Idealize.ShloMosaic.Lib.Pipeline.Kit
public import Idealize.ShloMosaic.Lib.Pipeline.Regions
public import Idealize.ShloMosaic.Lib.Tactic
public import proofs.«01_k».proof.Proof.Deal

@[expose] public section

set_option Elab.async false

noncomputable section

namespace Cert.Cells

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

section

variable {nD : ℕ} {τ : Topo} {sig : RefSig} {Val : EltTy → Type}

local notation "𝕄" => MT nD τ sig Unit Val ℕ (UU nD τ sig) ℕ

/-- A separating conjunction over nothing is empty. -/
theorem sep_none {I : Type} [Fintype I] [IsEmpty I] (Φ : I → sProp 𝕄) : bigSep Finset.univ Φ = iprop(emp) := by
  rw [Finset.univ_eq_empty, bigSep_empty]; rfl

variable {Λ₀ : Labels} {Pl : Type} [Fintype Pl]
variable (pcs : Pl → PCfg sig Λ₀ Val) (a : (p : Pl) → (pcs p).Adm) [hW : ∀ p, IsEmpty (Fin (pin pcs a p).W)]

/-- The proof data of a kernel with no windows and one point: `Φ₀` before it, `Φ₁` after it. -/
def datOf (Φ₀ Φ₁ : Dev nD → sProp 𝕄) (O : Dev nD → CellTallies nD τ sig Unit) (p : Pl) (c : Dev nD) :
    Dat τ Val Unit ℕ (UU nD τ sig) ℕ (pin pcs a p) c where
  A w := (hW p).elim w
  after w := (hW p).elim w
  Φ t := if t.val = 0 then Φ₀ c else Φ₁ c
  q _ := fullShare
  owed t := if t.val = 0 then O c else 0

variable [∀ e, Nonempty (Val e)] (phinj : Function.Injective (cellOf (nD := nD) (τ := τ) (pin pcs a))) (p : Pl)
variable (defs₀ : Defs nD τ sig Val Λ₀) (𝒱₀ : Variants)
variable {K : Type} [Fintype K] [DecidableEq K] (P : Plan nD τ sig Val K)

include phinj in
/-- **The run.** -/
theorem run_exchange
    (hN : (pin pcs a p).N = 1) (hK : IsEmpty (Fin (pcs p).pre.K))
    (hsc : ∀ k, (P.cell k).isScoped .tc = true)
    (main : Dev nD → Prog (TpuEff nD τ sig Val (Sig Λ₀ Pl fun p => (pcs p).Adm) .tc) PUnit)
    (hmain : ∀ c, main c = Prog.op (.customCall (entry p) ()) Prog.ret)
    (m : (ℓ : Loc nD τ sig) → Buf Val ℓ) (g : Dev nD → PrngReg)
    (keep fin : Dev nD → sProp 𝕄)
    (hbufs : (bigSep Finset.univ fun c : Dev nD => (unscopedBufs c (fun b => m ((c.tc : Thread nD τ).loc b)) : sProp 𝕄))
      ⊢ iprop((bigSep Finset.univ fun c : Dev nD => bigSep Finset.univ fun k : K => P.res c k) ∗ bigSep Finset.univ keep))
    (T : ℕ) (hti : ∀ k, P.ti k < T) (htw : ∀ k, P.tw k < T)
    (hbody : ∀ (κ : Dev nD × K → ℕ) (c : Dev nD) (t : Fin (pin pcs a p).N),
      P.St κ c 0 ⊢ wp frame (wpE defs₀ 𝒱₀ (c : Thread nD τ) none) Set.univ
        (defs₀ .tc (pin pcs a p).body ((pin pcs a p).bodyArgs t ((pin pcs a p).slots t))) (fun _ => P.St κ c T))
    (hfin : ∀ c, iprop(keep c ∗ bigSep (Finset.univ.filter fun k => T ≤ P.tf k) (P.pay c)) ⊢ fin c)
    (R : Dev nD → MemSt nD τ sig Val → Prop)
    (hend : ∀ c (s' : Phys nD τ sig Val), iprop(fin c ∗ SI s') ⊢ |={Set.univ}=> iprop(⌜R c s'.mem⌝ ∗ SI s'))
    {Q : PUnit × MemSt nD τ sig Val → Prop}
    (hQ : ∀ s : MemSt nD τ sig Val, (∀ c : Dev nD, R c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  classical
  have hw : WinFacts₀ (pin pcs a p).spec :=
    ⟨fun w => (hW p).elim w, fun k => (hW p).elim k.1, fun k => (hW p).elim k.1, fun w => (hW p).elim w⟩
  have ho : OwnSemFacts (pin pcs a p).spec P.cell := ⟨hsc, P.inj, fun _ w => (hW p).elim w⟩
  have hss (c : Dev nD) := scopedSems0_split (Ix := Unit) (Val := Val) (Name := ℕ) (U := UU nD τ sig) (Lvl := ℕ) (pin pcs a) phinj p hw ho c
  have hcells (c : Dev nD) : (cellsSems0 (pin pcs a) p c : sProp 𝕄) = iprop(emp) := by
    haveI := hW p; exact sep_none _
  have hstg (c : Dev nD) : (Dat.staging (pin pcs a p) c : sProp 𝕄) = iprop(emp) := by
    haveI := hW p; exact sep_none _
  let Φ₀ : Dev nD → sProp 𝕄 := fun c => iprop(P.St₀ c ∗ scopedBufs (c.tc : Thread nD τ))
  let Φ₁ : Dev nD → sProp 𝕄 := fun c => iprop(P.Fin' c T ∗ scopedBufs (c.tc : Thread nD τ))
  let dats := datOf pcs a Φ₀ Φ₁ (fun c => P.owe c 0)
  let idle : Dev nD → sProp 𝕄 := fun c => idleSems0 (pin pcs a) phinj p ho c
  refine Start.run_all (Variants.lift 𝒱₀) m g main (fun c => P.owe c 0) Plan.L P.lv Plan.L_of_ne
    (initOf ∅ ∅, initOf P.cells P.toks)
    (fun c => iprop(P.St₀ c ∗ keep c ∗ (scopedBufs (c.tc : Thread nD τ) ∗ idle c ∗ opIdle (c.tc : Thread nD τ)) ∗ owes (c.tc : Thread nD τ) (P.owe c 0) ∅))
    fin ?_ ?_ R hend hQ
  · have hheld (c : Dev nD) : (Start.held m (fun c => P.owe c 0) c : sProp 𝕄)
        ⊢ iprop((bigSep Finset.univ fun k : K => semVal (P.at' c k) 0) ∗ unscopedBufs c (fun b => m ((c.tc : Thread nD τ).loc b))
          ∗ launchCred (fun d => P.owe d 0) c
          ∗ (scopedBufs (c.tc : Thread nD τ) ∗ idle c ∗ opIdle (c.tc : Thread nD τ)) ∗ owes (c.tc : Thread nD τ) (P.owe c 0) ∅) := by
      unfold Start.held boundary
      rw [hss c]
      unfold ownSems0
      iintro ⟨⟨Hsc, ⟨⟨-, Ho⟩, Hi⟩, Hop⟩, Hu, -, HO, HC⟩
      isplitl [Ho]; · iexact Ho
      isplitl [Hu]; · iexact Hu
      isplitl [HC]; · iexact HC
      isplitl [Hsc Hi Hop]
      · isplitl [Hsc]; · iexact Hsc
        isplitl [Hi] <;> iassumption
      iexact HO
    have hsplit : (bigSep Finset.univ fun c : Dev nD => (Start.held m (fun c => P.owe c 0) c : sProp 𝕄))
        ⊢ iprop((bigSep Finset.univ fun c : Dev nD => bigSep Finset.univ fun k : K => semVal (P.at' c k) 0)
          ∗ (bigSep Finset.univ fun c : Dev nD => unscopedBufs c (fun b => m ((c.tc : Thread nD τ).loc b)))
          ∗ (bigSep Finset.univ fun c : Dev nD => launchCred (fun d => P.owe d 0) c)
          ∗ (bigSep Finset.univ fun c : Dev nD => iprop(scopedBufs (c.tc : Thread nD τ) ∗ idle c ∗ opIdle (c.tc : Thread nD τ)))
          ∗ bigSep Finset.univ fun c : Dev nD => owes (c.tc : Thread nD τ) (P.owe c 0) ∅) := by
      rw [← bigSep_sep', ← bigSep_sep', ← bigSep_sep', ← bigSep_sep']
      exact bigSep_mono fun c _ => hheld c
    iintro ⟨Hh, HL, HU⟩
    ihave Hu := (ownU_pair (nD := nD) (sig := sig) (Ix := Unit) (Val := Val) (Name := ℕ) (Lvl := ℕ) (initOf ∅ ∅ : URounds (GSem nD τ sig) Unit) (initOf P.cells P.toks)) $$ HU
    icases Hu with ⟨-, HX⟩
    ihave Hh' := hsplit $$ Hh
    icases Hh' with ⟨Hs, Hb, HC, Hrest, HO⟩
    ihave Hb' := hbufs $$ Hb
    icases Hb' with ⟨Hres, Hk⟩
    imod P.start $$ [Hs HX HL HC Hres] with HS
    · isplitl [Hs]; · iexact Hs
      isplitl [HX]; · iexact HX
      isplitl [HL]; · iexact HL
      isplitl [HC] <;> iassumption
    imodintro
    iapply (show iprop((bigSep Finset.univ fun c : Dev nD => P.St₀ c) ∗ (bigSep Finset.univ keep)
        ∗ (bigSep Finset.univ fun c : Dev nD => iprop(scopedBufs (c.tc : Thread nD τ) ∗ idle c ∗ opIdle (c.tc : Thread nD τ)))
        ∗ (bigSep Finset.univ fun c : Dev nD => owes (c.tc : Thread nD τ) (P.owe c 0) ∅))
      ⊢ bigSep Finset.univ fun c : Dev nD => iprop(P.St₀ c ∗ keep c ∗ (scopedBufs (c.tc : Thread nD τ) ∗ idle c ∗ opIdle (c.tc : Thread nD τ)) ∗ owes (c.tc : Thread nD τ) (P.owe c 0) ∅)
      from by rw [← bigSep_sep', ← bigSep_sep', ← bigSep_sep'])
    isplitl [HS]; · iexact HS
    isplitl [Hk]; · iexact Hk
    isplitl [Hrest] <;> iassumption
  · intro c
    haveI := hW p
    have hpre : iprop(∃ W, owes (c.tc : Thread nD τ) (P.owe c 0) W) ⊢ (EntryPre (pin pcs a) dats () EP (fun _ => 0) p c : sProp 𝕄) := by
      unfold EntryPre PerCore.EntryPre
      iintro ⟨%W, HO⟩
      isplitr; · iapply (Entails.of_eq (show (dats p c).arrays ((dats p c).arrAt · 0) = iprop(emp) from by unfold Dat.arrays; exact sep_none _).symm); iempintro
      isplitl [HO]
      · iexists W
        isplitr
        · ipureintro; exact fun _ _ => Or.inl trivial
        · iexact HO
      isplitr; · iapply (Entails.of_eq (show (cellsWaits (pin pcs a) dats () p c : sProp 𝕄) = iprop(emp) from sep_none _).symm); iempintro
      isplitr; · iapply (Entails.of_eq (show (cellsInit (pin pcs a) dats EP (fun _ => 0) p c : sProp 𝕄) = iprop(emp) from sep_none _).symm); iempintro
      iapply (Entails.of_eq (show (toksInit (pin pcs a) EP p c : sProp 𝕄) = iprop(emp) from sep_none _).symm); iempintro
    have hpost : (EntryPost (pin pcs a) dats () p c : sProp 𝕄) ⊢ iprop(∃ W, owes (c.tc : Thread nD τ) (0 : CellTallies nD τ sig Unit) W) := by
      unfold EntryPost PerCore.EntryPost
      iintro ⟨-, ⟨%W, -, HO⟩⟩
      iexists W
      iapply (Entails.of_eq (show (owes (c.tc : Thread nD τ) ((dats p c).owed (Fin.last (pin pcs a p).N)) W : sProp 𝕄)
        = owes (c.tc : Thread nD τ) (0 : CellTallies nD τ sig Unit) W from by
          show owes _ (if (pin pcs a p).N = 0 then _ else _) W = _
          rw [if_neg (by rw [hN]; decide)]))
      iexact HO
    have hb : BodyObligationLoose (dats p c) defs₀ 𝒱₀ () Set.univ := by
      intro t
      have ht : t.val = 0 := by have := t.isLt; omega
      have e0 : (dats p c).Φ t.castSucc = Φ₀ c := if_pos ht
      have e1 : (dats p c).Φ t.succ = Φ₁ c := by
        show (if t.val + 1 = 0 then Φ₀ c else Φ₁ c) = Φ₁ c
        exact if_neg (Nat.succ_ne_zero t.val)
      have o0 : (dats p c).owed t.castSucc = P.owe c 0 := if_pos ht
      have o1 : (dats p c).owed t.succ = 0 := by
        show (if t.val + 1 = 0 then P.owe c 0 else 0) = 0
        exact if_neg (Nat.succ_ne_zero t.val)
      rw [e0, e1]
      unfold Dat.owesAt
      rw [o0, o1]
      iintro ⟨⟨HS, Hsb⟩, ⟨%W, -, HO⟩, -⟩
      ihave H := (P.St_intro c) $$ [HO HS]
      · isplitl [HO]; · iexists W; iexact HO
        iexact HS
      icases H with ⟨%κ, HS⟩
      iapply (wp_fupd frame (wpE defs₀ 𝒱₀ (c : Thread nD τ) none) Set.univ)
      iapply (wp_wand frame (wpE defs₀ 𝒱₀ (c : Thread nD τ) none) Set.univ) $$ [HS]
      · iapply (hbody κ c t); iexact HS
      iintro %_ HS
      imod (P.finish κ c T hti htw) $$ HS with ⟨⟨%W', HO⟩, HF⟩
      imodintro
      isplitl [HF Hsb]
      · isplitl [HF] <;> iassumption
      isplitl [HO]
      · iexists W'
        isplitr
        · ipureintro; exact fun _ _ => Or.inl trivial
        · iexact HO
      iapply (Entails.of_eq (show _ = iprop(emp) from sep_none _).symm); iempintro
    have hpf : (prefHeld (pcs p).pre c (fun k => hK.elim k) (a p).1 : sProp 𝕄) = iprop(emp) := by
      haveI := hK; unfold prefHeld; exact sep_none _
    rw [hmain c]
    iintro ⟨HS, Hk, ⟨Hsb, Hi, Hop⟩, HO⟩
    iapply (wp_customCall_entry_frame pcs a dats () EP (fun _ => 0) phinj p defs₀ 𝒱₀ (fun k => hK.elim k) c Set.univ (fun w => (hW p).elim w)
      hb (fun w => (hW p).elim w) none (fun u hu => by cases hu)
      (X := P.St₀ c) (Y := bigSep (Finset.univ.filter fun k => T ≤ P.tf k) (P.pay c)) (R := scopedBufs (c.tc : Thread nD τ)) (I := idle c)
      (by rw [hstg]; iintro H; isplitr; · iempintro
          iexact H)
      (by
        rw [show (dats p c).Φ 0 = Φ₀ c from by
          show (if (0 : ℕ) = 0 then Φ₀ c else Φ₁ c) = Φ₀ c
          exact if_pos rfl]
        iintro ⟨H1, -, H2⟩
        isplitl [H1] <;> iassumption)
      (by
        rw [show (dats p c).Φ (Fin.last (pin pcs a p).N) = Φ₁ c from by
          show (if (pin pcs a p).N = 0 then Φ₀ c else Φ₁ c) = Φ₁ c
          exact if_neg (by rw [hN]; decide), hss c]
        unfold ownSems0
        show iprop((((bigSep Finset.univ fun k : K => semVal (P.at' c k) 0) ∗ bigSep (Finset.univ.filter fun k => T ≤ P.tf k) (P.pay c)) ∗ scopedBufs (c.tc : Thread nD τ)) ∗ cellsSems0 (pin pcs a) p c ∗ Dat.staging (pin pcs a p) c ∗ idle c)
          ⊢ iprop((bigSep (Finset.univ.filter fun k => T ≤ P.tf k) (P.pay c)) ∗ ((cellsSems0 (pin pcs a) p c ∗ bigSep Finset.univ fun k : K => semVal (P.at' c k) 0) ∗ idle c) ∗ scopedBufs (c.tc : Thread nD τ))
        iintro ⟨⟨⟨Hs, Hp⟩, Hsb⟩, Hc, -, Hi⟩
        isplitl [Hp]; · iexact Hp
        isplitl [Hs Hc Hi]
        · isplitl [Hs Hc]
          · isplitl [Hc] <;> iassumption
          iexact Hi
        iexact Hsb)) $$ [HS Hsb Hi HO]
    · isplitl [HO]; · iapply hpre; iexists _; iexact HO
      isplitr; · iapply (Entails.of_eq hpf.symm); iempintro
      isplitl [HS]; · iexact HS
      isplitl [Hi] <;> iassumption
    iintro ⟨Hpost, HY, Hss, Hsb⟩
    rw [wp_ret]
    imodintro
    isplitr [Hpost]
    · isplitl [Hk HY]
      · iapply (hfin c); isplitl [Hk] <;> iassumption
      unfold boundary
      isplitl [Hsb]; · iexact Hsb
      isplitl [Hss] <;> iassumption
    iapply hpost; iexact Hpost

end

end Cert.Cells
-- ==== Proof.Exchange.lean ====
/-

An exchange of `n` arrays between eight devices, as a plan (`Cells.Plan`): device `c` has, for each array, a piece for
every device, and an array of eight rows, of which row `r` is filled with the piece that device `r` has for `c`.
Devices are numbered by three bits; `xr b c` is the device whose bits differ from `c`'s in mask `b`. Arrival `k` of a
device fills the row of device `xr (msk k) c`, and is paid by device `xr (tm k) c`.
-/
module

public import Idealize.ShloMosaic.Lib.Ring
public import Idealize.ShloMosaic.Lib.Transfers
public import proofs.«01_k».proof.Proof.Run

@[expose] public section

set_option Elab.async false

noncomputable section

namespace Cert.Cells

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

/-! ## The devices -/

/-- The number whose three bits are those of `c`, those of mask `b` turned over. -/
def fl (b c : ℕ) : ℕ := 4 * ((c / 4 + b / 4) % 2) + 2 * ((c / 2 % 2 + b / 2 % 2) % 2) + (c % 2 + b % 2) % 2

theorem fl_lt (b c : ℕ) : fl b c < 8 := by
  have hx : ∀ x : ℕ, x % 2 < 2 := fun x => Nat.mod_lt _ (by decide)
  have h1 := hx (c / 4 + b / 4)
  have h2 := hx (c / 2 % 2 + b / 2 % 2)
  have h3 := hx (c % 2 + b % 2)
  unfold fl
  generalize (c / 4 + b / 4) % 2 = x at *
  generalize (c / 2 % 2 + b / 2 % 2) % 2 = y at *
  generalize (c % 2 + b % 2) % 2 = z at *
  omega
theorem bits {x y z : ℕ} (hx : x < 2) (hy : y < 2) (hz : z < 2) :
    (4 * x + 2 * y + z) / 4 = x ∧ (4 * x + 2 * y + z) / 2 % 2 = y ∧ (4 * x + 2 * y + z) % 2 = z := by omega
theorem twice (x y : ℕ) : ((x + y) % 2 + y) % 2 = x % 2 := by omega
theorem fl_fl (b c : ℕ) (h : c < 8) : fl b (fl b c) = c := by
  have hx : ∀ x : ℕ, x % 2 < 2 := fun x => Nat.mod_lt _ (by decide)
  obtain ⟨h1, h2, h3⟩ := bits (hx (c / 4 + b / 4)) (hx (c / 2 % 2 + b / 2 % 2)) (hx (c % 2 + b % 2))
  show 4 * ((fl b c / 4 + b / 4) % 2) + 2 * ((fl b c / 2 % 2 + b / 2 % 2) % 2) + (fl b c % 2 + b % 2) % 2 = c
  have h1 : fl b c / 4 = _ := h1
  have h2 : fl b c / 2 % 2 = _ := h2
  have h3 : fl b c % 2 = _ := h3
  rw [h1, h2, h3, twice (c / 4), twice (c / 2 % 2), twice (c % 2)]
  clear * - h
  revert c
  decide

/-- The device `c` with mask `b` turned over. -/
def xr (b : ℕ) : Equiv.Perm (Dev 8) where
  toFun c := ⟨fl b c.val, fl_lt b c.val⟩
  invFun c := ⟨fl b c.val, fl_lt b c.val⟩
  left_inv c := Fin.ext (fl_fl b c.val c.isLt)
  right_inv c := Fin.ext (fl_fl b c.val c.isLt)

theorem xr_val (b : ℕ) (c : Dev 8) : (xr b c).val = fl b c.val := rfl
theorem xr_zero (c : Dev 8) : xr 0 c = c := Fin.ext (by rw [xr_val]; unfold fl; have := c.isLt; omega)
theorem xr_xr (b : ℕ) (c : Dev 8) : xr b (xr b c) = c := (xr b).left_inv c

/-- Two offsets along the leading axis are equal with their numbers. -/
theorem off_eq {x y : ℕ} (h : x = y) : (![x, 0, 0] : Fin 3 → ℕ) = ![y, 0, 0] := by rw [h]

/-- The semaphore that a slice of an array of semaphores names. -/
theorem sem_at {α : Type} {L s : ℕ} (arr : SemArray α ⟨1, ![L]⟩) (inb : ∀ a, (![s] : Fin 1 → ℕ) a + (![1] : Fin 1 → ℕ) a ≤ (![L] : Fin 1 → ℕ) a)
    {d : Fin 0 → ℕ} (h : (⟨1, ![1]⟩ : Shape).Squeezes ⟨0, d⟩) :
    ((arr.slice (Rect.unit (s := ⟨1, ![L]⟩) ![s] ![1] inb)).squeeze ⟨0, d⟩ h).sem = arr.ix (fun a => ⟨(![s] : Fin 1 → ℕ) a, by
      have := inb a; match a with | ⟨0, _⟩ => exact Nat.lt_of_succ_le this⟩) := by
  show arr.ix ((Rect.unit (s := ⟨1, ![L]⟩) ![s] ![1] inb).emb (Shape.reshapeEquiv h.numel_eq _)) = _
  congr 1
  funext a
  apply Fin.ext
  rw [Rect.emb_apply]
  match a with
  | ⟨0, _⟩ =>
    have hlt := (Shape.reshapeEquiv h.numel_eq (fun i : Fin 0 => i.elim0) (0 : Fin 1)).isLt
    have h0 : (Shape.reshapeEquiv h.numel_eq (fun i : Fin 0 => i.elim0) (0 : Fin 1)).val = 0 := Nat.lt_one_iff.mp hlt
    show s + 1 * (Shape.reshapeEquiv h.numel_eq (fun i : Fin 0 => i.elim0) (0 : Fin 1)).val = s
    rw [h0]; omega

/-! ## The arrays -/

variable {sig : RefSig} {τ : Topo} {Val : EltTy → Type}

variable (sig) in
/-- One array: the eight rows that are filled, and the piece that goes to each device. -/
structure Arr where
  R : ℕ
  C : ℕ
  e : EltTy
  out : Memref sig .tc .hbm ⟨3, ![8, R, C]⟩ e
  piece : Fin 8 → Memref sig .tc .hbm ⟨2, ![R, C]⟩ e
  sq : (⟨3, ![1, R, C]⟩ : Shape).Squeezes ⟨2, ![R, C]⟩
  whole : out.IsWhole
  pos : 0 < (⟨2, ![R, C]⟩ : Shape).numel

namespace Arr

theorem inb (R C : ℕ) (r : Fin 8) : ∀ a, (![r.val, 0, 0] : Fin 3 → ℕ) a + (![1, R, C] : Fin 3 → ℕ) a ≤ (![8, R, C] : Fin 3 → ℕ) a
  | ⟨0, _⟩ => r.isLt
  | ⟨1, _⟩ => (Nat.zero_add R).le
  | ⟨2, _⟩ => (Nat.zero_add C).le

/-- The matrix at place `r` of a stack. -/
def rowOf {R C : ℕ} {e : EltTy} (M : Memref sig .tc .hbm ⟨3, ![8, R, C]⟩ e) (sq : (⟨3, ![1, R, C]⟩ : Shape).Squeezes ⟨2, ![R, C]⟩) (r : Fin 8) :
    Memref sig .tc .hbm ⟨2, ![R, C]⟩ e :=
  (M.slice (Rect.unit (s := ⟨3, ![8, R, C]⟩) ![r.val, 0, 0] ![1, R, C] (inb R C r)) (fun _ => rfl)).squeeze ⟨2, ![R, C]⟩ sq

variable (A : Arr sig)

abbrev row (r : Fin 8) : Memref sig .tc .hbm ⟨2, ![A.R, A.C]⟩ A.e := rowOf A.out A.sq r

/-- A slice at an offset that is `r` on the leading axis is row `r`. -/
theorem rowOf_eq {R C : ℕ} {e : EltTy} (M : Memref sig .tc .hbm ⟨3, ![8, R, C]⟩ e) (sq : (⟨3, ![1, R, C]⟩ : Shape).Squeezes ⟨2, ![R, C]⟩) (r : Fin 8)
    {off : Fin 3 → ℕ} (h : off = ![r.val, 0, 0]) (hi : ∀ a, off a + (![1, R, C] : Fin 3 → ℕ) a ≤ (![8, R, C] : Fin 3 → ℕ) a) (hr) :
    (M.slice (Rect.unit (s := ⟨3, ![8, R, C]⟩) off ![1, R, C] hi) hr).squeeze ⟨2, ![R, C]⟩ sq = rowOf M sq r := by
  subst h; rfl

/-- What a transfer of one row is worth. -/
def N : ℕ := (A.row 0).view.dmaCredit
theorem N_pos : 0 < A.N := View.dmaCredit_pos _ A.pos
theorem N_row (r : Fin 8) : (A.row r).view.dmaCredit = A.N := rfl

/-- The elements of row `r`. -/
theorem row_set {R C : ℕ} {e : EltTy} (M : Memref sig .tc .hbm ⟨3, ![8, R, C]⟩ e) (sq) (r : Fin 8) :
    (rowOf M sq r).view.set = (Rect.unit (s := ⟨3, ![8, R, C]⟩) ![r.val, 0, 0] ![1, R, C] (inb R C r)).set.map M.view.emb := by
  show (View.reshape _ _ _).set = _
  rw [View.set_reshape]
  exact View.set_slice _ _

theorem row_disjoint {R C : ℕ} {e : EltTy} (M : Memref sig .tc .hbm ⟨3, ![8, R, C]⟩ e) (sq) (r r' : Fin 8) (h : r ≠ r') :
    Disjoint (rowOf M sq r).view.set (rowOf M sq r').view.set := by
  rw [row_set, row_set]
  refine (Finset.disjoint_map _).mpr ?_
  exact Ring.lead_disjoint (s := ⟨3, ![8, R, C]⟩) (NB := 8) (0 : Fin 3) 1 (fun b => ![b.val, 0, 0]) ![1, R, C] (fun b => inb R C b)
    (fun b => (Nat.one_mul _).symm) rfl r r' h

theorem row_cover {R C : ℕ} {e : EltTy} (M : Memref sig .tc .hbm ⟨3, ![8, R, C]⟩ e) (hM : M.IsWhole) (sq) :
    Finset.univ.biUnion (β := M.view.ty.Idx) (fun r : Fin 8 => (rowOf M sq r).view.set) = Finset.univ := by
  have h := Ring.lead_cover (s := ⟨3, ![8, R, C]⟩) (NB := 8) (0 : Fin 3) 1 (fun b => ![b.val, 0, 0]) ![1, R, C] (fun b => inb R C b)
    (fun b => (Nat.one_mul _).symm) (fun b a ha => by match a with | ⟨0, _⟩ => exact absurd rfl ha | ⟨1, _⟩ => rfl | ⟨2, _⟩ => rfl) rfl
    (fun a ha => by match a with | ⟨0, _⟩ => exact absurd rfl ha | ⟨1, _⟩ => rfl | ⟨2, _⟩ => rfl) rfl
  ext i
  refine ⟨fun _ => Finset.mem_univ _, fun _ => ?_⟩
  obtain ⟨j, -, rfl⟩ := Finset.mem_map.mp (show i ∈ M.view.set from hM.set_eq_univ ▸ Finset.mem_univ i)
  have hj : j ∈ Finset.univ.biUnion (fun b : Fin 8 => (Rect.unit (s := ⟨3, ![8, R, C]⟩) ![b.val, 0, 0] ![1, R, C] (inb R C b)).set) := by
    rw [h]; exact Finset.mem_univ _
  obtain ⟨b, hb, hjb⟩ := Finset.mem_biUnion.mp hj
  refine Finset.mem_biUnion.mpr ⟨b, Finset.mem_univ _, ?_⟩
  rw [row_set]
  exact Finset.mem_map_of_mem _ hjb

end Arr

/-! ## The plan -/

/-- The semaphores: of the arrivals (0 the device's own copy), and of the sources of the seven sends. -/
abbrev KK (n : ℕ) : Type := (Fin 8 × Fin n) ⊕ (Fin 7 × Fin n)

/-- The order of an exchange, and who sends what. -/
structure Sched (n : ℕ) where
  msk : Fin 8 → ℕ
  tm : Fin 8 → ℕ
  ti : KK n → ℕ
  tw : KK n → ℕ
  tf : KK n → ℕ
  lev : KK n → ℕ
  /-- the arrival whose row send `j` reads, if it forwards one, by its mask -/
  back : Fin 7 → Option ℕ

variable (sig) in
/-- The arrays of an exchange and its semaphores. -/
structure Xch (n : ℕ) where
  A : Fin n → Arr sig
  arr : Fin 8 → Fin n → DmaSem sig
  snd : Fin 7 → Fin n → DmaSem sig
  inj : Function.Injective (Sum.elim (fun x : Fin 8 × Fin n => arr x.1 x.2) (fun x : Fin 7 × Fin n => snd x.1 x.2))

namespace Xch

local notation "𝕄" => MT 8 τ sig Unit Val ℕ (UU 8 τ sig) ℕ

variable {n : ℕ} (X : Xch sig n) (S : Sched n) (m : (ℓ : Loc 8 τ sig) → Buf Val ℓ)

/-- Row `r` of device `d`'s array `a`, at launch. -/
def blank (d r : Dev 8) (a : Fin n) : sProp 𝕄 :=
  ((X.A a).row r).view.loc (d : Thread 8 τ) ↦[((X.A a).row r).view.set]{fullShare} m (((X.A a).row r).view.loc (d : Thread 8 τ))

/-- What device `r` has for device `d`. -/
def sent (d r : Dev 8) (a : Fin n) : (⟨2, ![(X.A a).R, (X.A a).C]⟩ : Shape).Idx → Val (X.A a).e :=
  ((X.A a).piece d).view.read Val (m (((X.A a).piece d).view.loc (r : Thread 8 τ)))

/-- Row `r` of device `d`'s array `a`, filled. -/
def landed (d r : Dev 8) (a : Fin n) : sProp 𝕄 :=
  ((X.A a).row r).view.loc (d : Thread 8 τ) ↦[((X.A a).row r).view.set]{fullShare}
    (((X.A a).row r).view.write Val (m (((X.A a).row r).view.loc (d : Thread 8 τ))) (X.sent m d r a) Finset.univ)

/-- Share `k` of device `c`'s piece for device `d`. -/
def lent (c d : Dev 8) (k : Fin 8) (a : Fin n) : sProp 𝕄 :=
  ((X.A a).piece d).view.loc (c : Thread 8 τ) ↦[((X.A a).piece d).view.set]{Transfers.shareTok fullShare 8 k} m (((X.A a).piece d).view.loc (c : Thread 8 τ))

def res (c : Dev 8) : KK n → sProp 𝕄
  | .inl (k, a) => iprop(X.lent m c (xr (S.tm k) c) k a ∗ X.blank m (xr (S.tm k) c) (xr (S.msk k) (xr (S.tm k) c)) a)
  | .inr _ => iprop(emp)

def pay (c : Dev 8) : KK n → sProp 𝕄
  | .inl (k, a) => X.landed m c (xr (S.msk k) c) a
  | .inr (j, a) => (S.back j).elim iprop(emp) fun b => X.landed m c (xr b c) a

instance landed_storable (d r : Dev 8) (a : Fin n) : BI.Storable (upEmb : UEmb _ 𝕄) (X.landed m d r a) := by
  unfold landed; infer_instance

def plan : Plan 8 τ sig Val (KK n) where
  cell := fun k => .dma (Sum.elim (fun x : Fin 8 × Fin n => X.arr x.1 x.2) (fun x : Fin 7 × Fin n => X.snd x.1 x.2) k)
  inj := fun k k' h => X.inj (by injection h)
  tgt := Sum.elim (fun x => xr (S.tm x.1)) (fun _ => Equiv.refl _)
  owed := Sum.elim (fun x => decide (x.1 ≠ 0)) (fun _ => false)
  amt := Sum.elim (fun x => (X.A x.2).N) (fun x => (X.A x.2).N)
  amt_pos := by rintro (x | x) <;> exact (X.A x.2).N_pos
  ti := S.ti
  tw := S.tw
  tf := S.tf
  lev := S.lev
  res := X.res S m
  pay := X.pay S m
  stor := by
    rintro c (⟨k, a⟩ | ⟨j, a⟩)
    · exact X.landed_storable m _ _ _
    · show BI.Storable upEmb ((S.back j).elim iprop(emp) fun b => X.landed m c (xr b c) a)
      cases S.back j with
      | none => exact (inferInstance : BI.Storable (upEmb : UEmb _ 𝕄) iprop(emp))
      | some b => exact X.landed_storable m _ _ _

end Xch

end Cert.Cells
-- ==== Proof.Order.lean ====
/-

The two orders of an exchange, and the steps of a device in them. An order says at which instruction each semaphore is
paid and waited for (`Sched`); a step says what instruction `t` is (`IsCopy`, `IsSend`, `IsFwd`, `IsWait`), as the
conditions that the steps of a plan ask.
-/
module

public import proofs.«01_k».proof.Proof.Exchange

@[expose] public section

set_option Elab.async false

noncomputable section

namespace Cert.Cells

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

/-! ## The numbers of the semaphores -/

/-- The number of a pair, in rows of `n`. -/
def ord {N n : ℕ} (x : Fin N × Fin n) : ℕ := x.1.val * n + x.2.val

theorem ord_lt {N n : ℕ} (x : Fin N × Fin n) : ord x < N * n := by
  have h1 : (x.1.val + 1) * n ≤ N * n := Nat.mul_le_mul_right n x.1.isLt
  have h2 := x.2.isLt
  have h3 : (x.1.val + 1) * n = x.1.val * n + n := Nat.succ_mul _ _
  unfold ord; omega

theorem ord_inj {N n : ℕ} (x y : Fin N × Fin n) : ord x = ord y ↔ x = y := by
  refine ⟨fun h => ?_, fun h => by rw [h]⟩
  have step : ∀ i j : ℕ, i < j → i * n + n ≤ j * n := fun i j h => by
    rw [← Nat.succ_mul]; exact Nat.mul_le_mul_right n h
  have hx := x.2.isLt
  have hy := y.2.isLt
  unfold ord at h
  rcases Nat.lt_trichotomy x.1.val y.1.val with hl | he | hl
  · have := step _ _ hl; omega
  · rw [he] at h
    exact Prod.ext (Fin.ext he) (Fin.ext (by omega))
  · have := step _ _ hl; omega

theorem ord_succ {N n : ℕ} (j : Fin N) (a : Fin n) : ord (j.succ, a) = n + ord (j, a) := by
  show (j.val + 1) * n + a.val = n + (j.val * n + a.val)
  rw [Nat.succ_mul]; omega
theorem ord_zero {N n : ℕ} (a : Fin n) : ord ((0 : Fin (N + 1)), a) = a.val := by
  show 0 * n + a.val = _
  omega
theorem ord_row {N n : ℕ} (x : Fin (N + 1) × Fin n) : x.1 ≠ 0 ↔ n ≤ ord x := by
  have hx := x.2.isLt
  constructor
  · intro h
    have h1 : 0 < x.1.val := Nat.pos_of_ne_zero fun h0 => h (Fin.ext h0)
    have h2 : 1 * n ≤ x.1.val * n := Nat.mul_le_mul_right n h1
    unfold ord; omega
  · intro h h0
    have h1 : x.1.val = 0 := by rw [h0]; rfl
    unfold ord at h
    rw [h1] at h
    omega

/-- The pair of a number. -/
def pair {N n : ℕ} (p : ℕ) (h : p < N * n) : Fin N × Fin n :=
  (⟨p / n, Nat.div_lt_of_lt_mul (by rwa [Nat.mul_comm])⟩, ⟨p % n, Nat.mod_lt _ (Nat.pos_of_ne_zero fun h0 => by subst h0; omega)⟩)
theorem ord_pair {N n : ℕ} (p : ℕ) (h : p < N * n) : ord (pair p h) = p := Nat.div_add_mod' p n

/-! ## What an instruction is -/

/-- A semaphore that another device pays. -/
abbrev due' {n : ℕ} (k : KK n) : Bool := Sum.elim (fun x : Fin 8 × Fin n => decide (x.1 ≠ 0)) (fun _ => false) k

variable {n : ℕ}

structure IsWait (S : Sched n) (t : ℕ) (k : KK n) : Prop where
  tw : ∀ k', S.tw k' = t ↔ k' = k
  ti : ∀ k', S.ti k' ≠ t
  tf : ∀ k', S.tf k' ≠ t
  lt : t < S.tf k
  early : due' k = true ∨ S.ti k < t
  lev : ∀ k', due' k' = true → t ≤ S.ti k' → S.lev k < S.lev k'

structure IsCopy (S : Sched n) (t : ℕ) (a : Fin n) : Prop where
  ti : ∀ k', S.ti k' = t ↔ k' = .inl (0, a)
  tw : ∀ k', S.tw k' ≠ t
  tf : ∀ k', S.tf k' ≠ t
  lt : t < S.tw (.inl (0, a))
  own : S.tm 0 = 0 ∧ S.msk 0 = 0

structure IsSend (S : Sched n) (t : ℕ) (x : Fin 7 × Fin n) : Prop where
  ti : ∀ k', S.ti k' = t ↔ k' = .inr x ∨ k' = .inl (x.1.succ, x.2)
  tw : ∀ k', S.tw k' ≠ t
  tf : ∀ k', S.tf k' ≠ t
  lt : t < S.tw (.inr x)
  back : S.back x.1 = none
  row : ∀ c, xr (S.msk x.1.succ) (xr (S.tm x.1.succ) c) = c

structure IsFwd (S : Sched n) (t : ℕ) (x : Fin 7 × Fin n) (i : Fin 8) : Prop where
  ti : ∀ k', S.ti k' = t ↔ k' = .inr x ∨ k' = .inl (x.1.succ, x.2)
  tw : ∀ k', S.tw k' ≠ t
  tf : ∀ k', S.tf k' = t ↔ k' = .inl (i, x.2)
  lt : t < S.tw (.inr x)
  came : S.tw (.inl (i, x.2)) < t
  back : S.back x.1 = some (S.msk i)
  row : ∀ c, xr (S.msk x.1.succ) (xr (S.tm x.1.succ) c) = xr (S.msk i) c

/-! ## All to all -/

variable (n) in
/-- The device's own copies, the sends to the seven others, the waits for each send and its arrival, the copies. -/
def direct : Sched n where
  msk := Fin.val
  tm := Fin.val
  ti := Sum.elim (fun x => ord x) (fun x => n + ord x)
  tw := Sum.elim (fun x => if ord x < n then 22 * n + ord x else 6 * n + 2 * ord x + 1) (fun x => 8 * n + 2 * ord x)
  tf := fun _ => 23 * n
  lev := fun _ => 0
  back := fun _ => none

theorem direct_ti_lt (k : KK n) : (direct n).ti k < 23 * n := by
  rcases k with x | x <;> have := ord_lt x <;> show _ < _ <;> dsimp only [direct, Sum.elim_inl, Sum.elim_inr] <;> omega
theorem direct_tw_lt (k : KK n) : (direct n).tw k < 23 * n := by
  rcases k with x | x <;> have := ord_lt x <;> dsimp only [direct, Sum.elim_inl, Sum.elim_inr] <;> (try split_ifs) <;> omega

theorem direct_copy (t : ℕ) (h : t < n) : IsCopy (direct n) t ⟨t, h⟩ where
  ti := by
    rintro (x | x) <;> have := ord_lt x
    · simp only [direct, Sum.elim_inl, Sum.inl.injEq, ← ord_inj, ord_zero]
    · simp only [direct, Sum.elim_inr, reduceCtorEq, iff_false]; omega
  tw := by rintro (x | x) <;> have := ord_lt x <;> dsimp only [direct, Sum.elim_inl, Sum.elim_inr] <;> (try split_ifs) <;> omega
  tf := by intro x; dsimp only [direct]; omega
  lt := by dsimp only [direct, Sum.elim_inl]; rw [ord_zero]; split_ifs <;> omega
  own := ⟨rfl, rfl⟩

theorem direct_send (t : ℕ) (h : n ≤ t) (h' : t - n < 7 * n) : IsSend (direct n) t (pair (t - n) h') where
  ti := by
    have e := ord_pair (N := 7) (n := n) (t - n) h'
    generalize pair (t - n) h' = y at e
    have e' : ord (y.1.succ, y.2) = n + ord y := ord_succ y.1 y.2
    rintro (x | x) <;> have := ord_lt x
    · simp only [direct, Sum.elim_inl, Sum.inl.injEq, reduceCtorEq, _root_.false_or, ← ord_inj]; rw [e']; omega
    · simp only [direct, Sum.elim_inr, Sum.inr.injEq, reduceCtorEq, _root_.or_false, ← ord_inj]; omega
  tw := by rintro (x | x) <;> have := ord_lt x <;> dsimp only [direct, Sum.elim_inl, Sum.elim_inr] <;> (try split_ifs) <;> omega
  tf := by intro x; dsimp only [direct]; omega
  lt := by dsimp only [direct, Sum.elim_inr]; rw [ord_pair]; omega
  back := rfl
  row c := xr_xr _ c

theorem direct_late (t : ℕ) (h : 8 * n ≤ t) (k k' : KK n) (hk : due' k' = true) (ht : t ≤ (direct n).ti k') :
    (direct n).lev k < (direct n).lev k' := by
  rcases k' with x | x <;> have := ord_lt x <;> dsimp only [direct, Sum.elim_inl, Sum.elim_inr] at ht <;> omega
theorem direct_done (t : ℕ) (h : 8 * n ≤ t) (k' : KK n) : (direct n).ti k' ≠ t := by
  rcases k' with x | x <;> have := ord_lt x <;> dsimp only [direct, Sum.elim_inl, Sum.elim_inr] <;> omega

/-- The wait for a send, -/
theorem direct_wait_send (t : ℕ) (h : 8 * n ≤ t) (h2 : t % 2 = 0) (h' : (t - 8 * n) / 2 < 7 * n) :
    IsWait (direct n) t (.inr (pair ((t - 8 * n) / 2) h')) where
  tw := by
    have e := ord_pair (N := 7) (n := n) ((t - 8 * n) / 2) h'
    generalize pair ((t - 8 * n) / 2) h' = y at e
    rintro (x | x) <;> have := ord_lt x
    · simp only [direct, Sum.elim_inl, reduceCtorEq, iff_false]; split_ifs <;> omega
    · simp only [direct, Sum.elim_inr, Sum.inr.injEq, ← ord_inj]; omega
  ti := direct_done t h
  tf := by intro x; dsimp only [direct]; omega
  lt := by dsimp only [direct]; omega
  early := Or.inr (by dsimp only [direct, Sum.elim_inr]; rw [ord_pair]; omega)
  lev := direct_late t h _

/-- for its arrival, -/
theorem direct_wait_recv (t : ℕ) (h : 8 * n ≤ t) (h2 : t % 2 = 1) (h' : (t - 6 * n) / 2 < 8 * n) (h3 : t < 22 * n) :
    IsWait (direct n) t (.inl (pair ((t - 6 * n) / 2) h')) where
  tw := by
    have e := ord_pair (N := 8) (n := n) ((t - 6 * n) / 2) h'
    generalize pair ((t - 6 * n) / 2) h' = y at e
    rintro (x | x) <;> have := ord_lt x
    · simp only [direct, Sum.elim_inl, Sum.inl.injEq, ← ord_inj]; split_ifs <;> omega
    · simp only [direct, Sum.elim_inr, reduceCtorEq, iff_false]; omega
  ti := direct_done t h
  tf := by intro x; dsimp only [direct]; omega
  lt := by dsimp only [direct]; omega
  early := Or.inl (decide_eq_true ((ord_row _).mpr (by rw [ord_pair]; omega)))
  lev := direct_late t h _

/-- and for the device's own copy. -/
theorem direct_wait_copy (t : ℕ) (h : 22 * n ≤ t) (h' : t - 22 * n < n) : IsWait (direct n) t (.inl (0, ⟨t - 22 * n, h'⟩)) where
  tw := by
    rintro (x | x) <;> have := ord_lt x
    · simp only [direct, Sum.elim_inl, Sum.inl.injEq, ← ord_inj, ord_zero]; split_ifs <;> omega
    · simp only [direct, Sum.elim_inr, reduceCtorEq, iff_false]; omega
  ti := direct_done t (by omega)
  tf := by intro x; dsimp only [direct]; omega
  lt := by dsimp only [direct]; omega
  early := Or.inr (by dsimp only [direct, Sum.elim_inl]; rw [ord_zero]; dsimp only; omega)
  lev := direct_late t (by omega) _

/-! ## In two levels -/

/-- Whose row an arrival fills, who sends it, and which rows the sends give back. -/
def relayMsk : Fin 8 → ℕ := ![0, 1, 4, 2, 6, 5, 3, 7]
def relayTm : Fin 8 → ℕ := ![0, 1, 4, 2, 6, 1, 1, 1]
def relayBack : Fin 7 → Option ℕ := ![none, none, none, none, some 4, some 2, some 6]
theorem relay_first : ∀ j : Fin 7, j.val < 4 → relayBack j = none ∧ ∀ c : Dev 8, xr (relayMsk j.succ) (xr (relayTm j.succ) c) = c := by
  decide
theorem relay_second : ∀ (i : Fin 8) (j : Fin 7), 4 ≤ j.val → i.val + 2 = j.val →
    relayBack j = some (relayMsk i) ∧ ∀ c : Dev 8, xr (relayMsk j.succ) (xr (relayTm j.succ) c) = xr (relayMsk i) c := by
  decide

variable (n) in
/-- The device's own copies; the sends to the partner (mask 1) and to the three devices of masks 4, 2 and 6; each arrival
from these three is waited for and sent on to the partner; then the waits for the arrivals from the partner, for the
sends, for the copies. -/
def relay : Sched n where
  msk := relayMsk
  tm := relayTm
  ti := Sum.elim (fun x => if ord x < 5 * n then ord x else 2 * ord x + 1 - 5 * n) (fun x => if ord x < 4 * n then n + ord x else 2 * ord x + 1 - 3 * n)
  tw := Sum.elim
    (fun x => if ord x < n then 22 * n + ord x else if ord x < 2 * n then 10 * n + ord x else if ord x < 5 * n then n + 2 * ord x else 7 * n + ord x)
    (fun x => 15 * n + ord x)
  tf := Sum.elim (fun x => if ord x < 2 * n then 23 * n else if ord x < 5 * n then n + 2 * ord x + 1 else 23 * n) (fun _ => 23 * n)
  lev := Sum.elim (fun x => if ord x < 5 * n then 0 else 1) (fun _ => 0)
  back := relayBack

theorem relay_ti_lt (k : KK n) : (relay n).ti k < 23 * n := by
  rcases k with x | x <;> have := ord_lt x <;> dsimp only [relay, Sum.elim_inl, Sum.elim_inr] <;> (try split_ifs) <;> omega
theorem relay_tw_lt (k : KK n) : (relay n).tw k < 23 * n := by
  rcases k with x | x <;> have := ord_lt x <;> dsimp only [relay, Sum.elim_inl, Sum.elim_inr] <;> (try split_ifs) <;> omega

theorem relay_copy (t : ℕ) (h : t < n) : IsCopy (relay n) t ⟨t, h⟩ where
  ti := by
    rintro (x | x) <;> have := ord_lt x
    · simp only [relay, Sum.elim_inl, Sum.inl.injEq, ← ord_inj, ord_zero]; split_ifs <;> omega
    · simp only [relay, Sum.elim_inr, reduceCtorEq, iff_false]; split_ifs <;> omega
  tw := by rintro (x | x) <;> have := ord_lt x <;> dsimp only [relay, Sum.elim_inl, Sum.elim_inr] <;> (try split_ifs) <;> omega
  tf := by rintro (x | x) <;> have := ord_lt x <;> dsimp only [relay, Sum.elim_inl, Sum.elim_inr] <;> (try split_ifs) <;> omega
  lt := by dsimp only [relay, Sum.elim_inl]; rw [ord_zero]; split_ifs <;> omega
  own := ⟨rfl, rfl⟩

theorem relay_send (t : ℕ) (h : n ≤ t) (h2 : t < 5 * n) (h' : t - n < 7 * n) : IsSend (relay n) t (pair (t - n) h') where
  ti := by
    have e := ord_pair (N := 7) (n := n) (t - n) h'
    generalize pair (t - n) h' = y at e
    have e' : ord (y.1.succ, y.2) = n + ord y := ord_succ y.1 y.2
    rintro (x | x) <;> have := ord_lt x
    · simp only [relay, Sum.elim_inl, Sum.inl.injEq, reduceCtorEq, _root_.false_or, ← ord_inj]; rw [e']; split_ifs <;> omega
    · simp only [relay, Sum.elim_inr, Sum.inr.injEq, reduceCtorEq, _root_.or_false, ← ord_inj]; split_ifs <;> omega
  tw := by rintro (x | x) <;> have := ord_lt x <;> dsimp only [relay, Sum.elim_inl, Sum.elim_inr] <;> (try split_ifs) <;> omega
  tf := by rintro (x | x) <;> have := ord_lt x <;> dsimp only [relay, Sum.elim_inl, Sum.elim_inr] <;> (try split_ifs) <;> omega
  lt := by dsimp only [relay, Sum.elim_inr]; rw [ord_pair]; omega
  back := (relay_first _ (Nat.div_lt_of_lt_mul (by omega))).1
  row := (relay_first _ (Nat.div_lt_of_lt_mul (by omega))).2

/-- An arrival that is sent on: its number is `q - 2n`, of the send's `q`. -/
theorem relay_fwd (t : ℕ) (h : 5 * n ≤ t) (h2 : t < 11 * n) (h3 : (t - 5 * n) % 2 = 1) (h' : (t + 3 * n) / 2 < 7 * n) (i : Fin 8)
    (hi : i.val + 2 = ((t + 3 * n) / 2) / n) : IsFwd (relay n) t (pair ((t + 3 * n) / 2) h') i where
  ti := by
    have e := ord_pair (N := 7) (n := n) ((t + 3 * n) / 2) h'
    generalize pair ((t + 3 * n) / 2) h' = y at e
    have e' : ord (y.1.succ, y.2) = n + ord y := ord_succ y.1 y.2
    rintro (x | x) <;> have := ord_lt x
    · simp only [relay, Sum.elim_inl, Sum.inl.injEq, reduceCtorEq, _root_.false_or, ← ord_inj]; rw [e']; split_ifs <;> omega
    · simp only [relay, Sum.elim_inr, Sum.inr.injEq, reduceCtorEq, _root_.or_false, ← ord_inj]; split_ifs <;> omega
  tw := by rintro (x | x) <;> have := ord_lt x <;> dsimp only [relay, Sum.elim_inl, Sum.elim_inr] <;> (try split_ifs) <;> omega
  tf := by
    have e := ord_pair (N := 7) (n := n) ((t + 3 * n) / 2) h'
    have e' : ord (i, (pair ((t + 3 * n) / 2) h').2) + 2 * n = ord (pair ((t + 3 * n) / 2) h') := by
      show i.val * n + (t + 3 * n) / 2 % n + 2 * n = (t + 3 * n) / 2 / n * n + (t + 3 * n) / 2 % n
      rw [← hi, Nat.add_mul]; omega
    rintro (x | x) <;> have := ord_lt x
    · simp only [relay, Sum.elim_inl, Sum.inl.injEq, ← ord_inj]; split_ifs <;> omega
    · simp only [relay, Sum.elim_inr, reduceCtorEq, iff_false]; omega
  lt := by dsimp only [relay, Sum.elim_inr]; rw [ord_pair]; omega
  came := by
    have e := ord_pair (N := 7) (n := n) ((t + 3 * n) / 2) h'
    have e' : ord (i, (pair ((t + 3 * n) / 2) h').2) + 2 * n = ord (pair ((t + 3 * n) / 2) h') := by
      show i.val * n + (t + 3 * n) / 2 % n + 2 * n = (t + 3 * n) / 2 / n * n + (t + 3 * n) / 2 % n
      rw [← hi, Nat.add_mul]; omega
    dsimp only [relay, Sum.elim_inl]; split_ifs <;> omega
  back := (relay_second i _ ((Nat.le_div_iff_mul_le (by omega)).mpr (by omega)) hi).1
  row := (relay_second i _ ((Nat.le_div_iff_mul_le (by omega)).mpr (by omega)) hi).2

theorem relay_late (t : ℕ) (h : 11 * n ≤ t) (k k' : KK n) (hk : due' k' = true) (ht : t ≤ (relay n).ti k') :
    (relay n).lev k < (relay n).lev k' := by
  rcases k' with x | x <;> have := ord_lt x <;> dsimp only [relay, Sum.elim_inl, Sum.elim_inr] at ht <;> split_ifs at ht <;> omega

/-- The wait for an arrival that is sent on, -/
theorem relay_wait_fwd (t : ℕ) (h : 5 * n ≤ t) (h2 : t < 11 * n) (h3 : (t - 5 * n) % 2 = 0) (h' : (t - n) / 2 < 8 * n) :
    IsWait (relay n) t (.inl (pair ((t - n) / 2) h')) where
  tw := by
    have e := ord_pair (N := 8) (n := n) ((t - n) / 2) h'
    generalize pair ((t - n) / 2) h' = y at e
    rintro (x | x) <;> have := ord_lt x
    · simp only [relay, Sum.elim_inl, Sum.inl.injEq, ← ord_inj]; split_ifs <;> omega
    · simp only [relay, Sum.elim_inr, reduceCtorEq, iff_false]; omega
  ti := by rintro (x | x) <;> have := ord_lt x <;> dsimp only [relay, Sum.elim_inl, Sum.elim_inr] <;> (try split_ifs) <;> omega
  tf := by rintro (x | x) <;> have := ord_lt x <;> dsimp only [relay, Sum.elim_inl, Sum.elim_inr] <;> (try split_ifs) <;> omega
  lt := by dsimp only [relay, Sum.elim_inl]; rw [ord_pair]; split_ifs <;> omega
  early := Or.inl (decide_eq_true ((ord_row _).mpr (by rw [ord_pair]; omega)))
  lev := by
    have e := ord_pair (N := 8) (n := n) ((t - n) / 2) h'
    generalize pair ((t - n) / 2) h' = y at e
    rintro (x | x) hk ht <;> have := ord_lt x
    · dsimp only [relay, Sum.elim_inl] at ht ⊢
      split_ifs at ht ⊢ <;> omega
    · exact absurd hk Bool.false_ne_true

/-- for an arrival from the partner, -/
theorem relay_wait_recv (t : ℕ) (k : Fin 8 × Fin n) (h : 11 * n ≤ t) (hk : ord k < 2 * n ∧ n ≤ ord k ∧ t = 10 * n + ord k ∨ 5 * n ≤ ord k ∧ t = 7 * n + ord k) :
    IsWait (relay n) t (.inl k) where
  tw := by
    have := ord_lt k
    rintro (x | x) <;> have := ord_lt x
    · simp only [relay, Sum.elim_inl, Sum.inl.injEq, ← ord_inj]; split_ifs <;> omega
    · simp only [relay, Sum.elim_inr, reduceCtorEq, iff_false]; omega
  ti := by rintro (x | x) <;> have := ord_lt x <;> dsimp only [relay, Sum.elim_inl, Sum.elim_inr] <;> (try split_ifs) <;> omega
  tf := by have := ord_lt k; rintro (x | x) <;> have := ord_lt x <;> dsimp only [relay, Sum.elim_inl, Sum.elim_inr] <;> (try split_ifs) <;> omega
  lt := by have := ord_lt k; dsimp only [relay, Sum.elim_inl]; split_ifs <;> omega
  early := Or.inl (decide_eq_true ((ord_row _).mpr (by omega)))
  lev := relay_late t h _

theorem relay_wait_near (t : ℕ) (h : 11 * n ≤ t) (h2 : t < 12 * n) (h' : t - 10 * n < 8 * n) : IsWait (relay n) t (.inl (pair (t - 10 * n) h')) :=
  relay_wait_recv t _ h (Or.inl (by rw [ord_pair]; omega))
theorem relay_wait_far (t : ℕ) (h : 12 * n ≤ t) (h' : t - 7 * n < 8 * n) : IsWait (relay n) t (.inl (pair (t - 7 * n) h')) :=
  relay_wait_recv t _ (by omega) (Or.inr (by rw [ord_pair]; omega))

/-- for a send, -/
theorem relay_wait_send (t : ℕ) (h : 15 * n ≤ t) (h' : t - 15 * n < 7 * n) : IsWait (relay n) t (.inr (pair (t - 15 * n) h')) where
  tw := by
    have e := ord_pair (N := 7) (n := n) (t - 15 * n) h'
    generalize pair (t - 15 * n) h' = y at e
    rintro (x | x) <;> have := ord_lt x
    · simp only [relay, Sum.elim_inl, reduceCtorEq, iff_false]; split_ifs <;> omega
    · simp only [relay, Sum.elim_inr, Sum.inr.injEq, ← ord_inj]; omega
  ti := by rintro (x | x) <;> have := ord_lt x <;> dsimp only [relay, Sum.elim_inl, Sum.elim_inr] <;> (try split_ifs) <;> omega
  tf := by rintro (x | x) <;> have := ord_lt x <;> dsimp only [relay, Sum.elim_inl, Sum.elim_inr] <;> (try split_ifs) <;> omega
  lt := by dsimp only [relay, Sum.elim_inr]; omega
  early := Or.inr (by dsimp only [relay, Sum.elim_inr]; rw [ord_pair]; split_ifs <;> omega)
  lev := relay_late t (by omega) _

/-- and for the device's own copy. -/
theorem relay_wait_copy (t : ℕ) (h : 22 * n ≤ t) (h' : t - 22 * n < n) : IsWait (relay n) t (.inl (0, ⟨t - 22 * n, h'⟩)) where
  tw := by
    rintro (x | x) <;> have := ord_lt x
    · simp only [relay, Sum.elim_inl, Sum.inl.injEq, ← ord_inj, ord_zero]; split_ifs <;> omega
    · simp only [relay, Sum.elim_inr, reduceCtorEq, iff_false]; omega
  ti := by rintro (x | x) <;> have := ord_lt x <;> dsimp only [relay, Sum.elim_inl, Sum.elim_inr] <;> (try split_ifs) <;> omega
  tf := by rintro (x | x) <;> have := ord_lt x <;> dsimp only [relay, Sum.elim_inl, Sum.elim_inr] <;> (try split_ifs) <;> omega
  lt := by dsimp only [relay, Sum.elim_inl]; rw [ord_zero]; split_ifs <;> omega
  early := Or.inr (by dsimp only [relay, Sum.elim_inl]; rw [ord_zero]; dsimp only; split_ifs <;> omega)
  lev := relay_late t (by omega) _

end Cert.Cells
-- ==== Proof.Steps.lean ====
/-

The steps of a device in an exchange, as steps of the program: each reads `St κ c t ⊢ wp …` off `St κ c (t + 1) ⊢ wp …`.
-/
module

public import proofs.«01_k».proof.Proof.Order

@[expose] public section

set_option Elab.async false

noncomputable section

namespace Cert.Cells.Xch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {sig : RefSig} {τ : Topo} {Val : EltTy → Type}

local notation "𝕄" => MT 8 τ sig Unit Val ℕ (UU 8 τ sig) ℕ

variable [∀ e, Nonempty (Val e)] {Λ : Labels} {defs : Defs 8 τ sig Val Λ} {𝒱 : Variants} {bd : Option 𝒱.V}
variable {n : ℕ} (X : Xch sig n) (S : Sched n) (m : (ℓ : Loc 8 τ sig) → Buf Val ℓ)
variable {α : Type}

/-- The semaphores, by their numbers. -/
def sem (k : KK n) : DmaSem sig := Sum.elim (fun x : Fin 8 × Fin n => X.arr x.1 x.2) (fun x : Fin 7 × Fin n => X.snd x.1 x.2) k
/-- What a transfer on one is worth. -/
def amt (k : KK n) : ℕ := Sum.elim (fun x : Fin 8 × Fin n => (X.A x.2).N) (fun x : Fin 7 × Fin n => (X.A x.2).N) k

variable {κ : Dev 8 × KK n → ℕ} {c : Dev 8}

/-- A continuation after a step. -/
theorem after {A B C D : sProp 𝕄} (h : A ⊢ iprop((B -∗ D) -∗ C)) (h' : B ⊢ D) : A ⊢ C := by
  iintro HA
  iapply h $$ [HA]
  · iexact HA
  iintro HB
  iapply h'; iexact HB

variable {X S m}

/-- A wait. -/
theorem wait {t : ℕ} {k : KK n} (h : IsWait S t k) {sp sp' : Space} {s s' : Shape} {e e' : EltTy} {sem : DmaSem sig}
    {src : Memref sig (c : Thread 8 τ).2.kind sp' s' e'} {κ' : Kind} {dst : Memref sig κ' sp s e} {hsrc : src.view.WordExact} {hdst : dst.view.WordExact}
    (hsem : sem = X.sem k) (hN : dst.view.dmaCredit = X.amt k) {kt : PUnit → Prog (TpuEff 8 τ sig Val Λ (c : Thread 8 τ).2) α}
    {Q : α → sProp 𝕄} (hk : (X.plan S m).St κ c (t + 1) ⊢ wp frame (wpE defs 𝒱 (c : Thread 8 τ) bd) Set.univ (kt ⟨⟩) Q) :
    (X.plan S m).St κ c t ⊢ wp frame (wpE defs 𝒱 (c : Thread 8 τ) bd) Set.univ (.op (.waitDma2 sem src dst hsrc hdst) kt) Q :=
  after ((X.plan S m).wait_step 𝒱 bd κ c t k (fun K => wpE_waitDma2_eq 𝒱 (c : Thread 8 τ) bd Set.univ K) (congrArg SemLoc.dma hsem) hN
    h.tw h.ti h.tf h.lt h.early h.lev) hk

/-- The device's own copy. -/
theorem copy {t : ℕ} {a : Fin n} (h : IsCopy S t a)
    {s : Shape} {e : EltTy} {src dst : Memref sig .tc .hbm s e} {sem : DmaSem sig}
    {hsrc : src.view.WordExact} {hdst : dst.view.WordExact} {hty : DmaTarget.Typed (nD := 8) (τ := τ) (p := (c : Thread 8 τ).2) .hbm (.dma sem) (.here dst)}
    (hS : s = ⟨2, ![(X.A a).R, (X.A a).C]⟩) (he : e = (X.A a).e)
    (hsem : sem = X.arr 0 a) (hs : HEq src ((X.A a).piece c)) (hd : HEq dst ((X.A a).row c))
    {kt : PUnit → Prog (TpuEff 8 τ sig Val Λ (c : Thread 8 τ).2) α}
    {Q : α → sProp 𝕄} (hk : (X.plan S m).St κ c (t + 1) ⊢ wp frame (wpE defs 𝒱 (c : Thread 8 τ) bd) Set.univ (kt ⟨⟩) Q) :
    (X.plan S m).St κ c t ⊢ wp frame (wpE defs 𝒱 (c : Thread 8 τ) bd) Set.univ (.op (.enqueueDma src (.here dst) (.dma sem) hsrc hdst hty) kt) Q := by
  subst hS he
  cases hs
  cases hd
  have e0 : xr (S.tm 0) c = c := by rw [h.own.1, xr_zero]
  have e1 : xr (S.msk 0) c = c := by rw [h.own.2, xr_zero]
  refine after ((X.plan S m).copy_step 𝒱 bd κ c t (.inl (0, a)) h.ti h.tw h.tf h.lt rfl e0 (congrArg SemLoc.dma hsem) rfl
    (q := Transfers.shareTok fullShare 8 0) (fs := m (((X.A a).piece c).view.loc (c : Thread 8 τ))) (fd := m (((X.A a).row c).view.loc (c : Thread 8 τ))) ?_ ?_) hk
  · show X.res S m c (.inl (0, a)) ⊢ _
    show iprop(X.lent m c (xr (S.tm 0) c) 0 a ∗ X.blank m (xr (S.tm 0) c) (xr (S.msk 0) (xr (S.tm 0) c)) a) ⊢ _
    rw [e0, e1]
    exact Entails.refl _
  · show _ ⊢ X.landed m c (xr (S.msk 0) c) a
    rw [e1]
    unfold landed sent
    iintro ⟨H, -⟩
    iexact H

/-- A send of a piece. -/
theorem send {t : ℕ} {x : Fin 7 × Fin n} (h : IsSend S t x) {c' : Dev 8}
    {s : Shape} {e : EltTy} {src dst : Memref sig .tc .hbm s e} {sS sem : DmaSem sig} {hsc : dst.view.ref.isScScratch = false}
    {hsrc : src.view.WordExact} {hdst : dst.view.WordExact}
    {hty : DmaTarget.Typed (nD := 8) (τ := τ) (p := (c : Thread 8 τ).2) .hbm (.dma sem) (.remote (c' : Thread 8 τ) dst (.dma sS) hsc)}
    (hS : s = ⟨2, ![(X.A x.2).R, (X.A x.2).C]⟩) (he : e = (X.A x.2).e)
    (hc : c' = xr (S.tm x.1.succ) c) (hsS : sS = X.snd x.1 x.2) (hsem : sem = X.arr x.1.succ x.2)
    (hs : HEq src ((X.A x.2).piece c')) (hd : HEq dst ((X.A x.2).row c))
    {kt : PUnit → Prog (TpuEff 8 τ sig Val Λ (c : Thread 8 τ).2) α}
    (hr : τ.routes (c : Thread 8 τ) (c' : Thread 8 τ) = true := by routes)
    {Q : α → sProp 𝕄} (hk : (X.plan S m).St κ c (t + 1) ⊢ wp frame (wpE defs 𝒱 (c : Thread 8 τ) bd) Set.univ (kt ⟨⟩) Q) :
    (X.plan S m).St κ c t ⊢ wp frame (wpE defs 𝒱 (c : Thread 8 τ) bd) Set.univ
      (.op (.enqueueDma src (.remote (c' : Thread 8 τ) dst (.dma sS) hsc) (.dma sem) hsrc hdst hty) kt) Q := by
  subst hS he
  cases hs
  cases hd
  have e1 : xr (S.msk x.1.succ) c' = c := by rw [hc]; exact h.row c
  refine after ((X.plan S m).send_step 𝒱 bd κ c t (.inr x) (.inl (x.1.succ, x.2)) h.ti (by simp) h.tw (fun k hk => absurd hk (h.tf k)) h.lt rfl
    (decide_eq_true (Fin.succ_ne_zero x.1)) rfl hc (congrArg SemLoc.dma hsS) (congrArg SemLoc.dma hsem) rfl rfl
    (q := Transfers.shareTok fullShare 8 x.1.succ) (fs := m (((X.A x.2).piece c').view.loc (c : Thread 8 τ)))
    (fd := m (((X.A x.2).row c).view.loc (c' : Thread 8 τ))) ?_ ?_ ?_ hr) hk
  · show iprop(emp ∗ (X.lent m c (xr (S.tm x.1.succ) c) x.1.succ x.2 ∗ X.blank m (xr (S.tm x.1.succ) c) (xr (S.msk x.1.succ) (xr (S.tm x.1.succ) c)) x.2)
      ∗ (X.plan S m).used c t) ⊢ _
    rw [← hc, e1]
    iintro ⟨-, H, -⟩
    iexact H
  · show _ ⊢ (S.back x.1).elim iprop(emp) fun b => X.landed m c (xr b c) x.2
    rw [h.back]
    iintro -
    iempintro
  · show _ ⊢ X.landed m c' (xr (S.msk x.1.succ) c') x.2
    rw [e1]
    exact Entails.refl _

/-- A row that came, sent on. -/
theorem fwd {t : ℕ} {x : Fin 7 × Fin n} {i : Fin 8} (h : IsFwd S t x i) {c' : Dev 8}
    {s : Shape} {e : EltTy} {src dst : Memref sig .tc .hbm s e} {sS sem : DmaSem sig} {hsc : dst.view.ref.isScScratch = false}
    {hsrc : src.view.WordExact} {hdst : dst.view.WordExact}
    {hty : DmaTarget.Typed (nD := 8) (τ := τ) (p := (c : Thread 8 τ).2) .hbm (.dma sem) (.remote (c' : Thread 8 τ) dst (.dma sS) hsc)}
    (hS : s = ⟨2, ![(X.A x.2).R, (X.A x.2).C]⟩) (he : e = (X.A x.2).e)
    (hc : c' = xr (S.tm x.1.succ) c) (hsS : sS = X.snd x.1 x.2) (hsem : sem = X.arr x.1.succ x.2)
    (hp : X.sent m c' (xr (S.msk i) c) x.2 = X.sent m c (xr (S.msk i) c) x.2)
    (hs : HEq src ((X.A x.2).row (xr (S.msk i) c))) (hd : HEq dst ((X.A x.2).row (xr (S.msk i) c)))
    {kt : PUnit → Prog (TpuEff 8 τ sig Val Λ (c : Thread 8 τ).2) α}
    (hr : τ.routes (c : Thread 8 τ) (c' : Thread 8 τ) = true := by routes)
    {Q : α → sProp 𝕄} (hk : (X.plan S m).St κ c (t + 1) ⊢ wp frame (wpE defs 𝒱 (c : Thread 8 τ) bd) Set.univ (kt ⟨⟩) Q) :
    (X.plan S m).St κ c t ⊢ wp frame (wpE defs 𝒱 (c : Thread 8 τ) bd) Set.univ
      (.op (.enqueueDma src (.remote (c' : Thread 8 τ) dst (.dma sS) hsc) (.dma sem) hsrc hdst hty) kt) Q := by
  subst hS he
  cases hs
  cases hd
  have e1 : xr (S.msk x.1.succ) c' = xr (S.msk i) c := by rw [hc]; exact h.row c
  refine after ((X.plan S m).send_step 𝒱 bd κ c t (.inr x) (.inl (x.1.succ, x.2)) h.ti (by simp) h.tw
    (fun k hk => by rw [(h.tf k).mp hk]; exact h.came) h.lt rfl
    (decide_eq_true (Fin.succ_ne_zero x.1)) rfl hc (congrArg SemLoc.dma hsS) (congrArg SemLoc.dma hsem) rfl rfl
    (src := (X.A x.2).row (xr (S.msk i) c)) (dst := (X.A x.2).row (xr (S.msk i) c))
    (q := fullShare) (fs := ((X.A x.2).row (xr (S.msk i) c)).view.write Val (m (((X.A x.2).row (xr (S.msk i) c)).view.loc (c : Thread 8 τ)))
      (X.sent m c (xr (S.msk i) c) x.2) Finset.univ)
    (fd := m (((X.A x.2).row (xr (S.msk i) c)).view.loc (c' : Thread 8 τ))) ?_ ?_ ?_ hr) hk
  · rw [(X.plan S m).used_one c t _ h.tf]
    show iprop(emp ∗ (X.lent m c (xr (S.tm x.1.succ) c) x.1.succ x.2 ∗ X.blank m (xr (S.tm x.1.succ) c) (xr (S.msk x.1.succ) (xr (S.tm x.1.succ) c)) x.2)
      ∗ X.landed m c (xr (S.msk i) c) x.2) ⊢ _
    rw [← hc, e1]
    unfold landed blank
    iintro ⟨-, ⟨-, H⟩, HL⟩
    isplitl [HL]
    · iexact HL
    · iexact H
  · show _ ⊢ (S.back x.1).elim iprop(emp) fun b => X.landed m c (xr b c) x.2
    rw [h.back]
    exact Entails.refl _
  · show _ ⊢ X.landed m c' (xr (S.msk x.1.succ) c') x.2
    rw [e1, View.read_write_univ, ← hp]
    exact Entails.refl _

end Cert.Cells.Xch
-- ==== Proof.Small.lean ====
/-

The gather of the small gradients.
-/
module

public import proofs.«01_k».proof.Proof.Steps
public import proofs.«01_k».proof.Proof.Gen.SmallIdeal.Skeleton
public import proofs.«01_k».proof.Proof.Gen.SmallIdeal.Launch

@[expose] public section

set_option Elab.async false

noncomputable section

namespace Cert.SmallIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Cells Cert.SmallIdeal.Gen

variable {F : FTy → Type} [FloatOps F]

def X : Xch sig 1 where
  A := ![{ R := 96, C := 128, e := .f32, out := Memref.whole main_v1, piece := fun _ => Memref.whole main_arg0,
           sq := squeezes_S1x96x128_S96x128, whole := Memref.isWhole_whole _, pos := by decide }]
  arr k a := Fin.cases ⟨14 + a.val, by have := a.isLt; show _ < 15; omega⟩
    (fun j => ⟨7 + (j.val * 1 + a.val), by have := a.isLt; have := j.isLt; show _ < 15; omega⟩) k
  snd j a := ⟨0 + (j.val * 1 + a.val), by have := a.isLt; have := j.isLt; show _ < 15; omega⟩
  inj := by decide

theorem body (m : (ℓ : Loc nD τ sig) → Buf (Elt F) ℓ) (κ : Dev 8 × KK 1 → ℕ) (c : Dev 8) :
    (X.plan (direct 1) m).St κ c 0 ⊢ wp frame (wpE (defs₀ (F := F)) Variants.none (c : Thread nD τ) none) Set.univ
      (cc0_gather_small_grads (F := F) (Memref.whole main_arg0) (Memref.isWhole_whole _) (Memref.whole main_v1) (Memref.isWhole_whole _) cc0_scratch0 cc0_scratch1 cc0_scratch2)
      (fun _ => (X.plan (direct 1) m).St κ c 23) := by
  rw [cc0_gather_small_grads_eq_skeleton]; unfold cc0_gather_small_grads_skel
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, Prog.lift, Prog.bind_op, Prog.bind_ret, Prog.pure_eq_ret, wp_deviceId]
  have cp := fun {t a} h => @Xch.copy sig τ (Elt F) _ _ (defs₀ (F := F)) Variants.none none 1 X (direct 1) m PUnit κ c t a h
  have sd := fun {t x} h => @Xch.send sig τ (Elt F) _ _ (defs₀ (F := F)) Variants.none none 1 X (direct 1) m PUnit κ c t x h
  have wt := fun {t k} h => @Xch.wait sig τ (Elt F) _ _ (defs₀ (F := F)) Variants.none none 1 X (direct 1) m PUnit κ c t k h
  refine cp (direct_copy _ (by decide)) (by exact rfl) (by exact rfl) (by exact (sem_at _ _ _).trans rfl) (by exact HEq.rfl) (by exact heq_of_eq (Arr.rowOf_eq _ _ _ (by clear * - c; revert c; decide +kernel) _ _)) ?_
  iterate 7
    refine sd (direct_send _ (by decide) (by decide)) (by exact rfl) (by exact rfl) (by clear * - c; revert c; decide +kernel) (by exact (sem_at _ _ _).trans rfl) (by exact (sem_at _ _ _).trans rfl) (by exact HEq.rfl)
      (by exact heq_of_eq (Arr.rowOf_eq _ _ _ (by clear * - c; revert c; decide +kernel) _ _)) (by routes) ?_
  iterate 7
    refine wt (direct_wait_send _ (by decide) (by decide) (by decide)) (by exact (sem_at _ _ _).trans rfl) (by exact rfl) ?_
    refine wt (direct_wait_recv _ (by decide) (by decide) (by decide) (by decide)) (by exact (sem_at _ _ _).trans rfl) (by exact rfl) ?_
  refine wt (direct_wait_copy _ (by decide) (by decide)) (by exact (sem_at _ _ _).trans rfl) (by exact rfl) ?_
  rw [wp_ret]; exact fupd_intro

end Cert.SmallIdeal
-- ==== Proof.Ends.lean ====
/-

Where an exchange starts and where it ends: the arrays of every device dealt out to the transfers, and the rows as the
transfers leave them.
-/
module

public import proofs.«01_k».proof.Proof.Steps
public import proofs.«01_k».proof.Proof.Run

@[expose] public section

set_option Elab.async false

noncomputable section

namespace Cert.Cells.Xch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {sig : RefSig} {τ : Topo} {Val : EltTy → Type}

local notation "𝕄" => MT 8 τ sig Unit Val ℕ (UU 8 τ sig) ℕ

variable {n : ℕ} (X : Xch sig n) (S : Sched n) (m : (ℓ : Loc 8 τ sig) → Buf Val ℓ)

/-! ## The buffers -/

/-- The buffers of the arrays. -/
structure Ports where
  ins : Fin n → Ref sig .tc
  outs : Fin n → Ref sig .tc
  hin : ∀ a d, ((X.A a).piece d).view.ref = ins a
  hout : ∀ a, (X.A a).out.view.ref = outs a
  inj : Function.Injective (Sum.elim ins outs)
  free : ∀ x, ¬ (Sum.elim ins outs x).isScoped

/-- A buffer held is a part of it held. -/
theorem lend_one {b : Ref sig .tc} {s : Shape} {e : EltTy} {sp : Space} (v : View sig .tc sp s e) (h : v.ref = b) (c : Dev 8) (q : PosShare TreeShare) :
    (((c : Thread 8 τ).loc b ↦{q} m ((c : Thread 8 τ).loc b)) : sProp 𝕄) ⊢ v.loc (c : Thread 8 τ) ↦[v.set]{q} m (v.loc (c : Thread 8 τ)) := by
  subst h
  refine (pointsTo_split_subset (Finset.subset_univ v.set)).1.trans ?_
  iintro ⟨H, -⟩
  iexact H

variable {X}
variable (P : Ports X)

/-- What a device keeps of the arrays it sends from. -/
def keep (c : Dev 8) : sProp 𝕄 := bigSep Finset.univ fun a => (c : Thread 8 τ).loc (P.ins a) ↦{Transfers.shareDrop fullShare 8} m ((c : Thread 8 τ).loc (P.ins a))

/-- An array that is sent from: a share kept, and a share of the piece for each arrival. -/
theorem lend_all (c : Dev 8) (a : Fin n) :
    (((c : Thread 8 τ).loc (P.ins a) ↦{fullShare} m ((c : Thread 8 τ).loc (P.ins a))) : sProp 𝕄)
      ⊢ iprop(((c : Thread 8 τ).loc (P.ins a) ↦{Transfers.shareDrop fullShare 8} m ((c : Thread 8 τ).loc (P.ins a)))
        ∗ bigSep Finset.univ fun k : Fin 8 => X.lent m c (xr (S.tm k) c) k a) :=
  (Transfers.pointsTo_toks_split fullShare 8).trans
    (BIClass.sep_mono (BI.Entails.refl _) (bigSep_mono fun k _ => lend_one m ((X.A a).piece (xr (S.tm k) c)).view (P.hin a _) c _))

/-- A row of an array is in the array's buffer. -/
theorem rows_one {b : Ref sig .tc} (a : Fin n) (h : (X.A a).out.view.ref = b) (d : Dev 8) :
    (((d : Thread 8 τ).loc b ↦{fullShare} m ((d : Thread 8 τ).loc b)) : sProp 𝕄) = bigSep Finset.univ fun r : Dev 8 => X.blank m d r a := by
  subst h
  exact Ring.pointsTo_blocks (ℓ := (X.A a).out.view.loc (d : Thread 8 τ)) (fun r : Fin 8 => ((X.A a).row r).view.set)
    (Arr.row_disjoint (X.A a).out (X.A a).sq) (Arr.row_cover (X.A a).out (X.A a).whole (X.A a).sq) _

/-- An array that is filled: its rows. -/
theorem rows_all (d : Dev 8) (a : Fin n) :
    (((d : Thread 8 τ).loc (P.outs a) ↦{fullShare} m ((d : Thread 8 τ).loc (P.outs a))) : sProp 𝕄)
      ⊢ bigSep Finset.univ fun r : Dev 8 => X.blank m d r a := by
  exact Entails.of_eq (rows_one m a (P.hout a) d)

/-- The buffers of a device, dealt out. -/
theorem dealt (c : Dev 8) :
    (unscopedBufs c (fun b => m ((c.tc : Thread 8 τ).loc b)) : sProp 𝕄)
      ⊢ iprop((bigSep Finset.univ fun a => bigSep Finset.univ fun k : Fin 8 => X.lent m c (xr (S.tm k) c) k a)
        ∗ (bigSep Finset.univ fun a => bigSep Finset.univ fun r : Dev 8 => X.blank m c r a) ∗ keep m P c) := by
  classical
  have hsub : Finset.univ.map ⟨Sum.elim P.ins P.outs, P.inj⟩ ⊆ Finset.univ.filter fun b : Ref sig .tc => ¬ b.isScoped := by
    intro b hb
    obtain ⟨x, -, rfl⟩ := Finset.mem_map.mp hb
    exact Finset.mem_filter.mpr ⟨Finset.mem_univ _, P.free x⟩
  unfold unscopedBufs
  refine (bigSep_subset hsub).trans ?_
  rw [bigSep_map, bigSep_univ_sum]
  unfold keep
  show iprop((bigSep Finset.univ fun a => (((c : Thread 8 τ).loc (P.ins a) ↦{fullShare} m ((c : Thread 8 τ).loc (P.ins a))) : sProp 𝕄))
    ∗ bigSep Finset.univ fun a => (((c : Thread 8 τ).loc (P.outs a) ↦{fullShare} m ((c : Thread 8 τ).loc (P.outs a))) : sProp 𝕄)) ⊢ _
  have hi : (bigSep Finset.univ fun a => (((c : Thread 8 τ).loc (P.ins a) ↦{fullShare} m ((c : Thread 8 τ).loc (P.ins a))) : sProp 𝕄)) ⊢ _ :=
    bigSep_mono fun a _ => lend_all S m P c a
  rw [bigSep_sep'] at hi
  have ho : (bigSep Finset.univ fun a => (((c : Thread 8 τ).loc (P.outs a) ↦{fullShare} m ((c : Thread 8 τ).loc (P.outs a))) : sProp 𝕄)) ⊢ _ :=
    bigSep_mono fun a _ => rows_all m P c a
  iintro ⟨HI, HO⟩
  ihave HI' := hi $$ HI
  icases HI' with ⟨HK, HL⟩
  isplitl [HL]; · iexact HL
  isplitl [HO]
  · iapply ho; iexact HO
  iexact HK

/-- A device's rows are the rows of its arrivals. -/
theorem rows_by (hbij : ∀ d, Function.Bijective fun k : Fin 8 => xr (S.msk k) d) (d : Dev 8) (a : Fin n) :
    (bigSep Finset.univ fun r : Dev 8 => X.blank m d r a) = bigSep Finset.univ fun k : Fin 8 => X.blank m d (xr (S.msk k) d) a :=
  bigSep_univ_equiv (Equiv.ofBijective _ (hbij d)) _

/-- The buffers of all the devices, dealt out to the transfers. -/
theorem deal_all (hbij : ∀ d, Function.Bijective fun k : Fin 8 => xr (S.msk k) d) :
    (bigSep Finset.univ fun c : Dev 8 => (unscopedBufs c (fun b => m ((c.tc : Thread 8 τ).loc b)) : sProp 𝕄))
      ⊢ iprop((bigSep Finset.univ fun c : Dev 8 => bigSep Finset.univ fun k : KK n => (X.plan S m).res c k) ∗ bigSep Finset.univ (keep m P)) := by
  refine (bigSep_mono fun c _ => dealt S m P c).trans ?_
  rw [bigSep_sep', bigSep_sep']
  have hr : (bigSep Finset.univ fun c : Dev 8 => bigSep Finset.univ fun k : KK n => (X.plan S m).res c k)
      = iprop((bigSep Finset.univ fun c : Dev 8 => bigSep Finset.univ fun a => bigSep Finset.univ fun k : Fin 8 => X.lent m c (xr (S.tm k) c) k a)
        ∗ bigSep Finset.univ fun c : Dev 8 => bigSep Finset.univ fun a => bigSep Finset.univ fun r : Dev 8 => X.blank m c r a) := by
    have e1 (c : Dev 8) : (bigSep Finset.univ fun k : KK n => (X.plan S m).res c k)
        = iprop((bigSep Finset.univ fun a => bigSep Finset.univ fun k : Fin 8 => X.lent m c (xr (S.tm k) c) k a)
          ∗ bigSep Finset.univ fun a => bigSep Finset.univ fun k : Fin 8 => X.blank m (xr (S.tm k) c) (xr (S.msk k) (xr (S.tm k) c)) a) := by
      have e2 : (bigSep Finset.univ fun x : Fin 7 × Fin n => (X.plan S m).res c (.inr x)) = iprop(emp) := bigSep_emp_const _
      have e3 : (bigSep Finset.univ fun x : Fin 8 × Fin n => (X.plan S m).res c (.inl x))
          = bigSep Finset.univ fun k : Fin 8 => bigSep Finset.univ fun a => iprop(X.lent m c (xr (S.tm k) c) k a ∗ X.blank m (xr (S.tm k) c) (xr (S.msk k) (xr (S.tm k) c)) a) :=
        bigSep_univ_prod _
      rw [bigSep_univ_sum, e2, e3, BI.bigSep_univ_comm]
      rw [show (bigSep Finset.univ fun a : Fin n => bigSep Finset.univ fun k : Fin 8 => iprop(X.lent m c (xr (S.tm k) c) k a ∗ X.blank m (xr (S.tm k) c) (xr (S.msk k) (xr (S.tm k) c)) a))
        = bigSep Finset.univ fun a : Fin n => iprop((bigSep Finset.univ fun k : Fin 8 => X.lent m c (xr (S.tm k) c) k a) ∗ bigSep Finset.univ fun k : Fin 8 => X.blank m (xr (S.tm k) c) (xr (S.msk k) (xr (S.tm k) c)) a)
        from congrArg _ (funext fun a => bigSep_sep' ..), bigSep_sep']
      exact equiv_iff.mp sep_emp
    rw [show (fun c : Dev 8 => bigSep Finset.univ fun k : KK n => (X.plan S m).res c k) = _ from funext e1, bigSep_sep']
    congr 1
    rw [BI.bigSep_univ_comm]
    rw [BI.bigSep_univ_comm (fun (c : Dev 8) (a : Fin n) => bigSep Finset.univ fun r : Dev 8 => X.blank m c r a)]
    refine congrArg _ (funext fun a => ?_)
    rw [show (fun c : Dev 8 => bigSep Finset.univ fun r : Dev 8 => X.blank m c r a) = _ from funext fun c => rows_by S m hbij c a]
    rw [BI.bigSep_univ_comm, BI.bigSep_univ_comm (fun (c : Dev 8) (k : Fin 8) => X.blank m c (xr (S.msk k) c) a)]
    refine congrArg _ (funext fun k => ?_)
    exact (bigSep_univ_equiv (xr (S.tm k)) (fun d : Dev 8 => X.blank m d (xr (S.msk k) d) a)).symm
  rw [hr]
  show iprop((_ : sProp 𝕄) ∗ _ ∗ _) ⊢ iprop((_ ∗ _) ∗ _)
  iintro ⟨HL, HB, HK⟩
  isplitl [HL HB]
  · isplitl [HL] <;> iassumption
  iexact HK

/-! ## The end -/

/-- The rows of a device as they end, and its other arrays as they were. -/
def Ends (c : Dev 8) (s : MemSt 8 τ sig Val) : Prop :=
  (∀ a, s.mem ((c : Thread 8 τ).loc (P.ins a)) = m ((c : Thread 8 τ).loc (P.ins a)))
    ∧ ∀ (r : Dev 8) (a : Fin n), ((X.A a).row r).view.read Val (s.mem (((X.A a).row r).view.loc (c : Thread 8 τ))) = X.sent m c r a

/-- What a device holds when it ends. -/
def last (T : ℕ) (c : Dev 8) : sProp 𝕄 := iprop(keep m P c ∗ bigSep (Finset.univ.filter fun k => T ≤ (X.plan S m).tf k) ((X.plan S m).pay c))

theorem pure_all {α : Type} {A : sProp 𝕄} {φ : α → Prop} (h : ∀ x, A ⊢ ⌜φ x⌝) : A ⊢ ⌜∀ x, φ x⌝ := fun a hA x => h x a hA
theorem pure_both {A : sProp 𝕄} {φ ψ : Prop} (h : A ⊢ ⌜φ⌝) (h' : A ⊢ ⌜ψ⌝) : A ⊢ ⌜φ ∧ ψ⌝ := fun a hA => ⟨h a hA, h' a hA⟩

theorem ends_of (T : ℕ) (hland : ∀ (c r : Dev 8) (a : Fin n), ∃ k, T ≤ S.tf k ∧ X.pay S m c k = X.landed m c r a)
    (c : Dev 8) (s' : Phys 8 τ sig Val) : iprop(last S m P T c ∗ SI s') ⊢ |={Set.univ}=> iprop(⌜Ends m P c s'.mem⌝ ∗ SI s') := by
  classical
  have h : iprop(last S m P T c ∗ SI s') ⊢ (⌜Ends m P c s'.mem⌝ : sProp 𝕄) := by
    refine pure_both (pure_all fun a => ?_) (pure_all fun r => pure_all fun a => ?_)
    · have h1 : keep m P c ⊢ (c : Thread 8 τ).loc (P.ins a) ↦{Transfers.shareDrop fullShare 8} m ((c : Thread 8 τ).loc (P.ins a)) :=
        bigSep_elim (Finset.mem_univ a)
      unfold last
      iintro ⟨⟨HK, -⟩, HS⟩
      ihave HK' := h1 $$ HK
      ihave %h2 := (SI_pointsTo_agree (st := s')) $$ [HS HK']
      · isplitl [HS] <;> iassumption
      ipureintro
      exact funext fun i => h2 i (Finset.mem_univ i)
    · obtain ⟨k, hk, hp⟩ := hland c r a
      have h1 : bigSep (Finset.univ.filter fun k => T ≤ (X.plan S m).tf k) ((X.plan S m).pay c) ⊢ X.landed m c r a :=
        (bigSep_elim (Finset.mem_filter.mpr ⟨Finset.mem_univ k, hk⟩)).trans (Entails.of_eq hp)
      unfold last
      iintro ⟨⟨-, HP⟩, HS⟩
      ihave HP' := h1 $$ HP
      unfold landed
      ihave %h2 := (SI_pointsTo_agree (st := s')) $$ [HS HP']
      · isplitl [HS] <;> iassumption
      ipureintro
      rw [View.read_congr h2, View.read_write_univ]
  refine Laws.pure_elim _ h fun hE => ?_
  iintro ⟨-, HS⟩
  imodintro
  isplitr
  · ipureintro; exact hE
  · iexact HS

/-! ## Every row arrives, and is held at the end -/

theorem direct_bij : ∀ d : Dev 8, Function.Bijective fun k : Fin 8 => xr ((direct n).msk k) d := by
  show ∀ d : Dev 8, Function.Bijective fun k : Fin 8 => xr k.val d
  intro d
  refine Finite.injective_iff_bijective.mp ?_
  revert d; unfold Function.Injective; decide +kernel

theorem relay_bij : ∀ d : Dev 8, Function.Bijective fun k : Fin 8 => xr ((relay n).msk k) d := by
  show ∀ d : Dev 8, Function.Bijective fun k : Fin 8 => xr (relayMsk k) d
  intro d
  refine Finite.injective_iff_bijective.mp ?_
  revert d; unfold Function.Injective; decide +kernel

theorem direct_reach : ∀ c r : Dev 8, ∃ k : Fin 8, xr k.val c = r := by decide +kernel

theorem relay_reach : ∀ c r : Dev 8, (∃ k : Fin 8, (k.val < 2 ∨ 5 ≤ k.val) ∧ xr (relayMsk k) c = r)
    ∨ ∃ j : Fin 7, (relayBack j).map (fun b => xr b c) = some r := by decide +kernel

theorem direct_land (c r : Dev 8) (a : Fin n) : ∃ k, 23 * n ≤ (direct n).tf k ∧ X.pay (direct n) m c k = X.landed m c r a := by
  obtain ⟨k, rfl⟩ := direct_reach c r
  exact ⟨.inl (k, a), le_refl _, rfl⟩

theorem relay_land (c r : Dev 8) (a : Fin n) : ∃ k, 23 * n ≤ (relay n).tf k ∧ X.pay (relay n) m c k = X.landed m c r a := by
  rcases relay_reach c r with ⟨k, hk, rfl⟩ | ⟨j, hj⟩
  · refine ⟨.inl (k, a), ?_, rfl⟩
    have ha := a.isLt
    have ho : ord (k, a) = k.val * n + a.val := rfl
    show _ ≤ if ord (k, a) < 2 * n then 23 * n else if ord (k, a) < 5 * n then n + 2 * ord (k, a) + 1 else 23 * n
    rcases hk with hk | hk
    · have : k.val * n ≤ 1 * n := Nat.mul_le_mul_right n (by omega)
      rw [if_pos (by omega)]
    · have : 5 * n ≤ k.val * n := Nat.mul_le_mul_right n hk
      rw [if_neg (by omega), if_neg (by omega)]
  · refine ⟨.inr (j, a), le_refl _, ?_⟩
    obtain ⟨b, hb, rfl⟩ := Option.map_eq_some_iff.mp hj
    show (relayBack j).elim iprop(emp) (fun b => X.landed m c (xr b c) a) = _
    rw [hb]; rfl

/-! ## The run -/

section

variable {Λ₀ : Labels} {Pl : Type} [Fintype Pl]
variable (pcs : Pl → PCfg sig Λ₀ Val) (ad : (p : Pl) → (pcs p).Adm) [hW : ∀ p, IsEmpty (Fin (pin pcs ad p).W)]
variable [∀ e, Nonempty (Val e)] (phinj : Function.Injective (cellOf (nD := 8) (τ := τ) (pin pcs ad))) (p : Pl)
variable (defs₀ : Defs 8 τ sig Val Λ₀) (𝒱₀ : Variants)

include phinj P in
/-- A program that is one exchange ends with every row of every device as sent to it, its other arrays as they were. -/
theorem run (hN : (pin pcs ad p).N = 1) (hK : IsEmpty (Fin (pcs p).pre.K))
    (hsc : ∀ k, ((X.plan S m).cell k).isScoped .tc = true)
    (main : Dev 8 → Prog (TpuEff 8 τ sig Val (Sig Λ₀ Pl fun p => (pcs p).Adm) .tc) PUnit)
    (hmain : ∀ c, main c = Prog.op (.customCall (entry p) ()) Prog.ret) (g : Dev 8 → PrngReg)
    (hbij : ∀ d, Function.Bijective fun k : Fin 8 => xr (S.msk k) d)
    (T : ℕ) (hti : ∀ k, S.ti k < T) (htw : ∀ k, S.tw k < T)
    (hland : ∀ (c r : Dev 8) (a : Fin n), ∃ k, T ≤ S.tf k ∧ X.pay S m c k = X.landed m c r a)
    (hbody : ∀ (κ : Dev 8 × KK n → ℕ) (c : Dev 8) (t : Fin (pin pcs ad p).N),
      (X.plan S m).St κ c 0 ⊢ wp frame (wpE defs₀ 𝒱₀ (c : Thread 8 τ) none) Set.univ
        (defs₀ .tc (pin pcs ad p).body ((pin pcs ad p).bodyArgs t ((pin pcs ad p).slots t))) (fun _ => (X.plan S m).St κ c T))
    (hsem : ∀ s : SemLoc sig, s.isScoped .tc = true)
    {Q : PUnit × MemSt 8 τ sig Val → Prop}
    (hQ : ∀ s : MemSt 8 τ sig Val, (∀ c : Dev 8, Ends m P c s) → s.sem = (fun _ => 0) → Q (⟨⟩, s)) :
    θ_run (Pipeline.defs pcs defs₀) (onTc main) ⟨m, fun _ => 0, g⟩ Q :=
  run_exchange pcs ad phinj p defs₀ 𝒱₀ (X.plan S m) hN hK hsc main hmain m g (keep m P) (last S m P T)
    (deal_all S m P hbij) T hti htw hbody (fun c => BI.Entails.refl _) (Ends m P) (ends_of S m P T hland)
    (fun s hR h0 => hQ s hR (funext fun g' => h0 g' (Or.inr (hsem g'.2))))

end

end Cert.Cells.Xch
-- ==== Proof.SmallRun.lean ====
/-

The run of the gather of the small gradients.
-/
module

public import proofs.«01_k».proof.Proof.Small
public import proofs.«01_k».proof.Proof.Ends

@[expose] public section

set_option Elab.async false

noncomputable section

namespace Cert.SmallIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Cells Cert.SmallIdeal.Gen

variable {F : FTy → Type} [FloatOps F]

def ports : Xch.Ports X where
  ins := ![main_arg0]
  outs := ![main_v1]
  hin a d := by fin_cases a; rfl
  hout a := by fin_cases a; rfl
  inj := by decide
  free := by decide

theorem sems : ∀ s : SemLoc sig, s.isScoped .tc = true := by
  rintro (s | s)
  · revert s; decide
  · revert s; decide

theorem run_main [∀ e, Nonempty (Elt F e)] (m : (ℓ : Loc nD τ sig) → Buf (Elt F) ℓ) (g : Dev nD → PrngReg) :
    θ_run (defs (F := F)) (onTc (τ := τ) (main (F := F))) ⟨m, fun _ => 0, g⟩
      (fun r => (∀ c : Dev 8, Xch.Ends (X := X) m ports c r.2) ∧ r.2.sem = fun _ => 0) := by
  haveI hW : ∀ p : Fin 1, IsEmpty (Fin (pin (pcfgs (F := F)) (fun _ => Cfg.toPCfg_adm _) p).W) := fun p => Fin.isEmpty'
  refine Xch.run (direct 1) m ports (pcfgs (F := F)) (fun _ => Cfg.toPCfg_adm _) cellOf_inj 0 (defs₀ (F := F)) Variants.none N_0 Fin.isEmpty' (fun k => sems _)
    (main (F := F)) (fun c => by rw [main_chain]; rfl) g Xch.direct_bij 23 (direct_ti_lt (n := 1)) (direct_tw_lt (n := 1)) (Xch.direct_land m) ?_ sems (fun s h h0 => ⟨h, h0⟩)
  intro κ c t
  exact body m κ c

end Cert.SmallIdeal
-- ==== Proof.Values.lean ====
/-

Stacks of matrices by their rows: what a row of a stack reads, and what the two collectives are row by row.
-/
module

public import proofs.«01_k».proof.Proof.Ends
public import Idealize.ShloMosaic.Lib.Layout
public import Idealize.ShloMosaic.Lib.Pipeline.Value

@[expose] public section

set_option Elab.async false

noncomputable section

namespace Cert.Values

open Idealize.ShloMosaic Idealize.ShloMosaic.TcCoe
open Cert.Cells

/-- The index of an element of a stack: the matrix, and the place in it. -/
def cube {B R C : ℕ} (r : Fin B) (i : (⟨2, ![R, C]⟩ : Shape).Idx) : (⟨3, ![B, R, C]⟩ : Shape).Idx
  | ⟨0, _⟩ => r
  | ⟨1, _⟩ => i 0
  | ⟨2, _⟩ => i 1

theorem cube_surj {B R C : ℕ} (j : (⟨3, ![B, R, C]⟩ : Shape).Idx) : ∃ r i, j = cube (B := B) (R := R) (C := C) r i :=
  ⟨j 0, fun | ⟨0, _⟩ => j 1 | ⟨1, _⟩ => j 2, funext fun | ⟨0, _⟩ => rfl | ⟨1, _⟩ => rfl | ⟨2, _⟩ => rfl⟩

/-- Two stacks are one if they are one matrix by matrix. -/
theorem ext_rows {α : Type} {B R C : ℕ} {f g : (⟨3, ![B, R, C]⟩ : Shape).Idx → α} (h : ∀ r i, f (cube r i) = g (cube r i)) : f = g := by
  funext j
  obtain ⟨r, i, rfl⟩ := cube_surj j
  exact h r i

/-- What a row of a stack reads. -/
theorem read_row {sig : RefSig} {Val : EltTy → Type} {R C : ℕ} {e : EltTy} (M : Memref sig .tc .hbm ⟨3, ![8, R, C]⟩ e) (sq) (r : Fin 8)
    (f : M.view.ty.Contents Val) (i : (⟨2, ![R, C]⟩ : Shape).Idx) :
    (Arr.rowOf M sq r).view.read Val f i = M.view.read Val f (cube r i) := by
  show M.view.read Val f ((Rect.unit (s := ⟨3, ![8, R, C]⟩) ![r.val, 0, 0] ![1, R, C] (Arr.inb R C r)).emb (Shape.reshapeEquiv sq.numel_eq i)) = _
  have hk : Shape.reshapeEquiv sq.numel_eq i = cube (B := 1) 0 i := by
    refine Shape.reshapeEquiv_eq_of_rowMajor _ ?_
    rw [Shape.rowMajor_val_two, Shape.rowMajor_val_three]
    show ((0 * R) + (i 0).val) * C + (i 1).val = (i 0).val * C + (i 1).val
    rw [Nat.zero_mul, Nat.zero_add]
  rw [hk]
  congr 1
  funext a
  apply Fin.ext
  rw [Rect.emb_apply]
  match a with
  | ⟨0, _⟩ => show r.val + 1 * 0 = r.val; omega
  | ⟨1, _⟩ => show 0 + 1 * (i 0).val = (i 0).val; omega
  | ⟨2, _⟩ => show 0 + 1 * (i 1).val = (i 1).val; omega

/-- An element of a row, as the exchange leaves it. -/
theorem ends_row {sig : RefSig} {τ : Topo} {Val : EltTy → Type} {n : ℕ} {X : Xch sig n} {m : (ℓ : Loc 8 τ sig) → Buf Val ℓ} {P : Xch.Ports X} {c : Dev 8} {s : MemSt 8 τ sig Val}
    (h : Xch.Ends m P c s) (r : Dev 8) (a : Fin n) (i : (⟨2, ![(X.A a).R, (X.A a).C]⟩ : Shape).Idx) :
    (X.A a).out.view.read Val (s.mem ((X.A a).out.view.loc (c : Thread 8 τ))) (cube r i) = X.sent m c r a i :=
  (read_row (X.A a).out (X.A a).sq r _ i).symm.trans (congrFun (h.2 r a) i)

/-- The matrices of an array cut along its rows are the blocks of the array. -/
theorem gather_row {α : Type} {R C N : ℕ} (h : Layout.Tiles ⟨2, ![R, C]⟩ ⟨2, ![N, C]⟩ 0 8) (hs : (⟨2, ![N, C]⟩ : Shape).ShapeCasts ⟨3, ![8, R, C]⟩)
    (x : (⟨2, ![N, C]⟩ : Shape).Idx → α) (r : Fin 8) (i : (⟨2, ![R, C]⟩ : Shape).Idx) :
    shapeCast ⟨3, ![8, R, C]⟩ x hs (cube r i) = Layout.block ⟨2, ![R, C]⟩ ⟨2, ![N, C]⟩ 0 8 r x h i := by
  refine shapeCast_apply x hs _ _ ?_
  rw [Shape.rowMajor_val_two, Shape.rowMajor_val_three]
  rfl

/-- The index of an element of a stack of stacks. -/
def quad {B D R C : ℕ} (b : Fin B) (d : Fin D) (i : (⟨2, ![R, C]⟩ : Shape).Idx) : (⟨4, ![B, D, R, C]⟩ : Shape).Idx
  | ⟨0, _⟩ => b
  | ⟨1, _⟩ => d
  | ⟨2, _⟩ => i 0
  | ⟨3, _⟩ => i 1

/-- Exchanging the two orders of a stack of stacks moves each device's matrices to the devices they are for. -/
theorem scatter_row {α : Type} {R C : ℕ} (h : Layout.Tiles ⟨3, ![8, R, C]⟩ ⟨3, ![64, R, C]⟩ 0 8)
    (h1 : (⟨3, ![64, R, C]⟩ : Shape).ShapeCasts ⟨4, ![8, 8, R, C]⟩) (h2 : (⟨4, ![8, 8, R, C]⟩ : Shape).Transposes [1, 0, 2, 3] ⟨4, ![8, 8, R, C]⟩)
    (h3 : (⟨4, ![8, 8, R, C]⟩ : Shape).ShapeCasts ⟨3, ![64, R, C]⟩)
    (x : (⟨3, ![64, R, C]⟩ : Shape).Idx → α) (c r : Fin 8) (i : (⟨2, ![R, C]⟩ : Shape).Idx) :
    Layout.block ⟨3, ![8, R, C]⟩ ⟨3, ![64, R, C]⟩ 0 8 c (shapeCast ⟨3, ![64, R, C]⟩ (transpose ⟨4, ![8, 8, R, C]⟩ [1, 0, 2, 3] (shapeCast ⟨4, ![8, 8, R, C]⟩ x h1) h2) h3) h (cube r i)
      = Layout.block ⟨3, ![8, R, C]⟩ ⟨3, ![64, R, C]⟩ 0 8 r x h (cube c i) := by
  have e (b d : Fin 8) : (Shape.rowMajor _ (h.idx b (cube d i))).val = (Shape.rowMajor _ (quad b d i)).val := by
    rw [Shape.rowMajor_val_three, Shape.rowMajor_val_four]
    rfl
  show shapeCast _ _ _ (h.idx c (cube r i)) = x (h.idx r (cube c i))
  rw [shapeCast_apply _ h3 _ (quad c r i) (e c r).symm,
    transpose_apply _ _ h2 _ (quad r c i) (fun b => by match b with | ⟨0, _⟩ => rfl | ⟨1, _⟩ => rfl | ⟨2, _⟩ => rfl | ⟨3, _⟩ => rfl),
    shapeCast_apply x h1 _ _ (e r c)]

/-- An array whose rows are the blocks of a whole array is that array, cut. -/
theorem gathered {sig : RefSig} {τ : Topo} {Val : EltTy → Type} {n : ℕ} {X : Xch sig n} {m : (ℓ : Loc 8 τ sig) → Buf Val ℓ} {P : Xch.Ports X} {c : Dev 8} {s : MemSt 8 τ sig Val}
    (h : Xch.Ends m P c s) (a : Fin n) {N : ℕ} (ht : Layout.Tiles ⟨2, ![(X.A a).R, (X.A a).C]⟩ ⟨2, ![N, (X.A a).C]⟩ 0 8)
    (hs : (⟨2, ![N, (X.A a).C]⟩ : Shape).ShapeCasts ⟨3, ![8, (X.A a).R, (X.A a).C]⟩) (x : (⟨2, ![N, (X.A a).C]⟩ : Shape).Idx → Val (X.A a).e)
    (hx : ∀ k, X.sent m c k a = Layout.block ⟨2, ![(X.A a).R, (X.A a).C]⟩ ⟨2, ![N, (X.A a).C]⟩ 0 8 k x ht) :
    (X.A a).out.view.read Val (s.mem ((X.A a).out.view.loc (c : Thread 8 τ))) = shapeCast ⟨3, ![8, (X.A a).R, (X.A a).C]⟩ x hs :=
  ext_rows fun k i => (ends_row h k a i).trans ((congrFun (hx k) i).trans (gather_row ht hs x k i).symm)

/-- An array whose row from each device is the row that the device's stack holds for this one is this device's part of the stacks exchanged. -/
theorem scattered {sig : RefSig} {τ : Topo} {Val : EltTy → Type} {n : ℕ} {X : Xch sig n} {m : (ℓ : Loc 8 τ sig) → Buf Val ℓ} {P : Xch.Ports X} {c : Dev 8} {s : MemSt 8 τ sig Val}
    (h : Xch.Ends m P c s) (a : Fin n) (M : Memref sig .tc .hbm ⟨3, ![8, (X.A a).R, (X.A a).C]⟩ (X.A a).e) (f : Fin 8 → M.view.ty.Contents Val)
    (hf : ∀ k, X.sent m c k a = (Arr.rowOf M (X.A a).sq c).view.read Val (f k))
    (ht : Layout.Tiles ⟨3, ![8, (X.A a).R, (X.A a).C]⟩ ⟨3, ![64, (X.A a).R, (X.A a).C]⟩ 0 8)
    (h1 : (⟨3, ![64, (X.A a).R, (X.A a).C]⟩ : Shape).ShapeCasts ⟨4, ![8, 8, (X.A a).R, (X.A a).C]⟩)
    (h2 : (⟨4, ![8, 8, (X.A a).R, (X.A a).C]⟩ : Shape).Transposes [1, 0, 2, 3] ⟨4, ![8, 8, (X.A a).R, (X.A a).C]⟩)
    (h3 : (⟨4, ![8, 8, (X.A a).R, (X.A a).C]⟩ : Shape).ShapeCasts ⟨3, ![64, (X.A a).R, (X.A a).C]⟩) (x : (⟨3, ![64, (X.A a).R, (X.A a).C]⟩ : Shape).Idx → Val (X.A a).e)
    (hx : ∀ k, M.view.read Val (f k) = Layout.block ⟨3, ![8, (X.A a).R, (X.A a).C]⟩ ⟨3, ![64, (X.A a).R, (X.A a).C]⟩ 0 8 k x ht) :
    (X.A a).out.view.read Val (s.mem ((X.A a).out.view.loc (c : Thread 8 τ)))
      = Layout.block ⟨3, ![8, (X.A a).R, (X.A a).C]⟩ ⟨3, ![64, (X.A a).R, (X.A a).C]⟩ 0 8 c
          (shapeCast ⟨3, ![64, (X.A a).R, (X.A a).C]⟩ (transpose ⟨4, ![8, 8, (X.A a).R, (X.A a).C]⟩ [1, 0, 2, 3] (shapeCast ⟨4, ![8, 8, (X.A a).R, (X.A a).C]⟩ x h1) h2) h3) ht :=
  ext_rows fun k i => (ends_row h k a i).trans ((congrFun (hf k) i).trans
    ((read_row M (X.A a).sq c (f k) i).trans ((congrFun (hx k) (cube c i)).trans (scatter_row ht h1 h2 h3 x c k i).symm)))

end Cert.Values
-- ==== Proof.SmallClaims.lean ====
/-

The claims of the gather of the small gradients.
-/
module

public import proofs.«01_k».proof.Defs
public import proofs.«01_k».proof.Proof.SmallRun
public import proofs.«01_k».proof.Proof.Values
public import proofs.«01_k».proof.Proof.Gen.Small
public import proofs.«01_k».proof.Proof.Gen.SmallRefIdeal.Run
public import proofs.«01_k».proof.Proof.Gen.SmallRef.Run

@[expose] public section

set_option Elab.async false

noncomputable section

namespace Cert.SmallIdeal

open Idealize.ShloMosaic Idealize.ShloMosaic.TcCoe
open Idealize.SL.Sem
open Cert.Cells Cert.Values

theorem frame : Cert.quiescent_SmallIdeal := fun m g _ =>
  (θ_run defs _ _).mono (fun r h => ⟨fun c => (h.1 c).1 0, h.2⟩) (run_main (F := Ideal) m g)

theorem frame_kernel : Cert.quiescent_Small := fun m g _ =>
  (θ_run defs _ _).mono (fun r h => ⟨fun c => (h.1 c).1 0, h.2⟩) (run_main (F := Bits) m g)

theorem frame_ref : Cert.quiescent_SmallRefIdeal := fun m g _ =>
  (θ_run Cert.SmallRefIdeal.defs _ _).mono (fun r h => ⟨fun c => (h c).2, sem_eq_zero_of_no_sems (by decide) r.2⟩) (Cert.SmallRefIdeal.Value.run (F := Ideal) m g)

theorem frame_ref_bits : Cert.quiescent_SmallRef := fun m g _ =>
  (θ_run Cert.SmallRef.defs _ _).mono (fun r h => ⟨fun c => (h c).2, sem_eq_zero_of_no_sems (by decide) r.2⟩) (Cert.SmallRef.Value.run (F := Bits) m g)

theorem algebraic : Cert.algebraic_SmallIdeal_SmallRefIdeal := by
  intro m g m' g' _ hm
  refine ⟨_, (θ_run defs _ _).mono (fun r h c => ⟨?_, (h.1 c).1 0⟩) (run_main (F := Ideal) m g),
    (θ_run Cert.SmallRefIdeal.defs _ _).mono (fun r h => h 0) (Cert.SmallRefIdeal.Value.run (F := Ideal) m' g')⟩
  exact gathered (h.1 c) 0 _ _ _ fun k => hm k

theorem bitexact : Cert.bitexact_Small_SmallRef := by
  intro m g m' g' _ hm
  refine ⟨_, (θ_run defs _ _).mono (fun r h c => ⟨?_, (h.1 c).1 0⟩) (run_main (F := Bits) m g),
    (θ_run Cert.SmallRef.defs _ _).mono (fun r h => h 0) (Cert.SmallRef.Value.run (F := Bits) m' g')⟩
  exact gathered (h.1 c) 0 _ _ _ fun k => hm k

end Cert.SmallIdeal
-- ==== Proof.Scatter.lean ====
/-

The scatter of the gradients.
-/
module

public import proofs.«01_k».proof.Proof.Steps
public import proofs.«01_k».proof.Proof.Gen.ScatterIdeal.Skeleton
public import proofs.«01_k».proof.Proof.Gen.ScatterIdeal.Launch

@[expose] public section

set_option Elab.async false

noncomputable section

namespace Cert.ScatterIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Cells Cert.ScatterIdeal.Gen

variable {F : FTy → Type} [FloatOps F]

/-- The arrays and the semaphores. -/
def X : Xch sig 6 where
  A := ![
    { R := 2048, C := 1196, e := .bf16, out := Memref.whole main_v1_0, piece := fun r => Arr.rowOf (Memref.whole main_arg0) squeezes_S1x2048x1196_S2048x1196 r,
      sq := squeezes_S1x2048x1196_S2048x1196, whole := Memref.isWhole_whole _, pos := by decide },
    { R := 1024, C := 192, e := .bf16, out := Memref.whole main_v1_1, piece := fun r => Arr.rowOf (Memref.whole main_arg1) squeezes_S1x1024x192_S1024x192 r,
      sq := squeezes_S1x1024x192_S1024x192, whole := Memref.isWhole_whole _, pos := by decide },
    { R := 512, C := 256, e := .bf16, out := Memref.whole main_v1_2, piece := fun r => Arr.rowOf (Memref.whole main_arg2) squeezes_S1x512x256_S512x256 r,
      sq := squeezes_S1x512x256_S512x256, whole := Memref.isWhole_whole _, pos := by decide },
    { R := 2048, C := 1024, e := .bf16, out := Memref.whole main_v1_3, piece := fun r => Arr.rowOf (Memref.whole main_arg3) squeezes_S1x2048x1024_S2048x1024 r,
      sq := squeezes_S1x2048x1024_S2048x1024, whole := Memref.isWhole_whole _, pos := by decide },
    { R := 2048, C := 512, e := .bf16, out := Memref.whole main_v1_4, piece := fun r => Arr.rowOf (Memref.whole main_arg4) squeezes_S1x2048x512_S2048x512 r,
      sq := squeezes_S1x2048x512_S2048x512, whole := Memref.isWhole_whole _, pos := by decide },
    { R := 32, C := 128, e := .f32, out := Memref.whole main_v1_5, piece := fun r => Arr.rowOf (Memref.whole main_arg5) squeezes_S1x32x128_S32x128 r,
      sq := squeezes_S1x32x128_S32x128, whole := Memref.isWhole_whole _, pos := by decide }]
  arr k a := Fin.cases ⟨84 + a.val, by have := a.isLt; show _ < 90; omega⟩
    (fun j => ⟨42 + (j.val * 6 + a.val), by have := a.isLt; have := j.isLt; show _ < 90; omega⟩) k
  snd j a := ⟨0 + (j.val * 6 + a.val), by have := a.isLt; have := j.isLt; show _ < 90; omega⟩
  inj := by decide +kernel

set_option maxRecDepth 65536 in
set_option maxHeartbeats 4000000 in
/-- Every device follows the plan. -/
theorem body (m : (ℓ : Loc nD τ sig) → Buf (Elt F) ℓ) (κ : Dev 8 × KK 6 → ℕ) (c : Dev 8) :
    (X.plan (direct 6) m).St κ c 0 ⊢ wp frame (wpE (defs₀ (F := F)) Variants.none (c : Thread nD τ) none) Set.univ
      (cc0_scatter_grads (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2)
      (fun _ => (X.plan (direct 6) m).St κ c 138) := by
  rw [cc0_scatter_grads_eq_skeleton]; unfold cc0_scatter_grads_skel
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, Prog.lift, Prog.bind_op, Prog.bind_ret, Prog.pure_eq_ret, wp_deviceId]
  have cp := fun {t a} h => @Xch.copy sig τ (Elt F) _ _ (defs₀ (F := F)) Variants.none none 6 X (direct 6) m PUnit κ c t a h
  have sd := fun {t x} h => @Xch.send sig τ (Elt F) _ _ (defs₀ (F := F)) Variants.none none 6 X (direct 6) m PUnit κ c t x h
  have wt := fun {t k} h => @Xch.wait sig τ (Elt F) _ _ (defs₀ (F := F)) Variants.none none 6 X (direct 6) m PUnit κ c t k h
  iterate 6
    refine cp (direct_copy _ (by decide)) (by exact rfl) (by exact rfl) (by exact (sem_at _ _ _).trans rfl)
      (by exact heq_of_eq (Arr.rowOf_eq _ _ _ (by clear * - c; revert c; decide +kernel) _ _)) (by exact heq_of_eq (Arr.rowOf_eq _ _ _ (by clear * - c; revert c; decide +kernel) _ _)) ?_
  iterate 42
    refine sd (direct_send _ (by decide) (by decide)) (by exact rfl) (by exact rfl) (by clear * - c; revert c; decide +kernel) (by exact (sem_at _ _ _).trans rfl) (by exact (sem_at _ _ _).trans rfl)
      (by exact heq_of_eq (Arr.rowOf_eq _ _ _ (by clear * - c; revert c; decide +kernel) _ _)) (by exact heq_of_eq (Arr.rowOf_eq _ _ _ (by clear * - c; revert c; decide +kernel) _ _)) (by routes) ?_
  iterate 42
    refine wt (direct_wait_send _ (by decide) (by decide) (by decide)) (by exact (sem_at _ _ _).trans rfl) (by exact rfl) ?_
    refine wt (direct_wait_recv _ (by decide) (by decide) (by decide) (by decide)) (by exact (sem_at _ _ _).trans rfl) (by exact rfl) ?_
  iterate 6
    refine wt (direct_wait_copy _ (by decide) (by decide)) (by exact (sem_at _ _ _).trans rfl) (by exact rfl) ?_
  rw [wp_ret]; exact fupd_intro

end Cert.ScatterIdeal
-- ==== Proof.ScatterRun.lean ====
/-

The run of the scatter of the gradients.
-/
module

public import proofs.«01_k».proof.Proof.Scatter
public import proofs.«01_k».proof.Proof.Ends

@[expose] public section

set_option Elab.async false

noncomputable section

namespace Cert.ScatterIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Cells Cert.ScatterIdeal.Gen

variable {F : FTy → Type} [FloatOps F]

def ports : Xch.Ports X where
  ins := ![main_arg0, main_arg1, main_arg2, main_arg3, main_arg4, main_arg5]
  outs := ![main_v1_0, main_v1_1, main_v1_2, main_v1_3, main_v1_4, main_v1_5]
  hin a d := by fin_cases a <;> rfl
  hout a := by fin_cases a <;> rfl
  inj := by decide
  free := by decide

theorem sems : ∀ s : SemLoc sig, s.isScoped .tc = true := by
  rintro (s | s)
  · revert s; decide
  · revert s; decide

set_option maxRecDepth 100000 in
theorem run_main [∀ e, Nonempty (Elt F e)] (m : (ℓ : Loc nD τ sig) → Buf (Elt F) ℓ) (g : Dev nD → PrngReg) :
    θ_run (defs (F := F)) (onTc (τ := τ) (main (F := F))) ⟨m, fun _ => 0, g⟩
      (fun r => (∀ c : Dev 8, Xch.Ends (X := X) m ports c r.2) ∧ r.2.sem = fun _ => 0) := by
  haveI hW : ∀ p : Fin 1, IsEmpty (Fin (pin (pcfgs (F := F)) (fun _ => Cfg.toPCfg_adm _) p).W) := fun p => Fin.isEmpty'
  refine Xch.run (direct 6) m ports (pcfgs (F := F)) (fun _ => Cfg.toPCfg_adm _) cellOf_inj 0 (defs₀ (F := F)) Variants.none N_0 Fin.isEmpty' (fun k => sems _)
    (main (F := F)) (fun c => by rw [main_chain]; rfl) g Xch.direct_bij 138 (direct_ti_lt (n := 6)) (direct_tw_lt (n := 6)) (Xch.direct_land m) ?_ sems (fun s h h0 => ⟨h, h0⟩)
  intro κ c t
  exact body m κ c

end Cert.ScatterIdeal
-- ==== Proof.ScatterClaims.lean ====
/-

The claims of the scatter of the gradients.
-/
module

public import proofs.«01_k».proof.Defs
public import proofs.«01_k».proof.Proof.ScatterRun
public import proofs.«01_k».proof.Proof.Values
public import proofs.«01_k».proof.Proof.Gen.Scatter
public import proofs.«01_k».proof.Proof.Gen.ScatterRefIdeal.Run
public import proofs.«01_k».proof.Proof.Gen.ScatterRef.Run

@[expose] public section

set_option Elab.async false

noncomputable section

namespace Cert.ScatterIdeal

open Idealize.ShloMosaic Idealize.ShloMosaic.TcCoe
open Idealize.SL.Sem
open Cert.Cells Cert.Values

theorem frame : Cert.quiescent_ScatterIdeal := fun m g _ =>
  (θ_run defs _ _).mono (fun r h => ⟨fun c => ⟨(h.1 c).1 0, (h.1 c).1 1, (h.1 c).1 2, (h.1 c).1 3, (h.1 c).1 4, (h.1 c).1 5⟩, h.2⟩) (run_main (F := Ideal) m g)

theorem frame_kernel : Cert.quiescent_Scatter := fun m g _ =>
  (θ_run defs _ _).mono (fun r h => ⟨fun c => ⟨(h.1 c).1 0, (h.1 c).1 1, (h.1 c).1 2, (h.1 c).1 3, (h.1 c).1 4, (h.1 c).1 5⟩, h.2⟩) (run_main (F := Bits) m g)

theorem frame_ref : Cert.quiescent_ScatterRefIdeal := fun m g _ =>
  (θ_run Cert.ScatterRefIdeal.defs _ _).mono (fun r h => ⟨fun c => (h c).2.2.2.2.2.2, sem_eq_zero_of_no_sems (by decide) r.2⟩) (Cert.ScatterRefIdeal.Value.run (F := Ideal) m g)

theorem frame_ref_bits : Cert.quiescent_ScatterRef := fun m g _ =>
  (θ_run Cert.ScatterRef.defs _ _).mono (fun r h => ⟨fun c => (h c).2.2.2.2.2.2, sem_eq_zero_of_no_sems (by decide) r.2⟩) (Cert.ScatterRef.Value.run (F := Bits) m g)

theorem algebraic : Cert.algebraic_ScatterIdeal_ScatterRefIdeal := by
  intro m g m' g' _ hm
  refine ⟨_, _, _, _, _, _, (θ_run defs _ _).mono (fun r h c => ⟨?_, ?_, ?_, ?_, ?_, ?_, (h.1 c).1 0, (h.1 c).1 1, (h.1 c).1 2, (h.1 c).1 3, (h.1 c).1 4, (h.1 c).1 5⟩) (run_main (F := Ideal) m g),
    (θ_run Cert.ScatterRefIdeal.defs _ _).mono (fun r h => h 0) (Cert.ScatterRefIdeal.Value.run (F := Ideal) m' g')⟩
  · exact scattered (h.1 c) 0 _ _ (fun k => rfl) _ _ _ _ _ fun k => (hm k).1
  · exact scattered (h.1 c) 1 _ _ (fun k => rfl) _ _ _ _ _ fun k => (hm k).2.1
  · exact scattered (h.1 c) 2 _ _ (fun k => rfl) _ _ _ _ _ fun k => (hm k).2.2.1
  · exact scattered (h.1 c) 3 _ _ (fun k => rfl) _ _ _ _ _ fun k => (hm k).2.2.2.1
  · exact scattered (h.1 c) 4 _ _ (fun k => rfl) _ _ _ _ _ fun k => (hm k).2.2.2.2.1
  · exact scattered (h.1 c) 5 _ _ (fun k => rfl) _ _ _ _ _ fun k => (hm k).2.2.2.2.2

theorem bitexact : Cert.bitexact_Scatter_ScatterRef := by
  intro m g m' g' _ hm
  refine ⟨_, _, _, _, _, _, (θ_run defs _ _).mono (fun r h c => ⟨?_, ?_, ?_, ?_, ?_, ?_, (h.1 c).1 0, (h.1 c).1 1, (h.1 c).1 2, (h.1 c).1 3, (h.1 c).1 4, (h.1 c).1 5⟩) (run_main (F := Bits) m g),
    (θ_run Cert.ScatterRef.defs _ _).mono (fun r h => h 0) (Cert.ScatterRef.Value.run (F := Bits) m' g')⟩
  · exact scattered (h.1 c) 0 _ _ (fun k => rfl) _ _ _ _ _ fun k => (hm k).1
  · exact scattered (h.1 c) 1 _ _ (fun k => rfl) _ _ _ _ _ fun k => (hm k).2.1
  · exact scattered (h.1 c) 2 _ _ (fun k => rfl) _ _ _ _ _ fun k => (hm k).2.2.1
  · exact scattered (h.1 c) 3 _ _ (fun k => rfl) _ _ _ _ _ fun k => (hm k).2.2.2.1
  · exact scattered (h.1 c) 4 _ _ (fun k => rfl) _ _ _ _ _ fun k => (hm k).2.2.2.2.1
  · exact scattered (h.1 c) 5 _ _ (fun k => rfl) _ _ _ _ _ fun k => (hm k).2.2.2.2.2

end Cert.ScatterIdeal
-- ==== Proof.Gather.lean ====
/-

The gather of the weights.
-/
module

public import proofs.«01_k».proof.Proof.Steps
public import proofs.«01_k».proof.Proof.Gen.GatherIdeal.Skeleton
public import proofs.«01_k».proof.Proof.Gen.GatherIdeal.Launch

@[expose] public section

set_option Elab.async false

noncomputable section

namespace Cert.GatherIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Cells Cert.GatherIdeal.Gen

variable {F : FTy → Type} [FloatOps F]

/-- The arrays and the semaphores. -/
def X : Xch sig 6 where
  A := ![
    { R := 2048, C := 1196, e := .bf16, out := Memref.whole main_v1_0, piece := fun _ => Memref.whole main_arg0,
      sq := squeezes_S1x2048x1196_S2048x1196, whole := Memref.isWhole_whole _, pos := by decide },
    { R := 1024, C := 192, e := .bf16, out := Memref.whole main_v1_1, piece := fun _ => Memref.whole main_arg1,
      sq := squeezes_S1x1024x192_S1024x192, whole := Memref.isWhole_whole _, pos := by decide },
    { R := 512, C := 256, e := .bf16, out := Memref.whole main_v1_2, piece := fun _ => Memref.whole main_arg2,
      sq := squeezes_S1x512x256_S512x256, whole := Memref.isWhole_whole _, pos := by decide },
    { R := 2048, C := 1024, e := .bf16, out := Memref.whole main_v1_3, piece := fun _ => Memref.whole main_arg3,
      sq := squeezes_S1x2048x1024_S2048x1024, whole := Memref.isWhole_whole _, pos := by decide },
    { R := 2048, C := 512, e := .bf16, out := Memref.whole main_v1_4, piece := fun _ => Memref.whole main_arg4,
      sq := squeezes_S1x2048x512_S2048x512, whole := Memref.isWhole_whole _, pos := by decide },
    { R := 32, C := 128, e := .f32, out := Memref.whole main_v1_5, piece := fun _ => Memref.whole main_arg5,
      sq := squeezes_S1x32x128_S32x128, whole := Memref.isWhole_whole _, pos := by decide }]
  arr k a := Fin.cases ⟨84 + a.val, by have := a.isLt; show _ < 90; omega⟩
    (fun j => ⟨42 + (j.val * 6 + a.val), by have := a.isLt; have := j.isLt; show _ < 90; omega⟩) k
  snd j a := ⟨0 + (j.val * 6 + a.val), by have := a.isLt; have := j.isLt; show _ < 90; omega⟩
  inj := by decide +kernel

set_option maxRecDepth 65536 in
set_option maxHeartbeats 4000000 in
/-- Every device follows the plan. -/
theorem body (m : (ℓ : Loc nD τ sig) → Buf (Elt F) ℓ) (κ : Dev 8 × KK 6 → ℕ) (c : Dev 8) :
    (X.plan (relay 6) m).St κ c 0 ⊢ wp frame (wpE (defs₀ (F := F)) Variants.none (c : Thread nD τ) none) Set.univ
      (cc0_gather_weights (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2)
      (fun _ => (X.plan (relay 6) m).St κ c 138) := by
  rw [cc0_gather_weights_eq_skeleton]; unfold cc0_gather_weights_skel
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, Prog.lift, Prog.bind_op, Prog.bind_ret, Prog.pure_eq_ret, wp_deviceId]
  have cp := fun {t a} h => @Xch.copy sig τ (Elt F) _ _ (defs₀ (F := F)) Variants.none none 6 X (relay 6) m PUnit κ c t a h
  have sd := fun {t x} h => @Xch.send sig τ (Elt F) _ _ (defs₀ (F := F)) Variants.none none 6 X (relay 6) m PUnit κ c t x h
  have wt := fun {t k} h => @Xch.wait sig τ (Elt F) _ _ (defs₀ (F := F)) Variants.none none 6 X (relay 6) m PUnit κ c t k h
  have fw := fun {t x i} h => @Xch.fwd sig τ (Elt F) _ _ (defs₀ (F := F)) Variants.none none 6 X (relay 6) m PUnit κ c t x i h
  iterate 6
    refine cp (relay_copy _ (by decide)) (by exact rfl) (by exact rfl) (by exact (sem_at _ _ _).trans rfl) (by exact HEq.rfl) (by exact heq_of_eq (Arr.rowOf_eq _ _ _ (by clear * - c; revert c; decide +kernel) _ _)) ?_
  iterate 24
    refine sd (relay_send _ (by decide) (by decide) (by decide)) (by exact rfl) (by exact rfl) (by clear * - c; revert c; decide +kernel) (by exact (sem_at _ _ _).trans rfl) (by exact (sem_at _ _ _).trans rfl)
      (by exact HEq.rfl) (by exact heq_of_eq (Arr.rowOf_eq _ _ _ (by clear * - c; revert c; decide +kernel) _ _)) (by routes) ?_
  iterate 6
    refine wt (relay_wait_fwd _ (by decide) (by decide) (by decide) (by decide)) (by exact (sem_at _ _ _).trans rfl) (by exact rfl) ?_
    refine fw (relay_fwd _ (by decide) (by decide) (by decide) (by decide) 2 (by decide)) (by exact rfl) (by exact rfl) (by clear * - c; revert c; decide +kernel) (by exact (sem_at _ _ _).trans rfl) (by exact (sem_at _ _ _).trans rfl) (by exact rfl)
      (by exact heq_of_eq (Arr.rowOf_eq _ _ _ (by clear * - c; revert c; decide +kernel) _ _)) (by exact heq_of_eq (Arr.rowOf_eq _ _ _ (by clear * - c; revert c; decide +kernel) _ _)) (by routes) ?_
  iterate 6
    refine wt (relay_wait_fwd _ (by decide) (by decide) (by decide) (by decide)) (by exact (sem_at _ _ _).trans rfl) (by exact rfl) ?_
    refine fw (relay_fwd _ (by decide) (by decide) (by decide) (by decide) 3 (by decide)) (by exact rfl) (by exact rfl) (by clear * - c; revert c; decide +kernel) (by exact (sem_at _ _ _).trans rfl) (by exact (sem_at _ _ _).trans rfl) (by exact rfl)
      (by exact heq_of_eq (Arr.rowOf_eq _ _ _ (by clear * - c; revert c; decide +kernel) _ _)) (by exact heq_of_eq (Arr.rowOf_eq _ _ _ (by clear * - c; revert c; decide +kernel) _ _)) (by routes) ?_
  iterate 6
    refine wt (relay_wait_fwd _ (by decide) (by decide) (by decide) (by decide)) (by exact (sem_at _ _ _).trans rfl) (by exact rfl) ?_
    refine fw (relay_fwd _ (by decide) (by decide) (by decide) (by decide) 4 (by decide)) (by exact rfl) (by exact rfl) (by clear * - c; revert c; decide +kernel) (by exact (sem_at _ _ _).trans rfl) (by exact (sem_at _ _ _).trans rfl) (by exact rfl)
      (by exact heq_of_eq (Arr.rowOf_eq _ _ _ (by clear * - c; revert c; decide +kernel) _ _)) (by exact heq_of_eq (Arr.rowOf_eq _ _ _ (by clear * - c; revert c; decide +kernel) _ _)) (by routes) ?_
  iterate 6
    refine wt (relay_wait_near _ (by decide) (by decide) (by decide)) (by exact (sem_at _ _ _).trans rfl) (by exact rfl) ?_
  iterate 18
    refine wt (relay_wait_far _ (by decide) (by decide)) (by exact (sem_at _ _ _).trans rfl) (by exact rfl) ?_
  iterate 42
    refine wt (relay_wait_send _ (by decide) (by decide)) (by exact (sem_at _ _ _).trans rfl) (by exact rfl) ?_
  iterate 6
    refine wt (relay_wait_copy _ (by decide) (by decide)) (by exact (sem_at _ _ _).trans rfl) (by exact rfl) ?_
  rw [wp_ret]; exact fupd_intro

end Cert.GatherIdeal
-- ==== Proof.GatherRun.lean ====
/-

The run of the gather of the weights.
-/
module

public import proofs.«01_k».proof.Proof.Gather
public import proofs.«01_k».proof.Proof.Ends

@[expose] public section

set_option Elab.async false

noncomputable section

namespace Cert.GatherIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Cells Cert.GatherIdeal.Gen

variable {F : FTy → Type} [FloatOps F]

def ports : Xch.Ports X where
  ins := ![main_arg0, main_arg1, main_arg2, main_arg3, main_arg4, main_arg5]
  outs := ![main_v1_0, main_v1_1, main_v1_2, main_v1_3, main_v1_4, main_v1_5]
  hin a d := by fin_cases a <;> rfl
  hout a := by fin_cases a <;> rfl
  inj := by decide
  free := by decide

theorem sems : ∀ s : SemLoc sig, s.isScoped .tc = true := by
  rintro (s | s)
  · revert s; decide
  · revert s; decide

set_option maxRecDepth 100000 in
theorem run_main [∀ e, Nonempty (Elt F e)] (m : (ℓ : Loc nD τ sig) → Buf (Elt F) ℓ) (g : Dev nD → PrngReg) :
    θ_run (defs (F := F)) (onTc (τ := τ) (main (F := F))) ⟨m, fun _ => 0, g⟩
      (fun r => (∀ c : Dev 8, Xch.Ends (X := X) m ports c r.2) ∧ r.2.sem = fun _ => 0) := by
  haveI hW : ∀ p : Fin 1, IsEmpty (Fin (pin (pcfgs (F := F)) (fun _ => Cfg.toPCfg_adm _) p).W) := fun p => Fin.isEmpty'
  refine Xch.run (relay 6) m ports (pcfgs (F := F)) (fun _ => Cfg.toPCfg_adm _) cellOf_inj 0 (defs₀ (F := F)) Variants.none N_0 Fin.isEmpty' (fun k => sems _)
    (main (F := F)) (fun c => by rw [main_chain]; rfl) g Xch.relay_bij 138 (relay_ti_lt (n := 6)) (relay_tw_lt (n := 6)) (Xch.relay_land m) ?_ sems (fun s h h0 => ⟨h, h0⟩)
  intro κ c t
  exact body m κ c

end Cert.GatherIdeal
-- ==== Proof.GatherClaims.lean ====
/-

The claims of the gather of the weights.
-/
module

public import proofs.«01_k».proof.Defs
public import proofs.«01_k».proof.Proof.GatherRun
public import proofs.«01_k».proof.Proof.Values
public import proofs.«01_k».proof.Proof.Gen.Gather
public import proofs.«01_k».proof.Proof.Gen.GatherRefIdeal.Run
public import proofs.«01_k».proof.Proof.Gen.GatherRef.Run

@[expose] public section

set_option Elab.async false

noncomputable section

namespace Cert.GatherIdeal

open Idealize.ShloMosaic Idealize.ShloMosaic.TcCoe
open Idealize.SL.Sem
open Cert.Cells Cert.Values

theorem frame : Cert.quiescent_GatherIdeal := fun m g _ =>
  (θ_run defs _ _).mono (fun r h => ⟨fun c => ⟨(h.1 c).1 0, (h.1 c).1 1, (h.1 c).1 2, (h.1 c).1 3, (h.1 c).1 4, (h.1 c).1 5⟩, h.2⟩) (run_main (F := Ideal) m g)

theorem frame_kernel : Cert.quiescent_Gather := fun m g _ =>
  (θ_run defs _ _).mono (fun r h => ⟨fun c => ⟨(h.1 c).1 0, (h.1 c).1 1, (h.1 c).1 2, (h.1 c).1 3, (h.1 c).1 4, (h.1 c).1 5⟩, h.2⟩) (run_main (F := Bits) m g)

theorem frame_ref : Cert.quiescent_GatherRefIdeal := fun m g _ =>
  (θ_run Cert.GatherRefIdeal.defs _ _).mono (fun r h => ⟨fun c => (h c).2.2.2.2.2.2, sem_eq_zero_of_no_sems (by decide) r.2⟩) (Cert.GatherRefIdeal.Value.run (F := Ideal) m g)

theorem frame_ref_bits : Cert.quiescent_GatherRef := fun m g _ =>
  (θ_run Cert.GatherRef.defs _ _).mono (fun r h => ⟨fun c => (h c).2.2.2.2.2.2, sem_eq_zero_of_no_sems (by decide) r.2⟩) (Cert.GatherRef.Value.run (F := Bits) m g)

theorem algebraic : Cert.algebraic_GatherIdeal_GatherRefIdeal := by
  intro m g m' g' _ hm
  refine ⟨_, _, _, _, _, _, (θ_run defs _ _).mono (fun r h c => ⟨?_, ?_, ?_, ?_, ?_, ?_, (h.1 c).1 0, (h.1 c).1 1, (h.1 c).1 2, (h.1 c).1 3, (h.1 c).1 4, (h.1 c).1 5⟩) (run_main (F := Ideal) m g),
    (θ_run Cert.GatherRefIdeal.defs _ _).mono (fun r h => h 0) (Cert.GatherRefIdeal.Value.run (F := Ideal) m' g')⟩
  · exact gathered (h.1 c) 0 _ _ _ fun k => (hm k).1
  · exact gathered (h.1 c) 1 _ _ _ fun k => (hm k).2.1
  · exact gathered (h.1 c) 2 _ _ _ fun k => (hm k).2.2.1
  · exact gathered (h.1 c) 3 _ _ _ fun k => (hm k).2.2.2.1
  · exact gathered (h.1 c) 4 _ _ _ fun k => (hm k).2.2.2.2.1
  · exact gathered (h.1 c) 5 _ _ _ fun k => (hm k).2.2.2.2.2

theorem bitexact : Cert.bitexact_Gather_GatherRef := by
  intro m g m' g' _ hm
  refine ⟨_, _, _, _, _, _, (θ_run defs _ _).mono (fun r h c => ⟨?_, ?_, ?_, ?_, ?_, ?_, (h.1 c).1 0, (h.1 c).1 1, (h.1 c).1 2, (h.1 c).1 3, (h.1 c).1 4, (h.1 c).1 5⟩) (run_main (F := Bits) m g),
    (θ_run Cert.GatherRef.defs _ _).mono (fun r h => h 0) (Cert.GatherRef.Value.run (F := Bits) m' g')⟩
  · exact gathered (h.1 c) 0 _ _ _ fun k => (hm k).1
  · exact gathered (h.1 c) 1 _ _ _ fun k => (hm k).2.1
  · exact gathered (h.1 c) 2 _ _ _ fun k => (hm k).2.2.1
  · exact gathered (h.1 c) 3 _ _ _ fun k => (hm k).2.2.2.1
  · exact gathered (h.1 c) 4 _ _ _ fun k => (hm k).2.2.2.2.1
  · exact gathered (h.1 c) 5 _ _ _ fun k => (hm k).2.2.2.2.2

end Cert.GatherIdeal
-- ==== Proof.Adam.lean ====
/-

The AdamW step of one weight: the sum of the eight devices' gradient parts, and the new moments and the change of
the weight at one place.
-/
module

public import Idealize.ShloMosaic.Lib.Pipeline.ValueKit
public import Idealize.ShloMosaic.Lib.Pointwise
public import Idealize.ShloMosaic.Lib.ValueIdx
public import Idealize.ShloMosaic.PureOps.Ideal.Laws

@[expose] public section

noncomputable section

namespace Cert.Adam

open Idealize.ShloMosaic

/-- The shape of a matrix. -/
abbrev S2 (r c : Nat) : Shape := ⟨2, ![r, c]⟩
/-- The shape of a stack of matrices. -/
abbrev S3 (n r c : Nat) : Shape := ⟨3, ![n, r, c]⟩

/-- The gradient: at each place the sum of the eight parts, which begin `off` rows into their array. -/
def grad {R C G : Nat} (off : Nat) (h : off + R ≤ G) (p : (S3 8 G C).Idx → EReal) : (S2 R C).Idx → EReal :=
  fun i => ∑ k : Fin 8, p (ValueIdx.ix3 k ⟨off + (i 0).val, Nat.lt_of_lt_of_le (Nat.add_lt_add_left (i 0).isLt off) h⟩ (i 1))

/-- The first moment after the step. -/
def newM (g m : Ideal .f32) : Ideal .f32 :=
  FloatOps.addf (FloatOps.mulf (Scalar.ofBits .f32 0x3F666666#32) m) (FloatOps.mulf (Scalar.ofBits .f32 0x3DCCCCCD#32) g)

/-- The second moment after the step. -/
def newV (g v : Ideal .f32) : Ideal .f32 :=
  FloatOps.addf (FloatOps.mulf (Scalar.ofBits .f32 0x3F7FBE77#32) v)
    (FloatOps.mulf (Scalar.ofBits .f32 0x3A83126F#32) (FloatOps.mulf g g))

/-- The change of the weight. -/
def delta (g w m v : Ideal .f32) : Ideal .f32 :=
  FloatOps.mulf (Scalar.ofBits .f32 0xBA83126F#32)
    (FloatOps.addf
      (FloatOps.divf (FloatOps.divf (newM g m) (Scalar.ofBits .f32 0x3F26BD02#32))
        (FloatOps.addf (FloatOps.sqrt (FloatOps.divf (newV g v) (Scalar.ofBits .f32 0x3C231ACC#32)))
          (Scalar.ofBits .f32 0x322BCC77#32)))
      (FloatOps.mulf (Scalar.ofBits .f32 0x3C23D70A#32) w))

theorem part_inb {T C : Nat} (k : Fin 8) :
    ∀ a, (![k.val, 0, 0] : Fin 3 → Nat) a + (![1, T, C] : Fin 3 → Nat) a ≤ (S3 8 T C).size a := by
  have := k.isLt
  intro a; fin_cases a <;> simp <;> omega

theorem part_casts {T C : Nat} : (S3 1 T C).ShapeCasts (S2 T C) := by
  simp [Shape.ShapeCasts, Shape.numel, Fin.prod_univ_three, Fin.prod_univ_two]

/-- Part `k` of a block of eight parts, loaded alone and taken as a matrix. -/
def part {T C : Nat} {Val : EltTy → Type} {e : EltTy} (x : (S3 8 T C).Idx → Val e) (k : Fin 8) : (S2 T C).Idx → Val e :=
  shapeCast (S2 T C) (View.ld x (Rect.unit (s := S3 8 T C) ![k.val, 0, 0] ![1, T, C] (part_inb k))) part_casts

theorem part_apply {T C : Nat} {Val : EltTy → Type} {e : EltTy} (x : (S3 8 T C).Idx → Val e) (k : Fin 8)
    (y : (S2 T C).Idx) : part x k y = x (ValueIdx.ix3 k (y 0) (y 1)) := by
  refine (shapeCast_apply _ part_casts y (ValueIdx.ix3 (0 : Fin 1) (y 0) (y 1)) ?_).trans ?_
  · refine (Shape.rowMajor_val_three ..).trans (Eq.trans ?_ (Shape.rowMajor_val_two ..).symm)
    simp
    rfl
  rw [View.ld_apply]
  refine congrArg x (funext fun a => ?_)
  fin_cases a <;> exact Fin.ext (by simp)

/-- The eight parts of a block, added one after the other, are at each place their sum. -/
theorem sum_parts {T C : Nat} {e : EltTy} (x : (S3 8 T C).Idx → Elt Ideal e) (y : (S2 T C).Idx)
    (q : Elt Ideal e → EReal) :
    q (part x 0 y) + q (part x 1 y) + q (part x 2 y) + q (part x 3 y) + q (part x 4 y) + q (part x 5 y)
      + q (part x 6 y) + q (part x 7 y) = ∑ k : Fin 8, q (x (ValueIdx.ix3 k (y 0) (y 1))) := by
  simp only [part_apply]
  exact (Fin.sum_univ_eight fun k => q (x (ValueIdx.ix3 k (y 0) (y 1)))).symm

/-- The sum of a block's eight parts is the gradient at the block's place: the block of parts is read `a` rows into
the parts, where the block of the gradient lies `b` rows into the gradient. -/
theorem grad_block {T C R G : Nat} {e : EltTy} {off a b : Nat} {hg : off + R ≤ G} (p : (S3 8 G C).Idx → Elt Ideal e)
    (E : (S3 8 T C).Idx → (S3 8 G C).Idx) (E₀ : (S2 T C).Idx → (S2 R C).Idx) (ha : a = off + b)
    (h : ∀ z, (E z 0).val = (z 0).val ∧ (E z 1).val = a + (z 1).val ∧ (E z 2).val = (z 2).val)
    (h₀ : ∀ y, (E₀ y 0).val = b + (y 0).val ∧ (E₀ y 1).val = (y 1).val) (q : Elt Ideal e → EReal) (y : (S2 T C).Idx) :
    q (part (p ∘ E) 0 y) + q (part (p ∘ E) 1 y) + q (part (p ∘ E) 2 y) + q (part (p ∘ E) 3 y) + q (part (p ∘ E) 4 y)
      + q (part (p ∘ E) 5 y) + q (part (p ∘ E) 6 y) + q (part (p ∘ E) 7 y) = grad off hg (q ∘ p) (E₀ y) := by
  refine (sum_parts (p ∘ E) y q).trans (Finset.sum_congr rfl fun k _ => congrArg (q ∘ p) (funext fun i => ?_))
  obtain ⟨z0, z1, z2⟩ := h (ValueIdx.ix3 k (y 0) (y 1))
  obtain ⟨y0, y1⟩ := h₀ y
  fin_cases i
  · exact Fin.ext z0
  · exact Fin.ext (z1.trans (by
      show a + (y 0).val = off + (E₀ y 0).val
      omega))
  · exact Fin.ext (z2.trans y1.symm)

/-- The host's sum of eight stacked matrices is the gradient, where the stack is the parts from row `off` on. -/
theorem host_grad {R C G : Nat} (off : Nat) (hg : off + R ≤ G) (x : FVec Ideal (S3 8 R C) .f32)
    (p : (S3 8 G C).Idx → EReal) (h : (S3 8 R C).ReducesTo [0] (S2 R C)) (hu : 0 < (⟨0, ![]⟩ : Shape).numel)
    (hx : ∀ k (i : Fin R) (j : Fin C), x (ValueIdx.ix3 k i j)
      = p (ValueIdx.ix3 k ⟨off + i.val, Nat.lt_of_lt_of_le (Nat.add_lt_add_left i.isLt off) hg⟩ j)) :
    Host.reduceAdd x (constant ⟨0, ![]⟩ .f32 0x00000000#32) h hu = grad off hg p := by
  funext i
  rw [Host.reduceAdd_apply, Ideal.hostReduceAdd_def, Ideal.hostReduceAdd_r3_a0]
  refine Eq.trans (congrArg (· + _) Ideal.ofBits_zero_f32) ((zero_add _).trans ?_)
  exact Finset.sum_congr rfl fun k _ => hx k (i 0) (i 1)

/-- The rows from `off` on of a stack. -/
theorem slice_apply {R C G : Nat} {α : Type} (off : Nat) (hg : off + R ≤ G) (p : (S3 8 G C).Idx → α)
    (h : (S3 8 G C).Slices ![0, off, 0] (S3 8 R C)) (k : Fin 8) (i : Fin R) (j : Fin C) :
    extractStridedSlice (S3 8 R C) ![0, off, 0] p h (ValueIdx.ix3 k i j)
      = p (ValueIdx.ix3 k ⟨off + i.val, Nat.lt_of_lt_of_le (Nat.add_lt_add_left i.isLt off) hg⟩ j) :=
  congrArg p (funext fun a => by fin_cases a <;> exact Fin.ext (by simp))

/-- A stack that is taken whole begins at row 0. -/
theorem whole_apply {R C : Nat} {α : Type} (p : (S3 8 R C).Idx → α) (k : Fin 8) (i : Fin R) (j : Fin C) :
    p (ValueIdx.ix3 k i j)
      = p (ValueIdx.ix3 k ⟨0 + i.val, Nat.lt_of_lt_of_le (Nat.add_lt_add_left i.isLt 0) (Nat.zero_add R).le⟩ j) :=
  congrArg (fun i => p (ValueIdx.ix3 k i j)) (Fin.ext (Nat.zero_add _).symm)

/-- A block loaded whole is the block. -/
theorem load_whole {T C : Nat} (x : (S2 T C).Idx → Elt Ideal .f32) {h : ∀ a, (![0, 0] : Fin 2 → Nat) a + (S2 T C).size a ≤ (S2 T C).size a}
    (y : (S2 T C).Idx) : View.ld x (Rect.unit (s := S2 T C) ![0, 0] (S2 T C).size h) y = x y :=
  congrFun (View.ld_unit_lit h x (fun a => by fin_cases a <;> rfl)) y

/-- Equal gradients, weights and moments give an equal change. -/
theorem delta_congr {g g' w w' m m' v v' : Ideal .f32} (hg : g = g') (hw : w = w') (hm : m = m') (hv : v = v') :
    delta g w m v = delta g' w' m' v' := by rw [hg, hw, hm, hv]

/-- Four arrays are what the step makes of parts, weight and moments: gradient, change and the two new moments. -/
def Stepped {R C G : Nat} (off : Nat) (hg : off + R ≤ G) (p : (S3 8 G C).Idx → EReal) (w m v g d m' v' : (S2 R C).Idx → EReal) :
    Prop :=
  g = grad off hg p ∧ d = (fun i => delta (grad off hg p i) (w i) (m i) (v i)) ∧ m' = (fun i => newM (grad off hg p i) (m i))
    ∧ v' = fun i => newV (grad off hg p i) (v i)

/-- What the step makes is determined: arrays `a b c e` that are made by one step are those that another makes. -/
theorem Stepped.ends {R C G : Nat} {off : Nat} {hg : off + R ≤ G} {p : (S3 8 G C).Idx → EReal}
    {w m v g d m' v' g₁ d₁ m₁ v₁ a b c e : (S2 R C).Idx → EReal} {K : Prop} (s : Stepped off hg p w m v g d m' v')
    (s₁ : Stepped off hg p w m v g₁ d₁ m₁ v₁) (h : a = g₁ ∧ b = d₁ ∧ c = m₁ ∧ e = v₁ ∧ K) : a = g ∧ b = d ∧ c = m' ∧ e = v' ∧ K :=
  ⟨h.1.trans (s₁.1.trans s.1.symm), h.2.1.trans (s₁.2.1.trans s.2.1.symm), h.2.2.1.trans (s₁.2.2.1.trans s.2.2.1.symm),
    h.2.2.2.1.trans (s₁.2.2.2.trans s.2.2.2.symm), h.2.2.2.2⟩

/-- The reference's arrays are what the step makes. -/
theorem host_stepped {R C G : Nat} (off : Nat) (hg : off + R ≤ G) (x : FVec Ideal (S3 8 R C) .f32)
    (p : (S3 8 G C).Idx → EReal) (w m v : FVec Ideal (S2 R C) .f32) (h : (S3 8 R C).ReducesTo [0] (S2 R C))
    (hu : 0 < (⟨0, ![]⟩ : Shape).numel) (b : (⟨0, ![]⟩ : Shape).BroadcastsInDim (S2 R C) ![])
    (hx : ∀ k (i : Fin R) (j : Fin C), x (ValueIdx.ix3 k i j)
      = p (ValueIdx.ix3 k ⟨off + i.val, Nat.lt_of_lt_of_le (Nat.add_lt_add_left i.isLt off) hg⟩ j)) :
    let k (z : BitVec 32) : FVec Ideal (S2 R C) .f32 := broadcastInDim (S2 R C) ![] b (constant ⟨0, ![]⟩ .f32 z)
    let g := Host.reduceAdd x (constant ⟨0, ![]⟩ .f32 0x00000000#32) h hu
    let m' := addf (mulf (k 0x3F666666#32) m) (mulf (k 0x3DCCCCCD#32) g)
    let v' := addf (mulf (k 0x3F7FBE77#32) v) (mulf (k 0x3A83126F#32) (mulf g g))
    Stepped off hg p w m v g
      (mulf (k 0xBA83126F#32) (addf (Host.divf (Host.divf m' (k 0x3F26BD02#32))
        (addf (Host.sqrt (Host.divf v' (k 0x3C231ACC#32))) (k 0x322BCC77#32))) (mulf (k 0x3C23D70A#32) w))) m' v' := by
  intro k g m' v'
  obtain hG : g = grad off hg p := host_grad off hg x p h hu hx
  refine ⟨hG, ?_, ?_, ?_⟩ <;> · rw [← hG]; rfl

end Cert.Adam
-- ==== Proof.Sides.lean ====
/-

What the claims of calls that do not talk across devices share: a run over definitions that are equal, and the frame
of a reference.
-/
module

public import Idealize.ShloMosaic.Lib.Quiescent
public import Idealize.ShloMosaic.Lib.Claim

@[expose] public section

namespace Cert.Sides

open Idealize.ShloMosaic Idealize.SL.Sem

variable {nD : Nat} {τ : Topo} {sig : RefSig} {Val : EltTy → Type} {Λ : Labels}
  {defs defs' : Defs nD τ sig Val Λ} {p : (c : Thread nD τ) → Prog (TpuEff nD τ sig Val Λ c.2) PUnit} {s : MemSt nD τ sig Val}

/-- A run over definitions is one over definitions equal to them. -/
theorem over {Q : PUnit × MemSt nD τ sig Val → Prop} (h : defs = defs') (r : θ_run defs' p s Q) : θ_run defs p s Q := h ▸ r

/-- A program without semaphores whose run leaves `P` on every device ends with all that `P` says of a device, and quiet. -/
theorem quiet {P B : Dev nD → PUnit × MemSt nD τ sig Val → Prop} (hs : sig.nSem + sig.nDmaSem = 0) (hB : ∀ c r, P c r → B c r)
    (h : θ_run defs p s fun r => ∀ c, P c r) : θ_run defs p s fun r => (∀ c, B c r) ∧ r.2.sem = fun _ => 0 :=
  (θ_run defs p s).mono (fun r h => ⟨fun c => hB c r (h c), sem_eq_zero_of_no_sems hs r.2⟩) h

end Cert.Sides
-- ==== Proof.AdamProj.lean ====
/-

The AdamW steps of the weights that project in.
-/
module

public import proofs.«01_k».proof.Defs
public import proofs.«01_k».proof.Proof.Adam
public import proofs.«01_k».proof.Proof.Sides
public import proofs.«01_k».proof.Proof.Gen.AdamIn
public import proofs.«01_k».proof.Proof.Gen.AdamInIdeal.Value
public import proofs.«01_k».proof.Proof.Gen.AdamInRefIdeal.Run
public import proofs.«01_k».proof.Proof.Gen.AdamUq
public import proofs.«01_k».proof.Proof.Gen.AdamUqIdeal.Value
public import proofs.«01_k».proof.Proof.Gen.AdamUqRefIdeal.Run
public import proofs.«01_k».proof.Proof.Gen.AdamUkv
public import proofs.«01_k».proof.Proof.Gen.AdamUkvIdeal.Value
public import proofs.«01_k».proof.Proof.Gen.AdamUkvRefIdeal.Run

@[expose] public section

set_option Elab.async false

noncomputable section

open Idealize.ShloMosaic Idealize.ShloMosaic.TcCoe
open Idealize.SL.Sem

/-! ## The step of `w_in` -/

namespace Cert.AdamInIdeal

open Cert.AdamInIdeal.Gen

theorem stepped (m : (ℓ : Loc nD τ sig) → Buf (Elt Ideal) ℓ) (c : Dev nD) :
    Adam.Stepped (R := 2048) 0 (by decide) (m ((c : Thread nD τ).loc main_arg1)) (m ((c : Thread nD τ).loc main_arg0))
      (m ((c : Thread nD τ).loc main_arg2)) (m ((c : Thread nD τ).loc main_arg3)) ((dats m 0 c).arrAt 4 cfg0.N)
      ((dats m 0 c).arrAt 5 cfg0.N) ((dats m 0 c).arrAt 6 cfg0.N) ((dats m 0 c).arrAt 7 cfg0.N) := by
  have e : ∀ t, win0_1.index t = ![0, (grid0.coords t 0).val, 0] ∧ win0_4.index t = ![(grid0.coords t 0).val, 0] := by
    decide +kernel
  have g t := Adam.grad_block (e := .bf16) (hg := (by decide : 0 + 2048 ≤ 2048)) (m ((c : Thread nD τ).loc main_arg1))
    (win0_1.blk t).view.emb (win0_4.blk t).view.emb (a := (grid0.coords t 0).val * 128) (b := (grid0.coords t 0).val * 128)
    (by omega) (fun z => ⟨by blk_simp [(e t).1], by blk_simp [(e t).1], by blk_simp [(e t).1]⟩)
    (fun z => ⟨by blk_simp [(e t).2], by blk_simp [(e t).2]⟩) id
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4]; frame_out; exact g t y
  · rw [after0_5]; frame_out; exact Adam.delta_congr (g t y) rfl rfl rfl
  · rw [after0_6]; frame_out; exact congrArg₂ Adam.newM (g t y) rfl
  · rw [after0_7]; frame_out; exact congrArg₂ Adam.newV (g t y) rfl

theorem frame : Cert.quiescent_AdamInIdeal := fun m g _ => Gen.frame m g

theorem frame_kernel : Cert.quiescent_AdamIn := fun m g _ =>
  Sides.over (congrArg (Pipeline.defs _) (congrArg Defs.onTc (funext fun l => by fin_cases l; rfl))) (Gen.frame (F := Bits) m g)

theorem frame_ref : Cert.quiescent_AdamInRefIdeal := fun m g _ =>
  Sides.quiet (by decide) (fun _ _ h => h.2.2.2.2) (Cert.AdamInRefIdeal.Value.run m g)

theorem algebraic : Cert.algebraic_AdamInIdeal_AdamInRefIdeal := fun m g m' g' _ hm =>
  ⟨_, _, _, _, Value.run_blocks m g, (θ_run _ _ _).mono (fun r h c => by
    obtain ⟨e0, e1, e2, e3⟩ := hm c
    have h := h c
    rw [e0, e1, e2, e3] at h
    rw [e0, e1, e2, e3]
    exact (stepped m c).ends (Adam.host_stepped 0 (by decide) _ _ _ _ _ (by decide) (by decide) (by decide)
      (Adam.whole_apply _)) h) (Cert.AdamInRefIdeal.Value.run m' g')⟩

end Cert.AdamInIdeal

/-! ## The step of `mla_w_uq` -/

namespace Cert.AdamUqIdeal

open Cert.AdamUqIdeal.Gen

theorem stepped (m : (ℓ : Loc nD τ sig) → Buf (Elt Ideal) ℓ) (c : Dev nD) :
    Adam.Stepped (R := 1024) 0 (by decide) (m ((c : Thread nD τ).loc main_arg1)) (m ((c : Thread nD τ).loc main_arg0))
      (m ((c : Thread nD τ).loc main_arg2)) (m ((c : Thread nD τ).loc main_arg3)) ((dats m 0 c).arrAt 4 cfg0.N)
      ((dats m 0 c).arrAt 5 cfg0.N) ((dats m 0 c).arrAt 6 cfg0.N) ((dats m 0 c).arrAt 7 cfg0.N) := by
  have e : ∀ t, win0_1.index t = ![0, (grid0.coords t 0).val, 0] ∧ win0_4.index t = ![(grid0.coords t 0).val, 0] := by
    decide +kernel
  have g t := Adam.grad_block (e := .bf16) (hg := (by decide : 0 + 1024 ≤ 1024)) (m ((c : Thread nD τ).loc main_arg1))
    (win0_1.blk t).view.emb (win0_4.blk t).view.emb (a := (grid0.coords t 0).val * 256) (b := (grid0.coords t 0).val * 256)
    (by omega) (fun z => ⟨by blk_simp [(e t).1], by blk_simp [(e t).1], by blk_simp [(e t).1]⟩)
    (fun z => ⟨by blk_simp [(e t).2], by blk_simp [(e t).2]⟩) id
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4]; frame_out; exact g t y
  · rw [after0_5]; frame_out; exact Adam.delta_congr (g t y) rfl rfl rfl
  · rw [after0_6]; frame_out; exact congrArg₂ Adam.newM (g t y) rfl
  · rw [after0_7]; frame_out; exact congrArg₂ Adam.newV (g t y) rfl

theorem frame : Cert.quiescent_AdamUqIdeal := fun m g _ => Gen.frame m g

theorem frame_kernel : Cert.quiescent_AdamUq := fun m g _ =>
  Sides.over (congrArg (Pipeline.defs _) (congrArg Defs.onTc (funext fun l => by fin_cases l; rfl))) (Gen.frame (F := Bits) m g)

theorem frame_ref : Cert.quiescent_AdamUqRefIdeal := fun m g _ =>
  Sides.quiet (by decide) (fun _ _ h => h.2.2.2.2) (Cert.AdamUqRefIdeal.Value.run m g)

theorem algebraic : Cert.algebraic_AdamUqIdeal_AdamUqRefIdeal := fun m g m' g' _ hm =>
  ⟨_, _, _, _, Value.run_blocks m g, (θ_run _ _ _).mono (fun r h c => by
    obtain ⟨e0, e1, e2, e3⟩ := hm c
    have h := h c
    rw [e0, e1, e2, e3] at h
    rw [e0, e1, e2, e3]
    exact (stepped m c).ends (Adam.host_stepped 0 (by decide) _ _ _ _ _ (by decide) (by decide) (by decide)
      (Adam.whole_apply _)) h) (Cert.AdamUqRefIdeal.Value.run m' g')⟩

end Cert.AdamUqIdeal

/-! ## The step of `mla_w_ukv` -/

namespace Cert.AdamUkvIdeal

open Cert.AdamUkvIdeal.Gen

theorem stepped (m : (ℓ : Loc nD τ sig) → Buf (Elt Ideal) ℓ) (c : Dev nD) :
    Adam.Stepped (R := 512) 0 (by decide) (m ((c : Thread nD τ).loc main_arg1)) (m ((c : Thread nD τ).loc main_arg0))
      (m ((c : Thread nD τ).loc main_arg2)) (m ((c : Thread nD τ).loc main_arg3)) ((dats m 0 c).arrAt 4 cfg0.N)
      ((dats m 0 c).arrAt 5 cfg0.N) ((dats m 0 c).arrAt 6 cfg0.N) ((dats m 0 c).arrAt 7 cfg0.N) := by
  have e : ∀ t, win0_1.index t = ![0, (grid0.coords t 0).val, 0] ∧ win0_4.index t = ![(grid0.coords t 0).val, 0] := by
    decide +kernel
  have g t := Adam.grad_block (e := .bf16) (hg := (by decide : 0 + 512 ≤ 512)) (m ((c : Thread nD τ).loc main_arg1))
    (win0_1.blk t).view.emb (win0_4.blk t).view.emb (a := (grid0.coords t 0).val * 256) (b := (grid0.coords t 0).val * 256)
    (by omega) (fun z => ⟨by blk_simp [(e t).1], by blk_simp [(e t).1], by blk_simp [(e t).1]⟩)
    (fun z => ⟨by blk_simp [(e t).2], by blk_simp [(e t).2]⟩) id
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4]; frame_out; exact g t y
  · rw [after0_5]; frame_out; exact Adam.delta_congr (g t y) rfl rfl rfl
  · rw [after0_6]; frame_out; exact congrArg₂ Adam.newM (g t y) rfl
  · rw [after0_7]; frame_out; exact congrArg₂ Adam.newV (g t y) rfl

theorem frame : Cert.quiescent_AdamUkvIdeal := fun m g _ => Gen.frame m g

theorem frame_kernel : Cert.quiescent_AdamUkv := fun m g _ =>
  Sides.over (congrArg (Pipeline.defs _) (congrArg Defs.onTc (funext fun l => by fin_cases l; rfl))) (Gen.frame (F := Bits) m g)

theorem frame_ref : Cert.quiescent_AdamUkvRefIdeal := fun m g _ =>
  Sides.quiet (by decide) (fun _ _ h => h.2.2.2.2) (Cert.AdamUkvRefIdeal.Value.run m g)

theorem algebraic : Cert.algebraic_AdamUkvIdeal_AdamUkvRefIdeal := fun m g m' g' _ hm =>
  ⟨_, _, _, _, Value.run_blocks m g, (θ_run _ _ _).mono (fun r h c => by
    obtain ⟨e0, e1, e2, e3⟩ := hm c
    have h := h c
    rw [e0, e1, e2, e3] at h
    rw [e0, e1, e2, e3]
    exact (stepped m c).ends (Adam.host_stepped 0 (by decide) _ _ _ _ _ (by decide) (by decide) (by decide)
      (Adam.whole_apply _)) h) (Cert.AdamUkvRefIdeal.Value.run m' g')⟩

end Cert.AdamUkvIdeal
-- ==== Proof.AdamOuts.lean ====
/-

The AdamW steps of the weights that project out, whose parts lie in one array below one another.
-/
module

public import proofs.«01_k».proof.Defs
public import proofs.«01_k».proof.Proof.Adam
public import proofs.«01_k».proof.Proof.Sides
public import proofs.«01_k».proof.Proof.Gen.AdamSsdOut
public import proofs.«01_k».proof.Proof.Gen.AdamSsdOutIdeal.Value
public import proofs.«01_k».proof.Proof.Gen.AdamSsdOutRefIdeal.Run
public import proofs.«01_k».proof.Proof.Gen.AdamMlaOut
public import proofs.«01_k».proof.Proof.Gen.AdamMlaOutIdeal.Value
public import proofs.«01_k».proof.Proof.Gen.AdamMlaOutRefIdeal.Run
public import proofs.«01_k».proof.Proof.Gen.AdamGdnOut
public import proofs.«01_k».proof.Proof.Gen.AdamGdnOutIdeal.Value
public import proofs.«01_k».proof.Proof.Gen.AdamGdnOutRefIdeal.Run
public import proofs.«01_k».proof.Proof.Gen.AdamOut
public import proofs.«01_k».proof.Proof.Gen.AdamOutIdeal.Value
public import proofs.«01_k».proof.Proof.Gen.AdamOutRefIdeal.Run

@[expose] public section

set_option Elab.async false

noncomputable section

open Idealize.ShloMosaic Idealize.ShloMosaic.TcCoe
open Idealize.SL.Sem

/-! ## The step of `w_ssd_out`: its parts begin at row 0 of theirs -/

namespace Cert.AdamSsdOutIdeal

open Cert.AdamSsdOutIdeal.Gen

theorem stepped (m : (ℓ : Loc nD τ sig) → Buf (Elt Ideal) ℓ) (c : Dev nD) :
    Adam.Stepped (R := 256) 0 (by decide) (m ((c : Thread nD τ).loc main_arg1)) (m ((c : Thread nD τ).loc main_arg0))
      (m ((c : Thread nD τ).loc main_arg2)) (m ((c : Thread nD τ).loc main_arg3)) ((dats m 0 c).arrAt 4 cfg0.N)
      ((dats m 0 c).arrAt 5 cfg0.N) ((dats m 0 c).arrAt 6 cfg0.N) ((dats m 0 c).arrAt 7 cfg0.N) := by
  have e : ∀ t, win0_1.index t = ![0, (grid0.coords t 0).val, 0] ∧ win0_4.index t = ![(grid0.coords t 0).val, 0] := by
    decide +kernel
  have g t := Adam.grad_block (e := .bf16) (hg := (by decide : 0 + 256 ≤ 2048)) (m ((c : Thread nD τ).loc main_arg1))
    (win0_1.blk t).view.emb (win0_4.blk t).view.emb (a := (grid0.coords t 0).val * 128) (b := (grid0.coords t 0).val * 128)
    (by omega) (fun z => ⟨by blk_simp [(e t).1], by blk_simp [(e t).1], by blk_simp [(e t).1]⟩)
    (fun z => ⟨by blk_simp [(e t).2], by blk_simp [(e t).2]⟩) id
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4]; frame_out; exact g t y
  · rw [after0_5]; frame_out; exact Adam.delta_congr (g t y) rfl rfl rfl
  · rw [after0_6]; frame_out; exact congrArg₂ Adam.newM (g t y) rfl
  · rw [after0_7]; frame_out; exact congrArg₂ Adam.newV (g t y) rfl

theorem frame : Cert.quiescent_AdamSsdOutIdeal := fun m g _ => Gen.frame m g

theorem frame_kernel : Cert.quiescent_AdamSsdOut := fun m g _ =>
  Sides.over (congrArg (Pipeline.defs _) (congrArg Defs.onTc (funext fun l => by fin_cases l; rfl))) (Gen.frame (F := Bits) m g)

theorem frame_ref : Cert.quiescent_AdamSsdOutRefIdeal := fun m g _ =>
  Sides.quiet (by decide) (fun _ _ h => h.2.2.2.2) (Cert.AdamSsdOutRefIdeal.Value.run m g)

theorem algebraic : Cert.algebraic_AdamSsdOutIdeal_AdamSsdOutRefIdeal := fun m g m' g' _ hm =>
  ⟨_, _, _, _, Value.run_blocks m g, (θ_run _ _ _).mono (fun r h c => by
    obtain ⟨e0, e1, e2, e3⟩ := hm c
    have h := h c
    rw [e0, e1, e2, e3] at h
    rw [e0, e1, e2, e3]
    exact (stepped m c).ends (Adam.host_stepped 0 (by decide) _ _ _ _ _ (by decide) (by decide) (by decide)
      (Adam.slice_apply 0 (by decide) _ (by decide))) h) (Cert.AdamSsdOutRefIdeal.Value.run m' g')⟩

end Cert.AdamSsdOutIdeal

/-! ## The step of `w_mla_out`: its parts begin at row 256 of theirs -/

namespace Cert.AdamMlaOutIdeal

open Cert.AdamMlaOutIdeal.Gen

theorem stepped (m : (ℓ : Loc nD τ sig) → Buf (Elt Ideal) ℓ) (c : Dev nD) :
    Adam.Stepped (R := 256) 256 (by decide) (m ((c : Thread nD τ).loc main_arg1)) (m ((c : Thread nD τ).loc main_arg0))
      (m ((c : Thread nD τ).loc main_arg2)) (m ((c : Thread nD τ).loc main_arg3)) ((dats m 0 c).arrAt 4 cfg0.N)
      ((dats m 0 c).arrAt 5 cfg0.N) ((dats m 0 c).arrAt 6 cfg0.N) ((dats m 0 c).arrAt 7 cfg0.N) := by
  have e : ∀ t, win0_1.index t = ![0, 2 + (grid0.coords t 0).val, 0] ∧ win0_4.index t = ![(grid0.coords t 0).val, 0] := by
    decide +kernel
  have g t := Adam.grad_block (e := .bf16) (hg := (by decide : 256 + 256 ≤ 2048)) (m ((c : Thread nD τ).loc main_arg1))
    (win0_1.blk t).view.emb (win0_4.blk t).view.emb (a := (2 + (grid0.coords t 0).val) * 128) (b := (grid0.coords t 0).val * 128)
    (by omega) (fun z => ⟨by blk_simp [(e t).1], by blk_simp [(e t).1], by blk_simp [(e t).1]⟩)
    (fun z => ⟨by blk_simp [(e t).2], by blk_simp [(e t).2]⟩) id
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4]; frame_out; exact g t y
  · rw [after0_5]; frame_out; exact Adam.delta_congr (g t y) rfl rfl rfl
  · rw [after0_6]; frame_out; exact congrArg₂ Adam.newM (g t y) rfl
  · rw [after0_7]; frame_out; exact congrArg₂ Adam.newV (g t y) rfl

theorem frame : Cert.quiescent_AdamMlaOutIdeal := fun m g _ => Gen.frame m g

theorem frame_kernel : Cert.quiescent_AdamMlaOut := fun m g _ =>
  Sides.over (congrArg (Pipeline.defs _) (congrArg Defs.onTc (funext fun l => by fin_cases l; rfl))) (Gen.frame (F := Bits) m g)

theorem frame_ref : Cert.quiescent_AdamMlaOutRefIdeal := fun m g _ =>
  Sides.quiet (by decide) (fun _ _ h => h.2.2.2.2) (Cert.AdamMlaOutRefIdeal.Value.run m g)

theorem algebraic : Cert.algebraic_AdamMlaOutIdeal_AdamMlaOutRefIdeal := fun m g m' g' _ hm =>
  ⟨_, _, _, _, Value.run_blocks m g, (θ_run _ _ _).mono (fun r h c => by
    obtain ⟨e0, e1, e2, e3⟩ := hm c
    have h := h c
    rw [e0, e1, e2, e3] at h
    rw [e0, e1, e2, e3]
    exact (stepped m c).ends (Adam.host_stepped 256 (by decide) _ _ _ _ _ (by decide) (by decide) (by decide)
      (Adam.slice_apply 256 (by decide) _ (by decide))) h) (Cert.AdamMlaOutRefIdeal.Value.run m' g')⟩

end Cert.AdamMlaOutIdeal

/-! ## The step of `w_gdn_out`: its parts begin at row 512 of theirs -/

namespace Cert.AdamGdnOutIdeal

open Cert.AdamGdnOutIdeal.Gen

theorem stepped (m : (ℓ : Loc nD τ sig) → Buf (Elt Ideal) ℓ) (c : Dev nD) :
    Adam.Stepped (R := 256) 512 (by decide) (m ((c : Thread nD τ).loc main_arg1)) (m ((c : Thread nD τ).loc main_arg0))
      (m ((c : Thread nD τ).loc main_arg2)) (m ((c : Thread nD τ).loc main_arg3)) ((dats m 0 c).arrAt 4 cfg0.N)
      ((dats m 0 c).arrAt 5 cfg0.N) ((dats m 0 c).arrAt 6 cfg0.N) ((dats m 0 c).arrAt 7 cfg0.N) := by
  have e : ∀ t, win0_1.index t = ![0, 4 + (grid0.coords t 0).val, 0] ∧ win0_4.index t = ![(grid0.coords t 0).val, 0] := by
    decide +kernel
  have g t := Adam.grad_block (e := .bf16) (hg := (by decide : 512 + 256 ≤ 2048)) (m ((c : Thread nD τ).loc main_arg1))
    (win0_1.blk t).view.emb (win0_4.blk t).view.emb (a := (4 + (grid0.coords t 0).val) * 128) (b := (grid0.coords t 0).val * 128)
    (by omega) (fun z => ⟨by blk_simp [(e t).1], by blk_simp [(e t).1], by blk_simp [(e t).1]⟩)
    (fun z => ⟨by blk_simp [(e t).2], by blk_simp [(e t).2]⟩) id
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4]; frame_out; exact g t y
  · rw [after0_5]; frame_out; exact Adam.delta_congr (g t y) rfl rfl rfl
  · rw [after0_6]; frame_out; exact congrArg₂ Adam.newM (g t y) rfl
  · rw [after0_7]; frame_out; exact congrArg₂ Adam.newV (g t y) rfl

theorem frame : Cert.quiescent_AdamGdnOutIdeal := fun m g _ => Gen.frame m g

theorem frame_kernel : Cert.quiescent_AdamGdnOut := fun m g _ =>
  Sides.over (congrArg (Pipeline.defs _) (congrArg Defs.onTc (funext fun l => by fin_cases l; rfl))) (Gen.frame (F := Bits) m g)

theorem frame_ref : Cert.quiescent_AdamGdnOutRefIdeal := fun m g _ =>
  Sides.quiet (by decide) (fun _ _ h => h.2.2.2.2) (Cert.AdamGdnOutRefIdeal.Value.run m g)

theorem algebraic : Cert.algebraic_AdamGdnOutIdeal_AdamGdnOutRefIdeal := fun m g m' g' _ hm =>
  ⟨_, _, _, _, Value.run_blocks m g, (θ_run _ _ _).mono (fun r h c => by
    obtain ⟨e0, e1, e2, e3⟩ := hm c
    have h := h c
    rw [e0, e1, e2, e3] at h
    rw [e0, e1, e2, e3]
    exact (stepped m c).ends (Adam.host_stepped 512 (by decide) _ _ _ _ _ (by decide) (by decide) (by decide)
      (Adam.slice_apply 512 (by decide) _ (by decide))) h) (Cert.AdamGdnOutRefIdeal.Value.run m' g')⟩

end Cert.AdamGdnOutIdeal

/-! ## The step of `w_out`: its parts begin at row 768 of theirs -/

namespace Cert.AdamOutIdeal

open Cert.AdamOutIdeal.Gen

theorem stepped (m : (ℓ : Loc nD τ sig) → Buf (Elt Ideal) ℓ) (c : Dev nD) :
    Adam.Stepped (R := 256) 768 (by decide) (m ((c : Thread nD τ).loc main_arg1)) (m ((c : Thread nD τ).loc main_arg0))
      (m ((c : Thread nD τ).loc main_arg2)) (m ((c : Thread nD τ).loc main_arg3)) ((dats m 0 c).arrAt 4 cfg0.N)
      ((dats m 0 c).arrAt 5 cfg0.N) ((dats m 0 c).arrAt 6 cfg0.N) ((dats m 0 c).arrAt 7 cfg0.N) := by
  have e : ∀ t, win0_1.index t = ![0, 6 + (grid0.coords t 0).val, 0] ∧ win0_4.index t = ![(grid0.coords t 0).val, 0] := by
    decide +kernel
  have g t := Adam.grad_block (e := .bf16) (hg := (by decide : 768 + 256 ≤ 2048)) (m ((c : Thread nD τ).loc main_arg1))
    (win0_1.blk t).view.emb (win0_4.blk t).view.emb (a := (6 + (grid0.coords t 0).val) * 128) (b := (grid0.coords t 0).val * 128)
    (by omega) (fun z => ⟨by blk_simp [(e t).1], by blk_simp [(e t).1], by blk_simp [(e t).1]⟩)
    (fun z => ⟨by blk_simp [(e t).2], by blk_simp [(e t).2]⟩) id
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4]; frame_out; exact g t y
  · rw [after0_5]; frame_out; exact Adam.delta_congr (g t y) rfl rfl rfl
  · rw [after0_6]; frame_out; exact congrArg₂ Adam.newM (g t y) rfl
  · rw [after0_7]; frame_out; exact congrArg₂ Adam.newV (g t y) rfl

theorem frame : Cert.quiescent_AdamOutIdeal := fun m g _ => Gen.frame m g

theorem frame_kernel : Cert.quiescent_AdamOut := fun m g _ =>
  Sides.over (congrArg (Pipeline.defs _) (congrArg Defs.onTc (funext fun l => by fin_cases l; rfl))) (Gen.frame (F := Bits) m g)

theorem frame_ref : Cert.quiescent_AdamOutRefIdeal := fun m g _ =>
  Sides.quiet (by decide) (fun _ _ h => h.2.2.2.2) (Cert.AdamOutRefIdeal.Value.run m g)

theorem algebraic : Cert.algebraic_AdamOutIdeal_AdamOutRefIdeal := fun m g m' g' _ hm =>
  ⟨_, _, _, _, Value.run_blocks m g, (θ_run _ _ _).mono (fun r h c => by
    obtain ⟨e0, e1, e2, e3⟩ := hm c
    have h := h c
    rw [e0, e1, e2, e3] at h
    rw [e0, e1, e2, e3]
    exact (stepped m c).ends (Adam.host_stepped 768 (by decide) _ _ _ _ _ (by decide) (by decide) (by decide)
      (Adam.slice_apply 768 (by decide) _ (by decide))) h) (Cert.AdamOutRefIdeal.Value.run m' g')⟩

end Cert.AdamOutIdeal
-- ==== Proof.AdamMlp.lean ====
/-

The AdamW steps of the two weights of the last layer of a block.
-/
module

public import proofs.«01_k».proof.Defs
public import proofs.«01_k».proof.Proof.Adam
public import proofs.«01_k».proof.Proof.Sides
public import proofs.«01_k».proof.Proof.Gen.AdamDown
public import proofs.«01_k».proof.Proof.Gen.AdamDownIdeal.Value
public import proofs.«01_k».proof.Proof.Gen.AdamDownRefIdeal.Run
public import proofs.«01_k».proof.Proof.Gen.AdamUp
public import proofs.«01_k».proof.Proof.Gen.AdamUpIdeal.Value
public import proofs.«01_k».proof.Proof.Gen.AdamUpRefIdeal.Run

@[expose] public section

set_option Elab.async false

noncomputable section

open Idealize.ShloMosaic Idealize.ShloMosaic.TcCoe
open Idealize.SL.Sem

/-! ## The step of `mlp_w_down`: its parts begin at row 1024 of theirs -/

namespace Cert.AdamDownIdeal

open Cert.AdamDownIdeal.Gen

theorem stepped (m : (ℓ : Loc nD τ sig) → Buf (Elt Ideal) ℓ) (c : Dev nD) :
    Adam.Stepped (R := 1024) 1024 (by decide) (m ((c : Thread nD τ).loc main_arg1)) (m ((c : Thread nD τ).loc main_arg0))
      (m ((c : Thread nD τ).loc main_arg2)) (m ((c : Thread nD τ).loc main_arg3)) ((dats m 0 c).arrAt 4 cfg0.N)
      ((dats m 0 c).arrAt 5 cfg0.N) ((dats m 0 c).arrAt 6 cfg0.N) ((dats m 0 c).arrAt 7 cfg0.N) := by
  have e : ∀ t, win0_1.index t = ![0, 8 + (grid0.coords t 0).val, 0] ∧ win0_4.index t = ![(grid0.coords t 0).val, 0] := by
    decide +kernel
  have g t := Adam.grad_block (e := .bf16) (hg := (by decide : 1024 + 1024 ≤ 2048)) (m ((c : Thread nD τ).loc main_arg1))
    (win0_1.blk t).view.emb (win0_4.blk t).view.emb (a := (8 + (grid0.coords t 0).val) * 128) (b := (grid0.coords t 0).val * 128)
    (by omega) (fun z => ⟨by blk_simp [(e t).1], by blk_simp [(e t).1], by blk_simp [(e t).1]⟩)
    (fun z => ⟨by blk_simp [(e t).2], by blk_simp [(e t).2]⟩) id
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4]; frame_out; exact g t y
  · rw [after0_5]; frame_out; exact Adam.delta_congr (g t y) rfl rfl rfl
  · rw [after0_6]; frame_out; exact congrArg₂ Adam.newM (g t y) rfl
  · rw [after0_7]; frame_out; exact congrArg₂ Adam.newV (g t y) rfl

theorem frame : Cert.quiescent_AdamDownIdeal := fun m g _ => Gen.frame m g

theorem frame_kernel : Cert.quiescent_AdamDown := fun m g _ =>
  Sides.over (congrArg (Pipeline.defs _) (congrArg Defs.onTc (funext fun l => by fin_cases l; rfl))) (Gen.frame (F := Bits) m g)

theorem frame_ref : Cert.quiescent_AdamDownRefIdeal := fun m g _ =>
  Sides.quiet (by decide) (fun _ _ h => h.2.2.2.2) (Cert.AdamDownRefIdeal.Value.run m g)

theorem algebraic : Cert.algebraic_AdamDownIdeal_AdamDownRefIdeal := fun m g m' g' _ hm =>
  ⟨_, _, _, _, Value.run_blocks m g, (θ_run _ _ _).mono (fun r h c => by
    obtain ⟨e0, e1, e2, e3⟩ := hm c
    have h := h c
    rw [e0, e1, e2, e3] at h
    rw [e0, e1, e2, e3]
    exact (stepped m c).ends (Adam.host_stepped 1024 (by decide) _ _ _ _ _ (by decide) (by decide) (by decide)
      (Adam.slice_apply 1024 (by decide) _ (by decide))) h) (Cert.AdamDownRefIdeal.Value.run m' g')⟩

end Cert.AdamDownIdeal

/-! ## The step of `mlp_w_up` -/

namespace Cert.AdamUpIdeal

open Cert.AdamUpIdeal.Gen

theorem stepped (m : (ℓ : Loc nD τ sig) → Buf (Elt Ideal) ℓ) (c : Dev nD) :
    Adam.Stepped (R := 2048) 0 (by decide) (m ((c : Thread nD τ).loc main_arg1)) (m ((c : Thread nD τ).loc main_arg0))
      (m ((c : Thread nD τ).loc main_arg2)) (m ((c : Thread nD τ).loc main_arg3)) ((dats m 0 c).arrAt 4 cfg0.N)
      ((dats m 0 c).arrAt 5 cfg0.N) ((dats m 0 c).arrAt 6 cfg0.N) ((dats m 0 c).arrAt 7 cfg0.N) := by
  have e : ∀ t, win0_1.index t = ![0, (grid0.coords t 0).val, 0] ∧ win0_4.index t = ![(grid0.coords t 0).val, 0] := by
    decide +kernel
  have g t := Adam.grad_block (e := .bf16) (hg := (by decide : 0 + 2048 ≤ 2048)) (m ((c : Thread nD τ).loc main_arg1))
    (win0_1.blk t).view.emb (win0_4.blk t).view.emb (a := (grid0.coords t 0).val * 256) (b := (grid0.coords t 0).val * 256)
    (by omega) (fun z => ⟨by blk_simp [(e t).1], by blk_simp [(e t).1], by blk_simp [(e t).1]⟩)
    (fun z => ⟨by blk_simp [(e t).2], by blk_simp [(e t).2]⟩) id
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4]; frame_out; exact g t y
  · rw [after0_5]; frame_out; exact Adam.delta_congr (g t y) rfl rfl rfl
  · rw [after0_6]; frame_out; exact congrArg₂ Adam.newM (g t y) rfl
  · rw [after0_7]; frame_out; exact congrArg₂ Adam.newV (g t y) rfl

theorem frame : Cert.quiescent_AdamUpIdeal := fun m g _ => Gen.frame m g

theorem frame_kernel : Cert.quiescent_AdamUp := fun m g _ =>
  Sides.over (congrArg (Pipeline.defs _) (congrArg Defs.onTc (funext fun l => by fin_cases l; rfl))) (Gen.frame (F := Bits) m g)

theorem frame_ref : Cert.quiescent_AdamUpRefIdeal := fun m g _ =>
  Sides.quiet (by decide) (fun _ _ h => h.2.2.2.2) (Cert.AdamUpRefIdeal.Value.run m g)

theorem algebraic : Cert.algebraic_AdamUpIdeal_AdamUpRefIdeal := fun m g m' g' _ hm =>
  ⟨_, _, _, _, Value.run_blocks m g, (θ_run _ _ _).mono (fun r h c => by
    obtain ⟨e0, e1, e2, e3⟩ := hm c
    have h := h c
    rw [e0, e1, e2, e3] at h
    rw [e0, e1, e2, e3]
    exact (stepped m c).ends (Adam.host_stepped 0 (by decide) _ _ _ _ _ (by decide) (by decide) (by decide)
      (Adam.whole_apply _)) h) (Cert.AdamUpRefIdeal.Value.run m' g')⟩

end Cert.AdamUpIdeal
-- ==== Proof.AdamPacked.lean ====
/-

The AdamW steps of the weights that are packed into one array: the convolutions' and the small ones.
-/
module

public import proofs.«01_k».proof.Defs
public import proofs.«01_k».proof.Proof.Adam
public import proofs.«01_k».proof.Proof.Sides
public import proofs.«01_k».proof.Proof.Gen.AdamConv
public import proofs.«01_k».proof.Proof.Gen.AdamConvIdeal.Value
public import proofs.«01_k».proof.Proof.Gen.AdamConvRefIdeal.Run
public import proofs.«01_k».proof.Proof.Gen.AdamSmall
public import proofs.«01_k».proof.Proof.Gen.AdamSmallIdeal.Value
public import proofs.«01_k».proof.Proof.Gen.AdamSmallRefIdeal.Run

@[expose] public section

set_option Elab.async false

noncomputable section

open Idealize.ShloMosaic Idealize.ShloMosaic.TcCoe
open Idealize.SL.Sem

/-! ## The step of the convolutions' weights -/

namespace Cert.AdamConvIdeal

open Cert.AdamConvIdeal.Gen

theorem stepped (m : (ℓ : Loc nD τ sig) → Buf (Elt Ideal) ℓ) (c : Dev nD) :
    Adam.Stepped (R := 32) 0 (by decide) (m ((c : Thread nD τ).loc main_arg1)) (m ((c : Thread nD τ).loc main_arg0))
      (m ((c : Thread nD τ).loc main_arg2)) (m ((c : Thread nD τ).loc main_arg3)) ((dats m 0 c).arrAt 4 cfg0.N)
      ((dats m 0 c).arrAt 5 cfg0.N) ((dats m 0 c).arrAt 6 cfg0.N) ((dats m 0 c).arrAt 7 cfg0.N) := by
  have e : ∀ t, win0_1.index t = ![0, (grid0.coords t 0).val, 0] ∧ win0_4.index t = ![(grid0.coords t 0).val, 0] := by
    decide +kernel
  have g t := Adam.grad_block (e := .f32) (hg := (by decide : 0 + 32 ≤ 32)) (m ((c : Thread nD τ).loc main_arg1))
    (win0_1.blk t).view.emb (win0_4.blk t).view.emb (a := (grid0.coords t 0).val * 32) (b := (grid0.coords t 0).val * 32)
    (by omega) (fun z => ⟨by blk_simp [(e t).1], by blk_simp [(e t).1], by blk_simp [(e t).1]⟩)
    (fun z => ⟨by blk_simp [(e t).2], by blk_simp [(e t).2]⟩) id
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4]; frame_out; exact g t y
  · rw [after0_5]; frame_out; exact Adam.delta_congr (g t y) rfl (Adam.load_whole _ y) rfl
  · rw [after0_6]; frame_out; exact congrArg₂ Adam.newM (g t y) (Adam.load_whole _ y)
  · rw [after0_7]; frame_out; exact congrArg₂ Adam.newV (g t y) rfl

theorem frame : Cert.quiescent_AdamConvIdeal := fun m g _ => Gen.frame m g

theorem frame_kernel : Cert.quiescent_AdamConv := fun m g _ =>
  Sides.over (congrArg (Pipeline.defs _) (congrArg Defs.onTc (funext fun l => by fin_cases l; rfl))) (Gen.frame (F := Bits) m g)

theorem frame_ref : Cert.quiescent_AdamConvRefIdeal := fun m g _ =>
  Sides.quiet (by decide) (fun _ _ h => h.2.2.2.2) (Cert.AdamConvRefIdeal.Value.run m g)

theorem algebraic : Cert.algebraic_AdamConvIdeal_AdamConvRefIdeal := fun m g m' g' _ hm =>
  ⟨_, _, _, _, Value.run_blocks m g, (θ_run _ _ _).mono (fun r h c => by
    obtain ⟨e0, e1, e2, e3⟩ := hm c
    have h := h c
    rw [e0, e1, e2, e3] at h
    rw [e0, e1, e2, e3]
    exact (stepped m c).ends (Adam.host_stepped 0 (by decide) _ _ _ _ _ (by decide) (by decide) (by decide)
      (Adam.whole_apply _)) h) (Cert.AdamConvRefIdeal.Value.run m' g')⟩

end Cert.AdamConvIdeal

/-! ## The step of the small weights -/

namespace Cert.AdamSmallIdeal

open Cert.AdamSmallIdeal.Gen

theorem stepped (m : (ℓ : Loc nD τ sig) → Buf (Elt Ideal) ℓ) (c : Dev nD) :
    Adam.Stepped (R := 96) 0 (by decide) (m ((c : Thread nD τ).loc main_arg1)) (m ((c : Thread nD τ).loc main_arg0))
      (m ((c : Thread nD τ).loc main_arg2)) (m ((c : Thread nD τ).loc main_arg3)) ((dats m 0 c).arrAt 4 cfg0.N)
      ((dats m 0 c).arrAt 5 cfg0.N) ((dats m 0 c).arrAt 6 cfg0.N) ((dats m 0 c).arrAt 7 cfg0.N) := by
  have e : ∀ t, win0_1.index t = ![0, (grid0.coords t 0).val, 0] ∧ win0_4.index t = ![(grid0.coords t 0).val, 0] := by
    decide +kernel
  have g t := Adam.grad_block (e := .f32) (hg := (by decide : 0 + 96 ≤ 96)) (m ((c : Thread nD τ).loc main_arg1))
    (win0_1.blk t).view.emb (win0_4.blk t).view.emb (a := (grid0.coords t 0).val * 32) (b := (grid0.coords t 0).val * 32)
    (by omega) (fun z => ⟨by blk_simp [(e t).1], by blk_simp [(e t).1], by blk_simp [(e t).1]⟩)
    (fun z => ⟨by blk_simp [(e t).2], by blk_simp [(e t).2]⟩) id
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4]; frame_out; exact g t y
  · rw [after0_5]; frame_out; exact Adam.delta_congr (g t y) rfl (Adam.load_whole _ y) rfl
  · rw [after0_6]; frame_out; exact congrArg₂ Adam.newM (g t y) (Adam.load_whole _ y)
  · rw [after0_7]; frame_out; exact congrArg₂ Adam.newV (g t y) rfl

theorem frame : Cert.quiescent_AdamSmallIdeal := fun m g _ => Gen.frame m g

theorem frame_kernel : Cert.quiescent_AdamSmall := fun m g _ =>
  Sides.over (congrArg (Pipeline.defs _) (congrArg Defs.onTc (funext fun l => by fin_cases l; rfl))) (Gen.frame (F := Bits) m g)

theorem frame_ref : Cert.quiescent_AdamSmallRefIdeal := fun m g _ =>
  Sides.quiet (by decide) (fun _ _ h => h.2.2.2.2) (Cert.AdamSmallRefIdeal.Value.run m g)

theorem algebraic : Cert.algebraic_AdamSmallIdeal_AdamSmallRefIdeal := fun m g m' g' _ hm =>
  ⟨_, _, _, _, Value.run_blocks m g, (θ_run _ _ _).mono (fun r h c => by
    obtain ⟨e0, e1, e2, e3⟩ := hm c
    have h := h c
    rw [e0, e1, e2, e3] at h
    rw [e0, e1, e2, e3]
    exact (stepped m c).ends (Adam.host_stepped 0 (by decide) _ _ _ _ _ (by decide) (by decide) (by decide)
      (Adam.whole_apply _)) h) (Cert.AdamSmallRefIdeal.Value.run m' g')⟩

end Cert.AdamSmallIdeal
-- ==== Proof.Layer.lean ====
/-

What the calls of a layer share: where a block lies in its matrix, the norm of a row, and the products of matrices.
-/
module

public import proofs.«01_k».proof.Proof.Adam

@[expose] public section

set_option Elab.async false

noncomputable section

open Idealize.ShloMosaic

namespace Cert.Layer

open Adam (S2)

/-! ## Where a block lies -/

/-- Two places of a matrix with the same row and the same column. -/
theorem ext2 {n k : Nat} {i j : (S2 n k).Idx} (h0 : (i 0).val = (j 0).val) (h1 : (i 1).val = (j 1).val) : i = j := by
  funext a
  fin_cases a
  · exact Fin.ext h0
  · exact Fin.ext h1

/-- `E` puts a block into a matrix from the row `a` and the column `b` on. -/
def At {n k n' k' : Nat} (E : (S2 n k).Idx → (S2 n' k').Idx) (a b : Nat) : Prop :=
  ∀ z, (E z 0).val = a + (z 0).val ∧ (E z 1).val = b + (z 1).val

/-! ## The norm of a row -/

/-- The mean of the squares of a row, whose length is `d`, and a little. -/
def square {n k : Nat} (d : BitVec 32) (x : (S2 n k).Idx → EReal) (r : Fin n) : Ideal .f32 :=
  FloatOps.addf (FloatOps.divf (φ := .f32) (∑ j : Fin k, x (ix2 r j) * x (ix2 r j) : EReal) (Scalar.ofBits .f32 d))
    (Scalar.ofBits .f32 0x358637BD#32)

/-- One over its root. -/
def scale {n k : Nat} (d : BitVec 32) (x : (S2 n k).Idx → EReal) (r : Fin n) : Ideal .f32 := FloatOps.rsqrt (φ := .f32) (square d x r)

/-- A row divided by the root of the mean of its squares, times the gain. -/
def norm {n k : Nat} (d : BitVec 32) (x : (S2 n k).Idx → EReal) (g : (S2 1 k).Idx → EReal) : (S2 n k).Idx → Ideal .f32 := fun i =>
  FloatOps.mulf (φ := .f32) (FloatOps.mulf (φ := .f32) (x i) (scale d x (i 0))) (g (ix2 0 (i 1)))

theorem At.row {n k n' : Nat} {E : (S2 n k).Idx → (S2 n' k).Idx} {a : Nat} (hE : At E a 0) (r : Fin n) {r' : Fin n'} (hr : a + r.val = r'.val)
    (j : Fin k) : E (ix2 r j) = ix2 r' j :=
  ext2 ((hE _).1.trans hr) ((hE _).2.trans (Nat.zero_add _))

theorem square_block {n k n' : Nat} {d : BitVec 32} {x : (S2 n' k).Idx → EReal} {E : (S2 n k).Idx → (S2 n' k).Idx} {a : Nat} (hE : At E a 0)
    (r : Fin n) {r' : Fin n'} (hr : a + r.val = r'.val) : square d (x ∘ E) r = square d x r' := by
  simp only [square, Function.comp, hE.row r hr]

theorem scale_block {n k n' : Nat} {d : BitVec 32} {x : (S2 n' k).Idx → EReal} {E : (S2 n k).Idx → (S2 n' k).Idx} {a : Nat} (hE : At E a 0)
    (r : Fin n) {r' : Fin n'} (hr : a + r.val = r'.val) : scale d (x ∘ E) r = scale d x r' := by
  rw [scale, scale, square_block hE r hr]

/-- The norm of a block of whole rows is the norm of the matrix there. -/
theorem norm_block {n k n' : Nat} {d : BitVec 32} {x : (S2 n' k).Idx → EReal} {g : (S2 1 k).Idx → EReal} {E E' : (S2 n k).Idx → (S2 n' k).Idx}
    {G : (S2 1 k).Idx → (S2 1 k).Idx} {a : Nat} (hE : At E a 0) (hG : At G 0 0) (hE' : At E' a 0) (y : (S2 n k).Idx) :
    norm d (x ∘ E) (g ∘ G) y = norm d x g (E' y) := by
  have e : scale d (x ∘ E) (y 0) = scale d x (E' y 0) := scale_block hE _ (hE' y).1.symm
  have e' : E y = E' y := ext2 ((hE _).1.trans (hE' y).1.symm) ((hE _).2.trans (hE' y).2.symm)
  have e'' : G (ix2 0 (y 1)) = ix2 0 (E' y 1) := ext2 ((hG _).1.trans rfl) ((hG _).2.trans (hE' y).2.symm)
  simp only [norm, Function.comp_apply, e, e', e'']
  rfl

/-! ## The derivative of the norm -/

/-- What a row gets through its own scale: from `q`, the gradient of the normed row times the gain. -/
def pull {n k : Nat} (d : BitVec 32) (x q : (S2 n k).Idx → EReal) (r : Fin n) : EReal :=
  Ideal.div ((∑ j : Fin k, x (ix2 r j) * q (ix2 r j)) * (Ideal.ofBits .f32 0xBF000000#32 * Ideal.div (scale d x r) (square d x r)))
    (Ideal.ofBits .f32 d)

/-- The gradient of a row. -/
def rowBack {n k : Nat} (d : BitVec 32) (x q : (S2 n k).Idx → EReal) (i : (S2 n k).Idx) : EReal :=
  q i * scale d x (i 0) + x i * pull d x q (i 0) + pull d x q (i 0) * x i

/-- The gradient of the gain, from the gradient `p` of the normed rows. -/
def gainBack {n k : Nat} (d : BitVec 32) (x p : (S2 n k).Idx → EReal) (i : (S2 1 k).Idx) : EReal :=
  ∑ r : Fin n, x (ix2 r (i 1)) * scale d x r * p (ix2 r (i 1))

/-- A sum of one term may stand for the term. -/
theorem once (a x c : EReal) : a + x * (∑ _s : Fin 1, c) + (∑ _s : Fin 1, c) * x = a + x * c + c * x := by
  rw [Fin.sum_univ_one]

theorem rowBack_block {n k n' : Nat} {d : BitVec 32} {x q' : (S2 n' k).Idx → EReal} {q : (S2 n k).Idx → EReal}
    {E E' : (S2 n k).Idx → (S2 n' k).Idx} {a : Nat} (hE : At E a 0) (hE' : At E' a 0) (hq : ∀ z, q z = q' (E' z)) (y : (S2 n k).Idx) :
    rowBack d (x ∘ E) q y = rowBack d x q' (E' y) := by
  have hr := (hE' y).1.symm
  have e : E y = E' y := ext2 ((hE _).1.trans (hE' y).1.symm) ((hE _).2.trans (hE' y).2.symm)
  have ep : pull d (x ∘ E) q (y 0) = pull d x q' (E' y 0) := by
    simp only [pull, scale_block hE _ hr, square_block hE _ hr, Function.comp_apply, hE.row _ hr, hq, hE'.row _ hr]
  simp only [rowBack, ep, hq, scale_block hE _ hr, Function.comp_apply, e]

/-- The gradients of the gain from the blocks of the rows add up to that from all rows. -/
theorem gainBack_sum {J n k n' : Nat} {d : BitVec 32} {x p' : (S2 n' k).Idx → EReal} {p : Fin J → (S2 n k).Idx → EReal}
    {E : Fin J → (S2 n k).Idx → (S2 n' k).Idx} (hn : n' = J * n) (hE : ∀ s, At (E s) (s.val * n) 0)
    (hp : ∀ s z, p s z = p' (E s z)) (i : (S2 1 k).Idx) : ∑ s : Fin J, gainBack d (x ∘ E s) (p s) i = gainBack d x p' i :=
  Fin.sum_mul_add_congr (fun s r hl => by
    have e := (hE s).row r (r' := ⟨s.val * n + r.val, hl⟩) rfl (i 1)
    simp only [scale_block (hE s) r (r' := ⟨s.val * n + r.val, hl⟩) rfl, Function.comp_apply, hp]
    exact congrArg (fun z => x z * scale d x ⟨s.val * n + r.val, hl⟩ * p' z) e) hn

/-! ## The product of two matrices -/

/-- The product of a matrix of tokens and a weight. -/
def prod {n k l : Nat} (x : (S2 n k).Idx → EReal) (w : (S2 k l).Idx → EReal) (i : (S2 n l).Idx) : EReal :=
  ∑ r : Fin k, x (ix2 (i 0) r) * w (ix2 r (i 1))

/-- A block of the product: of whole rows of the tokens and whole columns of the weight. -/
theorem prod_block {n k l n' l' : Nat} {x : (S2 n' k).Idx → EReal} {w : (S2 k l').Idx → EReal} {E : (S2 n k).Idx → (S2 n' k).Idx}
    {W : (S2 k l).Idx → (S2 k l').Idx} {E' : (S2 n l).Idx → (S2 n' l').Idx} {a b : Nat} (hE : At E a 0) (hW : At W 0 b)
    (hE' : At E' a b) (y : (S2 n l).Idx) : prod (x ∘ E) (w ∘ W) y = prod x w (E' y) :=
  Finset.sum_congr rfl fun r _ => congrArg₂ (· * ·)
    (congrArg x (ext2 ((hE _).1.trans (hE' y).1.symm) ((hE _).2.trans (Nat.zero_add _))))
    (congrArg w (ext2 ((hW _).1.trans (Nat.zero_add _)) ((hW _).2.trans (hE' y).2.symm)))

/-- The blocks of the product along the contracted axis add up to the product. -/
theorem prod_sum {J n k l n' k' l' : Nat} {x : (S2 n' k').Idx → EReal} {w : (S2 k' l').Idx → EReal} {E : Fin J → (S2 n k).Idx → (S2 n' k').Idx}
    {W : Fin J → (S2 k l).Idx → (S2 k' l').Idx} {E' : (S2 n l).Idx → (S2 n' l').Idx} {a b : Nat} (hk : k' = J * k)
    (hE : ∀ s, At (E s) a (s.val * k)) (hW : ∀ s, At (W s) (s.val * k) b) (hE' : At E' a b) (y : (S2 n l).Idx) :
    ∑ s : Fin J, prod (x ∘ E s) (w ∘ W s) y = prod x w (E' y) :=
  Fin.sum_mul_add_congr (fun s r hl => congrArg₂ (· * ·)
    (congrArg x (ext2 ((hE s _).1.trans (hE' y).1.symm) ((hE s _).2)))
    (congrArg w (ext2 ((hW s _).1) ((hW s _).2.trans (hE' y).2.symm)))) hk

/-! ## The products of the derivative -/

/-- The matrix with its rows and columns exchanged. -/
def turn {n k : Nat} (x : (S2 n k).Idx → EReal) : (S2 k n).Idx → EReal := fun i => x (ix2 (i 1) (i 0))

/-- Where a block lies when the matrix is turned. -/
def turned {n k n' k' : Nat} (E : (S2 n k).Idx → (S2 n' k').Idx) : (S2 k n).Idx → (S2 k' n').Idx := fun z =>
  ix2 (E (ix2 (z 1) (z 0)) 1) (E (ix2 (z 1) (z 0)) 0)

theorem At.turned {n k n' k' : Nat} {E : (S2 n k).Idx → (S2 n' k').Idx} {a b : Nat} (h : At E a b) : At (turned E) b a :=
  fun z => ⟨(h _).2, (h _).1⟩

theorem turn_comp {n k n' k' : Nat} (x : (S2 n' k').Idx → EReal) (E : (S2 n k).Idx → (S2 n' k').Idx) :
    turn (x ∘ E) = turn x ∘ turned E :=
  funext fun z => congrArg x (ext2 rfl rfl)

/-- A block of the product with a turned weight. -/
theorem prod_turn_block {n k l n' l' : Nat} {x : (S2 n' k).Idx → EReal} {w : (S2 l' k).Idx → EReal} {E : (S2 n k).Idx → (S2 n' k).Idx}
    {W : (S2 l k).Idx → (S2 l' k).Idx} {E' : (S2 n l).Idx → (S2 n' l').Idx} {a b : Nat} (hE : At E a 0) (hW : At W b 0)
    (hE' : At E' a b) (y : (S2 n l).Idx) : prod (x ∘ E) (turn (w ∘ W)) y = prod x (turn w) (E' y) := by
  rw [turn_comp]
  exact prod_block hE hW.turned hE' y

/-- The blocks of the product with a turned weight add up to the product. -/
theorem prod_turn_sum {J n k l n' k' l' : Nat} {x : (S2 n' k').Idx → EReal} {w : (S2 l' k').Idx → EReal}
    {E : Fin J → (S2 n k).Idx → (S2 n' k').Idx} {W : Fin J → (S2 l k).Idx → (S2 l' k').Idx} {E' : (S2 n l).Idx → (S2 n' l').Idx}
    {a b : Nat} (hk : k' = J * k) (hE : ∀ s, At (E s) a (s.val * k)) (hW : ∀ s, At (W s) b (s.val * k)) (hE' : At E' a b)
    (y : (S2 n l).Idx) : ∑ s : Fin J, prod (x ∘ E s) (turn (w ∘ W s)) y = prod x (turn w) (E' y) := by
  simp only [turn_comp]
  exact prod_sum hk hE (fun s => (hW s).turned) hE' y

/-- The blocks of the product of the turned tokens and a gradient add up to the product. -/
theorem turn_prod_sum {J n k l n' k' l' : Nat} {x : (S2 k' n').Idx → EReal} {w : (S2 k' l').Idx → EReal}
    {E : Fin J → (S2 k n).Idx → (S2 k' n').Idx} {W : Fin J → (S2 k l).Idx → (S2 k' l').Idx} {E' : (S2 n l).Idx → (S2 n' l').Idx}
    {a b : Nat} (hk : k' = J * k) (hE : ∀ s, At (E s) (s.val * k) a) (hW : ∀ s, At (W s) (s.val * k) b) (hE' : At E' a b)
    (y : (S2 n l).Idx) : ∑ s : Fin J, prod (turn (x ∘ E s)) (w ∘ W s) y = prod (turn x) w (E' y) := by
  simp only [turn_comp]
  exact prod_sum hk (fun s => (hE s).turned) hW hE' y

/-! ## What is added up point by point -/

/-- The `s`-th of the points that end with `t`, where a block is written back. -/
abbrev point {N J : Nat} [NeZero J] (t : Fin N) (h : t.val % J = J - 1) (s : Fin J) : Fin N :=
  ⟨J * (t.val / J) + s.val, Pipeline.run_point_lt_of_flush t h s⟩

/-- A block that begins with the first of `J` terms and to which each next point adds its own is their sum at the end. -/
theorem steps_sum {N J : Nat} [NeZero J] {ι : Type} (f : (n : Nat) → n < N → ι → EReal) (p : Fin N → ι → EReal)
    (h0 : ∀ t : Fin N, t.val % J = 0 → ∀ y, f t.val t.isLt y = p t y)
    (hs : ∀ t : Fin N, ¬t.val % J = 0 → ∀ y, f t.val t.isLt y = f (t.val - 1) (Nat.lt_of_le_of_lt (Nat.sub_le _ _) t.isLt) y + p t y)
    (t : Fin N) (h : t.val % J = J - 1) (y : ι) : f t.val t.isLt y = ∑ s : Fin J, p (point t h s) y :=
  (Pipeline.eq_sum_fin_of_reset_step_apply_of_flush f J (fun _ => (0 : EReal)) p (fun t h y => (h0 t h y).trans (zero_add _).symm)
    hs t h y).trans (zero_add _)

/-- A block of the product that is added up point by point. -/
theorem prod_run {N J n k l n' k' l' : Nat} [NeZero J] {f : (i : Nat) → i < N → (S2 n l).Idx → EReal} {x : (S2 n' k').Idx → EReal}
    {w : (S2 k' l').Idx → EReal} {E : Fin N → (S2 n k).Idx → (S2 n' k').Idx} {W : Fin N → (S2 k l).Idx → (S2 k' l').Idx}
    {E' : (S2 n l).Idx → (S2 n' l').Idx} {a b : Nat}
    (h0 : ∀ t : Fin N, t.val % J = 0 → ∀ y, f t.val t.isLt y = prod (x ∘ E t) (w ∘ W t) y)
    (hs : ∀ t : Fin N, ¬t.val % J = 0 → ∀ y, f t.val t.isLt y
      = f (t.val - 1) (Nat.lt_of_le_of_lt (Nat.sub_le _ _) t.isLt) y + prod (x ∘ E t) (w ∘ W t) y)
    (t : Fin N) (h : t.val % J = J - 1) (hk : k' = J * k) (hE : ∀ s : Fin J, At (E (point t h s)) a (s.val * k))
    (hW : ∀ s : Fin J, At (W (point t h s)) (s.val * k) b) (hE' : At E' a b) (y : (S2 n l).Idx) : f t.val t.isLt y = prod x w (E' y) :=
  (steps_sum f _ h0 hs t h y).trans (prod_sum hk hE hW hE' y)

/-- A block of the product with a turned weight that is added up point by point. -/
theorem prod_turn_run {N J n k l n' k' l' : Nat} [NeZero J] {f : (i : Nat) → i < N → (S2 n l).Idx → EReal} {x : (S2 n' k').Idx → EReal}
    {w : (S2 l' k').Idx → EReal} {E : Fin N → (S2 n k).Idx → (S2 n' k').Idx} {W : Fin N → (S2 l k).Idx → (S2 l' k').Idx}
    {E' : (S2 n l).Idx → (S2 n' l').Idx} {a b : Nat}
    (h0 : ∀ t : Fin N, t.val % J = 0 → ∀ y, f t.val t.isLt y = prod (x ∘ E t) (turn (w ∘ W t)) y)
    (hs : ∀ t : Fin N, ¬t.val % J = 0 → ∀ y, f t.val t.isLt y
      = f (t.val - 1) (Nat.lt_of_le_of_lt (Nat.sub_le _ _) t.isLt) y + prod (x ∘ E t) (turn (w ∘ W t)) y)
    (t : Fin N) (h : t.val % J = J - 1) (hk : k' = J * k) (hE : ∀ s : Fin J, At (E (point t h s)) a (s.val * k))
    (hW : ∀ s : Fin J, At (W (point t h s)) b (s.val * k)) (hE' : At E' a b) (y : (S2 n l).Idx) :
    f t.val t.isLt y = prod x (turn w) (E' y) :=
  (steps_sum f _ h0 hs t h y).trans (prod_turn_sum hk hE hW hE' y)

/-- A block of the product of turned tokens that is added up point by point. -/
theorem turn_prod_run {N J n k l n' k' l' : Nat} [NeZero J] {f : (i : Nat) → i < N → (S2 n l).Idx → EReal} {x : (S2 k' n').Idx → EReal}
    {w : (S2 k' l').Idx → EReal} {E : Fin N → (S2 k n).Idx → (S2 k' n').Idx} {W : Fin N → (S2 k l).Idx → (S2 k' l').Idx}
    {E' : (S2 n l).Idx → (S2 n' l').Idx} {a b : Nat}
    (h0 : ∀ t : Fin N, t.val % J = 0 → ∀ y, f t.val t.isLt y = prod (turn (x ∘ E t)) (w ∘ W t) y)
    (hs : ∀ t : Fin N, ¬t.val % J = 0 → ∀ y, f t.val t.isLt y
      = f (t.val - 1) (Nat.lt_of_le_of_lt (Nat.sub_le _ _) t.isLt) y + prod (turn (x ∘ E t)) (w ∘ W t) y)
    (t : Fin N) (h : t.val % J = J - 1) (hk : k' = J * k) (hE : ∀ s : Fin J, At (E (point t h s)) (s.val * k) a)
    (hW : ∀ s : Fin J, At (W (point t h s)) (s.val * k) b) (hE' : At E' a b) (y : (S2 n l).Idx) :
    f t.val t.isLt y = prod (turn x) w (E' y) :=
  (steps_sum f _ h0 hs t h y).trans (turn_prod_sum hk hE hW hE' y)

end Cert.Layer
-- ==== Proof.Rows.lean ====
/-

The calls that work on the rows of the tokens one by one.
-/
module

public import proofs.«01_k».proof.Defs
public import proofs.«01_k».proof.Proof.Layer
public import proofs.«01_k».proof.Proof.Gen.Rms
public import proofs.«01_k».proof.Proof.Gen.RmsIdeal.Value
public import proofs.«01_k».proof.Proof.Gen.RmsRefIdeal.Run
public import proofs.«01_k».proof.Proof.Gen.Relu
public import proofs.«01_k».proof.Proof.Gen.ReluIdeal.Value
public import proofs.«01_k».proof.Proof.Gen.ReluRefIdeal.Run
public import proofs.«01_k».proof.Proof.Gen.Merge
public import proofs.«01_k».proof.Proof.Gen.MergeIdeal.Value
public import proofs.«01_k».proof.Proof.Gen.MergeRefIdeal.Run
public import proofs.«01_k».proof.Proof.Gen.MlaNorm
public import proofs.«01_k».proof.Proof.Gen.MlaNormIdeal.Value
public import proofs.«01_k».proof.Proof.Gen.MlaNormRefIdeal.Run

@[expose] public section

set_option Elab.async false

noncomputable section

open Idealize.ShloMosaic Idealize.ShloMosaic.TcCoe
open Idealize.SL.Sem

/-! ## The norm of the rows -/

namespace Cert.RmsIdeal

open Cert.RmsIdeal.Gen

variable (m : (ℓ : Loc nD τ sig) → Buf (Elt Ideal) ℓ) (c : Dev nD)

theorem index : ∀ t, win0_0.index t = ![(grid0.coords t 0).val, 0] ∧ win0_1.index t = ![0, 0]
    ∧ win0_2.index t = ![(grid0.coords t 0).val, 0] := by
  decide +kernel

theorem block (x : Vec Ideal S512x1024 .f32) (g : Vec Ideal S1x1024 .f32) (y : S512x1024.Idx) : k0_pay1 x g y = Layer.norm 0x44800000#32 x g y := by
  unfold k0_pay1 Layer.norm Layer.scale Layer.square
  pointwise

theorem out : (dats m 0 c).arrAt 2 cfg0.N = Layer.norm 0x44800000#32 (m ((c : Thread nD τ).loc main_arg0)) (m ((c : Thread nD τ).loc main_arg1)) := by
  refine (dats m 0 c).arrAt_eq_of_covers 2 _ (by decide +kernel) fun t _ y => ?_
  blk_simp
  rw [after0_2]; frame_out; rw [block]
  obtain ⟨e₀, e₁, e₂⟩ := index t
  exact Layer.norm_block (E := (win0_0.blk t).view.emb) (G := (win0_1.blk t).view.emb) (a := (grid0.coords t 0).val * 512)
    (fun z => ⟨by blk_simp [e₀], by blk_simp [e₀]⟩) (fun z => ⟨by blk_simp [e₁], by blk_simp [e₁]⟩)
    (fun z => ⟨by blk_simp [e₂], by blk_simp [e₂]⟩) y

theorem host (x : FVec Ideal Cert.RmsRefIdeal.S4096x1024 .f32) (g : FVec Ideal Cert.RmsRefIdeal.S1x1024 .f32) :
  (open Cert.RmsRefIdeal Cert.RmsRefIdeal.Gen in mulf (mulf x (broadcastInDim S4096x1024 ![0, 1] bcast_S4096x1_S4096x1024_0_1
    (Host.rsqrt (addf (Host.divf (broadcastInDim S4096x1 ![0] bcast_S4096_S4096x1_0 (Host.reduceAdd (mulf x x)
      (constant S_ .f32 0x00000000#32) reducesTo_S4096x1024_S4096_d1 h_S_)) (broadcastInDim S4096x1 ![] bcast_S_S4096x1
      (constant S_ .f32 0x44800000#32))) (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1
      (shapeCast _ g shapeCasts_S1x1024_S1024)))) = Layer.norm 0x44800000#32 x g := by
  funext y
  unfold Layer.norm Layer.scale Layer.square
  pointwise

theorem frame : Cert.quiescent_RmsIdeal := fun m g _ => Gen.frame (F := Ideal) m g

theorem defs₀_eq : Cert.Rms.defs₀ (F := Bits) = defs₀ := congrArg Defs.onTc (funext fun l => by fin_cases l; rfl)

theorem frame_kernel : Cert.quiescent_Rms := fun m g _ => by
  unfold Cert.Rms.defs
  rw [defs₀_eq]
  exact Gen.frame (F := Bits) m g

theorem frame_ref : Cert.quiescent_RmsRefIdeal := fun m g _ =>
  (θ_run Cert.RmsRefIdeal.defs _ _).mono (fun r h => ⟨fun c => (h c).2, sem_eq_zero_of_no_sems (by decide) r.2⟩)
    (Cert.RmsRefIdeal.Value.run (F := Ideal) m g)

theorem algebraic : Cert.algebraic_RmsIdeal_RmsRefIdeal := by
  intro m g m' g' _ hm
  refine ⟨_, Value.run_blocks m g,
    (θ_run Cert.RmsRefIdeal.defs _ _).mono (fun r h c => ?_) (Cert.RmsRefIdeal.Value.run (F := Ideal) m' g')⟩
  obtain ⟨h0, h1⟩ := h c
  obtain ⟨e0, e1⟩ := hm c
  simp only [e0, e1] at h0
  exact ⟨h0.trans ((host _ _).trans (out m c).symm), h1⟩

end Cert.RmsIdeal

/-! ## The square of what is above zero -/

namespace Cert.ReluIdeal

open Cert.ReluIdeal.Gen

variable (m : (ℓ : Loc nD τ sig) → Buf (Elt Ideal) ℓ) (c : Dev nD)

/-- The square of the number, if it is above zero. -/
def square (x : Ideal .f32) : Ideal .f32 :=
  FloatOps.mulf (φ := .f32) (FloatOps.maximumf (φ := .f32) x (Scalar.ofBits .f32 0#32)) (FloatOps.maximumf (φ := .f32) x (Scalar.ofBits .f32 0#32))

theorem out : (dats m 0 c).arrAt 1 cfg0.N = fun i => square (m ((c : Thread nD τ).loc main_arg0) i) := by
  refine (dats m 0 c).arrAt_eq_of_covers 1 _ (by decide +kernel) fun t _ y => ?_
  blk_simp
  rw [after0_1]; frame_out
  rfl

theorem frame : Cert.quiescent_ReluIdeal := fun m g _ => Gen.frame (F := Ideal) m g

theorem defs₀_eq : Cert.Relu.defs₀ (F := Bits) = defs₀ := congrArg Defs.onTc (funext fun l => by fin_cases l; rfl)

theorem frame_kernel : Cert.quiescent_Relu := fun m g _ => by
  unfold Cert.Relu.defs
  rw [defs₀_eq]
  exact Gen.frame (F := Bits) m g

theorem frame_ref : Cert.quiescent_ReluRefIdeal := fun m g _ =>
  (θ_run Cert.ReluRefIdeal.defs _ _).mono (fun r h => ⟨fun c => (h c).2, sem_eq_zero_of_no_sems (by decide) r.2⟩)
    (Cert.ReluRefIdeal.Value.run (F := Ideal) m g)

theorem algebraic : Cert.algebraic_ReluIdeal_ReluRefIdeal := by
  intro m g m' g' _ hm
  refine ⟨_, Value.run_blocks m g,
    (θ_run Cert.ReluRefIdeal.defs _ _).mono (fun r h c => ?_) (Cert.ReluRefIdeal.Value.run (F := Ideal) m' g')⟩
  obtain ⟨h0, h1⟩ := h c
  simp only [hm c] at h0
  exact ⟨h0.trans (out m c).symm, h1⟩

end Cert.ReluIdeal

/-! ## The gated sum of the three mixers -/

namespace Cert.MergeIdeal

open Cert.MergeIdeal.Gen

variable (m : (ℓ : Loc nD τ sig) → Buf (Elt Ideal) ℓ) (c : Dev nD)

/-- The column `off` columns after the column of `i`. -/
abbrev gate {n : Nat} (off : Nat) (h : off + 1024 ≤ 3072) (i : (Adam.S2 n 1024).Idx) : (Adam.S2 n 3072).Idx :=
  ix2 (i 0) ⟨off + (i 1).val, Nat.lt_of_lt_of_le (Nat.add_lt_add_left (i 1).isLt off) h⟩

/-- The three matrices, each times the logistic of its third of the gates, added. -/
def merged {n : Nat} (g : (Adam.S2 n 3072).Idx → EReal) (p q r : (Adam.S2 n 1024).Idx → EReal) (i : (Adam.S2 n 1024).Idx) : EReal :=
  Ideal.logistic (g (gate 0 (by decide) i)) * p i + Ideal.logistic (g (gate 1024 (by decide) i)) * q i
    + Ideal.logistic (g (gate 2048 (by decide) i)) * r i

theorem index : ∀ t, win0_0.index t = ![(grid0.coords t 0).val, 0] ∧ win0_4.index t = ![(grid0.coords t 0).val, 0] := by
  decide +kernel

theorem block (g : Vec Ideal S256x3072 .f32) (p q r : Vec Ideal S256x1024 .f32) (y : S256x1024.Idx) :
    k0_pay1 g p q r y = merged g p q r y := by
  unfold k0_pay1 merged gate
  pointwise

theorem out : (dats m 0 c).arrAt 4 cfg0.N = merged (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4]; frame_out; rw [block]
  obtain ⟨e₀, e₄⟩ := index t
  have e : ∀ off h, (win0_0.blk t).view.emb (gate off h y) = gate off h ((win0_4.blk t).view.emb y) := fun off h =>
    Layer.ext2
      (by show _ = ((win0_4.blk t).view.emb y 0).val; blk_simp [e₀, e₄]; rfl)
      (by show _ = off + ((win0_4.blk t).view.emb y 1).val; blk_simp [e₀, e₄]; rfl)
  exact congrArg₂ (· + ·) (congrArg₂ (· + ·)
    (congrArg (fun i => Ideal.logistic (m ((c : Thread nD τ).loc main_arg0) i) * m ((c : Thread nD τ).loc main_arg1) ((win0_4.blk t).view.emb y)) (e _ _))
    (congrArg (fun i => Ideal.logistic (m ((c : Thread nD τ).loc main_arg0) i) * m ((c : Thread nD τ).loc main_arg2) ((win0_4.blk t).view.emb y)) (e _ _)))
    (congrArg (fun i => Ideal.logistic (m ((c : Thread nD τ).loc main_arg0) i) * m ((c : Thread nD τ).loc main_arg3) ((win0_4.blk t).view.emb y)) (e _ _))

theorem frame : Cert.quiescent_MergeIdeal := fun m g _ => Gen.frame (F := Ideal) m g

theorem defs₀_eq : Cert.Merge.defs₀ (F := Bits) = defs₀ := congrArg Defs.onTc (funext fun l => by fin_cases l; rfl)

theorem frame_kernel : Cert.quiescent_Merge := fun m g _ => by
  unfold Cert.Merge.defs
  rw [defs₀_eq]
  exact Gen.frame (F := Bits) m g

theorem frame_ref : Cert.quiescent_MergeRefIdeal := fun m g _ =>
  (θ_run Cert.MergeRefIdeal.defs _ _).mono (fun r h => ⟨fun c => (h c).2, sem_eq_zero_of_no_sems (by decide) r.2⟩)
    (Cert.MergeRefIdeal.Value.run (F := Ideal) m g)

theorem algebraic : Cert.algebraic_MergeIdeal_MergeRefIdeal := by
  intro m g m' g' _ hm
  refine ⟨_, Value.run_blocks m g,
    (θ_run Cert.MergeRefIdeal.defs _ _).mono (fun r h c => ?_) (Cert.MergeRefIdeal.Value.run (F := Ideal) m' g')⟩
  obtain ⟨h0, h1⟩ := h c
  obtain ⟨e0, e1, e2, e3⟩ := hm c
  simp only [e0, e1, e2, e3] at h0
  refine ⟨h0.trans (Eq.trans (funext fun y => ?_) (out m c).symm), h1⟩
  unfold merged gate Ideal.logistic
  pointwise

end Cert.MergeIdeal

/-! ## The norms of the two compressed rows of the attention -/

namespace Cert.MlaNormIdeal

open Cert.MlaNormIdeal.Gen

variable (m : (ℓ : Loc nD τ sig) → Buf (Elt Ideal) ℓ) (c : Dev nD)

theorem index : ∀ t, win0_0.index t = ![(grid0.coords t 0).val, 0] ∧ win0_1.index t = ![(grid0.coords t 0).val, 0]
    ∧ win0_2.index t = ![0, 0] ∧ win0_3.index t = ![0, 0]
    ∧ win0_4.index t = ![(grid0.coords t 0).val, 0] ∧ win0_5.index t = ![(grid0.coords t 0).val, 0] := by
  decide +kernel

theorem block₁ (x : Vec Ideal S512x512 .f32) (g : Vec Ideal S1x512 .f32) (y : S512x512.Idx) :
    k0_pay1 x g y = Layer.norm 0x44000000#32 x g y := by
  unfold k0_pay1 Layer.norm Layer.scale Layer.square
  pointwise

theorem block₂ (x : Vec Ideal S512x256 .f32) (g : Vec Ideal S1x256 .f32) (y : S512x256.Idx) :
    k0_pay2 x g y = Layer.norm 0x43800000#32 x g y := by
  unfold k0_pay2 Layer.norm Layer.scale Layer.square
  pointwise

theorem out₁ : (dats m 0 c).arrAt 4 cfg0.N = Layer.norm 0x44000000#32 (m ((c : Thread nD τ).loc main_arg0))
    (m ((c : Thread nD τ).loc main_arg2)) := by
  refine (dats m 0 c).arrAt_eq_of_covers 4 _ (by decide +kernel) fun t _ y => ?_
  blk_simp
  rw [after0_4]; frame_out; rw [block₁]
  obtain ⟨e₀, -, e₂, -, e₄, -⟩ := index t
  exact Layer.norm_block (E := (win0_0.blk t).view.emb) (G := (win0_2.blk t).view.emb) (a := (grid0.coords t 0).val * 512)
    (fun z => ⟨by blk_simp [e₀], by blk_simp [e₀]⟩) (fun z => ⟨by blk_simp [e₂], by blk_simp [e₂]⟩)
    (fun z => ⟨by blk_simp [e₄], by blk_simp [e₄]⟩) y

theorem out₂ : (dats m 0 c).arrAt 5 cfg0.N = Layer.norm 0x43800000#32 (m ((c : Thread nD τ).loc main_arg1))
    (m ((c : Thread nD τ).loc main_arg3)) := by
  refine (dats m 0 c).arrAt_eq_of_covers 5 _ (by decide +kernel) fun t _ y => ?_
  blk_simp
  rw [after0_5]; frame_out; rw [block₂]
  obtain ⟨-, e₁, -, e₃, -, e₅⟩ := index t
  exact Layer.norm_block (E := (win0_1.blk t).view.emb) (G := (win0_3.blk t).view.emb) (a := (grid0.coords t 0).val * 512)
    (fun z => ⟨by blk_simp [e₁], by blk_simp [e₁]⟩) (fun z => ⟨by blk_simp [e₃], by blk_simp [e₃]⟩)
    (fun z => ⟨by blk_simp [e₅], by blk_simp [e₅]⟩) y

theorem frame : Cert.quiescent_MlaNormIdeal := fun m g _ => Gen.frame (F := Ideal) m g

theorem defs₀_eq : Cert.MlaNorm.defs₀ (F := Bits) = defs₀ := congrArg Defs.onTc (funext fun l => by fin_cases l; rfl)

theorem frame_kernel : Cert.quiescent_MlaNorm := fun m g _ => by
  unfold Cert.MlaNorm.defs
  rw [defs₀_eq]
  exact Gen.frame (F := Bits) m g

theorem frame_ref : Cert.quiescent_MlaNormRefIdeal := fun m g _ =>
  (θ_run Cert.MlaNormRefIdeal.defs _ _).mono (fun r h => ⟨fun c => (h c).2.2, sem_eq_zero_of_no_sems (by decide) r.2⟩)
    (Cert.MlaNormRefIdeal.Value.run (F := Ideal) m g)

theorem algebraic : Cert.algebraic_MlaNormIdeal_MlaNormRefIdeal := by
  intro m g m' g' _ hm
  refine ⟨_, _, Value.run_blocks m g,
    (θ_run Cert.MlaNormRefIdeal.defs _ _).mono (fun r h c => ?_) (Cert.MlaNormRefIdeal.Value.run (F := Ideal) m' g')⟩
  obtain ⟨h0, h1, h2⟩ := h c
  obtain ⟨e0, e1, e2, e3⟩ := hm c
  simp only [e0, e2] at h0
  simp only [e1, e3] at h1
  refine ⟨h0.trans (Eq.trans (funext fun y => ?_) (out₁ m c).symm), h1.trans (Eq.trans (funext fun y => ?_) (out₂ m c).symm), h2⟩
  all_goals
    unfold Layer.norm Layer.scale Layer.square
    pointwise

end Cert.MlaNormIdeal
-- ==== Proof.Loss.lean ====
/-

The loss of one device's tokens.
-/
module

public import proofs.«01_k».proof.Defs
public import proofs.«01_k».proof.Proof.Layer
public import proofs.«01_k».proof.Proof.Gen.Loss
public import proofs.«01_k».proof.Proof.Gen.LossIdeal.Value
public import proofs.«01_k».proof.Proof.Gen.LossRefIdeal.Run

@[expose] public section

set_option Elab.async false

noncomputable section

open Idealize.ShloMosaic Idealize.ShloMosaic.TcCoe
open Idealize.SL.Sem

namespace Cert.LossIdeal

open Cert.LossIdeal.Gen
open Adam (S2)
open Layer (At)

/-! ## The loss of some tokens, and of all tile by tile -/

/-- The mean of the squares of what a token's normed row misses its target by. -/
def miss {n : Nat} (x t : (S2 n 1024).Idx → EReal) (g : (S2 1 1024).Idx → EReal) (r : Fin n) : EReal :=
  Ideal.div (∑ k : Fin 1024, (Layer.norm 0x44800000#32 x g (ix2 r k) - t (ix2 r k)) * (Layer.norm 0x44800000#32 x g (ix2 r k) - t (ix2 r k)))
    (Ideal.ofBits .f32 0x44800000#32)

/-- Half the sum over the tokens. -/
def loss {n : Nat} (x t : (S2 n 1024).Idx → EReal) (g : (S2 1 1024).Idx → EReal) : EReal :=
  Ideal.ofBits .f32 0x3F000000#32 * ∑ r, miss x t g r

theorem ofBits_half : Ideal.ofBits .f32 0x3F000000#32 = (((1 : ℝ) / 2 : ℝ) : EReal) := by
  simp [Ideal.ofBits, Ideal.ieee, -EReal.coe_mul]
  norm_num

theorem half_mul_sum {n : Nat} (f : Fin n → EReal) :
    ∑ s, Ideal.ofBits .f32 0x3F000000#32 * f s = Ideal.ofBits .f32 0x3F000000#32 * ∑ s, f s := by
  rw [ofBits_half]
  induction n with
  | zero => simp
  | succ n ih =>
    rw [Fin.sum_univ_succ, Fin.sum_univ_succ, ih,
      EReal.left_distrib_of_nonneg_of_ne_top (EReal.coe_nonneg.mpr (by norm_num)) (EReal.coe_ne_top _)]

theorem miss_block {n n' : Nat} {x t : (S2 n' 1024).Idx → EReal} {g : (S2 1 1024).Idx → EReal} {E T : (S2 n 1024).Idx → (S2 n' 1024).Idx}
    {G : (S2 1 1024).Idx → (S2 1 1024).Idx} {a : Nat} (hE : At E a 0) (hT : At T a 0) (hG : At G 0 0) (r : Fin n) (h : a + r.val < n') :
    miss (x ∘ E) (t ∘ T) (g ∘ G) r = miss x t g ⟨a + r.val, h⟩ := by
  have e : ∀ k : Fin 1024, E (ix2 r k) = ix2 ⟨a + r.val, h⟩ k := fun k => Layer.ext2 (hE _).1 ((hE _).2.trans (Nat.zero_add _))
  have e' : ∀ k : Fin 1024, T (ix2 r k) = ix2 ⟨a + r.val, h⟩ k := fun k => Layer.ext2 (hT _).1 ((hT _).2.trans (Nat.zero_add _))
  simp only [miss, Layer.norm_block hE hG hE, Function.comp, e, e']

/-- The losses of eight tiles of tokens add up to the loss of all. -/
theorem loss_sum {J n n' : Nat} {x t : (S2 n' 1024).Idx → EReal} {g : (S2 1 1024).Idx → EReal} {E T : Fin J → (S2 n 1024).Idx → (S2 n' 1024).Idx}
    {G : Fin J → (S2 1 1024).Idx → (S2 1 1024).Idx} (hn : n' = J * n) (hE : ∀ s, At (E s) (s.val * n) 0) (hT : ∀ s, At (T s) (s.val * n) 0)
    (hG : ∀ s, At (G s) 0 0) : ∑ s : Fin J, loss (x ∘ E s) (t ∘ T s) (g ∘ G s) = loss x t g := by
  unfold loss
  rw [half_mul_sum]
  exact congrArg _ (Fin.sum_mul_add_congr (fun s r hl => miss_block (hE s) (hT s) (hG s) r hl) hn)

/-! ## The call -/

variable (m : (ℓ : Loc nD τ sig) → Buf (Elt Ideal) ℓ) (c : Dev nD)

theorem index : ∀ t, win0_0.index t = ![t.val, 0] ∧ win0_1.index t = ![t.val, 0] ∧ win0_2.index t = ![0, 0] := by
  decide +kernel

theorem block (x t : Vec Ideal S512x1024 .f32) (g : Vec Ideal S1x1024 .f32) (y : S8x128.Idx) : k0_pay1 x t g y = loss x t g := by
  unfold k0_pay1 loss miss Layer.norm Layer.scale Layer.square
  pointwise

theorem added (t : Fin cfg0.N) (h : t.val % 8 = 7) (y : S8x128.Idx) : outsAt0 m c t.val t.isLt y = 0 + ∑ s : Fin cfg0.N,
    loss (iblk m c 0 s) (iblk m c 1 s) (iblk m c 2 s) := by
  refine Pipeline.eq_sum_fin_of_reset_step_apply_last (fun n h => outsAt0 m c n h) 8 (fun _ => (0 : EReal))
    (fun s _ => loss (iblk m c 0 s) (iblk m c 1 s) (iblk m c 2 s)) (fun t h y => ?_) (fun t h y => ?_) (by decide) t
    (by have := t.isLt; have e : cfg0.N = 8 := N_0; omega) y
  · show outsAt0 m c t.val t.isLt y = _
    rw [outsAt0_A m c t h (by have := t.isLt; have e : cfg0.N = 8 := N_0; omega)]; frame_out
    exact (block _ _ _ y).trans (zero_add _).symm
  · show outsAt0 m c t.val t.isLt y = _
    rw [outsAt0_B m c t h (by omega)]; frame_out
    unfold k0_pay2
    pointwise [block]

theorem out : (dats m 0 c).arrAt 3 cfg0.N = fun _ => loss (m ((c : Thread nD τ).loc main_arg0)) (m ((c : Thread nD τ).loc main_arg1))
    (m ((c : Thread nD τ).loc main_arg2)) := by
  refine (dats m 0 c).arrAt_eq_of_covers 3 _ (by decide +kernel) fun t h y => ?_
  have h := (flush0_3 t).mp h
  blk_simp
  rw [after0_3, added m c t h, zero_add]
  exact loss_sum (J := 8) (n := 512) (E := fun s => (win0_0.blk s).view.emb) (T := fun s => (win0_1.blk s).view.emb)
    (G := fun s => (win0_2.blk s).view.emb) rfl
    (fun s z => by obtain ⟨e, -, -⟩ := index s; exact ⟨by blk_simp [e], by blk_simp [e]⟩)
    (fun s z => by obtain ⟨-, e, -⟩ := index s; exact ⟨by blk_simp [e], by blk_simp [e]⟩)
    (fun s z => by obtain ⟨-, -, e⟩ := index s; exact ⟨by blk_simp [e], by blk_simp [e]⟩)

theorem frame : Cert.quiescent_LossIdeal := fun m g _ => Gen.frame (F := Ideal) m g

theorem defs₀_eq : Cert.Loss.defs₀ (F := Bits) = defs₀ := congrArg Defs.onTc (funext fun l => by fin_cases l; rfl)

theorem frame_kernel : Cert.quiescent_Loss := fun m g _ => by
  unfold Cert.Loss.defs
  rw [defs₀_eq]
  exact Gen.frame (F := Bits) m g

theorem frame_ref : Cert.quiescent_LossRefIdeal := fun m g _ =>
  (θ_run Cert.LossRefIdeal.defs _ _).mono (fun r h => ⟨fun c => (h c).2, sem_eq_zero_of_no_sems (by decide) r.2⟩)
    (Cert.LossRefIdeal.Value.run (F := Ideal) m g)

theorem algebraic : Cert.algebraic_LossIdeal_LossRefIdeal := by
  intro m g m' g' _ hm
  refine ⟨_, Value.run_blocks m g,
    (θ_run Cert.LossRefIdeal.defs _ _).mono (fun r h c => ?_) (Cert.LossRefIdeal.Value.run (F := Ideal) m' g')⟩
  obtain ⟨h0, h1⟩ := h c
  obtain ⟨e0, e1, e2⟩ := hm c
  simp only [e0, e1, e2] at h0
  refine ⟨h0.trans (Eq.trans (funext fun y => ?_) (out m c).symm), h1⟩
  unfold loss miss Layer.norm Layer.scale Layer.square
  pointwise

end Cert.LossIdeal
-- ==== Proof.Products.lean ====
/-

The products of the tokens and a weight.
-/
module

public import proofs.«01_k».proof.Defs
public import proofs.«01_k».proof.Proof.Layer
public import proofs.«01_k».proof.Proof.Sides
public import proofs.«01_k».proof.Proof.Gen.MmIn
public import proofs.«01_k».proof.Proof.Gen.MmInIdeal.Value
public import proofs.«01_k».proof.Proof.Gen.MmInRefIdeal.Run
public import proofs.«01_k».proof.Proof.Gen.MmUq
public import proofs.«01_k».proof.Proof.Gen.MmUqIdeal.Value
public import proofs.«01_k».proof.Proof.Gen.MmUqRefIdeal.Run
public import proofs.«01_k».proof.Proof.Gen.MmUkv
public import proofs.«01_k».proof.Proof.Gen.MmUkvIdeal.Value
public import proofs.«01_k».proof.Proof.Gen.MmUkvRefIdeal.Run
public import proofs.«01_k».proof.Proof.Gen.MmOut
public import proofs.«01_k».proof.Proof.Gen.MmOutIdeal.Value
public import proofs.«01_k».proof.Proof.Gen.MmOutRefIdeal.Run
public import proofs.«01_k».proof.Proof.Gen.MmUp
public import proofs.«01_k».proof.Proof.Gen.MmUpIdeal.Value
public import proofs.«01_k».proof.Proof.Gen.MmUpRefIdeal.Run
public import proofs.«01_k».proof.Proof.Gen.MmDown
public import proofs.«01_k».proof.Proof.Gen.MmDownIdeal.Value
public import proofs.«01_k».proof.Proof.Gen.MmDownRefIdeal.Run

@[expose] public section

set_option Elab.async false

noncomputable section

open Idealize.ShloMosaic Idealize.ShloMosaic.TcCoe
open Idealize.SL.Sem

/-! ## The product with `w_in` -/

namespace Cert.MmInIdeal

open Cert.MmInIdeal.Gen

theorem block (x : Vec Ideal S512x1024 .f32) (w : Vec Ideal S1024x640 .bf16) (y : S512x640.Idx) : k0_pay1 x w y = Layer.prod x w y := by
  unfold k0_pay1 Layer.prod
  pointwise

theorem out (m : (ℓ : Loc nD τ sig) → Buf (Elt Ideal) ℓ) (c : Dev nD) :
    (dats m 0 c).arrAt 2 cfg0.N = Layer.prod (m ((c : Thread nD τ).loc main_arg0)) (m ((c : Thread nD τ).loc main_arg1)) := by
  have e : ∀ t, win0_0.index t = ![(grid0.coords t 0).val, 0] ∧ win0_1.index t = ![0, (grid0.coords t 1).val]
      ∧ win0_2.index t = ![(grid0.coords t 0).val, (grid0.coords t 1).val] := by decide +kernel
  refine (dats m 0 c).arrAt_eq_of_covers 2 _ (by decide +kernel) fun t _ y => ?_
  blk_simp
  rw [after0_2]; unfold outsAt0; frame_out; rw [block]
  exact Layer.prod_block (E := (win0_0.blk t).view.emb) (W := (win0_1.blk t).view.emb) (a := (grid0.coords t 0).val * 512)
    (b := (grid0.coords t 1).val * 640) (fun z => ⟨by blk_simp [(e t).1], by blk_simp [(e t).1]⟩)
    (fun z => ⟨by blk_simp [(e t).2.1], by blk_simp [(e t).2.1]⟩) (fun z => ⟨by blk_simp [(e t).2.2], by blk_simp [(e t).2.2]⟩) y

theorem frame : Cert.quiescent_MmInIdeal := fun m g _ => Gen.frame m g

theorem frame_kernel : Cert.quiescent_MmIn := fun m g _ =>
  Sides.over (congrArg (Pipeline.defs _) (congrArg Defs.onTc (funext fun l => by fin_cases l; rfl))) (Gen.frame (F := Bits) m g)

theorem frame_ref : Cert.quiescent_MmInRefIdeal := fun m g _ =>
  Sides.quiet (by decide) (fun _ _ h => h.2) (Cert.MmInRefIdeal.Value.run m g)

theorem algebraic : Cert.algebraic_MmInIdeal_MmInRefIdeal := fun m g m' g' _ hm =>
  ⟨_, Value.run_blocks m g, (θ_run _ _ _).mono (fun r h c => by
    refine ⟨(h c).1.trans (Eq.trans (funext fun y => ?_) (out m c).symm), (h c).2⟩
    rw [(hm c).1, (hm c).2]
    unfold Layer.prod
    pointwise) (Cert.MmInRefIdeal.Value.run m' g')⟩

end Cert.MmInIdeal

/-! ## The product with `mla_w_uq` -/

namespace Cert.MmUqIdeal

open Cert.MmUqIdeal.Gen

theorem block (x : Vec Ideal S512x512 .f32) (w : Vec Ideal S512x1024 .bf16) (y : S512x1024.Idx) : k0_pay1 x w y = Layer.prod x w y := by
  unfold k0_pay1 Layer.prod
  pointwise

theorem out (m : (ℓ : Loc nD τ sig) → Buf (Elt Ideal) ℓ) (c : Dev nD) :
    (dats m 0 c).arrAt 2 cfg0.N = Layer.prod (m ((c : Thread nD τ).loc main_arg0)) (m ((c : Thread nD τ).loc main_arg1)) := by
  have e : ∀ t, win0_0.index t = ![(grid0.coords t 0).val, 0] ∧ win0_1.index t = ![0, (grid0.coords t 1).val]
      ∧ win0_2.index t = ![(grid0.coords t 0).val, (grid0.coords t 1).val] := by decide +kernel
  refine (dats m 0 c).arrAt_eq_of_covers 2 _ (by decide +kernel) fun t _ y => ?_
  blk_simp
  rw [after0_2]; unfold outsAt0; frame_out; rw [block]
  exact Layer.prod_block (E := (win0_0.blk t).view.emb) (W := (win0_1.blk t).view.emb) (a := (grid0.coords t 0).val * 512)
    (b := (grid0.coords t 1).val * 1024) (fun z => ⟨by blk_simp [(e t).1], by blk_simp [(e t).1]⟩)
    (fun z => ⟨by blk_simp [(e t).2.1], by blk_simp [(e t).2.1]⟩) (fun z => ⟨by blk_simp [(e t).2.2], by blk_simp [(e t).2.2]⟩) y

theorem frame : Cert.quiescent_MmUqIdeal := fun m g _ => Gen.frame m g

theorem frame_kernel : Cert.quiescent_MmUq := fun m g _ =>
  Sides.over (congrArg (Pipeline.defs _) (congrArg Defs.onTc (funext fun l => by fin_cases l; rfl))) (Gen.frame (F := Bits) m g)

theorem frame_ref : Cert.quiescent_MmUqRefIdeal := fun m g _ =>
  Sides.quiet (by decide) (fun _ _ h => h.2) (Cert.MmUqRefIdeal.Value.run m g)

theorem algebraic : Cert.algebraic_MmUqIdeal_MmUqRefIdeal := fun m g m' g' _ hm =>
  ⟨_, Value.run_blocks m g, (θ_run _ _ _).mono (fun r h c => by
    refine ⟨(h c).1.trans (Eq.trans (funext fun y => ?_) (out m c).symm), (h c).2⟩
    rw [(hm c).1, (hm c).2]
    unfold Layer.prod
    pointwise) (Cert.MmUqRefIdeal.Value.run m' g')⟩

end Cert.MmUqIdeal

/-! ## The product with `mla_w_ukv` -/

namespace Cert.MmUkvIdeal

open Cert.MmUkvIdeal.Gen

theorem block (x : Vec Ideal S512x256 .f32) (w : Vec Ideal S256x1024 .bf16) (y : S512x1024.Idx) : k0_pay1 x w y = Layer.prod x w y := by
  unfold k0_pay1 Layer.prod
  pointwise

theorem out (m : (ℓ : Loc nD τ sig) → Buf (Elt Ideal) ℓ) (c : Dev nD) :
    (dats m 0 c).arrAt 2 cfg0.N = Layer.prod (m ((c : Thread nD τ).loc main_arg0)) (m ((c : Thread nD τ).loc main_arg1)) := by
  have e : ∀ t, win0_0.index t = ![(grid0.coords t 0).val, 0] ∧ win0_1.index t = ![0, (grid0.coords t 1).val]
      ∧ win0_2.index t = ![(grid0.coords t 0).val, (grid0.coords t 1).val] := by decide +kernel
  refine (dats m 0 c).arrAt_eq_of_covers 2 _ (by decide +kernel) fun t _ y => ?_
  blk_simp
  rw [after0_2]; unfold outsAt0; frame_out; rw [block]
  exact Layer.prod_block (E := (win0_0.blk t).view.emb) (W := (win0_1.blk t).view.emb) (a := (grid0.coords t 0).val * 512)
    (b := (grid0.coords t 1).val * 1024) (fun z => ⟨by blk_simp [(e t).1], by blk_simp [(e t).1]⟩)
    (fun z => ⟨by blk_simp [(e t).2.1], by blk_simp [(e t).2.1]⟩) (fun z => ⟨by blk_simp [(e t).2.2], by blk_simp [(e t).2.2]⟩) y

theorem frame : Cert.quiescent_MmUkvIdeal := fun m g _ => Gen.frame m g

theorem frame_kernel : Cert.quiescent_MmUkv := fun m g _ =>
  Sides.over (congrArg (Pipeline.defs _) (congrArg Defs.onTc (funext fun l => by fin_cases l; rfl))) (Gen.frame (F := Bits) m g)

theorem frame_ref : Cert.quiescent_MmUkvRefIdeal := fun m g _ =>
  Sides.quiet (by decide) (fun _ _ h => h.2) (Cert.MmUkvRefIdeal.Value.run m g)

theorem algebraic : Cert.algebraic_MmUkvIdeal_MmUkvRefIdeal := fun m g m' g' _ hm =>
  ⟨_, Value.run_blocks m g, (θ_run _ _ _).mono (fun r h c => by
    refine ⟨(h c).1.trans (Eq.trans (funext fun y => ?_) (out m c).symm), (h c).2⟩
    rw [(hm c).1, (hm c).2]
    unfold Layer.prod
    pointwise) (Cert.MmUkvRefIdeal.Value.run m' g')⟩

end Cert.MmUkvIdeal

/-! ## The product with `w_out` and the weights of its shape -/

namespace Cert.MmOutIdeal

open Cert.MmOutIdeal.Gen

theorem block (x : Vec Ideal S512x1024 .f32) (w : Vec Ideal S1024x1024 .bf16) (y : S512x1024.Idx) : k0_pay1 x w y = Layer.prod x w y := by
  unfold k0_pay1 Layer.prod
  pointwise

theorem out (m : (ℓ : Loc nD τ sig) → Buf (Elt Ideal) ℓ) (c : Dev nD) :
    (dats m 0 c).arrAt 2 cfg0.N = Layer.prod (m ((c : Thread nD τ).loc main_arg0)) (m ((c : Thread nD τ).loc main_arg1)) := by
  have e : ∀ t, win0_0.index t = ![(grid0.coords t 0).val, 0] ∧ win0_1.index t = ![0, (grid0.coords t 1).val]
      ∧ win0_2.index t = ![(grid0.coords t 0).val, (grid0.coords t 1).val] := by decide +kernel
  refine (dats m 0 c).arrAt_eq_of_covers 2 _ (by decide +kernel) fun t _ y => ?_
  blk_simp
  rw [after0_2]; unfold outsAt0; frame_out; rw [block]
  exact Layer.prod_block (E := (win0_0.blk t).view.emb) (W := (win0_1.blk t).view.emb) (a := (grid0.coords t 0).val * 512)
    (b := (grid0.coords t 1).val * 1024) (fun z => ⟨by blk_simp [(e t).1], by blk_simp [(e t).1]⟩)
    (fun z => ⟨by blk_simp [(e t).2.1], by blk_simp [(e t).2.1]⟩) (fun z => ⟨by blk_simp [(e t).2.2], by blk_simp [(e t).2.2]⟩) y

theorem frame : Cert.quiescent_MmOutIdeal := fun m g _ => Gen.frame m g

theorem frame_kernel : Cert.quiescent_MmOut := fun m g _ =>
  Sides.over (congrArg (Pipeline.defs _) (congrArg Defs.onTc (funext fun l => by fin_cases l; rfl))) (Gen.frame (F := Bits) m g)

theorem frame_ref : Cert.quiescent_MmOutRefIdeal := fun m g _ =>
  Sides.quiet (by decide) (fun _ _ h => h.2) (Cert.MmOutRefIdeal.Value.run m g)

theorem algebraic : Cert.algebraic_MmOutIdeal_MmOutRefIdeal := fun m g m' g' _ hm =>
  ⟨_, Value.run_blocks m g, (θ_run _ _ _).mono (fun r h c => by
    refine ⟨(h c).1.trans (Eq.trans (funext fun y => ?_) (out m c).symm), (h c).2⟩
    rw [(hm c).1, (hm c).2]
    unfold Layer.prod
    pointwise) (Cert.MmOutRefIdeal.Value.run m' g')⟩

end Cert.MmOutIdeal

/-! ## The product with `mlp_w_up` -/

namespace Cert.MmUpIdeal

open Cert.MmUpIdeal.Gen

theorem block (x : Vec Ideal S512x1024 .f32) (w : Vec Ideal S1024x1024 .bf16) (y : S512x1024.Idx) : k0_pay1 x w y = Layer.prod x w y := by
  unfold k0_pay1 Layer.prod
  pointwise

theorem out (m : (ℓ : Loc nD τ sig) → Buf (Elt Ideal) ℓ) (c : Dev nD) :
    (dats m 0 c).arrAt 2 cfg0.N = Layer.prod (m ((c : Thread nD τ).loc main_arg0)) (m ((c : Thread nD τ).loc main_arg1)) := by
  have e : ∀ t, win0_0.index t = ![(grid0.coords t 0).val, 0] ∧ win0_1.index t = ![0, (grid0.coords t 1).val]
      ∧ win0_2.index t = ![(grid0.coords t 0).val, (grid0.coords t 1).val] := by decide +kernel
  refine (dats m 0 c).arrAt_eq_of_covers 2 _ (by decide +kernel) fun t _ y => ?_
  blk_simp
  rw [after0_2]; unfold outsAt0; frame_out; rw [block]
  exact Layer.prod_block (E := (win0_0.blk t).view.emb) (W := (win0_1.blk t).view.emb) (a := (grid0.coords t 0).val * 512)
    (b := (grid0.coords t 1).val * 1024) (fun z => ⟨by blk_simp [(e t).1], by blk_simp [(e t).1]⟩)
    (fun z => ⟨by blk_simp [(e t).2.1], by blk_simp [(e t).2.1]⟩) (fun z => ⟨by blk_simp [(e t).2.2], by blk_simp [(e t).2.2]⟩) y

theorem frame : Cert.quiescent_MmUpIdeal := fun m g _ => Gen.frame m g

theorem frame_kernel : Cert.quiescent_MmUp := fun m g _ =>
  Sides.over (congrArg (Pipeline.defs _) (congrArg Defs.onTc (funext fun l => by fin_cases l; rfl))) (Gen.frame (F := Bits) m g)

theorem frame_ref : Cert.quiescent_MmUpRefIdeal := fun m g _ =>
  Sides.quiet (by decide) (fun _ _ h => h.2) (Cert.MmUpRefIdeal.Value.run m g)

theorem algebraic : Cert.algebraic_MmUpIdeal_MmUpRefIdeal := fun m g m' g' _ hm =>
  ⟨_, Value.run_blocks m g, (θ_run _ _ _).mono (fun r h c => by
    refine ⟨(h c).1.trans (Eq.trans (funext fun y => ?_) (out m c).symm), (h c).2⟩
    rw [(hm c).1, (hm c).2]
    unfold Layer.prod
    pointwise) (Cert.MmUpRefIdeal.Value.run m' g')⟩

end Cert.MmUpIdeal

/-! ## The product with `mlp_w_down`, whose contracted axis is cut in four -/

namespace Cert.MmDownIdeal

open Cert.MmDownIdeal.Gen

theorem block (x : Vec Ideal S512x1024 .f32) (w : Vec Ideal S1024x1024 .bf16) (y : S512x1024.Idx) : k0_pay1 x w y = Layer.prod x w y := by
  unfold k0_pay1 Layer.prod
  pointwise

theorem out (m : (ℓ : Loc nD τ sig) → Buf (Elt Ideal) ℓ) (c : Dev nD) :
    (dats m 0 c).arrAt 2 cfg0.N = Layer.prod (m ((c : Thread nD τ).loc main_arg0)) (m ((c : Thread nD τ).loc main_arg1)) := by
  have e : ∀ (t : Fin cfg0.N) (h : t.val % 4 = 3) (s : Fin 4), win0_0.index (Layer.point t h s) = ![(grid0.coords t 0).val, s.val]
      ∧ win0_1.index (Layer.point t h s) = ![s.val, (grid0.coords t 1).val]
      ∧ win0_2.index t = ![(grid0.coords t 0).val, (grid0.coords t 1).val] := by decide +kernel
  refine (dats m 0 c).arrAt_eq_of_covers 2 _ (by decide +kernel) fun t h y => ?_
  have h := (flush0_2 t).mp h
  blk_simp
  rw [after0_2]
  refine Layer.prod_run (J := 4) (f := fun n h => outsAt0 m c n h) (E := fun t => (win0_0.blk t).view.emb) (W := fun t => (win0_1.blk t).view.emb)
    (a := (grid0.coords t 0).val * 512) (b := (grid0.coords t 1).val * 1024) (fun t h y => ?_) (fun t h y => ?_) t h rfl
    (fun s z => ⟨by blk_simp [(e t h s).1], by blk_simp [(e t h s).1]⟩) (fun s z => ⟨by blk_simp [(e t h s).2.1], by blk_simp [(e t h s).2.1]⟩)
    (fun z => ⟨by blk_simp [(e t h 0).2.2], by blk_simp [(e t h 0).2.2]⟩) y
  · show outsAt0 m c t.val t.isLt y = _
    rw [outsAt0_A m c t h (by omega)]; frame_out
    exact block _ _ y
  · show outsAt0 m c t.val t.isLt y = _
    rw [outsAt0_B m c t h (by omega)]; frame_out
    unfold k0_pay2
    pointwise [block]
    rfl

theorem frame : Cert.quiescent_MmDownIdeal := fun m g _ => Gen.frame m g

theorem frame_kernel : Cert.quiescent_MmDown := fun m g _ =>
  Sides.over (congrArg (Pipeline.defs _) (congrArg Defs.onTc (funext fun l => by fin_cases l; rfl))) (Gen.frame (F := Bits) m g)

theorem frame_ref : Cert.quiescent_MmDownRefIdeal := fun m g _ =>
  Sides.quiet (by decide) (fun _ _ h => h.2) (Cert.MmDownRefIdeal.Value.run m g)

theorem algebraic : Cert.algebraic_MmDownIdeal_MmDownRefIdeal := fun m g m' g' _ hm =>
  ⟨_, Value.run_blocks m g, (θ_run _ _ _).mono (fun r h c => by
    refine ⟨(h c).1.trans (Eq.trans (funext fun y => ?_) (out m c).symm), (h c).2⟩
    rw [(hm c).1, (hm c).2]
    unfold Layer.prod
    pointwise) (Cert.MmDownRefIdeal.Value.run m' g')⟩

end Cert.MmDownIdeal
-- ==== Proof.Groups.lean ====
/-

The branches after their scans: each group of columns of a row normed by itself, and gated.
-/
module

public import proofs.«01_k».proof.Defs
public import proofs.«01_k».proof.Proof.Layer
public import proofs.«01_k».proof.Proof.Sides
public import proofs.«01_k».proof.Proof.Gen.SsdPost
public import proofs.«01_k».proof.Proof.Gen.SsdPostIdeal.Value
public import proofs.«01_k».proof.Proof.Gen.SsdPostRefIdeal.Run
public import proofs.«01_k».proof.Proof.Gen.GdnPost
public import proofs.«01_k».proof.Proof.Gen.GdnPostIdeal.Value
public import proofs.«01_k».proof.Proof.Gen.GdnPostRefIdeal.Run

@[expose] public section

set_option Elab.async false

noncomputable section

open Idealize.ShloMosaic Idealize.ShloMosaic.TcCoe
open Idealize.SL.Sem

namespace Cert.Groups

open Adam (S2)
open Layer (At)

theorem group_lt {q i : Nat} (hq : q ∣ 1024) (hi : i < 1024) (r : Fin q) : i / q * q + r.val < 1024 := by
  obtain ⟨k, hk⟩ := hq
  have h : i / q < k := Nat.div_lt_of_lt_mul (by omega)
  calc i / q * q + r.val < (i / q + 1) * q := by rw [Nat.add_mul, Nat.one_mul]; exact Nat.add_lt_add_left r.isLt _
    _ ≤ k * q := Nat.mul_le_mul_right q h
    _ = 1024 := by rw [Nat.mul_comm, hk]

/-- The `r`-th column of the group of `q` columns that `i` is in. -/
abbrev group {n q : Nat} (hq : q ∣ 1024) (i : (S2 n 1024).Idx) (r : Fin q) : (S2 n 1024).Idx :=
  ix2 (i 0) ⟨(i 1).val / q * q + r.val, group_lt hq (i 1).isLt r⟩

/-- Each group of columns of a row over the root of the mean of its squares; `b` is the number of columns in a group. -/
def normed {n q : Nat} (hq : q ∣ 1024) (b : BitVec 32) (t : (S2 n 1024).Idx → EReal) (i : (S2 n 1024).Idx) : EReal :=
  t i * Ideal.rsqrt (Ideal.div (∑ r : Fin q, t (group hq i r) * t (group hq i r)) (Ideal.ofBits .f32 b) + Ideal.ofBits .f32 0x358637BD#32)

theorem group_of {n q k : Nat} (hq : q ∣ 1024) (y : (S2 n 1024).Idx) (r : Fin q) (hk : k < 1024) (h : k = (y 1).val / q * q + r.val) :
    (ix2 (y 0) ⟨k, hk⟩ : (S2 n 1024).Idx) = group hq y r :=
  Layer.ext2 rfl h

theorem col_of {n k : Nat} (y : (S2 n 1024).Idx) (hk : k < 1024) (h : k = (y 1).val) : (ix2 (y 0) ⟨k, hk⟩ : (S2 n 1024).Idx) = y :=
  Layer.ext2 rfl h

theorem normed_of {n q : Nat} {hq : q ∣ 1024} {b : BitVec 32} (t : (S2 n 1024).Idx → EReal) {y y' : (S2 n 1024).Idx}
    {f : Fin q → (S2 n 1024).Idx} (hy : y' = y) (hf : ∀ r, f r = group hq y r) :
    t y' * Ideal.rsqrt (Ideal.div (∑ r : Fin q, t (f r) * t (f r)) (Ideal.ofBits .f32 b) + Ideal.ofBits .f32 0x358637BD#32)
      = normed hq b t y := by
  simp only [hy, hf]
  rfl

/-- A block of whole rows. -/
theorem normed_block {n n' q : Nat} {hq : q ∣ 1024} {b : BitVec 32} {t : (S2 n 1024).Idx → EReal} {t' : (S2 n' 1024).Idx → EReal}
    {E : (S2 n 1024).Idx → (S2 n' 1024).Idx} {a : Nat} (hE : At E a 0) (ht : ∀ z, t z = t' (E z)) (y : (S2 n 1024).Idx) :
    normed hq b t y = normed hq b t' (E y) := by
  have e : ∀ r, E (group hq y r) = group hq (E y) r := fun r => Layer.ext2 ((hE _).1.trans (hE y).1.symm)
    ((hE _).2.trans (by show 0 + ((y 1).val / q * q + r.val) = (E y 1).val / q * q + r.val; simp only [(hE y).2, Nat.zero_add]))
  simp only [normed, ht, e]

end Cert.Groups

/-! ## Two groups, gated before the norm -/

namespace Cert.SsdPostIdeal

open Cert.SsdPostIdeal.Gen
open Adam (S2)
open Layer (At)
open Groups

/-- A number times the gate times the logistic of the gate. -/
def gated {n : Nat} (a z : (S2 n 1024).Idx → EReal) (i : (S2 n 1024).Idx) : EReal := a i * (z i * Ideal.logistic (z i))

def post {n : Nat} (a z : (S2 n 1024).Idx → EReal) (g : (S2 1 1024).Idx → EReal) (i : (S2 n 1024).Idx) : EReal :=
  normed (q := 512) (by decide) 0x44000000#32 (gated a z) i * g (ix2 0 (i 1))

theorem block (a z : Vec Ideal S512x1024 .f32) (g : Vec Ideal S1x1024 .f32) (y : S512x1024.Idx) : k0_pay1 a z g y = post a z g y := by
  unfold k0_pay1
  pointwise
  have hy : (y 1).val < 1024 := (y 1).isLt
  by_cases h : (y 1).val < 512
  · rw [dif_pos h]
    exact congrArg (fun v : EReal => v * g (ix2 0 (y 1)))
      (normed_of (gated a z) rfl fun r => group_of _ y r _ (by have := r.isLt; omega))
  · rw [dif_neg h]
    exact congrArg₂ (fun v w : EReal => v * w)
      (normed_of (gated a z) (col_of y (by omega) (by omega)) fun r => group_of _ y r (by have := r.isLt; omega) (by have := r.isLt; omega))
      (congrArg g (Layer.ext2 rfl (by show 512 + ((y 1).val - 512) = (y 1).val; omega)))

theorem out (m : (ℓ : Loc nD τ sig) → Buf (Elt Ideal) ℓ) (c : Dev nD) : (dats m 0 c).arrAt 3 cfg0.N
    = post (m ((c : Thread nD τ).loc main_arg0)) (m ((c : Thread nD τ).loc main_arg1)) (m ((c : Thread nD τ).loc main_arg2)) := by
  have e : ∀ t, win0_0.index t = ![(grid0.coords t 0).val, 0] ∧ win0_1.index t = ![(grid0.coords t 0).val, 0] ∧ win0_2.index t = ![0, 0]
      ∧ win0_3.index t = ![(grid0.coords t 0).val, 0] := by decide +kernel
  refine (dats m 0 c).arrAt_eq_of_covers 3 _ (by decide +kernel) fun t _ y => ?_
  obtain ⟨e₀, e₁, e₂, e₃⟩ := e t
  blk_simp
  rw [after0_3]; frame_out; rw [block]
  have hE : At (win0_3.blk t).view.emb ((grid0.coords t 0).val * 512) 0 := fun z => ⟨by blk_simp [e₃], by blk_simp [e₃]⟩
  have h₀ : At (win0_0.blk t).view.emb ((grid0.coords t 0).val * 512) 0 := fun z => ⟨by blk_simp [e₀], by blk_simp [e₀]⟩
  have h₁ : At (win0_1.blk t).view.emb ((grid0.coords t 0).val * 512) 0 := fun z => ⟨by blk_simp [e₁], by blk_simp [e₁]⟩
  refine congrArg₂ (fun v w : EReal => v * w) (normed_block (E := (win0_3.blk t).view.emb) hE (fun z => ?_) y)
    (congrArg (m ((c : Thread nD τ).loc main_arg2)) (Layer.ext2 (by blk_simp [e₂, e₃]) (by blk_simp [e₂, e₃])))
  exact congrArg₂ (fun v w : EReal => v * (w * Ideal.logistic w))
    (congrArg (m ((c : Thread nD τ).loc main_arg0)) (Layer.ext2 ((h₀ z).1.trans (hE z).1.symm) ((h₀ z).2.trans (hE z).2.symm)))
    (congrArg (m ((c : Thread nD τ).loc main_arg1)) (Layer.ext2 ((h₁ z).1.trans (hE z).1.symm) ((h₁ z).2.trans (hE z).2.symm)))

end Cert.SsdPostIdeal

namespace Cert.SsdPostRefIdeal
open Cert.SsdPostRefIdeal.Gen

/-- The reference's norm of the two groups, whatever is normed. -/
theorem groups (t : FVec Ideal S4096x1024 .f32) (g : FVec Ideal S1x1024 .f32) (y : S4096x1024.Idx) :
    shapeCast S4096x1024 (mulf (mulf (shapeCast S4096x2x512 t shapeCasts_S4096x1024_S4096x2x512)
      (broadcastInDim S4096x2x512 ![0, 1, 2] bcast_S4096x2x1_S4096x2x512_0_1_2 (Host.rsqrt (addf (Host.divf
        (broadcastInDim S4096x2x1 ![0, 1] bcast_S4096x2_S4096x2x1_0_1 (Host.reduceAdd (mulf
          (shapeCast S4096x2x512 t shapeCasts_S4096x1024_S4096x2x512) (shapeCast S4096x2x512 t shapeCasts_S4096x1024_S4096x2x512))
          (constant S_ .f32 0x00000000#32) reducesTo_S4096x2x512_S4096x2_d2 h_S_))
        (broadcastInDim S4096x2x1 ![] bcast_S_S4096x2x1 (constant S_ .f32 0x44000000#32)))
        (broadcastInDim S4096x2x1 ![] bcast_S_S4096x2x1 (constant S_ .f32 0x358637BD#32))))))
      (broadcastInDim S4096x2x512 ![0, 1, 2] bcast_S1x2x512_S4096x2x512_0_1_2 (broadcastInDim S1x2x512 ![1, 2] bcast_S2x512_S1x2x512_1_2
        (shapeCast S2x512 g shapeCasts_S1x1024_S2x512)))) shapeCasts_S4096x2x512_S4096x1024 y
      = Groups.normed (q := 512) (by decide) 0x44000000#32 t y * g (ix2 0 (y 1)) := by
  unfold Groups.normed
  pointwise

end Cert.SsdPostRefIdeal

namespace Cert.SsdPostIdeal

open Groups

theorem frame : Cert.quiescent_SsdPostIdeal := fun m g _ => Gen.frame m g

theorem frame_kernel : Cert.quiescent_SsdPost := fun m g _ =>
  Sides.over (congrArg (Pipeline.defs _) (congrArg Defs.onTc (funext fun l => by fin_cases l; rfl))) (Gen.frame (F := Bits) m g)

theorem frame_ref : Cert.quiescent_SsdPostRefIdeal := fun m g _ =>
  Sides.quiet (by decide) (fun _ _ h => h.2) (Cert.SsdPostRefIdeal.Value.run m g)

theorem algebraic : Cert.algebraic_SsdPostIdeal_SsdPostRefIdeal := fun m g m' g' _ hm =>
  ⟨_, Value.run_blocks m g, (θ_run _ _ _).mono (fun r h c => by
    refine ⟨(h c).1.trans (Eq.trans (funext fun y => (SsdPostRefIdeal.groups _ _ y).trans ?_) (out m c).symm), (h c).2⟩
    rw [(hm c).1, (hm c).2.1, (hm c).2.2]
    refine congrArg (fun v : EReal => v * _) (congrArg (fun t => normed _ _ t y) (funext fun i => ?_))
    unfold gated Ideal.logistic
    pointwise) (Cert.SsdPostRefIdeal.Value.run m' g')⟩

end Cert.SsdPostIdeal

/-! ## Eight groups, gated after the norm -/

namespace Cert.GdnPostIdeal

open Cert.GdnPostIdeal.Gen
open Adam (S2)
open Layer (At)
open Groups

def post {n : Nat} (a z : (S2 n 1024).Idx → EReal) (g : (S2 1 128).Idx → EReal) (i : (S2 n 1024).Idx) : EReal :=
  normed (q := 128) (by decide) 0x43000000#32 a i * g (ix2 0 ⟨(i 1).val % 128, Nat.mod_lt _ (by decide)⟩) * (z i * Ideal.logistic (z i))

theorem post_of {n k : Nat} (a z : (S2 n 1024).Idx → EReal) (g : (S2 1 128).Idx → EReal) {y y' : (S2 n 1024).Idx}
    {f : Fin 128 → (S2 n 1024).Idx} (hk : k < 128) (hy : y' = y) (hf : ∀ r, f r = group (by decide) y r) (h : k = (y 1).val % 128) :
    a y' * Ideal.rsqrt (Ideal.div (∑ r : Fin 128, a (f r) * a (f r)) (Ideal.ofBits .f32 0x43000000#32) + Ideal.ofBits .f32 0x358637BD#32)
      * g (ix2 0 ⟨k, hk⟩) * (z y' * Ideal.logistic (z y')) = post a z g y := by
  subst h
  rw [normed_of a hy hf, hy]
  rfl

theorem third (a : Vec Ideal S512x1024 .f32) (i : S512x128.Idx) : k0_pay4 a i = a (ix2 (i 0) ⟨256 + (i 1).val, by
    have : (i 1).val < 128 := (i 1).isLt; omega⟩) := by
  unfold k0_pay4
  pointwise

theorem sixth (a : Vec Ideal S512x1024 .f32) (i : S512x128.Idx) : k0_pay10 a i = a (ix2 (i 0) ⟨640 + (i 1).val, by
    have : (i 1).val < 128 := (i 1).isLt; omega⟩) := by
  unfold k0_pay10
  pointwise

theorem block (a z : Vec Ideal S512x1024 .f32) (g : Vec Ideal S1x128 .f32) (y : S512x1024.Idx) :
    k0_pay1 a z g (k0_pay2 a z g) (k0_pay3 a z g) (k0_pay7 z g (k0_pay4 a) (k0_pay5 a) k0_pay6) (k0_pay8 a z g) (k0_pay9 a z g)
      (k0_pay10 a) (k0_pay11 a) k0_pay12 y = post a z g y := by
  unfold k0_pay1 k0_pay2 k0_pay3 k0_pay5 k0_pay6 k0_pay7 k0_pay8 k0_pay9 k0_pay11 k0_pay12
  pointwise [third, sixth]
  have hy : (y 1).val < 1024 := (y 1).isLt
  split_ifs
  all_goals
    refine post_of a z g _ ?_ (fun r => ?_) ?_
    · first | rfl | exact col_of y _ (by omega)
    · have := r.isLt
      exact group_of _ y r _ (by omega)
    · omega

theorem out (m : (ℓ : Loc nD τ sig) → Buf (Elt Ideal) ℓ) (c : Dev nD) : (dats m 0 c).arrAt 3 cfg0.N
    = post (m ((c : Thread nD τ).loc main_arg0)) (m ((c : Thread nD τ).loc main_arg1)) (m ((c : Thread nD τ).loc main_arg2)) := by
  have e : ∀ t, win0_0.index t = ![(grid0.coords t 0).val, 0] ∧ win0_1.index t = ![(grid0.coords t 0).val, 0] ∧ win0_2.index t = ![0, 0]
      ∧ win0_3.index t = ![(grid0.coords t 0).val, 0] := by decide +kernel
  refine (dats m 0 c).arrAt_eq_of_covers 3 _ (by decide +kernel) fun t _ y => ?_
  obtain ⟨e₀, e₁, e₂, e₃⟩ := e t
  blk_simp
  rw [after0_3]; frame_out; rw [block]
  have hE : At (win0_3.blk t).view.emb ((grid0.coords t 0).val * 512) 0 := fun z => ⟨by blk_simp [e₃], by blk_simp [e₃]⟩
  have h₀ : At (win0_0.blk t).view.emb ((grid0.coords t 0).val * 512) 0 := fun z => ⟨by blk_simp [e₀], by blk_simp [e₀]⟩
  have h₁ : At (win0_1.blk t).view.emb ((grid0.coords t 0).val * 512) 0 := fun z => ⟨by blk_simp [e₁], by blk_simp [e₁]⟩
  refine congrArg₂ (fun v w : EReal => v * w) (congrArg₂ (fun v w : EReal => v * w)
    (normed_block (E := (win0_3.blk t).view.emb) hE (fun z => congrArg (m ((c : Thread nD τ).loc main_arg0)) ?_) y)
    (congrArg (m ((c : Thread nD τ).loc main_arg2)) (Layer.ext2 (by blk_simp [e₂, e₃]) ?_)))
    (congrArg (fun w : EReal => w * Ideal.logistic w) (congrArg (m ((c : Thread nD τ).loc main_arg1)) ?_))
  · exact Layer.ext2 ((h₀ z).1.trans (hE z).1.symm) ((h₀ z).2.trans (hE z).2.symm)
  · show _ = ((win0_3.blk t).view.emb y 1).val % 128
    blk_simp [e₂, e₃]
  · exact Layer.ext2 ((h₁ y).1.trans (hE y).1.symm) ((h₁ y).2.trans (hE y).2.symm)

theorem frame : Cert.quiescent_GdnPostIdeal := fun m g _ => Gen.frame m g

theorem frame_kernel : Cert.quiescent_GdnPost := fun m g _ =>
  Sides.over (congrArg (Pipeline.defs _) (congrArg Defs.onTc (funext fun l => by fin_cases l; rfl))) (Gen.frame (F := Bits) m g)

theorem frame_ref : Cert.quiescent_GdnPostRefIdeal := fun m g _ =>
  Sides.quiet (by decide) (fun _ _ h => h.2) (Cert.GdnPostRefIdeal.Value.run m g)

theorem algebraic : Cert.algebraic_GdnPostIdeal_GdnPostRefIdeal := fun m g m' g' _ hm =>
  ⟨_, Value.run_blocks m g, (θ_run _ _ _).mono (fun r h c => by
    refine ⟨(h c).1.trans (Eq.trans (funext fun y => ?_) (out m c).symm), (h c).2⟩
    rw [(hm c).1, (hm c).2.1, (hm c).2.2]
    unfold post normed Ideal.logistic
    pointwise) (Cert.GdnPostRefIdeal.Value.run m' g')⟩

end Cert.GdnPostIdeal
-- ==== Proof.RowsBack.lean ====
/-

The derivatives of the norm and of the square of what is above zero.
-/
module

public import proofs.«01_k».proof.Defs
public import proofs.«01_k».proof.Proof.Layer
public import proofs.«01_k».proof.Proof.Sides
public import proofs.«01_k».proof.Proof.Gen.RmsBack
public import proofs.«01_k».proof.Proof.Gen.RmsBackIdeal.Value
public import proofs.«01_k».proof.Proof.Gen.RmsBackRefIdeal.Run
public import proofs.«01_k».proof.Proof.Gen.ReluBack
public import proofs.«01_k».proof.Proof.Gen.ReluBackIdeal.Value
public import proofs.«01_k».proof.Proof.Gen.ReluBackRefIdeal.Run

@[expose] public section

set_option Elab.async false

noncomputable section

open Idealize.ShloMosaic Idealize.ShloMosaic.TcCoe
open Idealize.SL.Sem

/-! ## The norm -/

namespace Cert.RmsBackIdeal

open Cert.RmsBackIdeal.Gen
open Adam (S2)

/-- The gradient times the gain. -/
def gained {n : Nat} (ct : (S2 n 1024).Idx → EReal) (g : (S2 1 1024).Idx → EReal) (i : (S2 n 1024).Idx) : EReal := ct i * g (ix2 0 (i 1))

theorem rows (x : Vec Ideal S512x1024 .f32) (g : Vec Ideal S1x1024 .f32) (ct : Vec Ideal S512x1024 .f32) (y : S512x1024.Idx) :
    k0_pay5 x g ct y = Layer.rowBack 0x44800000#32 x (gained ct g) y := by
  unfold k0_pay5 k0_pay3 k0_pay2 Layer.rowBack Layer.pull Layer.scale Layer.square gained
  pointwise
  exact Layer.once _ _ _

theorem gain (x ct : Vec Ideal S512x1024 .f32) (y : S1x1024.Idx) : k0_pay4 x ct y = Layer.gainBack 0x44800000#32 x ct y := by
  unfold k0_pay4 k0_pay3 k0_pay2 Layer.gainBack Layer.scale Layer.square
  pointwise

variable (m : (ℓ : Loc nD τ sig) → Buf (Elt Ideal) ℓ) (c : Dev nD)

theorem index : ∀ t, win0_0.index t = ![t.val, 0] ∧ win0_1.index t = ![0, 0] ∧ win0_2.index t = ![t.val, 0]
    ∧ win0_3.index t = ![t.val, 0] ∧ win0_4.index t = ![0, 0] := by
  decide +kernel

theorem kept (t : Fin cfg0.N) (y) : (outsAt0 m c t.val t.isLt).1 y = k0_pay5 (iblk m c 0 t) (iblk m c 1 t) (iblk m c 2 t) y := by
  by_cases h : t.val % 8 = 0
  · rw [outsAt0_A m c t h (by have := t.isLt; have e : cfg0.N = 8 := N_0; omega)]; frame_out
  · rw [outsAt0_B m c t h (by omega)]; frame_out

theorem out_rows : (dats m 0 c).arrAt 3 cfg0.N = Layer.rowBack 0x44800000#32 (m ((c : Thread nD τ).loc main_arg0))
    (gained (m ((c : Thread nD τ).loc main_arg2)) (m ((c : Thread nD τ).loc main_arg1))) := by
  refine (dats m 0 c).arrAt_eq_of_covers 3 _ (by decide +kernel) fun t _ y => ?_
  obtain ⟨e₀, e₁, e₂, e₃, -⟩ := index t
  blk_simp
  rw [after0_3, kept, rows]
  have hE : Layer.At (win0_3.blk t).view.emb (t.val * 512) 0 := fun z => ⟨by blk_simp [e₃], by blk_simp [e₃]⟩
  refine Layer.rowBack_block (E := (win0_0.blk t).view.emb) (E' := (win0_3.blk t).view.emb) (a := t.val * 512)
    (fun z => ⟨by blk_simp [e₀], by blk_simp [e₀]⟩) hE (fun z => congrArg₂ (fun a b : EReal => a * b) (congrArg (m ((c : Thread nD τ).loc main_arg2)) ?_)
    (congrArg (m ((c : Thread nD τ).loc main_arg1)) ?_)) y
  · exact Layer.ext2 (by blk_simp [e₂, e₃]) (by blk_simp [e₂, e₃])
  · exact Layer.ext2 (by blk_simp [e₁, e₃]) (by blk_simp [e₁, e₃])

theorem out_gain : (dats m 0 c).arrAt 4 cfg0.N = Layer.gainBack 0x44800000#32 (m ((c : Thread nD τ).loc main_arg0))
    (m ((c : Thread nD τ).loc main_arg2)) := by
  refine (dats m 0 c).arrAt_eq_of_covers 4 _ (by decide +kernel) fun t h y => ?_
  have h := (flush0_4 t).mp h
  have e : ∀ s : Fin 8, (Layer.point t h s).val = s.val := fun s => by
    show 8 * (t.val / 8) + s.val = s.val
    have := t.isLt; have e : cfg0.N = 8 := N_0; omega
  blk_simp
  rw [after0_4]
  refine ((Layer.steps_sum (J := 8) (fun n h => (outsAt0 m c n h).2) (fun t => Layer.gainBack 0x44800000#32 (iblk m c 0 t) (iblk m c 2 t))
    (fun t h y => ?_) (fun t h y => ?_) t h y).trans (Layer.gainBack_sum (x := m ((c : Thread nD τ).loc main_arg0))
      (p' := m ((c : Thread nD τ).loc main_arg2)) (E := fun s => (win0_0.blk (Layer.point t h s)).view.emb) rfl (fun s z => ?_) (fun s z => ?_) y)).trans
    (congrArg _ ?_)
  · show (outsAt0 m c t.val t.isLt).2 y = _
    rw [outsAt0_A m c t h (by have := t.isLt; have e : cfg0.N = 8 := N_0; omega)]; frame_out
    exact gain _ _ y
  · show (outsAt0 m c t.val t.isLt).2 y = _
    rw [outsAt0_B m c t h (by omega)]; frame_out
    unfold k0_pay1
    pointwise [gain]
  · obtain ⟨e₀, -⟩ := index (Layer.point t h s)
    rw [e s] at e₀
    exact ⟨by blk_simp [e₀], by blk_simp [e₀]⟩
  · obtain ⟨e₀, -, e₂, -⟩ := index (Layer.point t h s)
    exact congrArg (m ((c : Thread nD τ).loc main_arg2)) (Layer.ext2 (by blk_simp [e₀, e₂]) (by blk_simp [e₀, e₂]))
  · obtain ⟨-, -, -, -, e₄⟩ := index t
    exact Layer.ext2 (by blk_simp [e₄]) (by blk_simp [e₄])

theorem frame : Cert.quiescent_RmsBackIdeal := fun m g _ => Gen.frame m g

theorem frame_kernel : Cert.quiescent_RmsBack := fun m g _ =>
  Sides.over (congrArg (Pipeline.defs _) (congrArg Defs.onTc (funext fun l => by fin_cases l; rfl))) (Gen.frame (F := Bits) m g)

theorem frame_ref : Cert.quiescent_RmsBackRefIdeal := fun m g _ =>
  Sides.quiet (by decide) (fun _ _ h => h.2.2) (Cert.RmsBackRefIdeal.Value.run m g)

theorem algebraic : Cert.algebraic_RmsBackIdeal_RmsBackRefIdeal := fun m g m' g' _ hm =>
  ⟨_, _, Value.run_blocks m g, (θ_run _ _ _).mono (fun r h c => by
    obtain ⟨h0, h1, h2⟩ := h c
    obtain ⟨e0, e1, e2⟩ := hm c
    simp only [e0, e1, e2] at h0 h1
    refine ⟨h0.trans (Eq.trans (funext fun y => ?_) (out_rows m c).symm), h1.trans (Eq.trans (funext fun y => ?_) (out_gain m c).symm), h2⟩
    · unfold Layer.rowBack Layer.pull Layer.scale Layer.square gained
      pointwise
      exact Layer.once _ _ _
    · unfold Layer.gainBack Layer.scale Layer.square
      pointwise
      exact Fin.sum_univ_one _) (Cert.RmsBackRefIdeal.Value.run m' g')⟩

end Cert.RmsBackIdeal

/-! ## The square of what is above zero -/

namespace Cert.ReluBackIdeal

open Cert.ReluBackIdeal.Gen

/-- Twice the number times the gradient, if the number is above zero. -/
def back (u ct : EReal) : EReal := if 0 < u then ct * (2 * u) else 0

theorem ofBits_two : Ideal.ofBits .f32 0x40000000#32 = 2 := by
  simp [Ideal.ofBits, Ideal.ieee, -EReal.coe_mul]
  norm_num
  rfl

theorem ofBits_one : Ideal.ofBits .f32 0x3F800000#32 = 1 := by
  simp [Ideal.ofBits, Ideal.ieee, -EReal.coe_mul]
  norm_num

theorem twice (a b : EReal) : a * b + b * a = b * (2 * a) := by
  rw [mul_comm a b, mul_left_comm, ← one_add_one_eq_two, EReal.right_distrib_of_nonneg zero_le_one zero_le_one, one_mul]

theorem block (u ct : Vec Ideal S256x4096 .f32) (y : S256x4096.Idx) : k0_pay1 u ct y = back (u y) (ct y) := by
  unfold k0_pay1 back
  pointwise
  by_cases h : 0 < u y
  · rw [if_pos h, if_pos h, max_eq_left h.le, mul_one, twice]
  · rw [if_neg h, if_neg h, max_eq_right (not_lt.mp h), zero_mul, mul_zero, add_zero, zero_mul]

theorem out (m : (ℓ : Loc nD τ sig) → Buf (Elt Ideal) ℓ) (c : Dev nD) :
    (dats m 0 c).arrAt 2 cfg0.N = fun i => back (m ((c : Thread nD τ).loc main_arg0) i) (m ((c : Thread nD τ).loc main_arg1) i) := by
  refine (dats m 0 c).arrAt_eq_of_covers 2 _ (by decide +kernel) fun t _ y => ?_
  blk_simp
  rw [after0_2]; frame_out; rw [block]
  rfl

theorem frame : Cert.quiescent_ReluBackIdeal := fun m g _ => Gen.frame m g

theorem frame_kernel : Cert.quiescent_ReluBack := fun m g _ =>
  Sides.over (congrArg (Pipeline.defs _) (congrArg Defs.onTc (funext fun l => by fin_cases l; rfl))) (Gen.frame (F := Bits) m g)

theorem frame_ref : Cert.quiescent_ReluBackRefIdeal := fun m g _ =>
  Sides.quiet (by decide) (fun _ _ h => h.2) (Cert.ReluBackRefIdeal.Value.run m g)

theorem algebraic : Cert.algebraic_ReluBackIdeal_ReluBackRefIdeal := fun m g m' g' _ hm =>
  ⟨_, Value.run_blocks m g, (θ_run _ _ _).mono (fun r h c => by
    refine ⟨(h c).1.trans (Eq.trans (funext fun y => ?_) (out m c).symm), (h c).2⟩
    rw [(hm c).1, (hm c).2]
    unfold back
    pointwise
    split_ifs with h
    · rw [ofBits_two, max_eq_left h.le]
    · rfl) (Cert.ReluBackRefIdeal.Value.run m' g')⟩

end Cert.ReluBackIdeal
-- ==== Proof.LossBack.lean ====
/-

The derivative of the loss.
-/
module

public import proofs.«01_k».proof.Defs
public import proofs.«01_k».proof.Proof.RowsBack
public import proofs.«01_k».proof.Proof.Gen.LossBack
public import proofs.«01_k».proof.Proof.Gen.LossBackIdeal.Value
public import proofs.«01_k».proof.Proof.Gen.LossBackRefIdeal.Run

@[expose] public section

set_option Elab.async false

noncomputable section

open Idealize.ShloMosaic Idealize.ShloMosaic.TcCoe
open Idealize.SL.Sem

namespace Cert.LossBackIdeal

open Cert.LossBackIdeal.Gen
open Adam (S2)
open Layer (At)

/-! ## What the normed rows get -/

/-- The gradient of the normed rows: twice what a row misses its target by, times the mean's share of half the gradient of the loss. -/
def missed {n : Nat} (x t : (S2 n 1024).Idx → EReal) (g : (S2 1 1024).Idx → EReal) (ct : (S2 1 1).Idx → EReal) (i : (S2 n 1024).Idx) : EReal :=
  Ideal.div (Ideal.ofBits .f32 0x3F000000#32 * ct (ix2 0 0)) (Ideal.ofBits .f32 0x44800000#32)
    * (Ideal.ofBits .f32 0x40000000#32 * (Layer.norm 0x44800000#32 x g i - t i))

/-- The same times the gain. -/
def gained {n : Nat} (x t : (S2 n 1024).Idx → EReal) (g : (S2 1 1024).Idx → EReal) (ct : (S2 1 1).Idx → EReal) (i : (S2 n 1024).Idx) : EReal :=
  missed x t g ct i * g (ix2 0 (i 1))

theorem missed_block {n n' : Nat} {x t : (S2 n' 1024).Idx → EReal} {g : (S2 1 1024).Idx → EReal} {ct : (S2 1 1).Idx → EReal}
    {E T E' : (S2 n 1024).Idx → (S2 n' 1024).Idx} {G : (S2 1 1024).Idx → (S2 1 1024).Idx} {C : (S2 1 1).Idx → (S2 1 1).Idx} {a : Nat}
    (hE : At E a 0) (hT : At T a 0) (hG : At G 0 0) (hC : At C 0 0) (hE' : At E' a 0) (z : (S2 n 1024).Idx) :
    missed (x ∘ E) (t ∘ T) (g ∘ G) (ct ∘ C) z = missed x t g ct (E' z) := by
  have e : T z = E' z := Layer.ext2 ((hT _).1.trans (hE' z).1.symm) ((hT _).2.trans (hE' z).2.symm)
  have e' : C (ix2 0 0) = ix2 0 0 := Layer.ext2 (hC _).1 (hC _).2
  simp only [missed, Layer.norm_block hE hG hE', Function.comp_apply, e, e']

theorem gained_block {n n' : Nat} {x t : (S2 n' 1024).Idx → EReal} {g : (S2 1 1024).Idx → EReal} {ct : (S2 1 1).Idx → EReal}
    {E T E' : (S2 n 1024).Idx → (S2 n' 1024).Idx} {G : (S2 1 1024).Idx → (S2 1 1024).Idx} {C : (S2 1 1).Idx → (S2 1 1).Idx} {a : Nat}
    (hE : At E a 0) (hT : At T a 0) (hG : At G 0 0) (hC : At C 0 0) (hE' : At E' a 0) (z : (S2 n 1024).Idx) :
    gained (x ∘ E) (t ∘ T) (g ∘ G) (ct ∘ C) z = gained x t g ct (E' z) := by
  have e : G (ix2 0 (z 1)) = ix2 0 (E' z 1) := Layer.ext2 ((hG _).1.trans rfl) ((hG _).2.trans (hE' z).2.symm)
  rw [gained, gained, missed_block hE hT hG hC hE']
  exact congrArg (fun w => missed x t g ct (E' z) * g w) e

/-- A number times a share and the share times the number, where sums of one term stand for the share. -/
theorem doubled (e a d : EReal) : e * (∑ _s : Fin 1, Ideal.div (∑ _s : Fin 1, ∑ _s : Fin 1, a) d)
    + (∑ _s : Fin 1, Ideal.div (∑ _s : Fin 1, ∑ _s : Fin 1, a) d) * e = Ideal.div a d * (Ideal.ofBits .f32 0x40000000#32 * e) := by
  simp only [Fin.sum_univ_one, ReluBackIdeal.ofBits_two]
  exact ReluBackIdeal.twice _ _

/-! ## The call -/

theorem misses (x t : Vec Ideal S512x1024 .f32) (g : Vec Ideal S1x1024 .f32) (ct : Vec Ideal S1x1 .f32) (y : S512x1024.Idx) :
    k0_pay7 x g t ct y = missed x t g ct y := by
  unfold k0_pay7 k0_pay6 k0_pay4 k0_pay3 missed Layer.norm Layer.scale Layer.square
  pointwise
  exact doubled _ _ _

theorem rows (x t : Vec Ideal S512x1024 .f32) (g : Vec Ideal S1x1024 .f32) (ct : Vec Ideal S1x1 .f32) (y : S512x1024.Idx) :
    k0_pay1 x (k0_pay4 x) (k0_pay5 x) (k0_pay9 x g t ct) y = Layer.rowBack 0x44800000#32 x (gained x t g ct) y := by
  unfold k0_pay1 k0_pay9 k0_pay5 k0_pay4 k0_pay3 Layer.rowBack Layer.pull Layer.scale Layer.square gained
  pointwise [misses]
  exact Layer.once _ _ _

theorem gain (x t : Vec Ideal S512x1024 .f32) (g : Vec Ideal S1x1024 .f32) (ct : Vec Ideal S1x1 .f32) (y : S1x1024.Idx) :
    k0_pay8 x g t ct y = Layer.gainBack 0x44800000#32 x (missed x t g ct) y := by
  unfold k0_pay8 k0_pay6 k0_pay4 k0_pay3 Layer.gainBack Layer.scale Layer.square
  pointwise [misses]

variable (m : (ℓ : Loc nD τ sig) → Buf (Elt Ideal) ℓ) (c : Dev nD)

theorem index : ∀ t, win0_0.index t = ![t.val, 0] ∧ win0_1.index t = ![t.val, 0] ∧ win0_2.index t = ![0, 0] ∧ win0_3.index t = ![0, 0]
    ∧ win0_4.index t = ![t.val, 0] ∧ win0_5.index t = ![0, 0] := by
  decide +kernel

theorem at_0 (t : Fin cfg0.N) : At (win0_0.blk t).view.emb (t.val * 512) 0 := fun z => ⟨by blk_simp [(index t).1], by blk_simp [(index t).1]⟩

theorem at_1 (t : Fin cfg0.N) : At (win0_1.blk t).view.emb (t.val * 512) 0 := fun z =>
  ⟨by blk_simp [(index t).2.1], by blk_simp [(index t).2.1]⟩

theorem at_2 (t : Fin cfg0.N) : At (win0_2.blk t).view.emb 0 0 := fun z => ⟨by blk_simp [(index t).2.2.1], by blk_simp [(index t).2.2.1]⟩

theorem at_3 (t : Fin cfg0.N) : At (win0_3.blk t).view.emb 0 0 := fun z =>
  ⟨by blk_simp [(index t).2.2.2.1], by blk_simp [(index t).2.2.2.1]⟩

theorem at_4 (t : Fin cfg0.N) : At (win0_4.blk t).view.emb (t.val * 512) 0 := fun z =>
  ⟨by blk_simp [(index t).2.2.2.2.1], by blk_simp [(index t).2.2.2.2.1]⟩

theorem kept (t : Fin cfg0.N) (y) : (outsAt0 m c t.val t.isLt).1 y = k0_pay1 (iblk m c 0 t) (k0_pay4 (iblk m c 0 t)) (k0_pay5 (iblk m c 0 t))
    (k0_pay9 (iblk m c 0 t) (iblk m c 2 t) (iblk m c 1 t) (iblk m c 3 t)) y := by
  by_cases h : t.val % 8 = 0
  · rw [outsAt0_A m c t h (by have := t.isLt; have e : cfg0.N = 8 := N_0; omega)]; frame_out
  · rw [outsAt0_B m c t h (by omega)]; frame_out

theorem out_rows : (dats m 0 c).arrAt 4 cfg0.N = Layer.rowBack 0x44800000#32 (m ((c : Thread nD τ).loc main_arg0))
    (gained (m ((c : Thread nD τ).loc main_arg0)) (m ((c : Thread nD τ).loc main_arg1)) (m ((c : Thread nD τ).loc main_arg2))
      (m ((c : Thread nD τ).loc main_arg3))) := by
  refine (dats m 0 c).arrAt_eq_of_covers 4 _ (by decide +kernel) fun t _ y => ?_
  blk_simp
  rw [after0_4, kept, rows]
  exact Layer.rowBack_block (at_0 t) (at_4 t) (fun z => gained_block (at_0 t) (at_1 t) (at_2 t) (at_3 t) (at_4 t) z) y

theorem out_gain : (dats m 0 c).arrAt 5 cfg0.N = Layer.gainBack 0x44800000#32 (m ((c : Thread nD τ).loc main_arg0))
    (missed (m ((c : Thread nD τ).loc main_arg0)) (m ((c : Thread nD τ).loc main_arg1)) (m ((c : Thread nD τ).loc main_arg2))
      (m ((c : Thread nD τ).loc main_arg3))) := by
  refine (dats m 0 c).arrAt_eq_of_covers 5 _ (by decide +kernel) fun t h y => ?_
  have h := (flush0_5 t).mp h
  have e : ∀ s : Fin 8, (Layer.point t h s).val = s.val := fun s => by
    show 8 * (t.val / 8) + s.val = s.val
    have := t.isLt; have e : cfg0.N = 8 := N_0; omega
  have hE : ∀ s : Fin 8, At (win0_0.blk (Layer.point t h s)).view.emb (s.val * 512) 0 := fun s => by
    have := at_0 (Layer.point t h s)
    rwa [e s] at this
  blk_simp
  rw [after0_5]
  have hp : ∀ (s : Fin 8) z, missed (iblk m c 0 (Layer.point t h s)) (iblk m c 1 (Layer.point t h s)) (iblk m c 2 (Layer.point t h s))
      (iblk m c 3 (Layer.point t h s)) z = missed (m ((c : Thread nD τ).loc main_arg0)) (m ((c : Thread nD τ).loc main_arg1))
      (m ((c : Thread nD τ).loc main_arg2)) (m ((c : Thread nD τ).loc main_arg3)) ((win0_0.blk (Layer.point t h s)).view.emb z) := fun s z =>
    missed_block (at_0 (Layer.point t h s)) (at_1 (Layer.point t h s)) (at_2 (Layer.point t h s)) (at_3 (Layer.point t h s))
      (at_0 (Layer.point t h s)) z
  refine ((Layer.steps_sum (J := 8) (fun n h => (outsAt0 m c n h).2) (fun t => Layer.gainBack 0x44800000#32 (iblk m c 0 t)
      (missed (iblk m c 0 t) (iblk m c 1 t) (iblk m c 2 t) (iblk m c 3 t)))
    (fun t h y => ?_) (fun t h y => ?_) t h y).trans (Layer.gainBack_sum (x := m ((c : Thread nD τ).loc main_arg0))
      (p := fun s => missed (iblk m c 0 (Layer.point t h s)) (iblk m c 1 (Layer.point t h s)) (iblk m c 2 (Layer.point t h s))
        (iblk m c 3 (Layer.point t h s))) (E := fun s => (win0_0.blk (Layer.point t h s)).view.emb) rfl hE hp y)).trans (congrArg _ ?_)
  · show (outsAt0 m c t.val t.isLt).2 y = _
    rw [outsAt0_A m c t h (by have := t.isLt; have e : cfg0.N = 8 := N_0; omega)]; frame_out
    exact gain _ _ _ _ y
  · show (outsAt0 m c t.val t.isLt).2 y = _
    rw [outsAt0_B m c t h (by omega)]; frame_out
    unfold k0_pay2
    pointwise [gain]
  · obtain ⟨-, -, -, -, -, e₅⟩ := index t
    exact Layer.ext2 (by blk_simp [e₅]) (by blk_simp [e₅])

theorem frame : Cert.quiescent_LossBackIdeal := fun m g _ => Gen.frame m g

theorem frame_kernel : Cert.quiescent_LossBack := fun m g _ =>
  Sides.over (congrArg (Pipeline.defs _) (congrArg Defs.onTc (funext fun l => by fin_cases l; rfl))) (Gen.frame (F := Bits) m g)

theorem frame_ref : Cert.quiescent_LossBackRefIdeal := fun m g _ =>
  Sides.quiet (by decide) (fun _ _ h => h.2.2) (Cert.LossBackRefIdeal.Value.run m g)

end Cert.LossBackIdeal

namespace Cert.LossBackRefIdeal

open Cert.LossBackRefIdeal.Gen
open LossBackIdeal (missed gained)

theorem rows (m : (ℓ : Loc nD τ sig) → Buf (Elt Ideal) ℓ) (c : Dev nD) : Value.res_main_v52 m c
    = Layer.rowBack 0x44800000#32 (m ((c : Thread nD τ).loc main_arg0)) (gained (m ((c : Thread nD τ).loc main_arg0))
      (m ((c : Thread nD τ).loc main_arg1)) (m ((c : Thread nD τ).loc main_arg2)) (m ((c : Thread nD τ).loc main_arg3))) := by
  funext y
  unfold Value.res_main_v52 Layer.rowBack Layer.pull gained missed Layer.norm Layer.scale Layer.square
  pointwise
  exact Layer.once _ _ _

end Cert.LossBackRefIdeal

namespace Cert.LossBackIdeal

theorem algebraic : Cert.algebraic_LossBackIdeal_LossBackRefIdeal := fun m g m' g' _ hm =>
  ⟨_, _, Value.run_blocks m g, (θ_run _ _ _).mono (fun r h c => by
    obtain ⟨h0, h1, h2⟩ := h c
    obtain ⟨e0, e1, e2, e3⟩ := hm c
    have h0 := h0.trans (LossBackRefIdeal.rows m' c)
    simp only [e0, e1, e2, e3] at h0 h1
    refine ⟨h0.trans (out_rows m c).symm, h1.trans (Eq.trans (funext fun y => ?_) (out_gain m c).symm), h2⟩
    obtain ⟨k, rfl⟩ : ∃ k : Fin 1024, y = ix2 0 k :=
      ⟨y 1, Layer.ext2 (by have h : (y 0).val < 1 := (y 0).isLt; show (y 0).val = 0; omega) rfl⟩
    unfold Layer.gainBack missed Layer.norm Layer.scale Layer.square
    pointwise
    exact Fin.sum_univ_one (M := EReal) _) (Cert.LossBackRefIdeal.Value.run m' g')⟩

end Cert.LossBackIdeal
-- ==== Proof.MergeBack.lean ====
/-

The derivative of the sum of the three gated branches.
-/
module

public import proofs.«01_k».proof.Defs
public import proofs.«01_k».proof.Proof.Rows
public import proofs.«01_k».proof.Proof.Sides
public import proofs.«01_k».proof.Proof.Gen.MergeBack
public import proofs.«01_k».proof.Proof.Gen.MergeBackIdeal.Value
public import proofs.«01_k».proof.Proof.Gen.MergeBackRefIdeal.Run

@[expose] public section

set_option Elab.async false

noncomputable section

open Idealize.ShloMosaic Idealize.ShloMosaic.TcCoe
open Idealize.SL.Sem

namespace Cert.MergeBackIdeal

open Cert.MergeBackIdeal.Gen
open MergeIdeal (gate)
open Adam (S2)
open Layer (At)

/-! ## What the branches and the gates get -/

/-- A branch gets its gate times the gradient. -/
def gated {n : Nat} (off : Nat) (h : off + 1024 ≤ 3072) (g : (S2 n 3072).Idx → EReal) (ct : (S2 n 1024).Idx → EReal) (i : (S2 n 1024).Idx) : EReal :=
  Ideal.logistic (g (gate off h i)) * ct i

/-- The place in its branch of what a gate multiplies. -/
abbrev place {n : Nat} (i : (S2 n 3072).Idx) : (S2 n 1024).Idx := ix2 (i 0) ⟨(i 1).val % 1024, Nat.mod_lt _ (by decide)⟩

/-- A gate gets the gradient times its branch, times the derivative of the logistic function. -/
def gates {n : Nat} (g : (S2 n 3072).Idx → EReal) (p q r ct : (S2 n 1024).Idx → EReal) (i : (S2 n 3072).Idx) : EReal :=
  ct (place i) * (if (i 1).val < 1024 then p (place i) else if (i 1).val < 2048 then q (place i) else r (place i))
    * (Ideal.logistic (g i) * (1 - Ideal.logistic (g i)))

theorem gated_block {n n' off : Nat} {h : off + 1024 ≤ 3072} {g : (S2 n' 3072).Idx → EReal} {ct : (S2 n' 1024).Idx → EReal}
    {E : (S2 n 3072).Idx → (S2 n' 3072).Idx} {T E' : (S2 n 1024).Idx → (S2 n' 1024).Idx} {a : Nat} (hE : At E a 0) (hT : At T a 0)
    (hE' : At E' a 0) (y : (S2 n 1024).Idx) : gated off h (g ∘ E) (ct ∘ T) y = gated off h g ct (E' y) := by
  have e : E (gate off h y) = gate off h (E' y) := Layer.ext2 ((hE _).1.trans (hE' y).1.symm)
    ((hE _).2.trans (by rw [Nat.zero_add]; show off + (y 1).val = off + (E' y 1).val; rw [(hE' y).2, Nat.zero_add]))
  have e' : T y = E' y := Layer.ext2 ((hT _).1.trans (hE' y).1.symm) ((hT _).2.trans (hE' y).2.symm)
  simp only [gated, Function.comp_apply, e, e']

theorem gates_block {n n' : Nat} {g : (S2 n' 3072).Idx → EReal} {p q r ct : (S2 n' 1024).Idx → EReal} {E E' : (S2 n 3072).Idx → (S2 n' 3072).Idx}
    {P Q R T : (S2 n 1024).Idx → (S2 n' 1024).Idx} {a : Nat} (hE : At E a 0) (hP : At P a 0) (hQ : At Q a 0) (hR : At R a 0) (hT : At T a 0)
    (hE' : At E' a 0) (y : (S2 n 3072).Idx) : gates (g ∘ E) (p ∘ P) (q ∘ Q) (r ∘ R) (ct ∘ T) y = gates g p q r ct (E' y) := by
  have e : E y = E' y := Layer.ext2 ((hE _).1.trans (hE' y).1.symm) ((hE _).2.trans (hE' y).2.symm)
  have e₁ : (E' y 1).val = (y 1).val := (hE' y).2.trans (Nat.zero_add _)
  have e' : ∀ {B : (S2 n 1024).Idx → (S2 n' 1024).Idx}, At B a 0 → B (place y) = place (E' y) := fun hB =>
    Layer.ext2 ((hB _).1.trans (hE' y).1.symm) ((hB _).2.trans (by rw [Nat.zero_add]; exact congrArg (· % 1024) e₁.symm))
  simp only [gates, Function.comp_apply, e, e₁, e' hP, e' hQ, e' hR, e' hT]

/-! ## The call -/

theorem place_of {n k : Nat} (y : (S2 n 3072).Idx) (hk : k < 1024) (h : k = (y 1).val % 1024) :
    (ix2 (y 0) ⟨k, hk⟩ : (S2 n 1024).Idx) = place y :=
  Layer.ext2 rfl h

theorem gate_back {n off : Nat} (h : off + 1024 ≤ 3072) (y : (S2 n 3072).Idx) (h₀ : off ≤ (y 1).val) (h₁ : (y 1).val - off < 1024) :
    gate off h (ix2 (y 0) ⟨(y 1).val - off, h₁⟩ : (S2 n 1024).Idx) = y :=
  Layer.ext2 rfl (Nat.add_sub_of_le h₀)

theorem branches (g : Vec Ideal S256x3072 .f32) (p q r ct : Vec Ideal S256x1024 .f32) (y : S256x3072.Idx) :
    k0_pay9 g p q r ct y = gates g p q r ct y := by
  unfold k0_pay9 k0_pay5 k0_pay4 k0_pay3 k0_pay2 k0_pay1
  pointwise
  unfold gates
  have hy : (y 1).val < 3072 := (y 1).isLt
  by_cases h₁ : (y 1).val < 1024
  · have h₂ : (y 1).val < 2048 := by omega
    rw [dif_pos h₂, dif_pos h₂, dif_pos h₁, dif_pos h₁, if_pos h₁, zero_add, zero_add]
    exact congrArg (fun i => ct i * p i * (Ideal.logistic (g y) * (1 - Ideal.logistic (g y)))) (place_of y h₁ (by omega))
  · by_cases h₂ : (y 1).val < 2048
    · rw [dif_pos h₂, dif_pos h₂, dif_neg h₁, dif_neg h₁, if_neg h₁, if_pos h₂, zero_add, add_zero]
      exact congrArg₂ (fun i j => ct i * q i * (Ideal.logistic (g j) * (1 - Ideal.logistic (g j))))
        (place_of y (by omega) (by omega)) (gate_back (off := 1024) (by decide) y (not_lt.mp h₁) (by omega))
    · rw [dif_neg h₂, dif_neg h₂, dif_neg h₁, if_neg h₁, if_neg h₂, add_zero, add_zero]
      exact congrArg₂ (fun i j => ct i * r i * (Ideal.logistic (g j) * (1 - Ideal.logistic (g j))))
        (place_of y (by omega) (by omega)) (gate_back (off := 2048) (by decide) y (not_lt.mp h₂) (by omega))

/-- Three matrices next to one another, each the gradient times a branch. -/
theorem beside {n : Nat} (p q r ct : (S2 n 1024).Idx → EReal) (y : (S2 n 3072).Idx) (h₂ : ¬(y 1).val < 1024 → ¬(y 1).val - 1024 < 1024 →
      (y 1).val - 1024 - 1024 < 1024) :
    (if h : (y 1).val < 1024 then ct (ix2 (y 0) ⟨(y 1).val, h⟩) * p (ix2 (y 0) ⟨(y 1).val, h⟩)
      else if h' : (y 1).val - 1024 < 1024 then ct (ix2 (y 0) ⟨(y 1).val - 1024, h'⟩) * q (ix2 (y 0) ⟨(y 1).val - 1024, h'⟩)
      else ct (ix2 (y 0) ⟨(y 1).val - 1024 - 1024, h₂ h h'⟩) * r (ix2 (y 0) ⟨(y 1).val - 1024 - 1024, h₂ h h'⟩))
    = ct (place y) * (if (y 1).val < 1024 then p (place y) else if (y 1).val < 2048 then q (place y) else r (place y)) := by
  have hy : (y 1).val < 3072 := (y 1).isLt
  by_cases h : (y 1).val < 1024
  · rw [dif_pos h, if_pos h]
    exact congrArg (fun i => ct i * p i) (place_of y h (by omega))
  · by_cases h' : (y 1).val - 1024 < 1024
    · rw [dif_neg h, dif_pos h', if_neg h, if_pos (by omega)]
      exact congrArg (fun i => ct i * q i) (place_of y h' (by omega))
    · rw [dif_neg h, dif_neg h', if_neg h, if_neg (by omega)]
      exact congrArg (fun i => ct i * r i) (place_of y (h₂ h h') (by omega))

theorem branch_0 (g : Vec Ideal S256x3072 .f32) (ct : Vec Ideal S256x1024 .f32) (y : S256x1024.Idx) :
    k0_pay8 g ct y = gated 0 (by decide) g ct y := by
  unfold k0_pay8 k0_pay1 k0_pay4 gated gate
  pointwise

theorem branch_1 (g : Vec Ideal S256x3072 .f32) (ct : Vec Ideal S256x1024 .f32) (y : S256x1024.Idx) :
    k0_pay7 g ct y = gated 1024 (by decide) g ct y := by
  unfold k0_pay7 k0_pay2 k0_pay4 gated gate
  pointwise

theorem branch_2 (g : Vec Ideal S256x3072 .f32) (ct : Vec Ideal S256x1024 .f32) (y : S256x1024.Idx) :
    k0_pay6 g ct y = gated 2048 (by decide) g ct y := by
  unfold k0_pay6 k0_pay3 k0_pay5 gated gate
  pointwise

variable (m : (ℓ : Loc nD τ sig) → Buf (Elt Ideal) ℓ) (c : Dev nD)

theorem index : ∀ t, win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] ∧ win0_7.index t = ![(grid0.coords t 0).val, 0]
    ∧ win0_8.index t = ![(grid0.coords t 0).val, 0] := by
  decide +kernel

/-- Every window is at the rows of its point. -/
theorem rows (t : Fin cfg0.N) : At (win0_0.blk t).view.emb ((grid0.coords t 0).val * 256) 0
    ∧ At (win0_1.blk t).view.emb ((grid0.coords t 0).val * 256) 0 ∧ At (win0_2.blk t).view.emb ((grid0.coords t 0).val * 256) 0
    ∧ At (win0_3.blk t).view.emb ((grid0.coords t 0).val * 256) 0 ∧ At (win0_4.blk t).view.emb ((grid0.coords t 0).val * 256) 0
    ∧ At (win0_5.blk t).view.emb ((grid0.coords t 0).val * 256) 0 ∧ At (win0_6.blk t).view.emb ((grid0.coords t 0).val * 256) 0
    ∧ At (win0_7.blk t).view.emb ((grid0.coords t 0).val * 256) 0 ∧ At (win0_8.blk t).view.emb ((grid0.coords t 0).val * 256) 0 := by
  obtain ⟨e₀, e₁, e₂, e₃, e₄, e₅, e₆, e₇, e₈⟩ := index t
  refine ⟨?_, ?_, ?_, ?_, ?_, ?_, ?_, ?_, ?_⟩ <;> exact fun z =>
    ⟨by blk_simp [e₀, e₁, e₂, e₃, e₄, e₅, e₆, e₇, e₈], by blk_simp [e₀, e₁, e₂, e₃, e₄, e₅, e₆, e₇, e₈]⟩

theorem out_gates : (dats m 0 c).arrAt 5 cfg0.N = gates (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t _ y => ?_
  obtain ⟨h₀, h₁, h₂, h₃, h₄, h₅, -⟩ := rows t
  blk_simp
  rw [after0_5]; frame_out; rw [branches]
  exact gates_block h₀ h₁ h₂ h₃ h₄ h₅ y

theorem out_0 : (dats m 0 c).arrAt 6 cfg0.N
    = gated 0 (by decide) (m ((c : Thread nD τ).loc main_arg0)) (m ((c : Thread nD τ).loc main_arg4)) := by
  refine (dats m 0 c).arrAt_eq_of_covers 6 _ (by decide +kernel) fun t _ y => ?_
  obtain ⟨h₀, -, -, -, h₄, -, h₆, -⟩ := rows t
  blk_simp
  rw [after0_6]; frame_out; rw [branch_0]
  exact gated_block h₀ h₄ h₆ y

theorem out_1 : (dats m 0 c).arrAt 7 cfg0.N
    = gated 1024 (by decide) (m ((c : Thread nD τ).loc main_arg0)) (m ((c : Thread nD τ).loc main_arg4)) := by
  refine (dats m 0 c).arrAt_eq_of_covers 7 _ (by decide +kernel) fun t _ y => ?_
  obtain ⟨h₀, -, -, -, h₄, -, -, h₇, -⟩ := rows t
  blk_simp
  rw [after0_7]; frame_out; rw [branch_1]
  exact gated_block h₀ h₄ h₇ y

theorem out_2 : (dats m 0 c).arrAt 8 cfg0.N
    = gated 2048 (by decide) (m ((c : Thread nD τ).loc main_arg0)) (m ((c : Thread nD τ).loc main_arg4)) := by
  refine (dats m 0 c).arrAt_eq_of_covers 8 _ (by decide +kernel) fun t _ y => ?_
  obtain ⟨h₀, -, -, -, h₄, -, -, -, h₈⟩ := rows t
  blk_simp
  rw [after0_8]; frame_out; rw [branch_2]
  exact gated_block h₀ h₄ h₈ y

theorem frame : Cert.quiescent_MergeBackIdeal := fun m g _ => Gen.frame m g

theorem frame_kernel : Cert.quiescent_MergeBack := fun m g _ =>
  Sides.over (congrArg (Pipeline.defs _) (congrArg Defs.onTc (funext fun l => by fin_cases l; rfl))) (Gen.frame (F := Bits) m g)

theorem frame_ref : Cert.quiescent_MergeBackRefIdeal := fun m g _ =>
  Sides.quiet (by decide) (fun _ _ h => h.2.2.2.2) (Cert.MergeBackRefIdeal.Value.run m g)

theorem algebraic : Cert.algebraic_MergeBackIdeal_MergeBackRefIdeal := fun m g m' g' _ hm =>
  ⟨_, _, _, _, Value.run_blocks m g, (θ_run _ _ _).mono (fun r h c => by
    obtain ⟨h0, h1, h2, h3, h4⟩ := h c
    obtain ⟨e0, e1, e2, e3, e4⟩ := hm c
    simp only [e0, e1, e2, e3, e4] at h0 h1 h2 h3
    refine ⟨h0.trans (Eq.trans (funext fun y => ?_) (out_gates m c).symm), h1.trans (Eq.trans (funext fun y => ?_) (out_0 m c).symm),
      h2.trans (Eq.trans (funext fun y => ?_) (out_1 m c).symm), h3.trans (Eq.trans (funext fun y => ?_) (out_2 m c).symm), h4⟩
    · pointwise
      unfold gates Ideal.logistic
      simp only [e1, e2, e3, e4]
      exact congrArg (fun a : EReal => a * _) (beside _ _ _ _ y _)
    all_goals
      unfold gated gate Ideal.logistic
      pointwise) (Cert.MergeBackRefIdeal.Value.run m' g')⟩

end Cert.MergeBackIdeal
-- ==== Proof.TokensBack.lean ====
/-

The products of a gradient and a turned weight: the gradients of the tokens.
-/
module

public import proofs.«01_k».proof.Defs
public import proofs.«01_k».proof.Proof.Layer
public import proofs.«01_k».proof.Proof.Sides
public import proofs.«01_k».proof.Proof.Gen.DxIn
public import proofs.«01_k».proof.Proof.Gen.DxInIdeal.Value
public import proofs.«01_k».proof.Proof.Gen.DxInRefIdeal.Run
public import proofs.«01_k».proof.Proof.Gen.DxUq
public import proofs.«01_k».proof.Proof.Gen.DxUqIdeal.Value
public import proofs.«01_k».proof.Proof.Gen.DxUqRefIdeal.Run
public import proofs.«01_k».proof.Proof.Gen.DxUkv
public import proofs.«01_k».proof.Proof.Gen.DxUkvIdeal.Value
public import proofs.«01_k».proof.Proof.Gen.DxUkvRefIdeal.Run
public import proofs.«01_k».proof.Proof.Gen.DxOut
public import proofs.«01_k».proof.Proof.Gen.DxOutIdeal.Value
public import proofs.«01_k».proof.Proof.Gen.DxOutRefIdeal.Run
public import proofs.«01_k».proof.Proof.Gen.DxUp
public import proofs.«01_k».proof.Proof.Gen.DxUpIdeal.Value
public import proofs.«01_k».proof.Proof.Gen.DxUpRefIdeal.Run
public import proofs.«01_k».proof.Proof.Gen.DxDown
public import proofs.«01_k».proof.Proof.Gen.DxDownIdeal.Value
public import proofs.«01_k».proof.Proof.Gen.DxDownRefIdeal.Run

@[expose] public section

set_option Elab.async false

noncomputable section

open Idealize.ShloMosaic Idealize.ShloMosaic.TcCoe
open Idealize.SL.Sem

/-! ## The gradient of the tokens that `w_in` multiplies, whose contracted axis is cut in five -/

namespace Cert.DxInIdeal

open Cert.DxInIdeal.Gen

theorem block (g : Vec Ideal S512x1920 .f32) (w : Vec Ideal S1024x1920 .bf16) (y : S512x1024.Idx) :
    k0_pay1 g w y = Layer.prod g (Layer.turn w) y := by
  unfold k0_pay1 Layer.prod Layer.turn
  pointwise

theorem out (m : (ℓ : Loc nD τ sig) → Buf (Elt Ideal) ℓ) (c : Dev nD) : (dats m 0 c).arrAt 2 cfg0.N
    = Layer.prod (m ((c : Thread nD τ).loc main_arg0)) (Layer.turn (m ((c : Thread nD τ).loc main_arg1))) := by
  have e : ∀ (t : Fin cfg0.N) (h : t.val % 5 = 4) (s : Fin 5), win0_0.index (Layer.point t h s) = ![(grid0.coords t 0).val, s.val]
      ∧ win0_1.index (Layer.point t h s) = ![(grid0.coords t 1).val, s.val]
      ∧ win0_2.index t = ![(grid0.coords t 0).val, (grid0.coords t 1).val] := by decide +kernel
  refine (dats m 0 c).arrAt_eq_of_covers 2 _ (by decide +kernel) fun t h y => ?_
  have h := (flush0_2 t).mp h
  blk_simp
  rw [after0_2]
  refine Layer.prod_turn_run (J := 5) (f := fun n h => outsAt0 m c n h) (E := fun t => (win0_0.blk t).view.emb)
    (W := fun t => (win0_1.blk t).view.emb) (a := (grid0.coords t 0).val * 512) (b := (grid0.coords t 1).val * 1024)
    (fun t h y => ?_) (fun t h y => ?_) t h rfl (fun s z => ⟨by blk_simp [(e t h s).1], by blk_simp [(e t h s).1]⟩)
    (fun s z => ⟨by blk_simp [(e t h s).2.1], by blk_simp [(e t h s).2.1]⟩) (fun z => ⟨by blk_simp [(e t h 0).2.2], by blk_simp [(e t h 0).2.2]⟩) y
  · show outsAt0 m c t.val t.isLt y = _
    rw [outsAt0_A m c t h (by omega)]; frame_out
    exact block _ _ y
  · show outsAt0 m c t.val t.isLt y = _
    rw [outsAt0_B m c t h (by omega)]; frame_out
    unfold k0_pay2
    pointwise [block]
    rfl

theorem frame : Cert.quiescent_DxInIdeal := fun m g _ => Gen.frame m g

theorem frame_kernel : Cert.quiescent_DxIn := fun m g _ =>
  Sides.over (congrArg (Pipeline.defs _) (congrArg Defs.onTc (funext fun l => by fin_cases l; rfl))) (Gen.frame (F := Bits) m g)

theorem frame_ref : Cert.quiescent_DxInRefIdeal := fun m g _ =>
  Sides.quiet (by decide) (fun _ _ h => h.2) (Cert.DxInRefIdeal.Value.run m g)

theorem algebraic : Cert.algebraic_DxInIdeal_DxInRefIdeal := fun m g m' g' _ hm =>
  ⟨_, Value.run_blocks m g, (θ_run _ _ _).mono (fun r h c => by
    refine ⟨(h c).1.trans (Eq.trans (funext fun y => ?_) (out m c).symm), (h c).2⟩
    rw [(hm c).1, (hm c).2]
    unfold Layer.prod Layer.turn
    pointwise) (Cert.DxInRefIdeal.Value.run m' g')⟩

end Cert.DxInIdeal

/-! ## The gradient of the tokens that `out_proj` multiplies -/

namespace Cert.DxOutIdeal

open Cert.DxOutIdeal.Gen

theorem block (g : Vec Ideal S512x1024 .f32) (w : Vec Ideal S1024x1024 .bf16) (y : S512x1024.Idx) :
    k0_pay1 g w y = Layer.prod g (Layer.turn w) y := by
  unfold k0_pay1 Layer.prod Layer.turn
  pointwise

theorem out (m : (ℓ : Loc nD τ sig) → Buf (Elt Ideal) ℓ) (c : Dev nD) : (dats m 0 c).arrAt 2 cfg0.N
    = Layer.prod (m ((c : Thread nD τ).loc main_arg0)) (Layer.turn (m ((c : Thread nD τ).loc main_arg1))) := by
  have e : ∀ t, win0_0.index t = ![(grid0.coords t 0).val, 0] ∧ win0_1.index t = ![(grid0.coords t 1).val, 0]
      ∧ win0_2.index t = ![(grid0.coords t 0).val, (grid0.coords t 1).val] := by decide +kernel
  refine (dats m 0 c).arrAt_eq_of_covers 2 _ (by decide +kernel) fun t _ y => ?_
  blk_simp
  rw [after0_2]; unfold outsAt0; frame_out; rw [block]
  exact Layer.prod_turn_block (E := (win0_0.blk t).view.emb) (W := (win0_1.blk t).view.emb) (a := (grid0.coords t 0).val * 512)
    (b := (grid0.coords t 1).val * 1024) (fun z => ⟨by blk_simp [(e t).1], by blk_simp [(e t).1]⟩)
    (fun z => ⟨by blk_simp [(e t).2.1], by blk_simp [(e t).2.1]⟩) (fun z => ⟨by blk_simp [(e t).2.2], by blk_simp [(e t).2.2]⟩) y

theorem frame : Cert.quiescent_DxOutIdeal := fun m g _ => Gen.frame m g

theorem frame_kernel : Cert.quiescent_DxOut := fun m g _ =>
  Sides.over (congrArg (Pipeline.defs _) (congrArg Defs.onTc (funext fun l => by fin_cases l; rfl))) (Gen.frame (F := Bits) m g)

theorem frame_ref : Cert.quiescent_DxOutRefIdeal := fun m g _ =>
  Sides.quiet (by decide) (fun _ _ h => h.2) (Cert.DxOutRefIdeal.Value.run m g)

theorem algebraic : Cert.algebraic_DxOutIdeal_DxOutRefIdeal := fun m g m' g' _ hm =>
  ⟨_, Value.run_blocks m g, (θ_run _ _ _).mono (fun r h c => by
    refine ⟨(h c).1.trans (Eq.trans (funext fun y => ?_) (out m c).symm), (h c).2⟩
    rw [(hm c).1, (hm c).2]
    unfold Layer.prod Layer.turn
    pointwise) (Cert.DxOutRefIdeal.Value.run m' g')⟩

end Cert.DxOutIdeal

/-! ## The gradient of the tokens that `mlp_w_down` multiplies -/

namespace Cert.DxDownIdeal

open Cert.DxDownIdeal.Gen

theorem block (g : Vec Ideal S512x1024 .f32) (w : Vec Ideal S1024x1024 .bf16) (y : S512x1024.Idx) :
    k0_pay1 g w y = Layer.prod g (Layer.turn w) y := by
  unfold k0_pay1 Layer.prod Layer.turn
  pointwise

theorem out (m : (ℓ : Loc nD τ sig) → Buf (Elt Ideal) ℓ) (c : Dev nD) : (dats m 0 c).arrAt 2 cfg0.N
    = Layer.prod (m ((c : Thread nD τ).loc main_arg0)) (Layer.turn (m ((c : Thread nD τ).loc main_arg1))) := by
  have e : ∀ t, win0_0.index t = ![(grid0.coords t 0).val, 0] ∧ win0_1.index t = ![(grid0.coords t 1).val, 0]
      ∧ win0_2.index t = ![(grid0.coords t 0).val, (grid0.coords t 1).val] := by decide +kernel
  refine (dats m 0 c).arrAt_eq_of_covers 2 _ (by decide +kernel) fun t _ y => ?_
  blk_simp
  rw [after0_2]; unfold outsAt0; frame_out; rw [block]
  exact Layer.prod_turn_block (E := (win0_0.blk t).view.emb) (W := (win0_1.blk t).view.emb) (a := (grid0.coords t 0).val * 512)
    (b := (grid0.coords t 1).val * 1024) (fun z => ⟨by blk_simp [(e t).1], by blk_simp [(e t).1]⟩)
    (fun z => ⟨by blk_simp [(e t).2.1], by blk_simp [(e t).2.1]⟩) (fun z => ⟨by blk_simp [(e t).2.2], by blk_simp [(e t).2.2]⟩) y

theorem frame : Cert.quiescent_DxDownIdeal := fun m g _ => Gen.frame m g

theorem frame_kernel : Cert.quiescent_DxDown := fun m g _ =>
  Sides.over (congrArg (Pipeline.defs _) (congrArg Defs.onTc (funext fun l => by fin_cases l; rfl))) (Gen.frame (F := Bits) m g)

theorem frame_ref : Cert.quiescent_DxDownRefIdeal := fun m g _ =>
  Sides.quiet (by decide) (fun _ _ h => h.2) (Cert.DxDownRefIdeal.Value.run m g)

theorem algebraic : Cert.algebraic_DxDownIdeal_DxDownRefIdeal := fun m g m' g' _ hm =>
  ⟨_, Value.run_blocks m g, (θ_run _ _ _).mono (fun r h c => by
    refine ⟨(h c).1.trans (Eq.trans (funext fun y => ?_) (out m c).symm), (h c).2⟩
    rw [(hm c).1, (hm c).2]
    unfold Layer.prod Layer.turn
    pointwise) (Cert.DxDownRefIdeal.Value.run m' g')⟩

end Cert.DxDownIdeal

/-! ## The gradient of the tokens that `mlp_w_up` multiplies, whose contracted axis is cut in four -/

namespace Cert.DxUpIdeal

open Cert.DxUpIdeal.Gen

theorem block (g : Vec Ideal S512x1024 .f32) (w : Vec Ideal S1024x1024 .bf16) (y : S512x1024.Idx) :
    k0_pay1 g w y = Layer.prod g (Layer.turn w) y := by
  unfold k0_pay1 Layer.prod Layer.turn
  pointwise

theorem out (m : (ℓ : Loc nD τ sig) → Buf (Elt Ideal) ℓ) (c : Dev nD) : (dats m 0 c).arrAt 2 cfg0.N
    = Layer.prod (m ((c : Thread nD τ).loc main_arg0)) (Layer.turn (m ((c : Thread nD τ).loc main_arg1))) := by
  have e : ∀ (t : Fin cfg0.N) (h : t.val % 4 = 3) (s : Fin 4), win0_0.index (Layer.point t h s) = ![(grid0.coords t 0).val, s.val]
      ∧ win0_1.index (Layer.point t h s) = ![(grid0.coords t 1).val, s.val]
      ∧ win0_2.index t = ![(grid0.coords t 0).val, (grid0.coords t 1).val] := by decide +kernel
  refine (dats m 0 c).arrAt_eq_of_covers 2 _ (by decide +kernel) fun t h y => ?_
  have h := (flush0_2 t).mp h
  blk_simp
  rw [after0_2]
  refine Layer.prod_turn_run (J := 4) (f := fun n h => outsAt0 m c n h) (E := fun t => (win0_0.blk t).view.emb)
    (W := fun t => (win0_1.blk t).view.emb) (a := (grid0.coords t 0).val * 512) (b := (grid0.coords t 1).val * 1024)
    (fun t h y => ?_) (fun t h y => ?_) t h rfl (fun s z => ⟨by blk_simp [(e t h s).1], by blk_simp [(e t h s).1]⟩)
    (fun s z => ⟨by blk_simp [(e t h s).2.1], by blk_simp [(e t h s).2.1]⟩) (fun z => ⟨by blk_simp [(e t h 0).2.2], by blk_simp [(e t h 0).2.2]⟩) y
  · show outsAt0 m c t.val t.isLt y = _
    rw [outsAt0_A m c t h (by omega)]; frame_out
    exact block _ _ y
  · show outsAt0 m c t.val t.isLt y = _
    rw [outsAt0_B m c t h (by omega)]; frame_out
    unfold k0_pay2
    pointwise [block]
    rfl

theorem frame : Cert.quiescent_DxUpIdeal := fun m g _ => Gen.frame m g

theorem frame_kernel : Cert.quiescent_DxUp := fun m g _ =>
  Sides.over (congrArg (Pipeline.defs _) (congrArg Defs.onTc (funext fun l => by fin_cases l; rfl))) (Gen.frame (F := Bits) m g)

theorem frame_ref : Cert.quiescent_DxUpRefIdeal := fun m g _ =>
  Sides.quiet (by decide) (fun _ _ h => h.2) (Cert.DxUpRefIdeal.Value.run m g)

theorem algebraic : Cert.algebraic_DxUpIdeal_DxUpRefIdeal := fun m g m' g' _ hm =>
  ⟨_, Value.run_blocks m g, (θ_run _ _ _).mono (fun r h c => by
    refine ⟨(h c).1.trans (Eq.trans (funext fun y => ?_) (out m c).symm), (h c).2⟩
    rw [(hm c).1, (hm c).2]
    unfold Layer.prod Layer.turn
    pointwise) (Cert.DxUpRefIdeal.Value.run m' g')⟩

end Cert.DxUpIdeal

/-! ## The gradient of the tokens that `mla_w_uq` multiplies, whose contracted axis is cut in two -/

namespace Cert.DxUqIdeal

open Cert.DxUqIdeal.Gen

theorem block (g : Vec Ideal S512x1024 .f32) (w : Vec Ideal S512x1024 .bf16) (y : S512x512.Idx) :
    k0_pay1 g w y = Layer.prod g (Layer.turn w) y := by
  unfold k0_pay1 Layer.prod Layer.turn
  pointwise

theorem out (m : (ℓ : Loc nD τ sig) → Buf (Elt Ideal) ℓ) (c : Dev nD) : (dats m 0 c).arrAt 2 cfg0.N
    = Layer.prod (m ((c : Thread nD τ).loc main_arg0)) (Layer.turn (m ((c : Thread nD τ).loc main_arg1))) := by
  have e : ∀ (t : Fin cfg0.N) (h : t.val % 2 = 1) (s : Fin 2), win0_0.index (Layer.point t h s) = ![(grid0.coords t 0).val, s.val]
      ∧ win0_1.index (Layer.point t h s) = ![(grid0.coords t 1).val, s.val]
      ∧ win0_2.index t = ![(grid0.coords t 0).val, (grid0.coords t 1).val] := by decide +kernel
  refine (dats m 0 c).arrAt_eq_of_covers 2 _ (by decide +kernel) fun t h y => ?_
  have h := (flush0_2 t).mp h
  blk_simp
  rw [after0_2]
  refine Layer.prod_turn_run (J := 2) (f := fun n h => outsAt0 m c n h) (E := fun t => (win0_0.blk t).view.emb)
    (W := fun t => (win0_1.blk t).view.emb) (a := (grid0.coords t 0).val * 512) (b := (grid0.coords t 1).val * 512)
    (fun t h y => ?_) (fun t h y => ?_) t h rfl (fun s z => ⟨by blk_simp [(e t h s).1], by blk_simp [(e t h s).1]⟩)
    (fun s z => ⟨by blk_simp [(e t h s).2.1], by blk_simp [(e t h s).2.1]⟩) (fun z => ⟨by blk_simp [(e t h 0).2.2], by blk_simp [(e t h 0).2.2]⟩) y
  · show outsAt0 m c t.val t.isLt y = _
    rw [outsAt0_A m c t h (by omega)]; frame_out
    exact block _ _ y
  · show outsAt0 m c t.val t.isLt y = _
    rw [outsAt0_B m c t h (by omega)]; frame_out
    unfold k0_pay2
    pointwise [block]
    rfl

theorem frame : Cert.quiescent_DxUqIdeal := fun m g _ => Gen.frame m g

theorem frame_kernel : Cert.quiescent_DxUq := fun m g _ =>
  Sides.over (congrArg (Pipeline.defs _) (congrArg Defs.onTc (funext fun l => by fin_cases l; rfl))) (Gen.frame (F := Bits) m g)

theorem frame_ref : Cert.quiescent_DxUqRefIdeal := fun m g _ =>
  Sides.quiet (by decide) (fun _ _ h => h.2) (Cert.DxUqRefIdeal.Value.run m g)

theorem algebraic : Cert.algebraic_DxUqIdeal_DxUqRefIdeal := fun m g m' g' _ hm =>
  ⟨_, Value.run_blocks m g, (θ_run _ _ _).mono (fun r h c => by
    refine ⟨(h c).1.trans (Eq.trans (funext fun y => ?_) (out m c).symm), (h c).2⟩
    rw [(hm c).1, (hm c).2]
    unfold Layer.prod Layer.turn
    pointwise) (Cert.DxUqRefIdeal.Value.run m' g')⟩

end Cert.DxUqIdeal

/-! ## The gradient of the tokens that `mla_w_ukv` multiplies, whose contracted axis is cut in two -/

namespace Cert.DxUkvIdeal

open Cert.DxUkvIdeal.Gen

theorem block (g : Vec Ideal S512x1024 .f32) (w : Vec Ideal S256x1024 .bf16) (y : S512x256.Idx) :
    k0_pay1 g w y = Layer.prod g (Layer.turn w) y := by
  unfold k0_pay1 Layer.prod Layer.turn
  pointwise

theorem out (m : (ℓ : Loc nD τ sig) → Buf (Elt Ideal) ℓ) (c : Dev nD) : (dats m 0 c).arrAt 2 cfg0.N
    = Layer.prod (m ((c : Thread nD τ).loc main_arg0)) (Layer.turn (m ((c : Thread nD τ).loc main_arg1))) := by
  have e : ∀ (t : Fin cfg0.N) (h : t.val % 2 = 1) (s : Fin 2), win0_0.index (Layer.point t h s) = ![(grid0.coords t 0).val, s.val]
      ∧ win0_1.index (Layer.point t h s) = ![(grid0.coords t 1).val, s.val]
      ∧ win0_2.index t = ![(grid0.coords t 0).val, (grid0.coords t 1).val] := by decide +kernel
  refine (dats m 0 c).arrAt_eq_of_covers 2 _ (by decide +kernel) fun t h y => ?_
  have h := (flush0_2 t).mp h
  blk_simp
  rw [after0_2]
  refine Layer.prod_turn_run (J := 2) (f := fun n h => outsAt0 m c n h) (E := fun t => (win0_0.blk t).view.emb)
    (W := fun t => (win0_1.blk t).view.emb) (a := (grid0.coords t 0).val * 512) (b := (grid0.coords t 1).val * 256)
    (fun t h y => ?_) (fun t h y => ?_) t h rfl (fun s z => ⟨by blk_simp [(e t h s).1], by blk_simp [(e t h s).1]⟩)
    (fun s z => ⟨by blk_simp [(e t h s).2.1], by blk_simp [(e t h s).2.1]⟩) (fun z => ⟨by blk_simp [(e t h 0).2.2], by blk_simp [(e t h 0).2.2]⟩) y
  · show outsAt0 m c t.val t.isLt y = _
    rw [outsAt0_A m c t h (by omega)]; frame_out
    exact block _ _ y
  · show outsAt0 m c t.val t.isLt y = _
    rw [outsAt0_B m c t h (by omega)]; frame_out
    unfold k0_pay2
    pointwise [block]
    rfl

theorem frame : Cert.quiescent_DxUkvIdeal := fun m g _ => Gen.frame m g

theorem frame_kernel : Cert.quiescent_DxUkv := fun m g _ =>
  Sides.over (congrArg (Pipeline.defs _) (congrArg Defs.onTc (funext fun l => by fin_cases l; rfl))) (Gen.frame (F := Bits) m g)

theorem frame_ref : Cert.quiescent_DxUkvRefIdeal := fun m g _ =>
  Sides.quiet (by decide) (fun _ _ h => h.2) (Cert.DxUkvRefIdeal.Value.run m g)

theorem algebraic : Cert.algebraic_DxUkvIdeal_DxUkvRefIdeal := fun m g m' g' _ hm =>
  ⟨_, Value.run_blocks m g, (θ_run _ _ _).mono (fun r h c => by
    refine ⟨(h c).1.trans (Eq.trans (funext fun y => ?_) (out m c).symm), (h c).2⟩
    rw [(hm c).1, (hm c).2]
    unfold Layer.prod Layer.turn
    pointwise) (Cert.DxUkvRefIdeal.Value.run m' g')⟩

end Cert.DxUkvIdeal
-- ==== Proof.WeightsBack.lean ====
/-

The products of the turned tokens and a gradient: the gradients of the weights.
-/
module

public import proofs.«01_k».proof.Defs
public import proofs.«01_k».proof.Proof.Layer
public import proofs.«01_k».proof.Proof.Sides
public import proofs.«01_k».proof.Proof.Gen.DwIn
public import proofs.«01_k».proof.Proof.Gen.DwInIdeal.Value
public import proofs.«01_k».proof.Proof.Gen.DwInRefIdeal.Run
public import proofs.«01_k».proof.Proof.Gen.DwUq
public import proofs.«01_k».proof.Proof.Gen.DwUqIdeal.Value
public import proofs.«01_k».proof.Proof.Gen.DwUqRefIdeal.Run
public import proofs.«01_k».proof.Proof.Gen.DwUkv
public import proofs.«01_k».proof.Proof.Gen.DwUkvIdeal.Value
public import proofs.«01_k».proof.Proof.Gen.DwUkvRefIdeal.Run
public import proofs.«01_k».proof.Proof.Gen.DwOut
public import proofs.«01_k».proof.Proof.Gen.DwOutIdeal.Value
public import proofs.«01_k».proof.Proof.Gen.DwOutRefIdeal.Run
public import proofs.«01_k».proof.Proof.Gen.DwUp
public import proofs.«01_k».proof.Proof.Gen.DwUpIdeal.Value
public import proofs.«01_k».proof.Proof.Gen.DwUpRefIdeal.Run
public import proofs.«01_k».proof.Proof.Gen.DwDown
public import proofs.«01_k».proof.Proof.Gen.DwDownIdeal.Value
public import proofs.«01_k».proof.Proof.Gen.DwDownRefIdeal.Run

@[expose] public section

set_option Elab.async false

noncomputable section

open Idealize.ShloMosaic Idealize.ShloMosaic.TcCoe
open Idealize.SL.Sem

/-! ## The gradient of `w_in` -/

namespace Cert.DwInIdeal

open Cert.DwInIdeal.Gen

theorem block (x : Vec Ideal S1024x512 .f32) (g : Vec Ideal S1024x640 .f32) (y : S512x640.Idx) :
    k0_pay1 x g y = Layer.prod (Layer.turn x) g y := by
  unfold k0_pay1 Layer.prod Layer.turn
  pointwise

theorem out (m : (ℓ : Loc nD τ sig) → Buf (Elt Ideal) ℓ) (c : Dev nD) : (dats m 0 c).arrAt 2 cfg0.N
    = Layer.prod (Layer.turn (m ((c : Thread nD τ).loc main_arg0))) (m ((c : Thread nD τ).loc main_arg1)) := by
  have e : ∀ (t : Fin cfg0.N) (h : t.val % 4 = 3) (s : Fin 4), win0_0.index (Layer.point t h s) = ![s.val, (grid0.coords t 0).val]
      ∧ win0_1.index (Layer.point t h s) = ![s.val, (grid0.coords t 1).val]
      ∧ win0_2.index t = ![(grid0.coords t 0).val, (grid0.coords t 1).val] := by decide +kernel
  refine (dats m 0 c).arrAt_eq_of_covers 2 _ (by decide +kernel) fun t h y => ?_
  have h := (flush0_2 t).mp h
  blk_simp
  rw [after0_2]
  refine Layer.turn_prod_run (J := 4) (f := fun n h => outsAt0 m c n h) (E := fun t => (win0_0.blk t).view.emb)
    (W := fun t => (win0_1.blk t).view.emb) (a := (grid0.coords t 0).val * 512) (b := (grid0.coords t 1).val * 640)
    (fun t h y => ?_) (fun t h y => ?_) t h rfl (fun s z => ⟨by blk_simp [(e t h s).1], by blk_simp [(e t h s).1]⟩)
    (fun s z => ⟨by blk_simp [(e t h s).2.1], by blk_simp [(e t h s).2.1]⟩) (fun z => ⟨by blk_simp [(e t h 0).2.2], by blk_simp [(e t h 0).2.2]⟩) y
  · show outsAt0 m c t.val t.isLt y = _
    rw [outsAt0_A m c t h (by omega)]; frame_out
    exact block _ _ y
  · show outsAt0 m c t.val t.isLt y = _
    rw [outsAt0_B m c t h (by omega)]; frame_out
    unfold k0_pay2
    pointwise [block]
    rfl

theorem frame : Cert.quiescent_DwInIdeal := fun m g _ => Gen.frame m g

theorem frame_kernel : Cert.quiescent_DwIn := fun m g _ =>
  Sides.over (congrArg (Pipeline.defs _) (congrArg Defs.onTc (funext fun l => by fin_cases l; rfl))) (Gen.frame (F := Bits) m g)

theorem frame_ref : Cert.quiescent_DwInRefIdeal := fun m g _ =>
  Sides.quiet (by decide) (fun _ _ h => h.2) (Cert.DwInRefIdeal.Value.run m g)

theorem algebraic : Cert.algebraic_DwInIdeal_DwInRefIdeal := fun m g m' g' _ hm =>
  ⟨_, Value.run_blocks m g, (θ_run _ _ _).mono (fun r h c => by
    refine ⟨(h c).1.trans (Eq.trans (funext fun y => ?_) (out m c).symm), (h c).2⟩
    rw [(hm c).1, (hm c).2]
    unfold Layer.prod Layer.turn
    pointwise) (Cert.DwInRefIdeal.Value.run m' g')⟩

end Cert.DwInIdeal

/-! ## The gradient of `mla_w_uq` -/

namespace Cert.DwUqIdeal

open Cert.DwUqIdeal.Gen

theorem block (x : Vec Ideal S1024x512 .f32) (g : Vec Ideal S1024x1024 .f32) (y : S512x1024.Idx) :
    k0_pay1 x g y = Layer.prod (Layer.turn x) g y := by
  unfold k0_pay1 Layer.prod Layer.turn
  pointwise

theorem out (m : (ℓ : Loc nD τ sig) → Buf (Elt Ideal) ℓ) (c : Dev nD) : (dats m 0 c).arrAt 2 cfg0.N
    = Layer.prod (Layer.turn (m ((c : Thread nD τ).loc main_arg0))) (m ((c : Thread nD τ).loc main_arg1)) := by
  have e : ∀ (t : Fin cfg0.N) (h : t.val % 4 = 3) (s : Fin 4), win0_0.index (Layer.point t h s) = ![s.val, (grid0.coords t 0).val]
      ∧ win0_1.index (Layer.point t h s) = ![s.val, (grid0.coords t 1).val]
      ∧ win0_2.index t = ![(grid0.coords t 0).val, (grid0.coords t 1).val] := by decide +kernel
  refine (dats m 0 c).arrAt_eq_of_covers 2 _ (by decide +kernel) fun t h y => ?_
  have h := (flush0_2 t).mp h
  blk_simp
  rw [after0_2]
  refine Layer.turn_prod_run (J := 4) (f := fun n h => outsAt0 m c n h) (E := fun t => (win0_0.blk t).view.emb)
    (W := fun t => (win0_1.blk t).view.emb) (a := (grid0.coords t 0).val * 512) (b := (grid0.coords t 1).val * 1024)
    (fun t h y => ?_) (fun t h y => ?_) t h rfl (fun s z => ⟨by blk_simp [(e t h s).1], by blk_simp [(e t h s).1]⟩)
    (fun s z => ⟨by blk_simp [(e t h s).2.1], by blk_simp [(e t h s).2.1]⟩) (fun z => ⟨by blk_simp [(e t h 0).2.2], by blk_simp [(e t h 0).2.2]⟩) y
  · show outsAt0 m c t.val t.isLt y = _
    rw [outsAt0_A m c t h (by omega)]; frame_out
    exact block _ _ y
  · show outsAt0 m c t.val t.isLt y = _
    rw [outsAt0_B m c t h (by omega)]; frame_out
    unfold k0_pay2
    pointwise [block]
    rfl

theorem frame : Cert.quiescent_DwUqIdeal := fun m g _ => Gen.frame m g

theorem frame_kernel : Cert.quiescent_DwUq := fun m g _ =>
  Sides.over (congrArg (Pipeline.defs _) (congrArg Defs.onTc (funext fun l => by fin_cases l; rfl))) (Gen.frame (F := Bits) m g)

theorem frame_ref : Cert.quiescent_DwUqRefIdeal := fun m g _ =>
  Sides.quiet (by decide) (fun _ _ h => h.2) (Cert.DwUqRefIdeal.Value.run m g)

theorem algebraic : Cert.algebraic_DwUqIdeal_DwUqRefIdeal := fun m g m' g' _ hm =>
  ⟨_, Value.run_blocks m g, (θ_run _ _ _).mono (fun r h c => by
    refine ⟨(h c).1.trans (Eq.trans (funext fun y => ?_) (out m c).symm), (h c).2⟩
    rw [(hm c).1, (hm c).2]
    unfold Layer.prod Layer.turn
    pointwise) (Cert.DwUqRefIdeal.Value.run m' g')⟩

end Cert.DwUqIdeal

/-! ## The gradient of `mla_w_ukv` -/

namespace Cert.DwUkvIdeal

open Cert.DwUkvIdeal.Gen

theorem block (x : Vec Ideal S1024x256 .f32) (g : Vec Ideal S1024x1024 .f32) (y : S256x1024.Idx) :
    k0_pay1 x g y = Layer.prod (Layer.turn x) g y := by
  unfold k0_pay1 Layer.prod Layer.turn
  pointwise

theorem out (m : (ℓ : Loc nD τ sig) → Buf (Elt Ideal) ℓ) (c : Dev nD) : (dats m 0 c).arrAt 2 cfg0.N
    = Layer.prod (Layer.turn (m ((c : Thread nD τ).loc main_arg0))) (m ((c : Thread nD τ).loc main_arg1)) := by
  have e : ∀ (t : Fin cfg0.N) (h : t.val % 4 = 3) (s : Fin 4), win0_0.index (Layer.point t h s) = ![s.val, (grid0.coords t 0).val]
      ∧ win0_1.index (Layer.point t h s) = ![s.val, (grid0.coords t 1).val]
      ∧ win0_2.index t = ![(grid0.coords t 0).val, (grid0.coords t 1).val] := by decide +kernel
  refine (dats m 0 c).arrAt_eq_of_covers 2 _ (by decide +kernel) fun t h y => ?_
  have h := (flush0_2 t).mp h
  blk_simp
  rw [after0_2]
  refine Layer.turn_prod_run (J := 4) (f := fun n h => outsAt0 m c n h) (E := fun t => (win0_0.blk t).view.emb)
    (W := fun t => (win0_1.blk t).view.emb) (a := (grid0.coords t 0).val * 256) (b := (grid0.coords t 1).val * 1024)
    (fun t h y => ?_) (fun t h y => ?_) t h rfl (fun s z => ⟨by blk_simp [(e t h s).1], by blk_simp [(e t h s).1]⟩)
    (fun s z => ⟨by blk_simp [(e t h s).2.1], by blk_simp [(e t h s).2.1]⟩) (fun z => ⟨by blk_simp [(e t h 0).2.2], by blk_simp [(e t h 0).2.2]⟩) y
  · show outsAt0 m c t.val t.isLt y = _
    rw [outsAt0_A m c t h (by omega)]; frame_out
    exact block _ _ y
  · show outsAt0 m c t.val t.isLt y = _
    rw [outsAt0_B m c t h (by omega)]; frame_out
    unfold k0_pay2
    pointwise [block]
    rfl

theorem frame : Cert.quiescent_DwUkvIdeal := fun m g _ => Gen.frame m g

theorem frame_kernel : Cert.quiescent_DwUkv := fun m g _ =>
  Sides.over (congrArg (Pipeline.defs _) (congrArg Defs.onTc (funext fun l => by fin_cases l; rfl))) (Gen.frame (F := Bits) m g)

theorem frame_ref : Cert.quiescent_DwUkvRefIdeal := fun m g _ =>
  Sides.quiet (by decide) (fun _ _ h => h.2) (Cert.DwUkvRefIdeal.Value.run m g)

theorem algebraic : Cert.algebraic_DwUkvIdeal_DwUkvRefIdeal := fun m g m' g' _ hm =>
  ⟨_, Value.run_blocks m g, (θ_run _ _ _).mono (fun r h c => by
    refine ⟨(h c).1.trans (Eq.trans (funext fun y => ?_) (out m c).symm), (h c).2⟩
    rw [(hm c).1, (hm c).2]
    unfold Layer.prod Layer.turn
    pointwise) (Cert.DwUkvRefIdeal.Value.run m' g')⟩

end Cert.DwUkvIdeal

/-! ## The gradient of `out_proj` -/

namespace Cert.DwOutIdeal

open Cert.DwOutIdeal.Gen

theorem block (x : Vec Ideal S1024x512 .f32) (g : Vec Ideal S1024x1024 .f32) (y : S512x1024.Idx) :
    k0_pay1 x g y = Layer.prod (Layer.turn x) g y := by
  unfold k0_pay1 Layer.prod Layer.turn
  pointwise

theorem out (m : (ℓ : Loc nD τ sig) → Buf (Elt Ideal) ℓ) (c : Dev nD) : (dats m 0 c).arrAt 2 cfg0.N
    = Layer.prod (Layer.turn (m ((c : Thread nD τ).loc main_arg0))) (m ((c : Thread nD τ).loc main_arg1)) := by
  have e : ∀ (t : Fin cfg0.N) (h : t.val % 4 = 3) (s : Fin 4), win0_0.index (Layer.point t h s) = ![s.val, (grid0.coords t 0).val]
      ∧ win0_1.index (Layer.point t h s) = ![s.val, (grid0.coords t 1).val]
      ∧ win0_2.index t = ![(grid0.coords t 0).val, (grid0.coords t 1).val] := by decide +kernel
  refine (dats m 0 c).arrAt_eq_of_covers 2 _ (by decide +kernel) fun t h y => ?_
  have h := (flush0_2 t).mp h
  blk_simp
  rw [after0_2]
  refine Layer.turn_prod_run (J := 4) (f := fun n h => outsAt0 m c n h) (E := fun t => (win0_0.blk t).view.emb)
    (W := fun t => (win0_1.blk t).view.emb) (a := (grid0.coords t 0).val * 512) (b := (grid0.coords t 1).val * 1024)
    (fun t h y => ?_) (fun t h y => ?_) t h rfl (fun s z => ⟨by blk_simp [(e t h s).1], by blk_simp [(e t h s).1]⟩)
    (fun s z => ⟨by blk_simp [(e t h s).2.1], by blk_simp [(e t h s).2.1]⟩) (fun z => ⟨by blk_simp [(e t h 0).2.2], by blk_simp [(e t h 0).2.2]⟩) y
  · show outsAt0 m c t.val t.isLt y = _
    rw [outsAt0_A m c t h (by omega)]; frame_out
    exact block _ _ y
  · show outsAt0 m c t.val t.isLt y = _
    rw [outsAt0_B m c t h (by omega)]; frame_out
    unfold k0_pay2
    pointwise [block]
    rfl

theorem frame : Cert.quiescent_DwOutIdeal := fun m g _ => Gen.frame m g

theorem frame_kernel : Cert.quiescent_DwOut := fun m g _ =>
  Sides.over (congrArg (Pipeline.defs _) (congrArg Defs.onTc (funext fun l => by fin_cases l; rfl))) (Gen.frame (F := Bits) m g)

theorem frame_ref : Cert.quiescent_DwOutRefIdeal := fun m g _ =>
  Sides.quiet (by decide) (fun _ _ h => h.2) (Cert.DwOutRefIdeal.Value.run m g)

theorem algebraic : Cert.algebraic_DwOutIdeal_DwOutRefIdeal := fun m g m' g' _ hm =>
  ⟨_, Value.run_blocks m g, (θ_run _ _ _).mono (fun r h c => by
    refine ⟨(h c).1.trans (Eq.trans (funext fun y => ?_) (out m c).symm), (h c).2⟩
    rw [(hm c).1, (hm c).2]
    unfold Layer.prod Layer.turn
    pointwise) (Cert.DwOutRefIdeal.Value.run m' g')⟩

end Cert.DwOutIdeal

/-! ## The gradient of `mlp_w_up` -/

namespace Cert.DwUpIdeal

open Cert.DwUpIdeal.Gen

theorem block (x : Vec Ideal S1024x512 .f32) (g : Vec Ideal S1024x1024 .f32) (y : S512x1024.Idx) :
    k0_pay1 x g y = Layer.prod (Layer.turn x) g y := by
  unfold k0_pay1 Layer.prod Layer.turn
  pointwise

theorem out (m : (ℓ : Loc nD τ sig) → Buf (Elt Ideal) ℓ) (c : Dev nD) : (dats m 0 c).arrAt 2 cfg0.N
    = Layer.prod (Layer.turn (m ((c : Thread nD τ).loc main_arg0))) (m ((c : Thread nD τ).loc main_arg1)) := by
  have e : ∀ (t : Fin cfg0.N) (h : t.val % 4 = 3) (s : Fin 4), win0_0.index (Layer.point t h s) = ![s.val, (grid0.coords t 0).val]
      ∧ win0_1.index (Layer.point t h s) = ![s.val, (grid0.coords t 1).val]
      ∧ win0_2.index t = ![(grid0.coords t 0).val, (grid0.coords t 1).val] := by decide +kernel
  refine (dats m 0 c).arrAt_eq_of_covers 2 _ (by decide +kernel) fun t h y => ?_
  have h := (flush0_2 t).mp h
  blk_simp
  rw [after0_2]
  refine Layer.turn_prod_run (J := 4) (f := fun n h => outsAt0 m c n h) (E := fun t => (win0_0.blk t).view.emb)
    (W := fun t => (win0_1.blk t).view.emb) (a := (grid0.coords t 0).val * 512) (b := (grid0.coords t 1).val * 1024)
    (fun t h y => ?_) (fun t h y => ?_) t h rfl (fun s z => ⟨by blk_simp [(e t h s).1], by blk_simp [(e t h s).1]⟩)
    (fun s z => ⟨by blk_simp [(e t h s).2.1], by blk_simp [(e t h s).2.1]⟩) (fun z => ⟨by blk_simp [(e t h 0).2.2], by blk_simp [(e t h 0).2.2]⟩) y
  · show outsAt0 m c t.val t.isLt y = _
    rw [outsAt0_A m c t h (by omega)]; frame_out
    exact block _ _ y
  · show outsAt0 m c t.val t.isLt y = _
    rw [outsAt0_B m c t h (by omega)]; frame_out
    unfold k0_pay2
    pointwise [block]
    rfl

theorem frame : Cert.quiescent_DwUpIdeal := fun m g _ => Gen.frame m g

theorem frame_kernel : Cert.quiescent_DwUp := fun m g _ =>
  Sides.over (congrArg (Pipeline.defs _) (congrArg Defs.onTc (funext fun l => by fin_cases l; rfl))) (Gen.frame (F := Bits) m g)

theorem frame_ref : Cert.quiescent_DwUpRefIdeal := fun m g _ =>
  Sides.quiet (by decide) (fun _ _ h => h.2) (Cert.DwUpRefIdeal.Value.run m g)

theorem algebraic : Cert.algebraic_DwUpIdeal_DwUpRefIdeal := fun m g m' g' _ hm =>
  ⟨_, Value.run_blocks m g, (θ_run _ _ _).mono (fun r h c => by
    refine ⟨(h c).1.trans (Eq.trans (funext fun y => ?_) (out m c).symm), (h c).2⟩
    rw [(hm c).1, (hm c).2]
    unfold Layer.prod Layer.turn
    pointwise) (Cert.DwUpRefIdeal.Value.run m' g')⟩

end Cert.DwUpIdeal

/-! ## The gradient of `mlp_w_down` -/

namespace Cert.DwDownIdeal

open Cert.DwDownIdeal.Gen

theorem block (x : Vec Ideal S1024x512 .f32) (g : Vec Ideal S1024x1024 .f32) (y : S512x1024.Idx) :
    k0_pay1 x g y = Layer.prod (Layer.turn x) g y := by
  unfold k0_pay1 Layer.prod Layer.turn
  pointwise

theorem out (m : (ℓ : Loc nD τ sig) → Buf (Elt Ideal) ℓ) (c : Dev nD) : (dats m 0 c).arrAt 2 cfg0.N
    = Layer.prod (Layer.turn (m ((c : Thread nD τ).loc main_arg0))) (m ((c : Thread nD τ).loc main_arg1)) := by
  have e : ∀ (t : Fin cfg0.N) (h : t.val % 4 = 3) (s : Fin 4), win0_0.index (Layer.point t h s) = ![s.val, (grid0.coords t 0).val]
      ∧ win0_1.index (Layer.point t h s) = ![s.val, (grid0.coords t 1).val]
      ∧ win0_2.index t = ![(grid0.coords t 0).val, (grid0.coords t 1).val] := by decide +kernel
  refine (dats m 0 c).arrAt_eq_of_covers 2 _ (by decide +kernel) fun t h y => ?_
  have h := (flush0_2 t).mp h
  blk_simp
  rw [after0_2]
  refine Layer.turn_prod_run (J := 4) (f := fun n h => outsAt0 m c n h) (E := fun t => (win0_0.blk t).view.emb)
    (W := fun t => (win0_1.blk t).view.emb) (a := (grid0.coords t 0).val * 512) (b := (grid0.coords t 1).val * 1024)
    (fun t h y => ?_) (fun t h y => ?_) t h rfl (fun s z => ⟨by blk_simp [(e t h s).1], by blk_simp [(e t h s).1]⟩)
    (fun s z => ⟨by blk_simp [(e t h s).2.1], by blk_simp [(e t h s).2.1]⟩) (fun z => ⟨by blk_simp [(e t h 0).2.2], by blk_simp [(e t h 0).2.2]⟩) y
  · show outsAt0 m c t.val t.isLt y = _
    rw [outsAt0_A m c t h (by omega)]; frame_out
    exact block _ _ y
  · show outsAt0 m c t.val t.isLt y = _
    rw [outsAt0_B m c t h (by omega)]; frame_out
    unfold k0_pay2
    pointwise [block]
    rfl

theorem frame : Cert.quiescent_DwDownIdeal := fun m g _ => Gen.frame m g

theorem frame_kernel : Cert.quiescent_DwDown := fun m g _ =>
  Sides.over (congrArg (Pipeline.defs _) (congrArg Defs.onTc (funext fun l => by fin_cases l; rfl))) (Gen.frame (F := Bits) m g)

theorem frame_ref : Cert.quiescent_DwDownRefIdeal := fun m g _ =>
  Sides.quiet (by decide) (fun _ _ h => h.2) (Cert.DwDownRefIdeal.Value.run m g)

theorem algebraic : Cert.algebraic_DwDownIdeal_DwDownRefIdeal := fun m g m' g' _ hm =>
  ⟨_, Value.run_blocks m g, (θ_run _ _ _).mono (fun r h c => by
    refine ⟨(h c).1.trans (Eq.trans (funext fun y => ?_) (out m c).symm), (h c).2⟩
    rw [(hm c).1, (hm c).2]
    unfold Layer.prod Layer.turn
    pointwise) (Cert.DwDownRefIdeal.Value.run m' g')⟩

end Cert.DwDownIdeal
-- ==== Proof.lean ====
/-

The proof of the claims of the three exchanges, the eleven AdamW calls, and twenty-nine calls of the layers and the loss.
-/
module

public import proofs.«01_k».proof.Defs
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.Small.Frame
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallRefIdeal
public import proofs.«01_k».proof.Proof.Gen.SmallRefIdeal.Run
public import proofs.«01_k».proof.Proof.Gen.Scatter
public import proofs.«01_k».proof.Proof.Gen.Scatter.Skeleton
public import proofs.«01_k».proof.Proof.Gen.Scatter.Launch
public import proofs.«01_k».proof.Proof.Gen.Scatter.Points
public import proofs.«01_k».proof.Proof.Gen.Scatter.Frame
public import proofs.«01_k».proof.Proof.Gen.ScatterIdeal
public import proofs.«01_k».proof.Proof.Gen.ScatterIdeal.Skeleton
public import proofs.«01_k».proof.Proof.Gen.ScatterIdeal.Launch
public import proofs.«01_k».proof.Proof.Gen.ScatterIdeal.Points
public import proofs.«01_k».proof.Proof.Gen.ScatterIdeal.Frame
public import proofs.«01_k».proof.Proof.Gen.ScatterRefIdeal
public import proofs.«01_k».proof.Proof.Gen.ScatterRefIdeal.Run
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatherRefIdeal
public import proofs.«01_k».proof.Proof.Gen.GatherRefIdeal.Run
public import Idealize.ShloMosaic.Adequacy
public import Idealize.ShloMosaic.Init
public import proofs.«01_k».proof.Proof.SmallClaims
public import proofs.«01_k».proof.Proof.ScatterClaims
public import proofs.«01_k».proof.Proof.GatherClaims
public import proofs.«01_k».proof.Proof.AdamProj
public import proofs.«01_k».proof.Proof.AdamOuts
public import proofs.«01_k».proof.Proof.AdamMlp
public import proofs.«01_k».proof.Proof.AdamPacked
public import proofs.«01_k».proof.Proof.Rows
public import proofs.«01_k».proof.Proof.Loss
public import proofs.«01_k».proof.Proof.Products
public import proofs.«01_k».proof.Proof.Groups
public import proofs.«01_k».proof.Proof.RowsBack
public import proofs.«01_k».proof.Proof.LossBack
public import proofs.«01_k».proof.Proof.MergeBack
public import proofs.«01_k».proof.Proof.TokensBack
public import proofs.«01_k».proof.Proof.WeightsBack

@[expose] public section

noncomputable section

namespace Cert.Proof

open Idealize.ShloMosaic Idealize.SL.Sem

theorem claim : Cert.Claim :=
  ⟨Cert.Small.Gen.facts, Cert.SmallIdeal.Gen.facts, Cert.SmallRefIdeal.Gen.facts,
    Cert.Scatter.Gen.facts, Cert.ScatterIdeal.Gen.facts, Cert.ScatterRefIdeal.Gen.facts,
    Cert.Gather.Gen.facts, Cert.GatherIdeal.Gen.facts, Cert.GatherRefIdeal.Gen.facts,
    Cert.SmallRef.Gen.facts, Cert.ScatterRef.Gen.facts, Cert.GatherRef.Gen.facts,
    Cert.AdamIn.Gen.facts, Cert.AdamInIdeal.Gen.facts, Cert.AdamInRefIdeal.Gen.facts,
    Cert.AdamUq.Gen.facts, Cert.AdamUqIdeal.Gen.facts, Cert.AdamUqRefIdeal.Gen.facts,
    Cert.AdamUkv.Gen.facts, Cert.AdamUkvIdeal.Gen.facts, Cert.AdamUkvRefIdeal.Gen.facts,
    Cert.AdamSsdOut.Gen.facts, Cert.AdamSsdOutIdeal.Gen.facts, Cert.AdamSsdOutRefIdeal.Gen.facts,
    Cert.AdamMlaOut.Gen.facts, Cert.AdamMlaOutIdeal.Gen.facts, Cert.AdamMlaOutRefIdeal.Gen.facts,
    Cert.AdamGdnOut.Gen.facts, Cert.AdamGdnOutIdeal.Gen.facts, Cert.AdamGdnOutRefIdeal.Gen.facts,
    Cert.AdamOut.Gen.facts, Cert.AdamOutIdeal.Gen.facts, Cert.AdamOutRefIdeal.Gen.facts,
    Cert.AdamDown.Gen.facts, Cert.AdamDownIdeal.Gen.facts, Cert.AdamDownRefIdeal.Gen.facts,
    Cert.AdamUp.Gen.facts, Cert.AdamUpIdeal.Gen.facts, Cert.AdamUpRefIdeal.Gen.facts,
    Cert.AdamConv.Gen.facts, Cert.AdamConvIdeal.Gen.facts, Cert.AdamConvRefIdeal.Gen.facts,
    Cert.AdamSmall.Gen.facts, Cert.AdamSmallIdeal.Gen.facts, Cert.AdamSmallRefIdeal.Gen.facts,
    Cert.Loss.Gen.facts, Cert.LossIdeal.Gen.facts, Cert.LossRefIdeal.Gen.facts,
    Cert.Rms.Gen.facts, Cert.RmsIdeal.Gen.facts, Cert.RmsRefIdeal.Gen.facts,
    Cert.Relu.Gen.facts, Cert.ReluIdeal.Gen.facts, Cert.ReluRefIdeal.Gen.facts,
    Cert.Merge.Gen.facts, Cert.MergeIdeal.Gen.facts, Cert.MergeRefIdeal.Gen.facts,
    Cert.MmIn.Gen.facts, Cert.MmInIdeal.Gen.facts, Cert.MmInRefIdeal.Gen.facts,
    Cert.MmUq.Gen.facts, Cert.MmUqIdeal.Gen.facts, Cert.MmUqRefIdeal.Gen.facts,
    Cert.MmUkv.Gen.facts, Cert.MmUkvIdeal.Gen.facts, Cert.MmUkvRefIdeal.Gen.facts,
    Cert.MmOut.Gen.facts, Cert.MmOutIdeal.Gen.facts, Cert.MmOutRefIdeal.Gen.facts,
    Cert.MmUp.Gen.facts, Cert.MmUpIdeal.Gen.facts, Cert.MmUpRefIdeal.Gen.facts,
    Cert.MmDown.Gen.facts, Cert.MmDownIdeal.Gen.facts, Cert.MmDownRefIdeal.Gen.facts,
    Cert.SsdPost.Gen.facts, Cert.SsdPostIdeal.Gen.facts, Cert.SsdPostRefIdeal.Gen.facts,
    Cert.GdnPost.Gen.facts, Cert.GdnPostIdeal.Gen.facts, Cert.GdnPostRefIdeal.Gen.facts,
    Cert.MlaNorm.Gen.facts, Cert.MlaNormIdeal.Gen.facts, Cert.MlaNormRefIdeal.Gen.facts,
    Cert.LossBack.Gen.facts, Cert.LossBackIdeal.Gen.facts, Cert.LossBackRefIdeal.Gen.facts,
    Cert.RmsBack.Gen.facts, Cert.RmsBackIdeal.Gen.facts, Cert.RmsBackRefIdeal.Gen.facts,
    Cert.ReluBack.Gen.facts, Cert.ReluBackIdeal.Gen.facts, Cert.ReluBackRefIdeal.Gen.facts,
    Cert.MergeBack.Gen.facts, Cert.MergeBackIdeal.Gen.facts, Cert.MergeBackRefIdeal.Gen.facts,
    Cert.DxIn.Gen.facts, Cert.DxInIdeal.Gen.facts, Cert.DxInRefIdeal.Gen.facts,
    Cert.DxUq.Gen.facts, Cert.DxUqIdeal.Gen.facts, Cert.DxUqRefIdeal.Gen.facts,
    Cert.DxUkv.Gen.facts, Cert.DxUkvIdeal.Gen.facts, Cert.DxUkvRefIdeal.Gen.facts,
    Cert.DxOut.Gen.facts, Cert.DxOutIdeal.Gen.facts, Cert.DxOutRefIdeal.Gen.facts,
    Cert.DxUp.Gen.facts, Cert.DxUpIdeal.Gen.facts, Cert.DxUpRefIdeal.Gen.facts,
    Cert.DxDown.Gen.facts, Cert.DxDownIdeal.Gen.facts, Cert.DxDownRefIdeal.Gen.facts,
    Cert.DwIn.Gen.facts, Cert.DwInIdeal.Gen.facts, Cert.DwInRefIdeal.Gen.facts,
    Cert.DwUq.Gen.facts, Cert.DwUqIdeal.Gen.facts, Cert.DwUqRefIdeal.Gen.facts,
    Cert.DwUkv.Gen.facts, Cert.DwUkvIdeal.Gen.facts, Cert.DwUkvRefIdeal.Gen.facts,
    Cert.DwOut.Gen.facts, Cert.DwOutIdeal.Gen.facts, Cert.DwOutRefIdeal.Gen.facts,
    Cert.DwUp.Gen.facts, Cert.DwUpIdeal.Gen.facts, Cert.DwUpRefIdeal.Gen.facts,
    Cert.DwDown.Gen.facts, Cert.DwDownIdeal.Gen.facts, Cert.DwDownRefIdeal.Gen.facts,
    Cert.SmallIdeal.frame_kernel, Cert.SmallIdeal.frame, Cert.SmallIdeal.frame_ref,
    Cert.ScatterIdeal.frame_kernel, Cert.ScatterIdeal.frame, Cert.ScatterIdeal.frame_ref,
    Cert.GatherIdeal.frame_kernel, Cert.GatherIdeal.frame, Cert.GatherIdeal.frame_ref,
    Cert.SmallIdeal.frame_ref_bits, Cert.ScatterIdeal.frame_ref_bits, Cert.GatherIdeal.frame_ref_bits,
    Cert.AdamInIdeal.frame_kernel, Cert.AdamInIdeal.frame, Cert.AdamInIdeal.frame_ref,
    Cert.AdamUqIdeal.frame_kernel, Cert.AdamUqIdeal.frame, Cert.AdamUqIdeal.frame_ref,
    Cert.AdamUkvIdeal.frame_kernel, Cert.AdamUkvIdeal.frame, Cert.AdamUkvIdeal.frame_ref,
    Cert.AdamSsdOutIdeal.frame_kernel, Cert.AdamSsdOutIdeal.frame, Cert.AdamSsdOutIdeal.frame_ref,
    Cert.AdamMlaOutIdeal.frame_kernel, Cert.AdamMlaOutIdeal.frame, Cert.AdamMlaOutIdeal.frame_ref,
    Cert.AdamGdnOutIdeal.frame_kernel, Cert.AdamGdnOutIdeal.frame, Cert.AdamGdnOutIdeal.frame_ref,
    Cert.AdamOutIdeal.frame_kernel, Cert.AdamOutIdeal.frame, Cert.AdamOutIdeal.frame_ref,
    Cert.AdamDownIdeal.frame_kernel, Cert.AdamDownIdeal.frame, Cert.AdamDownIdeal.frame_ref,
    Cert.AdamUpIdeal.frame_kernel, Cert.AdamUpIdeal.frame, Cert.AdamUpIdeal.frame_ref,
    Cert.AdamConvIdeal.frame_kernel, Cert.AdamConvIdeal.frame, Cert.AdamConvIdeal.frame_ref,
    Cert.AdamSmallIdeal.frame_kernel, Cert.AdamSmallIdeal.frame, Cert.AdamSmallIdeal.frame_ref,
    Cert.LossIdeal.frame_kernel, Cert.LossIdeal.frame, Cert.LossIdeal.frame_ref,
    Cert.RmsIdeal.frame_kernel, Cert.RmsIdeal.frame, Cert.RmsIdeal.frame_ref,
    Cert.ReluIdeal.frame_kernel, Cert.ReluIdeal.frame, Cert.ReluIdeal.frame_ref,
    Cert.MergeIdeal.frame_kernel, Cert.MergeIdeal.frame, Cert.MergeIdeal.frame_ref,
    Cert.MmInIdeal.frame_kernel, Cert.MmInIdeal.frame, Cert.MmInIdeal.frame_ref,
    Cert.MmUqIdeal.frame_kernel, Cert.MmUqIdeal.frame, Cert.MmUqIdeal.frame_ref,
    Cert.MmUkvIdeal.frame_kernel, Cert.MmUkvIdeal.frame, Cert.MmUkvIdeal.frame_ref,
    Cert.MmOutIdeal.frame_kernel, Cert.MmOutIdeal.frame, Cert.MmOutIdeal.frame_ref,
    Cert.MmUpIdeal.frame_kernel, Cert.MmUpIdeal.frame, Cert.MmUpIdeal.frame_ref,
    Cert.MmDownIdeal.frame_kernel, Cert.MmDownIdeal.frame, Cert.MmDownIdeal.frame_ref,
    Cert.SsdPostIdeal.frame_kernel, Cert.SsdPostIdeal.frame, Cert.SsdPostIdeal.frame_ref,
    Cert.GdnPostIdeal.frame_kernel, Cert.GdnPostIdeal.frame, Cert.GdnPostIdeal.frame_ref,
    Cert.MlaNormIdeal.frame_kernel, Cert.MlaNormIdeal.frame, Cert.MlaNormIdeal.frame_ref,
    Cert.LossBackIdeal.frame_kernel, Cert.LossBackIdeal.frame, Cert.LossBackIdeal.frame_ref,
    Cert.RmsBackIdeal.frame_kernel, Cert.RmsBackIdeal.frame, Cert.RmsBackIdeal.frame_ref,
    Cert.ReluBackIdeal.frame_kernel, Cert.ReluBackIdeal.frame, Cert.ReluBackIdeal.frame_ref,
    Cert.MergeBackIdeal.frame_kernel, Cert.MergeBackIdeal.frame, Cert.MergeBackIdeal.frame_ref,
    Cert.DxInIdeal.frame_kernel, Cert.DxInIdeal.frame, Cert.DxInIdeal.frame_ref,
    Cert.DxUqIdeal.frame_kernel, Cert.DxUqIdeal.frame, Cert.DxUqIdeal.frame_ref,
    Cert.DxUkvIdeal.frame_kernel, Cert.DxUkvIdeal.frame, Cert.DxUkvIdeal.frame_ref,
    Cert.DxOutIdeal.frame_kernel, Cert.DxOutIdeal.frame, Cert.DxOutIdeal.frame_ref,
    Cert.DxUpIdeal.frame_kernel, Cert.DxUpIdeal.frame, Cert.DxUpIdeal.frame_ref,
    Cert.DxDownIdeal.frame_kernel, Cert.DxDownIdeal.frame, Cert.DxDownIdeal.frame_ref,
    Cert.DwInIdeal.frame_kernel, Cert.DwInIdeal.frame, Cert.DwInIdeal.frame_ref,
    Cert.DwUqIdeal.frame_kernel, Cert.DwUqIdeal.frame, Cert.DwUqIdeal.frame_ref,
    Cert.DwUkvIdeal.frame_kernel, Cert.DwUkvIdeal.frame, Cert.DwUkvIdeal.frame_ref,
    Cert.DwOutIdeal.frame_kernel, Cert.DwOutIdeal.frame, Cert.DwOutIdeal.frame_ref,
    Cert.DwUpIdeal.frame_kernel, Cert.DwUpIdeal.frame, Cert.DwUpIdeal.frame_ref,
    Cert.DwDownIdeal.frame_kernel, Cert.DwDownIdeal.frame, Cert.DwDownIdeal.frame_ref,
    trivial, Cert.SmallIdeal.algebraic, trivial, Cert.ScatterIdeal.algebraic, trivial, Cert.GatherIdeal.algebraic,
    Cert.SmallIdeal.bitexact, Cert.ScatterIdeal.bitexact, Cert.GatherIdeal.bitexact,
    trivial, Cert.AdamInIdeal.algebraic, trivial, Cert.AdamUqIdeal.algebraic, trivial, Cert.AdamUkvIdeal.algebraic,
    trivial, Cert.AdamSsdOutIdeal.algebraic, trivial, Cert.AdamMlaOutIdeal.algebraic, trivial, Cert.AdamGdnOutIdeal.algebraic,
    trivial, Cert.AdamOutIdeal.algebraic, trivial, Cert.AdamDownIdeal.algebraic, trivial, Cert.AdamUpIdeal.algebraic,
    trivial, Cert.AdamConvIdeal.algebraic, trivial, Cert.AdamSmallIdeal.algebraic,
    trivial, Cert.LossIdeal.algebraic, trivial, Cert.RmsIdeal.algebraic, trivial, Cert.ReluIdeal.algebraic,
    trivial, Cert.MergeIdeal.algebraic, trivial, Cert.MmInIdeal.algebraic, trivial, Cert.MmUqIdeal.algebraic,
    trivial, Cert.MmUkvIdeal.algebraic, trivial, Cert.MmOutIdeal.algebraic, trivial, Cert.MmUpIdeal.algebraic,
    trivial, Cert.MmDownIdeal.algebraic,
    trivial, Cert.SsdPostIdeal.algebraic, trivial, Cert.GdnPostIdeal.algebraic, trivial, Cert.MlaNormIdeal.algebraic,
    trivial, Cert.LossBackIdeal.algebraic, trivial, Cert.RmsBackIdeal.algebraic, trivial, Cert.ReluBackIdeal.algebraic,
    trivial, Cert.MergeBackIdeal.algebraic, trivial, Cert.DxInIdeal.algebraic, trivial, Cert.DxUqIdeal.algebraic,
    trivial, Cert.DxUkvIdeal.algebraic, trivial, Cert.DxOutIdeal.algebraic, trivial, Cert.DxUpIdeal.algebraic,
    trivial, Cert.DxDownIdeal.algebraic, trivial, Cert.DwInIdeal.algebraic, trivial, Cert.DwUqIdeal.algebraic,
    trivial, Cert.DwUkvIdeal.algebraic, trivial, Cert.DwOutIdeal.algebraic, trivial, Cert.DwUpIdeal.algebraic,
    trivial, Cert.DwDownIdeal.algebraic⟩

end Cert.Proof

end
